-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "mask" .f32 0xF149F2CA#32 ⊥

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v50_0)) (v1 : (c : Dev Cert.Kernel2Ideal.nD) → Buf (Elt Ideal) ((c.tc : Thread Cert.Kernel2Ideal.nD Cert.Kernel2Ideal.τ).loc Cert.Kernel2Ideal.main_v50_1)) (v2 : (c : Dev Cert.Kernel2Ideal.nD) → Buf (Elt Ideal) ((c.tc : Thread Cert.Kernel2Ideal.nD Cert.Kernel2Ideal.τ).loc Cert.Kernel2Ideal.main_v50_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v50_0) = v0 c
          ∧ r.2.mem ((c.tc : Thread Cert.Kernel2Ideal.nD Cert.Kernel2Ideal.τ).loc Cert.Kernel2Ideal.main_v50_1) = v1 c
          ∧ r.2.mem ((c.tc : Thread Cert.Kernel2Ideal.nD Cert.Kernel2Ideal.τ).loc Cert.Kernel2Ideal.main_v50_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v88) = v0 c
          ∧ r.2.mem ((c.tc : Thread Cert.Reference2Ideal.nD Cert.Reference2Ideal.τ).loc Cert.Reference2Ideal.main_v87) = v1 c
          ∧ r.2.mem ((c.tc : Thread Cert.Reference2Ideal.nD Cert.Reference2Ideal.τ).loc Cert.Reference2Ideal.main_v93) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v12) = v0 c
          ∧ r.2.mem ((c.tc : Thread Cert.Reference13Ideal.nD Cert.Reference13Ideal.τ).loc Cert.Reference13Ideal.main_v10) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_v5) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v61) = v0 c
          ∧ r.2.mem ((c.tc : Thread Cert.Reference15Ideal.nD Cert.Reference15Ideal.τ).loc Cert.Reference15Ideal.main_v35) = v1 c
          ∧ r.2.mem ((c.tc : Thread Cert.Reference15Ideal.nD Cert.Reference15Ideal.τ).loc Cert.Reference15Ideal.main_v32) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v24) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v62) = v0 c
          ∧ r.2.mem ((c.tc : Thread Cert.Reference19Ideal.nD Cert.Reference19Ideal.τ).loc Cert.Reference19Ideal.main_v63) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts) (hPre_finite14 : Cert.Pre_finite14.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite14 (hKernel14Ideal := hKernel14Ideal) (hReference14Ideal := hReference14Ideal) (hPre_finite14 := hPre_finite14)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_finite.lean ====
abbrev S8192x1024 : Shape := ⟨2, ![8192, 1024]⟩
abbrev S8192x4224 : Shape := ⟨2, ![8192, 4224]⟩
abbrev S8192x16 : Shape := ⟨2, ![8192, 16]⟩
abbrev S_ : Shape := ⟨0, ![]⟩

class Facts : Prop where
  slices_S8192x4224_S8192x1024_0_2048 : S8192x4224.Slices ![0, 2048] S8192x1024
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_

variable [Facts]

def fn_part1 {F : FTy → Type} [FloatOps F] (main_arg4 : FVec F S8192x1024 .f32) (main_v14 : IVec S_ 1) (main_v15 : FVec F S8192x16 .f32) (main_v16 : FVec F S8192x16 .f32) : IVec S_ 1 :=
  let main_v17 : IVec S8192x16 1 := cmpf .olt main_v15 main_v16
  let main_c_5 : IVec S_ 1 := constantI S_ 1 1#1
  let main_v18 : IVec S_ 1 := (fun x v => Host.reduce IntOp.andi x v reducesTo_S8192x16_S_d0_1 h_S_) main_v17 main_c_5
  let main_v19 : IVec S_ 1 := andi main_v14 main_v18
  let main_v20 : FVec F S8192x1024 .f32 := Host.absf main_arg4
  let main_cst_6 : FVec F S_ .f32 := constant S_ .f32 0x7F800000#32
  let main_v21 : FVec F S8192x1024 .f32 := broadcastInDim S8192x1024 ![] bcast_S_S8192x1024 main_cst_6
  let main_v22 : IVec S8192x1024 1 := cmpf .olt main_v20 main_v21
  let main_c_7 : IVec S_ 1 := constantI S_ 1 1#1
  let main_v23 : IVec S_ 1 := (fun x v => Host.reduce IntOp.andi x v reducesTo_S8192x1024_S_d0_1 h_S_) main_v22 main_c_7
  let main_v24 : IVec S_ 1 := andi main_v19 main_v23
  main_v24

def fn {F : FTy → Type} [FloatOps F] (main_arg0 : FVec F S8192x1024 .f32) (main_arg1 : FVec F S8192x1024 .f32) (main_arg2 : FVec F S8192x4224 .f32) (main_arg3 : FVec F S8192x16 .f32) (main_arg4 : FVec F S8192x1024 .f32) : IVec S_ 1 :=
  let main_v0 : FVec F S8192x1024 .f32 := (extractStridedSlice S8192x1024 ![0, 2048] · slices_S8192x4224_S8192x1024_0_2048) main_arg2
  let main_v1 : FVec F S8192x1024 .f32 := Host.absf main_arg0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8192x1024 .f32 := Host.absf main_arg1
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_c_1 : IVec S_ 1 := constantI S_ 1 1#1
  let main_v8 : IVec S_ 1 := (fun x v => Host.reduce IntOp.andi x v reducesTo_S8192x1024_S_d0_1 h_S_) main_v7 main_c_1
  let main_v9 : IVec S_ 1 := andi main_v4 main_v8
  let main_v10 : FVec F S8192x1024 .f32 := Host.absf main_v0
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_c_3 : IVec S_ 1 := constantI S_ 1 1#1
  let main_v13 : IVec S_ 1 := (fun x v => Host.reduce IntOp.andi x v reducesTo_S8192x1024_S_d0_1 h_S_) main_v12 main_c_3
  let main_v14 : IVec S_ 1 := andi main_v9 main_v13
  let main_v15 : FVec F S8192x16 .f32 := Host.absf main_arg3
  let main_cst_4 : FVec F S_ .f32 := constant S_ .f32 0x7F800000#32
  let main_v16 : FVec F S8192x16 .f32 := broadcastInDim S8192x16 ![] bcast_S_S8192x16 main_cst_4
  fn_part1 (F := F) main_arg4 main_v14 main_v15 main_v16
-- ==== Pre_finite14.lean ====
abbrev S8192x1024 : Shape := ⟨2, ![8192, 1024]⟩
abbrev S8192x4224 : Shape := ⟨2, ![8192, 4224]⟩
abbrev S_ : Shape := ⟨0, ![]⟩

class Facts : Prop where
  slices_S8192x4224_S8192x1024_0_3072 : S8192x4224.Slices ![0, 3072] S8192x1024
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x4224 .f32) (main_arg2 : FVec F S8192x1024 .f32) : IVec S_ 1 :=
  let main_v0 : FVec F S8192x1024 .f32 := (extractStridedSlice S8192x1024 ![0, 3072] · slices_S8192x4224_S8192x1024_0_3072) main_arg1
  let main_v1 : FVec F S8192x1024 .f32 := Host.absf main_arg0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8192x1024 .f32 := Host.absf main_v0
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_c_1 : IVec S_ 1 := constantI S_ 1 1#1
  let main_v8 : IVec S_ 1 := (fun x v => Host.reduce IntOp.andi x v reducesTo_S8192x1024_S_d0_1 h_S_) main_v7 main_c_1
  let main_v9 : IVec S_ 1 := andi main_v4 main_v8
  let main_v10 : FVec F S8192x1024 .f32 := Host.absf main_arg2
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_c_3 : IVec S_ 1 := constantI S_ 1 1#1
  let main_v13 : IVec S_ 1 := (fun x v => Host.reduce IntOp.andi x v reducesTo_S8192x1024_S_d0_1 h_S_) main_v12 main_c_3
  let main_v14 : IVec S_ 1 := andi main_v9 main_v13
  main_v14
-- ==== Kernel.lean ====
abbrev S8192x1024 : Shape := ⟨2, ![8192, 1024]⟩
abbrev S8192x4224 : Shape := ⟨2, ![8192, 4224]⟩
abbrev S8192x16 : Shape := ⟨2, ![8192, 16]⟩
abbrev S136 : Shape := ⟨1, ![136]⟩
abbrev S8192x16x64 : Shape := ⟨3, ![8192, 16, 64]⟩
abbrev S_ : Shape := ⟨0, ![]⟩
abbrev S16x8192 : Shape := ⟨2, ![16, 8192]⟩
abbrev S16x8192x8192 : Shape := ⟨3, ![16, 8192, 8192]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x64x8192 : Shape := ⟨3, ![16, 64, 8192]⟩
abbrev S512x128 : Shape := ⟨2, ![512, 128]⟩
abbrev S1 : Shape := ⟨1, ![1]⟩
abbrev S2x512x1 : Shape := ⟨3, ![2, 512, 1]⟩
abbrev S2x1x512 : Shape := ⟨3, ![2, 1, 512]⟩
abbrev S1x512x128 : Shape := ⟨3, ![1, 512, 128]⟩
abbrev S2x512x128 : Shape := ⟨3, ![2, 512, 128]⟩
abbrev S1x128 : Shape := ⟨2, ![1, 128]⟩
abbrev S2x512x512 : Shape := ⟨3, ![2, 512, 512]⟩
abbrev S2x512 : Shape := ⟨2, ![2, 512]⟩

abbrev nBuf : Space → Nat
  | .hbm => 61
  | .vmem => 20
  | .smem => 2
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x4224, .f32⟩
  | .hbm, ⟨3, _⟩ => ⟨S8192x16, .f32⟩
  | .hbm, ⟨4, _⟩ => ⟨S8192x1024, .f32⟩
  | .hbm, ⟨5, _⟩ => ⟨S8192x16x64, .f32⟩
  | .hbm, ⟨6, _⟩ => ⟨S_, .f32⟩
  | .hbm, ⟨7, _⟩ => ⟨S8192x16x64, .f32⟩
  | .hbm, ⟨8, _⟩ => ⟨S8192x16x64, .f32⟩
  | .hbm, ⟨9, _⟩ => ⟨S8192x16x64, .f32⟩
  | .hbm, ⟨10, _⟩ => ⟨S8192x1024, .f32⟩
  | .hbm, ⟨11, _⟩ => ⟨S8192x16x64, .f32⟩
  | .hbm, ⟨12, _⟩ => ⟨S16x8192, .f32⟩
  | .hbm, ⟨13, _⟩ => ⟨S16x8192x8192, .f32⟩
  | .hbm, ⟨14, _⟩ => ⟨S16x8192x1, .f32⟩
  | .hbm, ⟨15, _⟩ => ⟨S16x8192x8192, .f32⟩
  | .hbm, ⟨16, _⟩ => ⟨S16x8192x8192, .f32⟩
  | .hbm, ⟨17, _⟩ => ⟨S16x1x8192, .f32⟩
  | .hbm, ⟨18, _⟩ => ⟨S16x8192x8192, .f32⟩
  | .hbm, ⟨19, _⟩ => ⟨S16x8192x8192, .f32⟩
  | .hbm, ⟨20, _⟩ => ⟨S8192, .i32⟩
  | .hbm, ⟨21, _⟩ => ⟨S1x8192, .i32⟩
  | .hbm, ⟨22, _⟩ => ⟨S8192x1, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S16x8192x8192, .i1⟩
  | .hbm, ⟨27, _⟩ => ⟨S_, .f32⟩
  | .hbm, ⟨28, _⟩ => ⟨S16x8192x8192, .f32⟩
  | .hbm, ⟨29, _⟩ => ⟨S16x8192x8192, .f32⟩
  | .hbm, ⟨30, _⟩ => ⟨S_, .f32⟩
  | .hbm, ⟨31, _⟩ => ⟨S16x8192, .f32⟩
  | .hbm, ⟨32, _⟩ => ⟨S16x8192x1, .f32⟩
  | .hbm, ⟨33, _⟩ => ⟨S16x8192x8192, .f32⟩
  | .hbm, ⟨34, _⟩ => ⟨S16x8192x8192, .f32⟩
  | .hbm, ⟨35, _⟩ => ⟨S16x8192x8192, .f32⟩
  | .hbm, ⟨36, _⟩ => ⟨S_, .f32⟩
  | .hbm, ⟨37, _⟩ => ⟨S16x8192, .f32⟩
  | .hbm, ⟨38, _⟩ => ⟨S16x8192x1, .f32⟩
  | .hbm, ⟨39, _⟩ => ⟨S16x8192x8192, .f32⟩
  | .hbm, ⟨40, _⟩ => ⟨S16x8192x8192, .f32⟩
  | .hbm, ⟨41, _⟩ => ⟨S16x64x8192, .f32⟩
  | .hbm, ⟨42, _⟩ => ⟨S8192x16x64, .f32⟩
  | .hbm, ⟨43, _⟩ => ⟨S16x8192x1, .f32⟩
  | .hbm, ⟨44, _⟩ => ⟨S16x8192x1, .f32⟩
  | .hbm, ⟨45, _⟩ => ⟨S8192x16x64, .f32⟩
  | .hbm, ⟨46, _⟩ => ⟨S8192x16x64, .f32⟩
  | .hbm, ⟨47, _⟩ => ⟨S_, .f32⟩
  | .hbm, ⟨48, _⟩ => ⟨S8192x16, .f32⟩
  | .hbm, ⟨49, _⟩ => ⟨S16x8192, .f32⟩
  | .hbm, ⟨50, _⟩ => ⟨S16x8192x1, .f32⟩
  | .hbm, ⟨51, _⟩ => ⟨S8192x1024, .f32⟩
  | .hbm, ⟨52, _⟩ => ⟨S8192x1024, .bf16⟩
  | .hbm, ⟨53, _⟩ => ⟨S8192x1024, .bf16⟩
  | .hbm, ⟨54, _⟩ => ⟨S16x8192x1, .f32⟩
  | .hbm, ⟨55, _⟩ => ⟨S16x1x8192, .f32⟩
  | .hbm, ⟨56, _⟩ => ⟨S8192x1024, .f32⟩
  | .hbm, ⟨57, _⟩ => ⟨S16x8192x1, .f32⟩
  | .hbm, ⟨58, _⟩ => ⟨S_, .f32⟩
  | .hbm, ⟨59, _⟩ => ⟨S8192x1024, .f32⟩
  | .hbm, ⟨60, _⟩ => ⟨S8192x1024, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .f32⟩
  | .local _ .vmem, ⟨5, _⟩ => ⟨S512x128, .f32⟩
  | .local _ .vmem, ⟨6, _⟩ => ⟨S2x512x1, .f32⟩
  | .local _ .vmem, ⟨7, _⟩ => ⟨S2x512x1, .f32⟩
  | .local _ .vmem, ⟨8, _⟩ => ⟨S2x1x512, .f32⟩
  | .local _ .vmem, ⟨9, _⟩ => ⟨S2x1x512, .f32⟩
  | .local _ .vmem, ⟨10, _⟩ => ⟨S2x512x1, .f32⟩
  | .local _ .vmem, ⟨11, _⟩ => ⟨S2x512x1, .f32⟩
  | .local _ .vmem, ⟨12, _⟩ => ⟨S2x512x1, .f32⟩
  | .local _ .vmem, ⟨13, _⟩ => ⟨S2x512x1, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S2x512x1, .f32⟩
  | .local _ .vmem, ⟨19, _⟩ => ⟨S2x512x1, .f32⟩
  | .local _ .smem, ⟨0, _⟩ => ⟨S136, .i32⟩
  | .local _ .smem, ⟨1, _⟩ => ⟨S136, .i32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46_0 : Ref sig .tc := ⟨.hbm, 56, rfl⟩
abbrev main_v46_1 : Ref sig .tc := ⟨.hbm, 57, rfl⟩
abbrev main_cst_5 : Ref sig .tc := ⟨.hbm, 58, rfl⟩
abbrev main_v47 : Ref sig .tc := ⟨.hbm, 59, rfl⟩
abbrev main_v48 : Ref sig .tc := ⟨.hbm, 60, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 136], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (v3 : BitVec 32) : BitVec 1 :=
  let c0_i32 : BitVec 32 := 0#32
  let v4 : BitVec 1 := Scalar.cmpi .eq v3 c0_i32
  let v5 : BitVec 32 := Scalar.extui v4
  let c0_i32_0 : BitVec 32 := 0#32
  let v6 : BitVec 1 := Scalar.cmpi .ne v5 c0_i32_0
  v6

def k0_cond2 (v1 : BitVec 32) (v3 : BitVec 32) : BitVec 1 :=
  let c1_i32 : BitVec 32 := 1#32
  let v7 : BitVec 32 := Scalar.muli c1_i32 v1
  let v8 : BitVec 32 := Scalar.subi v3 v7
  let c0_i32_1 : BitVec 32 := 0#32
  let v9 : BitVec 1 := Scalar.cmpi .slt v8 c0_i32_1
  let v10 : BitVec 32 := Scalar.extui v9
  let c0_i32_2 : BitVec 32 := 0#32
  let v11 : BitVec 1 := Scalar.cmpi .ne v10 c0_i32_2
  v11

def k0_cond3 (v1 : BitVec 32) (v3 : BitVec 32) : BitVec 1 :=
  let c1_i32 : BitVec 32 := 1#32
  let v7 : BitVec 32 := Scalar.muli c1_i32 v1
  let v8 : BitVec 32 := Scalar.subi v3 v7
  let c0_i32_3 : BitVec 32 := 0#32
  let v12 : BitVec 1 := Scalar.cmpi .eq v8 c0_i32_3
  let v13 : BitVec 32 := Scalar.extui v12
  let c0_i32_4 : BitVec 32 := 0#32
  let v14 : BitVec 1 := Scalar.cmpi .ne v13 c0_i32_4
  v14

def cc0_transform_0 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c16_i32 : BitVec 32 := 16#32
  let v2 : BitVec 32 := Scalar.addi c16_i32 arg0
  let c0_i32 : BitVec 32 := 0#32
  ![v1.toNat, v2.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_4 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, c0_i32.toNat, v1.toNat]

def cc0_transform_5 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_6 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_7 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

def cc0_transform_8 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

def cc0_transform_9 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x1024 : Shape := ⟨2, ![8192, 1024]⟩
abbrev S8192x4224 : Shape := ⟨2, ![8192, 4224]⟩
abbrev S8192x16 : Shape := ⟨2, ![8192, 16]⟩
abbrev S8192x16x64 : Shape := ⟨3, ![8192, 16, 64]⟩
abbrev S_ : Shape := ⟨0, ![]⟩
abbrev S16x8192 : Shape := ⟨2, ![16, 8192]⟩
abbrev S16x8192x8192 : Shape := ⟨3, ![16, 8192, 8192]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x64x8192 : Shape := ⟨3, ![16, 64, 8192]⟩
abbrev S16x8192x64 : Shape := ⟨3, ![16, 8192, 64]⟩

abbrev nBuf : Space → Nat
  | .hbm => 118
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x4224, .f32⟩
  | .hbm, ⟨3, _⟩ => ⟨S8192x16, .f32⟩
  | .hbm, ⟨4, _⟩ => ⟨S8192x1024, .f32⟩
  | .hbm, ⟨5, _⟩ => ⟨S8192x1024, .f32⟩
  | .hbm, ⟨6, _⟩ => ⟨S8192x16x64, .f32⟩
  | .hbm, ⟨7, _⟩ => ⟨S_, .f32⟩
  | .hbm, ⟨8, _⟩ => ⟨S8192x16x64, .f32⟩
  | .hbm, ⟨9, _⟩ => ⟨S8192x16x64, .f32⟩
  | .hbm, ⟨10, _⟩ => ⟨S8192x16x64, .f32⟩
  | .hbm, ⟨11, _⟩ => ⟨S8192x16x64, .f32⟩
  | .hbm, ⟨12, _⟩ => ⟨S16x8192, .f32⟩
  | .hbm, ⟨13, _⟩ => ⟨S16x8192x8192, .f32⟩
  | .hbm, ⟨14, _⟩ => ⟨S16x8192x1, .f32⟩
  | .hbm, ⟨15, _⟩ => ⟨S16x8192x8192, .f32⟩
  | .hbm, ⟨16, _⟩ => ⟨S16x8192x8192, .f32⟩
  | .hbm, ⟨17, _⟩ => ⟨S16x1x8192, .f32⟩
  | .hbm, ⟨18, _⟩ => ⟨S16x8192x8192, .f32⟩
  | .hbm, ⟨19, _⟩ => ⟨S16x8192x8192, .f32⟩
  | .hbm, ⟨20, _⟩ => ⟨S8192, .i32⟩
  | .hbm, ⟨21, _⟩ => ⟨S1x8192, .i32⟩
  | .hbm, ⟨22, _⟩ => ⟨S8192x1, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S16x8192x8192, .i1⟩
  | .hbm, ⟨27, _⟩ => ⟨S_, .f32⟩
  | .hbm, ⟨28, _⟩ => ⟨S16x8192x8192, .f32⟩
  | .hbm, ⟨29, _⟩ => ⟨S16x8192x8192, .f32⟩
  | .hbm, ⟨30, _⟩ => ⟨S_, .f32⟩
  | .hbm, ⟨31, _⟩ => ⟨S16x8192x8192, .f32⟩
  | .hbm, ⟨32, _⟩ => ⟨S_, .f32⟩
  | .hbm, ⟨33, _⟩ => ⟨S16x8192, .f32⟩
  | .hbm, ⟨34, _⟩ => ⟨S16x8192x1, .f32⟩
  | .hbm, ⟨35, _⟩ => ⟨S16x8192x8192, .f32⟩
  | .hbm, ⟨36, _⟩ => ⟨S16x8192x8192, .i1⟩
  | .hbm, ⟨37, _⟩ => ⟨S16x8192x8192, .f32⟩
  | .hbm, ⟨38, _⟩ => ⟨S_, .f32⟩
  | .hbm, ⟨39, _⟩ => ⟨S16x8192, .f32⟩
  | .hbm, ⟨40, _⟩ => ⟨S_, .f32⟩
  | .hbm, ⟨41, _⟩ => ⟨S16x8192, .f32⟩
  | .hbm, ⟨42, _⟩ => ⟨S16x8192, .f32⟩
  | .hbm, ⟨43, _⟩ => ⟨S_, .f32⟩
  | .hbm, ⟨44, _⟩ => ⟨S16x8192, .f32⟩
  | .hbm, ⟨45, _⟩ => ⟨S16x8192, .i1⟩
  | .hbm, ⟨46, _⟩ => ⟨S_, .f32⟩
  | .hbm, ⟨47, _⟩ => ⟨S16x8192, .f32⟩
  | .hbm, ⟨48, _⟩ => ⟨S16x8192, .i1⟩
  | .hbm, ⟨49, _⟩ => ⟨S_, .f32⟩
  | .hbm, ⟨50, _⟩ => ⟨S16x8192, .f32⟩
  | .hbm, ⟨51, _⟩ => ⟨S_, .f32⟩
  | .hbm, ⟨52, _⟩ => ⟨S16x8192, .f32⟩
  | .hbm, ⟨53, _⟩ => ⟨S_, .f32⟩
  | .hbm, ⟨54, _⟩ => ⟨S16x8192, .f32⟩
  | .hbm, ⟨55, _⟩ => ⟨S16x8192, .f32⟩
  | .hbm, ⟨56, _⟩ => ⟨S16x8192, .f32⟩
  | .hbm, ⟨57, _⟩ => ⟨S16x8192x1, .f32⟩
  | .hbm, ⟨58, _⟩ => ⟨S16x8192x8192, .f32⟩
  | .hbm, ⟨59, _⟩ => ⟨S16x8192x8192, .f32⟩
  | .hbm, ⟨60, _⟩ => ⟨S16x8192x8192, .f32⟩
  | .hbm, ⟨61, _⟩ => ⟨S_, .f32⟩
  | .hbm, ⟨62, _⟩ => ⟨S16x8192, .f32⟩
  | .hbm, ⟨63, _⟩ => ⟨S16x8192x1, .f32⟩
  | .hbm, ⟨64, _⟩ => ⟨S16x8192x8192, .f32⟩
  | .hbm, ⟨65, _⟩ => ⟨S16x8192x8192, .f32⟩
  | .hbm, ⟨66, _⟩ => ⟨S16x8192x1, .f32⟩
  | .hbm, ⟨67, _⟩ => ⟨S_, .f32⟩
  | .hbm, ⟨68, _⟩ => ⟨S16x8192x1, .f32⟩
  | .hbm, ⟨69, _⟩ => ⟨S16x8192x1, .f32⟩
  | .hbm, ⟨70, _⟩ => ⟨S16x64x8192, .f32⟩
  | .hbm, ⟨71, _⟩ => ⟨S8192x16x64, .f32⟩
  | .hbm, ⟨72, _⟩ => ⟨S8192x1024, .f32⟩
  | .hbm, ⟨73, _⟩ => ⟨S8192x16x64, .f32⟩
  | .hbm, ⟨74, _⟩ => ⟨S16x64x8192, .f32⟩
  | .hbm, ⟨75, _⟩ => ⟨S16x8192x8192, .f32⟩
  | .hbm, ⟨76, _⟩ => ⟨S16x64x8192, .f32⟩
  | .hbm, ⟨77, _⟩ => ⟨S8192x16x64, .f32⟩
  | .hbm, ⟨78, _⟩ => ⟨S16x8192x8192, .f32⟩
  | .hbm, ⟨79, _⟩ => ⟨S16x8192x8192, .f32⟩
  | .hbm, ⟨80, _⟩ => ⟨S16x8192x8192, .f32⟩
  | .hbm, ⟨81, _⟩ => ⟨S_, .f32⟩
  | .hbm, ⟨82, _⟩ => ⟨S16x8192, .f32⟩
  | .hbm, ⟨83, _⟩ => ⟨S16x8192x1, .f32⟩
  | .hbm, ⟨84, _⟩ => ⟨S16x8192x1, .f32⟩
  | .hbm, ⟨85, _⟩ => ⟨S16x8192x8192, .f32⟩
  | .hbm, ⟨86, _⟩ => ⟨S16x8192x8192, .f32⟩
  | .hbm, ⟨87, _⟩ => ⟨S_, .f32⟩
  | .hbm, ⟨88, _⟩ => ⟨S16x8192, .f32⟩
  | .hbm, ⟨89, _⟩ => ⟨S16x8192x8192, .f32⟩
  | .hbm, ⟨90, _⟩ => ⟨S16x8192x8192, .f32⟩
  | .hbm, ⟨91, _⟩ => ⟨S16x8192x8192, .f32⟩
  | .hbm, ⟨92, _⟩ => ⟨S_, .f32⟩
  | .hbm, ⟨93, _⟩ => ⟨S16x8192x8192, .f32⟩
  | .hbm, ⟨94, _⟩ => ⟨S16x8192x8192, .f32⟩
  | .hbm, ⟨95, _⟩ => ⟨S16x8192x8192, .f32⟩
  | .hbm, ⟨96, _⟩ => ⟨S_, .f32⟩
  | .hbm, ⟨97, _⟩ => ⟨S16x8192, .f32⟩
  | .hbm, ⟨98, _⟩ => ⟨S16x1x8192, .f32⟩
  | .hbm, ⟨99, _⟩ => ⟨S_, .f32⟩
  | .hbm, ⟨100, _⟩ => ⟨S16x8192, .f32⟩
  | .hbm, ⟨101, _⟩ => ⟨S_, .f32⟩
  | .hbm, ⟨102, _⟩ => ⟨S16x8192, .f32⟩
  | .hbm, ⟨103, _⟩ => ⟨S16x8192x1, .f32⟩
  | .hbm, ⟨104, _⟩ => ⟨S_, .f32⟩
  | .hbm, ⟨105, _⟩ => ⟨S16x8192, .f32⟩
  | .hbm, ⟨106, _⟩ => ⟨S16x8192, .f32⟩
  | .hbm, ⟨107, _⟩ => ⟨S16x8192x64, .f32⟩
  | .hbm, ⟨108, _⟩ => ⟨S8192x16x64, .f32⟩
  | .hbm, ⟨109, _⟩ => ⟨S16x8192x64, .f32⟩
  | .hbm, ⟨110, _⟩ => ⟨S8192x16x64, .f32⟩
  | .hbm, ⟨111, _⟩ => ⟨S8192x16, .f32⟩
  | .hbm, ⟨112, _⟩ => ⟨S8192x1024, .f32⟩
  | .hbm, ⟨113, _⟩ => ⟨S8192x1024, .f32⟩
  | .hbm, ⟨114, _⟩ => ⟨S_, .f32⟩
  | .hbm, ⟨115, _⟩ => ⟨S8192x16x64, .f32⟩
  | .hbm, ⟨116, _⟩ => ⟨S8192x16x64, .f32⟩
  | .hbm, ⟨117, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_12 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_13 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_14 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_15 : Ref sig .tc := ⟨.hbm, 96, rfl⟩
abbrev main_v75 : Ref sig .tc := ⟨.hbm, 97, rfl⟩
abbrev main_v76 : Ref sig .tc := ⟨.hbm, 98, rfl⟩
abbrev main_cst_16 : Ref sig .tc := ⟨.hbm, 99, rfl⟩
abbrev main_v77 : Ref sig .tc := ⟨.hbm, 100, rfl⟩
abbrev main_cst_17 : Ref sig .tc := ⟨.hbm, 101, rfl⟩
abbrev main_v78 : Ref sig .tc := ⟨.hbm, 102, rfl⟩
abbrev main_v79 : Ref sig .tc := ⟨.hbm, 103, rfl⟩
abbrev main_cst_18 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_19 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩

abbrev nD : Nat := 1
abbrev τ : Topo := Topo.v7x

variable {F : FTy → Type} [FloatOps F]
-- ==== Kernel2.lean ====
abbrev S8192x1024 : Shape := ⟨2, ![8192, 1024]⟩
abbrev S8192x4224 : Shape := ⟨2, ![8192, 4224]⟩
abbrev S8192x16 : Shape := ⟨2, ![8192, 16]⟩
abbrev S72 : Shape := ⟨1, ![72]⟩
abbrev S8192x16x64 : Shape := ⟨3, ![8192, 16, 64]⟩
abbrev S_ : Shape := ⟨0, ![]⟩
abbrev S16x8192 : Shape := ⟨2, ![16, 8192]⟩
abbrev S16x8192x1 : Shape := ⟨3, ![16, 8192, 1]⟩
abbrev S16x1x8192 : Shape := ⟨3, ![16, 1, 8192]⟩
abbrev S16x8192x8192 : Shape := ⟨3, ![16, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x64x8192 : Shape := ⟨3, ![16, 64, 8192]⟩
abbrev S1024x128 : Shape := ⟨2, ![1024, 128]⟩
abbrev S1 : Shape := ⟨1, ![1]⟩
abbrev S512x128 : Shape := ⟨2, ![512, 128]⟩
abbrev S2x1024x1 : Shape := ⟨3, ![2, 1024, 1]⟩
abbrev S2x1x512 : Shape := ⟨3, ![2, 1, 512]⟩
abbrev S128x512 : Shape := ⟨2, ![128, 512]⟩
abbrev S1x512x128 : Shape := ⟨3, ![1, 512, 128]⟩
abbrev S2x512x128 : Shape := ⟨3, ![2, 512, 128]⟩
abbrev S256x128 : Shape := ⟨2, ![256, 128]⟩
abbrev S1x128 : Shape := ⟨2, ![1, 128]⟩
abbrev S1x256x128 : Shape := ⟨3, ![1, 256, 128]⟩
abbrev S2x256x128 : Shape := ⟨3, ![2, 256, 128]⟩
abbrev S2x256x512 : Shape := ⟨3, ![2, 256, 512]⟩
abbrev S2x256x1 : Shape := ⟨3, ![2, 256, 1]⟩
abbrev S512x512 : Shape := ⟨2, ![512, 512]⟩
abbrev S2x512 : Shape := ⟨2, ![2, 512]⟩

abbrev nBuf : Space → Nat
  | .hbm => 64
  | .vmem => 26
  | .smem => 2
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x4224, .f32⟩
  | .hbm, ⟨3, _⟩ => ⟨S8192x16, .f32⟩
  | .hbm, ⟨4, _⟩ => ⟨S8192x1024, .f32⟩
  | .hbm, ⟨5, _⟩ => ⟨S8192x16x64, .f32⟩
  | .hbm, ⟨6, _⟩ => ⟨S_, .f32⟩
  | .hbm, ⟨7, _⟩ => ⟨S8192x16x64, .f32⟩
  | .hbm, ⟨8, _⟩ => ⟨S8192x16x64, .f32⟩
  | .hbm, ⟨9, _⟩ => ⟨S8192x16x64, .f32⟩
  | .hbm, ⟨10, _⟩ => ⟨S8192x1024, .f32⟩
  | .hbm, ⟨11, _⟩ => ⟨S8192x16x64, .f32⟩
  | .hbm, ⟨12, _⟩ => ⟨S16x8192, .f32⟩
  | .hbm, ⟨13, _⟩ => ⟨S16x8192x1, .f32⟩
  | .hbm, ⟨14, _⟩ => ⟨S16x1x8192, .f32⟩
  | .hbm, ⟨15, _⟩ => ⟨S16x8192x8192, .f32⟩
  | .hbm, ⟨16, _⟩ => ⟨S16x8192x8192, .f32⟩
  | .hbm, ⟨17, _⟩ => ⟨S16x8192x8192, .f32⟩
  | .hbm, ⟨18, _⟩ => ⟨S16x8192x8192, .f32⟩
  | .hbm, ⟨19, _⟩ => ⟨S16x8192x8192, .f32⟩
  | .hbm, ⟨20, _⟩ => ⟨S8192, .i32⟩
  | .hbm, ⟨21, _⟩ => ⟨S1x8192, .i32⟩
  | .hbm, ⟨22, _⟩ => ⟨S8192x1, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S16x8192x8192, .i1⟩
  | .hbm, ⟨27, _⟩ => ⟨S_, .f32⟩
  | .hbm, ⟨28, _⟩ => ⟨S16x8192x8192, .f32⟩
  | .hbm, ⟨29, _⟩ => ⟨S16x8192x8192, .f32⟩
  | .hbm, ⟨30, _⟩ => ⟨S_, .f32⟩
  | .hbm, ⟨31, _⟩ => ⟨S16x8192, .f32⟩
  | .hbm, ⟨32, _⟩ => ⟨S16x8192x1, .f32⟩
  | .hbm, ⟨33, _⟩ => ⟨S16x8192x8192, .f32⟩
  | .hbm, ⟨34, _⟩ => ⟨S16x8192x8192, .f32⟩
  | .hbm, ⟨35, _⟩ => ⟨S16x8192x8192, .f32⟩
  | .hbm, ⟨36, _⟩ => ⟨S_, .f32⟩
  | .hbm, ⟨37, _⟩ => ⟨S16x8192, .f32⟩
  | .hbm, ⟨38, _⟩ => ⟨S16x8192x1, .f32⟩
  | .hbm, ⟨39, _⟩ => ⟨S16x8192x8192, .f32⟩
  | .hbm, ⟨40, _⟩ => ⟨S16x8192x8192, .f32⟩
  | .hbm, ⟨41, _⟩ => ⟨S16x64x8192, .f32⟩
  | .hbm, ⟨42, _⟩ => ⟨S8192x16x64, .f32⟩
  | .hbm, ⟨43, _⟩ => ⟨S16x8192x1, .f32⟩
  | .hbm, ⟨44, _⟩ => ⟨S16x8192x1, .f32⟩
  | .hbm, ⟨45, _⟩ => ⟨S8192x16x64, .f32⟩
  | .hbm, ⟨46, _⟩ => ⟨S8192x16x64, .f32⟩
  | .hbm, ⟨47, _⟩ => ⟨S_, .f32⟩
  | .hbm, ⟨48, _⟩ => ⟨S8192x16, .f32⟩
  | .hbm, ⟨49, _⟩ => ⟨S16x8192, .f32⟩
  | .hbm, ⟨50, _⟩ => ⟨S16x8192x1, .f32⟩
  | .hbm, ⟨51, _⟩ => ⟨S16x8192x8192, .f32⟩
  | .hbm, ⟨52, _⟩ => ⟨S16x8192x8192, .f32⟩
  | .hbm, ⟨53, _⟩ => ⟨S16x8192x8192, .f32⟩
  | .hbm, ⟨54, _⟩ => ⟨S16x8192x8192, .f32⟩
  | .hbm, ⟨55, _⟩ => ⟨S_, .f32⟩
  | .hbm, ⟨56, _⟩ => ⟨S16x8192, .f32⟩
  | .hbm, ⟨57, _⟩ => ⟨S16x8192x1, .f32⟩
  | .hbm, ⟨58, _⟩ => ⟨S8192x1024, .f32⟩
  | .hbm, ⟨59, _⟩ => ⟨S8192x1024, .bf16⟩
  | .hbm, ⟨60, _⟩ => ⟨S8192x1024, .bf16⟩
  | .hbm, ⟨61, _⟩ => ⟨S8192x1024, .f32⟩
  | .hbm, ⟨62, _⟩ => ⟨S8192x1024, .f32⟩
  | .hbm, ⟨63, _⟩ => ⟨S16x1x8192, .f32⟩
  | .local _ .vmem, ⟨0, _⟩ => ⟨S1024x128, .bf16⟩
  | .local _ .vmem, ⟨1, _⟩ => ⟨S1024x128, .bf16⟩
  | .local _ .vmem, ⟨2, _⟩ => ⟨S512x128, .bf16⟩
  | .local _ .vmem, ⟨3, _⟩ => ⟨S512x128, .bf16⟩
  | .local _ .vmem, ⟨4, _⟩ => ⟨S512x128, .f32⟩
  | .local _ .vmem, ⟨5, _⟩ => ⟨S512x128, .f32⟩
  | .local _ .vmem, ⟨6, _⟩ => ⟨S2x1024x1, .f32⟩
  | .local _ .vmem, ⟨7, _⟩ => ⟨S2x1024x1, .f32⟩
  | .local _ .vmem, ⟨8, _⟩ => ⟨S2x1x512, .f32⟩
  | .local _ .vmem, ⟨9, _⟩ => ⟨S2x1x512, .f32⟩
  | .local _ .vmem, ⟨10, _⟩ => ⟨S2x1024x1, .f32⟩
  | .local _ .vmem, ⟨11, _⟩ => ⟨S2x1024x1, .f32⟩
  | .local _ .vmem, ⟨12, _⟩ => ⟨S2x1024x1, .f32⟩
  | .local _ .vmem, ⟨13, _⟩ => ⟨S2x1024x1, .f32⟩
  | .local _ .vmem, ⟨14, _⟩ => ⟨S2x1024x1, .f32⟩
  | .local _ .vmem, ⟨15, _⟩ => ⟨S2x1024x1, .f32⟩
  | .local _ .vmem, ⟨16, _⟩ => ⟨S1024x128, .f32⟩
  | .local _ .vmem, ⟨17, _⟩ => ⟨S1024x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S2x1x512, .f32⟩
  | .local _ .vmem, ⟨23, _⟩ => ⟨S2x1x512, .f32⟩
  | .local _ .vmem, ⟨24, _⟩ => ⟨S128x512, .f32⟩
  | .local _ .vmem, ⟨25, _⟩ => ⟨S128x512, .f32⟩
  | .local _ .smem, ⟨0, _⟩ => ⟨S72, .i32⟩
  | .local _ .smem, ⟨1, _⟩ => ⟨S72, .i32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_5 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50_0 : Ref sig .tc := ⟨.hbm, 61, rfl⟩
abbrev main_v50_1 : Ref sig .tc := ⟨.hbm, 62, rfl⟩
abbrev main_v50_2 : Ref sig .tc := ⟨.hbm, 63, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 72], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond5 (v1 : BitVec 32) : BitVec 1 :=
  let c7_i32 : BitVec 32 := 7#32
  let v35 : BitVec 1 := Scalar.cmpi .eq v1 c7_i32
  let v36 : BitVec 32 := Scalar.extui v35
  let c0_i32_12 : BitVec 32 := 0#32
  let v37 : BitVec 1 := Scalar.cmpi .ne v36 c0_i32_12
  v37

def k0_cond1 (v1 : BitVec 32) (v3 : BitVec 32) : BitVec 1 :=
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c2_i32 : BitVec 32 := 2#32
  let c0_i32_1 : BitVec 32 := 0#32
  let v10 : BitVec 1 := Scalar.cmpi .sgt c2_i32 c0_i32_1
  let v11 : BitVec 32 := Scalar.extui v10
  let c0_i32_2 : BitVec 32 := 0#32
  let v12 : BitVec 1 := Scalar.cmpi .slt c2_i32 c0_i32_2
  let v13 : BitVec 32 := Scalar.extui v12
  let v14 : BitVec 32 := Scalar.subi v11 v13
  let v15 : BitVec 1 := Scalar.cmpi .ne v9 v14
  let v16 : BitVec 32 := Scalar.remsi v3 c2_i32
  let c0_i32_3 : BitVec 32 := 0#32
  let v17 : BitVec 1 := Scalar.cmpi .ne v16 c0_i32_3
  let v18 : BitVec 1 := Scalar.andi v15 v17
  let v4 : BitVec 32 := Scalar.divsi v3 c2_i32
  let c1_i32 : BitVec 32 := 1#32
  let v19 : BitVec 32 := Scalar.subi v4 c1_i32
  let v20 : BitVec 32 := Scalar.select v18 v19 v4
  let v21 : BitVec 1 := Scalar.cmpi .eq v1 v20
  let v22 : BitVec 32 := Scalar.extui v21
  let c0_i32_4 : BitVec 32 := 0#32
  let v23 : BitVec 1 := Scalar.cmpi .ne v22 c0_i32_4
  v23

def k0_cond2 (v1 : BitVec 32) (v3 : BitVec 32) : BitVec 1 :=
  let c2_i32_5 : BitVec 32 := 2#32
  let v24 : BitVec 32 := Scalar.muli c2_i32_5 v1
  let v25 : BitVec 32 := Scalar.subi v3 v24
  let c0_i32_6 : BitVec 32 := 0#32
  let v26 : BitVec 1 := Scalar.cmpi .slt v25 c0_i32_6
  let v27 : BitVec 32 := Scalar.extui v26
  let c0_i32_7 : BitVec 32 := 0#32
  let v28 : BitVec 1 := Scalar.cmpi .ne v27 c0_i32_7
  v28

def k0_cond3 (v1 : BitVec 32) (v3 : BitVec 32) : BitVec 1 :=
  let c2_i32_5 : BitVec 32 := 2#32
  let v24 : BitVec 32 := Scalar.muli c2_i32_5 v1
  let v25 : BitVec 32 := Scalar.subi v3 v24
  let c0_i32_8 : BitVec 32 := 0#32
  let v29 : BitVec 1 := Scalar.cmpi .eq v25 c0_i32_8
  let v30 : BitVec 32 := Scalar.extui v29
  let c0_i32_9 : BitVec 32 := 0#32
  let v31 : BitVec 1 := Scalar.cmpi .ne v30 c0_i32_9
  v31

def k0_cond4 (v1 : BitVec 32) (v3 : BitVec 32) : BitVec 1 :=
  let c2_i32_5 : BitVec 32 := 2#32
  let v24 : BitVec 32 := Scalar.muli c2_i32_5 v1
  let v25 : BitVec 32 := Scalar.subi v3 v24
  let c1_i32_10 : BitVec 32 := 1#32
  let v32 : BitVec 1 := Scalar.cmpi .eq v25 c1_i32_10
  let v33 : BitVec 32 := Scalar.extui v32
  let c0_i32_11 : BitVec 32 := 0#32
  let v34 : BitVec 1 := Scalar.cmpi .ne v33 c0_i32_11
  v34

def cc0_transform_0 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S72) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S72) ![v0.toNat] S1.size (k0_off1_inb i)) numel1_S1
  let c16_i32 : BitVec 32 := 16#32
  let v2 : BitVec 32 := Scalar.addi c16_i32 arg0
  let c0_i32 : BitVec 32 := 0#32
  ![v1.toNat, v2.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![arg0.toNat, v1.toNat, c0_i32.toNat]

def cc0_transform_4 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S72) ![v0.toNat] S1.size (k0_off1_inb i)) numel1_S1
  let c0_i32 : BitVec 32 := 0#32
  let c0_i32_0 : BitVec 32 := 0#32
  ![arg0.toNat, c0_i32.toNat, v1.toNat]

def cc0_transform_5 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![arg0.toNat, v1.toNat, c0_i32.toNat]

def cc0_transform_6 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![arg0.toNat, v1.toNat, c0_i32.toNat]

def cc0_transform_7 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![arg0.toNat, v1.toNat, c0_i32.toNat]

def cc0_transform_8 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  ![v1.toNat, arg0.toNat]

def cc0_transform_9 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S72) ![v0.toNat] S1.size (k0_off1_inb i)) numel1_S1
  let c0_i32 : BitVec 32 := 0#32
  ![v1.toNat, arg0.toNat]

def cc0_transform_10 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S72) ![v0.toNat] S1.size (k0_off1_inb i)) numel1_S1
  let c0_i32 : BitVec 32 := 0#32
  ![v1.toNat, arg0.toNat]

def cc0_transform_11 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S72) ![v0.toNat] S1.size (k0_off1_inb i)) numel1_S1
  let c0_i32 : BitVec 32 := 0#32
  let c0_i32_0 : BitVec 32 := 0#32
  ![arg0.toNat, c0_i32.toNat, v1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel2Ideal.lean ====
variable {F : FTy → Type} [FloatOps F] [Named F]
def κ : String → Option EReal := fun
  | "mask" => some ⊥
  | _ => none
-- ==== Reference2Ideal.lean ====
abbrev S8192x1024 : Shape := ⟨2, ![8192, 1024]⟩
abbrev S8192x4224 : Shape := ⟨2, ![8192, 4224]⟩
abbrev S8192x16 : Shape := ⟨2, ![8192, 16]⟩
abbrev S8192x16x64 : Shape := ⟨3, ![8192, 16, 64]⟩
abbrev S_ : Shape := ⟨0, ![]⟩
abbrev S16x8192 : Shape := ⟨2, ![16, 8192]⟩
abbrev S16x8192x8192 : Shape := ⟨3, ![16, 8192, 8192]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x64x8192 : Shape := ⟨3, ![16, 64, 8192]⟩
abbrev S16x8192x64 : Shape := ⟨3, ![16, 8192, 64]⟩

abbrev nBuf : Space → Nat
  | .hbm => 120
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x4224, .f32⟩
  | .hbm, ⟨3, _⟩ => ⟨S8192x16, .f32⟩
  | .hbm, ⟨4, _⟩ => ⟨S8192x1024, .f32⟩
  | .hbm, ⟨5, _⟩ => ⟨S8192x1024, .f32⟩
  | .hbm, ⟨6, _⟩ => ⟨S8192x16x64, .f32⟩
  | .hbm, ⟨7, _⟩ => ⟨S_, .f32⟩
  | .hbm, ⟨8, _⟩ => ⟨S8192x16x64, .f32⟩
  | .hbm, ⟨9, _⟩ => ⟨S8192x16x64, .f32⟩
  | .hbm, ⟨10, _⟩ => ⟨S8192x16x64, .f32⟩
  | .hbm, ⟨11, _⟩ => ⟨S8192x16x64, .f32⟩
  | .hbm, ⟨12, _⟩ => ⟨S16x8192, .f32⟩
  | .hbm, ⟨13, _⟩ => ⟨S16x8192x8192, .f32⟩
  | .hbm, ⟨14, _⟩ => ⟨S16x8192x1, .f32⟩
  | .hbm, ⟨15, _⟩ => ⟨S16x8192x8192, .f32⟩
  | .hbm, ⟨16, _⟩ => ⟨S16x8192x8192, .f32⟩
  | .hbm, ⟨17, _⟩ => ⟨S16x1x8192, .f32⟩
  | .hbm, ⟨18, _⟩ => ⟨S16x8192x8192, .f32⟩
  | .hbm, ⟨19, _⟩ => ⟨S16x8192x8192, .f32⟩
  | .hbm, ⟨20, _⟩ => ⟨S8192, .i32⟩
  | .hbm, ⟨21, _⟩ => ⟨S1x8192, .i32⟩
  | .hbm, ⟨22, _⟩ => ⟨S8192x1, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S16x8192x8192, .i1⟩
  | .hbm, ⟨27, _⟩ => ⟨S_, .f32⟩
  | .hbm, ⟨28, _⟩ => ⟨S16x8192x8192, .f32⟩
  | .hbm, ⟨29, _⟩ => ⟨S16x8192x8192, .f32⟩
  | .hbm, ⟨30, _⟩ => ⟨S_, .f32⟩
  | .hbm, ⟨31, _⟩ => ⟨S16x8192x8192, .f32⟩
  | .hbm, ⟨32, _⟩ => ⟨S_, .f32⟩
  | .hbm, ⟨33, _⟩ => ⟨S16x8192, .f32⟩
  | .hbm, ⟨34, _⟩ => ⟨S16x8192x1, .f32⟩
  | .hbm, ⟨35, _⟩ => ⟨S16x8192x8192, .f32⟩
  | .hbm, ⟨36, _⟩ => ⟨S16x8192x8192, .i1⟩
  | .hbm, ⟨37, _⟩ => ⟨S16x8192x8192, .f32⟩
  | .hbm, ⟨38, _⟩ => ⟨S_, .f32⟩
  | .hbm, ⟨39, _⟩ => ⟨S16x8192, .f32⟩
  | .hbm, ⟨40, _⟩ => ⟨S_, .f32⟩
  | .hbm, ⟨41, _⟩ => ⟨S16x8192, .f32⟩
  | .hbm, ⟨42, _⟩ => ⟨S16x8192, .f32⟩
  | .hbm, ⟨43, _⟩ => ⟨S_, .f32⟩
  | .hbm, ⟨44, _⟩ => ⟨S16x8192, .f32⟩
  | .hbm, ⟨45, _⟩ => ⟨S16x8192, .i1⟩
  | .hbm, ⟨46, _⟩ => ⟨S_, .f32⟩
  | .hbm, ⟨47, _⟩ => ⟨S16x8192, .f32⟩
  | .hbm, ⟨48, _⟩ => ⟨S16x8192, .i1⟩
  | .hbm, ⟨49, _⟩ => ⟨S_, .f32⟩
  | .hbm, ⟨50, _⟩ => ⟨S16x8192, .f32⟩
  | .hbm, ⟨51, _⟩ => ⟨S_, .f32⟩
  | .hbm, ⟨52, _⟩ => ⟨S16x8192, .f32⟩
  | .hbm, ⟨53, _⟩ => ⟨S_, .f32⟩
  | .hbm, ⟨54, _⟩ => ⟨S16x8192, .f32⟩
  | .hbm, ⟨55, _⟩ => ⟨S16x8192, .f32⟩
  | .hbm, ⟨56, _⟩ => ⟨S16x8192, .f32⟩
  | .hbm, ⟨57, _⟩ => ⟨S16x8192x1, .f32⟩
  | .hbm, ⟨58, _⟩ => ⟨S16x8192x8192, .f32⟩
  | .hbm, ⟨59, _⟩ => ⟨S16x8192x8192, .f32⟩
  | .hbm, ⟨60, _⟩ => ⟨S16x8192x8192, .f32⟩
  | .hbm, ⟨61, _⟩ => ⟨S_, .f32⟩
  | .hbm, ⟨62, _⟩ => ⟨S16x8192, .f32⟩
  | .hbm, ⟨63, _⟩ => ⟨S16x8192x1, .f32⟩
  | .hbm, ⟨64, _⟩ => ⟨S16x8192x8192, .f32⟩
  | .hbm, ⟨65, _⟩ => ⟨S16x8192x8192, .f32⟩
  | .hbm, ⟨66, _⟩ => ⟨S16x8192x1, .f32⟩
  | .hbm, ⟨67, _⟩ => ⟨S_, .f32⟩
  | .hbm, ⟨68, _⟩ => ⟨S16x8192x1, .f32⟩
  | .hbm, ⟨69, _⟩ => ⟨S16x8192x1, .f32⟩
  | .hbm, ⟨70, _⟩ => ⟨S16x64x8192, .f32⟩
  | .hbm, ⟨71, _⟩ => ⟨S8192x16x64, .f32⟩
  | .hbm, ⟨72, _⟩ => ⟨S8192x1024, .f32⟩
  | .hbm, ⟨73, _⟩ => ⟨S8192x16x64, .f32⟩
  | .hbm, ⟨74, _⟩ => ⟨S16x64x8192, .f32⟩
  | .hbm, ⟨75, _⟩ => ⟨S16x8192x8192, .f32⟩
  | .hbm, ⟨76, _⟩ => ⟨S16x64x8192, .f32⟩
  | .hbm, ⟨77, _⟩ => ⟨S8192x16x64, .f32⟩
  | .hbm, ⟨78, _⟩ => ⟨S16x8192x8192, .f32⟩
  | .hbm, ⟨79, _⟩ => ⟨S16x8192x8192, .f32⟩
  | .hbm, ⟨80, _⟩ => ⟨S16x8192x8192, .f32⟩
  | .hbm, ⟨81, _⟩ => ⟨S_, .f32⟩
  | .hbm, ⟨82, _⟩ => ⟨S16x8192, .f32⟩
  | .hbm, ⟨83, _⟩ => ⟨S16x8192x1, .f32⟩
  | .hbm, ⟨84, _⟩ => ⟨S16x8192x1, .f32⟩
  | .hbm, ⟨85, _⟩ => ⟨S16x8192x8192, .f32⟩
  | .hbm, ⟨86, _⟩ => ⟨S16x8192x8192, .f32⟩
  | .hbm, ⟨87, _⟩ => ⟨S_, .f32⟩
  | .hbm, ⟨88, _⟩ => ⟨S16x8192, .f32⟩
  | .hbm, ⟨89, _⟩ => ⟨S16x8192x8192, .f32⟩
  | .hbm, ⟨90, _⟩ => ⟨S16x8192x8192, .f32⟩
  | .hbm, ⟨91, _⟩ => ⟨S16x8192x8192, .f32⟩
  | .hbm, ⟨92, _⟩ => ⟨S_, .f32⟩
  | .hbm, ⟨93, _⟩ => ⟨S16x8192x8192, .f32⟩
  | .hbm, ⟨94, _⟩ => ⟨S16x8192x8192, .f32⟩
  | .hbm, ⟨95, _⟩ => ⟨S16x8192x8192, .f32⟩
  | .hbm, ⟨96, _⟩ => ⟨S_, .f32⟩
  | .hbm, ⟨97, _⟩ => ⟨S16x8192, .f32⟩
  | .hbm, ⟨98, _⟩ => ⟨S16x1x8192, .f32⟩
  | .hbm, ⟨99, _⟩ => ⟨S_, .f32⟩
  | .hbm, ⟨100, _⟩ => ⟨S16x8192, .f32⟩
  | .hbm, ⟨101, _⟩ => ⟨S_, .f32⟩
  | .hbm, ⟨102, _⟩ => ⟨S16x8192, .f32⟩
  | .hbm, ⟨103, _⟩ => ⟨S16x8192x1, .f32⟩
  | .hbm, ⟨104, _⟩ => ⟨S_, .f32⟩
  | .hbm, ⟨105, _⟩ => ⟨S16x8192, .f32⟩
  | .hbm, ⟨106, _⟩ => ⟨S16x8192, .f32⟩
  | .hbm, ⟨107, _⟩ => ⟨S16x8192x64, .f32⟩
  | .hbm, ⟨108, _⟩ => ⟨S8192x16x64, .f32⟩
  | .hbm, ⟨109, _⟩ => ⟨S16x8192x64, .f32⟩
  | .hbm, ⟨110, _⟩ => ⟨S8192x16x64, .f32⟩
  | .hbm, ⟨111, _⟩ => ⟨S8192x16, .f32⟩
  | .hbm, ⟨112, _⟩ => ⟨S8192x1024, .f32⟩
  | .hbm, ⟨113, _⟩ => ⟨S8192x1024, .f32⟩
  | .hbm, ⟨114, _⟩ => ⟨S_, .f32⟩
  | .hbm, ⟨115, _⟩ => ⟨S8192x16x64, .f32⟩
  | .hbm, ⟨116, _⟩ => ⟨S8192x16x64, .f32⟩
  | .hbm, ⟨117, _⟩ => ⟨S8192x1024, .f32⟩
  | .hbm, ⟨118, _⟩ => ⟨S16x8192, .f32⟩
  | .hbm, ⟨119, _⟩ => ⟨S16x1x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_12 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_13 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_14 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_15 : Ref sig .tc := ⟨.hbm, 96, rfl⟩
abbrev main_v75 : Ref sig .tc := ⟨.hbm, 97, rfl⟩
abbrev main_v76 : Ref sig .tc := ⟨.hbm, 98, rfl⟩
abbrev main_cst_16 : Ref sig .tc := ⟨.hbm, 99, rfl⟩
abbrev main_v77 : Ref sig .tc := ⟨.hbm, 100, rfl⟩
abbrev main_cst_17 : Ref sig .tc := ⟨.hbm, 101, rfl⟩
abbrev main_v78 : Ref sig .tc := ⟨.hbm, 102, rfl⟩
abbrev main_v79 : Ref sig .tc := ⟨.hbm, 103, rfl⟩
abbrev main_cst_18 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_19 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩

abbrev nD : Nat := 1
abbrev τ : Topo := Topo.v7x

variable {F : FTy → Type} [FloatOps F]
-- ==== Kernel3.lean ====
abbrev S8192x1024 : Shape := ⟨2, ![8192, 1024]⟩
abbrev S8192x4224 : Shape := ⟨2, ![8192, 4224]⟩
abbrev S1024x4224 : Shape := ⟨2, ![1024, 4224]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4224, .f32⟩
  | .hbm, ⟨2, _⟩ => ⟨S1024x4224, .f32⟩
  | .local _ .vmem, ⟨0, _⟩ => ⟨S1024x1024, .f32⟩
  | .local _ .vmem, ⟨1, _⟩ => ⟨S1024x1024, .f32⟩
  | .local _ .vmem, ⟨2, _⟩ => ⟨S1024x1408, .f32⟩
  | .local _ .vmem, ⟨3, _⟩ => ⟨S1024x1408, .f32⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S8192x4224 : Shape := ⟨2, ![8192, 4224]⟩
abbrev S_ : Shape := ⟨0, ![]⟩
abbrev S1024x4224 : Shape := ⟨2, ![1024, 4224]⟩
abbrev S4224x1024 : Shape := ⟨2, ![4224, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4224, .f32⟩
  | .hbm, ⟨2, _⟩ => ⟨S_, .f32⟩
  | .hbm, ⟨3, _⟩ => ⟨S1024x4224, .f32⟩
  | .hbm, ⟨4, _⟩ => ⟨S8192x4224, .f32⟩
  | .hbm, ⟨5, _⟩ => ⟨S4224x1024, .f32⟩
  | .hbm, ⟨6, _⟩ => ⟨S1024x4224, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S8192x4224 : Shape := ⟨2, ![8192, 4224]⟩
abbrev S1024x4224 : Shape := ⟨2, ![1024, 4224]⟩
abbrev S8192x1024 : Shape := ⟨2, ![8192, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4224, .f32⟩
  | .hbm, ⟨1, _⟩ => ⟨S1024x4224, .bf16⟩
  | .hbm, ⟨2, _⟩ => ⟨S8192x1024, .f32⟩
  | .local _ .vmem, ⟨0, _⟩ => ⟨S1024x1408, .f32⟩
  | .local _ .vmem, ⟨1, _⟩ => ⟨S1024x1408, .f32⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond2 (i : grid0.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x4224 : Shape := ⟨2, ![8192, 4224]⟩
abbrev S1024x4224 : Shape := ⟨2, ![1024, 4224]⟩
abbrev S_ : Shape := ⟨0, ![]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x4224, .f32⟩
  | .hbm, ⟨1, _⟩ => ⟨S1024x4224, .bf16⟩
  | .hbm, ⟨2, _⟩ => ⟨S_, .f32⟩
  | .hbm, ⟨3, _⟩ => ⟨S8192x1024, .f32⟩
  | .hbm, ⟨4, _⟩ => ⟨S1024x4224, .f32⟩
  | .hbm, ⟨5, _⟩ => ⟨S8192x4224, .f32⟩
  | .hbm, ⟨6, _⟩ => ⟨S8192x1024, .f32⟩
  | _, _ => ⟨S8192x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S8192x1024 : Shape := ⟨2, ![8192, 1024]⟩
abbrev S1024x4224 : Shape := ⟨2, ![1024, 4224]⟩
abbrev S8192x4224 : Shape := ⟨2, ![8192, 4224]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x4224, .bf16⟩
  | .hbm, ⟨2, _⟩ => ⟨S8192x4224, .f32⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S1024x4224 : Shape := ⟨2, ![1024, 4224]⟩
abbrev S8192x4224 : Shape := ⟨2, ![8192, 4224]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4224, .bf16⟩
  | .hbm, ⟨2, _⟩ => ⟨S1024x4224, .f32⟩
  | .hbm, ⟨3, _⟩ => ⟨S8192x4224, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel6.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .f32⟩
  | .hbm, ⟨3, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x1024, .bf16⟩
  | .hbm, ⟨2, _⟩ => ⟨S8192x1024, .f32⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x256 : Shape := ⟨2, ![8192, 256]⟩
abbrev S256x1024 : Shape := ⟨2, ![256, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x1024, .bf16⟩
  | .hbm, ⟨2, _⟩ => ⟨S256x1024, .f32⟩
  | .hbm, ⟨3, _⟩ => ⟨S8192x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel12.lean ====
abbrev S8192x256 : Shape := ⟨2, ![8192, 256]⟩
abbrev S8192x1024 : Shape := ⟨2, ![8192, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S256x1024, .f32⟩
  | .local _ .vmem, ⟨0, _⟩ => ⟨S1024x256, .f32⟩
  | .local _ .vmem, ⟨1, _⟩ => ⟨S1024x256, .f32⟩
  | .local _ .vmem, ⟨2, _⟩ => ⟨S1024x1024, .f32⟩
  | .local _ .vmem, ⟨3, _⟩ => ⟨S1024x1024, .f32⟩
  | .local _ .vmem, ⟨4, _⟩ => ⟨S256x1024, .f32⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S1024x256, .f32⟩
  | .hbm, ⟨6, _⟩ => ⟨S256x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S8192x1024 : Shape := ⟨2, ![8192, 1024]⟩
abbrev S512x1024 : Shape := ⟨2, ![512, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S8192x1024 : Shape := ⟨2, ![8192, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel14.lean ====
abbrev S8192x1024 : Shape := ⟨2, ![8192, 1024]⟩
abbrev S8192x4224 : Shape := ⟨2, ![8192, 4224]⟩
abbrev S16x8192x1 : Shape := ⟨3, ![16, 8192, 1]⟩
abbrev S512x1024 : Shape := ⟨2, ![512, 1024]⟩
abbrev S16x512x1 : Shape := ⟨3, ![16, 512, 1]⟩
abbrev S512x128 : Shape := ⟨2, ![512, 128]⟩
abbrev S512 : Shape := ⟨1, ![512]⟩
abbrev S512x1 : Shape := ⟨2, ![512, 1]⟩
abbrev S1x512x1 : Shape := ⟨3, ![1, 512, 1]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x4224, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S16x8192x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S16x512x1, .f32⟩
  | .local _ .vmem, ⟨11, _⟩ => ⟨S16x512x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference14Ideal.lean ====
abbrev S8192x1024 : Shape := ⟨2, ![8192, 1024]⟩
abbrev S8192x4224 : Shape := ⟨2, ![8192, 4224]⟩
abbrev S_ : Shape := ⟨0, ![]⟩
abbrev S8192x16x64 : Shape := ⟨3, ![8192, 16, 64]⟩
abbrev S8192x16 : Shape := ⟨2, ![8192, 16]⟩
abbrev S16x8192 : Shape := ⟨2, ![16, 8192]⟩
abbrev S16x8192x1 : Shape := ⟨3, ![16, 8192, 1]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4224, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x16x64, .f32⟩
  | .hbm, ⟨26, _⟩ => ⟨S_, .f32⟩
  | .hbm, ⟨27, _⟩ => ⟨S8192x16, .f32⟩
  | .hbm, ⟨28, _⟩ => ⟨S16x8192, .f32⟩
  | .hbm, ⟨29, _⟩ => ⟨S16x8192x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v1_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v1_1 : Ref sig .tc := ⟨.hbm, 15, rfl⟩
abbrev main_v1_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Kernel15.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference15Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 84
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S8192x1, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S8192x1024, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192, .f32⟩
  | .hbm, ⟨82, _⟩ => ⟨S8192x1024, .f32⟩
  | .hbm, ⟨83, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_cst_11 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_14 : Ref sig .tc := ⟨.hbm, 77, rfl⟩
abbrev main_v57 : Ref sig .tc := ⟨.hbm, 78, rfl⟩
abbrev main_v58 : Ref sig .tc := ⟨.hbm, 79, rfl⟩
abbrev main_cst_15 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]
-- ==== Kernel16.lean ====
abbrev S8192x1024 : Shape := ⟨2, ![8192, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference16Ideal.lean ====
abbrev S8192x1024 : Shape := ⟨2, ![8192, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel17.lean ====
abbrev S8192x1024 : Shape := ⟨2, ![8192, 1024]⟩
abbrev S8192x4224 : Shape := ⟨2, ![8192, 4224]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x4224, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference17Ideal.lean ====
abbrev S8192x1024 : Shape := ⟨2, ![8192, 1024]⟩
abbrev S8192x4224 : Shape := ⟨2, ![8192, 4224]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4224, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩

abbrev nD : Nat := 1
abbrev τ : Topo := Topo.v7x

variable {F : FTy → Type} [FloatOps F]
-- ==== Kernel18.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference18Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel19.lean ====
abbrev S8192x1024 : Shape := ⟨2, ![8192, 1024]⟩
abbrev S8192x4224 : Shape := ⟨2, ![8192, 4224]⟩
abbrev S4x1024 : Shape := ⟨2, ![4, 1024]⟩
abbrev S8x1024 : Shape := ⟨2, ![8, 1024]⟩
abbrev S512x512 : Shape := ⟨2, ![512, 512]⟩
abbrev S8x512 : Shape := ⟨2, ![8, 512]⟩
abbrev S4x512 : Shape := ⟨2, ![4, 512]⟩
abbrev S520x512 : Shape := ⟨2, ![520, 512]⟩
abbrev S1x512 : Shape := ⟨2, ![1, 512]⟩
abbrev S512 : Shape := ⟨1, ![512]⟩

abbrev nBuf : Space → Nat
  | .hbm => 5
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x4224, .f32⟩
  | .hbm, ⟨2, _⟩ => ⟨S4x1024, .f32⟩
  | .hbm, ⟨3, _⟩ => ⟨S8192x1024, .f32⟩
  | .hbm, ⟨4, _⟩ => ⟨S8x1024, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S512x512, .f32⟩
  | .local _ .vmem, ⟨5, _⟩ => ⟨S512x512, .f32⟩
  | .local _ .vmem, ⟨6, _⟩ => ⟨S4x512, .f32⟩
  | .local _ .vmem, ⟨7, _⟩ => ⟨S4x512, .f32⟩
  | .local _ .vmem, ⟨8, _⟩ => ⟨S512x512, .f32⟩
  | .local _ .vmem, ⟨9, _⟩ => ⟨S512x512, .f32⟩
  | .local _ .vmem, ⟨10, _⟩ => ⟨S8x512, .f32⟩
  | .local _ .vmem, ⟨11, _⟩ => ⟨S8x512, .f32⟩
  | .local _ .vmem, ⟨12, _⟩ => ⟨S520x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference19Ideal.lean ====
abbrev S8192x1024 : Shape := ⟨2, ![8192, 1024]⟩
abbrev S8192x4224 : Shape := ⟨2, ![8192, 4224]⟩
abbrev S4x1024 : Shape := ⟨2, ![4, 1024]⟩
abbrev S_ : Shape := ⟨0, ![]⟩
abbrev S3x1024 : Shape := ⟨2, ![3, 1024]⟩
abbrev S8195x1024 : Shape := ⟨2, ![8195, 1024]⟩
abbrev S1x1024 : Shape := ⟨2, ![1, 1024]⟩
abbrev S1024 : Shape := ⟨1, ![1024]⟩
abbrev S8x1024 : Shape := ⟨2, ![8, 1024]⟩

abbrev nBuf : Space → Nat
  | .hbm => 84
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4224, .f32⟩
  | .hbm, ⟨2, _⟩ => ⟨S4x1024, .f32⟩
  | .hbm, ⟨3, _⟩ => ⟨S8192x1024, .f32⟩
  | .hbm, ⟨4, _⟩ => ⟨S_, .f32⟩
  | .hbm, ⟨5, _⟩ => ⟨S3x1024, .f32⟩
  | .hbm, ⟨6, _⟩ => ⟨S8195x1024, .f32⟩
  | .hbm, ⟨7, _⟩ => ⟨S_, .f32⟩
  | .hbm, ⟨8, _⟩ => ⟨S3x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S_, .f32⟩
  | .hbm, ⟨40, _⟩ => ⟨S8195x1024, .f32⟩
  | .hbm, ⟨41, _⟩ => ⟨S_, .f32⟩
  | .hbm, ⟨42, _⟩ => ⟨S4x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S_, .f32⟩
  | .hbm, ⟨50, _⟩ => ⟨S8195x1024, .f32⟩
  | .hbm, ⟨51, _⟩ => ⟨S8195x1024, .f32⟩
  | .hbm, ⟨52, _⟩ => ⟨S_, .f32⟩
  | .hbm, ⟨53, _⟩ => ⟨S4x1024, .f32⟩
  | .hbm, ⟨54, _⟩ => ⟨S4x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S_, .f32⟩
  | .hbm, ⟨62, _⟩ => ⟨S8195x1024, .f32⟩
  | .hbm, ⟨63, _⟩ => ⟨S8195x1024, .f32⟩
  | .hbm, ⟨64, _⟩ => ⟨S_, .f32⟩
  | .hbm, ⟨65, _⟩ => ⟨S4x1024, .f32⟩
  | .hbm, ⟨66, _⟩ => ⟨S4x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S_, .f32⟩
  | .hbm, ⟨74, _⟩ => ⟨S8195x1024, .f32⟩
  | .hbm, ⟨75, _⟩ => ⟨S8195x1024, .f32⟩
  | .hbm, ⟨76, _⟩ => ⟨S_, .f32⟩
  | .hbm, ⟨77, _⟩ => ⟨S4x1024, .f32⟩
  | .hbm, ⟨78, _⟩ => ⟨S4x1024, .f32⟩
  | .hbm, ⟨79, _⟩ => ⟨S3x1024, .f32⟩
  | .hbm, ⟨80, _⟩ => ⟨S8192x1024, .f32⟩
  | .hbm, ⟨81, _⟩ => ⟨S_, .i32⟩
  | .hbm, ⟨82, _⟩ => ⟨S_, .f32⟩
  | .hbm, ⟨83, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_8 : Ref sig .tc := ⟨.hbm, 58, rfl⟩
abbrev main_v46 : Ref sig .tc := ⟨.hbm, 59, rfl⟩
abbrev main_v47 : Ref sig .tc := ⟨.hbm, 60, rfl⟩
abbrev main_cst_9 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_cst_12 : Ref sig .tc := ⟨.hbm, 73, rfl⟩
abbrev main_v57 : Ref sig .tc := ⟨.hbm, 74, rfl⟩
abbrev main_v58 : Ref sig .tc := ⟨.hbm, 75, rfl⟩
abbrev main_cst_13 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_c : Ref sig .tc := ⟨.hbm, 81, rfl⟩
abbrev main_call0_v0 : Ref sig .tc := ⟨.hbm, 82, rfl⟩
abbrev main_v63 : Ref sig .tc := ⟨.hbm, 83, rfl⟩

abbrev nD : Nat := 1
abbrev τ : Topo := Topo.v7x

variable {F : FTy → Type} [FloatOps F]
-- ==== Kernel20.lean ====
abbrev S8192x4224 : Shape := ⟨2, ![8192, 4224]⟩
abbrev S4x3072 : Shape := ⟨2, ![4, 3072]⟩
abbrev S8192x3072 : Shape := ⟨2, ![8192, 3072]⟩
abbrev S512x512 : Shape := ⟨2, ![512, 512]⟩
abbrev S8x512 : Shape := ⟨2, ![8, 512]⟩
abbrev S4x512 : Shape := ⟨2, ![4, 512]⟩
abbrev S520x512 : Shape := ⟨2, ![520, 512]⟩
abbrev S1x512 : Shape := ⟨2, ![1, 512]⟩

abbrev nBuf : Space → Nat
  | .hbm => 3
  | .vmem => 9
  | .smem => 0
  | _ => 0

abbrev bufTy : (tb : Table) → Fin (tcTables nBuf tb) → BufTy
  | .hbm, ⟨0, _⟩ => ⟨S8192x4224, .f32⟩
  | .hbm, ⟨1, _⟩ => ⟨S4x3072, .f32⟩
  | .hbm, ⟨2, _⟩ => ⟨S8192x3072, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S4x512, .f32⟩
  | .local _ .vmem, ⟨5, _⟩ => ⟨S4x512, .f32⟩
  | .local _ .vmem, ⟨6, _⟩ => ⟨S512x512, .f32⟩
  | .local _ .vmem, ⟨7, _⟩ => ⟨S512x512, .f32⟩
  | .local _ .vmem, ⟨8, _⟩ => ⟨S520x512, .f32⟩
  | _, _ => ⟨S8192x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference20Ideal.lean ====
abbrev S8192x4224 : Shape := ⟨2, ![8192, 4224]⟩
abbrev S4x3072 : Shape := ⟨2, ![4, 3072]⟩
abbrev S8192x3072 : Shape := ⟨2, ![8192, 3072]⟩
abbrev S_ : Shape := ⟨0, ![]⟩
abbrev S3x3072 : Shape := ⟨2, ![3, 3072]⟩
abbrev S8195x3072 : Shape := ⟨2, ![8195, 3072]⟩
abbrev S1x3072 : Shape := ⟨2, ![1, 3072]⟩

abbrev nBuf : Space → Nat
  | .hbm => 28
  | .vmem => 0
  | .smem => 0
  | _ => 0

abbrev bufTy : (tb : Table) → Fin (tcTables nBuf tb) → BufTy
  | .hbm, ⟨0, _⟩ => ⟨S8192x4224, .f32⟩
  | .hbm, ⟨1, _⟩ => ⟨S4x3072, .f32⟩
  | .hbm, ⟨2, _⟩ => ⟨S8192x3072, .f32⟩
  | .hbm, ⟨3, _⟩ => ⟨S_, .f32⟩
  | .hbm, ⟨4, _⟩ => ⟨S3x3072, .f32⟩
  | .hbm, ⟨5, _⟩ => ⟨S8195x3072, .f32⟩
  | .hbm, ⟨6, _⟩ => ⟨S1x3072, .f32⟩
  | .hbm, ⟨7, _⟩ => ⟨S8192x3072, .f32⟩
  | .hbm, ⟨8, _⟩ => ⟨S8192x3072, .f32⟩
  | .hbm, ⟨9, _⟩ => ⟨S8192x3072, .f32⟩
  | .hbm, ⟨10, _⟩ => ⟨S_, .f32⟩
  | .hbm, ⟨11, _⟩ => ⟨S8192x3072, .f32⟩
  | .hbm, ⟨12, _⟩ => ⟨S8192x3072, .f32⟩
  | .hbm, ⟨13, _⟩ => ⟨S1x3072, .f32⟩
  | .hbm, ⟨14, _⟩ => ⟨S8192x3072, .f32⟩
  | .hbm, ⟨15, _⟩ => ⟨S8192x3072, .f32⟩
  | .hbm, ⟨16, _⟩ => ⟨S8192x3072, .f32⟩
  | .hbm, ⟨17, _⟩ => ⟨S8192x3072, .f32⟩
  | .hbm, ⟨18, _⟩ => ⟨S1x3072, .f32⟩
  | .hbm, ⟨19, _⟩ => ⟨S8192x3072, .f32⟩
  | .hbm, ⟨20, _⟩ => ⟨S8192x3072, .f32⟩
  | .hbm, ⟨21, _⟩ => ⟨S8192x3072, .f32⟩
  | .hbm, ⟨22, _⟩ => ⟨S8192x3072, .f32⟩
  | .hbm, ⟨23, _⟩ => ⟨S1x3072, .f32⟩
  | .hbm, ⟨24, _⟩ => ⟨S8192x3072, .f32⟩
  | .hbm, ⟨25, _⟩ => ⟨S8192x3072, .f32⟩
  | .hbm, ⟨26, _⟩ => ⟨S8192x3072, .f32⟩
  | .hbm, ⟨27, _⟩ => ⟨S8192x3072, .f32⟩
  | _, _ => ⟨S8192x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩

abbrev nD : Nat := 1
abbrev τ : Topo := Topo.v7x

variable {F : FTy → Type} [FloatOps F]
-- ==== Proof.Dq.Tables.lean ====
/- The two schedule tables of the query-side backward kernel, and what they decide at each of the
   1088 points of its grid: eight pairs of heads, and for each the 136 pairs (query block, key block)
   with the key block not after the query block, ordered by the query block. -/
module

public import proofs.«01_k».proof.Defs
public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Pipeline.FrameSuffix
public import Idealize.ShloMosaic.Lib.Pipeline.Value
public import Idealize.ShloMosaic.Lib.Claim
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.KernelIdeal.Dq

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The query block of position `n` of the schedule. -/
abbrev qt (n : Fin 136) : ℕ := (lit0 n).toNat
/-- The key block of position `n` of the schedule. -/
abbrev kt (n : Fin 136) : ℕ := (lit1 n).toNat

section
variable {F : FTy → Type} [FloatOps F] [Named F]

/-- The table of query blocks, as the program's constant holds it. -/
def tabQ : S136.Idx → Elt F .i32 := fun x => lit0 (S136.rowMajor x)
/-- The table of key blocks, as the program's constant holds it. -/
def tabK : S136.Idx → Elt F .i32 := fun x => lit1 (S136.rowMajor x)

set_option backward.proofsInPublic true in
/-- The contents of the two tables the region is entered with. -/
def tabs : pre0.Contents (Elt F) := fun | ⟨0, _⟩ => tabQ (F := F) | ⟨1, _⟩ => tabK (F := F) | ⟨_ + 2, h⟩ => absurd h (by simp)
end

/-! ## Every block lies inside its array -/

theorem inb0 : ∀ i : grid0.Coords, ∀ a, (cc0_transform_0 k0_off1_inb numel1_S1 (tabs (F := Ideal)) i a + 1) * S512x128.size a ≤ S8192x1024.size a := by decide +kernel
theorem inb1 : ∀ i : grid0.Coords, ∀ a, (cc0_transform_1 k0_off1_inb numel1_S1 (tabs (F := Ideal)) i a + 1) * S512x128.size a ≤ S8192x1024.size a := by decide +kernel
theorem inb2 : ∀ i : grid0.Coords, ∀ a, (cc0_transform_2 k0_off1_inb numel1_S1 (tabs (F := Ideal)) i a + 1) * S512x128.size a ≤ S8192x4224.size a := by decide +kernel
theorem inb3 : ∀ i : grid0.Coords, ∀ a, (cc0_transform_3 k0_off1_inb numel1_S1 (tabs (F := Ideal)) i a + 1) * S2x512x1.size a ≤ S16x8192x1.size a := by decide +kernel
theorem inb4 : ∀ i : grid0.Coords, ∀ a, (cc0_transform_4 k0_off1_inb numel1_S1 (tabs (F := Ideal)) i a + 1) * S2x1x512.size a ≤ S16x1x8192.size a := by decide +kernel
theorem inb5 : ∀ i : grid0.Coords, ∀ a, (cc0_transform_5 k0_off1_inb numel1_S1 (tabs (F := Ideal)) i a + 1) * S2x512x1.size a ≤ S16x8192x1.size a := by decide +kernel
theorem inb6 : ∀ i : grid0.Coords, ∀ a, (cc0_transform_6 k0_off1_inb numel1_S1 (tabs (F := Ideal)) i a + 1) * S2x512x1.size a ≤ S16x8192x1.size a := by decide +kernel
theorem inb7 : ∀ i : grid0.Coords, ∀ a, (cc0_transform_7 k0_off1_inb numel1_S1 (tabs (F := Ideal)) i a + 1) * S512x128.size a ≤ S8192x1024.size a := by decide +kernel
theorem inb8 : ∀ i : grid0.Coords, ∀ a, (cc0_transform_8 k0_off1_inb numel1_S1 (tabs (F := Ideal)) i a + 1) * S512x128.size a ≤ S8192x1024.size a := by decide +kernel
theorem inb9 : ∀ i : grid0.Coords, ∀ a, (cc0_transform_9 k0_off1_inb numel1_S1 (tabs (F := Ideal)) i a + 1) * S2x512x1.size a ≤ S16x8192x1.size a := by decide +kernel

section
variable {F : FTy → Type} [FloatOps F] [Named F]

/-- The tables admit the grid: every window's block lies inside its array and ends on whole words. -/
theorem ok_tabs : ok0 (F := F) (tabs (F := F)) :=
  ⟨fun i => ⟨inb0 i, .inr (Affine.block_words_dvd (s := S8192x1024) (p := EltTy.packing .bf16) (by decide) (by decide))⟩,
   fun i => ⟨inb1 i, .inr (Affine.block_words_dvd (s := S8192x1024) (p := EltTy.packing .bf16) (by decide) (by decide))⟩,
   fun i => ⟨inb2 i, .inl rfl⟩,
   fun i => ⟨inb3 i, .inl rfl⟩,
   fun i => ⟨inb4 i, .inl rfl⟩,
   fun i => ⟨inb5 i, .inl rfl⟩,
   fun i => ⟨inb6 i, .inl rfl⟩,
   fun i => ⟨inb7 i, .inl rfl⟩,
   fun i => ⟨inb8 i, .inl rfl⟩,
   fun i => ⟨inb9 i, .inl rfl⟩⟩

/-- The tables as admissible contents, and the pipeline at them. -/
def adm : (pcfg0 (F := F)).Adm := ⟨tabs, ok_tabs⟩
abbrev cfgA : Pipeline.Cfg sig Λ₀ := cfg0 (F := F) adm

/-- The coordinates of a point. -/
abbrev crd (t : Fin (cfgA (F := F)).N) : (cfgA (F := F)).grid.Coords := (cfgA (F := F)).grid.coords t

abbrev tbM0_0 : Memref sig .tc .smem S136 .i32 := Memref.whole main_c
abbrev tbM0_1 : Memref sig .tc .smem S136 .i32 := Memref.whole main_c_0

/-- The words the body reads of the two tables at a point. -/
abbrev wQ (i : grid0.Coords) : BitVec 32 :=
  View.readAt (Elt F) tbM0_0.view (Rect.unit (s := S136) (k0_off1 i) S1.size (k0_off1_inb i)).toLoadRect (tabQ (F := F)) (Shape.Idx.first (numel1_S1.symm ▸ Nat.one_pos))
abbrev wK (i : grid0.Coords) : BitVec 32 :=
  View.readAt (Elt F) tbM0_1.view (Rect.unit (s := S136) (k0_off1 i) S1.size (k0_off1_inb i)).toLoadRect (tabK (F := F)) (Shape.Idx.first (numel1_S1.symm ▸ Nat.one_pos))
end

/-- Whether an output holds nothing yet before position `n`: it starts a row of blocks. -/
def frT (n : ℕ) : Bool := decide (kt ⟨n % 136, Nat.mod_lt _ (by decide)⟩ = 0)

/-- What the grid decides at a point: its coordinates and blocks, the body's three conditions, and
    when the two outputs are written back. -/
abbrev PointFacts (t : Fin (cfgA (F := Ideal)).N) : Prop :=
  ((crd t) 0).val = t.val / 136 ∧ ((crd t) 1).val = t.val % 136
  ∧ (wQ (F := Ideal) (crd t)) = lit0 ⟨t.val % 136, Nat.mod_lt _ (by decide)⟩
  ∧ (wK (F := Ideal) (crd t)) = lit1 ⟨t.val % 136, Nat.mod_lt _ (by decide)⟩
  ∧ ((cfgA (F := Ideal)).win (8 : Fin 10)).flush t = decide (kt ⟨t.val % 136, Nat.mod_lt _ (by decide)⟩ = qt ⟨t.val % 136, Nat.mod_lt _ (by decide)⟩)
  ∧ ((cfgA (F := Ideal)).win (9 : Fin 10)).flush t = decide (kt ⟨t.val % 136, Nat.mod_lt _ (by decide)⟩ = qt ⟨t.val % 136, Nat.mod_lt _ (by decide)⟩)
  ∧ (cfgA (F := Ideal)).idle (8 : Fin 10) (crd t) = false
  ∧ (cfgA (F := Ideal)).idle (9 : Fin 10) (crd t) = false

theorem pointFacts_0 : ∀ t : Fin (cfgA (F := Ideal)).N, 0 ≤ t.val → t.val < 136 → PointFacts t := by decide +kernel
theorem pointFacts_1 : ∀ t : Fin (cfgA (F := Ideal)).N, 136 ≤ t.val → t.val < 272 → PointFacts t := by decide +kernel
theorem pointFacts_2 : ∀ t : Fin (cfgA (F := Ideal)).N, 272 ≤ t.val → t.val < 408 → PointFacts t := by decide +kernel
theorem pointFacts_3 : ∀ t : Fin (cfgA (F := Ideal)).N, 408 ≤ t.val → t.val < 544 → PointFacts t := by decide +kernel
theorem pointFacts_4 : ∀ t : Fin (cfgA (F := Ideal)).N, 544 ≤ t.val → t.val < 680 → PointFacts t := by decide +kernel
theorem pointFacts_5 : ∀ t : Fin (cfgA (F := Ideal)).N, 680 ≤ t.val → t.val < 816 → PointFacts t := by decide +kernel
theorem pointFacts_6 : ∀ t : Fin (cfgA (F := Ideal)).N, 816 ≤ t.val → t.val < 952 → PointFacts t := by decide +kernel
theorem pointFacts_7 : ∀ t : Fin (cfgA (F := Ideal)).N, 952 ≤ t.val → t.val < 1088 → PointFacts t := by decide +kernel

theorem pointFacts (t : Fin (cfgA (F := Ideal)).N) : PointFacts t := by
  rcases Nat.lt_or_ge t.val 136 with h1 | h1; · exact pointFacts_0 t (Nat.zero_le _) h1
  rcases Nat.lt_or_ge t.val 272 with h2 | h2; · exact pointFacts_1 t h1 h2
  rcases Nat.lt_or_ge t.val 408 with h3 | h3; · exact pointFacts_2 t h2 h3
  rcases Nat.lt_or_ge t.val 544 with h4 | h4; · exact pointFacts_3 t h3 h4
  rcases Nat.lt_or_ge t.val 680 with h5 | h5; · exact pointFacts_4 t h4 h5
  rcases Nat.lt_or_ge t.val 816 with h6 | h6; · exact pointFacts_5 t h5 h6
  rcases Nat.lt_or_ge t.val 952 with h7 | h7; · exact pointFacts_6 t h6 h7
  exact pointFacts_7 t h7 t.isLt

/-- The schedule: position `n` is the pair of blocks `(qt n, kt n)`, `kt n ≤ qt n < 16`, the pairs in
    order of the query block; the body's three conditions at it; and a row starts after a diagonal. -/
theorem schedFacts : ∀ n : Fin 136, kt n ≤ qt n ∧ qt n < 16 ∧ qt n * (qt n + 1) / 2 + kt n = n.val
    ∧ (k0_cond1 (lit1 n) = 1#1 ↔ kt n = 0)
    ∧ (k0_cond2 (lit0 n) (lit1 n) = 1#1 ↔ kt n < qt n)
    ∧ (k0_cond3 (lit0 n) (lit1 n) = 1#1 ↔ kt n = qt n)
    ∧ frT (n.val + 1) = decide (kt n = qt n) := by decide +kernel

end Cert.KernelIdeal.Dq

end
-- ==== Proof.Dq.Body.lean ====
/- One step of the query-side backward kernel, path by path: what it leaves in the two output blocks,
   as a function of the eight input blocks and of what the output blocks held before. -/
module

public import proofs.«01_k».proof.Proof.Dq.Tables
public import proofs.«01_k».proof.Defs
public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Pipeline.FrameSuffix
public import Idealize.ShloMosaic.Lib.Pipeline.Value
public import Idealize.ShloMosaic.Lib.Claim
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.KernelIdeal.Dq

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- The score gradients of a pair of blocks off the diagonal. -/
def dsOff (x0 : S512x128.Idx → Elt F .bf16) (x1 : S512x128.Idx → Elt F .bf16) (x2 : S512x128.Idx → Elt F .f32) (x3 : S2x512x1.Idx → Elt F .f32) (x4 : S2x1x512.Idx → Elt F .f32) (x5 : S2x512x1.Idx → Elt F .f32) (x6 : S2x512x1.Idx → Elt F .f32) (x7 : S512x128.Idx → Elt F .f32) : FVec F S2x512x512 .f32 :=
  k0_pay11 (k0_pay8 x2) (k0_pay9 x1 x0 x4) (k0_pay10 x3 x5) x7 x6
/-- The score gradients of a pair of blocks on the diagonal. -/
def dsDiag (x0 : S512x128.Idx → Elt F .bf16) (x1 : S512x128.Idx → Elt F .bf16) (x2 : S512x128.Idx → Elt F .f32) (x3 : S2x512x1.Idx → Elt F .f32) (x4 : S2x1x512.Idx → Elt F .f32) (x5 : S2x512x1.Idx → Elt F .f32) (x6 : S2x512x1.Idx → Elt F .f32) (x7 : S512x128.Idx → Elt F .f32) : FVec F S2x512x512 .f32 :=
  k0_pay17 (k0_pay15 x2) (k0_pay16 x1 x0 x4) x3 x5 x7 x6
/-- The query gradient after a block off the diagonal, from the one before (`p`). -/
def dqOff (x0 : S512x128.Idx → Elt F .bf16) (x1 : S512x128.Idx → Elt F .bf16) (x2 : S512x128.Idx → Elt F .f32) (x3 : S2x512x1.Idx → Elt F .f32) (x4 : S2x1x512.Idx → Elt F .f32) (x5 : S2x512x1.Idx → Elt F .f32) (x6 : S2x512x1.Idx → Elt F .f32) (x7 : S512x128.Idx → Elt F .f32) (p : S512x128.Idx → Elt F .f32) : S512x128.Idx → Elt F .f32 :=
  k0_pay3 (k0_pay12 (k0_pay7 x1)) (k0_pay13 (k0_pay8 x2) (k0_pay9 x1 x0 x4) (k0_pay10 x3 x5) x7 x6) (constant S2x512x128 .f32 0x00000000#32) p
/-- The query gradient after a block on the diagonal, from the one before (`p`). -/
def dqDiag (x0 : S512x128.Idx → Elt F .bf16) (x1 : S512x128.Idx → Elt F .bf16) (x2 : S512x128.Idx → Elt F .f32) (x3 : S2x512x1.Idx → Elt F .f32) (x4 : S2x1x512.Idx → Elt F .f32) (x5 : S2x512x1.Idx → Elt F .f32) (x6 : S2x512x1.Idx → Elt F .f32) (x7 : S512x128.Idx → Elt F .f32) (p : S512x128.Idx → Elt F .f32) : S512x128.Idx → Elt F .f32 :=
  k0_pay5 (k0_pay14 x1) (dsDiag x0 x1 x2 x3 x4 x5 x6 x7) k0_pay19 (k0_pay20 (k0_pay14 x1)) k0_pay21 p
/-- The row sums after a block off the diagonal, from the ones before (`p`). -/
def rsOff (x0 : S512x128.Idx → Elt F .bf16) (x1 : S512x128.Idx → Elt F .bf16) (x2 : S512x128.Idx → Elt F .f32) (x3 : S2x512x1.Idx → Elt F .f32) (x4 : S2x1x512.Idx → Elt F .f32) (x5 : S2x512x1.Idx → Elt F .f32) (x6 : S2x512x1.Idx → Elt F .f32) (x7 : S512x128.Idx → Elt F .f32) (p : S2x512x1.Idx → Elt F .f32) : S2x512x1.Idx → Elt F .f32 :=
  k0_pay4 (dsOff x0 x1 x2 x3 x4 x5 x6 x7) p
/-- The row sums after a block on the diagonal, from the ones before (`p`). -/
def rsDiag (x0 : S512x128.Idx → Elt F .bf16) (x1 : S512x128.Idx → Elt F .bf16) (x2 : S512x128.Idx → Elt F .f32) (x3 : S2x512x1.Idx → Elt F .f32) (x4 : S2x1x512.Idx → Elt F .f32) (x5 : S2x512x1.Idx → Elt F .f32) (x6 : S2x512x1.Idx → Elt F .f32) (x7 : S512x128.Idx → Elt F .f32) (p : S2x512x1.Idx → Elt F .f32) : S2x512x1.Idx → Elt F .f32 :=
  k0_pay6 (dsDiag x0 x1 x2 x3 x4 x5 x6 x7) p

theorem z2 : (![0, 0] : Fin 2 → ℕ) = fun _ => 0 := by funext a; fin_cases a <;> rfl
theorem z3 : (![0, 0, 0] : Fin 3 → ℕ) = fun _ => 0 := by funext a; fin_cases a <;> rfl

/-- The words the body reads of the tables at a point. -/
abbrev wordQ (T : S136.Idx → Elt F .i32) (i : grid0.Coords) : BitVec 32 :=
  View.readAt (Elt F) tbM0_0.view (Rect.unit (s := S136) (k0_off1 i) S1.size (k0_off1_inb i)).toLoadRect T (Shape.Idx.first (numel1_S1.symm ▸ Nat.one_pos))
abbrev wordK (T : S136.Idx → Elt F .i32) (i : grid0.Coords) : BitVec 32 :=
  View.readAt (Elt F) tbM0_1.view (Rect.unit (s := S136) (k0_off1 i) S1.size (k0_off1_inb i)).toLoadRect T (Shape.Idx.first (numel1_S1.symm ▸ Nat.one_pos))

/-- A buffer whose last store covers it holds that store's payload. -/
theorem owns_last {s : Shape} {e : EltTy} (c : Dev nD) (a : Memref sig .tc .vmem s e) (ha : a.IsWhole) (f)
    {off : Fin s.rank → ℕ} (h : off = fun _ => 0) (inb : ∀ k, off k + s.size k ≤ s.size k) (w : s.Idx → Elt F e) (L : List (View.Piece (Elt F) s e)) :
    a.view.read (Elt F) (a.view.writes (Elt F) f ((⟨Rect.unit off s.size inb, w⟩ : View.Piece (Elt F) s e) :: L)) = w := by
  rw [View.read_writes_eq_canon _ _ _ (fun y => ⟨_, List.mem_cons_self, View.mem_set_unit_zero h inb y⟩), View.canon_cons_unit_zero h inb]

/-- A whole load of a buffer held at `x` reads `x`. -/
theorem rd {s : Shape} {e : EltTy} {sp : Space} (v : View sig .tc sp s e) {off : Fin s.rank → ℕ} (h : off = fun _ => 0) (inb : ∀ k, off k + s.size k ≤ s.size k) (x : s.Idx → Elt F e) :
    View.readAt (Elt F) v (Rect.unit off s.size inb).toLoadRect (v.rep x) = x := by
  refine (View.readAt_eq_ld v _ (Rect.unit off s.size inb)).trans ?_
  rw [View.read_rep, View.ld_unit_zero h]

set_option maxHeartbeats 8000000 in
/-- The step at the first block of its row, on the diagonal: the inputs are kept and the two output blocks hold what the block adds to
    zero. -/
theorem body_A (c : Dev nD) (i : grid0.Coords) (arg4 : Memref sig .tc .vmem S512x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S2x512x1 .f32) (harg7 : arg7.IsWhole) (arg8 : Memref sig .tc .vmem S2x1x512 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S2x512x1 .f32) (harg13 : arg13.IsWhole)
    (T0 T1 : S136.Idx → Elt F .i32) (x0 : S512x128.Idx → Elt F .bf16) (x1 : S512x128.Idx → Elt F .bf16) (x2 : S512x128.Idx → Elt F .f32) (x3 : S2x512x1.Idx → Elt F .f32) (x4 : S2x1x512.Idx → Elt F .f32) (x5 : S2x512x1.Idx → Elt F .f32) (x6 : S2x512x1.Idx → Elt F .f32) (x7 : S512x128.Idx → Elt F .f32)
    (k0_h1 : k0_cond1 (wordK T1 i) = 1#1)
    (k0_h2 : ¬(k0_cond2 (wordQ T0 i) (wordK T1 i) = 1#1))
    (k0_h3 : k0_cond3 (wordQ T0 i) (wordK T1 i) = 1#1)
    (K : PUnit → sProp 𝕄) :
    iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (arg11.view.loc (c : Thread nD τ) ↦[arg11.view.set]{fullShare} arg11.view.rep x7)
          ∗ (tbM0_0.view.loc (c : Thread nD τ) ↦{fullShare.right} T0)
          ∗ (tbM0_1.view.loc (c : Thread nD τ) ↦{fullShare.right} T1)
          ∗ (∃ d, owns (c : Thread nD τ) arg12 fullShare d)
          ∗ (∃ d, owns (c : Thread nD τ) arg13 fullShare d)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (arg11.view.loc (c : Thread nD τ) ↦[arg11.view.set]{fullShare} arg11.view.rep x7)
          ∗ (tbM0_0.view.loc (c : Thread nD τ) ↦{fullShare.right} T0)
          ∗ (tbM0_1.view.loc (c : Thread nD τ) ↦{fullShare.right} T1)
          ∗ owns (c : Thread nD τ) arg12 fullShare (dqDiag x0 x1 x2 x3 x4 x5 x6 x7 k0_pay1)
          ∗ owns (c : Thread nD τ) arg13 fullShare (rsDiag x0 x1 x2 x3 x4 x5 x6 x7 k0_pay2)) -∗ K ⟨⟩))
      ⊢ wp frame (wpE (defs₀ (F := F)) Variants.none c none) Set.univ (cc0_flash_bwd_q i tbM0_0 (Memref.isWhole_whole _) tbM0_1 (Memref.isWhole_whole _) arg4 harg4 arg5 harg5 arg6 harg6 arg7 harg7 arg8 harg8 arg9 harg9 arg10 harg10 arg11 harg11 arg12 harg12 arg13 harg13) K := by
  unfold owns
  rw [cc0_flash_bwd_q_eq_skeleton]; unfold cc0_flash_bwd_q_skel
  iintro ⟨H0, H1, H2, H3, H4, H5, H6, H7, HT0, HT1, ⟨%d8, %f8, -, HO8⟩, ⟨%d9, %f9, -, HO9⟩, Hk⟩
  have hT0 : tbM0_0.IsWhole := Memref.isWhole_whole _
  have hT1 : tbM0_1.IsWhole := Memref.isWhole_whole _
  sl_exec! (disch := first | (guard_target = k0_cond1 _ = _; exact k0_h1) | (guard_target = ¬(k0_cond2 _ _ = _); exact k0_h2) | (guard_target = k0_cond3 _ _ = _; exact k0_h3))
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HT0]; · iexact HT0
  isplitl [HT1]; · iexact HT1
  isplitl [HO8]
  · iexists _
    isplitl []
    rotate_left
    · iexact HO8
    ipureintro
    refine (owns_last c arg12 harg12 _ z2 _ _ _).trans ?_
    conv_rhs => rw [← rd arg4.view z2 inb_S512x128_S512x128_0_0 x0, ← rd arg5.view z2 inb_S512x128_S512x128_0_0 x1, ← rd arg6.view z2 inb_S512x128_S512x128_0_0 x2, ← rd arg7.view z3 inb_S2x512x1_S2x512x1_0_0_0 x3, ← rd arg8.view z3 inb_S2x1x512_S2x1x512_0_0_0 x4, ← rd arg9.view z3 inb_S2x512x1_S2x512x1_0_0_0 x5, ← rd arg10.view z3 inb_S2x512x1_S2x512x1_0_0_0 x6, ← rd arg11.view z2 inb_S512x128_S512x128_0_0 x7, ← View.readCov_unit_zero (Val := Elt F) arg12.view z2 inb_S512x128_S512x128_0_0 (k0_pay1 (F := F))]
    rfl
  · iexists _
    isplitl []
    rotate_left
    · iexact HO9
    ipureintro
    refine (owns_last c arg13 harg13 _ z3 _ _ _).trans ?_
    conv_rhs => rw [← rd arg4.view z2 inb_S512x128_S512x128_0_0 x0, ← rd arg5.view z2 inb_S512x128_S512x128_0_0 x1, ← rd arg6.view z2 inb_S512x128_S512x128_0_0 x2, ← rd arg7.view z3 inb_S2x512x1_S2x512x1_0_0_0 x3, ← rd arg8.view z3 inb_S2x1x512_S2x1x512_0_0_0 x4, ← rd arg9.view z3 inb_S2x512x1_S2x512x1_0_0_0 x5, ← rd arg10.view z3 inb_S2x512x1_S2x512x1_0_0_0 x6, ← rd arg11.view z2 inb_S512x128_S512x128_0_0 x7, ← View.readCov_unit_zero (Val := Elt F) arg13.view z3 inb_S2x512x1_S2x512x1_0_0_0 (k0_pay2 (F := F))]
    rfl

set_option maxHeartbeats 8000000 in
/-- The step at the first block of its row, off the diagonal: the inputs are kept and the two output blocks hold what the block adds to
    zero. -/
theorem body_B (c : Dev nD) (i : grid0.Coords) (arg4 : Memref sig .tc .vmem S512x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S2x512x1 .f32) (harg7 : arg7.IsWhole) (arg8 : Memref sig .tc .vmem S2x1x512 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S2x512x1 .f32) (harg13 : arg13.IsWhole)
    (T0 T1 : S136.Idx → Elt F .i32) (x0 : S512x128.Idx → Elt F .bf16) (x1 : S512x128.Idx → Elt F .bf16) (x2 : S512x128.Idx → Elt F .f32) (x3 : S2x512x1.Idx → Elt F .f32) (x4 : S2x1x512.Idx → Elt F .f32) (x5 : S2x512x1.Idx → Elt F .f32) (x6 : S2x512x1.Idx → Elt F .f32) (x7 : S512x128.Idx → Elt F .f32)
    (k0_h1 : k0_cond1 (wordK T1 i) = 1#1)
    (k0_h2 : k0_cond2 (wordQ T0 i) (wordK T1 i) = 1#1)
    (k0_h3 : ¬(k0_cond3 (wordQ T0 i) (wordK T1 i) = 1#1))
    (K : PUnit → sProp 𝕄) :
    iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (arg11.view.loc (c : Thread nD τ) ↦[arg11.view.set]{fullShare} arg11.view.rep x7)
          ∗ (tbM0_0.view.loc (c : Thread nD τ) ↦{fullShare.right} T0)
          ∗ (tbM0_1.view.loc (c : Thread nD τ) ↦{fullShare.right} T1)
          ∗ (∃ d, owns (c : Thread nD τ) arg12 fullShare d)
          ∗ (∃ d, owns (c : Thread nD τ) arg13 fullShare d)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (arg11.view.loc (c : Thread nD τ) ↦[arg11.view.set]{fullShare} arg11.view.rep x7)
          ∗ (tbM0_0.view.loc (c : Thread nD τ) ↦{fullShare.right} T0)
          ∗ (tbM0_1.view.loc (c : Thread nD τ) ↦{fullShare.right} T1)
          ∗ owns (c : Thread nD τ) arg12 fullShare (dqOff x0 x1 x2 x3 x4 x5 x6 x7 k0_pay1)
          ∗ owns (c : Thread nD τ) arg13 fullShare (rsOff x0 x1 x2 x3 x4 x5 x6 x7 k0_pay2)) -∗ K ⟨⟩))
      ⊢ wp frame (wpE (defs₀ (F := F)) Variants.none c none) Set.univ (cc0_flash_bwd_q i tbM0_0 (Memref.isWhole_whole _) tbM0_1 (Memref.isWhole_whole _) arg4 harg4 arg5 harg5 arg6 harg6 arg7 harg7 arg8 harg8 arg9 harg9 arg10 harg10 arg11 harg11 arg12 harg12 arg13 harg13) K := by
  unfold owns
  rw [cc0_flash_bwd_q_eq_skeleton]; unfold cc0_flash_bwd_q_skel
  iintro ⟨H0, H1, H2, H3, H4, H5, H6, H7, HT0, HT1, ⟨%d8, %f8, -, HO8⟩, ⟨%d9, %f9, -, HO9⟩, Hk⟩
  have hT0 : tbM0_0.IsWhole := Memref.isWhole_whole _
  have hT1 : tbM0_1.IsWhole := Memref.isWhole_whole _
  sl_exec! (disch := first | (guard_target = k0_cond1 _ = _; exact k0_h1) | (guard_target = k0_cond2 _ _ = _; exact k0_h2) | (guard_target = ¬(k0_cond3 _ _ = _); exact k0_h3))
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HT0]; · iexact HT0
  isplitl [HT1]; · iexact HT1
  isplitl [HO8]
  · iexists _
    isplitl []
    rotate_left
    · iexact HO8
    ipureintro
    refine (owns_last c arg12 harg12 _ z2 _ _ _).trans ?_
    conv_rhs => rw [← rd arg4.view z2 inb_S512x128_S512x128_0_0 x0, ← rd arg5.view z2 inb_S512x128_S512x128_0_0 x1, ← rd arg6.view z2 inb_S512x128_S512x128_0_0 x2, ← rd arg7.view z3 inb_S2x512x1_S2x512x1_0_0_0 x3, ← rd arg8.view z3 inb_S2x1x512_S2x1x512_0_0_0 x4, ← rd arg9.view z3 inb_S2x512x1_S2x512x1_0_0_0 x5, ← rd arg10.view z3 inb_S2x512x1_S2x512x1_0_0_0 x6, ← rd arg11.view z2 inb_S512x128_S512x128_0_0 x7, ← View.readCov_unit_zero (Val := Elt F) arg12.view z2 inb_S512x128_S512x128_0_0 (k0_pay1 (F := F))]
    rfl
  · iexists _
    isplitl []
    rotate_left
    · iexact HO9
    ipureintro
    refine (owns_last c arg13 harg13 _ z3 _ _ _).trans ?_
    conv_rhs => rw [← rd arg4.view z2 inb_S512x128_S512x128_0_0 x0, ← rd arg5.view z2 inb_S512x128_S512x128_0_0 x1, ← rd arg6.view z2 inb_S512x128_S512x128_0_0 x2, ← rd arg7.view z3 inb_S2x512x1_S2x512x1_0_0_0 x3, ← rd arg8.view z3 inb_S2x1x512_S2x1x512_0_0_0 x4, ← rd arg9.view z3 inb_S2x512x1_S2x512x1_0_0_0 x5, ← rd arg10.view z3 inb_S2x512x1_S2x512x1_0_0_0 x6, ← rd arg11.view z2 inb_S512x128_S512x128_0_0 x7, ← View.readCov_unit_zero (Val := Elt F) arg13.view z3 inb_S2x512x1_S2x512x1_0_0_0 (k0_pay2 (F := F))]
    rfl

set_option maxHeartbeats 8000000 in
/-- The step at a later block, on the diagonal: the inputs are kept and the two output blocks hold what the block adds to
    what they held. -/
theorem body_C (c : Dev nD) (i : grid0.Coords) (arg4 : Memref sig .tc .vmem S512x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S2x512x1 .f32) (harg7 : arg7.IsWhole) (arg8 : Memref sig .tc .vmem S2x1x512 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S2x512x1 .f32) (harg13 : arg13.IsWhole)
    (T0 T1 : S136.Idx → Elt F .i32) (x0 : S512x128.Idx → Elt F .bf16) (x1 : S512x128.Idx → Elt F .bf16) (x2 : S512x128.Idx → Elt F .f32) (x3 : S2x512x1.Idx → Elt F .f32) (x4 : S2x1x512.Idx → Elt F .f32) (x5 : S2x512x1.Idx → Elt F .f32) (x6 : S2x512x1.Idx → Elt F .f32) (x7 : S512x128.Idx → Elt F .f32) (p8 : S512x128.Idx → Elt F .f32) (p9 : S2x512x1.Idx → Elt F .f32)
    (k0_h1 : ¬(k0_cond1 (wordK T1 i) = 1#1))
    (k0_h2 : ¬(k0_cond2 (wordQ T0 i) (wordK T1 i) = 1#1))
    (k0_h3 : k0_cond3 (wordQ T0 i) (wordK T1 i) = 1#1)
    (K : PUnit → sProp 𝕄) :
    iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (arg11.view.loc (c : Thread nD τ) ↦[arg11.view.set]{fullShare} arg11.view.rep x7)
          ∗ (tbM0_0.view.loc (c : Thread nD τ) ↦{fullShare.right} T0)
          ∗ (tbM0_1.view.loc (c : Thread nD τ) ↦{fullShare.right} T1)
          ∗ (arg12.view.loc (c : Thread nD τ) ↦[arg12.view.set]{fullShare} arg12.view.rep p8)
          ∗ (arg13.view.loc (c : Thread nD τ) ↦[arg13.view.set]{fullShare} arg13.view.rep p9)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (arg11.view.loc (c : Thread nD τ) ↦[arg11.view.set]{fullShare} arg11.view.rep x7)
          ∗ (tbM0_0.view.loc (c : Thread nD τ) ↦{fullShare.right} T0)
          ∗ (tbM0_1.view.loc (c : Thread nD τ) ↦{fullShare.right} T1)
          ∗ owns (c : Thread nD τ) arg12 fullShare (dqDiag x0 x1 x2 x3 x4 x5 x6 x7 p8)
          ∗ owns (c : Thread nD τ) arg13 fullShare (rsDiag x0 x1 x2 x3 x4 x5 x6 x7 p9)) -∗ K ⟨⟩))
      ⊢ wp frame (wpE (defs₀ (F := F)) Variants.none c none) Set.univ (cc0_flash_bwd_q i tbM0_0 (Memref.isWhole_whole _) tbM0_1 (Memref.isWhole_whole _) arg4 harg4 arg5 harg5 arg6 harg6 arg7 harg7 arg8 harg8 arg9 harg9 arg10 harg10 arg11 harg11 arg12 harg12 arg13 harg13) K := by
  unfold owns
  rw [cc0_flash_bwd_q_eq_skeleton]; unfold cc0_flash_bwd_q_skel
  iintro ⟨H0, H1, H2, H3, H4, H5, H6, H7, HT0, HT1, HO8, HO9, Hk⟩
  have hT0 : tbM0_0.IsWhole := Memref.isWhole_whole _
  have hT1 : tbM0_1.IsWhole := Memref.isWhole_whole _
  sl_exec! (disch := first | (guard_target = ¬(k0_cond1 _ = _); exact k0_h1) | (guard_target = ¬(k0_cond2 _ _ = _); exact k0_h2) | (guard_target = k0_cond3 _ _ = _; exact k0_h3))
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HT0]; · iexact HT0
  isplitl [HT1]; · iexact HT1
  isplitl [HO8]
  · iexists _
    isplitl []
    rotate_left
    · iexact HO8
    ipureintro
    refine (owns_last c arg12 harg12 _ z2 _ _ _).trans ?_
    conv_rhs => rw [← rd arg4.view z2 inb_S512x128_S512x128_0_0 x0, ← rd arg5.view z2 inb_S512x128_S512x128_0_0 x1, ← rd arg6.view z2 inb_S512x128_S512x128_0_0 x2, ← rd arg7.view z3 inb_S2x512x1_S2x512x1_0_0_0 x3, ← rd arg8.view z3 inb_S2x1x512_S2x1x512_0_0_0 x4, ← rd arg9.view z3 inb_S2x512x1_S2x512x1_0_0_0 x5, ← rd arg10.view z3 inb_S2x512x1_S2x512x1_0_0_0 x6, ← rd arg11.view z2 inb_S512x128_S512x128_0_0 x7, ← rd arg12.view z2 inb_S512x128_S512x128_0_0 p8]
    rfl
  · iexists _
    isplitl []
    rotate_left
    · iexact HO9
    ipureintro
    refine (owns_last c arg13 harg13 _ z3 _ _ _).trans ?_
    conv_rhs => rw [← rd arg4.view z2 inb_S512x128_S512x128_0_0 x0, ← rd arg5.view z2 inb_S512x128_S512x128_0_0 x1, ← rd arg6.view z2 inb_S512x128_S512x128_0_0 x2, ← rd arg7.view z3 inb_S2x512x1_S2x512x1_0_0_0 x3, ← rd arg8.view z3 inb_S2x1x512_S2x1x512_0_0_0 x4, ← rd arg9.view z3 inb_S2x512x1_S2x512x1_0_0_0 x5, ← rd arg10.view z3 inb_S2x512x1_S2x512x1_0_0_0 x6, ← rd arg11.view z2 inb_S512x128_S512x128_0_0 x7, ← rd arg13.view z3 inb_S2x512x1_S2x512x1_0_0_0 p9]
    rfl

set_option maxHeartbeats 8000000 in
/-- The step at a later block, off the diagonal: the inputs are kept and the two output blocks hold what the block adds to
    what they held. -/
theorem body_D (c : Dev nD) (i : grid0.Coords) (arg4 : Memref sig .tc .vmem S512x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S2x512x1 .f32) (harg7 : arg7.IsWhole) (arg8 : Memref sig .tc .vmem S2x1x512 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S2x512x1 .f32) (harg13 : arg13.IsWhole)
    (T0 T1 : S136.Idx → Elt F .i32) (x0 : S512x128.Idx → Elt F .bf16) (x1 : S512x128.Idx → Elt F .bf16) (x2 : S512x128.Idx → Elt F .f32) (x3 : S2x512x1.Idx → Elt F .f32) (x4 : S2x1x512.Idx → Elt F .f32) (x5 : S2x512x1.Idx → Elt F .f32) (x6 : S2x512x1.Idx → Elt F .f32) (x7 : S512x128.Idx → Elt F .f32) (p8 : S512x128.Idx → Elt F .f32) (p9 : S2x512x1.Idx → Elt F .f32)
    (k0_h1 : ¬(k0_cond1 (wordK T1 i) = 1#1))
    (k0_h2 : k0_cond2 (wordQ T0 i) (wordK T1 i) = 1#1)
    (k0_h3 : ¬(k0_cond3 (wordQ T0 i) (wordK T1 i) = 1#1))
    (K : PUnit → sProp 𝕄) :
    iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (arg11.view.loc (c : Thread nD τ) ↦[arg11.view.set]{fullShare} arg11.view.rep x7)
          ∗ (tbM0_0.view.loc (c : Thread nD τ) ↦{fullShare.right} T0)
          ∗ (tbM0_1.view.loc (c : Thread nD τ) ↦{fullShare.right} T1)
          ∗ (arg12.view.loc (c : Thread nD τ) ↦[arg12.view.set]{fullShare} arg12.view.rep p8)
          ∗ (arg13.view.loc (c : Thread nD τ) ↦[arg13.view.set]{fullShare} arg13.view.rep p9)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (arg11.view.loc (c : Thread nD τ) ↦[arg11.view.set]{fullShare} arg11.view.rep x7)
          ∗ (tbM0_0.view.loc (c : Thread nD τ) ↦{fullShare.right} T0)
          ∗ (tbM0_1.view.loc (c : Thread nD τ) ↦{fullShare.right} T1)
          ∗ owns (c : Thread nD τ) arg12 fullShare (dqOff x0 x1 x2 x3 x4 x5 x6 x7 p8)
          ∗ owns (c : Thread nD τ) arg13 fullShare (rsOff x0 x1 x2 x3 x4 x5 x6 x7 p9)) -∗ K ⟨⟩))
      ⊢ wp frame (wpE (defs₀ (F := F)) Variants.none c none) Set.univ (cc0_flash_bwd_q i tbM0_0 (Memref.isWhole_whole _) tbM0_1 (Memref.isWhole_whole _) arg4 harg4 arg5 harg5 arg6 harg6 arg7 harg7 arg8 harg8 arg9 harg9 arg10 harg10 arg11 harg11 arg12 harg12 arg13 harg13) K := by
  unfold owns
  rw [cc0_flash_bwd_q_eq_skeleton]; unfold cc0_flash_bwd_q_skel
  iintro ⟨H0, H1, H2, H3, H4, H5, H6, H7, HT0, HT1, HO8, HO9, Hk⟩
  have hT0 : tbM0_0.IsWhole := Memref.isWhole_whole _
  have hT1 : tbM0_1.IsWhole := Memref.isWhole_whole _
  sl_exec! (disch := first | (guard_target = ¬(k0_cond1 _ = _); exact k0_h1) | (guard_target = k0_cond2 _ _ = _; exact k0_h2) | (guard_target = ¬(k0_cond3 _ _ = _); exact k0_h3))
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HT0]; · iexact HT0
  isplitl [HT1]; · iexact HT1
  isplitl [HO8]
  · iexists _
    isplitl []
    rotate_left
    · iexact HO8
    ipureintro
    refine (owns_last c arg12 harg12 _ z2 _ _ _).trans ?_
    conv_rhs => rw [← rd arg4.view z2 inb_S512x128_S512x128_0_0 x0, ← rd arg5.view z2 inb_S512x128_S512x128_0_0 x1, ← rd arg6.view z2 inb_S512x128_S512x128_0_0 x2, ← rd arg7.view z3 inb_S2x512x1_S2x512x1_0_0_0 x3, ← rd arg8.view z3 inb_S2x1x512_S2x1x512_0_0_0 x4, ← rd arg9.view z3 inb_S2x512x1_S2x512x1_0_0_0 x5, ← rd arg10.view z3 inb_S2x512x1_S2x512x1_0_0_0 x6, ← rd arg11.view z2 inb_S512x128_S512x128_0_0 x7, ← rd arg12.view z2 inb_S512x128_S512x128_0_0 p8]
    rfl
  · iexists _
    isplitl []
    rotate_left
    · iexact HO9
    ipureintro
    refine (owns_last c arg13 harg13 _ z3 _ _ _).trans ?_
    conv_rhs => rw [← rd arg4.view z2 inb_S512x128_S512x128_0_0 x0, ← rd arg5.view z2 inb_S512x128_S512x128_0_0 x1, ← rd arg6.view z2 inb_S512x128_S512x128_0_0 x2, ← rd arg7.view z3 inb_S2x512x1_S2x512x1_0_0_0 x3, ← rd arg8.view z3 inb_S2x1x512_S2x1x512_0_0_0 x4, ← rd arg9.view z3 inb_S2x512x1_S2x512x1_0_0_0 x5, ← rd arg10.view z3 inb_S2x512x1_S2x512x1_0_0_0 x6, ← rd arg11.view z2 inb_S512x128_S512x128_0_0 x7, ← rd arg13.view z3 inb_S2x512x1_S2x512x1_0_0_0 p9]
    rfl

end Cert.KernelIdeal.Dq

end
-- ==== Proof.Dq.Run.lean ====
/- The run of the query-side backward kernel: what every output block holds at every point of the grid,
   and the launch, from the host lines before the region to the ones after it. -/
module

public import proofs.«01_k».proof.Proof.Dq.Body
public import proofs.«01_k».proof.Defs
public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Pipeline.FrameSuffix
public import Idealize.ShloMosaic.Lib.Pipeline.Value
public import Idealize.ShloMosaic.Lib.Claim
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.KernelIdeal.Dq

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## The grid's facts, over any float values -/

/-- The position of a point in the schedule. -/
abbrev pos (n : ℕ) : Fin 136 := ⟨n % 136, Nat.mod_lt _ (by decide)⟩

theorem fact_c0 (t : Fin (cfgA (F := F)).N) : ((crd t) 0).val = t.val / 136 := (pointFacts t).1
theorem fact_c1 (t : Fin (cfgA (F := F)).N) : ((crd t) 1).val = t.val % 136 := (pointFacts t).2.1
theorem fact_wQ (t : Fin (cfgA (F := F)).N) : wordQ (F := F) tabQ (crd t) = lit0 (pos t.val) := (pointFacts t).2.2.1
theorem fact_wK (t : Fin (cfgA (F := F)).N) : wordK (F := F) tabK (crd t) = lit1 (pos t.val) := (pointFacts t).2.2.2.1
theorem flush8 (t : Fin (cfgA (F := F)).N) : ((cfgA (F := F)).win (8 : Fin 10)).flush t = decide (kt (pos t.val) = qt (pos t.val)) := (pointFacts t).2.2.2.2.1
theorem flush9 (t : Fin (cfgA (F := F)).N) : ((cfgA (F := F)).win (9 : Fin 10)).flush t = decide (kt (pos t.val) = qt (pos t.val)) := (pointFacts t).2.2.2.2.2.1
theorem idle8 (t : Fin (cfgA (F := F)).N) : (cfgA (F := F)).idle (8 : Fin 10) (crd t) = false := (pointFacts t).2.2.2.2.2.2.1
theorem idle9 (t : Fin (cfgA (F := F)).N) : (cfgA (F := F)).idle (9 : Fin 10) (crd t) = false := (pointFacts t).2.2.2.2.2.2.2

theorem frT_step (n : ℕ) : frT (n + 1) = decide (kt (pos n) = qt (pos n)) := by
  rw [← (schedFacts (pos n)).2.2.2.2.2.2]; unfold frT
  exact congrArg (fun k : Fin 136 => decide (kt k = 0)) (Fin.ext (Nat.mod_add_mod n 136 1).symm)

/-- An output holds nothing yet exactly at the first block of a row. -/
theorem fresh8 (t : Fin (cfgA (F := F)).N) : (cfgA (F := F)).fresh (8 : Fin 10) t.val = decide (kt (pos t.val) = 0) :=
  Pipeline.Cfg.fresh_tab (cfgA (F := F)) (8 : Fin 10) frT (by decide)
    (fun t => by rw [flush8, idle8, frT_step]; simp) t.val (Nat.le_of_lt t.isLt)
theorem fresh9 (t : Fin (cfgA (F := F)).N) : (cfgA (F := F)).fresh (9 : Fin 10) t.val = decide (kt (pos t.val) = 0) :=
  Pipeline.Cfg.fresh_tab (cfgA (F := F)) (9 : Fin 10) frT (by decide)
    (fun t => by rw [flush9, idle9, frT_step]; simp) t.val (Nat.le_of_lt t.isLt)

/-! ## The trajectory -/

variable (m : (ℓ : Loc nD τ sig) → Buf (Elt F) ℓ) (ρ : Dev nD → PrngReg)

/-- The contents the region is entered with: the host lines before it run over the launch memory. -/
def V₀ (c : Dev nD) : Valuation τ sig (Elt F) := StableHlo.after [hostOps0 (F := F)].flatten (fun b => m (c, b))

/-- Window `w`'s block at a point, read off its array as the region finds it. -/
def iblk (c : Dev nD) (w : Fin (cfgA (F := F)).W) (t : Fin (cfgA (F := F)).N) : (((cfgA (F := F)).win w).xblock (crd t)).Idx → Elt F ((cfgA (F := F)).win w).elt :=
  (((cfgA (F := F)).win w).blk t).view.read (Elt F) (V₀ m c (Proc.devRef .tc (Pipeline.arrRef (cfgA (F := F)).spec w)))

/-- What the two output blocks hold. -/
abbrev Outs (F : FTy → Type) : Type := (S512x128.Idx → Elt F .f32) × (S2x512x1.Idx → Elt F .f32)

/-- What a point leaves in the output blocks, from what they held: the first block of a row starts from
    zero, the diagonal block is masked. -/
def step (c : Dev nD) (t : Fin (cfgA (F := F)).N) (prev : Outs F) : Outs F :=
  let p : Outs F := if kt (pos t.val) = 0 then (k0_pay1, k0_pay2) else prev
  if kt (pos t.val) = qt (pos t.val) then
    (dqDiag (iblk m c (0 : Fin 10) t) (iblk m c (1 : Fin 10) t) (iblk m c (2 : Fin 10) t) (iblk m c (3 : Fin 10) t) (iblk m c (4 : Fin 10) t) (iblk m c (5 : Fin 10) t) (iblk m c (6 : Fin 10) t) (iblk m c (7 : Fin 10) t) p.1, rsDiag (iblk m c (0 : Fin 10) t) (iblk m c (1 : Fin 10) t) (iblk m c (2 : Fin 10) t) (iblk m c (3 : Fin 10) t) (iblk m c (4 : Fin 10) t) (iblk m c (5 : Fin 10) t) (iblk m c (6 : Fin 10) t) (iblk m c (7 : Fin 10) t) p.2)
  else
    (dqOff (iblk m c (0 : Fin 10) t) (iblk m c (1 : Fin 10) t) (iblk m c (2 : Fin 10) t) (iblk m c (3 : Fin 10) t) (iblk m c (4 : Fin 10) t) (iblk m c (5 : Fin 10) t) (iblk m c (6 : Fin 10) t) (iblk m c (7 : Fin 10) t) p.1, rsOff (iblk m c (0 : Fin 10) t) (iblk m c (1 : Fin 10) t) (iblk m c (2 : Fin 10) t) (iblk m c (3 : Fin 10) t) (iblk m c (4 : Fin 10) t) (iblk m c (5 : Fin 10) t) (iblk m c (6 : Fin 10) t) (iblk m c (7 : Fin 10) t) p.2)

/-- What the output blocks hold after point `n`. -/
def traj (c : Dev nD) : (n : ℕ) → n < (cfgA (F := F)).N → Outs F
  | 0, h => step m c ⟨0, h⟩ (k0_pay1, k0_pay2)
  | n + 1, h => step m c ⟨n + 1, h⟩ (traj c n (Nat.lt_of_succ_lt h))

/-- What they held before point `t`. -/
def prev (c : Dev nD) (t : Fin (cfgA (F := F)).N) : Outs F :=
  if h : t.val = 0 then (k0_pay1, k0_pay2) else traj m c (t.val - 1) (by omega)

theorem traj_eq (c : Dev nD) (t : Fin (cfgA (F := F)).N) : traj m c t.val t.isLt = step m c t (prev m c t) := by
  obtain ⟨n, hn⟩ := t
  cases n with
  | zero => rfl
  | succ n => rfl

theorem step_A (c : Dev nD) (t : Fin (cfgA (F := F)).N) (p : Outs F) (h1 : kt (pos t.val) = 0) (h2 : kt (pos t.val) = qt (pos t.val)) :
    step m c t p = (dqDiag (iblk m c (0 : Fin 10) t) (iblk m c (1 : Fin 10) t) (iblk m c (2 : Fin 10) t) (iblk m c (3 : Fin 10) t) (iblk m c (4 : Fin 10) t) (iblk m c (5 : Fin 10) t) (iblk m c (6 : Fin 10) t) (iblk m c (7 : Fin 10) t) k0_pay1, rsDiag (iblk m c (0 : Fin 10) t) (iblk m c (1 : Fin 10) t) (iblk m c (2 : Fin 10) t) (iblk m c (3 : Fin 10) t) (iblk m c (4 : Fin 10) t) (iblk m c (5 : Fin 10) t) (iblk m c (6 : Fin 10) t) (iblk m c (7 : Fin 10) t) k0_pay2) := by
  unfold step; simp only [if_pos h1, if_pos h2]
theorem step_B (c : Dev nD) (t : Fin (cfgA (F := F)).N) (p : Outs F) (h1 : kt (pos t.val) = 0) (h2 : ¬kt (pos t.val) = qt (pos t.val)) :
    step m c t p = (dqOff (iblk m c (0 : Fin 10) t) (iblk m c (1 : Fin 10) t) (iblk m c (2 : Fin 10) t) (iblk m c (3 : Fin 10) t) (iblk m c (4 : Fin 10) t) (iblk m c (5 : Fin 10) t) (iblk m c (6 : Fin 10) t) (iblk m c (7 : Fin 10) t) k0_pay1, rsOff (iblk m c (0 : Fin 10) t) (iblk m c (1 : Fin 10) t) (iblk m c (2 : Fin 10) t) (iblk m c (3 : Fin 10) t) (iblk m c (4 : Fin 10) t) (iblk m c (5 : Fin 10) t) (iblk m c (6 : Fin 10) t) (iblk m c (7 : Fin 10) t) k0_pay2) := by
  unfold step; simp only [if_pos h1, if_neg h2]
theorem step_C (c : Dev nD) (t : Fin (cfgA (F := F)).N) (p : Outs F) (h1 : ¬kt (pos t.val) = 0) (h2 : kt (pos t.val) = qt (pos t.val)) :
    step m c t p = (dqDiag (iblk m c (0 : Fin 10) t) (iblk m c (1 : Fin 10) t) (iblk m c (2 : Fin 10) t) (iblk m c (3 : Fin 10) t) (iblk m c (4 : Fin 10) t) (iblk m c (5 : Fin 10) t) (iblk m c (6 : Fin 10) t) (iblk m c (7 : Fin 10) t) p.1, rsDiag (iblk m c (0 : Fin 10) t) (iblk m c (1 : Fin 10) t) (iblk m c (2 : Fin 10) t) (iblk m c (3 : Fin 10) t) (iblk m c (4 : Fin 10) t) (iblk m c (5 : Fin 10) t) (iblk m c (6 : Fin 10) t) (iblk m c (7 : Fin 10) t) p.2) := by
  unfold step; simp only [if_neg h1, if_pos h2]
theorem step_D (c : Dev nD) (t : Fin (cfgA (F := F)).N) (p : Outs F) (h1 : ¬kt (pos t.val) = 0) (h2 : ¬kt (pos t.val) = qt (pos t.val)) :
    step m c t p = (dqOff (iblk m c (0 : Fin 10) t) (iblk m c (1 : Fin 10) t) (iblk m c (2 : Fin 10) t) (iblk m c (3 : Fin 10) t) (iblk m c (4 : Fin 10) t) (iblk m c (5 : Fin 10) t) (iblk m c (6 : Fin 10) t) (iblk m c (7 : Fin 10) t) p.1, rsOff (iblk m c (0 : Fin 10) t) (iblk m c (1 : Fin 10) t) (iblk m c (2 : Fin 10) t) (iblk m c (3 : Fin 10) t) (iblk m c (4 : Fin 10) t) (iblk m c (5 : Fin 10) t) (iblk m c (6 : Fin 10) t) (iblk m c (7 : Fin 10) t) p.2) := by
  unfold step; simp only [if_neg h1, if_neg h2]

/-! ## The pipeline's proof data -/

/-- The proof data of the one pipeline on a core: the inputs keep their blocks, the outputs follow the
    trajectory. -/
def dats (_ : Fin 1) (c : Dev nD) : Dat τ (Elt F) Unit ℕ (UR sig nD τ) ℕ (cfgA (F := F)) c where
  A w := V₀ m c (Proc.devRef .tc (Pipeline.arrRef (cfgA (F := F)).spec w))
  after w t := match w with
    | ⟨0, _⟩ => iblk m c (0 : Fin 10) t
    | ⟨1, _⟩ => iblk m c (1 : Fin 10) t
    | ⟨2, _⟩ => iblk m c (2 : Fin 10) t
    | ⟨3, _⟩ => iblk m c (3 : Fin 10) t
    | ⟨4, _⟩ => iblk m c (4 : Fin 10) t
    | ⟨5, _⟩ => iblk m c (5 : Fin 10) t
    | ⟨6, _⟩ => iblk m c (6 : Fin 10) t
    | ⟨7, _⟩ => iblk m c (7 : Fin 10) t
    | ⟨8, _⟩ => (traj m c t.val t.isLt).1
    | ⟨9, _⟩ => (traj m c t.val t.isLt).2
  Φ _ := iprop(Pipeline.ΦA (cfgA (F := F)).spec c ∗ Pipeline.ΦT pre0 (adm (F := F)).1 c)
  q _ := fullShare
  owed _ := 0

theorem before0 (c : Dev nD) (t : Fin (cfgA (F := F)).N) (d) : (dats m 0 c).before (0 : Fin 10) t d = iblk m c (0 : Fin 10) t :=
  ((dats m 0 c).before_in_eq_fetched (0 : Fin 10) rfl (fun _ => rfl) (fun _ _ _ => rfl) (fun t => by
    rw [show (dats m 0 c).after (0 : Fin 10) t = iblk m c (0 : Fin 10) t from rfl]; unfold Dat.blockOf iblk; rfl) t d).trans
    (by unfold Dat.fetched Dat.blockOf iblk; rfl)
theorem before1 (c : Dev nD) (t : Fin (cfgA (F := F)).N) (d) : (dats m 0 c).before (1 : Fin 10) t d = iblk m c (1 : Fin 10) t :=
  ((dats m 0 c).before_in_eq_fetched (1 : Fin 10) rfl (fun _ => rfl) (fun _ _ _ => rfl) (fun t => by
    rw [show (dats m 0 c).after (1 : Fin 10) t = iblk m c (1 : Fin 10) t from rfl]; unfold Dat.blockOf iblk; rfl) t d).trans
    (by unfold Dat.fetched Dat.blockOf iblk; rfl)
theorem before2 (c : Dev nD) (t : Fin (cfgA (F := F)).N) (d) : (dats m 0 c).before (2 : Fin 10) t d = iblk m c (2 : Fin 10) t :=
  ((dats m 0 c).before_in_eq_fetched (2 : Fin 10) rfl (fun _ => rfl) (fun _ _ _ => rfl) (fun t => by
    rw [show (dats m 0 c).after (2 : Fin 10) t = iblk m c (2 : Fin 10) t from rfl]; unfold Dat.blockOf iblk; rfl) t d).trans
    (by unfold Dat.fetched Dat.blockOf iblk; rfl)
theorem before3 (c : Dev nD) (t : Fin (cfgA (F := F)).N) (d) : (dats m 0 c).before (3 : Fin 10) t d = iblk m c (3 : Fin 10) t :=
  ((dats m 0 c).before_in_eq_fetched (3 : Fin 10) rfl (fun _ => rfl) (fun _ _ _ => rfl) (fun t => by
    rw [show (dats m 0 c).after (3 : Fin 10) t = iblk m c (3 : Fin 10) t from rfl]; unfold Dat.blockOf iblk; rfl) t d).trans
    (by unfold Dat.fetched Dat.blockOf iblk; rfl)
theorem before4 (c : Dev nD) (t : Fin (cfgA (F := F)).N) (d) : (dats m 0 c).before (4 : Fin 10) t d = iblk m c (4 : Fin 10) t :=
  ((dats m 0 c).before_in_eq_fetched (4 : Fin 10) rfl (fun _ => rfl) (fun _ _ _ => rfl) (fun t => by
    rw [show (dats m 0 c).after (4 : Fin 10) t = iblk m c (4 : Fin 10) t from rfl]; unfold Dat.blockOf iblk; rfl) t d).trans
    (by unfold Dat.fetched Dat.blockOf iblk; rfl)
theorem before5 (c : Dev nD) (t : Fin (cfgA (F := F)).N) (d) : (dats m 0 c).before (5 : Fin 10) t d = iblk m c (5 : Fin 10) t :=
  ((dats m 0 c).before_in_eq_fetched (5 : Fin 10) rfl (fun _ => rfl) (fun _ _ _ => rfl) (fun t => by
    rw [show (dats m 0 c).after (5 : Fin 10) t = iblk m c (5 : Fin 10) t from rfl]; unfold Dat.blockOf iblk; rfl) t d).trans
    (by unfold Dat.fetched Dat.blockOf iblk; rfl)
theorem before6 (c : Dev nD) (t : Fin (cfgA (F := F)).N) (d) : (dats m 0 c).before (6 : Fin 10) t d = iblk m c (6 : Fin 10) t :=
  ((dats m 0 c).before_in_eq_fetched (6 : Fin 10) rfl (fun _ => rfl) (fun _ _ _ => rfl) (fun t => by
    rw [show (dats m 0 c).after (6 : Fin 10) t = iblk m c (6 : Fin 10) t from rfl]; unfold Dat.blockOf iblk; rfl) t d).trans
    (by unfold Dat.fetched Dat.blockOf iblk; rfl)
theorem before7 (c : Dev nD) (t : Fin (cfgA (F := F)).N) (d) : (dats m 0 c).before (7 : Fin 10) t d = iblk m c (7 : Fin 10) t :=
  ((dats m 0 c).before_in_eq_fetched (7 : Fin 10) rfl (fun _ => rfl) (fun _ _ _ => rfl) (fun t => by
    rw [show (dats m 0 c).after (7 : Fin 10) t = iblk m c (7 : Fin 10) t from rfl]; unfold Dat.blockOf iblk; rfl) t d).trans
    (by unfold Dat.fetched Dat.blockOf iblk; rfl)

theorem before8 (c : Dev nD) (t : Fin (cfgA (F := F)).N) (d) :
    (dats m 0 c).before (8 : Fin 10) t d = if kt (pos t.val) = 0 then d else (prev m c t).1 := by
  rw [(dats m 0 c).before_out_traj (8 : Fin 10) rfl (fun _ _ => rfl)
    (fun t _ hi _ => absurd ((idle8 t).symm.trans hi) (by decide)) t.val t rfl d, fresh8]
  by_cases hf : kt (pos t.val) = 0
  · simp only [hf, decide_true, ↓reduceIte]
  · have h0 : t.val ≠ 0 := fun h0 => hf (by rw [h0]; decide)
    simp only [hf, decide_false, Bool.false_eq_true, ↓reduceIte]
    unfold prev; rw [dif_neg h0]; rfl

theorem before9 (c : Dev nD) (t : Fin (cfgA (F := F)).N) (d) :
    (dats m 0 c).before (9 : Fin 10) t d = if kt (pos t.val) = 0 then d else (prev m c t).2 := by
  rw [(dats m 0 c).before_out_traj (9 : Fin 10) rfl (fun _ _ => rfl)
    (fun t _ hi _ => absurd ((idle9 t).symm.trans hi) (by decide)) t.val t rfl d, fresh9]
  by_cases hf : kt (pos t.val) = 0
  · simp only [hf, decide_true, ↓reduceIte]
  · have h0 : t.val ≠ 0 := fun h0 => hf (by rw [h0]; decide)
    simp only [hf, decide_false, Bool.false_eq_true, ↓reduceIte]
    unfold prev; rw [dif_neg h0]; rfl

/-! ## The body obligation -/

abbrev ms0 (t : Fin (cfgA (F := F)).N) : Memref sig .tc .vmem S512x128 .bf16 := spec0_0.stage ((cfgA (F := F)).slots t (0 : Fin 10))
theorem hs0 (t : Fin (cfgA (F := F)).N) : (ms0 t).IsWhole := hstage0_0 (((cfgA (F := F)).slots t (0 : Fin 10)).cast nbuf0_0)
abbrev ms1 (t : Fin (cfgA (F := F)).N) : Memref sig .tc .vmem S512x128 .bf16 := spec0_1.stage ((cfgA (F := F)).slots t (1 : Fin 10))
theorem hs1 (t : Fin (cfgA (F := F)).N) : (ms1 t).IsWhole := hstage0_1 (((cfgA (F := F)).slots t (1 : Fin 10)).cast nbuf0_1)
abbrev ms2 (t : Fin (cfgA (F := F)).N) : Memref sig .tc .vmem S512x128 .f32 := spec0_2.stage ((cfgA (F := F)).slots t (2 : Fin 10))
theorem hs2 (t : Fin (cfgA (F := F)).N) : (ms2 t).IsWhole := hstage0_2 (((cfgA (F := F)).slots t (2 : Fin 10)).cast nbuf0_2)
abbrev ms3 (t : Fin (cfgA (F := F)).N) : Memref sig .tc .vmem S2x512x1 .f32 := spec0_3.stage ((cfgA (F := F)).slots t (3 : Fin 10))
theorem hs3 (t : Fin (cfgA (F := F)).N) : (ms3 t).IsWhole := hstage0_3 (((cfgA (F := F)).slots t (3 : Fin 10)).cast nbuf0_3)
abbrev ms4 (t : Fin (cfgA (F := F)).N) : Memref sig .tc .vmem S2x1x512 .f32 := spec0_4.stage ((cfgA (F := F)).slots t (4 : Fin 10))
theorem hs4 (t : Fin (cfgA (F := F)).N) : (ms4 t).IsWhole := hstage0_4 (((cfgA (F := F)).slots t (4 : Fin 10)).cast nbuf0_4)
abbrev ms5 (t : Fin (cfgA (F := F)).N) : Memref sig .tc .vmem S2x512x1 .f32 := spec0_5.stage ((cfgA (F := F)).slots t (5 : Fin 10))
theorem hs5 (t : Fin (cfgA (F := F)).N) : (ms5 t).IsWhole := hstage0_5 (((cfgA (F := F)).slots t (5 : Fin 10)).cast nbuf0_5)
abbrev ms6 (t : Fin (cfgA (F := F)).N) : Memref sig .tc .vmem S2x512x1 .f32 := spec0_6.stage ((cfgA (F := F)).slots t (6 : Fin 10))
theorem hs6 (t : Fin (cfgA (F := F)).N) : (ms6 t).IsWhole := hstage0_6 (((cfgA (F := F)).slots t (6 : Fin 10)).cast nbuf0_6)
abbrev ms7 (t : Fin (cfgA (F := F)).N) : Memref sig .tc .vmem S512x128 .f32 := spec0_7.stage ((cfgA (F := F)).slots t (7 : Fin 10))
theorem hs7 (t : Fin (cfgA (F := F)).N) : (ms7 t).IsWhole := hstage0_7 (((cfgA (F := F)).slots t (7 : Fin 10)).cast nbuf0_7)
abbrev ms8 (t : Fin (cfgA (F := F)).N) : Memref sig .tc .vmem S512x128 .f32 := spec0_8.stage ((cfgA (F := F)).slots t (8 : Fin 10))
theorem hs8 (t : Fin (cfgA (F := F)).N) : (ms8 t).IsWhole := hstage0_8 (((cfgA (F := F)).slots t (8 : Fin 10)).cast nbuf0_8)
abbrev ms9 (t : Fin (cfgA (F := F)).N) : Memref sig .tc .vmem S2x512x1 .f32 := spec0_9.stage ((cfgA (F := F)).slots t (9 : Fin 10))
theorem hs9 (t : Fin (cfgA (F := F)).N) : (ms9 t).IsWhole := hstage0_9 (((cfgA (F := F)).slots t (9 : Fin 10)).cast nbuf0_9)

/-- The invariant: the two tables at half the share, and the machine's random register. -/
theorem inv_eq (c : Dev nD) :
    (iprop(Pipeline.ΦA (cfgA (F := F)).spec c ∗ Pipeline.ΦT pre0 (adm (F := F)).1 c) : sProp 𝕄)
      = iprop((BI.emp ∗ ∃ r, prngReg c r) ∗ (tbM0_0.view.loc (c : Thread nD τ) ↦{fullShare.right} tabQ (F := F)) ∗ (tbM0_1.view.loc (c : Thread nD τ) ↦{fullShare.right} tabK (F := F))) := by
  unfold Pipeline.ΦA Pipeline.ΦT Pipeline.prefHeld
  rw [show (Finset.univ : Finset (Fin 2)) = insert (0 : Fin 2) {(1 : Fin 2)} from by decide,
    bigSep_insert (by decide), bigSep_singleton]
  rw [show (Pipeline.scopedRest (cfgA (F := F)).spec c : sProp 𝕄) = BI.emp from scopedRest0_eq c]
  rfl

set_option maxHeartbeats 6400000 in
/-- The body at a point: from the blocks the pipeline hands it, it leaves what the trajectory says. -/
theorem sound_body (c : Dev nD) (t : Fin (cfgA (F := F)).N) :
    iprop((dats m 0 c).Φ t.castSucc ∗ (dats m 0 c).owesAt () t.castSucc
        ∗ (∃ d, owns (c : Thread nD τ) (ms0 t) fullShare ((dats m 0 c).before (0 : Fin 10) t d))
        ∗ (∃ d, owns (c : Thread nD τ) (ms1 t) fullShare ((dats m 0 c).before (1 : Fin 10) t d))
        ∗ (∃ d, owns (c : Thread nD τ) (ms2 t) fullShare ((dats m 0 c).before (2 : Fin 10) t d))
        ∗ (∃ d, owns (c : Thread nD τ) (ms3 t) fullShare ((dats m 0 c).before (3 : Fin 10) t d))
        ∗ (∃ d, owns (c : Thread nD τ) (ms4 t) fullShare ((dats m 0 c).before (4 : Fin 10) t d))
        ∗ (∃ d, owns (c : Thread nD τ) (ms5 t) fullShare ((dats m 0 c).before (5 : Fin 10) t d))
        ∗ (∃ d, owns (c : Thread nD τ) (ms6 t) fullShare ((dats m 0 c).before (6 : Fin 10) t d))
        ∗ (∃ d, owns (c : Thread nD τ) (ms7 t) fullShare ((dats m 0 c).before (7 : Fin 10) t d))
        ∗ (∃ d, owns (c : Thread nD τ) (ms8 t) fullShare ((dats m 0 c).before (8 : Fin 10) t d))
        ∗ (∃ d, owns (c : Thread nD τ) (ms9 t) fullShare ((dats m 0 c).before (9 : Fin 10) t d)))
      ⊢ wp frame (wpE (defs₀ (F := F)) Variants.none c none) Set.univ (cc0_flash_bwd_q (crd t) tbM0_0 (Memref.isWhole_whole _) tbM0_1 (Memref.isWhole_whole _) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t)) fun _ =>
          iprop((dats m 0 c).Φ t.succ ∗ (dats m 0 c).owesAt () t.succ
            ∗ owns (c : Thread nD τ) (ms0 t) fullShare (iblk m c (0 : Fin 10) t)
            ∗ owns (c : Thread nD τ) (ms1 t) fullShare (iblk m c (1 : Fin 10) t)
            ∗ owns (c : Thread nD τ) (ms2 t) fullShare (iblk m c (2 : Fin 10) t)
            ∗ owns (c : Thread nD τ) (ms3 t) fullShare (iblk m c (3 : Fin 10) t)
            ∗ owns (c : Thread nD τ) (ms4 t) fullShare (iblk m c (4 : Fin 10) t)
            ∗ owns (c : Thread nD τ) (ms5 t) fullShare (iblk m c (5 : Fin 10) t)
            ∗ owns (c : Thread nD τ) (ms6 t) fullShare (iblk m c (6 : Fin 10) t)
            ∗ owns (c : Thread nD τ) (ms7 t) fullShare (iblk m c (7 : Fin 10) t)
            ∗ owns (c : Thread nD τ) (ms8 t) fullShare ((dats m 0 c).after (8 : Fin 10) t)
            ∗ owns (c : Thread nD τ) (ms9 t) fullShare ((dats m 0 c).after (9 : Fin 10) t)) := by
  rw [show (dats m 0 c).after (8 : Fin 10) t = (step m c t (prev m c t)).1 from congrArg Prod.fst (traj_eq m c t),
    show (dats m 0 c).after (9 : Fin 10) t = (step m c t (prev m c t)).2 from congrArg Prod.snd (traj_eq m c t)]
  rw [show (dats m 0 c).Φ t.castSucc = _ from inv_eq c, show (dats m 0 c).Φ t.succ = _ from inv_eq c,
    show (dats m 0 c).owesAt () t.succ = (dats m 0 c).owesAt () t.castSucc from rfl]
  simp only [before0, before1, before2, before3, before4, before5, before6, before7, before8, before9]
  have S := schedFacts (pos t.val)
  have hc1 := S.2.2.2.1; have hc2 := S.2.2.2.2.1; have hc3 := S.2.2.2.2.2.1; have hle := S.1
  rw [← fact_wK (F := F) t] at hc1; rw [← fact_wQ (F := F) t, ← fact_wK (F := F) t] at hc2 hc3
  by_cases h1 : kt (pos t.val) = 0
  · by_cases h2 : kt (pos t.val) = qt (pos t.val)
    · rw [step_A m c t _ h1 h2]
      simp only [h1, ↓reduceIte]
      iintro ⟨⟨Hr, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (body_A c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) tabQ tabK (iblk m c (0 : Fin 10) t) (iblk m c (1 : Fin 10) t) (iblk m c (2 : Fin 10) t) (iblk m c (3 : Fin 10) t) (iblk m c (4 : Fin 10) t) (iblk m c (5 : Fin 10) t) (iblk m c (6 : Fin 10) t) (iblk m c (7 : Fin 10) t)  (hc1.mpr h1) (fun h => absurd (hc2.mp h) (by omega)) (hc3.mpr h2))
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [H7]; · iapply rep_of_owns; iexact H7
      isplitl [HT0]; · iexact HT0
      isplitl [HT1]; · iexact HT1
      isplitl [H8]; · iexists _; iexact H8
      isplitl [H9]; · iexists _; iexact H9
      iintro ⟨H0, H1, H2, H3, H4, H5, H6, H7, HT0, HT1, H8, H9⟩
      isplitl [Hr HT0 HT1]
      · isplitl [Hr]; · iexact Hr
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      isplitl [H6]; · iapply owns_of_rep; iexact H6
      isplitl [H7]; · iapply owns_of_rep; iexact H7
      isplitl [H8]; · iexact H8
      iexact H9
    · rw [step_B m c t _ h1 h2]
      simp only [h1, ↓reduceIte]
      iintro ⟨⟨Hr, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (body_B c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) tabQ tabK (iblk m c (0 : Fin 10) t) (iblk m c (1 : Fin 10) t) (iblk m c (2 : Fin 10) t) (iblk m c (3 : Fin 10) t) (iblk m c (4 : Fin 10) t) (iblk m c (5 : Fin 10) t) (iblk m c (6 : Fin 10) t) (iblk m c (7 : Fin 10) t)  (hc1.mpr h1) (hc2.mpr (by omega)) (fun h => h2 (hc3.mp h)))
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [H7]; · iapply rep_of_owns; iexact H7
      isplitl [HT0]; · iexact HT0
      isplitl [HT1]; · iexact HT1
      isplitl [H8]; · iexists _; iexact H8
      isplitl [H9]; · iexists _; iexact H9
      iintro ⟨H0, H1, H2, H3, H4, H5, H6, H7, HT0, HT1, H8, H9⟩
      isplitl [Hr HT0 HT1]
      · isplitl [Hr]; · iexact Hr
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      isplitl [H6]; · iapply owns_of_rep; iexact H6
      isplitl [H7]; · iapply owns_of_rep; iexact H7
      isplitl [H8]; · iexact H8
      iexact H9
  · by_cases h2 : kt (pos t.val) = qt (pos t.val)
    · rw [step_C m c t _ h1 h2]
      simp only [if_neg h1, ↓reduceIte]
      iintro ⟨⟨Hr, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (body_C c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) tabQ tabK (iblk m c (0 : Fin 10) t) (iblk m c (1 : Fin 10) t) (iblk m c (2 : Fin 10) t) (iblk m c (3 : Fin 10) t) (iblk m c (4 : Fin 10) t) (iblk m c (5 : Fin 10) t) (iblk m c (6 : Fin 10) t) (iblk m c (7 : Fin 10) t) (prev m c t).1 (prev m c t).2 (fun h => h1 (hc1.mp h)) (fun h => absurd (hc2.mp h) (by omega)) (hc3.mpr h2))
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [H7]; · iapply rep_of_owns; iexact H7
      isplitl [HT0]; · iexact HT0
      isplitl [HT1]; · iexact HT1
      isplitl [H8]; · iapply rep_of_owns; iexact H8
      isplitl [H9]; · iapply rep_of_owns; iexact H9
      iintro ⟨H0, H1, H2, H3, H4, H5, H6, H7, HT0, HT1, H8, H9⟩
      isplitl [Hr HT0 HT1]
      · isplitl [Hr]; · iexact Hr
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      isplitl [H6]; · iapply owns_of_rep; iexact H6
      isplitl [H7]; · iapply owns_of_rep; iexact H7
      isplitl [H8]; · iexact H8
      iexact H9
    · rw [step_D m c t _ h1 h2]
      simp only [if_neg h1, ↓reduceIte]
      iintro ⟨⟨Hr, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (body_D c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) tabQ tabK (iblk m c (0 : Fin 10) t) (iblk m c (1 : Fin 10) t) (iblk m c (2 : Fin 10) t) (iblk m c (3 : Fin 10) t) (iblk m c (4 : Fin 10) t) (iblk m c (5 : Fin 10) t) (iblk m c (6 : Fin 10) t) (iblk m c (7 : Fin 10) t) (prev m c t).1 (prev m c t).2 (fun h => h1 (hc1.mp h)) (hc2.mpr (by omega)) (fun h => h2 (hc3.mp h)))
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [H7]; · iapply rep_of_owns; iexact H7
      isplitl [HT0]; · iexact HT0
      isplitl [HT1]; · iexact HT1
      isplitl [H8]; · iapply rep_of_owns; iexact H8
      isplitl [H9]; · iapply rep_of_owns; iexact H9
      iintro ⟨H0, H1, H2, H3, H4, H5, H6, H7, HT0, HT1, H8, H9⟩
      isplitl [Hr HT0 HT1]
      · isplitl [Hr]; · iexact Hr
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      isplitl [H6]; · iapply owns_of_rep; iexact H6
      isplitl [H7]; · iapply owns_of_rep; iexact H7
      isplitl [H8]; · iexact H8
      iexact H9

set_option maxHeartbeats 4000000 in
/-- The library's body obligation, at every point. -/
theorem body_obligation (c : Dev nD) : BodyObligation (dats m 0 c) (defs₀ (F := F)) Variants.none () Set.univ := fun t => by
  rw [bigSep_W0, bigSep_W0]
  rewrite [idle8 t]
  exact sound_body m c t

end Cert.KernelIdeal.Dq

end
-- ==== Proof.Dq.Launch.lean ====
/- The launch of the query-side backward kernel: the host lines before the region, the region, the lines after it. -/
module

public import proofs.«01_k».proof.Proof.Dq.Run
public import Idealize.ShloMosaic.Lib.StableHlo.RunRead
public import proofs.«01_k».proof.Defs
public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Pipeline.FrameSuffix
public import Idealize.ShloMosaic.Lib.Pipeline.Value
public import Idealize.ShloMosaic.Lib.Claim
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.KernelIdeal.Dq

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## The launch -/

variable {F : FTy → Type} [FloatOps F] [Named F]
variable (m : (ℓ : Loc nD τ sig) → Buf (Elt F) ℓ) (ρ : Dev nD → PrngReg)

theorem share_eq (c : Dev nD) (w : Fin (cfgA (F := F)).W) : (dats m 0 c).share w = fullShare := by unfold Dat.share; split <;> rfl

/-- The first table, as the host lines leave it. -/
theorem V₀_c (c : Dev nD) : V₀ m c (Proc.devRef .tc main_c) = tabQ (F := F) := by
  unfold V₀
  rw [show [hostOps0 (F := F)].flatten = hostOps0 from List.append_nil _]
  after_reads_simp
  rfl

/-- The second table, as the host lines leave it. -/
theorem V₀_c_0 (c : Dev nD) : V₀ m c (Proc.devRef .tc main_c_0) = tabK (F := F) := by
  unfold V₀
  rw [show [hostOps0 (F := F)].flatten = hostOps0 from List.append_nil _]
  after_reads_simp
  rfl

/-- The host lines after the region touch no table, -/
theorem tail_bufs : ∀ op ∈ hostOps1 (F := F), ∀ k, Proc.devRef .tc (pre0.ref k) ∉ op.bufs :=
  List.forall_iff_forall_mem.mp (show List.Forall (fun op : HloOp τ sig (Elt F) => ∀ k, Proc.devRef .tc (pre0.ref k) ∉ op.bufs) hostOps1 from
    ⟨show ∀ k, Proc.devRef .tc (pre0.ref k) ∉ ({Proc.devRef .tc main_cst_5} : Finset (DevRef τ sig)) by decide,
     show ∀ k, Proc.devRef .tc (pre0.ref k) ∉ ({Proc.devRef .tc main_cst_5, Proc.devRef .tc main_v47} : Finset (DevRef τ sig)) by decide,
     show ∀ k, Proc.devRef .tc (pre0.ref k) ∉ ({Proc.devRef .tc main_v46_0, Proc.devRef .tc main_v47, Proc.devRef .tc main_v48} : Finset (DevRef τ sig)) by decide⟩)

/-- and write no array of the region. -/
theorem tail_writes : ∀ op ∈ hostOps1 (F := F), ∀ w, Proc.devRef .tc (Pipeline.arrRef spec0 w) ∉ op.writes :=
  List.forall_iff_forall_mem.mp (show List.Forall (fun op : HloOp τ sig (Elt F) => ∀ w, Proc.devRef .tc (Pipeline.arrRef spec0 w) ∉ op.writes) hostOps1 from
    ⟨show ∀ w, Proc.devRef .tc (Pipeline.arrRef spec0 w) ∉ ({Proc.devRef .tc main_cst_5} : Finset (DevRef τ sig)) by decide,
     show ∀ w, Proc.devRef .tc (Pipeline.arrRef spec0 w) ∉ ({Proc.devRef .tc main_v47} : Finset (DevRef τ sig)) by decide,
     show ∀ w, Proc.devRef .tc (Pipeline.arrRef spec0 w) ∉ ({Proc.devRef .tc main_v48} : Finset (DevRef τ sig)) by decide⟩)

theorem tail_fresh : ∀ op ∈ hostOps1 (F := F), op.fresh = ∅ :=
  List.forall_iff_forall_mem.mp (show List.Forall (fun op : HloOp τ sig (Elt F) => op.fresh = ∅) hostOps1 from ⟨rfl, rfl, rfl⟩)

theorem head_fresh : List.Forall (fun op : HloOp τ sig (Elt F) => op.fresh = ∅) hostOps0 := by
  simp only [List.Forall]
  repeat' apply And.intro
  all_goals rfl

set_option backward.isDefEq.respectTransparency.types false in
set_option maxHeartbeats 4000000 in
/-- From any memory with zero counters every fair execution terminates, with every array of the region at the
    trajectory's contents, every other buffer at what the host lines after the region make of it, and every
    counter at zero. -/
theorem run_main_post : θ_run (defs (F := F)) (onTc (τ := τ) (main (F := F))) (s₀ m ρ)
    (fun r => Pipeline.FramePost (Pipeline.pin pcfgs fun _ => adm (F := F)) (dats m) 0
      (Pipeline.afterTail pcfgs (fun _ => adm (F := F)) (dats m) 0 (V₀ m) [hostOps1]) r ∧ r.2.sem = fun _ => 0) :=
  Pipeline.θ_run_frameP_around pcfgs (fun _ => adm (F := F)) (dats m) 0 launch0 defs₀ Variants.none m ρ main
    (fun c => (body_obligation m c).loose) (share_eq m) (fun _ _ => rfl) (V₀ m) [hostOps1]
    (fun ops h op ho => by
      obtain rfl := List.mem_singleton.mp h
      exact Pipeline.sub_tailRefs pre0 spec0 op (List.forall_iff_forall_mem.mp hostOps1_sub op ho) (tail_bufs op ho))
    (fun ops h op ho => by
      obtain rfl := List.mem_singleton.mp h
      exact tail_fresh op ho)
    (fun ops h op ho => by
      obtain rfl := List.mem_singleton.mp h
      exact tail_writes op ho)
    (Pipeline.hmainP_around pcfgs 0 defs₀ Variants.none m main [hostOps0] [hostOps1] hostOps0_sub head_fresh
      (fun c => main_chain c))
    (fun _ _ => rfl) (fun c k => by fin_cases k; exacts [V₀_c m c, V₀_c_0 m c]) (fun _ _ => rfl) _ (fun _ h => h)

/-- The dq array after the whole grid. -/
def dqArr (c : Dev nD) : Buf (Elt F) ((c : Thread nD τ).loc main_v46_0) := (dats m 0 c).arrAt (8 : Fin 10) (cfgA (F := F)).N

/-- A buffer no host line writes and the region does not touch ends as it began. -/
theorem rest_eq (c : Dev nD) (r : Ref sig .tc) (h : ∀ w, Pipeline.arrRef spec0 w ≠ r) (h1 : r ∉ [main_cst_5, main_v47, main_v48]) :
    Pipeline.afterTail pcfgs (fun _ => adm (F := F)) (dats m) 0 (V₀ m) [hostOps1] c r = V₀ m c (Proc.devRef .tc r) := by
  unfold Pipeline.afterTail
  rw [show [hostOps1 (F := F)].flatten = hostOps1 from List.append_nil _]
  rw [StableHlo.after_unwritten (τ := τ) [main_cst_5, main_v47, main_v48] rfl h1]
  exact Pipeline.withArrays_of_ne spec0 c _ _ r h

theorem arg_eq (c : Dev nD) : V₀ m c (Proc.devRef .tc main_arg0) = m ((c : Thread nD τ).loc main_arg0)
    ∧ V₀ m c (Proc.devRef .tc main_arg1) = m ((c : Thread nD τ).loc main_arg1)
    ∧ V₀ m c (Proc.devRef .tc main_arg2) = m ((c : Thread nD τ).loc main_arg2)
    ∧ V₀ m c (Proc.devRef .tc main_arg3) = m ((c : Thread nD τ).loc main_arg3)
    ∧ V₀ m c (Proc.devRef .tc main_arg4) = m ((c : Thread nD τ).loc main_arg4) := by
  unfold V₀
  rw [show [hostOps0 (F := F)].flatten = hostOps0 from List.append_nil _]
  refine ⟨?_, ?_, ?_, ?_, ?_⟩ <;> after_reads_simp <;> rfl

theorem out_eq (c : Dev nD) :
    Pipeline.afterTail pcfgs (fun _ => adm (F := F)) (dats m) 0 (V₀ m) [hostOps1] c main_v48
      = mulf (dqArr m c) (broadcastInDim S8192x1024 ![] bcast_S_S8192x1024 (constant S_ .f32 0x3E000000#32)) := by
  unfold Pipeline.afterTail
  rw [show [hostOps1 (F := F)].flatten = hostOps1 from List.append_nil _]
  after_reads_simp
  exact congrArg (fun x => mulf (F := F) (s := S8192x1024) (φ := .f32) x (broadcastInDim S8192x1024 ![] bcast_S_S8192x1024 (constant S_ .f32 0x3E000000#32)))
    (Pipeline.withArrays_arr spec0 (launch0 (F := F)).win.arr_inj c (V₀ m c) (fun w => (dats m 0 c).arrAt w (cfgA (F := F)).N) (8 : Fin 10))

/-- THE RUN: dq is the trajectory's array times the scale, the arguments end unchanged, every counter at zero. -/
theorem run_main : θ_run (defs (F := F)) (onTc (τ := τ) (main (F := F))) ⟨m, fun _ => 0, ρ⟩ (fun r => (∀ c : Dev nD,
      r.2.mem ((c.tc : Thread nD τ).loc main_v48) = mulf (dqArr m c) (broadcastInDim S8192x1024 ![] bcast_S_S8192x1024 (constant S_ .f32 0x3E000000#32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run (defs (F := F)) _ _).mono (fun r h => ⟨fun c => by
    have hc := h.1 c
    obtain ⟨a0, a1, a2, a3, a4⟩ := arg_eq m c
    refine ⟨(hc.2 main_v48 (show main_v48 ∈ Pipeline.restRefs sig spec0 by decide)).trans (out_eq m c), ?_, ?_, ?_, ?_, ?_⟩
    · exact ((hc.2 main_arg0 (show main_arg0 ∈ Pipeline.restRefs sig spec0 by decide)).trans (rest_eq m c main_arg0 (by decide) (by decide))).trans a0
    · exact ((hc.2 main_arg1 (show main_arg1 ∈ Pipeline.restRefs sig spec0 by decide)).trans (rest_eq m c main_arg1 (by decide) (by decide))).trans a1
    · exact ((hc.1 (2 : Fin 10)).trans ((dats m 0 c).arrAt_in (2 : Fin 10) rfl _)).trans a2
    · exact ((hc.2 main_arg3 (show main_arg3 ∈ Pipeline.restRefs sig spec0 by decide)).trans (rest_eq m c main_arg3 (by decide) (by decide))).trans a3
    · exact ((hc.1 (7 : Fin 10)).trans ((dats m 0 c).arrAt_in (7 : Fin 10) rfl _)).trans a4, h.2⟩) (run_main_post m ρ)

end Cert.KernelIdeal.Dq

end
-- ==== Proof.Dq.Real.lean ====
module

public import Idealize.ShloMosaic.Lib.Pointwise

@[expose] public section

/-! Sums of extended reals that are real, and the sum over the lanes of one head. -/

noncomputable section

namespace Cert.Dq

/-- The sum of reals, taken among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum whose terms are real is real. -/
theorem sum_coe {ι : Type*} [Fintype ι] {g : ι → EReal} (f : ι → ℝ) (h : ∀ i, g i = f i) : ∑ i, g i = ((∑ i, f i : ℝ) : EReal) := by
  rw [coe_sum]; exact Finset.sum_congr rfl fun i _ => h i

/-- The lane of a pair of heads that holds coordinate `d` of its head `a`. -/
def lane (a : Fin 2) (d : Fin 64) : Fin 128 := ⟨64 * a.val + d.val, by omega⟩

/-- A sum over the lanes, of terms that vanish off head `a`, is the sum over the coordinates of that head. -/
theorem sum_lane (a : Fin 2) (f : Fin 128 → ℝ) : (∑ x : Fin 128, if x.val / 64 = a.val then f x else 0) = ∑ d : Fin 64, f (lane a d) := by
  have e := Fin.sum_univ_add (a := 64) (b := 64) fun x : Fin (64 + 64) => if x.val / 64 = a.val then f x else 0
  rw [show (∑ x : Fin 128, if x.val / 64 = a.val then f x else 0) = _ from e]
  have h0 : ∀ i : Fin 64, (Fin.castAdd 64 i).val / 64 = 0 := fun i => by simp only [Fin.val_castAdd]; omega
  have h1 : ∀ i : Fin 64, (Fin.natAdd 64 i).val / 64 = 1 := fun i => by simp only [Fin.val_natAdd]; omega
  simp only [h0, h1]
  fin_cases a
  · simp only [if_true, one_ne_zero, if_false, Finset.sum_const_zero, add_zero]
    exact Finset.sum_congr rfl fun d _ => congrArg f (Fin.ext (by simp [lane]; try omega))
  · simp only [if_true, zero_ne_one, if_false, Finset.sum_const_zero, zero_add]
    exact Finset.sum_congr rfl fun d _ => congrArg f (Fin.ext (by simp [lane]; try omega))

theorem lane_div (a : Fin 2) (d : Fin 64) : (lane a d).val / 64 = a.val := by simp only [lane]; omega

end Cert.Dq
-- ==== Proof.Dq.Spec.lean ====
module

public import proofs.«01_k».proof.Proof.Dq.Real

@[expose] public section

/-! Forgetting attention's query gradient over the reals: the scores, the row maximum and sum, and the two forms of the
    gradient of a score (the one the kernel computes from the saved row quantities, the one of the chain rule). -/

noncomputable section

namespace Cert.Dq

/-- The inputs, as reals, by head, position and coordinate. -/
structure Inp where
  q : Fin 16 → Fin 8192 → Fin 64 → ℝ
  k : Fin 16 → Fin 8192 → Fin 64 → ℝ
  v : Fin 16 → Fin 8192 → Fin 64 → ℝ
  c : Fin 16 → Fin 8192 → ℝ
  dO : Fin 16 → Fin 8192 → Fin 64 → ℝ

namespace Inp
variable (I : Inp) (h : Fin 16) (t u : Fin 8192)

/-- The score of a query and a key. -/
def L : ℝ := (∑ d, I.q h t d * 0.125 * I.k h u d) + I.c h t - I.c h u
/-- The score with the keys after the query masked. -/
def LM : EReal := if u.val ≤ t.val then (I.L h t u : EReal) else ⊥
/-- A row's largest score. -/
def mx : ℝ := (Finset.univ.sup fun u => I.LM h t u).toReal

theorem mx_coe : (Finset.univ.sup fun u => I.LM h t u) = (I.mx h t : EReal) := by
  refine (EReal.coe_toReal ?_ ?_).symm
  · refine ne_of_lt ((Finset.sup_lt_iff (by simp)).2 fun u _ => ?_)
    unfold LM
    split
    · exact EReal.coe_lt_top _
    · simp
  · have hle := Finset.le_sup (f := fun u => I.LM h t u) (Finset.mem_univ t)
    intro he
    rw [he] at hle
    have : I.LM h t t = ⊥ := le_bot_iff.1 hle
    unfold LM at this
    rw [if_pos le_rfl] at this
    exact EReal.coe_ne_bot _ this

/-- A score's exponential, taken from the row's largest. -/
def e : ℝ := if u.val ≤ t.val then Real.exp (I.L h t u - I.mx h t) else 0
/-- The row's sum of exponentials. -/
def Z : ℝ := ∑ u, I.e h t u

theorem e_nonneg : 0 ≤ I.e h t u := by
  unfold e; split
  · exact (Real.exp_pos _).le
  · exact le_rfl

theorem Z_pos : 0 < I.Z h t := by
  refine Finset.sum_pos' (fun u _ => I.e_nonneg h t u) ⟨t, Finset.mem_univ t, ?_⟩
  unfold e; rw [if_pos le_rfl]; exact Real.exp_pos _

/-- The gradient of a weight. -/
def dP : ℝ := ∑ d, I.dO h t d * I.v h u d
/-- The attention's output. -/
def o (d : Fin 64) : ℝ := ∑ u, I.v h u d * (I.e h t u / I.Z h t)
/-- The row's product of the output with its gradient. -/
def delta : ℝ := ∑ d, I.dO h t d * I.o h t d
/-- The logarithm of the row's sum. -/
def lse : ℝ := I.mx h t + Real.log (I.Z h t)
/-- The gradient of a score, zero past the query. -/
def ds : ℝ := I.e h t u / I.Z h t * (I.dP h t u - I.delta h t)
/-- The query gradient before the scale. -/
def dq (d : Fin 64) : ℝ := ∑ u, I.ds h t u * I.k h u d

/-- The row's product is the mean of the weights' gradients. -/
theorem delta_eq : I.delta h t = ∑ u, I.dP h t u * (I.e h t u / I.Z h t) := by
  unfold delta o dP
  simp only [Finset.mul_sum, Finset.sum_mul]
  rw [Finset.sum_comm]
  exact Finset.sum_congr rfl fun u _ => Finset.sum_congr rfl fun d _ => by ring

/-- The chain rule's gradient of a score. -/
def dsRef : ℝ := if u.val ≤ t.val then (I.dP h t u / I.Z h t + -∑ u, I.dP h t u * (1 / (I.Z h t * I.Z h t)) * I.e h t u) * I.e h t u else 0

theorem dsRef_eq : I.dsRef h t u = I.ds h t u := by
  have hz := (I.Z_pos h t).ne'
  unfold dsRef ds
  split
  · rw [delta_eq]
    have : ∑ u, I.dP h t u * (1 / (I.Z h t * I.Z h t)) * I.e h t u = (∑ u, I.dP h t u * (I.e h t u / I.Z h t)) / I.Z h t := by
      rw [Finset.sum_div]
      exact Finset.sum_congr rfl fun u _ => by field_simp
    rw [this]
    field_simp
    ring
  · rename_i hu
    rw [show I.e h t u = 0 from if_neg hu]
    simp

/-- The kernel's weight, from the saved logarithm, up to the query. -/
theorem exp_lse (hu : u.val ≤ t.val) (s : ℝ) (hs : s = ∑ d, I.q h t d * 0.125 * I.k h u d) :
    Real.exp (s - I.c h u + (I.c h t - I.lse h t)) = I.e h t u / I.Z h t := by
  rw [show I.e h t u = Real.exp (I.L h t u - I.mx h t) from if_pos hu, hs]
  conv_rhs => rw [← Real.exp_log (I.Z_pos h t)]
  rw [← Real.exp_sub]
  congr 1
  unfold L lse
  ring

end Inp

end Cert.Dq
-- ==== Proof.Dq.Ref.lean ====
module

public import proofs.«01_k».proof.Proof.Gen.ReferenceIdeal.Read
public import proofs.«01_k».proof.Proof.Dq.Spec

@[expose] public section

/-! The reference's query gradient at an index, over the reals. -/

noncomputable section

namespace Cert.ReferenceIdeal.Dq
open Cert.ReferenceIdeal Cert.ReferenceIdeal.Gen Cert.ReferenceIdeal.Read Cert.Dq
open Idealize.ShloMosaic

/-- A head's coordinate among the columns. -/
def col (h : Fin 16) (d : Fin 64) : Fin 1024 := ⟨h.val * 64 + d.val, by omega⟩
/-- The same among the columns of the projected activations, where the values lie. -/
def vcol (h : Fin 16) (d : Fin 64) : Fin 4224 := ⟨2048 + (h.val * 64 + d.val), by omega⟩

/-- The arguments hold the reals `I`. -/
structure Holds (I : Inp) (x0 x1 : FVec Ideal S8192x1024 .f32) (x2 : FVec Ideal S8192x4224 .f32) (x3 : FVec Ideal S8192x16 .f32) (x4 : FVec Ideal S8192x1024 .f32) : Prop where
  hq : ∀ h t d, x0 (ix2 t (col h d)) = (I.q h t d : EReal)
  hk : ∀ h t d, x1 (ix2 t (col h d)) = (I.k h t d : EReal)
  hv : ∀ h t d, x2 (ix2 t (vcol h d)) = (I.v h t d : EReal)
  hc : ∀ h t, x3 (ix2 t h) = (I.c h t : EReal)
  hdO : ∀ h t d, x4 (ix2 t (col h d)) = (I.dO h t d : EReal)

theorem bits_eighth : Ideal.ofBits .f32 0x3E000000#32 = ((0.125 : ℝ) : EReal) := by
  rw [show Ideal.ofBits .f32 0x3E000000#32 = (((8388608 : ℝ) : EReal) * (((2 : ℝ) ^ 26)⁻¹ : ℝ)) by simp [Ideal.ofBits, Ideal.ieee], ← EReal.coe_mul]
  norm_num

theorem bits_bot : Ideal.ofBits .f32 0xFF800000#32 = ⊥ := by simp [Ideal.ofBits, Ideal.ieee]

/-- The causal test of two positions. -/
theorem le_pos (t u : Fin 8192) : IntOp.cmpi CmpIPredicate.sle (BitVec.ofNat 32 u.val) (BitVec.ofNat 32 t.val) = if u.val ≤ t.val then 1#1 else 0#1 := by
  have hi : ∀ n : Fin 8192, (BitVec.ofNat 32 n.val).toInt = n.val := fun n => by
    have hm : n.val % 2 ^ 32 = n.val := Nat.mod_eq_of_lt (by omega)
    rw [BitVec.toInt_eq_toNat_of_lt (by rw [BitVec.toNat_ofNat, hm]; omega), BitVec.toNat_ofNat, hm]
  simp only [IntOp.cmpi, BitVec.sle, hi, Nat.cast_le]
  by_cases h : u.val ≤ t.val <;> simp [h]

theorem sel_if {α : Type} (p : Prop) [Decidable p] (a b : α) : Scalar.select (if p then 1#1 else 0#1) a b = if p then a else b := by
  by_cases h : p <;> simp [Scalar.select, h]

variable {I : Inp} {x0 x1 : FVec Ideal S8192x1024 .f32} {x2 : FVec Ideal S8192x4224 .f32} {x3 : FVec Ideal S8192x16 .f32} {x4 : FVec Ideal S8192x1024 .f32}

theorem v20_eq (h : Fin 16) (t u : Fin 8192) : val_main_v20 (F := Ideal) (ix3 h t u) = if u.val ≤ t.val then 1#1 else 0#1 := by
  pointwise [val_main_v20, val_main_v19, val_main_v18, val_main_v17, val_main_v16, val_main_v15, val_main_v14]
  exact le_pos t u

theorem v3_eq (H : Holds I x0 x1 x2 x3 x4) (h : Fin 16) (t : Fin 8192) (d : Fin 64) : val_main_v3 (F := Ideal) x0 (ix3 t h d) = ((I.q h t d * 0.125 : ℝ) : EReal) := by
  pointwise [val_main_v3, val_main_v1, val_main_v2, val_main_cst]
  rw [bits_eighth, EReal.coe_mul]
  exact congrArg (· * _) (H.hq h t d)

theorem v4_eq (H : Holds I x0 x1 x2 x3 x4) (h : Fin 16) (t : Fin 8192) (d : Fin 64) : val_main_v4 (F := Ideal) x1 (ix3 t h d) = (I.k h t d : EReal) := by
  pointwise [val_main_v4]
  exact H.hk h t d

theorem v5_eq (H : Holds I x0 x1 x2 x3 x4) (h : Fin 16) (t : Fin 8192) (d : Fin 64) : val_main_v5 (F := Ideal) x2 (ix3 t h d) = (I.v h t d : EReal) := by
  pointwise [val_main_v5, val_main_v0]
  exact H.hv h t d

/-- The masked scores. -/
theorem v22_eq (H : Holds I x0 x1 x2 x3 x4) (h : Fin 16) (t u : Fin 8192) : val_main_v22 (F := Ideal) x0 x1 x3 (ix3 h t u) = I.LM h t u := by
  have h3 := fun d => v3_eq H h t d
  have h4 := fun d => v4_eq H h u d
  pointwise [val_main_v22, val_main_v13, val_main_v12, val_main_v11, val_main_v10, val_main_v9, val_main_v8, val_main_v7, val_main_v6, val_main_v21, val_main_cst_0]
  rw [v20_eq, sel_if, bits_bot, sum_coe (fun d => I.q h t d * 0.125 * I.k h u d) fun d => by rw [h3, h4, ← EReal.coe_mul]]
  unfold Inp.LM Inp.L
  rw [H.hc, H.hc, ← EReal.coe_add, ← EReal.coe_sub]

/-- The rows' largest scores. -/
theorem v24_eq (H : Holds I x0 x1 x2 x3 x4) (h : Fin 16) (t : Fin 8192) : val_main_v24 (F := Ideal) x0 x1 x3 (ix2 h t) = (I.mx h t : EReal) := by
  have h22 := v22_eq H h t
  unfold val_main_v24
  revert h22
  generalize val_main_v22 (F := Ideal) x0 x1 x3 = y
  intro h22
  pointwise [val_main_cst_2]
  rw [bits_bot, ← I.mx_coe h t]
  exact Finset.sup_congr rfl fun u _ => h22 u

/-- A masked score's exponential from the row's largest. -/
theorem exp_LM (I : Inp) (h : Fin 16) (t u : Fin 8192) : Ideal.exp (I.LM h t u - (I.mx h t : EReal)) = (I.e h t u : EReal) := by
  unfold Inp.LM Inp.e
  split
  · rw [← EReal.coe_sub]; rfl
  · simp

theorem v31_eq (H : Holds I x0 x1 x2 x3 x4) (h : Fin 16) (t : Fin 8192) : val_main_v31 (F := Ideal) x0 x1 x3 (ix2 h t) = (I.mx h t : EReal) := by
  rw [val_main_v31_apply, val_main_v30_apply, val_main_cst_4_apply, v24_eq H h t]
  exact (congrArg (fun b => max b (I.mx h t : EReal)) bits_bot).trans (max_eq_right bot_le)

theorem v44_eq (H : Holds I x0 x1 x2 x3 x4) (h : Fin 16) (t u : Fin 8192) : val_main_v44 (F := Ideal) x0 x1 x3 (ix3 h t u) = (I.e h t u : EReal) := by
  have h22 := v22_eq H h t u
  have h31 := v31_eq H h t
  unfold val_main_v44 val_main_v43 val_main_v42 val_main_v41
  revert h22 h31
  generalize val_main_v22 (F := Ideal) x0 x1 x3 = y
  generalize val_main_v31 (F := Ideal) x0 x1 x3 = z
  intro h22 h31
  pointwise
  rw [h22, h31]
  exact exp_LM I h t u

theorem v45_eq (H : Holds I x0 x1 x2 x3 x4) (h : Fin 16) (t : Fin 8192) : val_main_v45 (F := Ideal) x0 x1 x3 (ix2 h t) = (I.Z h t : EReal) := by
  have h44 := v44_eq H h t
  unfold val_main_v45
  revert h44
  generalize val_main_v44 (F := Ideal) x0 x1 x3 = y
  intro h44
  pointwise [val_main_cst_10]
  exact sum_coe _ h44

/-- The weights' gradients. -/
theorem v57_eq (H : Holds I x0 x1 x2 x3 x4) (h : Fin 16) (t u : Fin 8192) : val_main_v57 (F := Ideal) x2 x4 (ix3 h t u) = (I.dP h t u : EReal) := by
  have h5 := fun d => v5_eq H h u d
  unfold val_main_v57 val_main_v56 val_main_v55
  revert h5
  generalize val_main_v5 (F := Ideal) x2 = y
  intro h5
  pointwise
  exact sum_coe (fun d => I.dO h t d * I.v h u d) fun d => by rw [h5, EReal.coe_mul]; exact congrArg (· * _) (H.hdO h t d)

/-- The gradients of the scores. -/
theorem v73_eq (H : Holds I x0 x1 x2 x3 x4) (h : Fin 16) (t u : Fin 8192) : val_main_v73 (F := Ideal) x0 x1 x2 x3 x4 (ix3 h t u) = (I.ds h t u : EReal) := by
  have h20 := v20_eq h t u
  have h44 := v44_eq H h t
  have h45 := v45_eq H h t
  have h57 := v57_eq H h t
  unfold val_main_v73 val_main_v72 val_main_v71 val_main_v70 val_main_v69 val_main_v68 val_main_v67 val_main_v66 val_main_v65 val_main_v64 val_main_v63 val_main_v62 val_main_v61 val_main_v60 val_main_v51 val_main_v50 val_main_v49 val_main_v46
  revert h20 h44 h45 h57
  generalize val_main_v20 (F := Ideal) = m
  generalize val_main_v44 (F := Ideal) x0 x1 x3 = y
  generalize val_main_v45 (F := Ideal) x0 x1 x3 = z
  generalize val_main_v57 (F := Ideal) x2 x4 = w
  intro h20 h44 h45 h57
  pointwise [val_main_cst_14, val_main_cst_13, val_main_cst_12, val_main_cst_11]
  have hz := (I.Z_pos h t).ne'
  have hz2 : I.Z h t * I.Z h t ≠ 0 := mul_ne_zero hz hz
  rw [h20, sel_if, h44, h45, h57, ← EReal.coe_mul, Ideal.div_coe hz, Ideal.div_coe hz2, one_mul, Fin.sum_univ_one,
    sum_coe (fun u => I.dP h t u * (1 / (I.Z h t * I.Z h t)) * I.e h t u) fun u => by rw [h57, h44, EReal.coe_mul, EReal.coe_mul], ← I.dsRef_eq h t u]
  unfold Inp.dsRef
  split
  · rw [div_eq_mul_one_div (I.dP h t u)]
    push_cast
    rfl
  · rfl

/-- The reference's result. -/
theorem v91_eq (H : Holds I x0 x1 x2 x3 x4) (h : Fin 16) (t : Fin 8192) (d : Fin 64) : val_main_v91 (F := Ideal) x0 x1 x2 x3 x4 (ix2 t (col h d)) = ((I.dq h t d * 0.125 : ℝ) : EReal) := by
  have h73 := v73_eq H h t
  have h4 := fun u => v4_eq H h u d
  unfold val_main_v91 val_main_v90 val_main_v89 val_main_v85 val_main_v84
  revert h73 h4
  generalize val_main_v73 (F := Ideal) x0 x1 x2 x3 x4 = y
  generalize val_main_v4 (F := Ideal) x1 = z
  intro h73 h4
  pointwise [val_main_cst_19]
  have hc1 : (⟨(col h d).val / 64, by have := (col h d).isLt; omega⟩ : Fin 16) = h := Fin.ext (by simp only [col]; omega)
  have hc2 : (⟨(col h d).val % 64, by omega⟩ : Fin 64) = d := Fin.ext (by simp only [col]; omega)
  rw [sum_coe (fun u => I.ds h t u * I.k h u d) fun u => by rw [hc1, hc2, h73, h4, EReal.coe_mul], bits_eighth, ← EReal.coe_mul]
  rfl

end Cert.ReferenceIdeal.Dq
-- ==== Proof.Dq.Host.lean ====
module

public import proofs.«01_k».proof.Proof.Dq.Launch
public import proofs.«01_k».proof.Proof.Dq.Ref

@[expose] public section

/-! The arrays the host lines hand to the query-side backward kernel, at an index, over the reals. -/

set_option maxRecDepth 16384

noncomputable section

namespace Cert.KernelIdeal.Dq
open Cert.KernelIdeal Cert.KernelIdeal.Gen Cert.Dq
open Cert.ReferenceIdeal.Read (val_main_v3 val_main_v5 val_main_v6 val_main_v22 val_main_v24)
open Cert.ReferenceIdeal.Dq (Holds col vcol v3_eq v5_eq v22_eq v24_eq exp_LM)
open Idealize.ShloMosaic Idealize.ShloMosaic.TcCoe Idealize.ShloMosaic.StableHlo

section Terms
variable {F : FTy → Type} [FloatOps F]

/-- The exponentials. -/
def kE (x0 x1 : FVec F S8192x1024 .f32) (x3 : FVec F S8192x16 .f32) : FVec F S16x8192x8192 .f32 :=
  Host.exp (subf (val_main_v22 x0 x1 x3) (broadcastInDim S16x8192x8192 ![0, 1, 2] bcast_S16x8192x1_S16x8192x8192_0_1_2
    (broadcastInDim S16x8192x1 ![0, 1] bcast_S16x8192_S16x8192x1_0_1 (val_main_v24 x0 x1 x3))))
/-- The rows' sums. -/
def kZ (x0 x1 : FVec F S8192x1024 .f32) (x3 : FVec F S8192x16 .f32) : FVec F S16x8192 .f32 :=
  Host.reduceAdd (kE x0 x1 x3) (constant S_ .f32 0x00000000#32) reducesTo_S16x8192x8192_S16x8192_d2 h_S_
/-- The forward pass's output. -/
def kO (x0 x1 : FVec F S8192x1024 .f32) (x2 : FVec F S8192x4224 .f32) (x3 : FVec F S8192x16 .f32) : FVec F S8192x16x64 .f32 :=
  transpose S8192x16x64 [2, 0, 1] (Host.dotGeneral dot_S8192x16x64_S16x8192x8192_S16x64x8192_0_2_2_1_1_0 none (val_main_v5 x2 : FVec F S8192x16x64 .f32)
    (Host.divf (kE x0 x1 x3) (broadcastInDim S16x8192x8192 ![0, 1, 2] bcast_S16x8192x1_S16x8192x8192_0_1_2
      (broadcastInDim S16x8192x1 ![0, 1] bcast_S16x8192_S16x8192x1_0_1 (kZ x0 x1 x3))))) transposes_S16x64x8192_S8192x16x64_2_0_1
/-- The saved logarithms of the rows' sums. -/
def kLse (x0 x1 : FVec F S8192x1024 .f32) (x3 : FVec F S8192x16 .f32) : FVec F S16x8192x1 .f32 :=
  addf (broadcastInDim S16x8192x1 ![0, 1] bcast_S16x8192_S16x8192x1_0_1 (val_main_v24 x0 x1 x3))
    (Host.log (broadcastInDim S16x8192x1 ![0, 1] bcast_S16x8192_S16x8192x1_0_1 (kZ x0 x1 x3)))
/-- The rows' products of the output with its gradient. -/
def kDelta (x0 x1 : FVec F S8192x1024 .f32) (x2 : FVec F S8192x4224 .f32) (x3 : FVec F S8192x16 .f32) (x4 : FVec F S8192x1024 .f32) : FVec F S16x8192x1 .f32 :=
  broadcastInDim S16x8192x1 ![0, 1] bcast_S16x8192_S16x8192x1_0_1 (transpose S16x8192 [1, 0]
    (Host.reduceAdd (mulf (shapeCast S8192x16x64 x4 shapeCasts_S8192x1024_S8192x16x64) (kO x0 x1 x2 x3)) (constant S_ .f32 0x00000000#32)
      reducesTo_S8192x16x64_S8192x16_d2 h_S_) transposes_S8192x16_S16x8192_1_0)
/-- The scaled queries. -/
def kQ (x0 : FVec F S8192x1024 .f32) : FVec F S8192x1024 .bf16 := truncf .bf16 (shapeCast S8192x1024 (val_main_v3 x0) shapeCasts_S8192x16x64_S8192x1024) bitsLt_bf16_f32
/-- The keys. -/
def kK (x1 : FVec F S8192x1024 .f32) : FVec F S8192x1024 .bf16 := truncf .bf16 x1 bitsLt_bf16_f32
/-- The decays, down the rows and across them. -/
def kCcol (x3 : FVec F S8192x16 .f32) : FVec F S16x8192x1 .f32 := broadcastInDim S16x8192x1 ![0, 1] bcast_S16x8192_S16x8192x1_0_1 (val_main_v6 x3)
def kCrow (x3 : FVec F S8192x16 .f32) : FVec F S16x1x8192 .f32 := broadcastInDim S16x1x8192 ![0, 2] bcast_S16x8192_S16x1x8192_0_2 (val_main_v6 x3)

end Terms

section Reads
variable {F : FTy → Type} [FloatOps F] [Named F]
variable (m : (ℓ : Loc nD τ sig) → Buf (Elt F) ℓ) (c : Dev nD)

theorem V₀_42 : V₀ m c (Proc.devRef .tc main_v42) = kQ (m ((c : Thread nD τ).loc main_arg0)) := by
  unfold V₀
  rw [show [hostOps0 (F := F)].flatten = hostOps0 from List.append_nil _]
  after_reads_simp
  rfl
theorem V₀_43 : V₀ m c (Proc.devRef .tc main_v43) = kK (m ((c : Thread nD τ).loc main_arg1)) := by
  unfold V₀
  rw [show [hostOps0 (F := F)].flatten = hostOps0 from List.append_nil _]
  after_reads_simp
  rfl
theorem V₀_44 : V₀ m c (Proc.devRef .tc main_v44) = kCcol (m ((c : Thread nD τ).loc main_arg3)) := by
  unfold V₀
  rw [show [hostOps0 (F := F)].flatten = hostOps0 from List.append_nil _]
  after_reads_simp
  rfl
theorem V₀_45 : V₀ m c (Proc.devRef .tc main_v45) = kCrow (m ((c : Thread nD τ).loc main_arg3)) := by
  unfold V₀
  rw [show [hostOps0 (F := F)].flatten = hostOps0 from List.append_nil _]
  after_reads_simp
  rfl
theorem V₀_35 : V₀ m c (Proc.devRef .tc main_v35) = kLse (m ((c : Thread nD τ).loc main_arg0)) (m ((c : Thread nD τ).loc main_arg1)) (m ((c : Thread nD τ).loc main_arg3)) := by
  unfold V₀
  rw [show [hostOps0 (F := F)].flatten = hostOps0 from List.append_nil _]
  after_reads_simp
  rfl
theorem V₀_40 : V₀ m c (Proc.devRef .tc main_v40) = kDelta (m ((c : Thread nD τ).loc main_arg0)) (m ((c : Thread nD τ).loc main_arg1)) (m ((c : Thread nD τ).loc main_arg2)) (m ((c : Thread nD τ).loc main_arg3)) (m ((c : Thread nD τ).loc main_arg4)) := by
  unfold V₀
  rw [show [hostOps0 (F := F)].flatten = hostOps0 from List.append_nil _]
  after_reads_simp
  rfl
theorem V₀_arg2 : V₀ m c (Proc.devRef .tc main_arg2) = m ((c : Thread nD τ).loc main_arg2) := by
  unfold V₀
  rw [show [hostOps0 (F := F)].flatten = hostOps0 from List.append_nil _]
  after_reads_simp
theorem V₀_arg4 : V₀ m c (Proc.devRef .tc main_arg4) = m ((c : Thread nD τ).loc main_arg4) := by
  unfold V₀
  rw [show [hostOps0 (F := F)].flatten = hostOps0 from List.append_nil _]
  after_reads_simp

end Reads

variable {I : Inp} {x0 x1 : FVec Ideal S8192x1024 .f32} {x2 : FVec Ideal S8192x4224 .f32} {x3 : FVec Ideal S8192x16 .f32} {x4 : FVec Ideal S8192x1024 .f32}

theorem kQ_eq (H : Holds I x0 x1 x2 x3 x4) (h : Fin 16) (t : Fin 8192) (d : Fin 64) : kQ (F := Ideal) x0 (ix2 t (col h d)) = ((I.q h t d * 0.125 : ℝ) : EReal) := by
  have h3 := v3_eq H h t d
  unfold kQ
  revert h3
  generalize val_main_v3 (F := Ideal) x0 = y
  intro h3
  pointwise
  have hc1 : (⟨(col h d).val / 64, by have := (col h d).isLt; omega⟩ : Fin 16) = h := Fin.ext (by simp only [col]; omega)
  have hc2 : (⟨(col h d).val % 64, by omega⟩ : Fin 64) = d := Fin.ext (by simp only [col]; omega)
  rw [hc1, hc2, h3]

theorem kK_eq (H : Holds I x0 x1 x2 x3 x4) (h : Fin 16) (t : Fin 8192) (d : Fin 64) : kK (F := Ideal) x1 (ix2 t (col h d)) = (I.k h t d : EReal) :=
  H.hk h t d

theorem kCcol_eq (H : Holds I x0 x1 x2 x3 x4) (h : Fin 16) (t : Fin 8192) : kCcol (F := Ideal) x3 (ix3 h t 0) = (I.c h t : EReal) := by
  pointwise [kCcol, val_main_v6]
  exact H.hc h t

theorem kCrow_eq (H : Holds I x0 x1 x2 x3 x4) (h : Fin 16) (t : Fin 8192) : kCrow (F := Ideal) x3 (ix3 h 0 t) = (I.c h t : EReal) := by
  pointwise [kCrow, val_main_v6]
  exact H.hc h t

theorem kE_eq (H : Holds I x0 x1 x2 x3 x4) (h : Fin 16) (t u : Fin 8192) : kE (F := Ideal) x0 x1 x3 (ix3 h t u) = (I.e h t u : EReal) := by
  have h22 := v22_eq H h t u
  have h24 := v24_eq H h t
  unfold kE
  revert h22 h24
  generalize val_main_v22 (F := Ideal) x0 x1 x3 = y
  generalize val_main_v24 (F := Ideal) x0 x1 x3 = z
  intro h22 h24
  pointwise
  rw [h22, h24]
  exact exp_LM I h t u

theorem kZ_eq (H : Holds I x0 x1 x2 x3 x4) (h : Fin 16) (t : Fin 8192) : kZ (F := Ideal) x0 x1 x3 (ix2 h t) = (I.Z h t : EReal) := by
  have h44 := kE_eq H h t
  unfold kZ
  revert h44
  generalize kE (F := Ideal) x0 x1 x3 = y
  intro h44
  pointwise
  exact sum_coe _ h44

theorem kO_eq (H : Holds I x0 x1 x2 x3 x4) (h : Fin 16) (t : Fin 8192) (d : Fin 64) : kO (F := Ideal) x0 x1 x2 x3 (ix3 t h d) = (I.o h t d : EReal) := by
  have hE := kE_eq H h t
  have hZ := kZ_eq H h t
  have h5 := fun u => v5_eq H h u d
  unfold kO
  revert hE hZ h5
  generalize kE (F := Ideal) x0 x1 x3 = y
  generalize kZ (F := Ideal) x0 x1 x3 = z
  generalize val_main_v5 (F := Ideal) x2 = w
  intro hE hZ h5
  pointwise
  refine sum_coe (fun u => I.v h u d * (I.e h t u / I.Z h t)) fun u => ?_
  show w (ix3 u h d) * Ideal.div (y (ix3 h t u)) (z (ix2 h t)) = _
  rw [h5, hE, hZ, Ideal.div_coe (I.Z_pos h t).ne', ← EReal.coe_mul, ← EReal.coe_mul, div_eq_mul_one_div (I.e h t u)]

theorem lse_row (y z : FVec Ideal S16x8192 .f32) (h : Fin 16) (t : Fin 8192) :
    (addf (broadcastInDim S16x8192x1 ![0, 1] bcast_S16x8192_S16x8192x1_0_1 y)
      (Host.log (broadcastInDim S16x8192x1 ![0, 1] bcast_S16x8192_S16x8192x1_0_1 z))) (ix3 h t 0) = y (ix2 h t) + Ideal.log (z (ix2 h t)) := by
  pointwise

theorem kLse_eq (H : Holds I x0 x1 x2 x3 x4) (h : Fin 16) (t : Fin 8192) : kLse (F := Ideal) x0 x1 x3 (ix3 h t 0) = (I.lse h t : EReal) := by
  refine (lse_row (val_main_v24 (F := Ideal) x0 x1 x3) (kZ (F := Ideal) x0 x1 x3) h t).trans ?_
  rw [v24_eq H h t, kZ_eq H h t, Ideal.log_coe, if_neg (not_le.2 (I.Z_pos h t)), ← EReal.coe_add]
  rfl

theorem kDelta_eq (H : Holds I x0 x1 x2 x3 x4) (h : Fin 16) (t : Fin 8192) : kDelta (F := Ideal) x0 x1 x2 x3 x4 (ix3 h t 0) = (I.delta h t : EReal) := by
  have hO := kO_eq H h t
  unfold kDelta
  revert hO
  generalize kO (F := Ideal) x0 x1 x2 x3 = y
  intro hO
  pointwise
  exact sum_coe (fun d => I.dO h t d * I.o h t d) fun d => by rw [hO, EReal.coe_mul]; exact congrArg (· * _) (H.hdO h t d)

end Cert.KernelIdeal.Dq
-- ==== Proof.Dq.Block.lean ====
module

public import proofs.«01_k».proof.Proof.Dq.Body
public import proofs.«01_k».proof.Proof.Dq.Real

@[expose] public section

/-! What one pair of blocks adds to the query gradient, in the reals. -/

noncomputable section

namespace Cert.KernelIdeal.Dq
open Cert.KernelIdeal Cert.KernelIdeal.Gen Cert.Dq
open Idealize.ShloMosaic

/-- The kernel's lane test: the first head's lanes are the first 64. -/
theorem lt64 : ∀ x : Fin 128, IntOp.cmpi CmpIPredicate.slt (BitVec.ofNat 32 x.val) 64#32 = if x.val / 64 = 0 then 1#1 else 0#1 := by decide

theorem xlt64 : ∀ x : Fin 128, IntOp.xori (IntOp.cmpi CmpIPredicate.slt (BitVec.ofNat 32 x.val) 64#32) 1#1 = if x.val / 64 = 1 then 1#1 else 0#1 := by decide

/-- The kernel's causal test inside a block on the diagonal. -/
theorem le_rc (r c : Fin 512) : IntOp.cmpi CmpIPredicate.sle (BitVec.ofNat 32 c.val) (IntOp.addi (0#32) (BitVec.ofNat 32 r.val)) = if c.val ≤ r.val then 1#1 else 0#1 := by
  have hr := r.isLt
  have hc := c.isLt
  have hi : ∀ n : Fin 512, (BitVec.ofNat 32 n.val).toInt = n.val := fun n => by
    have hm : n.val % 2 ^ 32 = n.val := Nat.mod_eq_of_lt (by omega)
    rw [BitVec.toInt_eq_toNat_of_lt (by rw [BitVec.toNat_ofNat, hm]; omega), BitVec.toNat_ofNat, hm]
  simp only [IntOp.cmpi, IntOp.addi, BitVec.zero_add, BitVec.sle, hi, Nat.cast_le]
  by_cases h : c.val ≤ r.val <;> simp [h]

theorem sel_if {α : Type} (p : Prop) [Decidable p] (a b : α) : Scalar.select (if p then 1#1 else 0#1) a b = if p then a else b := by
  by_cases h : p <;> simp [Scalar.select, h]

theorem zero_toInt : (((0#32 : BitVec 32).toInt : ℝ) : EReal) = 0 := by simp

/-- A head's product of two rows of a pair of heads. -/
def hdot (a : Fin 2) (f g : Fin 128 → ℝ) : ℝ := ∑ d : Fin 64, f (lane a d) * g (lane a d)

/-- The block's product of rows, one head's lanes kept. -/
theorem masked_dot (a : Fin 2) (x y : Fin 128 → EReal) (X Y : Fin 128 → ℝ) (hx : ∀ l, x l = X l) (hy : ∀ l, y l = Y l) :
    (∑ l : Fin 128, (if h : a.val < 1 then
            Scalar.select (IntOp.cmpi CmpIPredicate.slt (BitVec.ofNat 32 l.val) 64#32) (x l) (((0#32 : BitVec 32).toInt : ℝ) : EReal)
          else
            Scalar.select (IntOp.xori (IntOp.cmpi CmpIPredicate.slt (BitVec.ofNat 32 l.val) 64#32) 1#1) (x l) (((0#32 : BitVec 32).toInt : ℝ) : EReal)) *
          if h : a.val < 1 then y l else y l) = (hdot a X Y : EReal) := by
  unfold hdot
  rw [← sum_lane a fun l => X l * Y l]
  refine sum_coe _ fun l => ?_
  rw [xlt64, lt64, sel_if, sel_if, zero_toInt, hx, hy]
  fin_cases a
  · by_cases h : l.val / 64 = 0 <;> simp [h]
  · by_cases h : l.val / 64 = 1 <;> simp [h]

/-- What a pair of blocks has for contents, in the reals. -/
structure Blk where
  q : Fin 512 → Fin 128 → ℝ
  k : Fin 512 → Fin 128 → ℝ
  v : Fin 512 → Fin 128 → ℝ
  cc : Fin 2 → Fin 512 → ℝ
  cr : Fin 2 → Fin 512 → ℝ
  ls : Fin 2 → Fin 512 → ℝ
  de : Fin 2 → Fin 512 → ℝ
  dO : Fin 512 → Fin 128 → ℝ

/-- The blocks hold the reals `B`. -/
structure Blk.Holds (B : Blk) (x0 x1 : S512x128.Idx → Elt Ideal .bf16) (x2 : S512x128.Idx → Elt Ideal .f32) (x3 : S2x512x1.Idx → Elt Ideal .f32)
    (x4 : S2x1x512.Idx → Elt Ideal .f32) (x5 x6 : S2x512x1.Idx → Elt Ideal .f32) (x7 : S512x128.Idx → Elt Ideal .f32) : Prop where
  h0 : ∀ r l, x0 (ix2 r l) = (B.q r l : EReal)
  h1 : ∀ r l, x1 (ix2 r l) = (B.k r l : EReal)
  h2 : ∀ r l, x2 (ix2 r l) = (B.v r l : EReal)
  h3 : ∀ a r, x3 (ix3 a r 0) = (B.cc a r : EReal)
  h4 : ∀ a r, x4 (ix3 a 0 r) = (B.cr a r : EReal)
  h5 : ∀ a r, x5 (ix3 a r 0) = (B.ls a r : EReal)
  h6 : ∀ a r, x6 (ix3 a r 0) = (B.de a r : EReal)
  h7 : ∀ r l, x7 (ix2 r l) = (B.dO r l : EReal)

/-- The gradient of a pair's score. -/
def Blk.ds (B : Blk) (a : Fin 2) (r c : Fin 512) : ℝ :=
  Real.exp (hdot a (B.q r) (B.k c) - B.cr a c + (B.cc a r - B.ls a r)) * (hdot a (B.dO r) (B.v c) - B.de a r)

variable {B : Blk} {x0 x1 : S512x128.Idx → Elt Ideal .bf16} {x2 : S512x128.Idx → Elt Ideal .f32} {x3 : S2x512x1.Idx → Elt Ideal .f32}
    {x4 : S2x1x512.Idx → Elt Ideal .f32} {x5 x6 : S2x512x1.Idx → Elt Ideal .f32} {x7 : S512x128.Idx → Elt Ideal .f32}

theorem dsOff_eq (hB : B.Holds x0 x1 x2 x3 x4 x5 x6 x7) (a : Fin 2) (r c : Fin 512) :
    dsOff (F := Ideal) x0 x1 x2 x3 x4 x5 x6 x7 (ix3 a r c) = (B.ds a r c : EReal) := by
  unfold dsOff
  pointwise [k0_pay11, k0_pay8, k0_pay9, k0_pay10, k0_pay7]
  rw [masked_dot a (fun l => x0 (ix2 r l)) (fun l => x1 (ix2 c l)) (B.q r) (B.k c) (hB.h0 r) (hB.h1 c),
    masked_dot a (fun l => x7 (ix2 r l)) (fun l => x2 (ix2 c l)) (B.dO r) (B.v c) (hB.h7 r) (hB.h2 c), hB.h3, hB.h4, hB.h5, hB.h6]
  rfl

/-- The same for a pair of blocks on the diagonal: the keys after the query give nothing. -/
theorem dsDiag_eq (hB : B.Holds x0 x1 x2 x3 x4 x5 x6 x7) (a : Fin 2) (r c : Fin 512) :
    dsDiag (F := Ideal) x0 x1 x2 x3 x4 x5 x6 x7 (ix3 a r c) = ((if c.val ≤ r.val then B.ds a r c else 0 : ℝ) : EReal) := by
  unfold dsDiag
  pointwise [k0_pay17, k0_pay15, k0_pay16, k0_pay14]
  rw [masked_dot a (fun l => x0 (ix2 r l)) (fun l => x1 (ix2 c l)) (B.q r) (B.k c) (hB.h0 r) (hB.h1 c),
    masked_dot a (fun l => x7 (ix2 r l)) (fun l => x2 (ix2 c l)) (B.dO r) (B.v c) (hB.h7 r) (hB.h2 c), hB.h3, hB.h4, hB.h5, hB.h6,
    le_rc, sel_if]
  by_cases h : c.val ≤ r.val
  · rw [if_pos h, if_pos h]; rfl
  · rw [if_neg h, if_neg h, show (Named.named κ "mask" 4048155338#32 : Ideal .f32) = (⊥ : EReal) from IdealRules.named_const.ideal_named_scalar _ _ _ _ rfl]
    rw [← EReal.coe_sub, ← EReal.coe_sub, EReal.bot_add]
    simp

theorem two_heads (w : Fin 2 → Fin 512 → EReal) (W : Fin 2 → Fin 512 → ℝ) (y : Fin 512 → EReal) (Y : Fin 512 → ℝ) (l : Fin 128) (hw : ∀ a c, w a c = W a c) (hy : ∀ c, y c = Y c) :
    (∑ x : Fin 512, w 0 x * Scalar.select (IntOp.cmpi CmpIPredicate.slt (BitVec.ofNat 32 l.val) 64#32) (y x) (((0#32 : BitVec 32).toInt : ℝ) : EReal)) +
        ∑ x : Fin 512, w 1 x * Scalar.select (IntOp.xori (IntOp.cmpi CmpIPredicate.slt (BitVec.ofNat 32 l.val) 64#32) 1#1) (y x) (((0#32 : BitVec 32).toInt : ℝ) : EReal)
      = ((∑ c, W ⟨l.val / 64, by omega⟩ c * Y c : ℝ) : EReal) := by
  rw [sum_coe (fun x => W 0 x * if l.val / 64 = 0 then Y x else 0) fun x => by rw [lt64, sel_if, zero_toInt, hw, hy]; by_cases h : l.val / 64 = 0 <;> simp [h],
    sum_coe (fun x => W 1 x * if l.val / 64 = 1 then Y x else 0) fun x => by rw [xlt64, sel_if, zero_toInt, hw, hy]; by_cases h : l.val / 64 = 1 <;> simp [h],
    ← EReal.coe_add]
  congr 1
  have hl := l.isLt
  rcases (show l.val / 64 = 0 ∨ l.val / 64 = 1 by omega) with h | h
  · simp [h]
  · simp [h]

/-- A block off the diagonal adds its score gradients times its keys. -/
theorem dqOff_eq (hB : B.Holds x0 x1 x2 x3 x4 x5 x6 x7) (p : S512x128.Idx → Elt Ideal .f32) (r : Fin 512) (l : Fin 128) :
    dqOff (F := Ideal) x0 x1 x2 x3 x4 x5 x6 x7 p (ix2 r l)
      = (p (ix2 r l) : EReal) + ((∑ c, B.ds ⟨l.val / 64, by omega⟩ r c * B.k c l : ℝ) : EReal) := by
  have hd : ∀ a c, k0_pay13 (F := Ideal) (k0_pay8 x2) (k0_pay9 x1 x0 x4) (k0_pay10 x3 x5) x7 x6 (ix3 a r c) = (B.ds a r c : EReal) := fun a c => dsOff_eq hB a r c
  unfold dqOff
  revert hd
  generalize k0_pay13 (F := Ideal) (k0_pay8 x2) (k0_pay9 x1 x0 x4) (k0_pay10 x3 x5) x7 x6 = w
  intro hd
  pointwise [k0_pay3, k0_pay12, k0_pay7]
  exact congrArg (fun z => p (ix2 r l) + z) (two_heads (fun a x => w (ix3 a r x)) _ (fun x => x1 (ix2 x l)) (fun x => B.k x l) l hd (fun c => hB.h1 c l))

/-- A block on the diagonal adds the same over the keys up to the query. -/
theorem dqDiag_eq (hB : B.Holds x0 x1 x2 x3 x4 x5 x6 x7) (p : S512x128.Idx → Elt Ideal .f32) (r : Fin 512) (l : Fin 128) :
    dqDiag (F := Ideal) x0 x1 x2 x3 x4 x5 x6 x7 p (ix2 r l)
      = (p (ix2 r l) : EReal) + ((∑ c, (if c.val ≤ r.val then B.ds ⟨l.val / 64, by omega⟩ r c else 0) * B.k c l : ℝ) : EReal) := by
  have hd := fun a c => dsDiag_eq hB a r c
  unfold dqDiag
  revert hd
  generalize dsDiag (F := Ideal) x0 x1 x2 x3 x4 x5 x6 x7 = w
  intro hd
  pointwise [k0_pay5, k0_pay14, k0_pay19, k0_pay20, k0_pay21, k0_pay18]
  exact congrArg (fun z => p (ix2 r l) + z) (two_heads (fun a x => w (ix3 a r x)) (fun a c => if c.val ≤ r.val then B.ds a r c else 0) (fun x => x1 (ix2 x l)) (fun x => B.k x l) l hd (fun c => hB.h1 c l))

end Cert.KernelIdeal.Dq
-- ==== Proof.Dq.Blocks.lean ====
module

public import proofs.«01_k».proof.Proof.Dq.Host
public import proofs.«01_k».proof.Proof.Dq.Block
public import Idealize.ShloMosaic.Lib.Pipeline.ValueKit.Geometry

@[expose] public section

set_option maxRecDepth 16384

/-! Where the blocks of a point lie in their arrays. -/

noncomputable section

namespace Cert.KernelIdeal.Dq
open Cert.KernelIdeal Cert.KernelIdeal.Gen Cert.Dq
open Cert.ReferenceIdeal.Dq (Holds col vcol)
open Idealize.ShloMosaic Idealize.ShloMosaic.TcCoe

/-- The number of points. -/
abbrev NA : ℕ := (cfgA (F := Ideal)).N
theorem lt_NA (t : Fin NA) : t.val < 1088 := t.isLt

/-! ## Where a point's blocks lie -/

theorem ofNat_c0 (t : Fin NA) : (BitVec.ofNat 32 ((crd t) 0).val).toNat = t.val / 136 := by
  have := lt_NA t
  rw [fact_c0 t, BitVec.toNat_ofNat, Nat.mod_eq_of_lt (by omega)]

theorem index0 (t : Fin NA) : ((cfgA (F := Ideal)).win (0 : Fin 10)).index t = ![qt (pos t.val), t.val / 136] := by
  show ![(wordQ (F := Ideal) tabQ (crd t)).toNat, (BitVec.ofNat 32 ((crd t) 0).val).toNat] = _
  rw [fact_wQ, ofNat_c0]
theorem index1 (t : Fin NA) : ((cfgA (F := Ideal)).win (1 : Fin 10)).index t = ![kt (pos t.val), t.val / 136] := by
  show ![(wordK (F := Ideal) tabK (crd t)).toNat, (BitVec.ofNat 32 ((crd t) 0).val).toNat] = _
  rw [fact_wK, ofNat_c0]
theorem index2 (t : Fin NA) : ((cfgA (F := Ideal)).win (2 : Fin 10)).index t = ![kt (pos t.val), 16 + t.val / 136] := by
  show ![(wordK (F := Ideal) tabK (crd t)).toNat, (Scalar.addi 16#32 (BitVec.ofNat 32 ((crd t) 0).val)).toNat] = _
  have := lt_NA t
  rw [fact_wK, fact_c0 t]
  have e : (Scalar.addi 16#32 (BitVec.ofNat 32 (t.val / 136))).toNat = 16 + t.val / 136 := by
    show (16#32 + BitVec.ofNat 32 (t.val / 136)).toNat = _
    rw [BitVec.toNat_add, BitVec.toNat_ofNat, BitVec.toNat_ofNat]
    omega
  rw [e]
theorem index3 (t : Fin NA) : ((cfgA (F := Ideal)).win (3 : Fin 10)).index t = ![t.val / 136, qt (pos t.val), 0] := by
  show ![(BitVec.ofNat 32 ((crd t) 0).val).toNat, (wordQ (F := Ideal) tabQ (crd t)).toNat, 0] = _
  rw [fact_wQ, ofNat_c0]
theorem index4 (t : Fin NA) : ((cfgA (F := Ideal)).win (4 : Fin 10)).index t = ![t.val / 136, 0, kt (pos t.val)] := by
  show ![(BitVec.ofNat 32 ((crd t) 0).val).toNat, 0, (wordK (F := Ideal) tabK (crd t)).toNat] = _
  rw [fact_wK, ofNat_c0]
theorem index5 (t : Fin NA) : ((cfgA (F := Ideal)).win (5 : Fin 10)).index t = ![t.val / 136, qt (pos t.val), 0] := by
  show ![(BitVec.ofNat 32 ((crd t) 0).val).toNat, (wordQ (F := Ideal) tabQ (crd t)).toNat, 0] = _
  rw [fact_wQ, ofNat_c0]
theorem index6 (t : Fin NA) : ((cfgA (F := Ideal)).win (6 : Fin 10)).index t = ![t.val / 136, qt (pos t.val), 0] := by
  show ![(BitVec.ofNat 32 ((crd t) 0).val).toNat, (wordQ (F := Ideal) tabQ (crd t)).toNat, 0] = _
  rw [fact_wQ, ofNat_c0]
theorem index7 (t : Fin NA) : ((cfgA (F := Ideal)).win (7 : Fin 10)).index t = ![qt (pos t.val), t.val / 136] := by
  show ![(wordQ (F := Ideal) tabQ (crd t)).toNat, (BitVec.ofNat 32 ((crd t) 0).val).toNat] = _
  rw [fact_wQ, ofNat_c0]
theorem index8 (t : Fin NA) : ((cfgA (F := Ideal)).win (8 : Fin 10)).index t = ![qt (pos t.val), t.val / 136] := by
  show ![(wordQ (F := Ideal) tabQ (crd t)).toNat, (BitVec.ofNat 32 ((crd t) 0).val).toNat] = _
  rw [fact_wQ, ofNat_c0]

section Blocks
variable (m : (ℓ : Loc nD τ sig) → Buf (Elt Ideal) ℓ) (c : Dev nD)

theorem read0 (V : Valuation τ sig (Elt Ideal)) (X : FVec Ideal S8192x1024 .bf16) (hX : V (Proc.devRef .tc main_v42) = X) (t : Fin NA) (r : Fin 512) (l : Fin 128) (i : S8192x1024.Idx) (h0 : (i 0).val = (qt (pos t.val)) * 512 + r.val) (h1 : (i 1).val = (t.val / 136) * 128 + l.val) :
    (((cfgA (F := Ideal)).win (0 : Fin 10)).blk t).view.read (Elt Ideal) (V (Proc.devRef .tc (Pipeline.arrRef (cfgA (F := Ideal)).spec (0 : Fin 10)))) (ix2 r l : S512x128.Idx) = X i := by
  subst hX
  show V (Proc.devRef .tc main_v42) ((((cfgA (F := Ideal)).win (0 : Fin 10)).rect t).emb (ix2 r l : S512x128.Idx)) = _
  refine congrArg _ (funext fun b => Fin.ext ?_)
  refine (Pipeline.Window.rect_emb_val _ t (ix2 r l : S512x128.Idx) b).trans ?_
  rw [index0]
  fin_cases b
  · exact h0.symm
  · exact h1.symm
theorem iblk0 (X : FVec Ideal S8192x1024 .bf16) (hX : V₀ m c (Proc.devRef .tc main_v42) = X) (t : Fin NA) (r : Fin 512) (l : Fin 128) (i : S8192x1024.Idx) (h0 : (i 0).val = (qt (pos t.val)) * 512 + r.val) (h1 : (i 1).val = (t.val / 136) * 128 + l.val) :
    (iblk m c (0 : Fin 10) t (ix2 r l : S512x128.Idx) : Elt Ideal .bf16) = X i :=
  read0 (V₀ m c) X hX t r l i h0 h1

theorem read1 (V : Valuation τ sig (Elt Ideal)) (X : FVec Ideal S8192x1024 .bf16) (hX : V (Proc.devRef .tc main_v43) = X) (t : Fin NA) (r : Fin 512) (l : Fin 128) (i : S8192x1024.Idx) (h0 : (i 0).val = (kt (pos t.val)) * 512 + r.val) (h1 : (i 1).val = (t.val / 136) * 128 + l.val) :
    (((cfgA (F := Ideal)).win (1 : Fin 10)).blk t).view.read (Elt Ideal) (V (Proc.devRef .tc (Pipeline.arrRef (cfgA (F := Ideal)).spec (1 : Fin 10)))) (ix2 r l : S512x128.Idx) = X i := by
  subst hX
  show V (Proc.devRef .tc main_v43) ((((cfgA (F := Ideal)).win (1 : Fin 10)).rect t).emb (ix2 r l : S512x128.Idx)) = _
  refine congrArg _ (funext fun b => Fin.ext ?_)
  refine (Pipeline.Window.rect_emb_val _ t (ix2 r l : S512x128.Idx) b).trans ?_
  rw [index1]
  fin_cases b
  · exact h0.symm
  · exact h1.symm
theorem iblk1 (X : FVec Ideal S8192x1024 .bf16) (hX : V₀ m c (Proc.devRef .tc main_v43) = X) (t : Fin NA) (r : Fin 512) (l : Fin 128) (i : S8192x1024.Idx) (h0 : (i 0).val = (kt (pos t.val)) * 512 + r.val) (h1 : (i 1).val = (t.val / 136) * 128 + l.val) :
    (iblk m c (1 : Fin 10) t (ix2 r l : S512x128.Idx) : Elt Ideal .bf16) = X i :=
  read1 (V₀ m c) X hX t r l i h0 h1

theorem read2 (V : Valuation τ sig (Elt Ideal)) (X : FVec Ideal S8192x4224 .f32) (hX : V (Proc.devRef .tc main_arg2) = X) (t : Fin NA) (r : Fin 512) (l : Fin 128) (i : S8192x4224.Idx) (h0 : (i 0).val = (kt (pos t.val)) * 512 + r.val) (h1 : (i 1).val = (16 + t.val / 136) * 128 + l.val) :
    (((cfgA (F := Ideal)).win (2 : Fin 10)).blk t).view.read (Elt Ideal) (V (Proc.devRef .tc (Pipeline.arrRef (cfgA (F := Ideal)).spec (2 : Fin 10)))) (ix2 r l : S512x128.Idx) = X i := by
  subst hX
  show V (Proc.devRef .tc main_arg2) ((((cfgA (F := Ideal)).win (2 : Fin 10)).rect t).emb (ix2 r l : S512x128.Idx)) = _
  refine congrArg _ (funext fun b => Fin.ext ?_)
  refine (Pipeline.Window.rect_emb_val _ t (ix2 r l : S512x128.Idx) b).trans ?_
  rw [index2]
  fin_cases b
  · exact h0.symm
  · exact h1.symm
theorem iblk2 (X : FVec Ideal S8192x4224 .f32) (hX : V₀ m c (Proc.devRef .tc main_arg2) = X) (t : Fin NA) (r : Fin 512) (l : Fin 128) (i : S8192x4224.Idx) (h0 : (i 0).val = (kt (pos t.val)) * 512 + r.val) (h1 : (i 1).val = (16 + t.val / 136) * 128 + l.val) :
    (iblk m c (2 : Fin 10) t (ix2 r l : S512x128.Idx) : Elt Ideal .f32) = X i :=
  read2 (V₀ m c) X hX t r l i h0 h1

theorem read3 (V : Valuation τ sig (Elt Ideal)) (X : FVec Ideal S16x8192x1 .f32) (hX : V (Proc.devRef .tc main_v44) = X) (t : Fin NA) (a : Fin 2) (r : Fin 512) (i : S16x8192x1.Idx) (h0 : (i 0).val = (t.val / 136) * 2 + a.val) (h1 : (i 1).val = (qt (pos t.val)) * 512 + r.val) (h2 : (i 2).val = 0) :
    (((cfgA (F := Ideal)).win (3 : Fin 10)).blk t).view.read (Elt Ideal) (V (Proc.devRef .tc (Pipeline.arrRef (cfgA (F := Ideal)).spec (3 : Fin 10)))) (ix3 a r 0 : S2x512x1.Idx) = X i := by
  subst hX
  show V (Proc.devRef .tc main_v44) ((((cfgA (F := Ideal)).win (3 : Fin 10)).rect t).emb (ix3 a r 0 : S2x512x1.Idx)) = _
  refine congrArg _ (funext fun b => Fin.ext ?_)
  refine (Pipeline.Window.rect_emb_val _ t (ix3 a r 0 : S2x512x1.Idx) b).trans ?_
  rw [index3]
  fin_cases b
  · exact h0.symm
  · exact h1.symm
  · exact h2.symm
theorem iblk3 (X : FVec Ideal S16x8192x1 .f32) (hX : V₀ m c (Proc.devRef .tc main_v44) = X) (t : Fin NA) (a : Fin 2) (r : Fin 512) (i : S16x8192x1.Idx) (h0 : (i 0).val = (t.val / 136) * 2 + a.val) (h1 : (i 1).val = (qt (pos t.val)) * 512 + r.val) (h2 : (i 2).val = 0) :
    (iblk m c (3 : Fin 10) t (ix3 a r 0 : S2x512x1.Idx) : Elt Ideal .f32) = X i :=
  read3 (V₀ m c) X hX t a r i h0 h1 h2

theorem read4 (V : Valuation τ sig (Elt Ideal)) (X : FVec Ideal S16x1x8192 .f32) (hX : V (Proc.devRef .tc main_v45) = X) (t : Fin NA) (a : Fin 2) (r : Fin 512) (i : S16x1x8192.Idx) (h0 : (i 0).val = (t.val / 136) * 2 + a.val) (h1 : (i 1).val = 0) (h2 : (i 2).val = (kt (pos t.val)) * 512 + r.val) :
    (((cfgA (F := Ideal)).win (4 : Fin 10)).blk t).view.read (Elt Ideal) (V (Proc.devRef .tc (Pipeline.arrRef (cfgA (F := Ideal)).spec (4 : Fin 10)))) (ix3 a 0 r : S2x1x512.Idx) = X i := by
  subst hX
  show V (Proc.devRef .tc main_v45) ((((cfgA (F := Ideal)).win (4 : Fin 10)).rect t).emb (ix3 a 0 r : S2x1x512.Idx)) = _
  refine congrArg _ (funext fun b => Fin.ext ?_)
  refine (Pipeline.Window.rect_emb_val _ t (ix3 a 0 r : S2x1x512.Idx) b).trans ?_
  rw [index4]
  fin_cases b
  · exact h0.symm
  · exact h1.symm
  · exact h2.symm
theorem iblk4 (X : FVec Ideal S16x1x8192 .f32) (hX : V₀ m c (Proc.devRef .tc main_v45) = X) (t : Fin NA) (a : Fin 2) (r : Fin 512) (i : S16x1x8192.Idx) (h0 : (i 0).val = (t.val / 136) * 2 + a.val) (h1 : (i 1).val = 0) (h2 : (i 2).val = (kt (pos t.val)) * 512 + r.val) :
    (iblk m c (4 : Fin 10) t (ix3 a 0 r : S2x1x512.Idx) : Elt Ideal .f32) = X i :=
  read4 (V₀ m c) X hX t a r i h0 h1 h2

theorem read5 (V : Valuation τ sig (Elt Ideal)) (X : FVec Ideal S16x8192x1 .f32) (hX : V (Proc.devRef .tc main_v35) = X) (t : Fin NA) (a : Fin 2) (r : Fin 512) (i : S16x8192x1.Idx) (h0 : (i 0).val = (t.val / 136) * 2 + a.val) (h1 : (i 1).val = (qt (pos t.val)) * 512 + r.val) (h2 : (i 2).val = 0) :
    (((cfgA (F := Ideal)).win (5 : Fin 10)).blk t).view.read (Elt Ideal) (V (Proc.devRef .tc (Pipeline.arrRef (cfgA (F := Ideal)).spec (5 : Fin 10)))) (ix3 a r 0 : S2x512x1.Idx) = X i := by
  subst hX
  show V (Proc.devRef .tc main_v35) ((((cfgA (F := Ideal)).win (5 : Fin 10)).rect t).emb (ix3 a r 0 : S2x512x1.Idx)) = _
  refine congrArg _ (funext fun b => Fin.ext ?_)
  refine (Pipeline.Window.rect_emb_val _ t (ix3 a r 0 : S2x512x1.Idx) b).trans ?_
  rw [index5]
  fin_cases b
  · exact h0.symm
  · exact h1.symm
  · exact h2.symm
theorem iblk5 (X : FVec Ideal S16x8192x1 .f32) (hX : V₀ m c (Proc.devRef .tc main_v35) = X) (t : Fin NA) (a : Fin 2) (r : Fin 512) (i : S16x8192x1.Idx) (h0 : (i 0).val = (t.val / 136) * 2 + a.val) (h1 : (i 1).val = (qt (pos t.val)) * 512 + r.val) (h2 : (i 2).val = 0) :
    (iblk m c (5 : Fin 10) t (ix3 a r 0 : S2x512x1.Idx) : Elt Ideal .f32) = X i :=
  read5 (V₀ m c) X hX t a r i h0 h1 h2

theorem read6 (V : Valuation τ sig (Elt Ideal)) (X : FVec Ideal S16x8192x1 .f32) (hX : V (Proc.devRef .tc main_v40) = X) (t : Fin NA) (a : Fin 2) (r : Fin 512) (i : S16x8192x1.Idx) (h0 : (i 0).val = (t.val / 136) * 2 + a.val) (h1 : (i 1).val = (qt (pos t.val)) * 512 + r.val) (h2 : (i 2).val = 0) :
    (((cfgA (F := Ideal)).win (6 : Fin 10)).blk t).view.read (Elt Ideal) (V (Proc.devRef .tc (Pipeline.arrRef (cfgA (F := Ideal)).spec (6 : Fin 10)))) (ix3 a r 0 : S2x512x1.Idx) = X i := by
  subst hX
  show V (Proc.devRef .tc main_v40) ((((cfgA (F := Ideal)).win (6 : Fin 10)).rect t).emb (ix3 a r 0 : S2x512x1.Idx)) = _
  refine congrArg _ (funext fun b => Fin.ext ?_)
  refine (Pipeline.Window.rect_emb_val _ t (ix3 a r 0 : S2x512x1.Idx) b).trans ?_
  rw [index6]
  fin_cases b
  · exact h0.symm
  · exact h1.symm
  · exact h2.symm
theorem iblk6 (X : FVec Ideal S16x8192x1 .f32) (hX : V₀ m c (Proc.devRef .tc main_v40) = X) (t : Fin NA) (a : Fin 2) (r : Fin 512) (i : S16x8192x1.Idx) (h0 : (i 0).val = (t.val / 136) * 2 + a.val) (h1 : (i 1).val = (qt (pos t.val)) * 512 + r.val) (h2 : (i 2).val = 0) :
    (iblk m c (6 : Fin 10) t (ix3 a r 0 : S2x512x1.Idx) : Elt Ideal .f32) = X i :=
  read6 (V₀ m c) X hX t a r i h0 h1 h2

theorem read7 (V : Valuation τ sig (Elt Ideal)) (X : FVec Ideal S8192x1024 .f32) (hX : V (Proc.devRef .tc main_arg4) = X) (t : Fin NA) (r : Fin 512) (l : Fin 128) (i : S8192x1024.Idx) (h0 : (i 0).val = (qt (pos t.val)) * 512 + r.val) (h1 : (i 1).val = (t.val / 136) * 128 + l.val) :
    (((cfgA (F := Ideal)).win (7 : Fin 10)).blk t).view.read (Elt Ideal) (V (Proc.devRef .tc (Pipeline.arrRef (cfgA (F := Ideal)).spec (7 : Fin 10)))) (ix2 r l : S512x128.Idx) = X i := by
  subst hX
  show V (Proc.devRef .tc main_arg4) ((((cfgA (F := Ideal)).win (7 : Fin 10)).rect t).emb (ix2 r l : S512x128.Idx)) = _
  refine congrArg _ (funext fun b => Fin.ext ?_)
  refine (Pipeline.Window.rect_emb_val _ t (ix2 r l : S512x128.Idx) b).trans ?_
  rw [index7]
  fin_cases b
  · exact h0.symm
  · exact h1.symm
theorem iblk7 (X : FVec Ideal S8192x1024 .f32) (hX : V₀ m c (Proc.devRef .tc main_arg4) = X) (t : Fin NA) (r : Fin 512) (l : Fin 128) (i : S8192x1024.Idx) (h0 : (i 0).val = (qt (pos t.val)) * 512 + r.val) (h1 : (i 1).val = (t.val / 136) * 128 + l.val) :
    (iblk m c (7 : Fin 10) t (ix2 r l : S512x128.Idx) : Elt Ideal .f32) = X i :=
  read7 (V₀ m c) X hX t r l i h0 h1

end Blocks

end Cert.KernelIdeal.Dq
-- ==== Proof.Dq.Value.lean ====
module

public import proofs.«01_k».proof.Proof.Dq.Blocks

@[expose] public section

/-! The running sum over the key blocks, and the array the launch leaves, over the reals. -/

set_option maxRecDepth 16384

noncomputable section

namespace Cert.KernelIdeal.Dq
open Cert.KernelIdeal Cert.KernelIdeal.Gen Cert.Dq
open Cert.ReferenceIdeal.Dq (Holds col vcol)
open Idealize.ShloMosaic Idealize.ShloMosaic.TcCoe

/-- Row `r` of a block of positions. -/
def row (b : Fin 16) (r : Fin 512) : Fin 8192 := ⟨b.val * 512 + r.val, by omega⟩
/-- Head `a` of a pair of heads. -/
def hd (p : Fin 8) (a : Fin 2) : Fin 16 := ⟨p.val * 2 + a.val, by omega⟩
/-- The head of a lane, in its pair. -/
def hl (l : Fin 128) : Fin 2 := ⟨l.val / 64, by omega⟩
/-- The coordinate of a lane, in its head. -/
def dl (l : Fin 128) : Fin 64 := ⟨l.val % 64, by omega⟩

theorem hl_lane (a : Fin 2) (d : Fin 64) : hl (lane a d) = a := Fin.ext (by simp only [hl, lane]; omega)
theorem dl_lane (a : Fin 2) (d : Fin 64) : dl (lane a d) = d := Fin.ext (by simp only [dl, lane]; omega)

/-- A point's pair of heads, query block and key block. -/
def ptP (t : Fin NA) : Fin 8 := ⟨t.val / 136, by have := lt_NA t; omega⟩
def ptQ (t : Fin NA) : Fin 16 := ⟨qt (pos t.val), (schedFacts (pos t.val)).2.1⟩
def ptK (t : Fin NA) : Fin 16 := ⟨kt (pos t.val), by have h := schedFacts (pos t.val); have h1 := h.1; have h2 := h.2.1; omega⟩

/-- The blocks of a pair of heads, a query block and a key block. -/
def blkOf (I : Inp) (p : Fin 8) (Q K : Fin 16) : Blk where
  q r l := I.q (hd p (hl l)) (row Q r) (dl l) * 0.125
  k r l := I.k (hd p (hl l)) (row K r) (dl l)
  v r l := I.v (hd p (hl l)) (row K r) (dl l)
  cc a r := I.c (hd p a) (row Q r)
  cr a r := I.c (hd p a) (row K r)
  ls a r := I.lse (hd p a) (row Q r)
  de a r := I.delta (hd p a) (row Q r)
  dO r l := I.dO (hd p (hl l)) (row Q r) (dl l)

/-- Up to the query, the blocks' gradient of a score is the row's. -/
theorem blkOf_ds (I : Inp) (p : Fin 8) (Q K : Fin 16) (a : Fin 2) (r c : Fin 512) (hu : (row K c).val ≤ (row Q r).val) :
    (blkOf I p Q K).ds a r c = I.ds (hd p a) (row Q r) (row K c) := by
  unfold Blk.ds Inp.ds
  have e1 : hdot a ((blkOf I p Q K).q r) ((blkOf I p Q K).k c) = ∑ d, I.q (hd p a) (row Q r) d * 0.125 * I.k (hd p a) (row K c) d := by
    unfold hdot
    exact Finset.sum_congr rfl fun d _ => by simp only [blkOf, hl_lane, dl_lane]
  have e2 : hdot a ((blkOf I p Q K).dO r) ((blkOf I p Q K).v c) = I.dP (hd p a) (row Q r) (row K c) := by
    unfold hdot Inp.dP
    exact Finset.sum_congr rfl fun d _ => by simp only [blkOf, hl_lane, dl_lane]
  rw [e2]
  exact congrArg (· * _) (I.exp_lse (hd p a) (row Q r) (row K c) hu _ e1)

theorem ds_past (I : Inp) (h : Fin 16) (t u : Fin 8192) (hu : ¬u.val ≤ t.val) : I.ds h t u = 0 := by
  unfold Inp.ds
  rw [show I.e h t u = 0 from if_neg hu, zero_div, zero_mul]

/-- What a key block adds to a row of the query gradient. -/
def part (I : Inp) (h : Fin 16) (t : Fin 8192) (d : Fin 64) (n : ℕ) : ℝ :=
  if hn : n < 16 then ∑ c : Fin 512, I.ds h t (row ⟨n, hn⟩ c) * I.k h (row ⟨n, hn⟩ c) d else 0

/-- A sum over the positions is the sum over the blocks of the sums over their rows. -/
theorem sum_row (f : Fin 8192 → ℝ) : ∑ u, f u = ∑ n : Fin 16, ∑ c : Fin 512, f (row n c) := by
  rw [← Fintype.sum_prod_type' fun n c => f (row n c)]
  refine (Fintype.sum_equiv (finProdFinEquiv (m := 16) (n := 512)) _ _ fun x => ?_).symm
  exact congrArg f (Fin.ext (by simp [row, finProdFinEquiv]; omega))

/-- The key blocks up to the query's give the whole gradient. -/
theorem sum_part (I : Inp) (h : Fin 16) (Q : Fin 16) (r : Fin 512) (d : Fin 64) :
    ∑ n ∈ Finset.range (Q.val + 1), part I h (row Q r) d n = I.dq h (row Q r) d := by
  have e : I.dq h (row Q r) d = ∑ n ∈ Finset.range 16, part I h (row Q r) d n := by
    rw [Finset.sum_range]
    unfold Inp.dq
    rw [sum_row]
    refine Finset.sum_congr rfl fun n _ => ?_
    unfold part
    rw [dif_pos n.isLt]
  rw [e]
  refine Finset.sum_subset (Finset.range_subset_range.2 (by omega)) fun n h16 hn => ?_
  rw [Finset.mem_range] at h16 hn
  unfold part
  rw [dif_pos h16]
  refine Finset.sum_eq_zero fun c _ => ?_
  rw [ds_past, zero_mul]
  simp only [row]
  omega

/-- What a point off the diagonal adds. -/
theorem part_off (I : Inp) (p : Fin 8) (Q K : Fin 16) (hlt : K.val < Q.val) (r : Fin 512) (l : Fin 128) :
    ∑ c, (blkOf I p Q K).ds (hl l) r c * (blkOf I p Q K).k c l = part I (hd p (hl l)) (row Q r) (dl l) K.val := by
  unfold part
  rw [dif_pos K.isLt]
  refine Finset.sum_congr rfl fun c _ => ?_
  rw [blkOf_ds]
  · rfl
  · simp only [row]; omega

/-- What a point on the diagonal adds. -/
theorem part_diag (I : Inp) (p : Fin 8) (Q K : Fin 16) (he : K.val = Q.val) (r : Fin 512) (l : Fin 128) :
    ∑ c, (if c.val ≤ r.val then (blkOf I p Q K).ds (hl l) r c else 0) * (blkOf I p Q K).k c l = part I (hd p (hl l)) (row Q r) (dl l) K.val := by
  unfold part
  rw [dif_pos K.isLt]
  refine Finset.sum_congr rfl fun c _ => ?_
  by_cases hc : c.val ≤ r.val
  · rw [if_pos hc, blkOf_ds]
    · rfl
    · simp only [row]; omega
  · rw [if_neg hc, ds_past, zero_mul, zero_mul]
    simp only [row]; omega

/-- The previous position of a row of blocks. -/
theorem prevFacts : ∀ n : Fin 136, kt n ≠ 0 → n.val ≠ 0 ∧ qt (pos (n.val - 1)) = qt n ∧ kt (pos (n.val - 1)) + 1 = kt n := by decide +kernel

theorem pay1_eq (r : Fin 512) (l : Fin 128) : k0_pay1 (F := Ideal) (ix2 r l) = (0 : EReal) := by
  pointwise [k0_pay1]

/-- A column of a pair of heads, as a head's coordinate. -/
theorem col_lane (p : Fin 8) (l : Fin 128) : (col (hd p (hl l)) (dl l)).val = p.val * 128 + l.val := by
  simp only [col, hd, hl, dl]; omega

section Run
variable (m : (ℓ : Loc nD τ sig) → Buf (Elt Ideal) ℓ) (c : Dev nD) {I : Inp}
variable (H : Holds I (m ((c : Thread nD τ).loc main_arg0)) (m ((c : Thread nD τ).loc main_arg1)) (m ((c : Thread nD τ).loc main_arg2)) (m ((c : Thread nD τ).loc main_arg3)) (m ((c : Thread nD τ).loc main_arg4)))
include H in
/-- The blocks a point reads hold the inputs' reals. -/
theorem holds_pt (t : Fin NA) : (blkOf I (ptP t) (ptQ t) (ptK t)).Holds (iblk m c (0 : Fin 10) t) (iblk m c (1 : Fin 10) t) (iblk m c (2 : Fin 10) t) (iblk m c (3 : Fin 10) t)
    (iblk m c (4 : Fin 10) t) (iblk m c (5 : Fin 10) t) (iblk m c (6 : Fin 10) t) (iblk m c (7 : Fin 10) t) where
  h0 r l := (iblk0 m c _ (V₀_42 m c) t r l (ix2 (row (ptQ t) r) (col (hd (ptP t) (hl l)) (dl l))) rfl (col_lane _ l)).trans (kQ_eq H _ _ _)
  h1 r l := (iblk1 m c _ (V₀_43 m c) t r l (ix2 (row (ptK t) r) (col (hd (ptP t) (hl l)) (dl l))) rfl (col_lane _ l)).trans (kK_eq H _ _ _)
  h2 r l := (iblk2 m c _ (V₀_arg2 m c) t r l (ix2 (row (ptK t) r) (vcol (hd (ptP t) (hl l)) (dl l))) rfl
    (by have := col_lane (ptP t) l; show 2048 + (col (hd (ptP t) (hl l)) (dl l)).val = _; rw [this]; simp only [ptP]; omega)).trans (H.hv _ _ _)
  h3 a r := (iblk3 m c _ (V₀_44 m c) t a r (ix3 (hd (ptP t) a) (row (ptQ t) r) 0) rfl rfl rfl).trans (kCcol_eq H _ _)
  h4 a r := (iblk4 m c _ (V₀_45 m c) t a r (ix3 (hd (ptP t) a) 0 (row (ptK t) r)) rfl rfl rfl).trans (kCrow_eq H _ _)
  h5 a r := (iblk5 m c _ (V₀_35 m c) t a r (ix3 (hd (ptP t) a) (row (ptQ t) r) 0) rfl rfl rfl).trans (kLse_eq H _ _)
  h6 a r := (iblk6 m c _ (V₀_40 m c) t a r (ix3 (hd (ptP t) a) (row (ptQ t) r) 0) rfl rfl rfl).trans (kDelta_eq H _ _)
  h7 r l := (iblk7 m c _ (V₀_arg4 m c) t r l (ix2 (row (ptQ t) r) (col (hd (ptP t) (hl l)) (dl l))) rfl (col_lane _ l)).trans (H.hdO _ _ _)

include H in
/-- A point adds its key block's part to what its block held. -/
theorem step_fst (t : Fin NA) (p : Outs Ideal) (r : Fin 512) (l : Fin 128) :
    (step m c t p).1 (ix2 r l) = ((if kt (pos t.val) = 0 then k0_pay1 (F := Ideal) else p.1) (ix2 r l) : EReal)
      + ((part I (hd (ptP t) (hl l)) (row (ptQ t) r) (dl l) (kt (pos t.val)) : ℝ) : EReal) := by
  have hh := holds_pt m c H t
  by_cases h1 : kt (pos t.val) = 0 <;> by_cases h2 : kt (pos t.val) = qt (pos t.val)
  · rw [step_A m c t p h1 h2, if_pos h1]
    refine (dqDiag_eq hh _ r l).trans ?_
    exact congrArg (fun x : ℝ => _ + (x : EReal)) (part_diag I (ptP t) (ptQ t) (ptK t) h2 r l)
  · rw [step_B m c t p h1 h2, if_pos h1]
    refine (dqOff_eq hh _ r l).trans ?_
    exact congrArg (fun x : ℝ => _ + (x : EReal)) (part_off I (ptP t) (ptQ t) (ptK t) (lt_of_le_of_ne (schedFacts (pos t.val)).1 h2) r l)
  · rw [step_C m c t p h1 h2, if_neg h1]
    refine (dqDiag_eq hh _ r l).trans ?_
    exact congrArg (fun x : ℝ => _ + (x : EReal)) (part_diag I (ptP t) (ptQ t) (ptK t) h2 r l)
  · rw [step_D m c t p h1 h2, if_neg h1]
    refine (dqOff_eq hh _ r l).trans ?_
    exact congrArg (fun x : ℝ => _ + (x : EReal)) (part_off I (ptP t) (ptQ t) (ptK t) (lt_of_le_of_ne (schedFacts (pos t.val)).1 h2) r l)

include H in
/-- After a point, its block holds the sum of the key blocks so far. -/
theorem traj_fst : ∀ (n : ℕ) (hn : n < NA) (r : Fin 512) (l : Fin 128),
    (traj m c n hn).1 (ix2 r l) = ((∑ k ∈ Finset.range (kt (pos n) + 1), part I (hd (ptP ⟨n, hn⟩) (hl l)) (row (ptQ ⟨n, hn⟩) r) (dl l) k : ℝ) : EReal) := by
  intro n
  induction n with
  | zero =>
    intro hn r l
    have h0 : kt (pos 0) = 0 := by decide +kernel
    refine (step_fst m c H ⟨0, hn⟩ _ r l).trans ?_
    rw [if_pos (show kt (pos (⟨0, hn⟩ : Fin NA).val) = 0 from h0), h0, Finset.sum_range_one, pay1_eq, zero_add]
  | succ n ih =>
    intro hn r l
    refine (step_fst m c H ⟨n + 1, hn⟩ _ r l).trans ?_
    by_cases h1 : kt (pos (n + 1)) = 0
    · rw [if_pos h1, h1, Finset.sum_range_one, pay1_eq, zero_add]
    · rw [if_neg h1, ih]
      have hf := prevFacts (pos (n + 1)) h1
      have hp : pos ((pos (n + 1)).val - 1) = pos n := Fin.ext (by have := hf.1; simp only at this ⊢; omega)
      rw [hp] at hf
      have hP : ptP ⟨n, Nat.lt_of_succ_lt hn⟩ = ptP ⟨n + 1, hn⟩ := Fin.ext (by have := hf.1; simp only [ptP] at this ⊢; omega)
      have hQ : ptQ ⟨n, Nat.lt_of_succ_lt hn⟩ = ptQ ⟨n + 1, hn⟩ := Fin.ext hf.2.1
      rw [hP, hQ, hf.2.2, Finset.sum_range_succ, EReal.coe_add]

/-- Where an element of a point's block of the result lies. -/
theorem emb8 (t : Fin NA) (y : S512x128.Idx) (i : S8192x1024.Idx) (h0 : (i 0).val = qt (pos t.val) * 512 + (y 0).val) (h1 : (i 1).val = t.val / 136 * 128 + (y 1).val) :
    (((cfgA (F := Ideal)).win (8 : Fin 10)).blk t).view.emb y = i := by
  show (((cfgA (F := Ideal)).win (8 : Fin 10)).rect t).emb y = _
  refine funext fun b => Fin.ext ?_
  refine (Pipeline.Window.rect_emb_val _ t y b).trans ?_
  rw [index8]
  fin_cases b
  · exact h0.symm
  · exact h1.symm

/-- Every query block has its point on the diagonal. -/
theorem diagFacts : ∀ Q : Fin 16, ∃ n : Fin 136, qt n = Q.val ∧ kt n = Q.val := by decide +kernel

/-- The query gradient, as an array. -/
def dqFun (I : Inp) (i : S8192x1024.Idx) : EReal :=
  (I.dq ⟨(i 1).val / 64, by have : (i 1).val < 1024 := (i 1).isLt; omega⟩ (i 0) ⟨(i 1).val % 64, by omega⟩ : EReal)

theorem dqFun_col (I : Inp) (h : Fin 16) (t : Fin 8192) (d : Fin 64) : dqFun I (ix2 t (col h d)) = (I.dq h t d : EReal) := by
  have e1 : (⟨(col h d).val / 64, by have := (col h d).isLt; omega⟩ : Fin 16) = h := Fin.ext (by simp only [col]; omega)
  have e2 : (⟨(col h d).val % 64, by omega⟩ : Fin 64) = d := Fin.ext (by simp only [col]; omega)
  show (I.dq ⟨(col h d).val / 64, _⟩ t ⟨(col h d).val % 64, _⟩ : EReal) = _
  rw [e1, e2]

include H in
/-- What a point on the diagonal leaves is a block of the query gradient. -/
theorem flushed_eq (t : Fin NA) (hk : kt (pos t.val) = qt (pos t.val)) (y : S512x128.Idx) :
    (traj m c t.val t.isLt).1 y = dqFun I ((((cfgA (F := Ideal)).win (8 : Fin 10)).blk t).view.emb y) := by
  obtain ⟨r, l, rfl⟩ : ∃ r l, y = ix2 r l := ⟨y 0, y 1, funext fun a => by fin_cases a <;> rfl⟩
  rw [emb8 t (ix2 r l) (ix2 (row (ptQ t) r) (col (hd (ptP t) (hl l)) (dl l))) rfl (col_lane (ptP t) l), dqFun_col]
  refine (traj_fst m c H t.val t.isLt r l).trans ?_
  rw [hk]
  exact congrArg (fun x : ℝ => (x : EReal)) (sum_part I (hd (ptP t) (hl l)) (ptQ t) r (dl l))

include H in
/-- The launch leaves the query gradient. -/
theorem dqArr_eq : dqArr m c = dqFun I := by
  refine (dats m 0 c).arrAt_eq_of_emb (8 : Fin 10) _ (fun t hf y => ?_) fun i => ?_
  · rw [flush8] at hf
    exact flushed_eq m c H t (of_decide_eq_true hf) y
  · obtain ⟨n, hq, hk⟩ := diagFacts ⟨(i 0).val / 512, by have : (i 0).val < 8192 := (i 0).isLt; omega⟩
    have h1 : (i 1).val < 1024 := (i 1).isLt
    let t : Fin NA := ⟨(i 1).val / 128 * 136 + n.val, by show _ < 1088; omega⟩
    have hp : pos t.val = n := Fin.ext (by simp only [t]; omega)
    have hd : t.val / 136 = (i 1).val / 128 := by simp only [t]; omega
    refine ⟨t, by rw [flush8, hp, hq, hk]; exact decide_eq_true rfl, ?_⟩
    refine Finset.mem_map.2 ⟨ix2 ⟨(i 0).val % 512, by omega⟩ ⟨(i 1).val % 128, by omega⟩, Finset.mem_univ _, ?_⟩
    refine emb8 t (ix2 ⟨(i 0).val % 512, by omega⟩ ⟨(i 1).val % 128, by omega⟩) i ?_ ?_
    · rw [hp, hq]; show (i 0).val = (i 0).val / 512 * 512 + (i 0).val % 512; omega
    · rw [hd]; show (i 1).val = (i 1).val / 128 * 128 + (i 1).val % 128; omega

include H in
/-- The program's result, the gradient scaled. -/
theorem result_eq (h : Fin 16) (t : Fin 8192) (d : Fin 64) :
    mulf (dqArr m c) (broadcastInDim S8192x1024 ![] bcast_S_S8192x1024 (constant (F := Ideal) S_ .f32 0x3E000000#32)) (ix2 t (col h d)) = ((I.dq h t d * 0.125 : ℝ) : EReal) := by
  rw [dqArr_eq m c H]
  show dqFun I (ix2 t (col h d)) * Ideal.ofBits .f32 0x3E000000#32 = _
  rw [dqFun_col, Cert.ReferenceIdeal.Dq.bits_eighth, EReal.coe_mul]

end Run

end Cert.KernelIdeal.Dq
-- ==== Proof.Dq.Finite.lean ====
module

public import proofs.«01_k».proof.Defs
public import proofs.«01_k».proof.Proof.Gen.Pre_finite
public import proofs.«01_k».proof.Proof.Dq.Ref
public import Idealize.ShloMosaic.Lib.ReduceAll
public import Idealize.ShloMosaic.Lib.Affine
public import Idealize.ShloMosaic.Lib.Pointwise

@[expose] public section

/-! From the precondition, that the arguments are finite, to the reals they hold. -/

noncomputable section

namespace Cert.ReferenceIdeal.Dq
open Cert.Pre_finite Cert.Pre_finite.Gen Cert.Dq
open Idealize.ShloMosaic

/-- A value whose size is below infinity is real. -/
theorem coe_of_lt (x : Ideal .f32) (h : FloatOps.cmpf .olt (FloatOps.hostAbsf x) (FloatOps.ofBits (F := Ideal) .f32 0x7F800000#32) = 1#1) :
    x = ((EReal.toReal x : ℝ) : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  refine (EReal.coe_toReal ?_ ?_).symm
  · rintro rfl
    simp [Ideal.cmp] at h
  · rintro rfl
    simp [Ideal.cmp] at h

/-- The reals of the arguments. -/
def inpOf (x0 x1 : FVec Ideal S8192x1024 .f32) (x2 : FVec Ideal S8192x4224 .f32) (x3 : FVec Ideal S8192x16 .f32) (x4 : FVec Ideal S8192x1024 .f32) : Inp where
  q h t d := EReal.toReal (x0 (ix2 t (col h d)))
  k h t d := EReal.toReal (x1 (ix2 t (col h d)))
  v h t d := EReal.toReal (x2 (ix2 t (vcol h d)))
  c h t := EReal.toReal (x3 (ix2 t h))
  dO h t d := EReal.toReal (x4 (ix2 t (col h d)))

/-- Finite arguments hold their reals. -/
theorem holds_inpOf (x0 x1 : FVec Ideal S8192x1024 .f32) (x2 : FVec Ideal S8192x4224 .f32) (x3 : FVec Ideal S8192x16 .f32) (x4 : FVec Ideal S8192x1024 .f32)
    (h : fn (F := Ideal) x0 x1 x2 x3 x4 = fun _ => 1#1) : Holds (inpOf x0 x1 x2 x3 x4) x0 x1 x2 x3 x4 := by
  have h0 := congrFun h (fun a => a.elim0)
  unfold fn fn_part1 at h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  have : Subsingleton S_.Idx := ⟨fun a b => funext fun x => x.elim0⟩
  exact
    { hq := fun h t d => coe_of_lt _ (Host.reduce_andi_all _ _ _ _ _ e0 (ix2 t (col h d)))
      hk := fun h t d => coe_of_lt _ (Host.reduce_andi_all _ _ _ _ _ e1 (ix2 t (col h d)))
      hv := fun h t d => by
        have e := coe_of_lt _ (Host.reduce_andi_all _ _ _ _ _ e2 (ix2 t (col h d)))
        have hi : (extractStridedSlice S8192x1024 ![0, 2048] x2 Cert.Pre_finite.Facts.slices_S8192x4224_S8192x1024_0_2048 : FVec Ideal S8192x1024 .f32) (ix2 t (col h d)) = x2 (ix2 t (vcol h d)) := by
          pointwise
          exact congrArg x2 (by congr 1)
        exact hi.symm.trans (e.trans (congrArg (fun x : EReal => ((EReal.toReal x : ℝ) : EReal)) hi))
      hc := fun h t => coe_of_lt _ (Host.reduce_andi_all _ _ _ _ _ e3 (ix2 t h))
      hdO := fun h t d => coe_of_lt _ (Host.reduce_andi_all _ _ _ _ _ e4 (ix2 t (col h d))) }

end Cert.ReferenceIdeal.Dq
-- ==== Proof.Dq.Words.lean ====
module

public import proofs.«01_k».proof.Defs
public import proofs.«01_k».proof.Proof.Gen.Kernel
public import proofs.«01_k».proof.Proof.Dq.Launch

@[expose] public section

/-! The query side of the kernel as printed: its text is the named program's with the constant read as the word it is printed with, so the run is the one already proved, on float words. -/

noncomputable section

namespace Cert.KernelIdeal.Dq
open Idealize.ShloMosaic Idealize.ShloMosaic.TcCoe Idealize.SL.Sem

/-- On float words a named constant is the word it is printed with. -/
abbrev printed : Named Bits := ⟨fun _ _ {φ} b => Scalar.ofBits φ b⟩

attribute [local instance] printed

set_option maxHeartbeats 8000000

/-- The two programs' bodies are the same. -/
theorem defs0_eq : Cert.Kernel.defs₀ (F := Bits) = Cert.KernelIdeal.defs₀ (F := Bits) :=
  congrArg Defs.onTc (funext fun l => funext fun a => by
    match l, a with
    | ⟨0, _⟩, (t, s) => rfl)

theorem defs_eq : Cert.Kernel.defs (F := Bits) = Cert.KernelIdeal.defs (F := Bits) :=
  congrArg (Pipeline.defs Cert.KernelIdeal.pcfgs) defs0_eq

/-- The two programs' entry functions are the same. -/
theorem main_eq : Cert.Kernel.main (F := Bits) = Cert.KernelIdeal.main (F := Bits) := by rfl

/-- The named program's run on float words. -/
theorem words (m : (ℓ : Loc nD τ sig) → Buf (Elt Bits) ℓ) (g : Dev nD → PrngReg) :
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h.1 c).2, h.2⟩) (run_main (F := Bits) m g)

/-- The kernel as printed runs and leaves its arguments and counters as they were. -/
theorem frame_kernel : Cert.quiescent_Kernel := by
  intro m g _
  rw [defs_eq, main_eq]
  exact words m g

end Cert.KernelIdeal.Dq
-- ==== Proof.Dkv.Tables.lean ====
/- The two schedule tables of the key-side backward kernel, and what they decide at each of the
   576 points of its grid: eight pairs of heads, and for each the 72 pairs (query block, key block)
   that hold an entry on or below the diagonal, ordered by the key block. -/
module

public import proofs.«01_k».proof.Defs
public import proofs.«01_k».proof.Proof.Gen.Kernel2Ideal
public import proofs.«01_k».proof.Proof.Gen.Kernel2Ideal.Launch
public import proofs.«01_k».proof.Proof.Gen.Kernel2Ideal.Skeleton
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Pipeline.FrameSuffix
public import Idealize.ShloMosaic.Lib.Pipeline.Value
public import Idealize.ShloMosaic.Lib.Claim
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.Kernel2Ideal.Dkv

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The query block of position `n` of the schedule. -/
abbrev qt (n : Fin 72) : ℕ := (lit0 n).toNat
/-- The key block of position `n` of the schedule. -/
abbrev kt (n : Fin 72) : ℕ := (lit1 n).toNat

section
variable {F : FTy → Type} [FloatOps F] [Named F]

/-- The table of query blocks, as the program's constant holds it. -/
def tabQ : S72.Idx → Elt F .i32 := fun x => lit0 (S72.rowMajor x)
/-- The table of key blocks, as the program's constant holds it. -/
def tabK : S72.Idx → Elt F .i32 := fun x => lit1 (S72.rowMajor x)

set_option backward.proofsInPublic true in
/-- The contents of the two tables the region is entered with. -/
def tabs : pre0.Contents (Elt F) := fun | ⟨0, _⟩ => tabQ (F := F) | ⟨1, _⟩ => tabK (F := F) | ⟨_ + 2, h⟩ => absurd h (by simp)
end

/-! ## Every block lies inside its array -/

theorem inb0 : ∀ i : grid0.Coords, ∀ a, (cc0_transform_0 k0_off1_inb numel1_S1 (tabs (F := Ideal)) i a + 1) * S1024x128.size a ≤ S8192x1024.size a := by decide +kernel
theorem inb1 : ∀ i : grid0.Coords, ∀ a, (cc0_transform_1 k0_off1_inb numel1_S1 (tabs (F := Ideal)) i a + 1) * S512x128.size a ≤ S8192x1024.size a := by decide +kernel
theorem inb2 : ∀ i : grid0.Coords, ∀ a, (cc0_transform_2 k0_off1_inb numel1_S1 (tabs (F := Ideal)) i a + 1) * S512x128.size a ≤ S8192x4224.size a := by decide +kernel
theorem inb3 : ∀ i : grid0.Coords, ∀ a, (cc0_transform_3 k0_off1_inb numel1_S1 (tabs (F := Ideal)) i a + 1) * S2x1024x1.size a ≤ S16x8192x1.size a := by decide +kernel
theorem inb4 : ∀ i : grid0.Coords, ∀ a, (cc0_transform_4 k0_off1_inb numel1_S1 (tabs (F := Ideal)) i a + 1) * S2x1x512.size a ≤ S16x1x8192.size a := by decide +kernel
theorem inb5 : ∀ i : grid0.Coords, ∀ a, (cc0_transform_5 k0_off1_inb numel1_S1 (tabs (F := Ideal)) i a + 1) * S2x1024x1.size a ≤ S16x8192x1.size a := by decide +kernel
theorem inb6 : ∀ i : grid0.Coords, ∀ a, (cc0_transform_6 k0_off1_inb numel1_S1 (tabs (F := Ideal)) i a + 1) * S2x1024x1.size a ≤ S16x8192x1.size a := by decide +kernel
theorem inb7 : ∀ i : grid0.Coords, ∀ a, (cc0_transform_7 k0_off1_inb numel1_S1 (tabs (F := Ideal)) i a + 1) * S2x1024x1.size a ≤ S16x8192x1.size a := by decide +kernel
theorem inb8 : ∀ i : grid0.Coords, ∀ a, (cc0_transform_8 k0_off1_inb numel1_S1 (tabs (F := Ideal)) i a + 1) * S1024x128.size a ≤ S8192x1024.size a := by decide +kernel
theorem inb9 : ∀ i : grid0.Coords, ∀ a, (cc0_transform_9 k0_off1_inb numel1_S1 (tabs (F := Ideal)) i a + 1) * S512x128.size a ≤ S8192x1024.size a := by decide +kernel
theorem inb10 : ∀ i : grid0.Coords, ∀ a, (cc0_transform_10 k0_off1_inb numel1_S1 (tabs (F := Ideal)) i a + 1) * S512x128.size a ≤ S8192x1024.size a := by decide +kernel
theorem inb11 : ∀ i : grid0.Coords, ∀ a, (cc0_transform_11 k0_off1_inb numel1_S1 (tabs (F := Ideal)) i a + 1) * S2x1x512.size a ≤ S16x1x8192.size a := by decide +kernel

section
variable {F : FTy → Type} [FloatOps F] [Named F]

/-- The tables admit the grid: every window's block lies inside its array and ends on whole words. -/
theorem ok_tabs : ok0 (F := F) (tabs (F := F)) :=
  ⟨fun i => ⟨inb0 i, .inr (Affine.block_words_dvd (s := S8192x1024) (p := EltTy.packing .bf16) (by decide) (by decide))⟩,
   fun i => ⟨inb1 i, .inr (Affine.block_words_dvd (s := S8192x1024) (p := EltTy.packing .bf16) (by decide) (by decide))⟩,
   fun i => ⟨inb2 i, .inl rfl⟩,
   fun i => ⟨inb3 i, .inl rfl⟩,
   fun i => ⟨inb4 i, .inl rfl⟩,
   fun i => ⟨inb5 i, .inl rfl⟩,
   fun i => ⟨inb6 i, .inl rfl⟩,
   fun i => ⟨inb7 i, .inl rfl⟩,
   fun i => ⟨inb8 i, .inl rfl⟩,
   fun i => ⟨inb9 i, .inl rfl⟩,
   fun i => ⟨inb10 i, .inl rfl⟩,
   fun i => ⟨inb11 i, .inl rfl⟩⟩

/-- The tables as admissible contents, and the pipeline at them. -/
def adm : (pcfg0 (F := F)).Adm := ⟨tabs, ok_tabs⟩
abbrev cfgA : Pipeline.Cfg sig Λ₀ := cfg0 (F := F) adm

/-- The coordinates of a point. -/
abbrev crd (t : Fin (cfgA (F := F)).N) : (cfgA (F := F)).grid.Coords := (cfgA (F := F)).grid.coords t

abbrev tbM0_0 : Memref sig .tc .smem S72 .i32 := Memref.whole main_c
abbrev tbM0_1 : Memref sig .tc .smem S72 .i32 := Memref.whole main_c_0

/-- The words the body reads of the two tables at a point. -/
abbrev wQ (i : grid0.Coords) : BitVec 32 :=
  View.readAt (Elt F) tbM0_0.view (Rect.unit (s := S72) (k0_off1 i) S1.size (k0_off1_inb i)).toLoadRect (tabQ (F := F)) (Shape.Idx.first (numel1_S1.symm ▸ Nat.one_pos))
abbrev wK (i : grid0.Coords) : BitVec 32 :=
  View.readAt (Elt F) tbM0_1.view (Rect.unit (s := S72) (k0_off1 i) S1.size (k0_off1_inb i)).toLoadRect (tabK (F := F)) (Shape.Idx.first (numel1_S1.symm ▸ Nat.one_pos))
end

/-- Whether an accumulator holds nothing yet before position `n`: it starts a column of blocks. -/
def frT (n : ℕ) : Bool := decide (qt ⟨n % 72, Nat.mod_lt _ (by decide)⟩ = kt ⟨n % 72, Nat.mod_lt _ (by decide)⟩ / 2)

/-- What the grid decides at a point: its coordinates and blocks, when the three outputs are written
    back, and where the body leaves them alone. -/
abbrev PointFacts (t : Fin (cfgA (F := Ideal)).N) : Prop :=
  ((crd t) 0).val = t.val / 72 ∧ ((crd t) 1).val = t.val % 72
  ∧ (wQ (F := Ideal) (crd t)) = lit0 ⟨t.val % 72, Nat.mod_lt _ (by decide)⟩
  ∧ (wK (F := Ideal) (crd t)) = lit1 ⟨t.val % 72, Nat.mod_lt _ (by decide)⟩
  ∧ ((cfgA (F := Ideal)).win (9 : Fin 12)).flush t = decide (qt ⟨t.val % 72, Nat.mod_lt _ (by decide)⟩ = 7)
  ∧ ((cfgA (F := Ideal)).win (10 : Fin 12)).flush t = decide (qt ⟨t.val % 72, Nat.mod_lt _ (by decide)⟩ = 7)
  ∧ ((cfgA (F := Ideal)).win (11 : Fin 12)).flush t = decide (qt ⟨t.val % 72, Nat.mod_lt _ (by decide)⟩ = 7)
  ∧ (cfgA (F := Ideal)).idle (9 : Fin 12) (crd t) = !decide (qt ⟨t.val % 72, Nat.mod_lt _ (by decide)⟩ = 7)
  ∧ (cfgA (F := Ideal)).idle (10 : Fin 12) (crd t) = !decide (qt ⟨t.val % 72, Nat.mod_lt _ (by decide)⟩ = 7)
  ∧ (cfgA (F := Ideal)).idle (11 : Fin 12) (crd t) = false

theorem pointFacts_0 : ∀ t : Fin (cfgA (F := Ideal)).N, 0 ≤ t.val → t.val < 72 → PointFacts t := by decide +kernel
theorem pointFacts_1 : ∀ t : Fin (cfgA (F := Ideal)).N, 72 ≤ t.val → t.val < 144 → PointFacts t := by decide +kernel
theorem pointFacts_2 : ∀ t : Fin (cfgA (F := Ideal)).N, 144 ≤ t.val → t.val < 216 → PointFacts t := by decide +kernel
theorem pointFacts_3 : ∀ t : Fin (cfgA (F := Ideal)).N, 216 ≤ t.val → t.val < 288 → PointFacts t := by decide +kernel
theorem pointFacts_4 : ∀ t : Fin (cfgA (F := Ideal)).N, 288 ≤ t.val → t.val < 360 → PointFacts t := by decide +kernel
theorem pointFacts_5 : ∀ t : Fin (cfgA (F := Ideal)).N, 360 ≤ t.val → t.val < 432 → PointFacts t := by decide +kernel
theorem pointFacts_6 : ∀ t : Fin (cfgA (F := Ideal)).N, 432 ≤ t.val → t.val < 504 → PointFacts t := by decide +kernel
theorem pointFacts_7 : ∀ t : Fin (cfgA (F := Ideal)).N, 504 ≤ t.val → t.val < 576 → PointFacts t := by decide +kernel

theorem pointFacts (t : Fin (cfgA (F := Ideal)).N) : PointFacts t := by
  rcases Nat.lt_or_ge t.val 72 with h1 | h1; · exact pointFacts_0 t (Nat.zero_le _) h1
  rcases Nat.lt_or_ge t.val 144 with h2 | h2; · exact pointFacts_1 t h1 h2
  rcases Nat.lt_or_ge t.val 216 with h3 | h3; · exact pointFacts_2 t h2 h3
  rcases Nat.lt_or_ge t.val 288 with h4 | h4; · exact pointFacts_3 t h3 h4
  rcases Nat.lt_or_ge t.val 360 with h5 | h5; · exact pointFacts_4 t h4 h5
  rcases Nat.lt_or_ge t.val 432 with h6 | h6; · exact pointFacts_5 t h5 h6
  rcases Nat.lt_or_ge t.val 504 with h7 | h7; · exact pointFacts_6 t h6 h7
  exact pointFacts_7 t h7 t.isLt

/-- Where the column of key block `j` starts in the schedule. -/
def col0 (j : ℕ) : ℕ := 8 * j - (j / 2) * ((j - 1) / 2)

/-- The schedule: position `n` is the pair of blocks `(qt n, kt n)`, `kt n / 2 ≤ qt n < 8`, the pairs in
    order of the key block; the body's five conditions at it; and a column starts after a last query block. -/
theorem schedFacts : ∀ n : Fin 72, kt n / 2 ≤ qt n ∧ qt n < 8 ∧ kt n < 16 ∧ col0 (kt n) + (qt n - kt n / 2) = n.val
    ∧ (k0_cond1 (lit0 n) (lit1 n) = 1#1 ↔ qt n = kt n / 2)
    ∧ (k0_cond2 (lit0 n) (lit1 n) = 1#1 ↔ ¬qt n = kt n / 2)
    ∧ (k0_cond3 (lit0 n) (lit1 n) = 1#1 ↔ kt n = 2 * qt n)
    ∧ (k0_cond4 (lit0 n) (lit1 n) = 1#1 ↔ kt n = 2 * qt n + 1)
    ∧ (k0_cond5 (lit0 n) = 1#1 ↔ qt n = 7)
    ∧ frT (n.val + 1) = decide (qt n = 7) := by decide +kernel

end Cert.Kernel2Ideal.Dkv

end
-- ==== Proof.Dkv.Body.lean ====
/- One step of the key-side backward kernel, path by path: what it leaves in the two scratch
   accumulators and in the three output blocks, as a function of the nine input blocks and of what
   the accumulators held before. A step is a chain of tiles of 256 query rows. -/
module

public import proofs.«01_k».proof.Proof.Dkv.Tables
public import proofs.«01_k».proof.Defs
public import proofs.«01_k».proof.Proof.Gen.Kernel2Ideal
public import proofs.«01_k».proof.Proof.Gen.Kernel2Ideal.Launch
public import proofs.«01_k».proof.Proof.Gen.Kernel2Ideal.Skeleton
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Pipeline.FrameSuffix
public import Idealize.ShloMosaic.Lib.Pipeline.Value
public import Idealize.ShloMosaic.Lib.Claim
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.Kernel2Ideal.Dkv

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## A tile: the score gradients, and the three accumulators after it from those before (`p`) -/

/-- The score gradients of a tile off the diagonal. -/
def dsO (q : S256x128.Idx → Elt F .bf16) (k : S512x128.Idx → Elt F .bf16) (h : S512x128.Idx → Elt F .f32) (cc : S2x256x1.Idx → Elt F .f32) (cr : S2x1x512.Idx → Elt F .f32) (ls dl rs : S2x256x1.Idx → Elt F .f32) (d : S256x128.Idx → Elt F .f32) : FVec F S2x256x512 .f32 :=
  k0_pay13 (k0_pay3 k) (k0_pay4 h) (k0_pay5 q) (k0_pay6 d) (k0_pay8 d) k0_pay9 k0_pay10 cr cc ls dl rs
/-- The key gradient, transposed, after a tile off the diagonal. -/
def dkO (q : S256x128.Idx → Elt F .bf16) (k : S512x128.Idx → Elt F .bf16) (h : S512x128.Idx → Elt F .f32) (cc : S2x256x1.Idx → Elt F .f32) (cr : S2x1x512.Idx → Elt F .f32) (ls dl rs : S2x256x1.Idx → Elt F .f32) (d : S256x128.Idx → Elt F .f32) (p : S128x512.Idx → Elt F .f32) : S128x512.Idx → Elt F .f32 := k0_pay15 (k0_pay5 q) (dsO q k h cc cr ls dl rs d) p
/-- The value gradient, transposed, after a tile off the diagonal. -/
def dvO (q : S256x128.Idx → Elt F .bf16) (k : S512x128.Idx → Elt F .bf16) (h : S512x128.Idx → Elt F .f32) (cc : S2x256x1.Idx → Elt F .f32) (cr : S2x1x512.Idx → Elt F .f32) (ls dl rs : S2x256x1.Idx → Elt F .f32) (d : S256x128.Idx → Elt F .f32) (p : S128x512.Idx → Elt F .f32) : S128x512.Idx → Elt F .f32 :=
  k0_pay14 (k0_pay3 k) (k0_pay5 q) (k0_pay6 d) (k0_pay8 d) k0_pay9 k0_pay10 cr cc ls p
/-- The column sums after a tile off the diagonal. -/
def dcO (q : S256x128.Idx → Elt F .bf16) (k : S512x128.Idx → Elt F .bf16) (h : S512x128.Idx → Elt F .f32) (cc : S2x256x1.Idx → Elt F .f32) (cr : S2x1x512.Idx → Elt F .f32) (ls dl rs : S2x256x1.Idx → Elt F .f32) (d : S256x128.Idx → Elt F .f32) (p : S2x1x512.Idx → Elt F .f32) : S2x1x512.Idx → Elt F .f32 := k0_pay16 (dsO q k h cc cr ls dl rs d) p
/-- The score gradients of a diagonal tile whose first row is the block's first key. -/
def dsA (q : S256x128.Idx → Elt F .bf16) (k : S512x128.Idx → Elt F .bf16) (h : S512x128.Idx → Elt F .f32) (cc : S2x256x1.Idx → Elt F .f32) (cr : S2x1x512.Idx → Elt F .f32) (ls dl rs : S2x256x1.Idx → Elt F .f32) (d : S256x128.Idx → Elt F .f32) : FVec F S2x256x512 .f32 :=
  k0_pay63 (k0_pay53 k) (k0_pay54 h) (k0_pay55 q) (k0_pay56 d) (k0_pay58 d) k0_pay59 k0_pay60 cr cc ls dl rs
/-- The key gradient, transposed, after such a tile. -/
def dkA (q : S256x128.Idx → Elt F .bf16) (k : S512x128.Idx → Elt F .bf16) (h : S512x128.Idx → Elt F .f32) (cc : S2x256x1.Idx → Elt F .f32) (cr : S2x1x512.Idx → Elt F .f32) (ls dl rs : S2x256x1.Idx → Elt F .f32) (d : S256x128.Idx → Elt F .f32) (p : S128x512.Idx → Elt F .f32) : S128x512.Idx → Elt F .f32 := k0_pay66 (k0_pay55 q) (dsA q k h cc cr ls dl rs d) p
/-- The value gradient, transposed, after such a tile. -/
def dvA (q : S256x128.Idx → Elt F .bf16) (k : S512x128.Idx → Elt F .bf16) (h : S512x128.Idx → Elt F .f32) (cc : S2x256x1.Idx → Elt F .f32) (cr : S2x1x512.Idx → Elt F .f32) (ls dl rs : S2x256x1.Idx → Elt F .f32) (d : S256x128.Idx → Elt F .f32) (p : S128x512.Idx → Elt F .f32) : S128x512.Idx → Elt F .f32 :=
  k0_pay65 p (k0_pay64 (k0_pay53 k) (k0_pay55 q) (k0_pay56 d) (k0_pay58 d) k0_pay59 k0_pay60 cr cc ls)
/-- The column sums after such a tile. -/
def dcA (q : S256x128.Idx → Elt F .bf16) (k : S512x128.Idx → Elt F .bf16) (h : S512x128.Idx → Elt F .f32) (cc : S2x256x1.Idx → Elt F .f32) (cr : S2x1x512.Idx → Elt F .f32) (ls dl rs : S2x256x1.Idx → Elt F .f32) (d : S256x128.Idx → Elt F .f32) (p : S2x1x512.Idx → Elt F .f32) : S2x1x512.Idx → Elt F .f32 := k0_pay67 (dsA q k h cc cr ls dl rs d) p
/-- The score gradients of a diagonal tile whose first row is 256 below the block's first key. -/
def dsB (q : S256x128.Idx → Elt F .bf16) (k : S512x128.Idx → Elt F .bf16) (h : S512x128.Idx → Elt F .f32) (cc : S2x256x1.Idx → Elt F .f32) (cr : S2x1x512.Idx → Elt F .f32) (ls dl rs : S2x256x1.Idx → Elt F .f32) (d : S256x128.Idx → Elt F .f32) : FVec F S2x256x512 .f32 :=
  k0_pay77 (k0_pay69 h) (k0_pay74 d) (k0_pay75 (k0_pay68 k) (k0_pay70 q) k0_pay71 k0_pay72 cr) cc ls dl rs
/-- The key gradient, transposed, after such a tile. -/
def dkB (q : S256x128.Idx → Elt F .bf16) (k : S512x128.Idx → Elt F .bf16) (h : S512x128.Idx → Elt F .f32) (cc : S2x256x1.Idx → Elt F .f32) (cr : S2x1x512.Idx → Elt F .f32) (ls dl rs : S2x256x1.Idx → Elt F .f32) (d : S256x128.Idx → Elt F .f32) (p : S128x512.Idx → Elt F .f32) : S128x512.Idx → Elt F .f32 :=
  k0_pay79 (k0_pay69 h) (k0_pay73 (k0_pay70 q) k0_pay71 k0_pay72) (k0_pay74 d) (k0_pay75 (k0_pay68 k) (k0_pay70 q) k0_pay71 k0_pay72 cr) cc ls dl rs p
/-- The value gradient, transposed, after such a tile. -/
def dvB (q : S256x128.Idx → Elt F .bf16) (k : S512x128.Idx → Elt F .bf16) (h : S512x128.Idx → Elt F .f32) (cc : S2x256x1.Idx → Elt F .f32) (cr : S2x1x512.Idx → Elt F .f32) (ls dl rs : S2x256x1.Idx → Elt F .f32) (d : S256x128.Idx → Elt F .f32) (p : S128x512.Idx → Elt F .f32) : S128x512.Idx → Elt F .f32 :=
  k0_pay78 (k0_pay74 d) (k0_pay75 (k0_pay68 k) (k0_pay70 q) k0_pay71 k0_pay72 cr) cc ls p
/-- The column sums after such a tile. -/
def dcB (q : S256x128.Idx → Elt F .bf16) (k : S512x128.Idx → Elt F .bf16) (h : S512x128.Idx → Elt F .f32) (cc : S2x256x1.Idx → Elt F .f32) (cr : S2x1x512.Idx → Elt F .f32) (ls dl rs : S2x256x1.Idx → Elt F .f32) (d : S256x128.Idx → Elt F .f32) (p : S2x1x512.Idx → Elt F .f32) : S2x1x512.Idx → Elt F .f32 := k0_pay80 (dsB q k h cc cr ls dl rs d) p

/-! ## The rows of a tile -/

/-- Rows 0 to 255 of a block of 1024 rows. -/
abbrev rw0 {e : EltTy} (x : S1024x128.Idx → Elt F e) : S256x128.Idx → Elt F e :=
  View.ld x (Rect.unit (s := S1024x128) ![0, 0] S256x128.size inb_S1024x128_S256x128_0_0)
/-- Rows 0 to 255 of a pair of columns of 1024 rows. -/
abbrev cl0 {e : EltTy} (x : S2x1024x1.Idx → Elt F e) : S2x256x1.Idx → Elt F e :=
  View.ld x (Rect.unit (s := S2x1024x1) ![0, 0, 0] S2x256x1.size inb_S2x1024x1_S2x256x1_0_0_0)

/-- Rows 256 to 511 of a block of 1024 rows. -/
abbrev rw256 {e : EltTy} (x : S1024x128.Idx → Elt F e) : S256x128.Idx → Elt F e :=
  View.ld x (Rect.unit (s := S1024x128) ![256, 0] S256x128.size inb_S1024x128_S256x128_256_0)
/-- Rows 256 to 511 of a pair of columns of 1024 rows. -/
abbrev cl256 {e : EltTy} (x : S2x1024x1.Idx → Elt F e) : S2x256x1.Idx → Elt F e :=
  View.ld x (Rect.unit (s := S2x1024x1) ![0, 256, 0] S2x256x1.size inb_S2x1024x1_S2x256x1_0_256_0)

/-- Rows 512 to 767 of a block of 1024 rows. -/
abbrev rw512 {e : EltTy} (x : S1024x128.Idx → Elt F e) : S256x128.Idx → Elt F e :=
  View.ld x (Rect.unit (s := S1024x128) ![512, 0] S256x128.size inb_S1024x128_S256x128_512_0)
/-- Rows 512 to 767 of a pair of columns of 1024 rows. -/
abbrev cl512 {e : EltTy} (x : S2x1024x1.Idx → Elt F e) : S2x256x1.Idx → Elt F e :=
  View.ld x (Rect.unit (s := S2x1024x1) ![0, 512, 0] S2x256x1.size inb_S2x1024x1_S2x256x1_0_512_0)

/-- Rows 768 to 1023 of a block of 1024 rows. -/
abbrev rw768 {e : EltTy} (x : S1024x128.Idx → Elt F e) : S256x128.Idx → Elt F e :=
  View.ld x (Rect.unit (s := S1024x128) ![768, 0] S256x128.size inb_S1024x128_S256x128_768_0)
/-- Rows 768 to 1023 of a pair of columns of 1024 rows. -/
abbrev cl768 {e : EltTy} (x : S2x1024x1.Idx → Elt F e) : S2x256x1.Idx → Elt F e :=
  View.ld x (Rect.unit (s := S2x1024x1) ![0, 768, 0] S2x256x1.size inb_S2x1024x1_S2x256x1_0_768_0)

/-! ## A step: its tiles one after another -/

/-- The key gradient, transposed, after a pair of blocks off the diagonal. -/
def dkOff (x0 : S1024x128.Idx → Elt F .bf16) (x1 : S512x128.Idx → Elt F .bf16) (x2 : S512x128.Idx → Elt F .f32) (x3 : S2x1024x1.Idx → Elt F .f32) (x4 : S2x1x512.Idx → Elt F .f32) (x5 : S2x1024x1.Idx → Elt F .f32) (x6 : S2x1024x1.Idx → Elt F .f32) (x7 : S2x1024x1.Idx → Elt F .f32) (x8 : S1024x128.Idx → Elt F .f32) (p : S128x512.Idx → Elt F .f32) : S128x512.Idx → Elt F .f32 :=
  (dkO (rw768 x0) x1 x2 (cl768 x3) x4 (cl768 x5) (cl768 x6) (cl768 x7) (rw768 x8) (dkO (rw512 x0) x1 x2 (cl512 x3) x4 (cl512 x5) (cl512 x6) (cl512 x7) (rw512 x8) (dkO (rw256 x0) x1 x2 (cl256 x3) x4 (cl256 x5) (cl256 x6) (cl256 x7) (rw256 x8) (dkO (rw0 x0) x1 x2 (cl0 x3) x4 (cl0 x5) (cl0 x6) (cl0 x7) (rw0 x8) p))))
/-- The value gradient, transposed, after a pair of blocks off the diagonal. -/
def dvOff (x0 : S1024x128.Idx → Elt F .bf16) (x1 : S512x128.Idx → Elt F .bf16) (x2 : S512x128.Idx → Elt F .f32) (x3 : S2x1024x1.Idx → Elt F .f32) (x4 : S2x1x512.Idx → Elt F .f32) (x5 : S2x1024x1.Idx → Elt F .f32) (x6 : S2x1024x1.Idx → Elt F .f32) (x7 : S2x1024x1.Idx → Elt F .f32) (x8 : S1024x128.Idx → Elt F .f32) (p : S128x512.Idx → Elt F .f32) : S128x512.Idx → Elt F .f32 :=
  (dvO (rw768 x0) x1 x2 (cl768 x3) x4 (cl768 x5) (cl768 x6) (cl768 x7) (rw768 x8) (dvO (rw512 x0) x1 x2 (cl512 x3) x4 (cl512 x5) (cl512 x6) (cl512 x7) (rw512 x8) (dvO (rw256 x0) x1 x2 (cl256 x3) x4 (cl256 x5) (cl256 x6) (cl256 x7) (rw256 x8) (dvO (rw0 x0) x1 x2 (cl0 x3) x4 (cl0 x5) (cl0 x6) (cl0 x7) (rw0 x8) p))))
/-- The column sums after a pair of blocks off the diagonal. -/
def dcOff (x0 : S1024x128.Idx → Elt F .bf16) (x1 : S512x128.Idx → Elt F .bf16) (x2 : S512x128.Idx → Elt F .f32) (x3 : S2x1024x1.Idx → Elt F .f32) (x4 : S2x1x512.Idx → Elt F .f32) (x5 : S2x1024x1.Idx → Elt F .f32) (x6 : S2x1024x1.Idx → Elt F .f32) (x7 : S2x1024x1.Idx → Elt F .f32) (x8 : S1024x128.Idx → Elt F .f32) (p : S2x1x512.Idx → Elt F .f32) : S2x1x512.Idx → Elt F .f32 :=
  (dcO (rw768 x0) x1 x2 (cl768 x3) x4 (cl768 x5) (cl768 x6) (cl768 x7) (rw768 x8) (dcO (rw512 x0) x1 x2 (cl512 x3) x4 (cl512 x5) (cl512 x6) (cl512 x7) (rw512 x8) (dcO (rw256 x0) x1 x2 (cl256 x3) x4 (cl256 x5) (cl256 x6) (cl256 x7) (rw256 x8) (dcO (rw0 x0) x1 x2 (cl0 x3) x4 (cl0 x5) (cl0 x6) (cl0 x7) (rw0 x8) p))))
/-- The key gradient, transposed, after a pair of blocks whose keys are the first half of the query block's positions. -/
def dkEven (x0 : S1024x128.Idx → Elt F .bf16) (x1 : S512x128.Idx → Elt F .bf16) (x2 : S512x128.Idx → Elt F .f32) (x3 : S2x1024x1.Idx → Elt F .f32) (x4 : S2x1x512.Idx → Elt F .f32) (x5 : S2x1024x1.Idx → Elt F .f32) (x6 : S2x1024x1.Idx → Elt F .f32) (x7 : S2x1024x1.Idx → Elt F .f32) (x8 : S1024x128.Idx → Elt F .f32) (p : S128x512.Idx → Elt F .f32) : S128x512.Idx → Elt F .f32 :=
  (dkO (rw768 x0) x1 x2 (cl768 x3) x4 (cl768 x5) (cl768 x6) (cl768 x7) (rw768 x8) (dkO (rw512 x0) x1 x2 (cl512 x3) x4 (cl512 x5) (cl512 x6) (cl512 x7) (rw512 x8) (dkB (rw256 x0) x1 x2 (cl256 x3) x4 (cl256 x5) (cl256 x6) (cl256 x7) (rw256 x8) (dkA (rw0 x0) x1 x2 (cl0 x3) x4 (cl0 x5) (cl0 x6) (cl0 x7) (rw0 x8) p))))
/-- The value gradient, transposed, after a pair of blocks whose keys are the first half of the query block's positions. -/
def dvEven (x0 : S1024x128.Idx → Elt F .bf16) (x1 : S512x128.Idx → Elt F .bf16) (x2 : S512x128.Idx → Elt F .f32) (x3 : S2x1024x1.Idx → Elt F .f32) (x4 : S2x1x512.Idx → Elt F .f32) (x5 : S2x1024x1.Idx → Elt F .f32) (x6 : S2x1024x1.Idx → Elt F .f32) (x7 : S2x1024x1.Idx → Elt F .f32) (x8 : S1024x128.Idx → Elt F .f32) (p : S128x512.Idx → Elt F .f32) : S128x512.Idx → Elt F .f32 :=
  (dvO (rw768 x0) x1 x2 (cl768 x3) x4 (cl768 x5) (cl768 x6) (cl768 x7) (rw768 x8) (dvO (rw512 x0) x1 x2 (cl512 x3) x4 (cl512 x5) (cl512 x6) (cl512 x7) (rw512 x8) (dvB (rw256 x0) x1 x2 (cl256 x3) x4 (cl256 x5) (cl256 x6) (cl256 x7) (rw256 x8) (dvA (rw0 x0) x1 x2 (cl0 x3) x4 (cl0 x5) (cl0 x6) (cl0 x7) (rw0 x8) p))))
/-- The column sums after a pair of blocks whose keys are the first half of the query block's positions. -/
def dcEven (x0 : S1024x128.Idx → Elt F .bf16) (x1 : S512x128.Idx → Elt F .bf16) (x2 : S512x128.Idx → Elt F .f32) (x3 : S2x1024x1.Idx → Elt F .f32) (x4 : S2x1x512.Idx → Elt F .f32) (x5 : S2x1024x1.Idx → Elt F .f32) (x6 : S2x1024x1.Idx → Elt F .f32) (x7 : S2x1024x1.Idx → Elt F .f32) (x8 : S1024x128.Idx → Elt F .f32) (p : S2x1x512.Idx → Elt F .f32) : S2x1x512.Idx → Elt F .f32 :=
  (dcO (rw768 x0) x1 x2 (cl768 x3) x4 (cl768 x5) (cl768 x6) (cl768 x7) (rw768 x8) (dcO (rw512 x0) x1 x2 (cl512 x3) x4 (cl512 x5) (cl512 x6) (cl512 x7) (rw512 x8) (dcB (rw256 x0) x1 x2 (cl256 x3) x4 (cl256 x5) (cl256 x6) (cl256 x7) (rw256 x8) (dcA (rw0 x0) x1 x2 (cl0 x3) x4 (cl0 x5) (cl0 x6) (cl0 x7) (rw0 x8) p))))
/-- The key gradient, transposed, after a pair of blocks whose keys are the second half of the query block's positions. -/
def dkOdd (x0 : S1024x128.Idx → Elt F .bf16) (x1 : S512x128.Idx → Elt F .bf16) (x2 : S512x128.Idx → Elt F .f32) (x3 : S2x1024x1.Idx → Elt F .f32) (x4 : S2x1x512.Idx → Elt F .f32) (x5 : S2x1024x1.Idx → Elt F .f32) (x6 : S2x1024x1.Idx → Elt F .f32) (x7 : S2x1024x1.Idx → Elt F .f32) (x8 : S1024x128.Idx → Elt F .f32) (p : S128x512.Idx → Elt F .f32) : S128x512.Idx → Elt F .f32 :=
  (dkB (rw768 x0) x1 x2 (cl768 x3) x4 (cl768 x5) (cl768 x6) (cl768 x7) (rw768 x8) (dkA (rw512 x0) x1 x2 (cl512 x3) x4 (cl512 x5) (cl512 x6) (cl512 x7) (rw512 x8) p))
/-- The value gradient, transposed, after a pair of blocks whose keys are the second half of the query block's positions. -/
def dvOdd (x0 : S1024x128.Idx → Elt F .bf16) (x1 : S512x128.Idx → Elt F .bf16) (x2 : S512x128.Idx → Elt F .f32) (x3 : S2x1024x1.Idx → Elt F .f32) (x4 : S2x1x512.Idx → Elt F .f32) (x5 : S2x1024x1.Idx → Elt F .f32) (x6 : S2x1024x1.Idx → Elt F .f32) (x7 : S2x1024x1.Idx → Elt F .f32) (x8 : S1024x128.Idx → Elt F .f32) (p : S128x512.Idx → Elt F .f32) : S128x512.Idx → Elt F .f32 :=
  (dvB (rw768 x0) x1 x2 (cl768 x3) x4 (cl768 x5) (cl768 x6) (cl768 x7) (rw768 x8) (dvA (rw512 x0) x1 x2 (cl512 x3) x4 (cl512 x5) (cl512 x6) (cl512 x7) (rw512 x8) p))
/-- The column sums after a pair of blocks whose keys are the second half of the query block's positions. -/
def dcOdd (x0 : S1024x128.Idx → Elt F .bf16) (x1 : S512x128.Idx → Elt F .bf16) (x2 : S512x128.Idx → Elt F .f32) (x3 : S2x1024x1.Idx → Elt F .f32) (x4 : S2x1x512.Idx → Elt F .f32) (x5 : S2x1024x1.Idx → Elt F .f32) (x6 : S2x1024x1.Idx → Elt F .f32) (x7 : S2x1024x1.Idx → Elt F .f32) (x8 : S1024x128.Idx → Elt F .f32) (p : S2x1x512.Idx → Elt F .f32) : S2x1x512.Idx → Elt F .f32 :=
  (dcB (rw768 x0) x1 x2 (cl768 x3) x4 (cl768 x5) (cl768 x6) (cl768 x7) (rw768 x8) (dcA (rw512 x0) x1 x2 (cl512 x3) x4 (cl512 x5) (cl512 x6) (cl512 x7) (rw512 x8) p))

theorem z2 : (![0, 0] : Fin 2 → ℕ) = fun _ => 0 := by funext a; fin_cases a <;> rfl
theorem z3 : (![0, 0, 0] : Fin 3 → ℕ) = fun _ => 0 := by funext a; fin_cases a <;> rfl

/-- The words the body reads of the tables at a point. -/
abbrev wordQ (T : S72.Idx → Elt F .i32) (i : grid0.Coords) : BitVec 32 :=
  View.readAt (Elt F) tbM0_0.view (Rect.unit (s := S72) (k0_off1 i) S1.size (k0_off1_inb i)).toLoadRect T (Shape.Idx.first (numel1_S1.symm ▸ Nat.one_pos))
abbrev wordK (T : S72.Idx → Elt F .i32) (i : grid0.Coords) : BitVec 32 :=
  View.readAt (Elt F) tbM0_1.view (Rect.unit (s := S72) (k0_off1 i) S1.size (k0_off1_inb i)).toLoadRect T (Shape.Idx.first (numel1_S1.symm ▸ Nat.one_pos))

/-- A buffer whose last store covers it holds that store's payload. -/
theorem owns_last {s : Shape} {e : EltTy} (c : Dev nD) (a : Memref sig .tc .vmem s e) (ha : a.IsWhole) (f)
    {off : Fin s.rank → ℕ} (h : off = fun _ => 0) (inb : ∀ k, off k + s.size k ≤ s.size k) (w : s.Idx → Elt F e) (L : List (View.Piece (Elt F) s e)) :
    a.view.read (Elt F) (a.view.writes (Elt F) f ((⟨Rect.unit off s.size inb, w⟩ : View.Piece (Elt F) s e) :: L)) = w := by
  rw [View.read_writes_eq_canon _ _ _ (fun y => ⟨_, List.mem_cons_self, View.mem_set_unit_zero h inb y⟩), View.canon_cons_unit_zero h inb]

/-- A load of a rectangle of a buffer held at `x` reads `x` there. -/
theorem rdS {s : Shape} {e : EltTy} {sp : Space} (v : View sig .tc sp s e) {size : Fin s.rank → ℕ} {off : Fin s.rank → ℕ} (inb : ∀ k, off k + size k ≤ s.size k) (x : s.Idx → Elt F e) :
    View.readAt (Elt F) v (Rect.unit off size inb).toLoadRect (v.rep x) = View.ld x (Rect.unit off size inb) :=
  (View.readAt_eq_ld v _ (Rect.unit off size inb)).trans (by rw [View.read_rep])

/-- A whole load of a buffer held at `x` reads `x`. -/
theorem rd {s : Shape} {e : EltTy} {sp : Space} (v : View sig .tc sp s e) {off : Fin s.rank → ℕ} (h : off = fun _ => 0) (inb : ∀ k, off k + s.size k ≤ s.size k) (x : s.Idx → Elt F e) :
    View.readAt (Elt F) v (Rect.unit off s.size inb).toLoadRect (v.rep x) = x := by
  rw [rdS, View.ld_unit_zero h]

/-- A load of rows 0 to 255 of a block held at `x`, and of a pair of columns. -/
abbrev lr0 {e : EltTy} {sp : Space} (v : View sig .tc sp S1024x128 e) (x : S1024x128.Idx → Elt F e) : S256x128.Idx → Elt F e :=
  View.readAt (Elt F) v (Rect.unit (s := S1024x128) ![0, 0] S256x128.size inb_S1024x128_S256x128_0_0).toLoadRect (v.rep x)
abbrev lc0 {e : EltTy} {sp : Space} (v : View sig .tc sp S2x1024x1 e) (x : S2x1024x1.Idx → Elt F e) : S2x256x1.Idx → Elt F e :=
  View.readAt (Elt F) v (Rect.unit (s := S2x1024x1) ![0, 0, 0] S2x256x1.size inb_S2x1024x1_S2x256x1_0_0_0).toLoadRect (v.rep x)
theorem lr0_eq {e : EltTy} {sp : Space} (v : View sig .tc sp S1024x128 e) (x : S1024x128.Idx → Elt F e) : lr0 v x = rw0 x := rdS v _ x
theorem lc0_eq {e : EltTy} {sp : Space} (v : View sig .tc sp S2x1024x1 e) (x : S2x1024x1.Idx → Elt F e) : lc0 v x = cl0 x := rdS v _ x

/-- A load of rows 256 to 511 of a block held at `x`, and of a pair of columns. -/
abbrev lr256 {e : EltTy} {sp : Space} (v : View sig .tc sp S1024x128 e) (x : S1024x128.Idx → Elt F e) : S256x128.Idx → Elt F e :=
  View.readAt (Elt F) v (Rect.unit (s := S1024x128) ![256, 0] S256x128.size inb_S1024x128_S256x128_256_0).toLoadRect (v.rep x)
abbrev lc256 {e : EltTy} {sp : Space} (v : View sig .tc sp S2x1024x1 e) (x : S2x1024x1.Idx → Elt F e) : S2x256x1.Idx → Elt F e :=
  View.readAt (Elt F) v (Rect.unit (s := S2x1024x1) ![0, 256, 0] S2x256x1.size inb_S2x1024x1_S2x256x1_0_256_0).toLoadRect (v.rep x)
theorem lr256_eq {e : EltTy} {sp : Space} (v : View sig .tc sp S1024x128 e) (x : S1024x128.Idx → Elt F e) : lr256 v x = rw256 x := rdS v _ x
theorem lc256_eq {e : EltTy} {sp : Space} (v : View sig .tc sp S2x1024x1 e) (x : S2x1024x1.Idx → Elt F e) : lc256 v x = cl256 x := rdS v _ x

/-- A load of rows 512 to 767 of a block held at `x`, and of a pair of columns. -/
abbrev lr512 {e : EltTy} {sp : Space} (v : View sig .tc sp S1024x128 e) (x : S1024x128.Idx → Elt F e) : S256x128.Idx → Elt F e :=
  View.readAt (Elt F) v (Rect.unit (s := S1024x128) ![512, 0] S256x128.size inb_S1024x128_S256x128_512_0).toLoadRect (v.rep x)
abbrev lc512 {e : EltTy} {sp : Space} (v : View sig .tc sp S2x1024x1 e) (x : S2x1024x1.Idx → Elt F e) : S2x256x1.Idx → Elt F e :=
  View.readAt (Elt F) v (Rect.unit (s := S2x1024x1) ![0, 512, 0] S2x256x1.size inb_S2x1024x1_S2x256x1_0_512_0).toLoadRect (v.rep x)
theorem lr512_eq {e : EltTy} {sp : Space} (v : View sig .tc sp S1024x128 e) (x : S1024x128.Idx → Elt F e) : lr512 v x = rw512 x := rdS v _ x
theorem lc512_eq {e : EltTy} {sp : Space} (v : View sig .tc sp S2x1024x1 e) (x : S2x1024x1.Idx → Elt F e) : lc512 v x = cl512 x := rdS v _ x

/-- A load of rows 768 to 1023 of a block held at `x`, and of a pair of columns. -/
abbrev lr768 {e : EltTy} {sp : Space} (v : View sig .tc sp S1024x128 e) (x : S1024x128.Idx → Elt F e) : S256x128.Idx → Elt F e :=
  View.readAt (Elt F) v (Rect.unit (s := S1024x128) ![768, 0] S256x128.size inb_S1024x128_S256x128_768_0).toLoadRect (v.rep x)
abbrev lc768 {e : EltTy} {sp : Space} (v : View sig .tc sp S2x1024x1 e) (x : S2x1024x1.Idx → Elt F e) : S2x256x1.Idx → Elt F e :=
  View.readAt (Elt F) v (Rect.unit (s := S2x1024x1) ![0, 768, 0] S2x256x1.size inb_S2x1024x1_S2x256x1_0_768_0).toLoadRect (v.rep x)
theorem lr768_eq {e : EltTy} {sp : Space} (v : View sig .tc sp S1024x128 e) (x : S1024x128.Idx → Elt F e) : lr768 v x = rw768 x := rdS v _ x
theorem lc768_eq {e : EltTy} {sp : Space} (v : View sig .tc sp S2x1024x1 e) (x : S2x1024x1.Idx → Elt F e) : lc768 v x = cl768 x := rdS v _ x

/-- Whole loads of a key block and of a pair of rows held at `x`. -/
abbrev lk {e : EltTy} {sp : Space} (v : View sig .tc sp S512x128 e) (x : S512x128.Idx → Elt F e) : S512x128.Idx → Elt F e :=
  View.readAt (Elt F) v (Rect.unit (s := S512x128) ![0, 0] S512x128.size inb_S512x128_S512x128_0_0).toLoadRect (v.rep x)
abbrev ll {e : EltTy} {sp : Space} (v : View sig .tc sp S2x1x512 e) (x : S2x1x512.Idx → Elt F e) : S2x1x512.Idx → Elt F e :=
  View.readAt (Elt F) v (Rect.unit (s := S2x1x512) ![0, 0, 0] S2x1x512.size inb_S2x1x512_S2x1x512_0_0_0).toLoadRect (v.rep x)
theorem lk_eq {e : EltTy} {sp : Space} (v : View sig .tc sp S512x128 e) (x : S512x128.Idx → Elt F e) : lk v x = x := rd v z2 _ x
theorem ll_eq {e : EltTy} {sp : Space} (v : View sig .tc sp S2x1x512 e) (x : S2x1x512.Idx → Elt F e) : ll v x = x := rd v z3 _ x

/-- A whole load after stores of which the last covers the buffer reads that store's payload. -/
theorem rc {s : Shape} {e : EltTy} {sp : Space} (v : View sig .tc sp s e) {off : Fin s.rank → ℕ} (h : off = fun _ => 0)
    (inb : ∀ k, off k + s.size k ≤ s.size k) (w : s.Idx → Elt F e) (L : List (View.Piece (Elt F) s e)) :
    v.readCov ((⟨Rect.unit off s.size inb, w⟩ : View.Piece (Elt F) s e) :: L) (Rect.unit off s.size inb).toLoadRect = w := by
  subst h
  rw [View.readCov_eq_canon_ld _ _ _ (fun y => ⟨_, List.mem_cons_self, View.mem_set_unit_zero rfl inb y⟩), View.canon_cons_unit_zero rfl, View.ld_unit_zero rfl]

/-- The rectangles of whole loads and stores of an accumulator. -/
abbrev RA : Rect S128x512 := Rect.unit (s := S128x512) ![0, 0] S128x512.size inb_S128x512_S128x512_0_0
abbrev RC : Rect S2x1x512 := Rect.unit (s := S2x1x512) ![0, 0, 0] S2x1x512.size inb_S2x1x512_S2x1x512_0_0_0

/-! ## What the stores of a step leave: each tile reads back what the one before stored -/

theorem dkOff_run (v4 : View sig .tc .vmem S1024x128 .bf16) (v5 : View sig .tc .vmem S512x128 .bf16) (v6 : View sig .tc .vmem S512x128 .f32) (v7 : View sig .tc .vmem S2x1024x1 .f32) (v8 : View sig .tc .vmem S2x1x512 .f32) (v9 : View sig .tc .vmem S2x1024x1 .f32) (v10 : View sig .tc .vmem S2x1024x1 .f32) (v11 : View sig .tc .vmem S2x1024x1 .f32) (v12 : View sig .tc .vmem S1024x128 .f32) (w : View sig .tc .vmem S128x512 .f32) (x0 : S1024x128.Idx → Elt F .bf16) (x1 : S512x128.Idx → Elt F .bf16) (x2 : S512x128.Idx → Elt F .f32) (x3 : S2x1024x1.Idx → Elt F .f32) (x4 : S2x1x512.Idx → Elt F .f32) (x5 : S2x1024x1.Idx → Elt F .f32) (x6 : S2x1024x1.Idx → Elt F .f32) (x7 : S2x1024x1.Idx → Elt F .f32) (x8 : S1024x128.Idx → Elt F .f32)
    (p : S128x512.Idx → Elt F .f32) (L0 L1 L2 : List (View.Piece (Elt F) S128x512 .f32)) :
    (dkO (lr768 v4 x0) (lk v5 x1) (lk v6 x2) (lc768 v7 x3) (ll v8 x4) (lc768 v9 x5) (lc768 v10 x6) (lc768 v11 x7) (lr768 v12 x8) (w.readCov ((⟨RA, (dkO (lr512 v4 x0) (lk v5 x1) (lk v6 x2) (lc512 v7 x3) (ll v8 x4) (lc512 v9 x5) (lc512 v10 x6) (lc512 v11 x7) (lr512 v12 x8) (w.readCov ((⟨RA, (dkO (lr256 v4 x0) (lk v5 x1) (lk v6 x2) (lc256 v7 x3) (ll v8 x4) (lc256 v9 x5) (lc256 v10 x6) (lc256 v11 x7) (lr256 v12 x8) (w.readCov ((⟨RA, (dkO (lr0 v4 x0) (lk v5 x1) (lk v6 x2) (lc0 v7 x3) (ll v8 x4) (lc0 v9 x5) (lc0 v10 x6) (lc0 v11 x7) (lr0 v12 x8) (View.readAt (Elt F) w RA.toLoadRect (w.rep p)))⟩ : View.Piece (Elt F) S128x512 .f32) :: L0) RA.toLoadRect))⟩ : View.Piece (Elt F) S128x512 .f32) :: L1) RA.toLoadRect))⟩ : View.Piece (Elt F) S128x512 .f32) :: L2) RA.toLoadRect)) = dkOff x0 x1 x2 x3 x4 x5 x6 x7 x8 p := by
  simp only [rc w z2, rd w z2, lr0_eq, lc0_eq, lr256_eq, lc256_eq, lr512_eq, lc512_eq, lr768_eq, lc768_eq, lk_eq, ll_eq]; rfl

theorem dvOff_run (v4 : View sig .tc .vmem S1024x128 .bf16) (v5 : View sig .tc .vmem S512x128 .bf16) (v6 : View sig .tc .vmem S512x128 .f32) (v7 : View sig .tc .vmem S2x1024x1 .f32) (v8 : View sig .tc .vmem S2x1x512 .f32) (v9 : View sig .tc .vmem S2x1024x1 .f32) (v10 : View sig .tc .vmem S2x1024x1 .f32) (v11 : View sig .tc .vmem S2x1024x1 .f32) (v12 : View sig .tc .vmem S1024x128 .f32) (w : View sig .tc .vmem S128x512 .f32) (x0 : S1024x128.Idx → Elt F .bf16) (x1 : S512x128.Idx → Elt F .bf16) (x2 : S512x128.Idx → Elt F .f32) (x3 : S2x1024x1.Idx → Elt F .f32) (x4 : S2x1x512.Idx → Elt F .f32) (x5 : S2x1024x1.Idx → Elt F .f32) (x6 : S2x1024x1.Idx → Elt F .f32) (x7 : S2x1024x1.Idx → Elt F .f32) (x8 : S1024x128.Idx → Elt F .f32)
    (p : S128x512.Idx → Elt F .f32) (L0 L1 L2 : List (View.Piece (Elt F) S128x512 .f32)) :
    (dvO (lr768 v4 x0) (lk v5 x1) (lk v6 x2) (lc768 v7 x3) (ll v8 x4) (lc768 v9 x5) (lc768 v10 x6) (lc768 v11 x7) (lr768 v12 x8) (w.readCov ((⟨RA, (dvO (lr512 v4 x0) (lk v5 x1) (lk v6 x2) (lc512 v7 x3) (ll v8 x4) (lc512 v9 x5) (lc512 v10 x6) (lc512 v11 x7) (lr512 v12 x8) (w.readCov ((⟨RA, (dvO (lr256 v4 x0) (lk v5 x1) (lk v6 x2) (lc256 v7 x3) (ll v8 x4) (lc256 v9 x5) (lc256 v10 x6) (lc256 v11 x7) (lr256 v12 x8) (w.readCov ((⟨RA, (dvO (lr0 v4 x0) (lk v5 x1) (lk v6 x2) (lc0 v7 x3) (ll v8 x4) (lc0 v9 x5) (lc0 v10 x6) (lc0 v11 x7) (lr0 v12 x8) (View.readAt (Elt F) w RA.toLoadRect (w.rep p)))⟩ : View.Piece (Elt F) S128x512 .f32) :: L0) RA.toLoadRect))⟩ : View.Piece (Elt F) S128x512 .f32) :: L1) RA.toLoadRect))⟩ : View.Piece (Elt F) S128x512 .f32) :: L2) RA.toLoadRect)) = dvOff x0 x1 x2 x3 x4 x5 x6 x7 x8 p := by
  simp only [rc w z2, rd w z2, lr0_eq, lc0_eq, lr256_eq, lc256_eq, lr512_eq, lc512_eq, lr768_eq, lc768_eq, lk_eq, ll_eq]; rfl

theorem dcOff_run (v4 : View sig .tc .vmem S1024x128 .bf16) (v5 : View sig .tc .vmem S512x128 .bf16) (v6 : View sig .tc .vmem S512x128 .f32) (v7 : View sig .tc .vmem S2x1024x1 .f32) (v8 : View sig .tc .vmem S2x1x512 .f32) (v9 : View sig .tc .vmem S2x1024x1 .f32) (v10 : View sig .tc .vmem S2x1024x1 .f32) (v11 : View sig .tc .vmem S2x1024x1 .f32) (v12 : View sig .tc .vmem S1024x128 .f32) (w : View sig .tc .vmem S2x1x512 .f32) (x0 : S1024x128.Idx → Elt F .bf16) (x1 : S512x128.Idx → Elt F .bf16) (x2 : S512x128.Idx → Elt F .f32) (x3 : S2x1024x1.Idx → Elt F .f32) (x4 : S2x1x512.Idx → Elt F .f32) (x5 : S2x1024x1.Idx → Elt F .f32) (x6 : S2x1024x1.Idx → Elt F .f32) (x7 : S2x1024x1.Idx → Elt F .f32) (x8 : S1024x128.Idx → Elt F .f32)
    (p : S2x1x512.Idx → Elt F .f32) (L0 L1 L2 : List (View.Piece (Elt F) S2x1x512 .f32)) :
    (dcO (lr768 v4 x0) (lk v5 x1) (lk v6 x2) (lc768 v7 x3) (ll v8 x4) (lc768 v9 x5) (lc768 v10 x6) (lc768 v11 x7) (lr768 v12 x8) (w.readCov ((⟨RC, (dcO (lr512 v4 x0) (lk v5 x1) (lk v6 x2) (lc512 v7 x3) (ll v8 x4) (lc512 v9 x5) (lc512 v10 x6) (lc512 v11 x7) (lr512 v12 x8) (w.readCov ((⟨RC, (dcO (lr256 v4 x0) (lk v5 x1) (lk v6 x2) (lc256 v7 x3) (ll v8 x4) (lc256 v9 x5) (lc256 v10 x6) (lc256 v11 x7) (lr256 v12 x8) (w.readCov ((⟨RC, (dcO (lr0 v4 x0) (lk v5 x1) (lk v6 x2) (lc0 v7 x3) (ll v8 x4) (lc0 v9 x5) (lc0 v10 x6) (lc0 v11 x7) (lr0 v12 x8) (View.readAt (Elt F) w RC.toLoadRect (w.rep p)))⟩ : View.Piece (Elt F) S2x1x512 .f32) :: L0) RC.toLoadRect))⟩ : View.Piece (Elt F) S2x1x512 .f32) :: L1) RC.toLoadRect))⟩ : View.Piece (Elt F) S2x1x512 .f32) :: L2) RC.toLoadRect)) = dcOff x0 x1 x2 x3 x4 x5 x6 x7 x8 p := by
  simp only [rc w z3, rd w z3, lr0_eq, lc0_eq, lr256_eq, lc256_eq, lr512_eq, lc512_eq, lr768_eq, lc768_eq, lk_eq, ll_eq]; rfl

theorem dkEven_run (v4 : View sig .tc .vmem S1024x128 .bf16) (v5 : View sig .tc .vmem S512x128 .bf16) (v6 : View sig .tc .vmem S512x128 .f32) (v7 : View sig .tc .vmem S2x1024x1 .f32) (v8 : View sig .tc .vmem S2x1x512 .f32) (v9 : View sig .tc .vmem S2x1024x1 .f32) (v10 : View sig .tc .vmem S2x1024x1 .f32) (v11 : View sig .tc .vmem S2x1024x1 .f32) (v12 : View sig .tc .vmem S1024x128 .f32) (w : View sig .tc .vmem S128x512 .f32) (x0 : S1024x128.Idx → Elt F .bf16) (x1 : S512x128.Idx → Elt F .bf16) (x2 : S512x128.Idx → Elt F .f32) (x3 : S2x1024x1.Idx → Elt F .f32) (x4 : S2x1x512.Idx → Elt F .f32) (x5 : S2x1024x1.Idx → Elt F .f32) (x6 : S2x1024x1.Idx → Elt F .f32) (x7 : S2x1024x1.Idx → Elt F .f32) (x8 : S1024x128.Idx → Elt F .f32)
    (p : S128x512.Idx → Elt F .f32) (L0 L1 L2 : List (View.Piece (Elt F) S128x512 .f32)) :
    (dkO (lr768 v4 x0) (lk v5 x1) (lk v6 x2) (lc768 v7 x3) (ll v8 x4) (lc768 v9 x5) (lc768 v10 x6) (lc768 v11 x7) (lr768 v12 x8) (w.readCov ((⟨RA, (dkO (lr512 v4 x0) (lk v5 x1) (lk v6 x2) (lc512 v7 x3) (ll v8 x4) (lc512 v9 x5) (lc512 v10 x6) (lc512 v11 x7) (lr512 v12 x8) (w.readCov ((⟨RA, (dkB (lr256 v4 x0) (lk v5 x1) (lk v6 x2) (lc256 v7 x3) (ll v8 x4) (lc256 v9 x5) (lc256 v10 x6) (lc256 v11 x7) (lr256 v12 x8) (w.readCov ((⟨RA, (dkA (lr0 v4 x0) (lk v5 x1) (lk v6 x2) (lc0 v7 x3) (ll v8 x4) (lc0 v9 x5) (lc0 v10 x6) (lc0 v11 x7) (lr0 v12 x8) (w.readCov [(⟨RA, p⟩ : View.Piece (Elt F) S128x512 .f32)] RA.toLoadRect))⟩ : View.Piece (Elt F) S128x512 .f32) :: L0) RA.toLoadRect))⟩ : View.Piece (Elt F) S128x512 .f32) :: L1) RA.toLoadRect))⟩ : View.Piece (Elt F) S128x512 .f32) :: L2) RA.toLoadRect)) = dkEven x0 x1 x2 x3 x4 x5 x6 x7 x8 p := by
  simp only [rc w z2, rd w z2, lr0_eq, lc0_eq, lr256_eq, lc256_eq, lr512_eq, lc512_eq, lr768_eq, lc768_eq, lk_eq, ll_eq]; rfl

theorem dvEven_run (v4 : View sig .tc .vmem S1024x128 .bf16) (v5 : View sig .tc .vmem S512x128 .bf16) (v6 : View sig .tc .vmem S512x128 .f32) (v7 : View sig .tc .vmem S2x1024x1 .f32) (v8 : View sig .tc .vmem S2x1x512 .f32) (v9 : View sig .tc .vmem S2x1024x1 .f32) (v10 : View sig .tc .vmem S2x1024x1 .f32) (v11 : View sig .tc .vmem S2x1024x1 .f32) (v12 : View sig .tc .vmem S1024x128 .f32) (w : View sig .tc .vmem S128x512 .f32) (x0 : S1024x128.Idx → Elt F .bf16) (x1 : S512x128.Idx → Elt F .bf16) (x2 : S512x128.Idx → Elt F .f32) (x3 : S2x1024x1.Idx → Elt F .f32) (x4 : S2x1x512.Idx → Elt F .f32) (x5 : S2x1024x1.Idx → Elt F .f32) (x6 : S2x1024x1.Idx → Elt F .f32) (x7 : S2x1024x1.Idx → Elt F .f32) (x8 : S1024x128.Idx → Elt F .f32)
    (p : S128x512.Idx → Elt F .f32) (L0 L1 L2 : List (View.Piece (Elt F) S128x512 .f32)) :
    (dvO (lr768 v4 x0) (lk v5 x1) (lk v6 x2) (lc768 v7 x3) (ll v8 x4) (lc768 v9 x5) (lc768 v10 x6) (lc768 v11 x7) (lr768 v12 x8) (w.readCov ((⟨RA, (dvO (lr512 v4 x0) (lk v5 x1) (lk v6 x2) (lc512 v7 x3) (ll v8 x4) (lc512 v9 x5) (lc512 v10 x6) (lc512 v11 x7) (lr512 v12 x8) (w.readCov ((⟨RA, (dvB (lr256 v4 x0) (lk v5 x1) (lk v6 x2) (lc256 v7 x3) (ll v8 x4) (lc256 v9 x5) (lc256 v10 x6) (lc256 v11 x7) (lr256 v12 x8) (w.readCov ((⟨RA, (dvA (lr0 v4 x0) (lk v5 x1) (lk v6 x2) (lc0 v7 x3) (ll v8 x4) (lc0 v9 x5) (lc0 v10 x6) (lc0 v11 x7) (lr0 v12 x8) (w.readCov [(⟨RA, p⟩ : View.Piece (Elt F) S128x512 .f32)] RA.toLoadRect))⟩ : View.Piece (Elt F) S128x512 .f32) :: L0) RA.toLoadRect))⟩ : View.Piece (Elt F) S128x512 .f32) :: L1) RA.toLoadRect))⟩ : View.Piece (Elt F) S128x512 .f32) :: L2) RA.toLoadRect)) = dvEven x0 x1 x2 x3 x4 x5 x6 x7 x8 p := by
  simp only [rc w z2, rd w z2, lr0_eq, lc0_eq, lr256_eq, lc256_eq, lr512_eq, lc512_eq, lr768_eq, lc768_eq, lk_eq, ll_eq]; rfl

theorem dcEven_run (v4 : View sig .tc .vmem S1024x128 .bf16) (v5 : View sig .tc .vmem S512x128 .bf16) (v6 : View sig .tc .vmem S512x128 .f32) (v7 : View sig .tc .vmem S2x1024x1 .f32) (v8 : View sig .tc .vmem S2x1x512 .f32) (v9 : View sig .tc .vmem S2x1024x1 .f32) (v10 : View sig .tc .vmem S2x1024x1 .f32) (v11 : View sig .tc .vmem S2x1024x1 .f32) (v12 : View sig .tc .vmem S1024x128 .f32) (w : View sig .tc .vmem S2x1x512 .f32) (x0 : S1024x128.Idx → Elt F .bf16) (x1 : S512x128.Idx → Elt F .bf16) (x2 : S512x128.Idx → Elt F .f32) (x3 : S2x1024x1.Idx → Elt F .f32) (x4 : S2x1x512.Idx → Elt F .f32) (x5 : S2x1024x1.Idx → Elt F .f32) (x6 : S2x1024x1.Idx → Elt F .f32) (x7 : S2x1024x1.Idx → Elt F .f32) (x8 : S1024x128.Idx → Elt F .f32)
    (p : S2x1x512.Idx → Elt F .f32) (L0 L1 L2 : List (View.Piece (Elt F) S2x1x512 .f32)) :
    (dcO (lr768 v4 x0) (lk v5 x1) (lk v6 x2) (lc768 v7 x3) (ll v8 x4) (lc768 v9 x5) (lc768 v10 x6) (lc768 v11 x7) (lr768 v12 x8) (w.readCov ((⟨RC, (dcO (lr512 v4 x0) (lk v5 x1) (lk v6 x2) (lc512 v7 x3) (ll v8 x4) (lc512 v9 x5) (lc512 v10 x6) (lc512 v11 x7) (lr512 v12 x8) (w.readCov ((⟨RC, (dcB (lr256 v4 x0) (lk v5 x1) (lk v6 x2) (lc256 v7 x3) (ll v8 x4) (lc256 v9 x5) (lc256 v10 x6) (lc256 v11 x7) (lr256 v12 x8) (w.readCov ((⟨RC, (dcA (lr0 v4 x0) (lk v5 x1) (lk v6 x2) (lc0 v7 x3) (ll v8 x4) (lc0 v9 x5) (lc0 v10 x6) (lc0 v11 x7) (lr0 v12 x8) (w.readCov [(⟨RC, p⟩ : View.Piece (Elt F) S2x1x512 .f32)] RC.toLoadRect))⟩ : View.Piece (Elt F) S2x1x512 .f32) :: L0) RC.toLoadRect))⟩ : View.Piece (Elt F) S2x1x512 .f32) :: L1) RC.toLoadRect))⟩ : View.Piece (Elt F) S2x1x512 .f32) :: L2) RC.toLoadRect)) = dcEven x0 x1 x2 x3 x4 x5 x6 x7 x8 p := by
  simp only [rc w z3, rd w z3, lr0_eq, lc0_eq, lr256_eq, lc256_eq, lr512_eq, lc512_eq, lr768_eq, lc768_eq, lk_eq, ll_eq]; rfl

theorem dkOdd_run (v4 : View sig .tc .vmem S1024x128 .bf16) (v5 : View sig .tc .vmem S512x128 .bf16) (v6 : View sig .tc .vmem S512x128 .f32) (v7 : View sig .tc .vmem S2x1024x1 .f32) (v8 : View sig .tc .vmem S2x1x512 .f32) (v9 : View sig .tc .vmem S2x1024x1 .f32) (v10 : View sig .tc .vmem S2x1024x1 .f32) (v11 : View sig .tc .vmem S2x1024x1 .f32) (v12 : View sig .tc .vmem S1024x128 .f32) (w : View sig .tc .vmem S128x512 .f32) (x0 : S1024x128.Idx → Elt F .bf16) (x1 : S512x128.Idx → Elt F .bf16) (x2 : S512x128.Idx → Elt F .f32) (x3 : S2x1024x1.Idx → Elt F .f32) (x4 : S2x1x512.Idx → Elt F .f32) (x5 : S2x1024x1.Idx → Elt F .f32) (x6 : S2x1024x1.Idx → Elt F .f32) (x7 : S2x1024x1.Idx → Elt F .f32) (x8 : S1024x128.Idx → Elt F .f32)
    (p : S128x512.Idx → Elt F .f32) (L0 : List (View.Piece (Elt F) S128x512 .f32)) :
    (dkB (lr768 v4 x0) (lk v5 x1) (lk v6 x2) (lc768 v7 x3) (ll v8 x4) (lc768 v9 x5) (lc768 v10 x6) (lc768 v11 x7) (lr768 v12 x8) (w.readCov ((⟨RA, (dkA (lr512 v4 x0) (lk v5 x1) (lk v6 x2) (lc512 v7 x3) (ll v8 x4) (lc512 v9 x5) (lc512 v10 x6) (lc512 v11 x7) (lr512 v12 x8) (w.readCov [(⟨RA, p⟩ : View.Piece (Elt F) S128x512 .f32)] RA.toLoadRect))⟩ : View.Piece (Elt F) S128x512 .f32) :: L0) RA.toLoadRect)) = dkOdd x0 x1 x2 x3 x4 x5 x6 x7 x8 p := by
  simp only [rc w z2, rd w z2, lr512_eq, lc512_eq, lr768_eq, lc768_eq, lk_eq, ll_eq]; rfl

theorem dvOdd_run (v4 : View sig .tc .vmem S1024x128 .bf16) (v5 : View sig .tc .vmem S512x128 .bf16) (v6 : View sig .tc .vmem S512x128 .f32) (v7 : View sig .tc .vmem S2x1024x1 .f32) (v8 : View sig .tc .vmem S2x1x512 .f32) (v9 : View sig .tc .vmem S2x1024x1 .f32) (v10 : View sig .tc .vmem S2x1024x1 .f32) (v11 : View sig .tc .vmem S2x1024x1 .f32) (v12 : View sig .tc .vmem S1024x128 .f32) (w : View sig .tc .vmem S128x512 .f32) (x0 : S1024x128.Idx → Elt F .bf16) (x1 : S512x128.Idx → Elt F .bf16) (x2 : S512x128.Idx → Elt F .f32) (x3 : S2x1024x1.Idx → Elt F .f32) (x4 : S2x1x512.Idx → Elt F .f32) (x5 : S2x1024x1.Idx → Elt F .f32) (x6 : S2x1024x1.Idx → Elt F .f32) (x7 : S2x1024x1.Idx → Elt F .f32) (x8 : S1024x128.Idx → Elt F .f32)
    (p : S128x512.Idx → Elt F .f32) (L0 : List (View.Piece (Elt F) S128x512 .f32)) :
    (dvB (lr768 v4 x0) (lk v5 x1) (lk v6 x2) (lc768 v7 x3) (ll v8 x4) (lc768 v9 x5) (lc768 v10 x6) (lc768 v11 x7) (lr768 v12 x8) (w.readCov ((⟨RA, (dvA (lr512 v4 x0) (lk v5 x1) (lk v6 x2) (lc512 v7 x3) (ll v8 x4) (lc512 v9 x5) (lc512 v10 x6) (lc512 v11 x7) (lr512 v12 x8) (w.readCov [(⟨RA, p⟩ : View.Piece (Elt F) S128x512 .f32)] RA.toLoadRect))⟩ : View.Piece (Elt F) S128x512 .f32) :: L0) RA.toLoadRect)) = dvOdd x0 x1 x2 x3 x4 x5 x6 x7 x8 p := by
  simp only [rc w z2, rd w z2, lr512_eq, lc512_eq, lr768_eq, lc768_eq, lk_eq, ll_eq]; rfl

theorem dcOdd_run (v4 : View sig .tc .vmem S1024x128 .bf16) (v5 : View sig .tc .vmem S512x128 .bf16) (v6 : View sig .tc .vmem S512x128 .f32) (v7 : View sig .tc .vmem S2x1024x1 .f32) (v8 : View sig .tc .vmem S2x1x512 .f32) (v9 : View sig .tc .vmem S2x1024x1 .f32) (v10 : View sig .tc .vmem S2x1024x1 .f32) (v11 : View sig .tc .vmem S2x1024x1 .f32) (v12 : View sig .tc .vmem S1024x128 .f32) (w : View sig .tc .vmem S2x1x512 .f32) (x0 : S1024x128.Idx → Elt F .bf16) (x1 : S512x128.Idx → Elt F .bf16) (x2 : S512x128.Idx → Elt F .f32) (x3 : S2x1024x1.Idx → Elt F .f32) (x4 : S2x1x512.Idx → Elt F .f32) (x5 : S2x1024x1.Idx → Elt F .f32) (x6 : S2x1024x1.Idx → Elt F .f32) (x7 : S2x1024x1.Idx → Elt F .f32) (x8 : S1024x128.Idx → Elt F .f32)
    (p : S2x1x512.Idx → Elt F .f32) (L0 : List (View.Piece (Elt F) S2x1x512 .f32)) :
    (dcB (lr768 v4 x0) (lk v5 x1) (lk v6 x2) (lc768 v7 x3) (ll v8 x4) (lc768 v9 x5) (lc768 v10 x6) (lc768 v11 x7) (lr768 v12 x8) (w.readCov ((⟨RC, (dcA (lr512 v4 x0) (lk v5 x1) (lk v6 x2) (lc512 v7 x3) (ll v8 x4) (lc512 v9 x5) (lc512 v10 x6) (lc512 v11 x7) (lr512 v12 x8) (w.readCov [(⟨RC, p⟩ : View.Piece (Elt F) S2x1x512 .f32)] RC.toLoadRect))⟩ : View.Piece (Elt F) S2x1x512 .f32) :: L0) RC.toLoadRect)) = dcOdd x0 x1 x2 x3 x4 x5 x6 x7 x8 p := by
  simp only [rc w z3, rd w z3, lr512_eq, lc512_eq, lr768_eq, lc768_eq, lk_eq, ll_eq]; rfl

/-- The nine input blocks, and the body's halves of the two tables. -/
def ins (c : Dev nD) (arg4 : Memref sig .tc .vmem S1024x128 .bf16) (arg5 : Memref sig .tc .vmem S512x128 .bf16) (arg6 : Memref sig .tc .vmem S512x128 .f32) (arg7 : Memref sig .tc .vmem S2x1024x1 .f32) (arg8 : Memref sig .tc .vmem S2x1x512 .f32) (arg9 : Memref sig .tc .vmem S2x1024x1 .f32) (arg10 : Memref sig .tc .vmem S2x1024x1 .f32) (arg11 : Memref sig .tc .vmem S2x1024x1 .f32) (arg12 : Memref sig .tc .vmem S1024x128 .f32) (T0 T1 : S72.Idx → Elt F .i32) (x0 : S1024x128.Idx → Elt F .bf16) (x1 : S512x128.Idx → Elt F .bf16) (x2 : S512x128.Idx → Elt F .f32) (x3 : S2x1024x1.Idx → Elt F .f32) (x4 : S2x1x512.Idx → Elt F .f32) (x5 : S2x1024x1.Idx → Elt F .f32) (x6 : S2x1024x1.Idx → Elt F .f32) (x7 : S2x1024x1.Idx → Elt F .f32) (x8 : S1024x128.Idx → Elt F .f32) : sProp 𝕄 :=
  iprop((arg4.view.loc (c : Thread nD τ) ↦[arg4.view.set]{fullShare} arg4.view.rep x0) ∗ (arg5.view.loc (c : Thread nD τ) ↦[arg5.view.set]{fullShare} arg5.view.rep x1) ∗ (arg6.view.loc (c : Thread nD τ) ↦[arg6.view.set]{fullShare} arg6.view.rep x2) ∗ (arg7.view.loc (c : Thread nD τ) ↦[arg7.view.set]{fullShare} arg7.view.rep x3) ∗ (arg8.view.loc (c : Thread nD τ) ↦[arg8.view.set]{fullShare} arg8.view.rep x4) ∗ (arg9.view.loc (c : Thread nD τ) ↦[arg9.view.set]{fullShare} arg9.view.rep x5) ∗ (arg10.view.loc (c : Thread nD τ) ↦[arg10.view.set]{fullShare} arg10.view.rep x6) ∗ (arg11.view.loc (c : Thread nD τ) ↦[arg11.view.set]{fullShare} arg11.view.rep x7) ∗ (arg12.view.loc (c : Thread nD τ) ↦[arg12.view.set]{fullShare} arg12.view.rep x8)
    ∗ (tbM0_0.view.loc (c : Thread nD τ) ↦{fullShare.right} T0) ∗ (tbM0_1.view.loc (c : Thread nD τ) ↦{fullShare.right} T1))

variable (c : Dev nD) (i : grid0.Coords) (arg4 : Memref sig .tc .vmem S1024x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S2x1024x1 .f32) (harg7 : arg7.IsWhole) (arg8 : Memref sig .tc .vmem S2x1x512 .f32) (harg8 : arg8.IsWhole) (arg9 : Memref sig .tc .vmem S2x1024x1 .f32) (harg9 : arg9.IsWhole) (arg10 : Memref sig .tc .vmem S2x1024x1 .f32) (harg10 : arg10.IsWhole) (arg11 : Memref sig .tc .vmem S2x1024x1 .f32) (harg11 : arg11.IsWhole) (arg12 : Memref sig .tc .vmem S1024x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S2x1x512 .f32) (harg15 : arg15.IsWhole) (arg16 : Memref sig .tc .vmem S128x512 .f32) (harg16 : arg16.IsWhole) (arg17 : Memref sig .tc .vmem S128x512 .f32) (harg17 : arg17.IsWhole)
    (T0 T1 : S72.Idx → Elt F .i32) (x0 : S1024x128.Idx → Elt F .bf16) (x1 : S512x128.Idx → Elt F .bf16) (x2 : S512x128.Idx → Elt F .f32) (x3 : S2x1024x1.Idx → Elt F .f32) (x4 : S2x1x512.Idx → Elt F .f32) (x5 : S2x1024x1.Idx → Elt F .f32) (x6 : S2x1024x1.Idx → Elt F .f32) (x7 : S2x1024x1.Idx → Elt F .f32) (x8 : S1024x128.Idx → Elt F .f32)

set_option maxHeartbeats 16000000 in
/-- The step at the first query block of its column, an even key block: the inputs are kept, and the accumulators hold what the tiles add to
    zero. -/
theorem body_A (y9 y10 : S512x128.Idx → Elt F .f32)
    (k0_h1 : k0_cond1 (wordQ T0 i) (wordK T1 i) = 1#1)
    (k0_h2 : ¬(k0_cond2 (wordQ T0 i) (wordK T1 i) = 1#1))
    (k0_h3 : k0_cond3 (wordQ T0 i) (wordK T1 i) = 1#1)
    (k0_h4 : ¬(k0_cond4 (wordQ T0 i) (wordK T1 i) = 1#1))
    (k0_h5 : ¬(k0_cond5 (wordQ T0 i) = 1#1))
    (K : PUnit → sProp 𝕄) :
    iprop(ins c arg4 arg5 arg6 arg7 arg8 arg9 arg10 arg11 arg12 T0 T1 x0 x1 x2 x3 x4 x5 x6 x7 x8
          ∗ owns (c : Thread nD τ) arg13 fullShare (y9)
          ∗ owns (c : Thread nD τ) arg14 fullShare (y10)
          ∗ (∃ d, owns (c : Thread nD τ) arg15 fullShare d)
          ∗ (∃ d, owns (c : Thread nD τ) arg16 fullShare d)
          ∗ (∃ d, owns (c : Thread nD τ) arg17 fullShare d)
          ∗ (iprop(ins c arg4 arg5 arg6 arg7 arg8 arg9 arg10 arg11 arg12 T0 T1 x0 x1 x2 x3 x4 x5 x6 x7 x8
          ∗ owns (c : Thread nD τ) arg13 fullShare (y9)
          ∗ owns (c : Thread nD τ) arg14 fullShare (y10)
          ∗ owns (c : Thread nD τ) arg15 fullShare (dcEven x0 x1 x2 x3 x4 x5 x6 x7 x8 (k0_pay137 (F := F)))
          ∗ owns (c : Thread nD τ) arg16 fullShare (dkEven x0 x1 x2 x3 x4 x5 x6 x7 x8 (k0_pay135 (F := F)))
          ∗ owns (c : Thread nD τ) arg17 fullShare (dvEven x0 x1 x2 x3 x4 x5 x6 x7 x8 (k0_pay136 (F := F)))) -∗ K ⟨⟩))
      ⊢ wp frame (wpE (defs₀ (F := F)) Variants.none c none) Set.univ (cc0_flash_bwd_kv i tbM0_0 (Memref.isWhole_whole _) tbM0_1 (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17) K := by
  unfold owns ins
  rw [cc0_flash_bwd_kv_eq_skeleton]; unfold cc0_flash_bwd_kv_skel
  iintro ⟨⟨H0, H1, H2, H3, H4, H5, H6, H7, H8, HT0, HT1⟩, HP13, HP14, ⟨%d15, %f15, -, HO15⟩, ⟨%d16, %f16, -, HO16⟩, ⟨%d17, %f17, -, HO17⟩, Hk⟩
  have hT0 : tbM0_0.IsWhole := Memref.isWhole_whole _
  have hT1 : tbM0_1.IsWhole := Memref.isWhole_whole _
  sl_exec! (disch := first | (guard_target = k0_cond1 _ _ = _; exact k0_h1) | (guard_target = ¬(k0_cond2 _ _ = _); exact k0_h2) | (guard_target = k0_cond3 _ _ = _; exact k0_h3) | (guard_target = ¬(k0_cond4 _ _ = _); exact k0_h4) | (guard_target = ¬(k0_cond5 _ = _); exact k0_h5))
  sl_step
  iapply Hk
  isplitl [H0 H1 H2 H3 H4 H5 H6 H7 H8 HT0 HT1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HT0]; · iexact HT0
    iexact HT1
  isplitl [HP13]; · iexact HP13
  isplitl [HP14]; · iexact HP14
  isplitl [HO15]
  · iexists _
    isplitl []
    rotate_left
    · iexact HO15
    ipureintro
    refine (owns_last c arg15 harg15 _ z3 _ _ _).trans ?_
    exact dcEven_run arg4.view arg5.view arg6.view arg7.view arg8.view arg9.view arg10.view arg11.view arg12.view arg15.view x0 x1 x2 x3 x4 x5 x6 x7 x8 _ _ _ _
  isplitl [HO16]
  · iexists _
    isplitl []
    rotate_left
    · iexact HO16
    ipureintro
    refine (owns_last c arg16 harg16 _ z2 _ _ _).trans ?_
    exact dkEven_run arg4.view arg5.view arg6.view arg7.view arg8.view arg9.view arg10.view arg11.view arg12.view arg16.view x0 x1 x2 x3 x4 x5 x6 x7 x8 _ _ _ _
  · iexists _
    isplitl []
    rotate_left
    · iexact HO17
    ipureintro
    refine (owns_last c arg17 harg17 _ z2 _ _ _).trans ?_
    exact dvEven_run arg4.view arg5.view arg6.view arg7.view arg8.view arg9.view arg10.view arg11.view arg12.view arg17.view x0 x1 x2 x3 x4 x5 x6 x7 x8 _ _ _ _

set_option maxHeartbeats 16000000 in
/-- The step at a later query block, not the last: the inputs are kept, and the accumulators hold what the tiles add to
    what they held. -/
theorem body_B (pk pv : S128x512.Idx → Elt F .f32) (pc : S2x1x512.Idx → Elt F .f32) (y9 y10 : S512x128.Idx → Elt F .f32)
    (k0_h1 : ¬(k0_cond1 (wordQ T0 i) (wordK T1 i) = 1#1))
    (k0_h2 : k0_cond2 (wordQ T0 i) (wordK T1 i) = 1#1)
    (k0_h3 : ¬(k0_cond3 (wordQ T0 i) (wordK T1 i) = 1#1))
    (k0_h4 : ¬(k0_cond4 (wordQ T0 i) (wordK T1 i) = 1#1))
    (k0_h5 : ¬(k0_cond5 (wordQ T0 i) = 1#1))
    (K : PUnit → sProp 𝕄) :
    iprop(ins c arg4 arg5 arg6 arg7 arg8 arg9 arg10 arg11 arg12 T0 T1 x0 x1 x2 x3 x4 x5 x6 x7 x8
          ∗ owns (c : Thread nD τ) arg13 fullShare (y9)
          ∗ owns (c : Thread nD τ) arg14 fullShare (y10)
          ∗ (arg15.view.loc (c : Thread nD τ) ↦[arg15.view.set]{fullShare} arg15.view.rep pc)
          ∗ (arg16.view.loc (c : Thread nD τ) ↦[arg16.view.set]{fullShare} arg16.view.rep pk)
          ∗ (arg17.view.loc (c : Thread nD τ) ↦[arg17.view.set]{fullShare} arg17.view.rep pv)
          ∗ (iprop(ins c arg4 arg5 arg6 arg7 arg8 arg9 arg10 arg11 arg12 T0 T1 x0 x1 x2 x3 x4 x5 x6 x7 x8
          ∗ owns (c : Thread nD τ) arg13 fullShare (y9)
          ∗ owns (c : Thread nD τ) arg14 fullShare (y10)
          ∗ owns (c : Thread nD τ) arg15 fullShare (dcOff x0 x1 x2 x3 x4 x5 x6 x7 x8 pc)
          ∗ owns (c : Thread nD τ) arg16 fullShare (dkOff x0 x1 x2 x3 x4 x5 x6 x7 x8 pk)
          ∗ owns (c : Thread nD τ) arg17 fullShare (dvOff x0 x1 x2 x3 x4 x5 x6 x7 x8 pv)) -∗ K ⟨⟩))
      ⊢ wp frame (wpE (defs₀ (F := F)) Variants.none c none) Set.univ (cc0_flash_bwd_kv i tbM0_0 (Memref.isWhole_whole _) tbM0_1 (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17) K := by
  unfold owns ins
  rw [cc0_flash_bwd_kv_eq_skeleton]; unfold cc0_flash_bwd_kv_skel
  iintro ⟨⟨H0, H1, H2, H3, H4, H5, H6, H7, H8, HT0, HT1⟩, HP13, HP14, HO15, HO16, HO17, Hk⟩
  have hT0 : tbM0_0.IsWhole := Memref.isWhole_whole _
  have hT1 : tbM0_1.IsWhole := Memref.isWhole_whole _
  sl_exec! (disch := first | (guard_target = ¬(k0_cond1 _ _ = _); exact k0_h1) | (guard_target = k0_cond2 _ _ = _; exact k0_h2) | (guard_target = ¬(k0_cond3 _ _ = _); exact k0_h3) | (guard_target = ¬(k0_cond4 _ _ = _); exact k0_h4) | (guard_target = ¬(k0_cond5 _ = _); exact k0_h5))
  sl_step
  iapply Hk
  isplitl [H0 H1 H2 H3 H4 H5 H6 H7 H8 HT0 HT1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HT0]; · iexact HT0
    iexact HT1
  isplitl [HP13]; · iexact HP13
  isplitl [HP14]; · iexact HP14
  isplitl [HO15]
  · iexists _
    isplitl []
    rotate_left
    · iexact HO15
    ipureintro
    refine (owns_last c arg15 harg15 _ z3 _ _ _).trans ?_
    exact dcOff_run arg4.view arg5.view arg6.view arg7.view arg8.view arg9.view arg10.view arg11.view arg12.view arg15.view x0 x1 x2 x3 x4 x5 x6 x7 x8 _ _ _ _
  isplitl [HO16]
  · iexists _
    isplitl []
    rotate_left
    · iexact HO16
    ipureintro
    refine (owns_last c arg16 harg16 _ z2 _ _ _).trans ?_
    exact dkOff_run arg4.view arg5.view arg6.view arg7.view arg8.view arg9.view arg10.view arg11.view arg12.view arg16.view x0 x1 x2 x3 x4 x5 x6 x7 x8 _ _ _ _
  · iexists _
    isplitl []
    rotate_left
    · iexact HO17
    ipureintro
    refine (owns_last c arg17 harg17 _ z2 _ _ _).trans ?_
    exact dvOff_run arg4.view arg5.view arg6.view arg7.view arg8.view arg9.view arg10.view arg11.view arg12.view arg17.view x0 x1 x2 x3 x4 x5 x6 x7 x8 _ _ _ _

set_option maxHeartbeats 16000000 in
/-- The step at the last query block of its column, a later one: the inputs are kept, and the accumulators and the outputs hold what the tiles add to
    what they held. -/
theorem body_C (pk pv : S128x512.Idx → Elt F .f32) (pc : S2x1x512.Idx → Elt F .f32)
    (k0_h1 : ¬(k0_cond1 (wordQ T0 i) (wordK T1 i) = 1#1))
    (k0_h2 : k0_cond2 (wordQ T0 i) (wordK T1 i) = 1#1)
    (k0_h3 : ¬(k0_cond3 (wordQ T0 i) (wordK T1 i) = 1#1))
    (k0_h4 : ¬(k0_cond4 (wordQ T0 i) (wordK T1 i) = 1#1))
    (k0_h5 : k0_cond5 (wordQ T0 i) = 1#1)
    (K : PUnit → sProp 𝕄) :
    iprop(ins c arg4 arg5 arg6 arg7 arg8 arg9 arg10 arg11 arg12 T0 T1 x0 x1 x2 x3 x4 x5 x6 x7 x8
          ∗ (∃ d, owns (c : Thread nD τ) arg13 fullShare d)
          ∗ (∃ d, owns (c : Thread nD τ) arg14 fullShare d)
          ∗ (arg15.view.loc (c : Thread nD τ) ↦[arg15.view.set]{fullShare} arg15.view.rep pc)
          ∗ (arg16.view.loc (c : Thread nD τ) ↦[arg16.view.set]{fullShare} arg16.view.rep pk)
          ∗ (arg17.view.loc (c : Thread nD τ) ↦[arg17.view.set]{fullShare} arg17.view.rep pv)
          ∗ (iprop(ins c arg4 arg5 arg6 arg7 arg8 arg9 arg10 arg11 arg12 T0 T1 x0 x1 x2 x3 x4 x5 x6 x7 x8
          ∗ owns (c : Thread nD τ) arg13 fullShare (k0_pay1 (dkOff x0 x1 x2 x3 x4 x5 x6 x7 x8 pk))
          ∗ owns (c : Thread nD τ) arg14 fullShare (k0_pay2 (dvOff x0 x1 x2 x3 x4 x5 x6 x7 x8 pv))
          ∗ owns (c : Thread nD τ) arg15 fullShare (dcOff x0 x1 x2 x3 x4 x5 x6 x7 x8 pc)
          ∗ owns (c : Thread nD τ) arg16 fullShare (dkOff x0 x1 x2 x3 x4 x5 x6 x7 x8 pk)
          ∗ owns (c : Thread nD τ) arg17 fullShare (dvOff x0 x1 x2 x3 x4 x5 x6 x7 x8 pv)) -∗ K ⟨⟩))
      ⊢ wp frame (wpE (defs₀ (F := F)) Variants.none c none) Set.univ (cc0_flash_bwd_kv i tbM0_0 (Memref.isWhole_whole _) tbM0_1 (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17) K := by
  unfold owns ins
  rw [cc0_flash_bwd_kv_eq_skeleton]; unfold cc0_flash_bwd_kv_skel
  iintro ⟨⟨H0, H1, H2, H3, H4, H5, H6, H7, H8, HT0, HT1⟩, ⟨%d13, %f13, -, HO13⟩, ⟨%d14, %f14, -, HO14⟩, HO15, HO16, HO17, Hk⟩
  have hT0 : tbM0_0.IsWhole := Memref.isWhole_whole _
  have hT1 : tbM0_1.IsWhole := Memref.isWhole_whole _
  sl_exec! (disch := first | (guard_target = ¬(k0_cond1 _ _ = _); exact k0_h1) | (guard_target = k0_cond2 _ _ = _; exact k0_h2) | (guard_target = ¬(k0_cond3 _ _ = _); exact k0_h3) | (guard_target = ¬(k0_cond4 _ _ = _); exact k0_h4) | (guard_target = k0_cond5 _ = _; exact k0_h5))
  sl_step
  iapply Hk
  isplitl [H0 H1 H2 H3 H4 H5 H6 H7 H8 HT0 HT1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HT0]; · iexact HT0
    iexact HT1
  isplitl [HO13]
  · iexists _
    isplitl []
    rotate_left
    · iexact HO13
    ipureintro
    refine (owns_last c arg13 harg13 _ z2 _ _ _).trans ?_
    exact (congrArg k0_pay1 (rc arg16.view z2 _ _ _)).trans (congrArg k0_pay1 (dkOff_run arg4.view arg5.view arg6.view arg7.view arg8.view arg9.view arg10.view arg11.view arg12.view arg16.view x0 x1 x2 x3 x4 x5 x6 x7 x8 _ _ _ _))
  isplitl [HO14]
  · iexists _
    isplitl []
    rotate_left
    · iexact HO14
    ipureintro
    refine (owns_last c arg14 harg14 _ z2 _ _ _).trans ?_
    exact (congrArg k0_pay2 (rc arg17.view z2 _ _ _)).trans (congrArg k0_pay2 (dvOff_run arg4.view arg5.view arg6.view arg7.view arg8.view arg9.view arg10.view arg11.view arg12.view arg17.view x0 x1 x2 x3 x4 x5 x6 x7 x8 _ _ _ _))
  isplitl [HO15]
  · iexists _
    isplitl []
    rotate_left
    · iexact HO15
    ipureintro
    refine (owns_last c arg15 harg15 _ z3 _ _ _).trans ?_
    exact dcOff_run arg4.view arg5.view arg6.view arg7.view arg8.view arg9.view arg10.view arg11.view arg12.view arg15.view x0 x1 x2 x3 x4 x5 x6 x7 x8 _ _ _ _
  isplitl [HO16]
  · iexists _
    isplitl []
    rotate_left
    · iexact HO16
    ipureintro
    refine (owns_last c arg16 harg16 _ z2 _ _ _).trans ?_
    exact dkOff_run arg4.view arg5.view arg6.view arg7.view arg8.view arg9.view arg10.view arg11.view arg12.view arg16.view x0 x1 x2 x3 x4 x5 x6 x7 x8 _ _ _ _
  · iexists _
    isplitl []
    rotate_left
    · iexact HO17
    ipureintro
    refine (owns_last c arg17 harg17 _ z2 _ _ _).trans ?_
    exact dvOff_run arg4.view arg5.view arg6.view arg7.view arg8.view arg9.view arg10.view arg11.view arg12.view arg17.view x0 x1 x2 x3 x4 x5 x6 x7 x8 _ _ _ _

set_option maxHeartbeats 16000000 in
/-- The step at the first query block of its column, an odd key block: the inputs are kept, and the accumulators hold what the tiles add to
    zero. -/
theorem body_D (y9 y10 : S512x128.Idx → Elt F .f32)
    (k0_h1 : k0_cond1 (wordQ T0 i) (wordK T1 i) = 1#1)
    (k0_h2 : ¬(k0_cond2 (wordQ T0 i) (wordK T1 i) = 1#1))
    (k0_h3 : ¬(k0_cond3 (wordQ T0 i) (wordK T1 i) = 1#1))
    (k0_h4 : k0_cond4 (wordQ T0 i) (wordK T1 i) = 1#1)
    (k0_h5 : ¬(k0_cond5 (wordQ T0 i) = 1#1))
    (K : PUnit → sProp 𝕄) :
    iprop(ins c arg4 arg5 arg6 arg7 arg8 arg9 arg10 arg11 arg12 T0 T1 x0 x1 x2 x3 x4 x5 x6 x7 x8
          ∗ owns (c : Thread nD τ) arg13 fullShare (y9)
          ∗ owns (c : Thread nD τ) arg14 fullShare (y10)
          ∗ (∃ d, owns (c : Thread nD τ) arg15 fullShare d)
          ∗ (∃ d, owns (c : Thread nD τ) arg16 fullShare d)
          ∗ (∃ d, owns (c : Thread nD τ) arg17 fullShare d)
          ∗ (iprop(ins c arg4 arg5 arg6 arg7 arg8 arg9 arg10 arg11 arg12 T0 T1 x0 x1 x2 x3 x4 x5 x6 x7 x8
          ∗ owns (c : Thread nD τ) arg13 fullShare (y9)
          ∗ owns (c : Thread nD τ) arg14 fullShare (y10)
          ∗ owns (c : Thread nD τ) arg15 fullShare (dcOdd x0 x1 x2 x3 x4 x5 x6 x7 x8 (k0_pay137 (F := F)))
          ∗ owns (c : Thread nD τ) arg16 fullShare (dkOdd x0 x1 x2 x3 x4 x5 x6 x7 x8 (k0_pay135 (F := F)))
          ∗ owns (c : Thread nD τ) arg17 fullShare (dvOdd x0 x1 x2 x3 x4 x5 x6 x7 x8 (k0_pay136 (F := F)))) -∗ K ⟨⟩))
      ⊢ wp frame (wpE (defs₀ (F := F)) Variants.none c none) Set.univ (cc0_flash_bwd_kv i tbM0_0 (Memref.isWhole_whole _) tbM0_1 (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17) K := by
  unfold owns ins
  rw [cc0_flash_bwd_kv_eq_skeleton]; unfold cc0_flash_bwd_kv_skel
  iintro ⟨⟨H0, H1, H2, H3, H4, H5, H6, H7, H8, HT0, HT1⟩, HP13, HP14, ⟨%d15, %f15, -, HO15⟩, ⟨%d16, %f16, -, HO16⟩, ⟨%d17, %f17, -, HO17⟩, Hk⟩
  have hT0 : tbM0_0.IsWhole := Memref.isWhole_whole _
  have hT1 : tbM0_1.IsWhole := Memref.isWhole_whole _
  sl_exec! (disch := first | (guard_target = k0_cond1 _ _ = _; exact k0_h1) | (guard_target = ¬(k0_cond2 _ _ = _); exact k0_h2) | (guard_target = ¬(k0_cond3 _ _ = _); exact k0_h3) | (guard_target = k0_cond4 _ _ = _; exact k0_h4) | (guard_target = ¬(k0_cond5 _ = _); exact k0_h5))
  sl_step
  iapply Hk
  isplitl [H0 H1 H2 H3 H4 H5 H6 H7 H8 HT0 HT1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HT0]; · iexact HT0
    iexact HT1
  isplitl [HP13]; · iexact HP13
  isplitl [HP14]; · iexact HP14
  isplitl [HO15]
  · iexists _
    isplitl []
    rotate_left
    · iexact HO15
    ipureintro
    refine (owns_last c arg15 harg15 _ z3 _ _ _).trans ?_
    exact dcOdd_run arg4.view arg5.view arg6.view arg7.view arg8.view arg9.view arg10.view arg11.view arg12.view arg15.view x0 x1 x2 x3 x4 x5 x6 x7 x8 _ _
  isplitl [HO16]
  · iexists _
    isplitl []
    rotate_left
    · iexact HO16
    ipureintro
    refine (owns_last c arg16 harg16 _ z2 _ _ _).trans ?_
    exact dkOdd_run arg4.view arg5.view arg6.view arg7.view arg8.view arg9.view arg10.view arg11.view arg12.view arg16.view x0 x1 x2 x3 x4 x5 x6 x7 x8 _ _
  · iexists _
    isplitl []
    rotate_left
    · iexact HO17
    ipureintro
    refine (owns_last c arg17 harg17 _ z2 _ _ _).trans ?_
    exact dvOdd_run arg4.view arg5.view arg6.view arg7.view arg8.view arg9.view arg10.view arg11.view arg12.view arg17.view x0 x1 x2 x3 x4 x5 x6 x7 x8 _ _

set_option maxHeartbeats 16000000 in
/-- The step at the only query block of its column, an even key block: the inputs are kept, and the accumulators and the outputs hold what the tiles add to
    zero. -/
theorem body_E
    (k0_h1 : k0_cond1 (wordQ T0 i) (wordK T1 i) = 1#1)
    (k0_h2 : ¬(k0_cond2 (wordQ T0 i) (wordK T1 i) = 1#1))
    (k0_h3 : k0_cond3 (wordQ T0 i) (wordK T1 i) = 1#1)
    (k0_h4 : ¬(k0_cond4 (wordQ T0 i) (wordK T1 i) = 1#1))
    (k0_h5 : k0_cond5 (wordQ T0 i) = 1#1)
    (K : PUnit → sProp 𝕄) :
    iprop(ins c arg4 arg5 arg6 arg7 arg8 arg9 arg10 arg11 arg12 T0 T1 x0 x1 x2 x3 x4 x5 x6 x7 x8
          ∗ (∃ d, owns (c : Thread nD τ) arg13 fullShare d)
          ∗ (∃ d, owns (c : Thread nD τ) arg14 fullShare d)
          ∗ (∃ d, owns (c : Thread nD τ) arg15 fullShare d)
          ∗ (∃ d, owns (c : Thread nD τ) arg16 fullShare d)
          ∗ (∃ d, owns (c : Thread nD τ) arg17 fullShare d)
          ∗ (iprop(ins c arg4 arg5 arg6 arg7 arg8 arg9 arg10 arg11 arg12 T0 T1 x0 x1 x2 x3 x4 x5 x6 x7 x8
          ∗ owns (c : Thread nD τ) arg13 fullShare (k0_pay1 (dkEven x0 x1 x2 x3 x4 x5 x6 x7 x8 (k0_pay135 (F := F))))
          ∗ owns (c : Thread nD τ) arg14 fullShare (k0_pay2 (dvEven x0 x1 x2 x3 x4 x5 x6 x7 x8 (k0_pay136 (F := F))))
          ∗ owns (c : Thread nD τ) arg15 fullShare (dcEven x0 x1 x2 x3 x4 x5 x6 x7 x8 (k0_pay137 (F := F)))
          ∗ owns (c : Thread nD τ) arg16 fullShare (dkEven x0 x1 x2 x3 x4 x5 x6 x7 x8 (k0_pay135 (F := F)))
          ∗ owns (c : Thread nD τ) arg17 fullShare (dvEven x0 x1 x2 x3 x4 x5 x6 x7 x8 (k0_pay136 (F := F)))) -∗ K ⟨⟩))
      ⊢ wp frame (wpE (defs₀ (F := F)) Variants.none c none) Set.univ (cc0_flash_bwd_kv i tbM0_0 (Memref.isWhole_whole _) tbM0_1 (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17) K := by
  unfold owns ins
  rw [cc0_flash_bwd_kv_eq_skeleton]; unfold cc0_flash_bwd_kv_skel
  iintro ⟨⟨H0, H1, H2, H3, H4, H5, H6, H7, H8, HT0, HT1⟩, ⟨%d13, %f13, -, HO13⟩, ⟨%d14, %f14, -, HO14⟩, ⟨%d15, %f15, -, HO15⟩, ⟨%d16, %f16, -, HO16⟩, ⟨%d17, %f17, -, HO17⟩, Hk⟩
  have hT0 : tbM0_0.IsWhole := Memref.isWhole_whole _
  have hT1 : tbM0_1.IsWhole := Memref.isWhole_whole _
  sl_exec! (disch := first | (guard_target = k0_cond1 _ _ = _; exact k0_h1) | (guard_target = ¬(k0_cond2 _ _ = _); exact k0_h2) | (guard_target = k0_cond3 _ _ = _; exact k0_h3) | (guard_target = ¬(k0_cond4 _ _ = _); exact k0_h4) | (guard_target = k0_cond5 _ = _; exact k0_h5))
  sl_step
  iapply Hk
  isplitl [H0 H1 H2 H3 H4 H5 H6 H7 H8 HT0 HT1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HT0]; · iexact HT0
    iexact HT1
  isplitl [HO13]
  · iexists _
    isplitl []
    rotate_left
    · iexact HO13
    ipureintro
    refine (owns_last c arg13 harg13 _ z2 _ _ _).trans ?_
    exact (congrArg k0_pay1 (rc arg16.view z2 _ _ _)).trans (congrArg k0_pay1 (dkEven_run arg4.view arg5.view arg6.view arg7.view arg8.view arg9.view arg10.view arg11.view arg12.view arg16.view x0 x1 x2 x3 x4 x5 x6 x7 x8 _ _ _ _))
  isplitl [HO14]
  · iexists _
    isplitl []
    rotate_left
    · iexact HO14
    ipureintro
    refine (owns_last c arg14 harg14 _ z2 _ _ _).trans ?_
    exact (congrArg k0_pay2 (rc arg17.view z2 _ _ _)).trans (congrArg k0_pay2 (dvEven_run arg4.view arg5.view arg6.view arg7.view arg8.view arg9.view arg10.view arg11.view arg12.view arg17.view x0 x1 x2 x3 x4 x5 x6 x7 x8 _ _ _ _))
  isplitl [HO15]
  · iexists _
    isplitl []
    rotate_left
    · iexact HO15
    ipureintro
    refine (owns_last c arg15 harg15 _ z3 _ _ _).trans ?_
    exact dcEven_run arg4.view arg5.view arg6.view arg7.view arg8.view arg9.view arg10.view arg11.view arg12.view arg15.view x0 x1 x2 x3 x4 x5 x6 x7 x8 _ _ _ _
  isplitl [HO16]
  · iexists _
    isplitl []
    rotate_left
    · iexact HO16
    ipureintro
    refine (owns_last c arg16 harg16 _ z2 _ _ _).trans ?_
    exact dkEven_run arg4.view arg5.view arg6.view arg7.view arg8.view arg9.view arg10.view arg11.view arg12.view arg16.view x0 x1 x2 x3 x4 x5 x6 x7 x8 _ _ _ _
  · iexists _
    isplitl []
    rotate_left
    · iexact HO17
    ipureintro
    refine (owns_last c arg17 harg17 _ z2 _ _ _).trans ?_
    exact dvEven_run arg4.view arg5.view arg6.view arg7.view arg8.view arg9.view arg10.view arg11.view arg12.view arg17.view x0 x1 x2 x3 x4 x5 x6 x7 x8 _ _ _ _

set_option maxHeartbeats 16000000 in
/-- The step at the only query block of its column, an odd key block: the inputs are kept, and the accumulators and the outputs hold what the tiles add to
    zero. -/
theorem body_F
    (k0_h1 : k0_cond1 (wordQ T0 i) (wordK T1 i) = 1#1)
    (k0_h2 : ¬(k0_cond2 (wordQ T0 i) (wordK T1 i) = 1#1))
    (k0_h3 : ¬(k0_cond3 (wordQ T0 i) (wordK T1 i) = 1#1))
    (k0_h4 : k0_cond4 (wordQ T0 i) (wordK T1 i) = 1#1)
    (k0_h5 : k0_cond5 (wordQ T0 i) = 1#1)
    (K : PUnit → sProp 𝕄) :
    iprop(ins c arg4 arg5 arg6 arg7 arg8 arg9 arg10 arg11 arg12 T0 T1 x0 x1 x2 x3 x4 x5 x6 x7 x8
          ∗ (∃ d, owns (c : Thread nD τ) arg13 fullShare d)
          ∗ (∃ d, owns (c : Thread nD τ) arg14 fullShare d)
          ∗ (∃ d, owns (c : Thread nD τ) arg15 fullShare d)
          ∗ (∃ d, owns (c : Thread nD τ) arg16 fullShare d)
          ∗ (∃ d, owns (c : Thread nD τ) arg17 fullShare d)
          ∗ (iprop(ins c arg4 arg5 arg6 arg7 arg8 arg9 arg10 arg11 arg12 T0 T1 x0 x1 x2 x3 x4 x5 x6 x7 x8
          ∗ owns (c : Thread nD τ) arg13 fullShare (k0_pay1 (dkOdd x0 x1 x2 x3 x4 x5 x6 x7 x8 (k0_pay135 (F := F))))
          ∗ owns (c : Thread nD τ) arg14 fullShare (k0_pay2 (dvOdd x0 x1 x2 x3 x4 x5 x6 x7 x8 (k0_pay136 (F := F))))
          ∗ owns (c : Thread nD τ) arg15 fullShare (dcOdd x0 x1 x2 x3 x4 x5 x6 x7 x8 (k0_pay137 (F := F)))
          ∗ owns (c : Thread nD τ) arg16 fullShare (dkOdd x0 x1 x2 x3 x4 x5 x6 x7 x8 (k0_pay135 (F := F)))
          ∗ owns (c : Thread nD τ) arg17 fullShare (dvOdd x0 x1 x2 x3 x4 x5 x6 x7 x8 (k0_pay136 (F := F)))) -∗ K ⟨⟩))
      ⊢ wp frame (wpE (defs₀ (F := F)) Variants.none c none) Set.univ (cc0_flash_bwd_kv i tbM0_0 (Memref.isWhole_whole _) tbM0_1 (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17) K := by
  unfold owns ins
  rw [cc0_flash_bwd_kv_eq_skeleton]; unfold cc0_flash_bwd_kv_skel
  iintro ⟨⟨H0, H1, H2, H3, H4, H5, H6, H7, H8, HT0, HT1⟩, ⟨%d13, %f13, -, HO13⟩, ⟨%d14, %f14, -, HO14⟩, ⟨%d15, %f15, -, HO15⟩, ⟨%d16, %f16, -, HO16⟩, ⟨%d17, %f17, -, HO17⟩, Hk⟩
  have hT0 : tbM0_0.IsWhole := Memref.isWhole_whole _
  have hT1 : tbM0_1.IsWhole := Memref.isWhole_whole _
  sl_exec! (disch := first | (guard_target = k0_cond1 _ _ = _; exact k0_h1) | (guard_target = ¬(k0_cond2 _ _ = _); exact k0_h2) | (guard_target = ¬(k0_cond3 _ _ = _); exact k0_h3) | (guard_target = k0_cond4 _ _ = _; exact k0_h4) | (guard_target = k0_cond5 _ = _; exact k0_h5))
  sl_step
  iapply Hk
  isplitl [H0 H1 H2 H3 H4 H5 H6 H7 H8 HT0 HT1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HT0]; · iexact HT0
    iexact HT1
  isplitl [HO13]
  · iexists _
    isplitl []
    rotate_left
    · iexact HO13
    ipureintro
    refine (owns_last c arg13 harg13 _ z2 _ _ _).trans ?_
    exact (congrArg k0_pay1 (rc arg16.view z2 _ _ _)).trans (congrArg k0_pay1 (dkOdd_run arg4.view arg5.view arg6.view arg7.view arg8.view arg9.view arg10.view arg11.view arg12.view arg16.view x0 x1 x2 x3 x4 x5 x6 x7 x8 _ _))
  isplitl [HO14]
  · iexists _
    isplitl []
    rotate_left
    · iexact HO14
    ipureintro
    refine (owns_last c arg14 harg14 _ z2 _ _ _).trans ?_
    exact (congrArg k0_pay2 (rc arg17.view z2 _ _ _)).trans (congrArg k0_pay2 (dvOdd_run arg4.view arg5.view arg6.view arg7.view arg8.view arg9.view arg10.view arg11.view arg12.view arg17.view x0 x1 x2 x3 x4 x5 x6 x7 x8 _ _))
  isplitl [HO15]
  · iexists _
    isplitl []
    rotate_left
    · iexact HO15
    ipureintro
    refine (owns_last c arg15 harg15 _ z3 _ _ _).trans ?_
    exact dcOdd_run arg4.view arg5.view arg6.view arg7.view arg8.view arg9.view arg10.view arg11.view arg12.view arg15.view x0 x1 x2 x3 x4 x5 x6 x7 x8 _ _
  isplitl [HO16]
  · iexists _
    isplitl []
    rotate_left
    · iexact HO16
    ipureintro
    refine (owns_last c arg16 harg16 _ z2 _ _ _).trans ?_
    exact dkOdd_run arg4.view arg5.view arg6.view arg7.view arg8.view arg9.view arg10.view arg11.view arg12.view arg16.view x0 x1 x2 x3 x4 x5 x6 x7 x8 _ _
  · iexists _
    isplitl []
    rotate_left
    · iexact HO17
    ipureintro
    refine (owns_last c arg17 harg17 _ z2 _ _ _).trans ?_
    exact dvOdd_run arg4.view arg5.view arg6.view arg7.view arg8.view arg9.view arg10.view arg11.view arg12.view arg17.view x0 x1 x2 x3 x4 x5 x6 x7 x8 _ _

end Cert.Kernel2Ideal.Dkv

end
-- ==== Proof.Dkv.Run.lean ====
/- The run of the key-side backward kernel: what the accumulators and every output block hold at every
   point of the grid. -/
module

public import proofs.«01_k».proof.Proof.Dkv.Body
public import proofs.«01_k».proof.Defs
public import proofs.«01_k».proof.Proof.Gen.Kernel2Ideal
public import proofs.«01_k».proof.Proof.Gen.Kernel2Ideal.Launch
public import proofs.«01_k».proof.Proof.Gen.Kernel2Ideal.Skeleton
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Pipeline.FrameSuffix
public import Idealize.ShloMosaic.Lib.Pipeline.Value
public import Idealize.ShloMosaic.Lib.Claim
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.Kernel2Ideal.Dkv

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## The grid's facts, over any float values -/

/-- The position of a point in the schedule. -/
abbrev pos (n : ℕ) : Fin 72 := ⟨n % 72, Nat.mod_lt _ (by decide)⟩

section
variable (t : Fin (cfgA (F := F)).N)
theorem fact_c0 : ((crd t) 0).val = t.val / 72 := (pointFacts t).1
theorem fact_c1 : ((crd t) 1).val = t.val % 72 := (pointFacts t).2.1
theorem fact_wQ : wordQ (F := F) tabQ (crd t) = lit0 (pos t.val) := (pointFacts t).2.2.1
theorem fact_wK : wordK (F := F) tabK (crd t) = lit1 (pos t.val) := (pointFacts t).2.2.2.1
theorem flush9 : ((cfgA (F := F)).win (9 : Fin 12)).flush t = decide (qt (pos t.val) = 7) := (pointFacts t).2.2.2.2.1
theorem flush10 : ((cfgA (F := F)).win (10 : Fin 12)).flush t = decide (qt (pos t.val) = 7) := (pointFacts t).2.2.2.2.2.1
theorem flush11 : ((cfgA (F := F)).win (11 : Fin 12)).flush t = decide (qt (pos t.val) = 7) := (pointFacts t).2.2.2.2.2.2.1
theorem idle9 : (cfgA (F := F)).idle (9 : Fin 12) (crd t) = !decide (qt (pos t.val) = 7) := (pointFacts t).2.2.2.2.2.2.2.1
theorem idle10 : (cfgA (F := F)).idle (10 : Fin 12) (crd t) = !decide (qt (pos t.val) = 7) := (pointFacts t).2.2.2.2.2.2.2.2.1
theorem idle11 : (cfgA (F := F)).idle (11 : Fin 12) (crd t) = false := (pointFacts t).2.2.2.2.2.2.2.2.2

/-- The point's pair of blocks is the first of its column. -/
abbrev isFst : Prop := qt (pos t.val) = kt (pos t.val) / 2

theorem frT_step (n : ℕ) : frT (n + 1) = decide (qt (pos n) = 7) := by
  rw [← (schedFacts (pos n)).2.2.2.2.2.2.2.2.2]; unfold frT
  exact congrArg (fun k : Fin 72 => decide (qt k = kt k / 2)) (Fin.ext (Nat.mod_add_mod n 72 1).symm)

/-- The first two outputs never hold anything before a step: each is stored where it is written back. -/
theorem fresh9 : (cfgA (F := F)).fresh (9 : Fin 12) t.val = true :=
  Pipeline.Cfg.fresh_tab (cfgA (F := F)) (9 : Fin 12) (fun _ => true) rfl
    (fun t => by rw [flush9, idle9]; cases decide (qt (pos t.val) = 7) <;> rfl) t.val (Nat.le_of_lt t.isLt)
theorem fresh10 : (cfgA (F := F)).fresh (10 : Fin 12) t.val = true :=
  Pipeline.Cfg.fresh_tab (cfgA (F := F)) (10 : Fin 12) (fun _ => true) rfl
    (fun t => by rw [flush10, idle10]; cases decide (qt (pos t.val) = 7) <;> rfl) t.val (Nat.le_of_lt t.isLt)
/-- The third holds nothing yet exactly at the first pair of a column. -/
theorem fresh11 : (cfgA (F := F)).fresh (11 : Fin 12) t.val = decide (isFst t) :=
  Pipeline.Cfg.fresh_tab (cfgA (F := F)) (11 : Fin 12) frT (by decide)
    (fun t => by rw [flush11, idle11, frT_step]; simp) t.val (Nat.le_of_lt t.isLt)
end

/-! ## The trajectory -/

variable (m : (ℓ : Loc nD τ sig) → Buf (Elt F) ℓ) (ρ : Dev nD → PrngReg)

/-- The contents the region is entered with: the host lines before it run over the launch memory. -/
def V₀ (c : Dev nD) : Valuation τ sig (Elt F) := StableHlo.after [hostOps0 (F := F)].flatten (fun b => m (c, b))

/-- Window `w`'s block at a point, read off its array as the region finds it. -/
def iblk (c : Dev nD) (w : Fin (cfgA (F := F)).W) (t : Fin (cfgA (F := F)).N) : (((cfgA (F := F)).win w).xblock (crd t)).Idx → Elt F ((cfgA (F := F)).win w).elt :=
  (((cfgA (F := F)).win w).blk t).view.read (Elt F) (V₀ m c (Proc.devRef .tc (Pipeline.arrRef (cfgA (F := F)).spec w)))

/-- What the accumulators hold: the key and the value gradient, transposed, and the column sums. -/
abbrev Accs (F : FTy → Type) : Type := (S128x512.Idx → Elt F .f32) × (S128x512.Idx → Elt F .f32) × (S2x1x512.Idx → Elt F .f32)

/-- The accumulators at zero. -/
def zeros : Accs F := (k0_pay135, k0_pay136, k0_pay137)

/-- What a point leaves in the accumulators, from what they held: the first pair of a column starts from
    zero; the pairs whose keys lie among the query block's positions are masked. -/
def step (c : Dev nD) (t : Fin (cfgA (F := F)).N) (prev : Accs F) : Accs F :=
  let p : Accs F := if isFst t then zeros else prev
  if kt (pos t.val) = 2 * qt (pos t.val) then
    (dkEven (iblk m c (0 : Fin 12) t) (iblk m c (1 : Fin 12) t) (iblk m c (2 : Fin 12) t) (iblk m c (3 : Fin 12) t) (iblk m c (4 : Fin 12) t) (iblk m c (5 : Fin 12) t) (iblk m c (6 : Fin 12) t) (iblk m c (7 : Fin 12) t) (iblk m c (8 : Fin 12) t) p.1, dvEven (iblk m c (0 : Fin 12) t) (iblk m c (1 : Fin 12) t) (iblk m c (2 : Fin 12) t) (iblk m c (3 : Fin 12) t) (iblk m c (4 : Fin 12) t) (iblk m c (5 : Fin 12) t) (iblk m c (6 : Fin 12) t) (iblk m c (7 : Fin 12) t) (iblk m c (8 : Fin 12) t) p.2.1, dcEven (iblk m c (0 : Fin 12) t) (iblk m c (1 : Fin 12) t) (iblk m c (2 : Fin 12) t) (iblk m c (3 : Fin 12) t) (iblk m c (4 : Fin 12) t) (iblk m c (5 : Fin 12) t) (iblk m c (6 : Fin 12) t) (iblk m c (7 : Fin 12) t) (iblk m c (8 : Fin 12) t) p.2.2)
  else if isFst t then
    (dkOdd (iblk m c (0 : Fin 12) t) (iblk m c (1 : Fin 12) t) (iblk m c (2 : Fin 12) t) (iblk m c (3 : Fin 12) t) (iblk m c (4 : Fin 12) t) (iblk m c (5 : Fin 12) t) (iblk m c (6 : Fin 12) t) (iblk m c (7 : Fin 12) t) (iblk m c (8 : Fin 12) t) p.1, dvOdd (iblk m c (0 : Fin 12) t) (iblk m c (1 : Fin 12) t) (iblk m c (2 : Fin 12) t) (iblk m c (3 : Fin 12) t) (iblk m c (4 : Fin 12) t) (iblk m c (5 : Fin 12) t) (iblk m c (6 : Fin 12) t) (iblk m c (7 : Fin 12) t) (iblk m c (8 : Fin 12) t) p.2.1, dcOdd (iblk m c (0 : Fin 12) t) (iblk m c (1 : Fin 12) t) (iblk m c (2 : Fin 12) t) (iblk m c (3 : Fin 12) t) (iblk m c (4 : Fin 12) t) (iblk m c (5 : Fin 12) t) (iblk m c (6 : Fin 12) t) (iblk m c (7 : Fin 12) t) (iblk m c (8 : Fin 12) t) p.2.2)
  else
    (dkOff (iblk m c (0 : Fin 12) t) (iblk m c (1 : Fin 12) t) (iblk m c (2 : Fin 12) t) (iblk m c (3 : Fin 12) t) (iblk m c (4 : Fin 12) t) (iblk m c (5 : Fin 12) t) (iblk m c (6 : Fin 12) t) (iblk m c (7 : Fin 12) t) (iblk m c (8 : Fin 12) t) p.1, dvOff (iblk m c (0 : Fin 12) t) (iblk m c (1 : Fin 12) t) (iblk m c (2 : Fin 12) t) (iblk m c (3 : Fin 12) t) (iblk m c (4 : Fin 12) t) (iblk m c (5 : Fin 12) t) (iblk m c (6 : Fin 12) t) (iblk m c (7 : Fin 12) t) (iblk m c (8 : Fin 12) t) p.2.1, dcOff (iblk m c (0 : Fin 12) t) (iblk m c (1 : Fin 12) t) (iblk m c (2 : Fin 12) t) (iblk m c (3 : Fin 12) t) (iblk m c (4 : Fin 12) t) (iblk m c (5 : Fin 12) t) (iblk m c (6 : Fin 12) t) (iblk m c (7 : Fin 12) t) (iblk m c (8 : Fin 12) t) p.2.2)

/-- What the accumulators hold after point `n`. -/
def traj (c : Dev nD) : (n : ℕ) → n < (cfgA (F := F)).N → Accs F
  | 0, h => step m c ⟨0, h⟩ zeros
  | n + 1, h => step m c ⟨n + 1, h⟩ (traj c n (Nat.lt_of_succ_lt h))

/-- What they held before point `t`. -/
def prev (c : Dev nD) (t : Fin (cfgA (F := F)).N) : Accs F :=
  if h : t.val = 0 then zeros else traj m c (t.val - 1) (by omega)

/-- The same, counting one more point: what they hold once `t` points are done. -/
def done (c : Dev nD) (t : Fin ((cfgA (F := F)).N + 1)) : Accs F :=
  if h : t.val = 0 then zeros else traj m c (t.val - 1) (by omega)

theorem traj_eq (c : Dev nD) (t : Fin (cfgA (F := F)).N) : traj m c t.val t.isLt = step m c t (prev m c t) := by
  obtain ⟨n, hn⟩ := t
  cases n with
  | zero => rfl
  | succ n => rfl

theorem done_castSucc (c : Dev nD) (t : Fin (cfgA (F := F)).N) : done m c t.castSucc = prev m c t := by
  unfold done prev; simp only [Fin.val_castSucc]
theorem done_succ (c : Dev nD) (t : Fin (cfgA (F := F)).N) : done m c t.succ = step m c t (prev m c t) := by
  rw [← traj_eq]; unfold done; simp only [Fin.val_succ, Nat.add_one_ne_zero, ↓reduceDIte, Nat.add_one_sub_one]

section
variable (c : Dev nD) (t : Fin (cfgA (F := F)).N) (p : Accs F)
theorem step_Even (h1 : isFst t) (h2 : kt (pos t.val) = 2 * qt (pos t.val)) :
    step m c t p = (dkEven (iblk m c (0 : Fin 12) t) (iblk m c (1 : Fin 12) t) (iblk m c (2 : Fin 12) t) (iblk m c (3 : Fin 12) t) (iblk m c (4 : Fin 12) t) (iblk m c (5 : Fin 12) t) (iblk m c (6 : Fin 12) t) (iblk m c (7 : Fin 12) t) (iblk m c (8 : Fin 12) t) k0_pay135, dvEven (iblk m c (0 : Fin 12) t) (iblk m c (1 : Fin 12) t) (iblk m c (2 : Fin 12) t) (iblk m c (3 : Fin 12) t) (iblk m c (4 : Fin 12) t) (iblk m c (5 : Fin 12) t) (iblk m c (6 : Fin 12) t) (iblk m c (7 : Fin 12) t) (iblk m c (8 : Fin 12) t) k0_pay136, dcEven (iblk m c (0 : Fin 12) t) (iblk m c (1 : Fin 12) t) (iblk m c (2 : Fin 12) t) (iblk m c (3 : Fin 12) t) (iblk m c (4 : Fin 12) t) (iblk m c (5 : Fin 12) t) (iblk m c (6 : Fin 12) t) (iblk m c (7 : Fin 12) t) (iblk m c (8 : Fin 12) t) k0_pay137) := by
  unfold step zeros; simp only [if_pos h1, if_pos h2]
theorem step_Odd (h1 : isFst t) (h2 : ¬kt (pos t.val) = 2 * qt (pos t.val)) :
    step m c t p = (dkOdd (iblk m c (0 : Fin 12) t) (iblk m c (1 : Fin 12) t) (iblk m c (2 : Fin 12) t) (iblk m c (3 : Fin 12) t) (iblk m c (4 : Fin 12) t) (iblk m c (5 : Fin 12) t) (iblk m c (6 : Fin 12) t) (iblk m c (7 : Fin 12) t) (iblk m c (8 : Fin 12) t) k0_pay135, dvOdd (iblk m c (0 : Fin 12) t) (iblk m c (1 : Fin 12) t) (iblk m c (2 : Fin 12) t) (iblk m c (3 : Fin 12) t) (iblk m c (4 : Fin 12) t) (iblk m c (5 : Fin 12) t) (iblk m c (6 : Fin 12) t) (iblk m c (7 : Fin 12) t) (iblk m c (8 : Fin 12) t) k0_pay136, dcOdd (iblk m c (0 : Fin 12) t) (iblk m c (1 : Fin 12) t) (iblk m c (2 : Fin 12) t) (iblk m c (3 : Fin 12) t) (iblk m c (4 : Fin 12) t) (iblk m c (5 : Fin 12) t) (iblk m c (6 : Fin 12) t) (iblk m c (7 : Fin 12) t) (iblk m c (8 : Fin 12) t) k0_pay137) := by
  unfold step zeros; simp only [if_pos h1, if_neg h2]
theorem step_Off (h1 : ¬isFst t) :
    step m c t p = (dkOff (iblk m c (0 : Fin 12) t) (iblk m c (1 : Fin 12) t) (iblk m c (2 : Fin 12) t) (iblk m c (3 : Fin 12) t) (iblk m c (4 : Fin 12) t) (iblk m c (5 : Fin 12) t) (iblk m c (6 : Fin 12) t) (iblk m c (7 : Fin 12) t) (iblk m c (8 : Fin 12) t) p.1, dvOff (iblk m c (0 : Fin 12) t) (iblk m c (1 : Fin 12) t) (iblk m c (2 : Fin 12) t) (iblk m c (3 : Fin 12) t) (iblk m c (4 : Fin 12) t) (iblk m c (5 : Fin 12) t) (iblk m c (6 : Fin 12) t) (iblk m c (7 : Fin 12) t) (iblk m c (8 : Fin 12) t) p.2.1, dcOff (iblk m c (0 : Fin 12) t) (iblk m c (1 : Fin 12) t) (iblk m c (2 : Fin 12) t) (iblk m c (3 : Fin 12) t) (iblk m c (4 : Fin 12) t) (iblk m c (5 : Fin 12) t) (iblk m c (6 : Fin 12) t) (iblk m c (7 : Fin 12) t) (iblk m c (8 : Fin 12) t) p.2.2) := by
  unfold step; simp only [if_neg h1, if_neg (fun h : kt (pos t.val) = 2 * qt (pos t.val) => h1 (show qt (pos t.val) = kt (pos t.val) / 2 by omega))]
end

/-! ## The pipeline's proof data -/

abbrev scM0 : Memref sig .tc .vmem S128x512 .f32 := Memref.whole cc0_scratch0
abbrev scM1 : Memref sig .tc .vmem S128x512 .f32 := Memref.whole cc0_scratch1

/-- The invariant before a point: the two scratch accumulators at the trajectory's contents once a point has
    run, the two tables at half the share, and the machine's random register. -/
def Phi (c : Dev nD) (t : Fin ((cfgA (F := F)).N + 1)) : sProp 𝕄 :=
  iprop((∃ X, ⌜t.val ≠ 0 → X = (done m c t).1⌝ ∗ owns (c : Thread nD τ) scM0 fullShare X)
    ∗ (∃ X, ⌜t.val ≠ 0 → X = (done m c t).2.1⌝ ∗ owns (c : Thread nD τ) scM1 fullShare X)
    ∗ (∃ r, prngReg c r)
    ∗ (tbM0_0.view.loc (c : Thread nD τ) ↦{fullShare.right} tabQ (F := F)) ∗ (tbM0_1.view.loc (c : Thread nD τ) ↦{fullShare.right} tabK (F := F)))

/-- The proof data of the one pipeline on a core: the inputs keep their blocks, the outputs follow the
    trajectory. -/
def dats (_ : Fin 1) (c : Dev nD) : Dat τ (Elt F) Unit ℕ (UR sig nD τ) ℕ (cfgA (F := F)) c where
  A w := V₀ m c (Proc.devRef .tc (Pipeline.arrRef (cfgA (F := F)).spec w))
  after w t := match w with
    | ⟨0, _⟩ => iblk m c (0 : Fin 12) t
    | ⟨1, _⟩ => iblk m c (1 : Fin 12) t
    | ⟨2, _⟩ => iblk m c (2 : Fin 12) t
    | ⟨3, _⟩ => iblk m c (3 : Fin 12) t
    | ⟨4, _⟩ => iblk m c (4 : Fin 12) t
    | ⟨5, _⟩ => iblk m c (5 : Fin 12) t
    | ⟨6, _⟩ => iblk m c (6 : Fin 12) t
    | ⟨7, _⟩ => iblk m c (7 : Fin 12) t
    | ⟨8, _⟩ => iblk m c (8 : Fin 12) t
    | ⟨9, _⟩ => k0_pay1 (traj m c t.val t.isLt).1
    | ⟨10, _⟩ => k0_pay2 (traj m c t.val t.isLt).2.1
    | ⟨11, _⟩ => (traj m c t.val t.isLt).2.2
  Φ t := Phi m c t
  q _ := fullShare
  owed _ := 0

theorem before0 (c : Dev nD) (t : Fin (cfgA (F := F)).N) (d) : (dats m 0 c).before (0 : Fin 12) t d = iblk m c (0 : Fin 12) t :=
  ((dats m 0 c).before_in_eq_fetched (0 : Fin 12) rfl (fun _ => rfl) (fun _ _ _ => rfl) (fun t => by
    rw [show (dats m 0 c).after (0 : Fin 12) t = iblk m c (0 : Fin 12) t from rfl]; unfold Dat.blockOf iblk; rfl) t d).trans
    (by unfold Dat.fetched Dat.blockOf iblk; rfl)
theorem before1 (c : Dev nD) (t : Fin (cfgA (F := F)).N) (d) : (dats m 0 c).before (1 : Fin 12) t d = iblk m c (1 : Fin 12) t :=
  ((dats m 0 c).before_in_eq_fetched (1 : Fin 12) rfl (fun _ => rfl) (fun _ _ _ => rfl) (fun t => by
    rw [show (dats m 0 c).after (1 : Fin 12) t = iblk m c (1 : Fin 12) t from rfl]; unfold Dat.blockOf iblk; rfl) t d).trans
    (by unfold Dat.fetched Dat.blockOf iblk; rfl)
theorem before2 (c : Dev nD) (t : Fin (cfgA (F := F)).N) (d) : (dats m 0 c).before (2 : Fin 12) t d = iblk m c (2 : Fin 12) t :=
  ((dats m 0 c).before_in_eq_fetched (2 : Fin 12) rfl (fun _ => rfl) (fun _ _ _ => rfl) (fun t => by
    rw [show (dats m 0 c).after (2 : Fin 12) t = iblk m c (2 : Fin 12) t from rfl]; unfold Dat.blockOf iblk; rfl) t d).trans
    (by unfold Dat.fetched Dat.blockOf iblk; rfl)
theorem before3 (c : Dev nD) (t : Fin (cfgA (F := F)).N) (d) : (dats m 0 c).before (3 : Fin 12) t d = iblk m c (3 : Fin 12) t :=
  ((dats m 0 c).before_in_eq_fetched (3 : Fin 12) rfl (fun _ => rfl) (fun _ _ _ => rfl) (fun t => by
    rw [show (dats m 0 c).after (3 : Fin 12) t = iblk m c (3 : Fin 12) t from rfl]; unfold Dat.blockOf iblk; rfl) t d).trans
    (by unfold Dat.fetched Dat.blockOf iblk; rfl)
theorem before4 (c : Dev nD) (t : Fin (cfgA (F := F)).N) (d) : (dats m 0 c).before (4 : Fin 12) t d = iblk m c (4 : Fin 12) t :=
  ((dats m 0 c).before_in_eq_fetched (4 : Fin 12) rfl (fun _ => rfl) (fun _ _ _ => rfl) (fun t => by
    rw [show (dats m 0 c).after (4 : Fin 12) t = iblk m c (4 : Fin 12) t from rfl]; unfold Dat.blockOf iblk; rfl) t d).trans
    (by unfold Dat.fetched Dat.blockOf iblk; rfl)
theorem before5 (c : Dev nD) (t : Fin (cfgA (F := F)).N) (d) : (dats m 0 c).before (5 : Fin 12) t d = iblk m c (5 : Fin 12) t :=
  ((dats m 0 c).before_in_eq_fetched (5 : Fin 12) rfl (fun _ => rfl) (fun _ _ _ => rfl) (fun t => by
    rw [show (dats m 0 c).after (5 : Fin 12) t = iblk m c (5 : Fin 12) t from rfl]; unfold Dat.blockOf iblk; rfl) t d).trans
    (by unfold Dat.fetched Dat.blockOf iblk; rfl)
theorem before6 (c : Dev nD) (t : Fin (cfgA (F := F)).N) (d) : (dats m 0 c).before (6 : Fin 12) t d = iblk m c (6 : Fin 12) t :=
  ((dats m 0 c).before_in_eq_fetched (6 : Fin 12) rfl (fun _ => rfl) (fun _ _ _ => rfl) (fun t => by
    rw [show (dats m 0 c).after (6 : Fin 12) t = iblk m c (6 : Fin 12) t from rfl]; unfold Dat.blockOf iblk; rfl) t d).trans
    (by unfold Dat.fetched Dat.blockOf iblk; rfl)
theorem before7 (c : Dev nD) (t : Fin (cfgA (F := F)).N) (d) : (dats m 0 c).before (7 : Fin 12) t d = iblk m c (7 : Fin 12) t :=
  ((dats m 0 c).before_in_eq_fetched (7 : Fin 12) rfl (fun _ => rfl) (fun _ _ _ => rfl) (fun t => by
    rw [show (dats m 0 c).after (7 : Fin 12) t = iblk m c (7 : Fin 12) t from rfl]; unfold Dat.blockOf iblk; rfl) t d).trans
    (by unfold Dat.fetched Dat.blockOf iblk; rfl)
theorem before8 (c : Dev nD) (t : Fin (cfgA (F := F)).N) (d) : (dats m 0 c).before (8 : Fin 12) t d = iblk m c (8 : Fin 12) t :=
  ((dats m 0 c).before_in_eq_fetched (8 : Fin 12) rfl (fun _ => rfl) (fun _ _ _ => rfl) (fun t => by
    rw [show (dats m 0 c).after (8 : Fin 12) t = iblk m c (8 : Fin 12) t from rfl]; unfold Dat.blockOf iblk; rfl) t d).trans
    (by unfold Dat.fetched Dat.blockOf iblk; rfl)

theorem before9 (c : Dev nD) (t : Fin (cfgA (F := F)).N) (d) : (dats m 0 c).before (9 : Fin 12) t d = d := by
  rw [(dats m 0 c).before_out_traj (9 : Fin 12) rfl (fun _ _ => rfl)
    (fun t _ _ hf => absurd ((fresh9 t).symm.trans hf) (by decide)) t.val t rfl d, fresh9]
  rfl

theorem before10 (c : Dev nD) (t : Fin (cfgA (F := F)).N) (d) : (dats m 0 c).before (10 : Fin 12) t d = d := by
  rw [(dats m 0 c).before_out_traj (10 : Fin 12) rfl (fun _ _ => rfl)
    (fun t _ _ hf => absurd ((fresh10 t).symm.trans hf) (by decide)) t.val t rfl d, fresh10]
  rfl

theorem before11 (c : Dev nD) (t : Fin (cfgA (F := F)).N) (d) :
    (dats m 0 c).before (11 : Fin 12) t d = if isFst t then d else (prev m c t).2.2 := by
  rw [(dats m 0 c).before_out_traj (11 : Fin 12) rfl (fun _ _ => rfl)
    (fun t _ hi _ => absurd ((idle11 t).symm.trans hi) (by decide)) t.val t rfl d, fresh11]
  by_cases hf : isFst t
  · rw [if_pos hf, if_pos (decide_eq_true hf)]
  · have h0 : t.val ≠ 0 := fun h0 => hf (by unfold isFst; rw [h0]; decide)
    rw [if_neg hf, if_neg (fun h => hf (of_decide_eq_true h))]
    unfold prev; rw [dif_neg h0]; rfl

/-! ## The body obligation -/

abbrev ms0 (t : Fin (cfgA (F := F)).N) : Memref sig .tc .vmem S1024x128 .bf16 := spec0_0.stage ((cfgA (F := F)).slots t (0 : Fin 12))
theorem hs0 (t : Fin (cfgA (F := F)).N) : (ms0 t).IsWhole := hstage0_0 (((cfgA (F := F)).slots t (0 : Fin 12)).cast nbuf0_0)
abbrev ms1 (t : Fin (cfgA (F := F)).N) : Memref sig .tc .vmem S512x128 .bf16 := spec0_1.stage ((cfgA (F := F)).slots t (1 : Fin 12))
theorem hs1 (t : Fin (cfgA (F := F)).N) : (ms1 t).IsWhole := hstage0_1 (((cfgA (F := F)).slots t (1 : Fin 12)).cast nbuf0_1)
abbrev ms2 (t : Fin (cfgA (F := F)).N) : Memref sig .tc .vmem S512x128 .f32 := spec0_2.stage ((cfgA (F := F)).slots t (2 : Fin 12))
theorem hs2 (t : Fin (cfgA (F := F)).N) : (ms2 t).IsWhole := hstage0_2 (((cfgA (F := F)).slots t (2 : Fin 12)).cast nbuf0_2)
abbrev ms3 (t : Fin (cfgA (F := F)).N) : Memref sig .tc .vmem S2x1024x1 .f32 := spec0_3.stage ((cfgA (F := F)).slots t (3 : Fin 12))
theorem hs3 (t : Fin (cfgA (F := F)).N) : (ms3 t).IsWhole := hstage0_3 (((cfgA (F := F)).slots t (3 : Fin 12)).cast nbuf0_3)
abbrev ms4 (t : Fin (cfgA (F := F)).N) : Memref sig .tc .vmem S2x1x512 .f32 := spec0_4.stage ((cfgA (F := F)).slots t (4 : Fin 12))
theorem hs4 (t : Fin (cfgA (F := F)).N) : (ms4 t).IsWhole := hstage0_4 (((cfgA (F := F)).slots t (4 : Fin 12)).cast nbuf0_4)
abbrev ms5 (t : Fin (cfgA (F := F)).N) : Memref sig .tc .vmem S2x1024x1 .f32 := spec0_5.stage ((cfgA (F := F)).slots t (5 : Fin 12))
theorem hs5 (t : Fin (cfgA (F := F)).N) : (ms5 t).IsWhole := hstage0_5 (((cfgA (F := F)).slots t (5 : Fin 12)).cast nbuf0_5)
abbrev ms6 (t : Fin (cfgA (F := F)).N) : Memref sig .tc .vmem S2x1024x1 .f32 := spec0_6.stage ((cfgA (F := F)).slots t (6 : Fin 12))
theorem hs6 (t : Fin (cfgA (F := F)).N) : (ms6 t).IsWhole := hstage0_6 (((cfgA (F := F)).slots t (6 : Fin 12)).cast nbuf0_6)
abbrev ms7 (t : Fin (cfgA (F := F)).N) : Memref sig .tc .vmem S2x1024x1 .f32 := spec0_7.stage ((cfgA (F := F)).slots t (7 : Fin 12))
theorem hs7 (t : Fin (cfgA (F := F)).N) : (ms7 t).IsWhole := hstage0_7 (((cfgA (F := F)).slots t (7 : Fin 12)).cast nbuf0_7)
abbrev ms8 (t : Fin (cfgA (F := F)).N) : Memref sig .tc .vmem S1024x128 .f32 := spec0_8.stage ((cfgA (F := F)).slots t (8 : Fin 12))
theorem hs8 (t : Fin (cfgA (F := F)).N) : (ms8 t).IsWhole := hstage0_8 (((cfgA (F := F)).slots t (8 : Fin 12)).cast nbuf0_8)
abbrev ms9 (t : Fin (cfgA (F := F)).N) : Memref sig .tc .vmem S512x128 .f32 := spec0_9.stage ((cfgA (F := F)).slots t (9 : Fin 12))
theorem hs9 (t : Fin (cfgA (F := F)).N) : (ms9 t).IsWhole := hstage0_9 (((cfgA (F := F)).slots t (9 : Fin 12)).cast nbuf0_9)
abbrev ms10 (t : Fin (cfgA (F := F)).N) : Memref sig .tc .vmem S512x128 .f32 := spec0_10.stage ((cfgA (F := F)).slots t (10 : Fin 12))
theorem hs10 (t : Fin (cfgA (F := F)).N) : (ms10 t).IsWhole := hstage0_10 (((cfgA (F := F)).slots t (10 : Fin 12)).cast nbuf0_10)
abbrev ms11 (t : Fin (cfgA (F := F)).N) : Memref sig .tc .vmem S2x1x512 .f32 := spec0_11.stage ((cfgA (F := F)).slots t (11 : Fin 12))
theorem hs11 (t : Fin (cfgA (F := F)).N) : (ms11 t).IsWhole := hstage0_11 (((cfgA (F := F)).slots t (11 : Fin 12)).cast nbuf0_11)

/-- The body at a point. -/
abbrev bodyAt (t : Fin (cfgA (F := F)).N) : Prog (TpuEff nD τ sig (Elt F) Λ₀ .tc) PUnit :=
  cc0_flash_bwd_kv (crd t) tbM0_0 (Memref.isWhole_whole _) tbM0_1 (Memref.isWhole_whole _) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _)

/-- What the pipeline hands the body at a point. -/
abbrev entry (c : Dev nD) (t : Fin (cfgA (F := F)).N) : sProp 𝕄 :=
  iprop((dats m 0 c).Φ t.castSucc ∗ (dats m 0 c).owesAt () t.castSucc
    ∗ (∃ d, owns (c : Thread nD τ) (ms0 t) fullShare ((dats m 0 c).before (0 : Fin 12) t d)) ∗ (∃ d, owns (c : Thread nD τ) (ms1 t) fullShare ((dats m 0 c).before (1 : Fin 12) t d)) ∗ (∃ d, owns (c : Thread nD τ) (ms2 t) fullShare ((dats m 0 c).before (2 : Fin 12) t d)) ∗ (∃ d, owns (c : Thread nD τ) (ms3 t) fullShare ((dats m 0 c).before (3 : Fin 12) t d)) ∗ (∃ d, owns (c : Thread nD τ) (ms4 t) fullShare ((dats m 0 c).before (4 : Fin 12) t d)) ∗ (∃ d, owns (c : Thread nD τ) (ms5 t) fullShare ((dats m 0 c).before (5 : Fin 12) t d)) ∗ (∃ d, owns (c : Thread nD τ) (ms6 t) fullShare ((dats m 0 c).before (6 : Fin 12) t d)) ∗ (∃ d, owns (c : Thread nD τ) (ms7 t) fullShare ((dats m 0 c).before (7 : Fin 12) t d)) ∗ (∃ d, owns (c : Thread nD τ) (ms8 t) fullShare ((dats m 0 c).before (8 : Fin 12) t d)) ∗ (∃ d, owns (c : Thread nD τ) (ms9 t) fullShare ((dats m 0 c).before (9 : Fin 12) t d)) ∗ (∃ d, owns (c : Thread nD τ) (ms10 t) fullShare ((dats m 0 c).before (10 : Fin 12) t d)) ∗ (∃ d, owns (c : Thread nD τ) (ms11 t) fullShare ((dats m 0 c).before (11 : Fin 12) t d)))

set_option maxHeartbeats 6400000 in
/-- The body where a column ends: from the blocks the pipeline hands it, it leaves what the trajectory says. -/
theorem sound_last (c : Dev nD) (t : Fin (cfgA (F := F)).N) (h7 : qt (pos t.val) = 7) :
    entry m c t ⊢ wp frame (wpE (defs₀ (F := F)) Variants.none c none) Set.univ (bodyAt t) fun _ =>
      iprop((dats m 0 c).Φ t.succ ∗ (dats m 0 c).owesAt () t.succ
        ∗ owns (c : Thread nD τ) (ms0 t) fullShare (iblk m c (0 : Fin 12) t) ∗ owns (c : Thread nD τ) (ms1 t) fullShare (iblk m c (1 : Fin 12) t) ∗ owns (c : Thread nD τ) (ms2 t) fullShare (iblk m c (2 : Fin 12) t) ∗ owns (c : Thread nD τ) (ms3 t) fullShare (iblk m c (3 : Fin 12) t) ∗ owns (c : Thread nD τ) (ms4 t) fullShare (iblk m c (4 : Fin 12) t) ∗ owns (c : Thread nD τ) (ms5 t) fullShare (iblk m c (5 : Fin 12) t) ∗ owns (c : Thread nD τ) (ms6 t) fullShare (iblk m c (6 : Fin 12) t) ∗ owns (c : Thread nD τ) (ms7 t) fullShare (iblk m c (7 : Fin 12) t) ∗ owns (c : Thread nD τ) (ms8 t) fullShare (iblk m c (8 : Fin 12) t)
        ∗ owns (c : Thread nD τ) (ms9 t) fullShare ((dats m 0 c).after (9 : Fin 12) t) ∗ owns (c : Thread nD τ) (ms10 t) fullShare ((dats m 0 c).after (10 : Fin 12) t) ∗ owns (c : Thread nD τ) (ms11 t) fullShare ((dats m 0 c).after (11 : Fin 12) t)) := by
  rw [show (dats m 0 c).after (9 : Fin 12) t = k0_pay1 (step m c t (prev m c t)).1 from congrArg (fun s => k0_pay1 (Prod.fst s)) (traj_eq m c t),
    show (dats m 0 c).after (10 : Fin 12) t = k0_pay2 (step m c t (prev m c t)).2.1 from congrArg (fun s => k0_pay2 (Prod.fst (Prod.snd s))) (traj_eq m c t)]
  rw [show (dats m 0 c).after (11 : Fin 12) t = (step m c t (prev m c t)).2.2 from congrArg (fun s => Prod.snd (Prod.snd s)) (traj_eq m c t)]
  unfold entry
  rw [show (dats m 0 c).Φ t.castSucc = Phi m c t.castSucc from rfl, show (dats m 0 c).Φ t.succ = Phi m c t.succ from rfl,
    show (dats m 0 c).owesAt () t.succ = (dats m 0 c).owesAt () t.castSucc from rfl]
  unfold Phi
  rw [done_castSucc, done_succ]
  simp only [before0, before1, before2, before3, before4, before5, before6, before7, before8, before9, before10, before11, Fin.val_castSucc]
  have S := schedFacts (pos t.val)
  have sa := S.1; have sb := S.2.1; have sc := S.2.2.1
  have hc1 := S.2.2.2.2.1; have hc2 := S.2.2.2.2.2.1; have hc3 := S.2.2.2.2.2.2.1; have hc4 := S.2.2.2.2.2.2.2.1; have hc5 := S.2.2.2.2.2.2.2.2.1
  rw [← fact_wQ (F := F) t, ← fact_wK (F := F) t] at hc1 hc2 hc3 hc4; rw [← fact_wQ (F := F) t] at hc5
  by_cases h1 : isFst t
  · by_cases h2 : kt (pos t.val) = 2 * qt (pos t.val)
    · rw [step_Even m c t _ h1 h2]
      simp only [h1, ↓reduceIte]
      iintro ⟨⟨⟨%X0, %e0, HS0⟩, ⟨%X1, %e1, HS1⟩, Hr, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (body_E c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) tabQ tabK (iblk m c (0 : Fin 12) t) (iblk m c (1 : Fin 12) t) (iblk m c (2 : Fin 12) t) (iblk m c (3 : Fin 12) t) (iblk m c (4 : Fin 12) t) (iblk m c (5 : Fin 12) t) (iblk m c (6 : Fin 12) t) (iblk m c (7 : Fin 12) t) (iblk m c (8 : Fin 12) t)  (hc1.mpr h1) (fun h => hc2.mp h h1) (hc3.mpr h2) (fun h => by have := hc4.mp h; omega) (hc5.mpr h7))
      unfold ins
      isplitl [H0 H1 H2 H3 H4 H5 H6 H7 H8 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [H6]; · iapply rep_of_owns; iexact H6
        isplitl [H7]; · iapply rep_of_owns; iexact H7
        isplitl [H8]; · iapply rep_of_owns; iexact H8
        isplitl [HT0]; · iexact HT0
        iexact HT1
      isplitl [H9]; · iexists _; iexact H9
      isplitl [H10]; · iexists _; iexact H10
      isplitl [H11]; · iexists _; iexact H11
      isplitl [HS0]; · iexists _; iexact HS0
      isplitl [HS1]; · iexists _; iexact HS1
      iintro ⟨⟨H0, H1, H2, H3, H4, H5, H6, H7, H8, HT0, HT1⟩, H9, H10, H11, HS0, HS1⟩
      isplitl [HS0 HS1 Hr HT0 HT1]
      · isplitl [HS0]
        · iexists _
          isplitr [HS0]
          · ipureintro; exact fun _ => rfl
          · iexact HS0
        isplitl [HS1]
        · iexists _
          isplitr [HS1]
          · ipureintro; exact fun _ => rfl
          · iexact HS1
        isplitl [Hr]; · iexact Hr
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      isplitl [H6]; · iapply owns_of_rep; iexact H6
      isplitl [H7]; · iapply owns_of_rep; iexact H7
      isplitl [H8]; · iapply owns_of_rep; iexact H8
      isplitl [H9]; · iexact H9
      isplitl [H10]; · iexact H10
      iexact H11
    · rw [step_Odd m c t _ h1 h2]
      simp only [h1, ↓reduceIte]
      iintro ⟨⟨⟨%X0, %e0, HS0⟩, ⟨%X1, %e1, HS1⟩, Hr, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (body_F c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) tabQ tabK (iblk m c (0 : Fin 12) t) (iblk m c (1 : Fin 12) t) (iblk m c (2 : Fin 12) t) (iblk m c (3 : Fin 12) t) (iblk m c (4 : Fin 12) t) (iblk m c (5 : Fin 12) t) (iblk m c (6 : Fin 12) t) (iblk m c (7 : Fin 12) t) (iblk m c (8 : Fin 12) t)  (hc1.mpr h1) (fun h => hc2.mp h h1) (fun h => h2 (hc3.mp h)) (hc4.mpr (by have : qt (pos t.val) = kt (pos t.val) / 2 := h1; omega)) (hc5.mpr h7))
      unfold ins
      isplitl [H0 H1 H2 H3 H4 H5 H6 H7 H8 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [H6]; · iapply rep_of_owns; iexact H6
        isplitl [H7]; · iapply rep_of_owns; iexact H7
        isplitl [H8]; · iapply rep_of_owns; iexact H8
        isplitl [HT0]; · iexact HT0
        iexact HT1
      isplitl [H9]; · iexists _; iexact H9
      isplitl [H10]; · iexists _; iexact H10
      isplitl [H11]; · iexists _; iexact H11
      isplitl [HS0]; · iexists _; iexact HS0
      isplitl [HS1]; · iexists _; iexact HS1
      iintro ⟨⟨H0, H1, H2, H3, H4, H5, H6, H7, H8, HT0, HT1⟩, H9, H10, H11, HS0, HS1⟩
      isplitl [HS0 HS1 Hr HT0 HT1]
      · isplitl [HS0]
        · iexists _
          isplitr [HS0]
          · ipureintro; exact fun _ => rfl
          · iexact HS0
        isplitl [HS1]
        · iexists _
          isplitr [HS1]
          · ipureintro; exact fun _ => rfl
          · iexact HS1
        isplitl [Hr]; · iexact Hr
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      isplitl [H6]; · iapply owns_of_rep; iexact H6
      isplitl [H7]; · iapply owns_of_rep; iexact H7
      isplitl [H8]; · iapply owns_of_rep; iexact H8
      isplitl [H9]; · iexact H9
      isplitl [H10]; · iexact H10
      iexact H11
  · rw [step_Off m c t _ h1]
    simp only [if_neg h1]
    have h0 : t.val ≠ 0 := fun h0 => h1 (by unfold isFst; rw [h0]; decide)
    iintro ⟨⟨⟨%X0, %e0, HS0⟩, ⟨%X1, %e1, HS1⟩, Hr, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    obtain rfl := e0 h0; obtain rfl := e1 h0
    iapply (body_C c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) tabQ tabK (iblk m c (0 : Fin 12) t) (iblk m c (1 : Fin 12) t) (iblk m c (2 : Fin 12) t) (iblk m c (3 : Fin 12) t) (iblk m c (4 : Fin 12) t) (iblk m c (5 : Fin 12) t) (iblk m c (6 : Fin 12) t) (iblk m c (7 : Fin 12) t) (iblk m c (8 : Fin 12) t) (prev m c t).1 (prev m c t).2.1 (prev m c t).2.2  (fun h => h1 (hc1.mp h)) (hc2.mpr h1) (fun h => h1 (by have := hc3.mp h; show qt (pos t.val) = kt (pos t.val) / 2; omega)) (fun h => h1 (by have := hc4.mp h; show qt (pos t.val) = kt (pos t.val) / 2; omega)) (hc5.mpr h7))
    unfold ins
    isplitl [H0 H1 H2 H3 H4 H5 H6 H7 H8 HT0 HT1]
    · isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [H7]; · iapply rep_of_owns; iexact H7
      isplitl [H8]; · iapply rep_of_owns; iexact H8
      isplitl [HT0]; · iexact HT0
      iexact HT1
    isplitl [H9]; · iexists _; iexact H9
    isplitl [H10]; · iexists _; iexact H10
    isplitl [H11]; · iapply rep_of_owns; iexact H11
    isplitl [HS0]; · iapply rep_of_owns; iexact HS0
    isplitl [HS1]; · iapply rep_of_owns; iexact HS1
    iintro ⟨⟨H0, H1, H2, H3, H4, H5, H6, H7, H8, HT0, HT1⟩, H9, H10, H11, HS0, HS1⟩
    isplitl [HS0 HS1 Hr HT0 HT1]
    · isplitl [HS0]
      · iexists _
        isplitr [HS0]
        · ipureintro; exact fun _ => rfl
        · iexact HS0
      isplitl [HS1]
      · iexists _
        isplitr [HS1]
        · ipureintro; exact fun _ => rfl
        · iexact HS1
      isplitl [Hr]; · iexact Hr
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [H7]; · iapply owns_of_rep; iexact H7
    isplitl [H8]; · iapply owns_of_rep; iexact H8
    isplitl [H9]; · iexact H9
    isplitl [H10]; · iexact H10
    iexact H11

set_option maxHeartbeats 6400000 in
/-- The body elsewhere: from the blocks the pipeline hands it, it leaves what the trajectory says. -/
theorem sound_mid (c : Dev nD) (t : Fin (cfgA (F := F)).N) (h7 : ¬qt (pos t.val) = 7) :
    entry m c t ⊢ wp frame (wpE (defs₀ (F := F)) Variants.none c none) Set.univ (bodyAt t) fun _ =>
      iprop((dats m 0 c).Φ t.succ ∗ (dats m 0 c).owesAt () t.succ
        ∗ owns (c : Thread nD τ) (ms0 t) fullShare (iblk m c (0 : Fin 12) t) ∗ owns (c : Thread nD τ) (ms1 t) fullShare (iblk m c (1 : Fin 12) t) ∗ owns (c : Thread nD τ) (ms2 t) fullShare (iblk m c (2 : Fin 12) t) ∗ owns (c : Thread nD τ) (ms3 t) fullShare (iblk m c (3 : Fin 12) t) ∗ owns (c : Thread nD τ) (ms4 t) fullShare (iblk m c (4 : Fin 12) t) ∗ owns (c : Thread nD τ) (ms5 t) fullShare (iblk m c (5 : Fin 12) t) ∗ owns (c : Thread nD τ) (ms6 t) fullShare (iblk m c (6 : Fin 12) t) ∗ owns (c : Thread nD τ) (ms7 t) fullShare (iblk m c (7 : Fin 12) t) ∗ owns (c : Thread nD τ) (ms8 t) fullShare (iblk m c (8 : Fin 12) t)
        ∗ (∃ d, owns (c : Thread nD τ) (ms9 t) fullShare ((dats m 0 c).before (9 : Fin 12) t d)) ∗ (∃ d, owns (c : Thread nD τ) (ms10 t) fullShare ((dats m 0 c).before (10 : Fin 12) t d)) ∗ owns (c : Thread nD τ) (ms11 t) fullShare ((dats m 0 c).after (11 : Fin 12) t)) := by
  rw [show (dats m 0 c).after (11 : Fin 12) t = (step m c t (prev m c t)).2.2 from congrArg (fun s => Prod.snd (Prod.snd s)) (traj_eq m c t)]
  unfold entry
  rw [show (dats m 0 c).Φ t.castSucc = Phi m c t.castSucc from rfl, show (dats m 0 c).Φ t.succ = Phi m c t.succ from rfl,
    show (dats m 0 c).owesAt () t.succ = (dats m 0 c).owesAt () t.castSucc from rfl]
  unfold Phi
  rw [done_castSucc, done_succ]
  simp only [before0, before1, before2, before3, before4, before5, before6, before7, before8, before9, before10, before11, Fin.val_castSucc]
  have S := schedFacts (pos t.val)
  have sa := S.1; have sb := S.2.1; have sc := S.2.2.1
  have hc1 := S.2.2.2.2.1; have hc2 := S.2.2.2.2.2.1; have hc3 := S.2.2.2.2.2.2.1; have hc4 := S.2.2.2.2.2.2.2.1; have hc5 := S.2.2.2.2.2.2.2.2.1
  rw [← fact_wQ (F := F) t, ← fact_wK (F := F) t] at hc1 hc2 hc3 hc4; rw [← fact_wQ (F := F) t] at hc5
  by_cases h1 : isFst t
  · by_cases h2 : kt (pos t.val) = 2 * qt (pos t.val)
    · rw [step_Even m c t _ h1 h2]
      simp only [h1, ↓reduceIte]
      iintro ⟨⟨⟨%X0, %e0, HS0⟩, ⟨%X1, %e1, HS1⟩, Hr, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (body_A c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) tabQ tabK (iblk m c (0 : Fin 12) t) (iblk m c (1 : Fin 12) t) (iblk m c (2 : Fin 12) t) (iblk m c (3 : Fin 12) t) (iblk m c (4 : Fin 12) t) (iblk m c (5 : Fin 12) t) (iblk m c (6 : Fin 12) t) (iblk m c (7 : Fin 12) t) (iblk m c (8 : Fin 12) t) d9 d10 (hc1.mpr h1) (fun h => hc2.mp h h1) (hc3.mpr h2) (fun h => by have := hc4.mp h; omega) (fun h => h7 (hc5.mp h)))
      unfold ins
      isplitl [H0 H1 H2 H3 H4 H5 H6 H7 H8 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [H6]; · iapply rep_of_owns; iexact H6
        isplitl [H7]; · iapply rep_of_owns; iexact H7
        isplitl [H8]; · iapply rep_of_owns; iexact H8
        isplitl [HT0]; · iexact HT0
        iexact HT1
      isplitl [H9]; · iexact H9
      isplitl [H10]; · iexact H10
      isplitl [H11]; · iexists _; iexact H11
      isplitl [HS0]; · iexists _; iexact HS0
      isplitl [HS1]; · iexists _; iexact HS1
      iintro ⟨⟨H0, H1, H2, H3, H4, H5, H6, H7, H8, HT0, HT1⟩, H9, H10, H11, HS0, HS1⟩
      isplitl [HS0 HS1 Hr HT0 HT1]
      · isplitl [HS0]
        · iexists _
          isplitr [HS0]
          · ipureintro; exact fun _ => rfl
          · iexact HS0
        isplitl [HS1]
        · iexists _
          isplitr [HS1]
          · ipureintro; exact fun _ => rfl
          · iexact HS1
        isplitl [Hr]; · iexact Hr
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      isplitl [H6]; · iapply owns_of_rep; iexact H6
      isplitl [H7]; · iapply owns_of_rep; iexact H7
      isplitl [H8]; · iapply owns_of_rep; iexact H8
      isplitl [H9]; · iexists _; iexact H9
      isplitl [H10]; · iexists _; iexact H10
      iexact H11
    · rw [step_Odd m c t _ h1 h2]
      simp only [h1, ↓reduceIte]
      iintro ⟨⟨⟨%X0, %e0, HS0⟩, ⟨%X1, %e1, HS1⟩, Hr, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (body_D c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) tabQ tabK (iblk m c (0 : Fin 12) t) (iblk m c (1 : Fin 12) t) (iblk m c (2 : Fin 12) t) (iblk m c (3 : Fin 12) t) (iblk m c (4 : Fin 12) t) (iblk m c (5 : Fin 12) t) (iblk m c (6 : Fin 12) t) (iblk m c (7 : Fin 12) t) (iblk m c (8 : Fin 12) t) d9 d10 (hc1.mpr h1) (fun h => hc2.mp h h1) (fun h => h2 (hc3.mp h)) (hc4.mpr (by have : qt (pos t.val) = kt (pos t.val) / 2 := h1; omega)) (fun h => h7 (hc5.mp h)))
      unfold ins
      isplitl [H0 H1 H2 H3 H4 H5 H6 H7 H8 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [H6]; · iapply rep_of_owns; iexact H6
        isplitl [H7]; · iapply rep_of_owns; iexact H7
        isplitl [H8]; · iapply rep_of_owns; iexact H8
        isplitl [HT0]; · iexact HT0
        iexact HT1
      isplitl [H9]; · iexact H9
      isplitl [H10]; · iexact H10
      isplitl [H11]; · iexists _; iexact H11
      isplitl [HS0]; · iexists _; iexact HS0
      isplitl [HS1]; · iexists _; iexact HS1
      iintro ⟨⟨H0, H1, H2, H3, H4, H5, H6, H7, H8, HT0, HT1⟩, H9, H10, H11, HS0, HS1⟩
      isplitl [HS0 HS1 Hr HT0 HT1]
      · isplitl [HS0]
        · iexists _
          isplitr [HS0]
          · ipureintro; exact fun _ => rfl
          · iexact HS0
        isplitl [HS1]
        · iexists _
          isplitr [HS1]
          · ipureintro; exact fun _ => rfl
          · iexact HS1
        isplitl [Hr]; · iexact Hr
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      isplitl [H6]; · iapply owns_of_rep; iexact H6
      isplitl [H7]; · iapply owns_of_rep; iexact H7
      isplitl [H8]; · iapply owns_of_rep; iexact H8
      isplitl [H9]; · iexists _; iexact H9
      isplitl [H10]; · iexists _; iexact H10
      iexact H11
  · rw [step_Off m c t _ h1]
    simp only [if_neg h1]
    have h0 : t.val ≠ 0 := fun h0 => h1 (by unfold isFst; rw [h0]; decide)
    iintro ⟨⟨⟨%X0, %e0, HS0⟩, ⟨%X1, %e1, HS1⟩, Hr, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    obtain rfl := e0 h0; obtain rfl := e1 h0
    iapply (body_B c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) tabQ tabK (iblk m c (0 : Fin 12) t) (iblk m c (1 : Fin 12) t) (iblk m c (2 : Fin 12) t) (iblk m c (3 : Fin 12) t) (iblk m c (4 : Fin 12) t) (iblk m c (5 : Fin 12) t) (iblk m c (6 : Fin 12) t) (iblk m c (7 : Fin 12) t) (iblk m c (8 : Fin 12) t) (prev m c t).1 (prev m c t).2.1 (prev m c t).2.2 d9 d10 (fun h => h1 (hc1.mp h)) (hc2.mpr h1) (fun h => h1 (by have := hc3.mp h; show qt (pos t.val) = kt (pos t.val) / 2; omega)) (fun h => h1 (by have := hc4.mp h; show qt (pos t.val) = kt (pos t.val) / 2; omega)) (fun h => h7 (hc5.mp h)))
    unfold ins
    isplitl [H0 H1 H2 H3 H4 H5 H6 H7 H8 HT0 HT1]
    · isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [H7]; · iapply rep_of_owns; iexact H7
      isplitl [H8]; · iapply rep_of_owns; iexact H8
      isplitl [HT0]; · iexact HT0
      iexact HT1
    isplitl [H9]; · iexact H9
    isplitl [H10]; · iexact H10
    isplitl [H11]; · iapply rep_of_owns; iexact H11
    isplitl [HS0]; · iapply rep_of_owns; iexact HS0
    isplitl [HS1]; · iapply rep_of_owns; iexact HS1
    iintro ⟨⟨H0, H1, H2, H3, H4, H5, H6, H7, H8, HT0, HT1⟩, H9, H10, H11, HS0, HS1⟩
    isplitl [HS0 HS1 Hr HT0 HT1]
    · isplitl [HS0]
      · iexists _
        isplitr [HS0]
        · ipureintro; exact fun _ => rfl
        · iexact HS0
      isplitl [HS1]
      · iexists _
        isplitr [HS1]
        · ipureintro; exact fun _ => rfl
        · iexact HS1
      isplitl [Hr]; · iexact Hr
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [H7]; · iapply owns_of_rep; iexact H7
    isplitl [H8]; · iapply owns_of_rep; iexact H8
    isplitl [H9]; · iexists _; iexact H9
    isplitl [H10]; · iexists _; iexact H10
    iexact H11

set_option maxHeartbeats 4000000 in
/-- The library's body obligation, at every point. -/
theorem body_obligation (c : Dev nD) : BodyObligation (dats m 0 c) (defs₀ (F := F)) Variants.none () Set.univ := fun t => by
  rw [bigSep_W0, bigSep_W0]
  by_cases h7 : qt (pos t.val) = 7
  · have i9 := idle9 t; have i10 := idle10 t
    rw [decide_eq_true h7] at i9 i10
    rewrite [i9, idle11 t]
    exact sound_last m c t h7
  · have i9 := idle9 t; have i10 := idle10 t; have f9 := flush9 t; have f10 := flush10 t
    rw [decide_eq_false h7] at i9 i10 f9 f10
    rewrite [i9, idle11 t, f9, f10]
    exact sound_mid m c t h7

end Cert.Kernel2Ideal.Dkv

end
-- ==== Proof.Dkv.Launch.lean ====
/- The launch of the key-side backward kernel: the host lines before the region, then the region. -/
module

public import proofs.«01_k».proof.Proof.Dkv.Run
public import Idealize.ShloMosaic.Lib.StableHlo.RunRead
public import proofs.«01_k».proof.Defs
public import proofs.«01_k».proof.Proof.Gen.Kernel2Ideal
public import proofs.«01_k».proof.Proof.Gen.Kernel2Ideal.Launch
public import proofs.«01_k».proof.Proof.Gen.Kernel2Ideal.Skeleton
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Pipeline.FrameSuffix
public import Idealize.ShloMosaic.Lib.Pipeline.Value
public import Idealize.ShloMosaic.Lib.Claim
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.Kernel2Ideal.Dkv

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## The launch -/

variable {F : FTy → Type} [FloatOps F] [Named F]
variable (m : (ℓ : Loc nD τ sig) → Buf (Elt F) ℓ) (ρ : Dev nD → PrngReg)

local notation "𝕄" => MT nD τ sig Unit (Elt F) ℕ (UR sig nD τ) ℕ

theorem share_eq (c : Dev nD) (w : Fin (cfgA (F := F)).W) : (dats m 0 c).share w = fullShare := by unfold Dat.share; split <;> rfl

/-- The two tables, as the host lines leave them. -/
theorem V₀_c (c : Dev nD) : V₀ m c (Proc.devRef .tc main_c) = tabQ (F := F) := by
  unfold V₀
  rw [show [hostOps0 (F := F)].flatten = hostOps0 from List.append_nil _]
  after_reads_simp
  rfl
theorem V₀_c_0 (c : Dev nD) : V₀ m c (Proc.devRef .tc main_c_0) = tabK (F := F) := by
  unfold V₀
  rw [show [hostOps0 (F := F)].flatten = hostOps0 from List.append_nil _]
  after_reads_simp
  rfl

theorem head_fresh : List.Forall (fun op : HloOp τ sig (Elt F) => op.fresh = ∅) hostOps0 := by
  simp only [List.Forall]
  repeat' apply And.intro
  all_goals rfl

/-- The two scratch buffers, at any contents. -/
theorem scratch_eq (c : Dev nD) : (Pipeline.scopedRest (cfgA (F := F)).spec c : sProp 𝕄)
    = iprop((∃ f, (c : Thread nD τ).loc cc0_scratch0 ↦{fullShare} f) ∗ (∃ f, (c : Thread nD τ).loc cc0_scratch1 ↦{fullShare} f)) :=
  scopedRest0_eq c

/-- The two tables at half the share. -/
theorem held_eq (c : Dev nD) : (Pipeline.ΦT pre0 (adm (F := F)).1 c : sProp 𝕄)
    = iprop((tbM0_0.view.loc (c : Thread nD τ) ↦{fullShare.right} tabQ (F := F)) ∗ (tbM0_1.view.loc (c : Thread nD τ) ↦{fullShare.right} tabK (F := F))) := by
  unfold Pipeline.ΦT Pipeline.prefHeld
  rw [show (Finset.univ : Finset (Fin 2)) = insert (0 : Fin 2) {(1 : Fin 2)} from by decide,
    bigSep_insert (by decide), bigSep_singleton]
  rfl

/-- The invariant holds at the first point, whatever the scratch holds; -/
theorem phi_in (c : Dev nD) : iprop(Pipeline.ΦA (cfgA (F := F)).spec c ∗ Pipeline.ΦT pre0 (adm (F := F)).1 c) ⊢ (dats m 0 c).Φ 0 := by
  rw [held_eq, show (dats m 0 c).Φ 0 = Phi m c 0 from rfl]
  unfold Pipeline.ΦA Phi
  rw [scratch_eq]
  simp only [owns_whole]
  iintro ⟨⟨⟨⟨%a0, HS0⟩, ⟨%a1, HS1⟩⟩, Hr⟩, HT0, HT1⟩
  isplitl [HS0]
  · iexists a0; isplitr [HS0]
    · ipureintro; exact fun h => absurd rfl h
    iexact HS0
  isplitl [HS1]
  · iexists a1; isplitr [HS1]
    · ipureintro; exact fun h => absurd rfl h
    iexact HS1
  isplitl [Hr]; · iexact Hr
  isplitl [HT0]; · iexact HT0
  iexact HT1

/-- at the last it gives the scratch back. -/
theorem phi_out (c : Dev nD) : (dats m 0 c).Φ (Fin.last (cfgA (F := F)).N) ⊢ Pipeline.ΦA (cfgA (F := F)).spec c := by
  rw [show (dats m 0 c).Φ (Fin.last (cfgA (F := F)).N) = Phi m c (Fin.last _) from rfl]
  unfold Pipeline.ΦA Phi
  rw [scratch_eq]
  simp only [owns_whole]
  iintro ⟨⟨%a0, -, HS0⟩, ⟨%a1, -, HS1⟩, Hr, -, -⟩
  isplitl [HS0 HS1]
  · isplitl [HS0]; · iexists a0; iexact HS0
    iexists a1; iexact HS1
  iexact Hr

set_option backward.isDefEq.respectTransparency.types false in
set_option maxHeartbeats 4000000 in
/-- From any memory with zero counters every fair execution terminates, with every array of the region at the
    trajectory's contents, every other buffer as the region found it, and every counter at zero. -/
theorem run_main_post : θ_run (defs (F := F)) (onTc (τ := τ) (main (F := F))) (s₀ m ρ)
    (fun r => Pipeline.FramePost (Pipeline.pin pcfgs fun _ => adm (F := F)) (dats m) 0
      (Pipeline.afterTail pcfgs (fun _ => adm (F := F)) (dats m) 0 (V₀ m) []) r ∧ r.2.sem = fun _ => 0) :=
  Pipeline.θ_run_frameP_around_track pcfgs (fun _ => adm (F := F)) (dats m) 0 launch0 defs₀ Variants.none m ρ main
    (fun c => (body_obligation m c).loose) (share_eq m) (fun _ _ => rfl) (V₀ m) []
    (fun _ h => absurd h List.not_mem_nil) (fun _ h => absurd h List.not_mem_nil) (fun _ h => absurd h List.not_mem_nil)
    (Pipeline.hmainP_around pcfgs 0 defs₀ Variants.none m main [hostOps0] [] hostOps0_sub head_fresh
      (fun c => main_chain c))
    (fun _ _ => rfl) (fun c k => by fin_cases k; exacts [V₀_c m c, V₀_c_0 m c]) (phi_in m) (phi_out m) _ (fun _ h => h)

/-- The arrays of the keys', the values' and the decays' gradients after the whole grid. -/
def dkArr (c : Dev nD) : Buf (Elt F) ((c : Thread nD τ).loc main_v50_0) := (dats m 0 c).arrAt (9 : Fin 12) (cfgA (F := F)).N
def dvArr (c : Dev nD) : Buf (Elt F) ((c : Thread nD τ).loc main_v50_1) := (dats m 0 c).arrAt (10 : Fin 12) (cfgA (F := F)).N
def dcArr (c : Dev nD) : Buf (Elt F) ((c : Thread nD τ).loc main_v50_2) := (dats m 0 c).arrAt (11 : Fin 12) (cfgA (F := F)).N

/-- A buffer the region does not touch ends as the region found it. -/
theorem rest_eq (c : Dev nD) (r : Ref sig .tc) (h : ∀ w, Pipeline.arrRef spec0 w ≠ r) :
    Pipeline.afterTail pcfgs (fun _ => adm (F := F)) (dats m) 0 (V₀ m) [] c r = V₀ m c (Proc.devRef .tc r) := by
  unfold Pipeline.afterTail
  exact Pipeline.withArrays_of_ne spec0 c _ _ r h

theorem arg_eq (c : Dev nD) : V₀ m c (Proc.devRef .tc main_arg0) = m ((c : Thread nD τ).loc main_arg0)
    ∧ V₀ m c (Proc.devRef .tc main_arg1) = m ((c : Thread nD τ).loc main_arg1)
    ∧ V₀ m c (Proc.devRef .tc main_arg2) = m ((c : Thread nD τ).loc main_arg2)
    ∧ V₀ m c (Proc.devRef .tc main_arg3) = m ((c : Thread nD τ).loc main_arg3)
    ∧ V₀ m c (Proc.devRef .tc main_arg4) = m ((c : Thread nD τ).loc main_arg4) := by
  unfold V₀
  rw [show [hostOps0 (F := F)].flatten = hostOps0 from List.append_nil _]
  refine ⟨?_, ?_, ?_, ?_, ?_⟩ <;> after_reads_simp <;> rfl

/-- THE RUN: the results are the trajectory's arrays, the arguments end unchanged, every counter at zero. -/
theorem run_main : θ_run (defs (F := F)) (onTc (τ := τ) (main (F := F))) ⟨m, fun _ => 0, ρ⟩ (fun r => (∀ c : Dev nD,
      r.2.mem ((c.tc : Thread nD τ).loc main_v50_0) = dkArr m c
      ∧ r.2.mem ((c.tc : Thread nD τ).loc main_v50_1) = dvArr m c
      ∧ r.2.mem ((c.tc : Thread nD τ).loc main_v50_2) = dcArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run (defs (F := F)) _ _).mono (fun r h => ⟨fun c => by
    have hc := h.1 c
    obtain ⟨a0, a1, a2, a3, a4⟩ := arg_eq m c
    refine ⟨hc.1 (9 : Fin 12), hc.1 (10 : Fin 12), hc.1 (11 : Fin 12), ?_, ?_, ?_, ?_, ?_⟩
    · exact ((hc.2 main_arg0 (show main_arg0 ∈ Pipeline.restRefs sig spec0 by decide)).trans (rest_eq m c main_arg0 (by decide))).trans a0
    · exact ((hc.2 main_arg1 (show main_arg1 ∈ Pipeline.restRefs sig spec0 by decide)).trans (rest_eq m c main_arg1 (by decide))).trans a1
    · exact ((hc.1 (2 : Fin 12)).trans ((dats m 0 c).arrAt_in (2 : Fin 12) rfl _)).trans a2
    · exact ((hc.2 main_arg3 (show main_arg3 ∈ Pipeline.restRefs sig spec0 by decide)).trans (rest_eq m c main_arg3 (by decide))).trans a3
    · exact ((hc.1 (8 : Fin 12)).trans ((dats m 0 c).arrAt_in (8 : Fin 12) rfl _)).trans a4, h.2⟩) (run_main_post m ρ)

end Cert.Kernel2Ideal.Dkv

end
-- ==== Proof.Dkv.Spec.lean ====
module

public import proofs.«01_k».proof.Proof.Dq.Spec

@[expose] public section

/-! Forgetting attention's key, value and decay gradients over the reals. -/

noncomputable section

namespace Cert.Dq.Inp
variable (I : Inp) (h : Fin 16) (t u : Fin 8192)

/-- A weight, zero past the query. -/
def w : ℝ := I.e h t u / I.Z h t
/-- The gradient of a key's coordinate, from the scaled queries. -/
def dk (d : Fin 64) : ℝ := ∑ t, I.ds h t u * (I.q h t d * 0.125)
/-- The gradient of a value's coordinate. -/
def dv (d : Fin 64) : ℝ := ∑ t, I.w h t u * I.dO h t d
/-- The sum of a key's gradients of scores. -/
def dc : ℝ := ∑ t, I.ds h t u

/-- A query's gradients of scores add up to zero. -/
theorem sum_ds : ∑ u, I.ds h t u = 0 := by
  have hz := (I.Z_pos h t).ne'
  have h1 : ∑ u, I.e h t u / I.Z h t = 1 := by
    rw [← Finset.sum_div]
    exact div_self hz
  unfold ds
  simp only [mul_sub]
  rw [Finset.sum_sub_distrib, ← Finset.sum_mul, h1, one_mul, delta_eq]
  exact sub_eq_zero.2 (Finset.sum_congr rfl fun u _ => mul_comm _ _)

theorem w_past (hu : ¬u.val ≤ t.val) : I.w h t u = 0 := by
  unfold w
  rw [show I.e h t u = 0 from if_neg hu, zero_div]

end Cert.Dq.Inp
-- ==== Proof.Dkv.Host.lean ====
module

public import proofs.«01_k».proof.Proof.Dkv.Launch
public import proofs.«01_k».proof.Proof.Dkv.Spec
public import proofs.«01_k».proof.Proof.Dq.Host

@[expose] public section

/-! The arrays the host lines hand to the key-side backward kernel. All but one are the query-side kernel's. -/

set_option maxRecDepth 16384

noncomputable section

namespace Cert.Kernel2Ideal.Dkv
open Cert.Kernel2Ideal Cert.Kernel2Ideal.Gen Cert.Dq
open Cert.ReferenceIdeal.Read (val_main_v5)
open Cert.ReferenceIdeal.Dq (Holds v5_eq)
open Cert.KernelIdeal.Dq (kE kZ kO kLse kDelta kQ kK kCcol kCrow kE_eq kZ_eq kDelta_eq)
open Idealize.ShloMosaic Idealize.ShloMosaic.TcCoe Idealize.ShloMosaic.StableHlo

/-- The rows' sums of the gradients of the scores. -/
def kResid {F : FTy → Type} [FloatOps F] (x0 x1 : FVec F S8192x1024 .f32) (x2 : FVec F S8192x4224 .f32) (x3 : FVec F S8192x16 .f32) (x4 : FVec F S8192x1024 .f32) : FVec F S16x8192x1 .f32 :=
  broadcastInDim S16x8192x1 ![0, 1] bcast_S16x8192_S16x8192x1_0_1 (Host.reduceAdd (mulf
    (Host.divf (kE x0 x1 x3) (broadcastInDim S16x8192x8192 ![0, 1, 2] bcast_S16x8192x1_S16x8192x8192_0_1_2
      (broadcastInDim S16x8192x1 ![0, 1] bcast_S16x8192_S16x8192x1_0_1 (kZ x0 x1 x3))))
    (subf (Host.dotGeneral dot_S8192x16x64_S8192x16x64_S16x8192x8192_2_2_0_0_1_1 none (shapeCast S8192x16x64 x4 shapeCasts_S8192x1024_S8192x16x64) (val_main_v5 x2 : FVec F S8192x16x64 .f32))
      (broadcastInDim S16x8192x8192 ![0, 1, 2] bcast_S16x8192x1_S16x8192x8192_0_1_2 (kDelta x0 x1 x2 x3 x4))))
    (constant S_ .f32 0x00000000#32) reducesTo_S16x8192x8192_S16x8192_d2 h_S_)

section Reads
variable {F : FTy → Type} [FloatOps F] [Named F]
variable (m : (ℓ : Loc nD τ sig) → Buf (Elt F) ℓ) (c : Dev nD)

theorem V₀_48 : V₀ m c (Proc.devRef .tc main_v48) = kQ (m ((c : Thread nD τ).loc main_arg0)) := by
  unfold V₀
  rw [show [hostOps0 (F := F)].flatten = hostOps0 from List.append_nil _]
  after_reads_simp
  rfl
theorem V₀_49 : V₀ m c (Proc.devRef .tc main_v49) = kK (m ((c : Thread nD τ).loc main_arg1)) := by
  unfold V₀
  rw [show [hostOps0 (F := F)].flatten = hostOps0 from List.append_nil _]
  after_reads_simp
  rfl
theorem V₀_7 : V₀ m c (Proc.devRef .tc main_v7) = kCcol (m ((c : Thread nD τ).loc main_arg3)) := by
  unfold V₀
  rw [show [hostOps0 (F := F)].flatten = hostOps0 from List.append_nil _]
  after_reads_simp
  rfl
theorem V₀_8 : V₀ m c (Proc.devRef .tc main_v8) = kCrow (m ((c : Thread nD τ).loc main_arg3)) := by
  unfold V₀
  rw [show [hostOps0 (F := F)].flatten = hostOps0 from List.append_nil _]
  after_reads_simp
  rfl
theorem V₀_35 : V₀ m c (Proc.devRef .tc main_v35) = kLse (m ((c : Thread nD τ).loc main_arg0)) (m ((c : Thread nD τ).loc main_arg1)) (m ((c : Thread nD τ).loc main_arg3)) := by
  unfold V₀
  rw [show [hostOps0 (F := F)].flatten = hostOps0 from List.append_nil _]
  after_reads_simp
  rfl
theorem V₀_40 : V₀ m c (Proc.devRef .tc main_v40) = kDelta (m ((c : Thread nD τ).loc main_arg0)) (m ((c : Thread nD τ).loc main_arg1)) (m ((c : Thread nD τ).loc main_arg2)) (m ((c : Thread nD τ).loc main_arg3)) (m ((c : Thread nD τ).loc main_arg4)) := by
  unfold V₀
  rw [show [hostOps0 (F := F)].flatten = hostOps0 from List.append_nil _]
  after_reads_simp
  rfl
theorem V₀_46 : V₀ m c (Proc.devRef .tc main_v46) = kResid (m ((c : Thread nD τ).loc main_arg0)) (m ((c : Thread nD τ).loc main_arg1)) (m ((c : Thread nD τ).loc main_arg2)) (m ((c : Thread nD τ).loc main_arg3)) (m ((c : Thread nD τ).loc main_arg4)) := by
  unfold V₀
  rw [show [hostOps0 (F := F)].flatten = hostOps0 from List.append_nil _]
  after_reads_simp
  rfl
theorem V₀_arg2 : V₀ m c (Proc.devRef .tc main_arg2) = m ((c : Thread nD τ).loc main_arg2) := by
  unfold V₀
  rw [show [hostOps0 (F := F)].flatten = hostOps0 from List.append_nil _]
  after_reads_simp
theorem V₀_arg4 : V₀ m c (Proc.devRef .tc main_arg4) = m ((c : Thread nD τ).loc main_arg4) := by
  unfold V₀
  rw [show [hostOps0 (F := F)].flatten = hostOps0 from List.append_nil _]
  after_reads_simp

end Reads

variable {I : Inp} {x0 x1 : FVec Ideal S8192x1024 .f32} {x2 : FVec Ideal S8192x4224 .f32} {x3 : FVec Ideal S8192x16 .f32} {x4 : FVec Ideal S8192x1024 .f32}

/-- They are all zero. -/
theorem kResid_eq (H : Holds I x0 x1 x2 x3 x4) (h : Fin 16) (t : Fin 8192) : kResid (F := Ideal) x0 x1 x2 x3 x4 (ix3 h t 0) = (0 : EReal) := by
  have hE := kE_eq H h t
  have hZ := kZ_eq H h t
  have hD := kDelta_eq H h t
  have h5 := fun u d => v5_eq H h u d
  unfold kResid
  revert hE hZ hD h5
  generalize kE (F := Ideal) x0 x1 x3 = y
  generalize kZ (F := Ideal) x0 x1 x3 = z
  generalize kDelta (F := Ideal) x0 x1 x2 x3 x4 = e
  generalize val_main_v5 (F := Ideal) x2 = w
  intro hE hZ hD h5
  pointwise
  refine (sum_coe (fun u => I.ds h t u) fun u => ?_).trans (by rw [I.sum_ds h t]; rfl)
  show Ideal.div (y (ix3 h t u)) (z (ix2 h t)) * ((∑ d, _ * w (ix3 u h d)) - e (ix3 h t 0)) = _
  rw [hE, hZ, hD, Ideal.div_coe (I.Z_pos h t).ne', ← EReal.coe_mul, sum_coe (fun d => I.dO h t d * I.v h u d) fun d => by rw [h5, EReal.coe_mul]; exact congrArg (· * _) (H.hdO h t d),
    ← EReal.coe_sub, ← EReal.coe_mul, ← div_eq_mul_one_div (I.e h t u)]
  rfl

end Cert.Kernel2Ideal.Dkv
-- ==== Proof.Dkv.Block.lean ====
/- What a tile of the key-side backward kernel computes, over the reals. -/
module

public import proofs.«01_k».proof.Proof.Dkv.Body
public import proofs.«01_k».proof.Proof.Dq.Block

@[expose] public section

set_option maxRecDepth 16384
set_option Elab.async false

noncomputable section

namespace Cert.Kernel2Ideal.Dkv
open Cert.Kernel2Ideal Cert.Kernel2Ideal.Gen Cert.Dq
open Cert.KernelIdeal.Dq (lt64 xlt64 sel_if zero_toInt hdot masked_dot)
open Idealize.ShloMosaic

/-- What a tile of 256 queries and 512 keys has for contents, in the reals. -/
structure Tile where
  q : Fin 256 → Fin 128 → ℝ
  k : Fin 512 → Fin 128 → ℝ
  v : Fin 512 → Fin 128 → ℝ
  cc : Fin 2 → Fin 256 → ℝ
  cr : Fin 2 → Fin 512 → ℝ
  ls : Fin 2 → Fin 256 → ℝ
  de : Fin 2 → Fin 256 → ℝ
  dO : Fin 256 → Fin 128 → ℝ

/-- The tile's arrays hold the reals `B`, and the rows' residues are zero. -/
structure Tile.Holds (B : Tile) (q : S256x128.Idx → Elt Ideal .bf16) (k : S512x128.Idx → Elt Ideal .bf16) (h : S512x128.Idx → Elt Ideal .f32)
    (cc : S2x256x1.Idx → Elt Ideal .f32) (cr : S2x1x512.Idx → Elt Ideal .f32) (ls dl rs : S2x256x1.Idx → Elt Ideal .f32) (d : S256x128.Idx → Elt Ideal .f32) : Prop where
  hq : ∀ r l, q (ix2 r l) = (B.q r l : EReal)
  hk : ∀ c l, k (ix2 c l) = (B.k c l : EReal)
  hv : ∀ c l, h (ix2 c l) = (B.v c l : EReal)
  hcc : ∀ a r, cc (ix3 a r 0) = (B.cc a r : EReal)
  hcr : ∀ a c, cr (ix3 a 0 c) = (B.cr a c : EReal)
  hls : ∀ a r, ls (ix3 a r 0) = (B.ls a r : EReal)
  hde : ∀ a r, dl (ix3 a r 0) = (B.de a r : EReal)
  hrs : ∀ a r, rs (ix3 a r 0) = (0 : EReal)
  hdO : ∀ r l, d (ix2 r l) = (B.dO r l : EReal)

/-- A weight of the tile; `s` is how far its first query lies past its first key. -/
def Tile.w (B : Tile) (s : ℕ) (a : Fin 2) (r : Fin 256) (c : Fin 512) : ℝ :=
  if c.val ≤ s + r.val then Real.exp (hdot a (B.q r) (B.k c) - B.cr a c + (B.cc a r - B.ls a r)) else 0
/-- The gradient of its score. -/
def Tile.ds (B : Tile) (s : ℕ) (a : Fin 2) (r : Fin 256) (c : Fin 512) : ℝ := B.w s a r c * (hdot a (B.dO r) (B.v c) - B.de a r)

/-- The kernel's causal test inside a tile. -/
theorem le_tile (s : ℕ) (hs : s ≤ 512) (r : Fin 256) (c : Fin 512) :
    IntOp.cmpi CmpIPredicate.sle (BitVec.ofNat 32 c.val) (IntOp.addi (BitVec.ofNat 32 s) (BitVec.ofNat 32 r.val)) = if c.val ≤ s + r.val then 1#1 else 0#1 := by
  have hr := r.isLt
  have hc := c.isLt
  have hi : ∀ n : ℕ, n < 2048 → (BitVec.ofNat 32 n).toInt = n := fun n hn => by
    have hm : n % 2 ^ 32 = n := Nat.mod_eq_of_lt (by omega)
    rw [BitVec.toInt_eq_toNat_of_lt (by rw [BitVec.toNat_ofNat, hm]; omega), BitVec.toNat_ofNat, hm]
  have ha : IntOp.addi (BitVec.ofNat 32 s) (BitVec.ofNat 32 r.val) = BitVec.ofNat 32 (s + r.val) := by
    simp only [IntOp.addi, BitVec.ofNat_add]
  rw [ha]
  simp only [IntOp.cmpi, BitVec.sle, hi c.val (by omega), hi (s + r.val) (by omega), Nat.cast_le]
  by_cases h : c.val ≤ s + r.val <;> simp [h]

/-- The mask's value. -/
theorem mask_bot : (Named.named κ "mask" 4048155338#32 : Ideal .f32) = (⊥ : EReal) := IdealRules.named_const.ideal_named_scalar _ _ _ _ rfl

/-- A sum over the two heads' rows, one over the other. -/
theorem sum_stack (f : Fin 2 → Fin 256 → ℝ) : (∑ x : Fin 512, f ⟨x.val / 256, by omega⟩ ⟨x.val % 256, by omega⟩) = ∑ a, ∑ r, f a r := by
  rw [← Fintype.sum_prod_type' fun a r => f a r]
  refine (Fintype.sum_equiv (finProdFinEquiv (m := 2) (n := 256)) _ _ fun x => ?_).symm
  obtain ⟨a, r⟩ := x
  have h1 : (finProdFinEquiv (a, r)).val = r.val + 256 * a.val := rfl
  exact congrArg₂ f (Fin.ext (by simp only [h1]; omega)) (Fin.ext (by simp only [h1]; omega))

/-- The product of the stacked rows, one head's lanes kept, with the stacked weights. -/
theorem stack_dot (l : Fin 128) (x : Fin 256 → EReal) (X : Fin 256 → ℝ) (hx : ∀ r, x r = X r) (w : Fin 2 → Fin 256 → EReal) (W : Fin 2 → Fin 256 → ℝ) (hw : ∀ a r, w a r = W a r) :
    (∑ n : Fin 512, (if h : n.val / 256 < 1 then
            Scalar.select (IntOp.cmpi CmpIPredicate.slt (BitVec.ofNat 32 l.val) 64#32) (x ⟨n.val % 256, by omega⟩) (((0#32 : BitVec 32).toInt : ℝ) : EReal)
          else
            Scalar.select (IntOp.xori (IntOp.cmpi CmpIPredicate.slt (BitVec.ofNat 32 l.val) 64#32) 1#1) (x ⟨n.val % 256, by omega⟩) (((0#32 : BitVec 32).toInt : ℝ) : EReal)) *
          w ⟨n.val / 256, by omega⟩ ⟨n.val % 256, by omega⟩) = ((∑ r, W ⟨l.val / 64, by omega⟩ r * X r : ℝ) : EReal) := by
  have hl := l.isLt
  have e := sum_stack fun a r => (if l.val / 64 = a.val then X r else 0) * W a r
  rw [sum_coe (fun n : Fin 512 => (if l.val / 64 = n.val / 256 then X ⟨n.val % 256, by omega⟩ else 0) * W ⟨n.val / 256, by omega⟩ ⟨n.val % 256, by omega⟩) fun n => ?_, e]
  · congr 1
    rw [Fin.sum_univ_two]
    rcases (show l.val / 64 = 0 ∨ l.val / 64 = 1 by omega) with h | h
    · simp [h, mul_comm]
    · simp [h, mul_comm]
  · rw [xlt64, lt64, sel_if, sel_if, zero_toInt, hw, hx]
    rcases (show n.val / 256 = 0 ∨ n.val / 256 = 1 by omega) with hn | hn <;>
      rcases (show l.val / 64 = 0 ∨ l.val / 64 = 1 by omega) with h | h <;> simp [hn, h]

variable {B : Tile} {q : S256x128.Idx → Elt Ideal .bf16} {k : S512x128.Idx → Elt Ideal .bf16} {h : S512x128.Idx → Elt Ideal .f32}
    {cc : S2x256x1.Idx → Elt Ideal .f32} {cr : S2x1x512.Idx → Elt Ideal .f32} {ls dl rs : S2x256x1.Idx → Elt Ideal .f32} {d : S256x128.Idx → Elt Ideal .f32}
variable (H : B.Holds q k h cc cr ls dl rs d)

/-! ## A tile off the diagonal -/

include H in
theorem wO_eq (a : Fin 2) (r : Fin 256) (c : Fin 512) :
    k0_pay12 (F := Ideal) (k0_pay3 k) (k0_pay5 q) cr cc ls (ix3 a r c) = (B.w 512 a r c : EReal) := by
  pointwise [k0_pay12, k0_pay3, k0_pay5]
  rw [masked_dot a (fun l => q (ix2 r l)) (fun l => k (ix2 c l)) (B.q r) (B.k c) (H.hq r) (H.hk c), H.hcr, H.hcc, H.hls]
  unfold Tile.w
  rw [if_pos (by omega)]
  rfl

include H in
theorem dsO_eq (a : Fin 2) (r : Fin 256) (c : Fin 512) :
    dsO (F := Ideal) q k h cc cr ls dl rs d (ix3 a r c) = (B.ds 512 a r c : EReal) := by
  have hw := wO_eq H a r c
  unfold dsO k0_pay13
  revert hw
  generalize k0_pay12 (F := Ideal) (k0_pay3 k) (k0_pay5 q) cr cc ls = y
  intro hw
  pointwise [k0_pay11, k0_pay4, k0_pay8, k0_pay9, k0_pay10, k0_pay6, k0_pay7]
  rw [masked_dot a (fun l => d (ix2 r l)) (fun l => h (ix2 c l)) (B.dO r) (B.v c) (H.hdO r) (H.hv c), hw, H.hde, H.hrs, add_zero]
  rfl

include H in
theorem dkO_eq (p : S128x512.Idx → Elt Ideal .f32) (l : Fin 128) (c : Fin 512) :
    dkO (F := Ideal) q k h cc cr ls dl rs d p (ix2 l c) = (p (ix2 l c) : EReal) + ((∑ r, B.ds 512 ⟨l.val / 64, by omega⟩ r c * B.q r l : ℝ) : EReal) := by
  have hd := fun a r => dsO_eq H a r c
  unfold dkO
  revert hd
  generalize dsO (F := Ideal) q k h cc cr ls dl rs d = w
  intro hd
  pointwise [k0_pay15, k0_pay5]
  exact congrArg (fun z => p (ix2 l c) + z) (stack_dot l (fun r => q (ix2 r l)) (fun r => B.q r l) (fun r => H.hq r l) (fun a r => w (ix3 a r c)) (fun a r => B.ds 512 a r c) hd)

include H in
theorem dvO_eq (p : S128x512.Idx → Elt Ideal .f32) (l : Fin 128) (c : Fin 512) :
    dvO (F := Ideal) q k h cc cr ls dl rs d p (ix2 l c) = (p (ix2 l c) : EReal) + ((∑ r, B.w 512 ⟨l.val / 64, by omega⟩ r c * B.dO r l : ℝ) : EReal) := by
  have hd := fun a r => wO_eq H a r c
  unfold dvO k0_pay14
  revert hd
  generalize k0_pay12 (F := Ideal) (k0_pay3 k) (k0_pay5 q) cr cc ls = w
  intro hd
  pointwise [k0_pay11, k0_pay8, k0_pay9, k0_pay10, k0_pay6, k0_pay7]
  exact congrArg (fun z => p (ix2 l c) + z) (stack_dot l (fun r => d (ix2 r l)) (fun r => B.dO r l) (fun r => H.hdO r l) (fun a r => w (ix3 a r c)) (fun a r => B.w 512 a r c) hd)

include H in
theorem dcO_eq (p : S2x1x512.Idx → Elt Ideal .f32) (a : Fin 2) (c : Fin 512) :
    dcO (F := Ideal) q k h cc cr ls dl rs d p (ix3 a 0 c) = (p (ix3 a 0 c) : EReal) - ((∑ r, B.ds 512 a r c : ℝ) : EReal) := by
  have hd := fun r => dsO_eq H a r c
  unfold dcO
  revert hd
  generalize dsO (F := Ideal) q k h cc cr ls dl rs d = w
  intro hd
  pointwise [k0_pay16]
  exact congrArg (fun z => p (ix3 a 0 c) - z) (sum_coe _ hd)

/-! ## A tile whose first query is its first key's position -/

include H in
theorem wA_eq (a : Fin 2) (r : Fin 256) (c : Fin 512) :
    k0_pay62 (F := Ideal) (k0_pay53 k) (k0_pay55 q) cr cc ls (ix3 a r c) = (B.w 0 a r c : EReal) := by
  pointwise [k0_pay62, k0_pay53, k0_pay55]
  rw [masked_dot a (fun l => q (ix2 r l)) (fun l => k (ix2 c l)) (B.q r) (B.k c) (H.hq r) (H.hk c), H.hcr, H.hcc, H.hls]
  unfold Tile.w
  rw [le_tile 0 (by omega), sel_if]
  by_cases hc : c.val ≤ 0 + r.val
  · rw [if_pos hc, if_pos hc]; rfl
  · rw [if_neg hc, if_neg hc, mask_bot, ← EReal.coe_sub, EReal.bot_add]
    simp

include H in
theorem dsA_eq (a : Fin 2) (r : Fin 256) (c : Fin 512) :
    dsA (F := Ideal) q k h cc cr ls dl rs d (ix3 a r c) = (B.ds 0 a r c : EReal) := by
  have hw := wA_eq H a r c
  unfold dsA k0_pay63
  revert hw
  generalize k0_pay62 (F := Ideal) (k0_pay53 k) (k0_pay55 q) cr cc ls = y
  intro hw
  pointwise [k0_pay61, k0_pay54, k0_pay58, k0_pay59, k0_pay60, k0_pay56, k0_pay57]
  rw [masked_dot a (fun l => d (ix2 r l)) (fun l => h (ix2 c l)) (B.dO r) (B.v c) (H.hdO r) (H.hv c), hw, H.hde, H.hrs, add_zero]
  rfl

include H in
theorem dkA_eq (p : S128x512.Idx → Elt Ideal .f32) (l : Fin 128) (c : Fin 512) :
    dkA (F := Ideal) q k h cc cr ls dl rs d p (ix2 l c) = (p (ix2 l c) : EReal) + ((∑ r, B.ds 0 ⟨l.val / 64, by omega⟩ r c * B.q r l : ℝ) : EReal) := by
  have hd := fun a r => dsA_eq H a r c
  unfold dkA
  revert hd
  generalize dsA (F := Ideal) q k h cc cr ls dl rs d = w
  intro hd
  pointwise [k0_pay66, k0_pay55]
  exact congrArg (fun z => p (ix2 l c) + z) (stack_dot l (fun r => q (ix2 r l)) (fun r => B.q r l) (fun r => H.hq r l) (fun a r => w (ix3 a r c)) (fun a r => B.ds 0 a r c) hd)

include H in
theorem dvA_eq (p : S128x512.Idx → Elt Ideal .f32) (l : Fin 128) (c : Fin 512) :
    dvA (F := Ideal) q k h cc cr ls dl rs d p (ix2 l c) = (p (ix2 l c) : EReal) + ((∑ r, B.w 0 ⟨l.val / 64, by omega⟩ r c * B.dO r l : ℝ) : EReal) := by
  have hd := fun a r => wA_eq H a r c
  unfold dvA k0_pay64
  revert hd
  generalize k0_pay62 (F := Ideal) (k0_pay53 k) (k0_pay55 q) cr cc ls = w
  intro hd
  pointwise [k0_pay65, k0_pay61, k0_pay58, k0_pay59, k0_pay60, k0_pay56, k0_pay57]
  exact congrArg (fun z => p (ix2 l c) + z) (stack_dot l (fun r => d (ix2 r l)) (fun r => B.dO r l) (fun r => H.hdO r l) (fun a r => w (ix3 a r c)) (fun a r => B.w 0 a r c) hd)

include H in
theorem dcA_eq (p : S2x1x512.Idx → Elt Ideal .f32) (a : Fin 2) (c : Fin 512) :
    dcA (F := Ideal) q k h cc cr ls dl rs d p (ix3 a 0 c) = (p (ix3 a 0 c) : EReal) - ((∑ r, B.ds 0 a r c : ℝ) : EReal) := by
  have hd := fun r => dsA_eq H a r c
  unfold dcA
  revert hd
  generalize dsA (F := Ideal) q k h cc cr ls dl rs d = w
  intro hd
  pointwise [k0_pay67]
  exact congrArg (fun z => p (ix3 a 0 c) - z) (sum_coe _ hd)

/-! ## A tile whose first query lies 256 past its first key -/

include H in
theorem wB_eq (a : Fin 2) (r : Fin 256) (c : Fin 512) :
    k0_pay76 (F := Ideal) (k0_pay75 (k0_pay68 k) (k0_pay70 q) k0_pay71 k0_pay72 cr) cc ls (ix3 a r c) = (B.w 256 a r c : EReal) := by
  pointwise [k0_pay76, k0_pay75, k0_pay68, k0_pay73, k0_pay70, k0_pay71, k0_pay72]
  rw [masked_dot a (fun l => q (ix2 r l)) (fun l => k (ix2 c l)) (B.q r) (B.k c) (H.hq r) (H.hk c), H.hcr, H.hcc, H.hls]
  unfold Tile.w
  rw [le_tile 256 (by omega), sel_if]
  by_cases hc : c.val ≤ 256 + r.val
  · rw [if_pos hc, if_pos hc]; rfl
  · rw [if_neg hc, if_neg hc, mask_bot, ← EReal.coe_sub, EReal.bot_add]
    simp

include H in
theorem dsB_eq (a : Fin 2) (r : Fin 256) (c : Fin 512) :
    k0_pay77 (F := Ideal) (k0_pay69 h) (k0_pay74 d) (k0_pay75 (k0_pay68 k) (k0_pay70 q) k0_pay71 k0_pay72 cr) cc ls dl rs (ix3 a r c) = (B.ds 256 a r c : EReal) := by
  have hw := wB_eq H a r c
  unfold k0_pay77
  revert hw
  generalize k0_pay76 (F := Ideal) (k0_pay75 (k0_pay68 k) (k0_pay70 q) k0_pay71 k0_pay72 cr) cc ls = y
  intro hw
  pointwise [k0_pay69, k0_pay74]
  rw [masked_dot a (fun l => d (ix2 r l)) (fun l => h (ix2 c l)) (B.dO r) (B.v c) (H.hdO r) (H.hv c), hw, H.hde, H.hrs, add_zero]
  rfl

include H in
theorem dkB_eq (p : S128x512.Idx → Elt Ideal .f32) (l : Fin 128) (c : Fin 512) :
    dkB (F := Ideal) q k h cc cr ls dl rs d p (ix2 l c) = (p (ix2 l c) : EReal) + ((∑ r, B.ds 256 ⟨l.val / 64, by omega⟩ r c * B.q r l : ℝ) : EReal) := by
  have hd := fun a r => dsB_eq H a r c
  unfold dkB k0_pay79
  revert hd
  generalize k0_pay77 (F := Ideal) (k0_pay69 h) (k0_pay74 d) (k0_pay75 (k0_pay68 k) (k0_pay70 q) k0_pay71 k0_pay72 cr) cc ls dl rs = w
  intro hd
  pointwise [k0_pay73, k0_pay70, k0_pay71, k0_pay72]
  exact congrArg (fun z => p (ix2 l c) + z) (stack_dot l (fun r => q (ix2 r l)) (fun r => B.q r l) (fun r => H.hq r l) (fun a r => w (ix3 a r c)) (fun a r => B.ds 256 a r c) hd)

include H in
theorem dvB_eq (p : S128x512.Idx → Elt Ideal .f32) (l : Fin 128) (c : Fin 512) :
    dvB (F := Ideal) q k h cc cr ls dl rs d p (ix2 l c) = (p (ix2 l c) : EReal) + ((∑ r, B.w 256 ⟨l.val / 64, by omega⟩ r c * B.dO r l : ℝ) : EReal) := by
  have hd := fun a r => wB_eq H a r c
  unfold dvB k0_pay78
  revert hd
  generalize k0_pay76 (F := Ideal) (k0_pay75 (k0_pay68 k) (k0_pay70 q) k0_pay71 k0_pay72 cr) cc ls = w
  intro hd
  pointwise [k0_pay74]
  exact congrArg (fun z => p (ix2 l c) + z) (stack_dot l (fun r => d (ix2 r l)) (fun r => B.dO r l) (fun r => H.hdO r l) (fun a r => w (ix3 a r c)) (fun a r => B.w 256 a r c) hd)

include H in
theorem dcB_eq (p : S2x1x512.Idx → Elt Ideal .f32) (a : Fin 2) (c : Fin 512) :
    dcB (F := Ideal) q k h cc cr ls dl rs d p (ix3 a 0 c) = (p (ix3 a 0 c) : EReal) - ((∑ r, B.ds 256 a r c : ℝ) : EReal) := by
  have hd := fun r => dsB_eq H a r c
  unfold dcB dsB
  revert hd
  generalize k0_pay77 (F := Ideal) (k0_pay69 h) (k0_pay74 d) (k0_pay75 (k0_pay68 k) (k0_pay70 q) k0_pay71 k0_pay72 cr) cc ls dl rs = w
  intro hd
  pointwise [k0_pay80]
  exact congrArg (fun z => p (ix3 a 0 c) - z) (sum_coe _ hd)

end Cert.Kernel2Ideal.Dkv

end
-- ==== Proof.Dkv.Blocks.lean ====
module

public import proofs.«01_k».proof.Proof.Dkv.Host
public import proofs.«01_k».proof.Proof.Dkv.Block
public import proofs.«01_k».proof.Proof.Dq.Value
public import Idealize.ShloMosaic.Lib.Pipeline.ValueKit.Geometry

@[expose] public section

set_option maxRecDepth 16384

/-! Where the blocks of a point of the key-side kernel lie in their arrays. -/

noncomputable section

namespace Cert.Kernel2Ideal.Dkv
open Cert.Kernel2Ideal Cert.Kernel2Ideal.Gen Cert.Dq
open Idealize.ShloMosaic Idealize.ShloMosaic.TcCoe

/-- The number of points. -/
abbrev NA : ℕ := (cfgA (F := Ideal)).N
theorem lt_NA (t : Fin NA) : t.val < 576 := t.isLt

/-! ## The blocks' indices -/

theorem ofNat_c0 (t : Fin NA) : (BitVec.ofNat 32 ((crd t) 0).val).toNat = t.val / 72 := by
  have := lt_NA t
  rw [fact_c0 t, BitVec.toNat_ofNat, Nat.mod_eq_of_lt (by omega)]

theorem index0 (t : Fin NA) : ((cfgA (F := Ideal)).win (0 : Fin 12)).index t = ![qt (pos t.val), t.val / 72] := by
  show ![(wordQ (F := Ideal) tabQ (crd t)).toNat, (BitVec.ofNat 32 ((crd t) 0).val).toNat] = _
  rw [fact_wQ, ofNat_c0]
theorem index1 (t : Fin NA) : ((cfgA (F := Ideal)).win (1 : Fin 12)).index t = ![kt (pos t.val), t.val / 72] := by
  show ![(wordK (F := Ideal) tabK (crd t)).toNat, (BitVec.ofNat 32 ((crd t) 0).val).toNat] = _
  rw [fact_wK, ofNat_c0]
theorem index2 (t : Fin NA) : ((cfgA (F := Ideal)).win (2 : Fin 12)).index t = ![kt (pos t.val), 16 + t.val / 72] := by
  show ![(wordK (F := Ideal) tabK (crd t)).toNat, (Scalar.addi 16#32 (BitVec.ofNat 32 ((crd t) 0).val)).toNat] = _
  have := lt_NA t
  rw [fact_wK, fact_c0 t]
  have e : (Scalar.addi 16#32 (BitVec.ofNat 32 (t.val / 72))).toNat = 16 + t.val / 72 := by
    show (16#32 + BitVec.ofNat 32 (t.val / 72)).toNat = _
    rw [BitVec.toNat_add, BitVec.toNat_ofNat, BitVec.toNat_ofNat]
    omega
  rw [e]
theorem index3 (t : Fin NA) : ((cfgA (F := Ideal)).win (3 : Fin 12)).index t = ![t.val / 72, qt (pos t.val), 0] := by
  show ![(BitVec.ofNat 32 ((crd t) 0).val).toNat, (wordQ (F := Ideal) tabQ (crd t)).toNat, 0] = _
  rw [fact_wQ, ofNat_c0]
theorem index4 (t : Fin NA) : ((cfgA (F := Ideal)).win (4 : Fin 12)).index t = ![t.val / 72, 0, kt (pos t.val)] := by
  show ![(BitVec.ofNat 32 ((crd t) 0).val).toNat, 0, (wordK (F := Ideal) tabK (crd t)).toNat] = _
  rw [fact_wK, ofNat_c0]
theorem index5 (t : Fin NA) : ((cfgA (F := Ideal)).win (5 : Fin 12)).index t = ![t.val / 72, qt (pos t.val), 0] := by
  show ![(BitVec.ofNat 32 ((crd t) 0).val).toNat, (wordQ (F := Ideal) tabQ (crd t)).toNat, 0] = _
  rw [fact_wQ, ofNat_c0]
theorem index6 (t : Fin NA) : ((cfgA (F := Ideal)).win (6 : Fin 12)).index t = ![t.val / 72, qt (pos t.val), 0] := by
  show ![(BitVec.ofNat 32 ((crd t) 0).val).toNat, (wordQ (F := Ideal) tabQ (crd t)).toNat, 0] = _
  rw [fact_wQ, ofNat_c0]
theorem index7 (t : Fin NA) : ((cfgA (F := Ideal)).win (7 : Fin 12)).index t = ![t.val / 72, qt (pos t.val), 0] := by
  show ![(BitVec.ofNat 32 ((crd t) 0).val).toNat, (wordQ (F := Ideal) tabQ (crd t)).toNat, 0] = _
  rw [fact_wQ, ofNat_c0]
theorem index8 (t : Fin NA) : ((cfgA (F := Ideal)).win (8 : Fin 12)).index t = ![qt (pos t.val), t.val / 72] := by
  show ![(wordQ (F := Ideal) tabQ (crd t)).toNat, (BitVec.ofNat 32 ((crd t) 0).val).toNat] = _
  rw [fact_wQ, ofNat_c0]
theorem index9 (t : Fin NA) : ((cfgA (F := Ideal)).win (9 : Fin 12)).index t = ![kt (pos t.val), t.val / 72] := by
  show ![(wordK (F := Ideal) tabK (crd t)).toNat, (BitVec.ofNat 32 ((crd t) 0).val).toNat] = _
  rw [fact_wK, ofNat_c0]
theorem index10 (t : Fin NA) : ((cfgA (F := Ideal)).win (10 : Fin 12)).index t = ![kt (pos t.val), t.val / 72] := by
  show ![(wordK (F := Ideal) tabK (crd t)).toNat, (BitVec.ofNat 32 ((crd t) 0).val).toNat] = _
  rw [fact_wK, ofNat_c0]
theorem index11 (t : Fin NA) : ((cfgA (F := Ideal)).win (11 : Fin 12)).index t = ![t.val / 72, 0, kt (pos t.val)] := by
  show ![(BitVec.ofNat 32 ((crd t) 0).val).toNat, 0, (wordK (F := Ideal) tabK (crd t)).toNat] = _
  rw [fact_wK, ofNat_c0]

section Blocks
variable (m : (ℓ : Loc nD τ sig) → Buf (Elt Ideal) ℓ) (c : Dev nD)

theorem read0 (V : Valuation τ sig (Elt Ideal)) (X : FVec Ideal S8192x1024 .bf16) (hX : V (Proc.devRef .tc main_v48) = X) (t : Fin NA) (r : Fin 1024) (l : Fin 128) (i : S8192x1024.Idx) (h0 : (i 0).val = (qt (pos t.val)) * 1024 + r.val) (h1 : (i 1).val = (t.val / 72) * 128 + l.val) :
    (((cfgA (F := Ideal)).win (0 : Fin 12)).blk t).view.read (Elt Ideal) (V (Proc.devRef .tc (Pipeline.arrRef (cfgA (F := Ideal)).spec (0 : Fin 12)))) (ix2 r l : S1024x128.Idx) = X i := by
  subst hX
  show V (Proc.devRef .tc main_v48) ((((cfgA (F := Ideal)).win (0 : Fin 12)).rect t).emb (ix2 r l : S1024x128.Idx)) = _
  refine congrArg _ (funext fun b => Fin.ext ?_)
  refine (Pipeline.Window.rect_emb_val _ t (ix2 r l : S1024x128.Idx) b).trans ?_
  rw [index0]
  fin_cases b
  · exact h0.symm
  · exact h1.symm
theorem iblk0 (X : FVec Ideal S8192x1024 .bf16) (hX : V₀ m c (Proc.devRef .tc main_v48) = X) (t : Fin NA) (r : Fin 1024) (l : Fin 128) (i : S8192x1024.Idx) (h0 : (i 0).val = (qt (pos t.val)) * 1024 + r.val) (h1 : (i 1).val = (t.val / 72) * 128 + l.val) :
    (iblk m c (0 : Fin 12) t (ix2 r l : S1024x128.Idx) : Elt Ideal .bf16) = X i :=
  read0 (V₀ m c) X hX t r l i h0 h1

theorem read1 (V : Valuation τ sig (Elt Ideal)) (X : FVec Ideal S8192x1024 .bf16) (hX : V (Proc.devRef .tc main_v49) = X) (t : Fin NA) (r : Fin 512) (l : Fin 128) (i : S8192x1024.Idx) (h0 : (i 0).val = (kt (pos t.val)) * 512 + r.val) (h1 : (i 1).val = (t.val / 72) * 128 + l.val) :
    (((cfgA (F := Ideal)).win (1 : Fin 12)).blk t).view.read (Elt Ideal) (V (Proc.devRef .tc (Pipeline.arrRef (cfgA (F := Ideal)).spec (1 : Fin 12)))) (ix2 r l : S512x128.Idx) = X i := by
  subst hX
  show V (Proc.devRef .tc main_v49) ((((cfgA (F := Ideal)).win (1 : Fin 12)).rect t).emb (ix2 r l : S512x128.Idx)) = _
  refine congrArg _ (funext fun b => Fin.ext ?_)
  refine (Pipeline.Window.rect_emb_val _ t (ix2 r l : S512x128.Idx) b).trans ?_
  rw [index1]
  fin_cases b
  · exact h0.symm
  · exact h1.symm
theorem iblk1 (X : FVec Ideal S8192x1024 .bf16) (hX : V₀ m c (Proc.devRef .tc main_v49) = X) (t : Fin NA) (r : Fin 512) (l : Fin 128) (i : S8192x1024.Idx) (h0 : (i 0).val = (kt (pos t.val)) * 512 + r.val) (h1 : (i 1).val = (t.val / 72) * 128 + l.val) :
    (iblk m c (1 : Fin 12) t (ix2 r l : S512x128.Idx) : Elt Ideal .bf16) = X i :=
  read1 (V₀ m c) X hX t r l i h0 h1

theorem read2 (V : Valuation τ sig (Elt Ideal)) (X : FVec Ideal S8192x4224 .f32) (hX : V (Proc.devRef .tc main_arg2) = X) (t : Fin NA) (r : Fin 512) (l : Fin 128) (i : S8192x4224.Idx) (h0 : (i 0).val = (kt (pos t.val)) * 512 + r.val) (h1 : (i 1).val = (16 + t.val / 72) * 128 + l.val) :
    (((cfgA (F := Ideal)).win (2 : Fin 12)).blk t).view.read (Elt Ideal) (V (Proc.devRef .tc (Pipeline.arrRef (cfgA (F := Ideal)).spec (2 : Fin 12)))) (ix2 r l : S512x128.Idx) = X i := by
  subst hX
  show V (Proc.devRef .tc main_arg2) ((((cfgA (F := Ideal)).win (2 : Fin 12)).rect t).emb (ix2 r l : S512x128.Idx)) = _
  refine congrArg _ (funext fun b => Fin.ext ?_)
  refine (Pipeline.Window.rect_emb_val _ t (ix2 r l : S512x128.Idx) b).trans ?_
  rw [index2]
  fin_cases b
  · exact h0.symm
  · exact h1.symm
theorem iblk2 (X : FVec Ideal S8192x4224 .f32) (hX : V₀ m c (Proc.devRef .tc main_arg2) = X) (t : Fin NA) (r : Fin 512) (l : Fin 128) (i : S8192x4224.Idx) (h0 : (i 0).val = (kt (pos t.val)) * 512 + r.val) (h1 : (i 1).val = (16 + t.val / 72) * 128 + l.val) :
    (iblk m c (2 : Fin 12) t (ix2 r l : S512x128.Idx) : Elt Ideal .f32) = X i :=
  read2 (V₀ m c) X hX t r l i h0 h1

theorem read3 (V : Valuation τ sig (Elt Ideal)) (X : FVec Ideal S16x8192x1 .f32) (hX : V (Proc.devRef .tc main_v7) = X) (t : Fin NA) (a : Fin 2) (r : Fin 1024) (i : S16x8192x1.Idx) (h0 : (i 0).val = (t.val / 72) * 2 + a.val) (h1 : (i 1).val = (qt (pos t.val)) * 1024 + r.val) (h2 : (i 2).val = 0) :
    (((cfgA (F := Ideal)).win (3 : Fin 12)).blk t).view.read (Elt Ideal) (V (Proc.devRef .tc (Pipeline.arrRef (cfgA (F := Ideal)).spec (3 : Fin 12)))) (ix3 a r 0 : S2x1024x1.Idx) = X i := by
  subst hX
  show V (Proc.devRef .tc main_v7) ((((cfgA (F := Ideal)).win (3 : Fin 12)).rect t).emb (ix3 a r 0 : S2x1024x1.Idx)) = _
  refine congrArg _ (funext fun b => Fin.ext ?_)
  refine (Pipeline.Window.rect_emb_val _ t (ix3 a r 0 : S2x1024x1.Idx) b).trans ?_
  rw [index3]
  fin_cases b
  · exact h0.symm
  · exact h1.symm
  · exact h2.symm
theorem iblk3 (X : FVec Ideal S16x8192x1 .f32) (hX : V₀ m c (Proc.devRef .tc main_v7) = X) (t : Fin NA) (a : Fin 2) (r : Fin 1024) (i : S16x8192x1.Idx) (h0 : (i 0).val = (t.val / 72) * 2 + a.val) (h1 : (i 1).val = (qt (pos t.val)) * 1024 + r.val) (h2 : (i 2).val = 0) :
    (iblk m c (3 : Fin 12) t (ix3 a r 0 : S2x1024x1.Idx) : Elt Ideal .f32) = X i :=
  read3 (V₀ m c) X hX t a r i h0 h1 h2

theorem read4 (V : Valuation τ sig (Elt Ideal)) (X : FVec Ideal S16x1x8192 .f32) (hX : V (Proc.devRef .tc main_v8) = X) (t : Fin NA) (a : Fin 2) (r : Fin 512) (i : S16x1x8192.Idx) (h0 : (i 0).val = (t.val / 72) * 2 + a.val) (h1 : (i 1).val = 0) (h2 : (i 2).val = (kt (pos t.val)) * 512 + r.val) :
    (((cfgA (F := Ideal)).win (4 : Fin 12)).blk t).view.read (Elt Ideal) (V (Proc.devRef .tc (Pipeline.arrRef (cfgA (F := Ideal)).spec (4 : Fin 12)))) (ix3 a 0 r : S2x1x512.Idx) = X i := by
  subst hX
  show V (Proc.devRef .tc main_v8) ((((cfgA (F := Ideal)).win (4 : Fin 12)).rect t).emb (ix3 a 0 r : S2x1x512.Idx)) = _
  refine congrArg _ (funext fun b => Fin.ext ?_)
  refine (Pipeline.Window.rect_emb_val _ t (ix3 a 0 r : S2x1x512.Idx) b).trans ?_
  rw [index4]
  fin_cases b
  · exact h0.symm
  · exact h1.symm
  · exact h2.symm
theorem iblk4 (X : FVec Ideal S16x1x8192 .f32) (hX : V₀ m c (Proc.devRef .tc main_v8) = X) (t : Fin NA) (a : Fin 2) (r : Fin 512) (i : S16x1x8192.Idx) (h0 : (i 0).val = (t.val / 72) * 2 + a.val) (h1 : (i 1).val = 0) (h2 : (i 2).val = (kt (pos t.val)) * 512 + r.val) :
    (iblk m c (4 : Fin 12) t (ix3 a 0 r : S2x1x512.Idx) : Elt Ideal .f32) = X i :=
  read4 (V₀ m c) X hX t a r i h0 h1 h2

theorem read5 (V : Valuation τ sig (Elt Ideal)) (X : FVec Ideal S16x8192x1 .f32) (hX : V (Proc.devRef .tc main_v35) = X) (t : Fin NA) (a : Fin 2) (r : Fin 1024) (i : S16x8192x1.Idx) (h0 : (i 0).val = (t.val / 72) * 2 + a.val) (h1 : (i 1).val = (qt (pos t.val)) * 1024 + r.val) (h2 : (i 2).val = 0) :
    (((cfgA (F := Ideal)).win (5 : Fin 12)).blk t).view.read (Elt Ideal) (V (Proc.devRef .tc (Pipeline.arrRef (cfgA (F := Ideal)).spec (5 : Fin 12)))) (ix3 a r 0 : S2x1024x1.Idx) = X i := by
  subst hX
  show V (Proc.devRef .tc main_v35) ((((cfgA (F := Ideal)).win (5 : Fin 12)).rect t).emb (ix3 a r 0 : S2x1024x1.Idx)) = _
  refine congrArg _ (funext fun b => Fin.ext ?_)
  refine (Pipeline.Window.rect_emb_val _ t (ix3 a r 0 : S2x1024x1.Idx) b).trans ?_
  rw [index5]
  fin_cases b
  · exact h0.symm
  · exact h1.symm
  · exact h2.symm
theorem iblk5 (X : FVec Ideal S16x8192x1 .f32) (hX : V₀ m c (Proc.devRef .tc main_v35) = X) (t : Fin NA) (a : Fin 2) (r : Fin 1024) (i : S16x8192x1.Idx) (h0 : (i 0).val = (t.val / 72) * 2 + a.val) (h1 : (i 1).val = (qt (pos t.val)) * 1024 + r.val) (h2 : (i 2).val = 0) :
    (iblk m c (5 : Fin 12) t (ix3 a r 0 : S2x1024x1.Idx) : Elt Ideal .f32) = X i :=
  read5 (V₀ m c) X hX t a r i h0 h1 h2

theorem read6 (V : Valuation τ sig (Elt Ideal)) (X : FVec Ideal S16x8192x1 .f32) (hX : V (Proc.devRef .tc main_v40) = X) (t : Fin NA) (a : Fin 2) (r : Fin 1024) (i : S16x8192x1.Idx) (h0 : (i 0).val = (t.val / 72) * 2 + a.val) (h1 : (i 1).val = (qt (pos t.val)) * 1024 + r.val) (h2 : (i 2).val = 0) :
    (((cfgA (F := Ideal)).win (6 : Fin 12)).blk t).view.read (Elt Ideal) (V (Proc.devRef .tc (Pipeline.arrRef (cfgA (F := Ideal)).spec (6 : Fin 12)))) (ix3 a r 0 : S2x1024x1.Idx) = X i := by
  subst hX
  show V (Proc.devRef .tc main_v40) ((((cfgA (F := Ideal)).win (6 : Fin 12)).rect t).emb (ix3 a r 0 : S2x1024x1.Idx)) = _
  refine congrArg _ (funext fun b => Fin.ext ?_)
  refine (Pipeline.Window.rect_emb_val _ t (ix3 a r 0 : S2x1024x1.Idx) b).trans ?_
  rw [index6]
  fin_cases b
  · exact h0.symm
  · exact h1.symm
  · exact h2.symm
theorem iblk6 (X : FVec Ideal S16x8192x1 .f32) (hX : V₀ m c (Proc.devRef .tc main_v40) = X) (t : Fin NA) (a : Fin 2) (r : Fin 1024) (i : S16x8192x1.Idx) (h0 : (i 0).val = (t.val / 72) * 2 + a.val) (h1 : (i 1).val = (qt (pos t.val)) * 1024 + r.val) (h2 : (i 2).val = 0) :
    (iblk m c (6 : Fin 12) t (ix3 a r 0 : S2x1024x1.Idx) : Elt Ideal .f32) = X i :=
  read6 (V₀ m c) X hX t a r i h0 h1 h2

theorem read7 (V : Valuation τ sig (Elt Ideal)) (X : FVec Ideal S16x8192x1 .f32) (hX : V (Proc.devRef .tc main_v46) = X) (t : Fin NA) (a : Fin 2) (r : Fin 1024) (i : S16x8192x1.Idx) (h0 : (i 0).val = (t.val / 72) * 2 + a.val) (h1 : (i 1).val = (qt (pos t.val)) * 1024 + r.val) (h2 : (i 2).val = 0) :
    (((cfgA (F := Ideal)).win (7 : Fin 12)).blk t).view.read (Elt Ideal) (V (Proc.devRef .tc (Pipeline.arrRef (cfgA (F := Ideal)).spec (7 : Fin 12)))) (ix3 a r 0 : S2x1024x1.Idx) = X i := by
  subst hX
  show V (Proc.devRef .tc main_v46) ((((cfgA (F := Ideal)).win (7 : Fin 12)).rect t).emb (ix3 a r 0 : S2x1024x1.Idx)) = _
  refine congrArg _ (funext fun b => Fin.ext ?_)
  refine (Pipeline.Window.rect_emb_val _ t (ix3 a r 0 : S2x1024x1.Idx) b).trans ?_
  rw [index7]
  fin_cases b
  · exact h0.symm
  · exact h1.symm
  · exact h2.symm
theorem iblk7 (X : FVec Ideal S16x8192x1 .f32) (hX : V₀ m c (Proc.devRef .tc main_v46) = X) (t : Fin NA) (a : Fin 2) (r : Fin 1024) (i : S16x8192x1.Idx) (h0 : (i 0).val = (t.val / 72) * 2 + a.val) (h1 : (i 1).val = (qt (pos t.val)) * 1024 + r.val) (h2 : (i 2).val = 0) :
    (iblk m c (7 : Fin 12) t (ix3 a r 0 : S2x1024x1.Idx) : Elt Ideal .f32) = X i :=
  read7 (V₀ m c) X hX t a r i h0 h1 h2

theorem read8 (V : Valuation τ sig (Elt Ideal)) (X : FVec Ideal S8192x1024 .f32) (hX : V (Proc.devRef .tc main_arg4) = X) (t : Fin NA) (r : Fin 1024) (l : Fin 128) (i : S8192x1024.Idx) (h0 : (i 0).val = (qt (pos t.val)) * 1024 + r.val) (h1 : (i 1).val = (t.val / 72) * 128 + l.val) :
    (((cfgA (F := Ideal)).win (8 : Fin 12)).blk t).view.read (Elt Ideal) (V (Proc.devRef .tc (Pipeline.arrRef (cfgA (F := Ideal)).spec (8 : Fin 12)))) (ix2 r l : S1024x128.Idx) = X i := by
  subst hX
  show V (Proc.devRef .tc main_arg4) ((((cfgA (F := Ideal)).win (8 : Fin 12)).rect t).emb (ix2 r l : S1024x128.Idx)) = _
  refine congrArg _ (funext fun b => Fin.ext ?_)
  refine (Pipeline.Window.rect_emb_val _ t (ix2 r l : S1024x128.Idx) b).trans ?_
  rw [index8]
  fin_cases b
  · exact h0.symm
  · exact h1.symm
theorem iblk8 (X : FVec Ideal S8192x1024 .f32) (hX : V₀ m c (Proc.devRef .tc main_arg4) = X) (t : Fin NA) (r : Fin 1024) (l : Fin 128) (i : S8192x1024.Idx) (h0 : (i 0).val = (qt (pos t.val)) * 1024 + r.val) (h1 : (i 1).val = (t.val / 72) * 128 + l.val) :
    (iblk m c (8 : Fin 12) t (ix2 r l : S1024x128.Idx) : Elt Ideal .f32) = X i :=
  read8 (V₀ m c) X hX t r l i h0 h1

end Blocks

/-- Where an element of a point's block of the key gradient lies. -/
theorem emb9 (t : Fin NA) (y : S512x128.Idx) (i : S8192x1024.Idx) (h0 : (i 0).val = kt (pos t.val) * 512 + (y 0).val) (h1 : (i 1).val = t.val / 72 * 128 + (y 1).val) :
    (((cfgA (F := Ideal)).win (9 : Fin 12)).blk t).view.emb y = i := by
  show (((cfgA (F := Ideal)).win (9 : Fin 12)).rect t).emb y = _
  refine funext fun b => Fin.ext ?_
  refine (Pipeline.Window.rect_emb_val _ t y b).trans ?_
  rw [index9]
  fin_cases b
  · exact h0.symm
  · exact h1.symm

/-- Where an element of a point's block of the value gradient lies. -/
theorem emb10 (t : Fin NA) (y : S512x128.Idx) (i : S8192x1024.Idx) (h0 : (i 0).val = kt (pos t.val) * 512 + (y 0).val) (h1 : (i 1).val = t.val / 72 * 128 + (y 1).val) :
    (((cfgA (F := Ideal)).win (10 : Fin 12)).blk t).view.emb y = i := by
  show (((cfgA (F := Ideal)).win (10 : Fin 12)).rect t).emb y = _
  refine funext fun b => Fin.ext ?_
  refine (Pipeline.Window.rect_emb_val _ t y b).trans ?_
  rw [index10]
  fin_cases b
  · exact h0.symm
  · exact h1.symm

/-- Where an element of a point's block of the column sums lies. -/
theorem emb11 (t : Fin NA) (y : S2x1x512.Idx) (i : S16x1x8192.Idx) (h0 : (i 0).val = t.val / 72 * 2 + (y 0).val) (h1 : (i 1).val = (y 1).val) (h2 : (i 2).val = kt (pos t.val) * 512 + (y 2).val) :
    (((cfgA (F := Ideal)).win (11 : Fin 12)).blk t).view.emb y = i := by
  show (((cfgA (F := Ideal)).win (11 : Fin 12)).rect t).emb y = _
  refine funext fun b => Fin.ext ?_
  refine (Pipeline.Window.rect_emb_val _ t y b).trans ?_
  rw [index11]
  fin_cases b
  · exact h0.symm
  · exact (h1.trans (Nat.zero_add _).symm).symm
  · exact h2.symm

end Cert.Kernel2Ideal.Dkv
-- ==== Proof.Dkv.Point.lean ====
module

public import proofs.«01_k».proof.Proof.Dkv.Blocks

@[expose] public section

/-! The running sums over the query blocks, and the arrays the key-side launch leaves, over the reals. -/

set_option maxRecDepth 16384

noncomputable section

namespace Cert.Kernel2Ideal.Dkv
open Cert.Kernel2Ideal Cert.Kernel2Ideal.Gen Cert.Dq
open Cert.ReferenceIdeal.Dq (Holds col vcol)
open Cert.KernelIdeal.Dq (row hd hl dl hl_lane dl_lane ds_past col_lane hdot kQ_eq kK_eq kCcol_eq kCrow_eq kLse_eq kDelta_eq)
open Idealize.ShloMosaic Idealize.ShloMosaic.TcCoe

/-- Row `r` of a tile of 256 queries. -/
def rowq (n : Fin 32) (r : Fin 256) : Fin 8192 := ⟨n.val * 256 + r.val, by omega⟩
/-- Row `r` of a block of 1024 queries. -/
def rowQ (Q : Fin 8) (r : Fin 1024) : Fin 8192 := ⟨Q.val * 1024 + r.val, by omega⟩

/-- The tile of a pair of heads, of 256 queries and of a block of keys. -/
def tileOf (I : Inp) (p : Fin 8) (n : Fin 32) (K : Fin 16) : Tile where
  q r l := I.q (hd p (hl l)) (rowq n r) (dl l) * 0.125
  k r l := I.k (hd p (hl l)) (row K r) (dl l)
  v r l := I.v (hd p (hl l)) (row K r) (dl l)
  cc a r := I.c (hd p a) (rowq n r)
  cr a r := I.c (hd p a) (row K r)
  ls a r := I.lse (hd p a) (rowq n r)
  de a r := I.delta (hd p a) (rowq n r)
  dO r l := I.dO (hd p (hl l)) (rowq n r) (dl l)

/-- How far the tile's queries lie past its keys; anything from 512 on is as good as 512. -/
def Past (n : Fin 32) (K : Fin 16) (s : ℕ) : Prop := n.val * 256 = K.val * 512 + s ∨ 512 ≤ s ∧ K.val * 512 + 512 ≤ n.val * 256

section Tiles
variable (I : Inp) (p : Fin 8) {n : Fin 32} {K : Fin 16} {s : ℕ} (hs : Past n K s)
include hs

/-- The tile's weights are the rows'. -/
theorem tileOf_w (a : Fin 2) (r : Fin 256) (c : Fin 512) : (tileOf I p n K).w s a r c = I.w (hd p a) (rowq n r) (row K c) := by
  have hc := c.isLt
  have hiff : c.val ≤ s + r.val ↔ (row K c).val ≤ (rowq n r).val := by
    unfold Past at hs
    simp only [row, rowq]
    omega
  unfold Tile.w
  by_cases h : c.val ≤ s + r.val
  · rw [if_pos h]
    have e1 : hdot a ((tileOf I p n K).q r) ((tileOf I p n K).k c) = ∑ d, I.q (hd p a) (rowq n r) d * 0.125 * I.k (hd p a) (row K c) d := by
      unfold hdot
      exact Finset.sum_congr rfl fun d _ => by simp only [tileOf, hl_lane, dl_lane]
    exact I.exp_lse (hd p a) (rowq n r) (row K c) (hiff.1 h) _ e1
  · rw [if_neg h, I.w_past _ _ _ fun h' => h (hiff.2 h')]

/-- The tile's gradients of scores are the rows'. -/
theorem tileOf_ds (a : Fin 2) (r : Fin 256) (c : Fin 512) : (tileOf I p n K).ds s a r c = I.ds (hd p a) (rowq n r) (row K c) := by
  unfold Tile.ds
  have e2 : hdot a ((tileOf I p n K).dO r) ((tileOf I p n K).v c) = I.dP (hd p a) (rowq n r) (row K c) := by
    unfold hdot Inp.dP
    exact Finset.sum_congr rfl fun d _ => by simp only [tileOf, hl_lane, dl_lane]
  rw [tileOf_w I p hs, e2]
  rfl

end Tiles

/-! ## Sums over the queries, tile by tile -/

/-- A tile's part of a sum over the queries. -/
def tp (f : Fin 8192 → ℝ) (n : ℕ) : ℝ := if hn : n < 32 then ∑ r : Fin 256, f (rowq ⟨n, hn⟩ r) else 0
/-- A query block's part. -/
def quad (f : Fin 8192 → ℝ) (Q : ℕ) : ℝ := tp f (4 * Q) + tp f (4 * Q + 1) + tp f (4 * Q + 2) + tp f (4 * Q + 3)
/-- The first query blocks' part. -/
def acc (f : Fin 8192 → ℝ) (Q : ℕ) : ℝ := ∑ j ∈ Finset.range Q, quad f j

theorem acc_succ (f : Fin 8192 → ℝ) (Q : ℕ) : acc f (Q + 1) = acc f Q + quad f Q := Finset.sum_range_succ _ _

theorem sum_rowq (f : Fin 8192 → ℝ) : ∑ u, f u = ∑ n : Fin 32, ∑ r : Fin 256, f (rowq n r) := by
  rw [← Fintype.sum_prod_type' fun n r => f (rowq n r)]
  refine (Fintype.sum_equiv (finProdFinEquiv (m := 32) (n := 256)) _ _ fun x => ?_).symm
  exact congrArg f (Fin.ext (by simp [rowq, finProdFinEquiv]; omega))

/-- All eight query blocks give the whole sum. -/
theorem acc_all (f : Fin 8192 → ℝ) : acc f 8 = ∑ t, f t := by
  have e : ∑ t, f t = ∑ n ∈ Finset.range 32, tp f n := by
    rw [sum_rowq, Finset.sum_range]
    refine Finset.sum_congr rfl fun n _ => ?_
    unfold tp
    rw [dif_pos n.isLt]
  rw [e]
  simp only [acc, quad, Finset.sum_range_succ, Finset.sum_range_zero]
  ring

section Past
variable {f : Fin 8192 → ℝ} {u : ℕ} (hf : ∀ t : Fin 8192, t.val < u → f t = 0)
include hf

/-- Tiles before the key vanish. -/
theorem tp_zero (n : ℕ) (h : (n + 1) * 256 ≤ u) : tp f n = 0 := by
  unfold tp
  split
  · exact Finset.sum_eq_zero fun r _ => hf _ (by have := r.isLt; simp only [rowq]; omega)
  · rfl

theorem acc_zero (Q : ℕ) (h : Q * 1024 ≤ u) : acc f Q = 0 := by
  refine Finset.sum_eq_zero fun j hj => ?_
  have := Finset.mem_range.1 hj
  unfold quad
  rw [tp_zero hf _ (by omega), tp_zero hf _ (by omega), tp_zero hf _ (by omega), tp_zero hf _ (by omega)]
  norm_num

end Past

/-- The terms of the three sums over the queries. -/
def fdk (I : Inp) (h : Fin 16) (u : Fin 8192) (d : Fin 64) (t : Fin 8192) : ℝ := I.ds h t u * (I.q h t d * 0.125)
def fdv (I : Inp) (h : Fin 16) (u : Fin 8192) (d : Fin 64) (t : Fin 8192) : ℝ := I.w h t u * I.dO h t d
def fdc (I : Inp) (h : Fin 16) (u : Fin 8192) (t : Fin 8192) : ℝ := I.ds h t u

theorem fdk_past (I : Inp) (h : Fin 16) (u : Fin 8192) (d : Fin 64) (t : Fin 8192) (ht : t.val < u.val) : fdk I h u d t = 0 := by
  unfold fdk; rw [ds_past I h t u (by omega), zero_mul]
theorem fdv_past (I : Inp) (h : Fin 16) (u : Fin 8192) (d : Fin 64) (t : Fin 8192) (ht : t.val < u.val) : fdv I h u d t = 0 := by
  unfold fdv; rw [I.w_past h t u (by omega), zero_mul]
theorem fdc_past (I : Inp) (h : Fin 16) (u : Fin 8192) (t : Fin 8192) (ht : t.val < u.val) : fdc I h u t = 0 := by
  unfold fdc; rw [ds_past I h t u (by omega)]

section Parts
variable (I : Inp) (p : Fin 8) {n : Fin 32} {K : Fin 16} {s : ℕ} (hs : Past n K s)
include hs

theorem tile_dk (l : Fin 128) (c : Fin 512) : (∑ r, (tileOf I p n K).ds s ⟨l.val / 64, by omega⟩ r c * (tileOf I p n K).q r l) = tp (fdk I (hd p (hl l)) (row K c) (dl l)) n.val := by
  unfold tp
  rw [dif_pos n.isLt]
  exact Finset.sum_congr rfl fun r _ => by rw [tileOf_ds I p hs]; rfl
theorem tile_dv (l : Fin 128) (c : Fin 512) : (∑ r, (tileOf I p n K).w s ⟨l.val / 64, by omega⟩ r c * (tileOf I p n K).dO r l) = tp (fdv I (hd p (hl l)) (row K c) (dl l)) n.val := by
  unfold tp
  rw [dif_pos n.isLt]
  exact Finset.sum_congr rfl fun r _ => by rw [tileOf_w I p hs]; rfl
theorem tile_dc (a : Fin 2) (c : Fin 512) : (∑ r, (tileOf I p n K).ds s a r c) = tp (fdc I (hd p a) (row K c)) n.val := by
  unfold tp
  rw [dif_pos n.isLt]
  exact Finset.sum_congr rfl fun r _ => by rw [tileOf_ds I p hs]; rfl

end Parts

/-! ## What a point adds -/

/-- The blocks of a point hold the reals of a pair of heads, a query block and a key block. -/
structure PtHolds (I : Inp) (p : Fin 8) (Q : Fin 8) (K : Fin 16) (x0 : S1024x128.Idx → Elt Ideal .bf16) (x1 : S512x128.Idx → Elt Ideal .bf16) (x2 : S512x128.Idx → Elt Ideal .f32)
    (x3 : S2x1024x1.Idx → Elt Ideal .f32) (x4 : S2x1x512.Idx → Elt Ideal .f32) (x5 x6 x7 : S2x1024x1.Idx → Elt Ideal .f32) (x8 : S1024x128.Idx → Elt Ideal .f32) : Prop where
  h0 : ∀ r l, x0 (ix2 r l) = ((I.q (hd p (hl l)) (rowQ Q r) (dl l) * 0.125 : ℝ) : EReal)
  h1 : ∀ r l, x1 (ix2 r l) = (I.k (hd p (hl l)) (row K r) (dl l) : EReal)
  h2 : ∀ r l, x2 (ix2 r l) = (I.v (hd p (hl l)) (row K r) (dl l) : EReal)
  h3 : ∀ a r, x3 (ix3 a r 0) = (I.c (hd p a) (rowQ Q r) : EReal)
  h4 : ∀ a r, x4 (ix3 a 0 r) = (I.c (hd p a) (row K r) : EReal)
  h5 : ∀ a r, x5 (ix3 a r 0) = (I.lse (hd p a) (rowQ Q r) : EReal)
  h6 : ∀ a r, x6 (ix3 a r 0) = (I.delta (hd p a) (rowQ Q r) : EReal)
  h7 : ∀ a r, x7 (ix3 a r 0) = (0 : EReal)
  h8 : ∀ r l, x8 (ix2 r l) = (I.dO (hd p (hl l)) (rowQ Q r) (dl l) : EReal)

/-- The tiles of a query block. -/
def sub (Q : Fin 8) (j : Fin 4) : Fin 32 := ⟨4 * Q.val + j.val, by omega⟩

section Point
variable {I : Inp} {p : Fin 8} {Q : Fin 8} {K : Fin 16} {x0 : S1024x128.Idx → Elt Ideal .bf16} {x1 : S512x128.Idx → Elt Ideal .bf16} {x2 : S512x128.Idx → Elt Ideal .f32}
    {x3 : S2x1024x1.Idx → Elt Ideal .f32} {x4 : S2x1x512.Idx → Elt Ideal .f32} {x5 x6 x7 : S2x1024x1.Idx → Elt Ideal .f32} {x8 : S1024x128.Idx → Elt Ideal .f32}
variable (H : PtHolds I p Q K x0 x1 x2 x3 x4 x5 x6 x7 x8)

theorem rw0_eq {e : EltTy} (x : S1024x128.Idx → Elt Ideal e) (r : Fin 256) (l : Fin 128) : rw0 x (ix2 r l) = x (ix2 ⟨0 + r.val, by omega⟩ l) := by
  refine congrArg x (funext fun b => ?_)
  fin_cases b
  · exact Fin.ext (by show 0 + 1 * r.val = 0 + r.val; omega)
  · exact Fin.ext (by show 0 + 1 * l.val = l.val; omega)
theorem cl0_eq {e : EltTy} (x : S2x1024x1.Idx → Elt Ideal e) (a : Fin 2) (r : Fin 256) : cl0 x (ix3 a r 0) = x (ix3 a ⟨0 + r.val, by omega⟩ 0) := by
  refine congrArg x (funext fun b => ?_)
  fin_cases b
  · exact Fin.ext (by show 0 + 1 * a.val = a.val; omega)
  · exact Fin.ext (by show 0 + 1 * r.val = 0 + r.val; omega)
  · rfl
theorem rowQ0 (Q : Fin 8) (r : Fin 256) : rowQ Q ⟨0 + r.val, by omega⟩ = rowq (sub Q 0) r :=
  Fin.ext (by show Q.val * 1024 + (0 + r.val) = (4 * Q.val + 0) * 256 + r.val; omega)
include H in
theorem tile0 : (tileOf I p (sub Q 0) K).Holds (rw0 x0) x1 x2 (cl0 x3) x4 (cl0 x5) (cl0 x6) (cl0 x7) (rw0 x8) where
  hq r l := by rw [rw0_eq, H.h0, rowQ0]; rfl
  hk r l := H.h1 r l
  hv r l := H.h2 r l
  hcc a r := by rw [cl0_eq, H.h3, rowQ0]; rfl
  hcr a r := H.h4 a r
  hls a r := by rw [cl0_eq, H.h5, rowQ0]; rfl
  hde a r := by rw [cl0_eq, H.h6, rowQ0]; rfl
  hrs a r := by rw [cl0_eq, H.h7]
  hdO r l := by rw [rw0_eq, H.h8, rowQ0]; rfl

theorem rw256_eq {e : EltTy} (x : S1024x128.Idx → Elt Ideal e) (r : Fin 256) (l : Fin 128) : rw256 x (ix2 r l) = x (ix2 ⟨256 + r.val, by omega⟩ l) := by
  refine congrArg x (funext fun b => ?_)
  fin_cases b
  · exact Fin.ext (by show 256 + 1 * r.val = 256 + r.val; omega)
  · exact Fin.ext (by show 0 + 1 * l.val = l.val; omega)
theorem cl256_eq {e : EltTy} (x : S2x1024x1.Idx → Elt Ideal e) (a : Fin 2) (r : Fin 256) : cl256 x (ix3 a r 0) = x (ix3 a ⟨256 + r.val, by omega⟩ 0) := by
  refine congrArg x (funext fun b => ?_)
  fin_cases b
  · exact Fin.ext (by show 0 + 1 * a.val = a.val; omega)
  · exact Fin.ext (by show 256 + 1 * r.val = 256 + r.val; omega)
  · rfl
theorem rowQ256 (Q : Fin 8) (r : Fin 256) : rowQ Q ⟨256 + r.val, by omega⟩ = rowq (sub Q 1) r :=
  Fin.ext (by show Q.val * 1024 + (256 + r.val) = (4 * Q.val + 1) * 256 + r.val; omega)
include H in
theorem tile256 : (tileOf I p (sub Q 1) K).Holds (rw256 x0) x1 x2 (cl256 x3) x4 (cl256 x5) (cl256 x6) (cl256 x7) (rw256 x8) where
  hq r l := by rw [rw256_eq, H.h0, rowQ256]; rfl
  hk r l := H.h1 r l
  hv r l := H.h2 r l
  hcc a r := by rw [cl256_eq, H.h3, rowQ256]; rfl
  hcr a r := H.h4 a r
  hls a r := by rw [cl256_eq, H.h5, rowQ256]; rfl
  hde a r := by rw [cl256_eq, H.h6, rowQ256]; rfl
  hrs a r := by rw [cl256_eq, H.h7]
  hdO r l := by rw [rw256_eq, H.h8, rowQ256]; rfl

theorem rw512_eq {e : EltTy} (x : S1024x128.Idx → Elt Ideal e) (r : Fin 256) (l : Fin 128) : rw512 x (ix2 r l) = x (ix2 ⟨512 + r.val, by omega⟩ l) := by
  refine congrArg x (funext fun b => ?_)
  fin_cases b
  · exact Fin.ext (by show 512 + 1 * r.val = 512 + r.val; omega)
  · exact Fin.ext (by show 0 + 1 * l.val = l.val; omega)
theorem cl512_eq {e : EltTy} (x : S2x1024x1.Idx → Elt Ideal e) (a : Fin 2) (r : Fin 256) : cl512 x (ix3 a r 0) = x (ix3 a ⟨512 + r.val, by omega⟩ 0) := by
  refine congrArg x (funext fun b => ?_)
  fin_cases b
  · exact Fin.ext (by show 0 + 1 * a.val = a.val; omega)
  · exact Fin.ext (by show 512 + 1 * r.val = 512 + r.val; omega)
  · rfl
theorem rowQ512 (Q : Fin 8) (r : Fin 256) : rowQ Q ⟨512 + r.val, by omega⟩ = rowq (sub Q 2) r :=
  Fin.ext (by show Q.val * 1024 + (512 + r.val) = (4 * Q.val + 2) * 256 + r.val; omega)
include H in
theorem tile512 : (tileOf I p (sub Q 2) K).Holds (rw512 x0) x1 x2 (cl512 x3) x4 (cl512 x5) (cl512 x6) (cl512 x7) (rw512 x8) where
  hq r l := by rw [rw512_eq, H.h0, rowQ512]; rfl
  hk r l := H.h1 r l
  hv r l := H.h2 r l
  hcc a r := by rw [cl512_eq, H.h3, rowQ512]; rfl
  hcr a r := H.h4 a r
  hls a r := by rw [cl512_eq, H.h5, rowQ512]; rfl
  hde a r := by rw [cl512_eq, H.h6, rowQ512]; rfl
  hrs a r := by rw [cl512_eq, H.h7]
  hdO r l := by rw [rw512_eq, H.h8, rowQ512]; rfl

theorem rw768_eq {e : EltTy} (x : S1024x128.Idx → Elt Ideal e) (r : Fin 256) (l : Fin 128) : rw768 x (ix2 r l) = x (ix2 ⟨768 + r.val, by omega⟩ l) := by
  refine congrArg x (funext fun b => ?_)
  fin_cases b
  · exact Fin.ext (by show 768 + 1 * r.val = 768 + r.val; omega)
  · exact Fin.ext (by show 0 + 1 * l.val = l.val; omega)
theorem cl768_eq {e : EltTy} (x : S2x1024x1.Idx → Elt Ideal e) (a : Fin 2) (r : Fin 256) : cl768 x (ix3 a r 0) = x (ix3 a ⟨768 + r.val, by omega⟩ 0) := by
  refine congrArg x (funext fun b => ?_)
  fin_cases b
  · exact Fin.ext (by show 0 + 1 * a.val = a.val; omega)
  · exact Fin.ext (by show 768 + 1 * r.val = 768 + r.val; omega)
  · rfl
theorem rowQ768 (Q : Fin 8) (r : Fin 256) : rowQ Q ⟨768 + r.val, by omega⟩ = rowq (sub Q 3) r :=
  Fin.ext (by show Q.val * 1024 + (768 + r.val) = (4 * Q.val + 3) * 256 + r.val; omega)
include H in
theorem tile768 : (tileOf I p (sub Q 3) K).Holds (rw768 x0) x1 x2 (cl768 x3) x4 (cl768 x5) (cl768 x6) (cl768 x7) (rw768 x8) where
  hq r l := by rw [rw768_eq, H.h0, rowQ768]; rfl
  hk r l := H.h1 r l
  hv r l := H.h2 r l
  hcc a r := by rw [cl768_eq, H.h3, rowQ768]; rfl
  hcr a r := H.h4 a r
  hls a r := by rw [cl768_eq, H.h5, rowQ768]; rfl
  hde a r := by rw [cl768_eq, H.h6, rowQ768]; rfl
  hrs a r := by rw [cl768_eq, H.h7]
  hdO r l := by rw [rw768_eq, H.h8, rowQ768]; rfl

include H in
theorem dkOff_eq (hK : K.val < 2 * Q.val) (y : S128x512.Idx → Elt Ideal .f32) (l : Fin 128) (c : Fin 512) (x : ℝ) (hx : y (ix2 l c) = (x : EReal)) :
    dkOff (F := Ideal) x0 x1 x2 x3 x4 x5 x6 x7 x8 y (ix2 l c) = ((x + quad (fdk I (hd p (hl l)) (row K c) (dl l)) Q.val : ℝ) : EReal) := by
  have p0 : Past (sub Q 0) K 512 := by
    show (4 * Q.val + 0) * 256 = K.val * 512 + 512 ∨ 512 ≤ 512 ∧ K.val * 512 + 512 ≤ (4 * Q.val + 0) * 256
    omega
  have p1 : Past (sub Q 1) K 512 := by
    show (4 * Q.val + 1) * 256 = K.val * 512 + 512 ∨ 512 ≤ 512 ∧ K.val * 512 + 512 ≤ (4 * Q.val + 1) * 256
    omega
  have p2 : Past (sub Q 2) K 512 := by
    show (4 * Q.val + 2) * 256 = K.val * 512 + 512 ∨ 512 ≤ 512 ∧ K.val * 512 + 512 ≤ (4 * Q.val + 2) * 256
    omega
  have p3 : Past (sub Q 3) K 512 := by
    show (4 * Q.val + 3) * 256 = K.val * 512 + 512 ∨ 512 ≤ 512 ∧ K.val * 512 + 512 ≤ (4 * Q.val + 3) * 256
    omega
  unfold dkOff
  rw [dkO_eq (tile768 H), dkO_eq (tile512 H), dkO_eq (tile256 H), dkO_eq (tile0 H), hx, tile_dk I p p0, tile_dk I p p1, tile_dk I p p2, tile_dk I p p3]
  rw [← EReal.coe_add, ← EReal.coe_add, ← EReal.coe_add, ← EReal.coe_add]
  congr 1
  unfold quad
  show x + tp _ (4 * Q.val) + tp _ (4 * Q.val + 1) + tp _ (4 * Q.val + 2) + tp _ (4 * Q.val + 3) = _
  ring

include H in
theorem dkEven_eq (hK : K.val = 2 * Q.val) (y : S128x512.Idx → Elt Ideal .f32) (l : Fin 128) (c : Fin 512) (x : ℝ) (hx : y (ix2 l c) = (x : EReal)) :
    dkEven (F := Ideal) x0 x1 x2 x3 x4 x5 x6 x7 x8 y (ix2 l c) = ((x + quad (fdk I (hd p (hl l)) (row K c) (dl l)) Q.val : ℝ) : EReal) := by
  have p0 : Past (sub Q 0) K 0 := by
    show (4 * Q.val + 0) * 256 = K.val * 512 + 0 ∨ 512 ≤ 0 ∧ K.val * 512 + 512 ≤ (4 * Q.val + 0) * 256
    omega
  have p1 : Past (sub Q 1) K 256 := by
    show (4 * Q.val + 1) * 256 = K.val * 512 + 256 ∨ 512 ≤ 256 ∧ K.val * 512 + 512 ≤ (4 * Q.val + 1) * 256
    omega
  have p2 : Past (sub Q 2) K 512 := by
    show (4 * Q.val + 2) * 256 = K.val * 512 + 512 ∨ 512 ≤ 512 ∧ K.val * 512 + 512 ≤ (4 * Q.val + 2) * 256
    omega
  have p3 : Past (sub Q 3) K 512 := by
    show (4 * Q.val + 3) * 256 = K.val * 512 + 512 ∨ 512 ≤ 512 ∧ K.val * 512 + 512 ≤ (4 * Q.val + 3) * 256
    omega
  unfold dkEven
  rw [dkO_eq (tile768 H), dkO_eq (tile512 H), dkB_eq (tile256 H), dkA_eq (tile0 H), hx, tile_dk I p p0, tile_dk I p p1, tile_dk I p p2, tile_dk I p p3]
  rw [← EReal.coe_add, ← EReal.coe_add, ← EReal.coe_add, ← EReal.coe_add]
  congr 1
  unfold quad
  show x + tp _ (4 * Q.val) + tp _ (4 * Q.val + 1) + tp _ (4 * Q.val + 2) + tp _ (4 * Q.val + 3) = _
  ring

include H in
theorem dkOdd_eq (hK : K.val = 2 * Q.val + 1) (y : S128x512.Idx → Elt Ideal .f32) (l : Fin 128) (c : Fin 512) (x : ℝ) (hx : y (ix2 l c) = (x : EReal)) :
    dkOdd (F := Ideal) x0 x1 x2 x3 x4 x5 x6 x7 x8 y (ix2 l c) = ((x + quad (fdk I (hd p (hl l)) (row K c) (dl l)) Q.val : ℝ) : EReal) := by
  have p2 : Past (sub Q 2) K 0 := by
    show (4 * Q.val + 2) * 256 = K.val * 512 + 0 ∨ 512 ≤ 0 ∧ K.val * 512 + 512 ≤ (4 * Q.val + 2) * 256
    omega
  have p3 : Past (sub Q 3) K 256 := by
    show (4 * Q.val + 3) * 256 = K.val * 512 + 256 ∨ 512 ≤ 256 ∧ K.val * 512 + 512 ≤ (4 * Q.val + 3) * 256
    omega
  unfold dkOdd
  rw [dkB_eq (tile768 H), dkA_eq (tile512 H), hx, tile_dk I p p2, tile_dk I p p3]
  have z0 : tp (fdk I (hd p (hl l)) (row K c) (dl l)) (4 * Q.val) = 0 := tp_zero (fdk_past I _ _ _) _ (by simp only [row]; omega)
  have z1 : tp (fdk I (hd p (hl l)) (row K c) (dl l)) (4 * Q.val + 1) = 0 := tp_zero (fdk_past I _ _ _) _ (by simp only [row]; omega)
  rw [← EReal.coe_add, ← EReal.coe_add]
  congr 1
  unfold quad
  rw [z0, z1]
  show x + tp _ (4 * Q.val + 2) + tp _ (4 * Q.val + 3) = _
  ring

include H in
theorem dvOff_eq (hK : K.val < 2 * Q.val) (y : S128x512.Idx → Elt Ideal .f32) (l : Fin 128) (c : Fin 512) (x : ℝ) (hx : y (ix2 l c) = (x : EReal)) :
    dvOff (F := Ideal) x0 x1 x2 x3 x4 x5 x6 x7 x8 y (ix2 l c) = ((x + quad (fdv I (hd p (hl l)) (row K c) (dl l)) Q.val : ℝ) : EReal) := by
  have p0 : Past (sub Q 0) K 512 := by
    show (4 * Q.val + 0) * 256 = K.val * 512 + 512 ∨ 512 ≤ 512 ∧ K.val * 512 + 512 ≤ (4 * Q.val + 0) * 256
    omega
  have p1 : Past (sub Q 1) K 512 := by
    show (4 * Q.val + 1) * 256 = K.val * 512 + 512 ∨ 512 ≤ 512 ∧ K.val * 512 + 512 ≤ (4 * Q.val + 1) * 256
    omega
  have p2 : Past (sub Q 2) K 512 := by
    show (4 * Q.val + 2) * 256 = K.val * 512 + 512 ∨ 512 ≤ 512 ∧ K.val * 512 + 512 ≤ (4 * Q.val + 2) * 256
    omega
  have p3 : Past (sub Q 3) K 512 := by
    show (4 * Q.val + 3) * 256 = K.val * 512 + 512 ∨ 512 ≤ 512 ∧ K.val * 512 + 512 ≤ (4 * Q.val + 3) * 256
    omega
  unfold dvOff
  rw [dvO_eq (tile768 H), dvO_eq (tile512 H), dvO_eq (tile256 H), dvO_eq (tile0 H), hx, tile_dv I p p0, tile_dv I p p1, tile_dv I p p2, tile_dv I p p3]
  rw [← EReal.coe_add, ← EReal.coe_add, ← EReal.coe_add, ← EReal.coe_add]
  congr 1
  unfold quad
  show x + tp _ (4 * Q.val) + tp _ (4 * Q.val + 1) + tp _ (4 * Q.val + 2) + tp _ (4 * Q.val + 3) = _
  ring

include H in
theorem dvEven_eq (hK : K.val = 2 * Q.val) (y : S128x512.Idx → Elt Ideal .f32) (l : Fin 128) (c : Fin 512) (x : ℝ) (hx : y (ix2 l c) = (x : EReal)) :
    dvEven (F := Ideal) x0 x1 x2 x3 x4 x5 x6 x7 x8 y (ix2 l c) = ((x + quad (fdv I (hd p (hl l)) (row K c) (dl l)) Q.val : ℝ) : EReal) := by
  have p0 : Past (sub Q 0) K 0 := by
    show (4 * Q.val + 0) * 256 = K.val * 512 + 0 ∨ 512 ≤ 0 ∧ K.val * 512 + 512 ≤ (4 * Q.val + 0) * 256
    omega
  have p1 : Past (sub Q 1) K 256 := by
    show (4 * Q.val + 1) * 256 = K.val * 512 + 256 ∨ 512 ≤ 256 ∧ K.val * 512 + 512 ≤ (4 * Q.val + 1) * 256
    omega
  have p2 : Past (sub Q 2) K 512 := by
    show (4 * Q.val + 2) * 256 = K.val * 512 + 512 ∨ 512 ≤ 512 ∧ K.val * 512 + 512 ≤ (4 * Q.val + 2) * 256
    omega
  have p3 : Past (sub Q 3) K 512 := by
    show (4 * Q.val + 3) * 256 = K.val * 512 + 512 ∨ 512 ≤ 512 ∧ K.val * 512 + 512 ≤ (4 * Q.val + 3) * 256
    omega
  unfold dvEven
  rw [dvO_eq (tile768 H), dvO_eq (tile512 H), dvB_eq (tile256 H), dvA_eq (tile0 H), hx, tile_dv I p p0, tile_dv I p p1, tile_dv I p p2, tile_dv I p p3]
  rw [← EReal.coe_add, ← EReal.coe_add, ← EReal.coe_add, ← EReal.coe_add]
  congr 1
  unfold quad
  show x + tp _ (4 * Q.val) + tp _ (4 * Q.val + 1) + tp _ (4 * Q.val + 2) + tp _ (4 * Q.val + 3) = _
  ring

include H in
theorem dvOdd_eq (hK : K.val = 2 * Q.val + 1) (y : S128x512.Idx → Elt Ideal .f32) (l : Fin 128) (c : Fin 512) (x : ℝ) (hx : y (ix2 l c) = (x : EReal)) :
    dvOdd (F := Ideal) x0 x1 x2 x3 x4 x5 x6 x7 x8 y (ix2 l c) = ((x + quad (fdv I (hd p (hl l)) (row K c) (dl l)) Q.val : ℝ) : EReal) := by
  have p2 : Past (sub Q 2) K 0 := by
    show (4 * Q.val + 2) * 256 = K.val * 512 + 0 ∨ 512 ≤ 0 ∧ K.val * 512 + 512 ≤ (4 * Q.val + 2) * 256
    omega
  have p3 : Past (sub Q 3) K 256 := by
    show (4 * Q.val + 3) * 256 = K.val * 512 + 256 ∨ 512 ≤ 256 ∧ K.val * 512 + 512 ≤ (4 * Q.val + 3) * 256
    omega
  unfold dvOdd
  rw [dvB_eq (tile768 H), dvA_eq (tile512 H), hx, tile_dv I p p2, tile_dv I p p3]
  have z0 : tp (fdv I (hd p (hl l)) (row K c) (dl l)) (4 * Q.val) = 0 := tp_zero (fdv_past I _ _ _) _ (by simp only [row]; omega)
  have z1 : tp (fdv I (hd p (hl l)) (row K c) (dl l)) (4 * Q.val + 1) = 0 := tp_zero (fdv_past I _ _ _) _ (by simp only [row]; omega)
  rw [← EReal.coe_add, ← EReal.coe_add]
  congr 1
  unfold quad
  rw [z0, z1]
  show x + tp _ (4 * Q.val + 2) + tp _ (4 * Q.val + 3) = _
  ring

include H in
theorem dcOff_eq (hK : K.val < 2 * Q.val) (y : S2x1x512.Idx → Elt Ideal .f32) (a : Fin 2) (c : Fin 512) (x : ℝ) (hx : y (ix3 a 0 c) = (x : EReal)) :
    dcOff (F := Ideal) x0 x1 x2 x3 x4 x5 x6 x7 x8 y (ix3 a 0 c) = ((x - quad (fdc I (hd p a) (row K c)) Q.val : ℝ) : EReal) := by
  have p0 : Past (sub Q 0) K 512 := by
    show (4 * Q.val + 0) * 256 = K.val * 512 + 512 ∨ 512 ≤ 512 ∧ K.val * 512 + 512 ≤ (4 * Q.val + 0) * 256
    omega
  have p1 : Past (sub Q 1) K 512 := by
    show (4 * Q.val + 1) * 256 = K.val * 512 + 512 ∨ 512 ≤ 512 ∧ K.val * 512 + 512 ≤ (4 * Q.val + 1) * 256
    omega
  have p2 : Past (sub Q 2) K 512 := by
    show (4 * Q.val + 2) * 256 = K.val * 512 + 512 ∨ 512 ≤ 512 ∧ K.val * 512 + 512 ≤ (4 * Q.val + 2) * 256
    omega
  have p3 : Past (sub Q 3) K 512 := by
    show (4 * Q.val + 3) * 256 = K.val * 512 + 512 ∨ 512 ≤ 512 ∧ K.val * 512 + 512 ≤ (4 * Q.val + 3) * 256
    omega
  unfold dcOff
  rw [dcO_eq (tile768 H), dcO_eq (tile512 H), dcO_eq (tile256 H), dcO_eq (tile0 H), hx, tile_dc I p p0, tile_dc I p p1, tile_dc I p p2, tile_dc I p p3]
  rw [← EReal.coe_sub, ← EReal.coe_sub, ← EReal.coe_sub, ← EReal.coe_sub]
  congr 1
  unfold quad
  show x - tp _ (4 * Q.val) - tp _ (4 * Q.val + 1) - tp _ (4 * Q.val + 2) - tp _ (4 * Q.val + 3) = _
  ring

include H in
theorem dcEven_eq (hK : K.val = 2 * Q.val) (y : S2x1x512.Idx → Elt Ideal .f32) (a : Fin 2) (c : Fin 512) (x : ℝ) (hx : y (ix3 a 0 c) = (x : EReal)) :
    dcEven (F := Ideal) x0 x1 x2 x3 x4 x5 x6 x7 x8 y (ix3 a 0 c) = ((x - quad (fdc I (hd p a) (row K c)) Q.val : ℝ) : EReal) := by
  have p0 : Past (sub Q 0) K 0 := by
    show (4 * Q.val + 0) * 256 = K.val * 512 + 0 ∨ 512 ≤ 0 ∧ K.val * 512 + 512 ≤ (4 * Q.val + 0) * 256
    omega
  have p1 : Past (sub Q 1) K 256 := by
    show (4 * Q.val + 1) * 256 = K.val * 512 + 256 ∨ 512 ≤ 256 ∧ K.val * 512 + 512 ≤ (4 * Q.val + 1) * 256
    omega
  have p2 : Past (sub Q 2) K 512 := by
    show (4 * Q.val + 2) * 256 = K.val * 512 + 512 ∨ 512 ≤ 512 ∧ K.val * 512 + 512 ≤ (4 * Q.val + 2) * 256
    omega
  have p3 : Past (sub Q 3) K 512 := by
    show (4 * Q.val + 3) * 256 = K.val * 512 + 512 ∨ 512 ≤ 512 ∧ K.val * 512 + 512 ≤ (4 * Q.val + 3) * 256
    omega
  unfold dcEven
  rw [dcO_eq (tile768 H), dcO_eq (tile512 H), dcB_eq (tile256 H), dcA_eq (tile0 H), hx, tile_dc I p p0, tile_dc I p p1, tile_dc I p p2, tile_dc I p p3]
  rw [← EReal.coe_sub, ← EReal.coe_sub, ← EReal.coe_sub, ← EReal.coe_sub]
  congr 1
  unfold quad
  show x - tp _ (4 * Q.val) - tp _ (4 * Q.val + 1) - tp _ (4 * Q.val + 2) - tp _ (4 * Q.val + 3) = _
  ring

include H in
theorem dcOdd_eq (hK : K.val = 2 * Q.val + 1) (y : S2x1x512.Idx → Elt Ideal .f32) (a : Fin 2) (c : Fin 512) (x : ℝ) (hx : y (ix3 a 0 c) = (x : EReal)) :
    dcOdd (F := Ideal) x0 x1 x2 x3 x4 x5 x6 x7 x8 y (ix3 a 0 c) = ((x - quad (fdc I (hd p a) (row K c)) Q.val : ℝ) : EReal) := by
  have p2 : Past (sub Q 2) K 0 := by
    show (4 * Q.val + 2) * 256 = K.val * 512 + 0 ∨ 512 ≤ 0 ∧ K.val * 512 + 512 ≤ (4 * Q.val + 2) * 256
    omega
  have p3 : Past (sub Q 3) K 256 := by
    show (4 * Q.val + 3) * 256 = K.val * 512 + 256 ∨ 512 ≤ 256 ∧ K.val * 512 + 512 ≤ (4 * Q.val + 3) * 256
    omega
  unfold dcOdd
  rw [dcB_eq (tile768 H), dcA_eq (tile512 H), hx, tile_dc I p p2, tile_dc I p p3]
  have z0 : tp (fdc I (hd p a) (row K c)) (4 * Q.val) = 0 := tp_zero (fdc_past I _ _) _ (by simp only [row]; omega)
  have z1 : tp (fdc I (hd p a) (row K c)) (4 * Q.val + 1) = 0 := tp_zero (fdc_past I _ _) _ (by simp only [row]; omega)
  rw [← EReal.coe_sub, ← EReal.coe_sub]
  congr 1
  unfold quad
  rw [z0, z1]
  show x - tp _ (4 * Q.val + 2) - tp _ (4 * Q.val + 3) = _
  ring

end Point

end Cert.Kernel2Ideal.Dkv
-- ==== Proof.Dkv.Value.lean ====
module

public import proofs.«01_k».proof.Proof.Dkv.Point

@[expose] public section

/-! The arrays the key-side launch leaves, over the reals. -/

set_option maxRecDepth 16384

noncomputable section

namespace Cert.Kernel2Ideal.Dkv
open Cert.Kernel2Ideal Cert.Kernel2Ideal.Gen Cert.Dq
open Cert.ReferenceIdeal.Dq (Holds col vcol)
open Cert.KernelIdeal.Dq (row hd hl dl hl_lane dl_lane ds_past col_lane hdot kQ_eq kK_eq kCcol_eq kCrow_eq kLse_eq kDelta_eq)
open Idealize.ShloMosaic Idealize.ShloMosaic.TcCoe

/-- A point's pair of heads, query block and key block. -/
def ptP (t : Fin NA) : Fin 8 := ⟨t.val / 72, by have := lt_NA t; omega⟩
def ptQ (t : Fin NA) : Fin 8 := ⟨qt (pos t.val), (schedFacts (pos t.val)).2.1⟩
def ptK (t : Fin NA) : Fin 16 := ⟨kt (pos t.val), (schedFacts (pos t.val)).2.2.1⟩

/-- The previous position of a column of blocks. -/
theorem prevFacts : ∀ n : Fin 72, ¬qt n = kt n / 2 → n.val ≠ 0 ∧ kt (pos (n.val - 1)) = kt n ∧ qt (pos (n.val - 1)) + 1 = qt n := by decide +kernel
/-- Every key block has its point with the last query block. -/
theorem lastFacts : ∀ K : Fin 16, ∃ n : Fin 72, kt n = K.val ∧ qt n = 7 := by decide +kernel

theorem pay135_eq (l : Fin 128) (c : Fin 512) : k0_pay135 (F := Ideal) (ix2 l c) = ((0 : ℝ) : EReal) := by
  pointwise [k0_pay135]
  rfl
theorem pay136_eq (l : Fin 128) (c : Fin 512) : k0_pay136 (F := Ideal) (ix2 l c) = ((0 : ℝ) : EReal) := by
  pointwise [k0_pay136]
  rfl
theorem pay137_eq (a : Fin 2) (c : Fin 512) : k0_pay137 (F := Ideal) (ix3 a 0 c) = ((0 : ℝ) : EReal) := by
  pointwise [k0_pay137]
  rfl
theorem pay1_eq (y : S128x512.Idx → Elt Ideal .f32) (c : Fin 512) (l : Fin 128) : k0_pay1 (F := Ideal) y (ix2 c l) = y (ix2 l c) := by
  pointwise [k0_pay1]
theorem pay2_eq (y : S128x512.Idx → Elt Ideal .f32) (c : Fin 512) (l : Fin 128) : k0_pay2 (F := Ideal) y (ix2 c l) = y (ix2 l c) := by
  pointwise [k0_pay2]

section Run
variable (m : (ℓ : Loc nD τ sig) → Buf (Elt Ideal) ℓ) (c : Dev nD) {I : Inp}
variable (H : Holds I (m ((c : Thread nD τ).loc main_arg0)) (m ((c : Thread nD τ).loc main_arg1)) (m ((c : Thread nD τ).loc main_arg2)) (m ((c : Thread nD τ).loc main_arg3)) (m ((c : Thread nD τ).loc main_arg4)))
include H in
/-- The blocks a point reads hold the inputs' reals. -/
theorem holds_pt (t : Fin NA) : PtHolds I (ptP t) (ptQ t) (ptK t) (iblk m c (0 : Fin 12) t) (iblk m c (1 : Fin 12) t) (iblk m c (2 : Fin 12) t) (iblk m c (3 : Fin 12) t)
    (iblk m c (4 : Fin 12) t) (iblk m c (5 : Fin 12) t) (iblk m c (6 : Fin 12) t) (iblk m c (7 : Fin 12) t) (iblk m c (8 : Fin 12) t) where
  h0 r l := (iblk0 m c _ (V₀_48 m c) t r l (ix2 (rowQ (ptQ t) r) (col (hd (ptP t) (hl l)) (dl l))) rfl (col_lane _ l)).trans (kQ_eq H _ _ _)
  h1 r l := (iblk1 m c _ (V₀_49 m c) t r l (ix2 (row (ptK t) r) (col (hd (ptP t) (hl l)) (dl l))) rfl (col_lane _ l)).trans (kK_eq H _ _ _)
  h2 r l := (iblk2 m c _ (V₀_arg2 m c) t r l (ix2 (row (ptK t) r) (vcol (hd (ptP t) (hl l)) (dl l))) rfl
    (by have := col_lane (ptP t) l; show 2048 + (col (hd (ptP t) (hl l)) (dl l)).val = _; rw [this]; simp only [ptP]; omega)).trans (H.hv _ _ _)
  h3 a r := (iblk3 m c _ (V₀_7 m c) t a r (ix3 (hd (ptP t) a) (rowQ (ptQ t) r) 0) rfl rfl rfl).trans (kCcol_eq H _ _)
  h4 a r := (iblk4 m c _ (V₀_8 m c) t a r (ix3 (hd (ptP t) a) 0 (row (ptK t) r)) rfl rfl rfl).trans (kCrow_eq H _ _)
  h5 a r := (iblk5 m c _ (V₀_35 m c) t a r (ix3 (hd (ptP t) a) (rowQ (ptQ t) r) 0) rfl rfl rfl).trans (kLse_eq H _ _)
  h6 a r := (iblk6 m c _ (V₀_40 m c) t a r (ix3 (hd (ptP t) a) (rowQ (ptQ t) r) 0) rfl rfl rfl).trans (kDelta_eq H _ _)
  h7 a r := (iblk7 m c _ (V₀_46 m c) t a r (ix3 (hd (ptP t) a) (rowQ (ptQ t) r) 0) rfl rfl rfl).trans (kResid_eq H _ _)
  h8 r l := (iblk8 m c _ (V₀_arg4 m c) t r l (ix2 (rowQ (ptQ t) r) (col (hd (ptP t) (hl l)) (dl l))) rfl (col_lane _ l)).trans (H.hdO _ _ _)

theorem fst_lt (t : Fin NA) (h : ¬isFst t) : (ptK t).val < 2 * (ptQ t).val := by
  have h1 := (schedFacts (pos t.val)).1
  have h2 : ¬qt (pos t.val) = kt (pos t.val) / 2 := h
  show kt (pos t.val) < 2 * qt (pos t.val)
  omega
theorem fst_odd (t : Fin NA) (h : isFst t) (h2 : ¬kt (pos t.val) = 2 * qt (pos t.val)) : (ptK t).val = 2 * (ptQ t).val + 1 := by
  have h1 : qt (pos t.val) = kt (pos t.val) / 2 := h
  show kt (pos t.val) = 2 * qt (pos t.val) + 1
  omega
theorem fst_le (t : Fin NA) (h : isFst t) (c : Fin 512) : (ptQ t).val * 1024 ≤ (row (ptK t) c).val := by
  have h1 : qt (pos t.val) = kt (pos t.val) / 2 := h
  show qt (pos t.val) * 1024 ≤ kt (pos t.val) * 512 + c.val
  omega

include H in
/-- A point adds its query block's part to the key gradient. -/
theorem step_dk (t : Fin NA) (p : Accs Ideal) (l : Fin 128) (u : Fin 512) (x : ℝ) (h0 : isFst t → x = 0) (hx : ¬isFst t → p.1 (ix2 l u) = (x : EReal)) :
    (step m c t p).1 (ix2 l u) = ((x + quad (fdk I (hd (ptP t) (hl l)) (row (ptK t) u) (dl l)) (ptQ t).val : ℝ) : EReal) := by
  have hh := holds_pt m c H t
  by_cases h1 : isFst t
  · by_cases h2 : kt (pos t.val) = 2 * qt (pos t.val)
    · rw [step_Even m c t p h1 h2]
      exact dkEven_eq hh h2 _ l u x (by rw [h0 h1]; exact pay135_eq l u)
    · rw [step_Odd m c t p h1 h2]
      exact dkOdd_eq hh (fst_odd t h1 h2) _ l u x (by rw [h0 h1]; exact pay135_eq l u)
  · rw [step_Off m c t p h1]
    exact dkOff_eq hh (fst_lt t h1) _ l u x (hx h1)

include H in
/-- After a point, the key gradient holds the query blocks so far. -/
theorem traj_dk : ∀ (n : ℕ) (hn : n < NA) (l : Fin 128) (u : Fin 512),
    (traj m c n hn).1 (ix2 l u) = ((acc (fdk I (hd (ptP ⟨n, hn⟩) (hl l)) (row (ptK ⟨n, hn⟩) u) (dl l)) (qt (pos n) + 1) : ℝ) : EReal) := by
  intro n
  induction n with
  | zero =>
    intro hn l u
    have h0 : isFst (⟨0, hn⟩ : Fin NA) := by show qt (pos 0) = kt (pos 0) / 2; decide +kernel
    refine (step_dk m c H ⟨0, hn⟩ _ l u 0 (fun _ => rfl) fun h => absurd h0 h).trans ?_
    rw [acc_succ, acc_zero (fdk_past I _ _ _) (qt (pos 0)) (fst_le ⟨0, hn⟩ h0 u)]
    congr 1
  | succ n ih =>
    intro hn l u
    by_cases h1 : isFst (⟨n + 1, hn⟩ : Fin NA)
    · refine (step_dk m c H ⟨n + 1, hn⟩ _ l u 0 (fun _ => rfl) fun h => absurd h1 h).trans ?_
      rw [acc_succ, acc_zero (fdk_past I _ _ _) (qt (pos (n + 1))) (fst_le ⟨n + 1, hn⟩ h1 u)]
      congr 1
    · have hf := prevFacts (pos (n + 1)) h1
      have hp : pos ((pos (n + 1)).val - 1) = pos n := Fin.ext (by have := hf.1; simp only at this ⊢; omega)
      rw [hp] at hf
      have hP : ptP ⟨n, Nat.lt_of_succ_lt hn⟩ = ptP ⟨n + 1, hn⟩ := Fin.ext (by have := hf.1; simp only [ptP] at this ⊢; omega)
      have hK : ptK ⟨n, Nat.lt_of_succ_lt hn⟩ = ptK ⟨n + 1, hn⟩ := Fin.ext hf.2.1
      have hi := ih (Nat.lt_of_succ_lt hn) l u
      rw [hP, hK, hf.2.2] at hi
      refine (step_dk m c H ⟨n + 1, hn⟩ _ l u _ (fun h => absurd h h1) fun _ => hi).trans ?_
      rw [acc_succ]
      congr 1

include H in
/-- A point adds its query block's part to the value gradient. -/
theorem step_dv (t : Fin NA) (p : Accs Ideal) (l : Fin 128) (u : Fin 512) (x : ℝ) (h0 : isFst t → x = 0) (hx : ¬isFst t → p.2.1 (ix2 l u) = (x : EReal)) :
    (step m c t p).2.1 (ix2 l u) = ((x + quad (fdv I (hd (ptP t) (hl l)) (row (ptK t) u) (dl l)) (ptQ t).val : ℝ) : EReal) := by
  have hh := holds_pt m c H t
  by_cases h1 : isFst t
  · by_cases h2 : kt (pos t.val) = 2 * qt (pos t.val)
    · rw [step_Even m c t p h1 h2]
      exact dvEven_eq hh h2 _ l u x (by rw [h0 h1]; exact pay136_eq l u)
    · rw [step_Odd m c t p h1 h2]
      exact dvOdd_eq hh (fst_odd t h1 h2) _ l u x (by rw [h0 h1]; exact pay136_eq l u)
  · rw [step_Off m c t p h1]
    exact dvOff_eq hh (fst_lt t h1) _ l u x (hx h1)

include H in
/-- After a point, the value gradient holds the query blocks so far. -/
theorem traj_dv : ∀ (n : ℕ) (hn : n < NA) (l : Fin 128) (u : Fin 512),
    (traj m c n hn).2.1 (ix2 l u) = ((acc (fdv I (hd (ptP ⟨n, hn⟩) (hl l)) (row (ptK ⟨n, hn⟩) u) (dl l)) (qt (pos n) + 1) : ℝ) : EReal) := by
  intro n
  induction n with
  | zero =>
    intro hn l u
    have h0 : isFst (⟨0, hn⟩ : Fin NA) := by show qt (pos 0) = kt (pos 0) / 2; decide +kernel
    refine (step_dv m c H ⟨0, hn⟩ _ l u 0 (fun _ => rfl) fun h => absurd h0 h).trans ?_
    rw [acc_succ, acc_zero (fdv_past I _ _ _) (qt (pos 0)) (fst_le ⟨0, hn⟩ h0 u)]
    congr 1
  | succ n ih =>
    intro hn l u
    by_cases h1 : isFst (⟨n + 1, hn⟩ : Fin NA)
    · refine (step_dv m c H ⟨n + 1, hn⟩ _ l u 0 (fun _ => rfl) fun h => absurd h1 h).trans ?_
      rw [acc_succ, acc_zero (fdv_past I _ _ _) (qt (pos (n + 1))) (fst_le ⟨n + 1, hn⟩ h1 u)]
      congr 1
    · have hf := prevFacts (pos (n + 1)) h1
      have hp : pos ((pos (n + 1)).val - 1) = pos n := Fin.ext (by have := hf.1; simp only at this ⊢; omega)
      rw [hp] at hf
      have hP : ptP ⟨n, Nat.lt_of_succ_lt hn⟩ = ptP ⟨n + 1, hn⟩ := Fin.ext (by have := hf.1; simp only [ptP] at this ⊢; omega)
      have hK : ptK ⟨n, Nat.lt_of_succ_lt hn⟩ = ptK ⟨n + 1, hn⟩ := Fin.ext hf.2.1
      have hi := ih (Nat.lt_of_succ_lt hn) l u
      rw [hP, hK, hf.2.2] at hi
      refine (step_dv m c H ⟨n + 1, hn⟩ _ l u _ (fun h => absurd h h1) fun _ => hi).trans ?_
      rw [acc_succ]
      congr 1

include H in
/-- A point adds its query block's part to the column sums. -/
theorem step_dc (t : Fin NA) (p : Accs Ideal) (a : Fin 2) (u : Fin 512) (x : ℝ) (h0 : isFst t → x = 0) (hx : ¬isFst t → p.2.2 (ix3 a 0 u) = (x : EReal)) :
    (step m c t p).2.2 (ix3 a 0 u) = ((x - quad (fdc I (hd (ptP t) a) (row (ptK t) u)) (ptQ t).val : ℝ) : EReal) := by
  have hh := holds_pt m c H t
  by_cases h1 : isFst t
  · by_cases h2 : kt (pos t.val) = 2 * qt (pos t.val)
    · rw [step_Even m c t p h1 h2]
      exact dcEven_eq hh h2 _ a u x (by rw [h0 h1]; exact pay137_eq a u)
    · rw [step_Odd m c t p h1 h2]
      exact dcOdd_eq hh (fst_odd t h1 h2) _ a u x (by rw [h0 h1]; exact pay137_eq a u)
  · rw [step_Off m c t p h1]
    exact dcOff_eq hh (fst_lt t h1) _ a u x (hx h1)

include H in
/-- After a point, the column sums holds the query blocks so far. -/
theorem traj_dc : ∀ (n : ℕ) (hn : n < NA) (a : Fin 2) (u : Fin 512),
    (traj m c n hn).2.2 (ix3 a 0 u) = ((-acc (fdc I (hd (ptP ⟨n, hn⟩) a) (row (ptK ⟨n, hn⟩) u)) (qt (pos n) + 1) : ℝ) : EReal) := by
  intro n
  induction n with
  | zero =>
    intro hn a u
    have h0 : isFst (⟨0, hn⟩ : Fin NA) := by show qt (pos 0) = kt (pos 0) / 2; decide +kernel
    refine (step_dc m c H ⟨0, hn⟩ _ a u 0 (fun _ => rfl) fun h => absurd h0 h).trans ?_
    rw [acc_succ, acc_zero (fdc_past I _ _) (qt (pos 0)) (fst_le ⟨0, hn⟩ h0 u)]
    congr 1
    rw [zero_sub, zero_add]; rfl
  | succ n ih =>
    intro hn a u
    by_cases h1 : isFst (⟨n + 1, hn⟩ : Fin NA)
    · refine (step_dc m c H ⟨n + 1, hn⟩ _ a u 0 (fun _ => rfl) fun h => absurd h1 h).trans ?_
      rw [acc_succ, acc_zero (fdc_past I _ _) (qt (pos (n + 1))) (fst_le ⟨n + 1, hn⟩ h1 u)]
      congr 1
      rw [zero_sub, zero_add]; rfl
    · have hf := prevFacts (pos (n + 1)) h1
      have hp : pos ((pos (n + 1)).val - 1) = pos n := Fin.ext (by have := hf.1; simp only at this ⊢; omega)
      rw [hp] at hf
      have hP : ptP ⟨n, Nat.lt_of_succ_lt hn⟩ = ptP ⟨n + 1, hn⟩ := Fin.ext (by have := hf.1; simp only [ptP] at this ⊢; omega)
      have hK : ptK ⟨n, Nat.lt_of_succ_lt hn⟩ = ptK ⟨n + 1, hn⟩ := Fin.ext hf.2.1
      have hi := ih (Nat.lt_of_succ_lt hn) a u
      rw [hP, hK, hf.2.2] at hi
      refine (step_dc m c H ⟨n + 1, hn⟩ _ a u _ (fun h => absurd h h1) fun _ => hi).trans ?_
      rw [acc_succ]
      congr 1
      rw [neg_add, sub_eq_add_neg]; rfl

/-- The key gradient, as an array. -/
def dkFun (I : Inp) (i : S8192x1024.Idx) : EReal :=
  (I.dk ⟨(i 1).val / 64, by have : (i 1).val < 1024 := (i 1).isLt; omega⟩ (i 0) ⟨(i 1).val % 64, by omega⟩ : EReal)

theorem dkFun_col (I : Inp) (h : Fin 16) (t : Fin 8192) (d : Fin 64) : dkFun I (ix2 t (col h d)) = (I.dk h t d : EReal) := by
  have e1 : (⟨(col h d).val / 64, by have := (col h d).isLt; omega⟩ : Fin 16) = h := Fin.ext (by simp only [col]; omega)
  have e2 : (⟨(col h d).val % 64, by omega⟩ : Fin 64) = d := Fin.ext (by simp only [col]; omega)
  show (I.dk ⟨(col h d).val / 64, _⟩ t ⟨(col h d).val % 64, _⟩ : EReal) = _
  rw [e1, e2]

include H in
/-- What the last query block leaves is a block of the key gradient. -/
theorem flushed_dk (t : Fin NA) (hq : qt (pos t.val) = 7) (y : S512x128.Idx) :
    k0_pay1 (traj m c t.val t.isLt).1 y = dkFun I ((((cfgA (F := Ideal)).win (9 : Fin 12)).blk t).view.emb y) := by
  obtain ⟨r, l, rfl⟩ : ∃ r l, y = ix2 r l := ⟨y 0, y 1, funext fun a => by fin_cases a <;> rfl⟩
  rw [emb9 t (ix2 r l) (ix2 (row (ptK t) r) (col (hd (ptP t) (hl l)) (dl l))) rfl (col_lane (ptP t) l), dkFun_col, pay1_eq]
  refine (traj_dk m c H t.val t.isLt l r).trans ?_
  rw [hq]
  exact congrArg (fun x : ℝ => (x : EReal)) (acc_all _)

include H in
/-- The launch leaves the key gradient. -/
theorem dkArr_eq : dkArr m c = dkFun I := by
  refine (dats m 0 c).arrAt_eq_of_emb (9 : Fin 12) _ (fun t hf y => ?_) fun i => ?_
  · rw [flush9] at hf
    exact flushed_dk m c H t (of_decide_eq_true hf) y
  · obtain ⟨n, hk, hq⟩ := lastFacts ⟨(i 0).val / 512, by have : (i 0).val < 8192 := (i 0).isLt; omega⟩
    have h1 : (i 1).val < 1024 := (i 1).isLt
    let t : Fin NA := ⟨(i 1).val / 128 * 72 + n.val, by show _ < 576; omega⟩
    have hp : pos t.val = n := Fin.ext (by simp only [t]; omega)
    have hd : t.val / 72 = (i 1).val / 128 := by simp only [t]; omega
    refine ⟨t, by rw [flush9, hp, hq]; exact decide_eq_true rfl, ?_⟩
    refine Finset.mem_map.2 ⟨ix2 ⟨(i 0).val % 512, by omega⟩ ⟨(i 1).val % 128, by omega⟩, Finset.mem_univ _, ?_⟩
    refine emb9 t (ix2 ⟨(i 0).val % 512, by omega⟩ ⟨(i 1).val % 128, by omega⟩) i ?_ ?_
    · rw [hp, hk]; show (i 0).val = (i 0).val / 512 * 512 + (i 0).val % 512; omega
    · rw [hd]; show (i 1).val = (i 1).val / 128 * 128 + (i 1).val % 128; omega

/-- The value gradient, as an array. -/
def dvFun (I : Inp) (i : S8192x1024.Idx) : EReal :=
  (I.dv ⟨(i 1).val / 64, by have : (i 1).val < 1024 := (i 1).isLt; omega⟩ (i 0) ⟨(i 1).val % 64, by omega⟩ : EReal)

theorem dvFun_col (I : Inp) (h : Fin 16) (t : Fin 8192) (d : Fin 64) : dvFun I (ix2 t (col h d)) = (I.dv h t d : EReal) := by
  have e1 : (⟨(col h d).val / 64, by have := (col h d).isLt; omega⟩ : Fin 16) = h := Fin.ext (by simp only [col]; omega)
  have e2 : (⟨(col h d).val % 64, by omega⟩ : Fin 64) = d := Fin.ext (by simp only [col]; omega)
  show (I.dv ⟨(col h d).val / 64, _⟩ t ⟨(col h d).val % 64, _⟩ : EReal) = _
  rw [e1, e2]

include H in
/-- What the last query block leaves is a block of the value gradient. -/
theorem flushed_dv (t : Fin NA) (hq : qt (pos t.val) = 7) (y : S512x128.Idx) :
    k0_pay2 (traj m c t.val t.isLt).2.1 y = dvFun I ((((cfgA (F := Ideal)).win (10 : Fin 12)).blk t).view.emb y) := by
  obtain ⟨r, l, rfl⟩ : ∃ r l, y = ix2 r l := ⟨y 0, y 1, funext fun a => by fin_cases a <;> rfl⟩
  rw [emb10 t (ix2 r l) (ix2 (row (ptK t) r) (col (hd (ptP t) (hl l)) (dl l))) rfl (col_lane (ptP t) l), dvFun_col, pay2_eq]
  refine (traj_dv m c H t.val t.isLt l r).trans ?_
  rw [hq]
  exact congrArg (fun x : ℝ => (x : EReal)) (acc_all _)

include H in
/-- The launch leaves the value gradient. -/
theorem dvArr_eq : dvArr m c = dvFun I := by
  refine (dats m 0 c).arrAt_eq_of_emb (10 : Fin 12) _ (fun t hf y => ?_) fun i => ?_
  · rw [flush10] at hf
    exact flushed_dv m c H t (of_decide_eq_true hf) y
  · obtain ⟨n, hk, hq⟩ := lastFacts ⟨(i 0).val / 512, by have : (i 0).val < 8192 := (i 0).isLt; omega⟩
    have h1 : (i 1).val < 1024 := (i 1).isLt
    let t : Fin NA := ⟨(i 1).val / 128 * 72 + n.val, by show _ < 576; omega⟩
    have hp : pos t.val = n := Fin.ext (by simp only [t]; omega)
    have hd : t.val / 72 = (i 1).val / 128 := by simp only [t]; omega
    refine ⟨t, by rw [flush10, hp, hq]; exact decide_eq_true rfl, ?_⟩
    refine Finset.mem_map.2 ⟨ix2 ⟨(i 0).val % 512, by omega⟩ ⟨(i 1).val % 128, by omega⟩, Finset.mem_univ _, ?_⟩
    refine emb10 t (ix2 ⟨(i 0).val % 512, by omega⟩ ⟨(i 1).val % 128, by omega⟩) i ?_ ?_
    · rw [hp, hk]; show (i 0).val = (i 0).val / 512 * 512 + (i 0).val % 512; omega
    · rw [hd]; show (i 1).val = (i 1).val / 128 * 128 + (i 1).val % 128; omega

/-- The decay gradient, as an array. -/
def dcFun (I : Inp) (i : S16x1x8192.Idx) : EReal := ((-I.dc (i 0) (i 2) : ℝ) : EReal)

include H in
/-- What the last query block leaves is a block of the decay gradient. -/
theorem flushed_dc (t : Fin NA) (hq : qt (pos t.val) = 7) (y : S2x1x512.Idx) :
    (traj m c t.val t.isLt).2.2 y = dcFun I ((((cfgA (F := Ideal)).win (11 : Fin 12)).blk t).view.emb y) := by
  obtain ⟨a, r, rfl⟩ : ∃ a r, y = ix3 a 0 r := ⟨y 0, y 2, funext fun b => by
    fin_cases b
    · rfl
    · exact Fin.ext (by have : (y 1).val < 1 := (y 1).isLt; show (y 1).val = 0; omega)
    · rfl⟩
  rw [emb11 t (ix3 a 0 r) (ix3 (hd (ptP t) a) 0 (row (ptK t) r)) rfl rfl rfl]
  refine (traj_dc m c H t.val t.isLt a r).trans ?_
  rw [hq]
  exact congrArg (fun x : ℝ => ((-x : ℝ) : EReal)) (acc_all _)

include H in
/-- The launch leaves the decay gradient. -/
theorem dcArr_eq : dcArr m c = dcFun I := by
  refine (dats m 0 c).arrAt_eq_of_emb (11 : Fin 12) _ (fun t hf y => ?_) fun i => ?_
  · rw [flush11] at hf
    exact flushed_dc m c H t (of_decide_eq_true hf) y
  · obtain ⟨n, hk, hq⟩ := lastFacts ⟨(i 2).val / 512, by have : (i 2).val < 8192 := (i 2).isLt; omega⟩
    have h0 : (i 0).val < 16 := (i 0).isLt
    have h1 : (i 1).val < 1 := (i 1).isLt
    let t : Fin NA := ⟨(i 0).val / 2 * 72 + n.val, by show _ < 576; omega⟩
    have hp : pos t.val = n := Fin.ext (by simp only [t]; omega)
    have hd : t.val / 72 = (i 0).val / 2 := by simp only [t]; omega
    refine ⟨t, by rw [flush11, hp, hq]; exact decide_eq_true rfl, ?_⟩
    refine Finset.mem_map.2 ⟨ix3 ⟨(i 0).val % 2, by omega⟩ 0 ⟨(i 2).val % 512, by omega⟩, Finset.mem_univ _, ?_⟩
    refine emb11 t (ix3 ⟨(i 0).val % 2, by omega⟩ 0 ⟨(i 2).val % 512, by omega⟩) i ?_ ?_ ?_
    · rw [hd]; show (i 0).val = (i 0).val / 2 * 2 + (i 0).val % 2; omega
    · show (i 1).val = 0; omega
    · rw [hp, hk]; show (i 2).val = (i 2).val / 512 * 512 + (i 2).val % 512; omega

end Run

end Cert.Kernel2Ideal.Dkv
-- ==== Proof.Dkv.Ref.lean ====
module

public import proofs.«01_k».proof.Proof.Gen.Reference2Ideal.Read
public import proofs.«01_k».proof.Proof.Dq.Ref
public import proofs.«01_k».proof.Proof.Dkv.Spec

@[expose] public section

/-! The reference's key, value and decay gradients at an index, over the reals. Its lines are those of the query
    gradient's reference, but for the last two. -/

noncomputable section

namespace Cert.Reference2Ideal.Dkv
open Cert.Reference2Ideal Cert.Reference2Ideal.Gen Cert.Dq
open Cert.ReferenceIdeal.Read
open Cert.ReferenceIdeal.Dq (Holds col v3_eq v44_eq v45_eq v73_eq)
open Idealize.ShloMosaic

variable {I : Inp} {x0 x1 : FVec Ideal S8192x1024 .f32} {x2 : FVec Ideal S8192x4224 .f32} {x3 : FVec Ideal S8192x16 .f32} {x4 : FVec Ideal S8192x1024 .f32}

theorem col_div (h : Fin 16) (d : Fin 64) : (⟨(col h d).val / 64, by have := (col h d).isLt; omega⟩ : Fin 16) = h := Fin.ext (by simp only [col]; omega)
theorem col_mod (h : Fin 16) (d : Fin 64) : (⟨(col h d).val % 64, by omega⟩ : Fin 64) = d := Fin.ext (by simp only [col]; omega)

/-- The reference's key gradient. -/
theorem v88_eq (H : Holds I x0 x1 x2 x3 x4) (h : Fin 16) (u : Fin 8192) (d : Fin 64) : Read.val_main_v88 (F := Ideal) x0 x1 x2 x3 x4 (ix2 u (col h d)) = (I.dk h u d : EReal) := by
  refine (show _ = val_main_v88 (F := Ideal) x0 x1 x2 x3 x4 (ix2 u (col h d)) from rfl).trans ?_
  have h73 := fun t => v73_eq H h t u
  have h3 := fun t => v3_eq H h t d
  unfold val_main_v88 val_main_v83 val_main_v82
  revert h73 h3
  generalize val_main_v73 (F := Ideal) x0 x1 x2 x3 x4 = y
  generalize val_main_v3 (F := Ideal) x0 = z
  intro h73 h3
  pointwise
  rw [col_div, col_mod]
  exact sum_coe (fun t => I.ds h t u * (I.q h t d * 0.125)) fun t => by rw [h73, h3, ← EReal.coe_mul]

/-- The reference's value gradient. -/
theorem v87_eq (H : Holds I x0 x1 x2 x3 x4) (h : Fin 16) (u : Fin 8192) (d : Fin 64) : Read.val_main_v87 (F := Ideal) x0 x1 x3 x4 (ix2 u (col h d)) = (I.dv h u d : EReal) := by
  refine (show _ = val_main_v87 (F := Ideal) x0 x1 x3 x4 (ix2 u (col h d)) from rfl).trans ?_
  have h44 := fun t => v44_eq H h t u
  have h45 := v45_eq H h
  unfold val_main_v87 val_main_v59 val_main_v58 val_main_v48 val_main_v47 val_main_v46 val_main_v56 val_main_v55
  revert h44 h45
  generalize val_main_v44 (F := Ideal) x0 x1 x3 = y
  generalize val_main_v45 (F := Ideal) x0 x1 x3 = z
  intro h44 h45
  pointwise
  refine sum_coe (fun t => I.w h t u * I.dO h t d) fun t => ?_
  rw [(congrArg (fun a => y (ix3 a t u)) (col_div h d)).trans (h44 t), (congrArg (fun a => z (ix2 a t)) (col_div h d)).trans (h45 t), Ideal.div_coe (I.Z_pos h t).ne', ← EReal.coe_mul, mul_comm (I.w h t u), EReal.coe_mul]
  unfold Inp.w
  rw [div_eq_mul_one_div (I.e h t u)]
  exact congrArg (· * _) (H.hdO h t d)

/-- The reference's decay gradient. -/
theorem v93_eq (H : Holds I x0 x1 x2 x3 x4) (h : Fin 16) (u : Fin 8192) : Read.val_main_v93 (F := Ideal) x0 x1 x2 x3 x4 (ix3 h 0 u) = ((-I.dc h u : ℝ) : EReal) := by
  refine (show _ = val_main_v81 (F := Ideal) x0 x1 x2 x3 x4 (ix2 h u) from by pointwise [Read.val_main_v93, Read.val_main_v92, Read.val_main_v86]; rfl).trans ?_
  have h73 := v73_eq H h
  unfold val_main_v81 val_main_v80 val_main_v79 val_main_v78 val_main_v77 val_main_v76 val_main_v75 val_main_v74
  revert h73
  generalize val_main_v73 (F := Ideal) x0 x1 x2 x3 x4 = y
  intro h73
  pointwise [val_main_cst_15, val_main_cst_16, val_main_cst_17, val_main_cst_18]
  rw [Fin.sum_univ_one, Fin.sum_univ_one, sum_coe (fun t => -I.ds h t u) fun t => by rw [h73, EReal.coe_neg], sum_coe (fun v => I.ds h u v) (h73 u), I.sum_ds h u, Finset.sum_neg_distrib,
    EReal.coe_zero, add_zero]
  rfl

end Cert.Reference2Ideal.Dkv
-- ==== Proof.Dkv.Words.lean ====
module

public import proofs.«01_k».proof.Defs
public import proofs.«01_k».proof.Proof.Gen.Kernel2
public import proofs.«01_k».proof.Proof.Dkv.Launch

@[expose] public section

/-! The key side of the kernel as printed: its text is the named program's with the constant read as the word it is printed with, so the run is the one already proved, on float words. -/

noncomputable section

namespace Cert.Kernel2Ideal.Dkv
open Idealize.ShloMosaic Idealize.ShloMosaic.TcCoe Idealize.SL.Sem

/-- On float words a named constant is the word it is printed with. -/
abbrev printed : Named Bits := ⟨fun _ _ {φ} b => Scalar.ofBits φ b⟩

attribute [local instance] printed

set_option maxHeartbeats 8000000

/-- The two programs' bodies are the same. -/
theorem defs0_eq : Cert.Kernel2.defs₀ (F := Bits) = Cert.Kernel2Ideal.defs₀ (F := Bits) :=
  congrArg Defs.onTc (funext fun l => funext fun a => by
    match l, a with
    | ⟨0, _⟩, (t, s) => rfl)

theorem defs_eq : Cert.Kernel2.defs (F := Bits) = Cert.Kernel2Ideal.defs (F := Bits) :=
  congrArg (Pipeline.defs Cert.Kernel2Ideal.pcfgs) defs0_eq

/-- The two programs' entry functions are the same. -/
theorem main_eq : Cert.Kernel2.main (F := Bits) = Cert.Kernel2Ideal.main (F := Bits) := by rfl

/-- The named program's run on float words. -/
theorem words (m : (ℓ : Loc nD τ sig) → Buf (Elt Bits) ℓ) (g : Dev nD → PrngReg) :
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h.1 c).2.2.2, h.2⟩) (run_main (F := Bits) m g)

/-- The kernel as printed runs and leaves its arguments and counters as they were. -/
theorem frame_kernel : Cert.quiescent_Kernel2 := by
  intro m g _
  rw [defs_eq, main_eq]
  exact words m g

end Cert.Kernel2Ideal.Dkv
-- ==== Proof.Mm.Sum.lean ====
module

public import Idealize.ShloMosaic.Lib.Pipeline.Value
public import Idealize.ShloMosaic.PureOps.Ideal
public import Idealize.ShloMosaic.Lib.Pointwise

@[expose] public section

/-! Sums taken block by block, over the extended reals. -/

noncomputable section

namespace Cert.Mm
open Idealize.ShloMosaic

/-- An array's entry at two numbers: zero outside the array. -/
def at2 {p q : ℕ} (X : (⟨2, ![p, q]⟩ : Shape).Idx → EReal) (a b : ℕ) : EReal :=
  if h : a < p ∧ b < q then X (ix2 ⟨a, h.1⟩ ⟨b, h.2⟩) else 0

theorem at2_eq {p q : ℕ} (X : (⟨2, ![p, q]⟩ : Shape).Idx → EReal) (i : (⟨2, ![p, q]⟩ : Shape).Idx) (a b : ℕ) (ha : (i 0).val = a) (hb : (i 1).val = b) :
    X i = at2 X a b := by
  subst ha hb
  unfold at2
  rw [dif_pos ⟨(i 0).isLt, (i 1).isLt⟩]
  exact congrArg X (eq_ix2 i)

theorem at2_ix2 {p q : ℕ} (X : (⟨2, ![p, q]⟩ : Shape).Idx → EReal) (a : Fin p) (b : Fin q) : X (ix2 a b) = at2 X a.val b.val :=
  at2_eq X (ix2 a b) a.val b.val rfl rfl

/-- A value that restarts every `R` points and elsewhere adds a point's term is, before a run's last point, the sum of the run's terms so far. -/
theorem runs {N R : ℕ} (a : (n : ℕ) → n < N → EReal) (g : ℕ → EReal) (hf : ∀ n h, n % R = 0 → a n h = g n)
    (hs : ∀ n (h : n < N), ¬n % R = 0 → ¬n % R = R - 1 → a n h = a (n - 1) (Nat.lt_of_le_of_lt (Nat.sub_le _ _) h) + g n) (q : ℕ) :
    ∀ s (h : R * q + s < N), s < R - 1 → a (R * q + s) h = ∑ u ∈ Finset.range (s + 1), g (R * q + u)
  | 0, h, _ => by rw [hf _ h (by simp)]; simp
  | s + 1, h, h1 => by
    have e : (R * q + (s + 1)) % R = s + 1 := by rw [Nat.mul_add_mod, Nat.mod_eq_of_lt (by omega)]
    rw [hs _ h (by omega) (by omega), Finset.sum_range_succ]
    exact congrArg (· + _) (runs a g hf hs q s (by omega) (by omega))

/-- A sum over `a` blocks of `b` terms is the sum over all terms. -/
theorem sum_blocks (b : ℕ) (f : ℕ → EReal) : ∀ a : ℕ,
    ∑ s ∈ Finset.range a, ∑ k : Fin b, f (s * b + k.val) = ∑ k : Fin (a * b), f k.val
  | 0 => by
    rw [Finset.sum_range_zero]
    exact (Finset.sum_eq_zero fun k _ => absurd k.isLt (by omega)).symm
  | a + 1 => by
    rw [Finset.sum_range_succ, sum_blocks b f a, Fin.sum_univ_eq_sum_range f (a * b), Fin.sum_univ_eq_sum_range f ((a + 1) * b),
      Fin.sum_univ_eq_sum_range (fun k => f (a * b + k)) b, Nat.succ_mul, Finset.sum_range_add]

/-- A value that restarts every `R` points, adds a point's block of `b` terms, and is given out with the last block added, is given out as the sum of all terms. -/
theorem run_total {N R b : ℕ} (hR : 2 ≤ R) (a o : (n : ℕ) → n < N → EReal) (g f : ℕ → EReal) (hf : ∀ n h, n % R = 0 → a n h = g n)
    (hs : ∀ n (h : n < N), ¬n % R = 0 → ¬n % R = R - 1 → a n h = a (n - 1) (Nat.lt_of_le_of_lt (Nat.sub_le _ _) h) + g n)
    (hl : ∀ n (h : n < N), n % R = R - 1 → o n h = a (n - 1) (Nat.lt_of_le_of_lt (Nat.sub_le _ _) h) + g n) (q : ℕ)
    (hg : ∀ u, u < R → g (R * q + u) = ∑ k : Fin b, f (u * b + k.val)) (h : R * q + (R - 1) < N) :
    o (R * q + (R - 1)) h = ∑ k : Fin (R * b), f k.val := by
  obtain ⟨r, rfl⟩ : ∃ r, R = r + 2 := ⟨R - 2, by omega⟩
  rw [hl _ h (by rw [Nat.mul_add_mod, Nat.mod_eq_of_lt (by omega)])]
  refine (congrArg (· + _) (runs a g hf hs q r (by omega) (by omega))).trans ?_
  rw [← sum_blocks b f (r + 2), Finset.sum_range_succ _ (r + 1)]
  exact congrArg₂ (· + ·) (Finset.sum_congr rfl fun u hu => hg u (by have := Finset.mem_range.1 hu; omega)) (hg (r + 1) (by omega))

end Cert.Mm
-- ==== Proof.Mm.K3.lean ====
module

public import proofs.«01_k».proof.Defs
public import proofs.«01_k».proof.Proof.Gen.Kernel3
public import proofs.«01_k».proof.Proof.Gen.Kernel3Ideal.Value
public import proofs.«01_k».proof.Proof.Gen.Reference3Ideal.Run
public import proofs.«01_k».proof.Proof.Mm.Sum
public import Idealize.ShloMosaic.Lib.Pipeline.ValueKit.Geometry
public import Idealize.ShloMosaic.Lib.ValueIdx
public import Idealize.ShloMosaic.Lib.Pointwise
public import Idealize.ShloMosaic.Adequacy
public import Idealize.ShloMosaic.Init

@[expose] public section

/-! The gradient of an input projection's weights: what the call leaves, over the extended reals, and the claims about it. -/

noncomputable section

namespace Cert.Kernel3Ideal.Mm
open Cert.Kernel3Ideal Cert.Kernel3Ideal.Gen Cert.Mm
open Idealize.ShloMosaic Idealize.ShloMosaic.TcCoe Idealize.SL.Sem

theorem hz : (![0, 0] : Fin 2 → ℕ) = fun _ => 0 := by funext a; fin_cases a <;> rfl

section Step
variable {F : FTy → Type} [FloatOps F] (m : (ℓ : Loc nD τ sig) → Buf (Elt F) ℓ) (c : Dev nD) (t : Fin cfg0.N)

/-- The first point of a run leaves in the accumulator its product over zero. -/
theorem first (h0 : t.val % 8 = 0) : (outsAt0 m c t.val t.isLt).2 = k0_pay2 k0_pay1 (iblk m c 0 t) (iblk m c 1 t) := by
  rw [outsAt0_A m c t h0 (by omega)]
  dsimp only
  unfold sout0_A_0
  rw [View.read_writes_eq_canon (h := fun y => scover0_A_0 (F := F) ..)]
  unfold kernelRun0_A
  dsimp only
  sl_unfold_words
  rw [View.canon_cons_unit_zero (S := S1024x1408) hz, View.readCov_unit_zero (S := S1024x1408) _ hz]
  simp only [View.readAt_eq_ld, (hs0_0 t).read_unread, (hs0_1 t).read_unread, View.ld_unit_zero (S := S1024x1408) hz, View.ld_unit_zero (S := S1024x1024) hz]

/-- A point in the middle of a run adds its product. -/
theorem middle (h0 : ¬t.val % 8 = 0) (h1 : ¬t.val % 8 = 7) : (outsAt0 m c t.val t.isLt).2
    = k0_pay2 (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon (h := fun y => scover0_B_0 (F := F) ..)]
  unfold kernelRun0_B
  dsimp only
  sl_unfold_words
  rw [View.canon_unit_zero hz]
  simp only [View.readAt_eq_ld, (hs0_0 t).read_unread, (hs0_1 t).read_unread, (Memref.isWhole_whole _).read_unread, View.ld_unit_zero (S := S1024x1408) hz, View.ld_unit_zero (S := S1024x1024) hz]

/-- The last point of a run adds its product and stores the sum in the output block. -/
theorem last (h1 : t.val % 8 = 7) : (outsAt0 m c t.val t.isLt).1
    = k0_pay2 (outsAt0 m c (t.val - 1) (Nat.lt_of_le_of_lt (Nat.sub_le _ _) t.isLt)).2 (iblk m c 0 t) (iblk m c 1 t) := by
  rw [outsAt0_C m c t (by omega) h1]
  dsimp only
  unfold out0_C_2
  rw [View.read_writes_eq_canon (h := fun y => cover0_C_2 (F := F) ..)]
  unfold kernelRun0_C
  dsimp only
  sl_unfold_words
  rw [View.canon_unit_zero hz, View.readCov_unit_zero (S := S1024x1408) _ hz]
  simp only [View.readAt_eq_ld, (hs0_0 t).read_unread, (hs0_1 t).read_unread, (Memref.isWhole_whole _).read_unread, View.ld_unit_zero (S := S1024x1408) hz, View.ld_unit_zero (S := S1024x1024) hz]

end Step

variable (m : (ℓ : Loc nD τ sig) → Buf (Elt Ideal) ℓ) (c : Dev nD)

/-- A point's product, at an index, added to what it is given. -/
theorem pay_apply (p : Vec Ideal S1024x1408 .f32) (a : Vec Ideal S1024x1024 .f32) (b : Vec Ideal S1024x1408 .f32) (r : Fin 1024) (l : Fin 1408) :
    k0_pay2 (F := Ideal) p a b (ix2 r l) = p (ix2 r l) + ∑ k : Fin 1024, a (ix2 k r) * b (ix2 k l) := by
  pointwise [k0_pay2]

theorem zero_apply (r : Fin 1024) (l : Fin 1408) : k0_pay1 (F := Ideal) (ix2 r l) = (0 : EReal) := by
  pointwise [k0_pay1]

/-! ## Where a point's blocks lie -/

theorem index0 : ∀ t : Fin cfg0.N, win0_0.index t = ![t.val % 8, 0] := (by decide +kernel : ∀ t : Fin grid0.N, _)
theorem index1 : ∀ t : Fin cfg0.N, win0_1.index t = ![t.val % 8, t.val / 8] := (by decide +kernel : ∀ t : Fin grid0.N, _)

/-- The two arguments. -/
abbrev X : FVec Ideal S8192x1024 .f32 := m ((c : Thread nD τ).loc main_arg0)
abbrev D : FVec Ideal S8192x4224 .f32 := m ((c : Thread nD τ).loc main_arg1)

theorem iblk0 (t : Fin cfg0.N) (k r : Fin 1024) : (iblk m c 0 t (ix2 k r : S1024x1024.Idx) : EReal) = at2 (X m c) (t.val % 8 * 1024 + k.val) r.val := by
  refine Eq.trans ?_ (at2_eq (X m c) ((win0_0.rect t).emb (ix2 k r : S1024x1024.Idx)) _ _ ?_ ?_)
  · rfl
  all_goals
    refine (Pipeline.Window.rect_emb_val win0_0 t (ix2 k r : S1024x1024.Idx) _).trans ?_
    rw [index0]
  · rfl
  · show 0 * 1024 + r.val = _; omega

theorem iblk1 (t : Fin cfg0.N) (k : Fin 1024) (l : Fin 1408) : (iblk m c 1 t (ix2 k l : S1024x1408.Idx) : EReal) = at2 (D m c) (t.val % 8 * 1024 + k.val) (t.val / 8 * 1408 + l.val) := by
  refine Eq.trans ?_ (at2_eq (D m c) ((win0_1.rect t).emb (ix2 k l : S1024x1408.Idx)) _ _ ?_ ?_)
  · rfl
  all_goals
    refine (Pipeline.Window.rect_emb_val win0_1 t (ix2 k l : S1024x1408.Idx) _).trans ?_
    rw [index1]
  · rfl
  · rfl

/-! ## The sum -/

/-- A point's product at a place of its block. -/
def term (r : Fin 1024) (l : Fin 1408) (n : ℕ) : EReal :=
  ∑ k : Fin 1024, at2 (X m c) (n % 8 * 1024 + k.val) r.val * at2 (D m c) (n % 8 * 1024 + k.val) (n / 8 * 1408 + l.val)

theorem pay_blk (p : Vec Ideal S1024x1408 .f32) (t : Fin cfg0.N) (r : Fin 1024) (l : Fin 1408) :
    k0_pay2 (F := Ideal) p (iblk m c 0 t) (iblk m c 1 t) (ix2 r l) = p (ix2 r l) + term m c r l t.val := by
  rw [pay_apply]
  refine congrArg _ (Finset.sum_congr rfl fun k _ => ?_)
  rw [iblk0, iblk1]

/-- A run's last point stores the whole product. -/
theorem out (r : Fin 1024) (l : Fin 1408) (q : ℕ) (h : 8 * q + 7 < cfg0.N) :
    (outsAt0 m c (8 * q + 7) h).1 (ix2 r l) = ∑ k : Fin 8192, at2 (X m c) k.val r.val * at2 (D m c) k.val (q * 1408 + l.val) :=
  run_total (R := 8) (b := 1024) (by decide) (fun n h => (outsAt0 m c n h).2 (ix2 r l)) (fun n h => (outsAt0 m c n h).1 (ix2 r l)) (term m c r l)
    (fun k => at2 (X m c) k r.val * at2 (D m c) k (q * 1408 + l.val))
    (fun n h h0 => (congrFun (first m c ⟨n, h⟩ h0) _).trans ((pay_blk ..).trans (by rw [zero_apply, zero_add])))
    (fun n h h0 h1 => (congrFun (middle m c ⟨n, h⟩ h0 h1) _).trans (pay_blk ..))
    (fun n h h1 => (congrFun (last m c ⟨n, h⟩ h1) _).trans (pay_blk ..)) q
    (fun u hu => by unfold term; rw [(by omega : (8 * q + u) % 8 = u), (by omega : (8 * q + u) / 8 = q)]) h

/-- What the call leaves: the product, at every index. -/
theorem G2_eq (i : S1024x4224.Idx) : @Eq EReal (Value.G2 m c i) (∑ k : Fin 8192, X m c (ix2 k (i 0)) * D m c (ix2 k (i 1))) := by
  have h0 : (i 0).val < 1024 := (i 0).isLt
  have h1 : (i 1).val < 4224 := (i 1).isLt
  have hN : cfg0.N = 24 := N_0
  have hp : Value.pt2Of i = 8 * ((i 1).val / 1408) + 7 := by
    show 8 * (3 * ((i 0).val / 1024 - 0) + 1 * ((i 1).val / 1408 - 0)) + 7 = _; omega
  have hl : Value.loc2Of i = ix2 ⟨(i 0).val % 1024, Nat.mod_lt _ (by decide)⟩ ⟨(i 1).val % 1408, Nat.mod_lt _ (by decide)⟩ := eq_ix2 _
  unfold Value.G2
  rw [dif_pos (by omega : Value.pt2Of i < cfg0.N), Value.fold0_congr m c _ _ (8 * ((i 1).val / 1408) + 7) (by omega) hp,
    ← Value.outsAt0_sweep m c _ (by omega), hl, out]
  refine Finset.sum_congr rfl fun k _ => ?_
  rw [at2_ix2 (X m c) k (i 0), at2_ix2 (D m c) k (i 1)]
  congr 2
  · show (i 0).val % 1024 = _; omega
  · show (i 1).val / 1408 * 1408 + (i 1).val % 1408 = _; omega

/-! ## The claims -/

/-- The reference's product, at an index. -/
theorem reference_apply (a : FVec Ideal Cert.Reference3Ideal.S8192x1024 .f32) (b : FVec Ideal Cert.Reference3Ideal.S8192x4224 .f32) (r : Fin 1024) (l : Fin 4224) :
    @Eq EReal ((transpose Cert.Reference3Ideal.S1024x4224 [1, 0] (Host.dotGeneral Cert.Reference3Ideal.dot_S8192x4224_S8192x1024_S4224x1024_0_0_1_1_n_n none b a) Cert.Reference3Ideal.Gen.transposes_S4224x1024_S1024x4224_1_0 : FVec Ideal Cert.Reference3Ideal.S1024x4224 .f32) (ix2 r l)) (∑ k : Fin 8192, a (ix2 k r) * b (ix2 k l)) := by
  refine Eq.trans ?_ (Finset.sum_congr rfl fun k _ => mul_comm (b (ix2 k l)) (a (ix2 k r)))
  pointwise

/-- The printed program's table of bodies is this one's. -/
theorem defs_eq : Cert.Kernel3.defs (F := Bits) = defs (F := Bits) :=
  congrArg (Pipeline.defs pcfgs) (congrArg Defs.onTc (funext fun l => funext fun a => by
    match l, a with
    | ⟨0, _⟩, (t, s) => rfl))

/-- The call as printed runs and leaves its arguments and counters as they were. -/
theorem frame_kernel : Cert.quiescent_Kernel3 := fun m g _ => by
  rw [defs_eq]
  exact Gen.frame m g

/-- So does it over the extended reals. -/
theorem frame_kernelIdeal : Cert.quiescent_Kernel3Ideal := fun m g _ => Gen.frame m g

/-- The reference runs and leaves its arguments as they were; it has no counters. -/
theorem frame_reference : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- The call's result is the reference's. -/
theorem algebraic : Cert.algebraic_Kernel3Ideal_Reference3Ideal := by
  intro m g m' g' _ hag
  refine ⟨Value.G2 m, Value.run m g,
    (θ_run Cert.Reference3Ideal.defs _ _).mono (fun r h c => ⟨(h c).1.trans ?_, (h c).2⟩) (Cert.Reference3Ideal.Value.run (F := Ideal) m' g')⟩
  rw [(hag c).1, (hag c).2]
  funext i
  refine Eq.trans ?_ ((reference_apply _ _ (i 0) (i 1)).trans (G2_eq m c i).symm)
  exact congrArg _ (eq_ix2 i)

end Cert.Kernel3Ideal.Mm
-- ==== Proof.Mm.K4.lean ====
module

public import proofs.«01_k».proof.Defs
public import proofs.«01_k».proof.Proof.Gen.Kernel4
public import proofs.«01_k».proof.Proof.Gen.Kernel4Ideal.Value
public import proofs.«01_k».proof.Proof.Gen.Reference4Ideal.Run
public import proofs.«01_k».proof.Proof.Mm.Sum
public import Idealize.ShloMosaic.Lib.Pipeline.ValueKit.Geometry
public import Idealize.ShloMosaic.Lib.ValueIdx
public import Idealize.ShloMosaic.Lib.Pointwise
public import Idealize.ShloMosaic.Adequacy
public import Idealize.ShloMosaic.Init

@[expose] public section

/-! The gradient of an input projection's input: what the call leaves, over the extended reals, and the claims about it. -/

noncomputable section

namespace Cert.Kernel4Ideal.Mm
open Cert.Kernel4Ideal Cert.Kernel4Ideal.Gen Cert.Mm
open Idealize.ShloMosaic Idealize.ShloMosaic.TcCoe Idealize.SL.Sem

theorem hz : (![0, 0] : Fin 2 → ℕ) = fun _ => 0 := by funext a; fin_cases a <;> rfl

section Step
variable {F : FTy → Type} [FloatOps F] (m : (ℓ : Loc nD τ sig) → Buf (Elt F) ℓ) (c : Dev nD) (t : Fin cfg0.N)

/-- The first point of a run leaves in the accumulator its product over zero. -/
theorem first (h0 : t.val % 3 = 0) : (outsAt0 m c t.val t.isLt).2 = k0_pay2 k0_pay1 (iblk m c 0 t) (iblk m c 1 t) := by
  rw [outsAt0_A m c t h0 (by omega)]
  dsimp only
  unfold sout0_A_0
  rw [View.read_writes_eq_canon (h := fun y => scover0_A_0 (F := F) ..)]
  unfold kernelRun0_A
  dsimp only
  sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S1024x1408) hz]

/-- A point in the middle of a run adds its product. -/
theorem middle (h0 : ¬t.val % 3 = 0) (h1 : ¬t.val % 3 = 2) : (outsAt0 m c t.val t.isLt).2
    = k0_pay2 (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon (h := fun y => scover0_B_0 (F := F) ..)]
  unfold kernelRun0_B
  dsimp only
  sl_unfold_words
  rw [View.canon_unit_zero hz]
  simp only [View.readAt_eq_ld, (hs0_0 t).read_unread, (hs0_1 t).read_unread, (Memref.isWhole_whole _).read_unread, View.ld_unit_zero (S := S1024x1408) hz, View.ld_unit_zero (S := S1024x1024) hz]

/-- The last point of a run adds its product and stores the sum in the output block. -/
theorem last (h1 : t.val % 3 = 2) : (outsAt0 m c t.val t.isLt).1
    = k0_pay2 (outsAt0 m c (t.val - 1) (Nat.lt_of_le_of_lt (Nat.sub_le _ _) t.isLt)).2 (iblk m c 0 t) (iblk m c 1 t) := by
  rw [outsAt0_C m c t (by omega) h1]
  dsimp only
  unfold out0_C_2
  rw [View.read_writes_eq_canon (h := fun y => cover0_C_2 (F := F) ..)]
  unfold kernelRun0_C
  dsimp only
  sl_unfold_words
  rw [View.canon_unit_zero hz, View.readCov_unit_zero (S := S1024x1024) _ hz]
  simp only [View.readAt_eq_ld, (hs0_0 t).read_unread, (hs0_1 t).read_unread, (Memref.isWhole_whole _).read_unread, View.ld_unit_zero (S := S1024x1408) hz, View.ld_unit_zero (S := S1024x1024) hz]

end Step

variable (m : (ℓ : Loc nD τ sig) → Buf (Elt Ideal) ℓ) (c : Dev nD)

/-- A point's product, at an index, added to what it is given. -/
theorem pay_apply (p : Vec Ideal S1024x1024 .f32) (a : Vec Ideal S1024x1408 .f32) (b : Vec Ideal S1024x1408 .bf16) (r l : Fin 1024) :
    k0_pay2 (F := Ideal) p a b (ix2 r l) = p (ix2 r l) + ∑ k : Fin 1408, a (ix2 r k) * b (ix2 l k) := by
  pointwise [k0_pay2]

theorem zero_apply (r l : Fin 1024) : k0_pay1 (F := Ideal) (ix2 r l) = (0 : EReal) := by
  pointwise [k0_pay1]

/-! ## Where a point's blocks lie -/

theorem index0 : ∀ t : Fin cfg0.N, win0_0.index t = ![t.val / 3, t.val % 3] := (by decide +kernel : ∀ t : Fin grid0.N, _)
theorem index1 : ∀ t : Fin cfg0.N, win0_1.index t = ![0, t.val % 3] := (by decide +kernel : ∀ t : Fin grid0.N, _)

/-- The two arguments. -/
abbrev D : FVec Ideal S8192x4224 .f32 := m ((c : Thread nD τ).loc main_arg0)
abbrev W : FVec Ideal S1024x4224 .bf16 := m ((c : Thread nD τ).loc main_arg1)

theorem iblk0 (t : Fin cfg0.N) (r : Fin 1024) (k : Fin 1408) : (iblk m c 0 t (ix2 r k : S1024x1408.Idx) : EReal) = at2 (D m c) (t.val / 3 * 1024 + r.val) (t.val % 3 * 1408 + k.val) := by
  refine Eq.trans ?_ (at2_eq (D m c) ((win0_0.rect t).emb (ix2 r k : S1024x1408.Idx)) _ _ ?_ ?_)
  · rfl
  all_goals
    refine (Pipeline.Window.rect_emb_val win0_0 t (ix2 r k : S1024x1408.Idx) _).trans ?_
    rw [index0]
  · rfl
  · rfl

theorem iblk1 (t : Fin cfg0.N) (l : Fin 1024) (k : Fin 1408) : (iblk m c 1 t (ix2 l k : S1024x1408.Idx) : EReal) = at2 (W m c) l.val (t.val % 3 * 1408 + k.val) := by
  refine Eq.trans ?_ (at2_eq (W m c) ((win0_1.rect t).emb (ix2 l k : S1024x1408.Idx)) _ _ ?_ ?_)
  · rfl
  all_goals
    refine (Pipeline.Window.rect_emb_val win0_1 t (ix2 l k : S1024x1408.Idx) _).trans ?_
    rw [index1]
  · show 0 * 1024 + l.val = _; omega
  · rfl

/-! ## The sum -/

/-- A point's product at a place of its block. -/
def term (r l : Fin 1024) (n : ℕ) : EReal :=
  ∑ k : Fin 1408, at2 (D m c) (n / 3 * 1024 + r.val) (n % 3 * 1408 + k.val) * at2 (W m c) l.val (n % 3 * 1408 + k.val)

theorem pay_blk (p : Vec Ideal S1024x1024 .f32) (t : Fin cfg0.N) (r l : Fin 1024) :
    k0_pay2 (F := Ideal) p (iblk m c 0 t) (iblk m c 1 t) (ix2 r l) = p (ix2 r l) + term m c r l t.val := by
  rw [pay_apply]
  refine congrArg _ (Finset.sum_congr rfl fun k _ => ?_)
  rw [iblk0, iblk1]

/-- A run's last point stores the whole product. -/
theorem out (r l : Fin 1024) (q : ℕ) (h : 3 * q + 2 < cfg0.N) :
    (outsAt0 m c (3 * q + 2) h).1 (ix2 r l) = ∑ k : Fin 4224, at2 (D m c) (q * 1024 + r.val) k.val * at2 (W m c) l.val k.val :=
  run_total (R := 3) (b := 1408) (by decide) (fun n h => (outsAt0 m c n h).2 (ix2 r l)) (fun n h => (outsAt0 m c n h).1 (ix2 r l)) (term m c r l)
    (fun k => at2 (D m c) (q * 1024 + r.val) k * at2 (W m c) l.val k)
    (fun n h h0 => (congrFun (first m c ⟨n, h⟩ h0) _).trans ((pay_blk ..).trans (by rw [zero_apply, zero_add])))
    (fun n h h0 h1 => (congrFun (middle m c ⟨n, h⟩ h0 h1) _).trans (pay_blk ..))
    (fun n h h1 => (congrFun (last m c ⟨n, h⟩ h1) _).trans (pay_blk ..)) q
    (fun u hu => by unfold term; rw [(by omega : (3 * q + u) % 3 = u), (by omega : (3 * q + u) / 3 = q)]) h

/-- What the call leaves: the product, at every index. -/
theorem G2_eq (i : S8192x1024.Idx) : @Eq EReal (Value.G2 m c i) (∑ k : Fin 4224, D m c (ix2 (i 0) k) * W m c (ix2 (i 1) k)) := by
  have h0 : (i 0).val < 8192 := (i 0).isLt
  have h1 : (i 1).val < 1024 := (i 1).isLt
  have hN : cfg0.N = 24 := N_0
  have hp : Value.pt2Of i = 3 * ((i 0).val / 1024) + 2 := by
    show 3 * (1 * ((i 0).val / 1024 - 0) + 1 * ((i 1).val / 1024 - 0)) + 2 = _; omega
  have hl : Value.loc2Of i = ix2 ⟨(i 0).val % 1024, Nat.mod_lt _ (by decide)⟩ ⟨(i 1).val % 1024, Nat.mod_lt _ (by decide)⟩ := eq_ix2 _
  unfold Value.G2
  rw [dif_pos (by omega : Value.pt2Of i < cfg0.N), Value.fold0_congr m c _ _ (3 * ((i 0).val / 1024) + 2) (by omega) hp,
    ← Value.outsAt0_sweep m c _ (by omega), hl, out]
  refine Finset.sum_congr rfl fun k _ => ?_
  rw [at2_ix2 (D m c) (i 0) k, at2_ix2 (W m c) (i 1) k]
  congr 2
  · show (i 0).val / 1024 * 1024 + (i 0).val % 1024 = _; omega
  · show (i 1).val % 1024 = _; omega

/-! ## The claims -/

/-- The reference's product, at an index. -/
theorem reference_apply (a : FVec Ideal Cert.Reference4Ideal.S8192x4224 .f32) (b : FVec Ideal Cert.Reference4Ideal.S1024x4224 .bf16) (r : Fin 8192) (l : Fin 1024) :
    @Eq EReal ((Host.dotGeneral Cert.Reference4Ideal.dot_S8192x4224_S1024x4224_S8192x1024_1_1_0_0_n_n none a (extf .f32 b Cert.Reference4Ideal.Gen.bitsLt_bf16_f32) : FVec Ideal Cert.Reference4Ideal.S8192x1024 .f32) (ix2 r l)) (∑ k : Fin 4224, a (ix2 r k) * b (ix2 l k)) := by
  pointwise

/-- The printed program's table of bodies is this one's. -/
theorem defs_eq : Cert.Kernel4.defs (F := Bits) = defs (F := Bits) :=
  congrArg (Pipeline.defs pcfgs) (congrArg Defs.onTc (funext fun l => funext fun a => by
    match l, a with
    | ⟨0, _⟩, (t, s) => rfl))

/-- The call as printed runs and leaves its arguments and counters as they were. -/
theorem frame_kernel : Cert.quiescent_Kernel4 := fun m g _ => by
  rw [defs_eq]
  exact Gen.frame m g

/-- So does it over the extended reals. -/
theorem frame_kernelIdeal : Cert.quiescent_Kernel4Ideal := fun m g _ => Gen.frame m g

/-- The reference runs and leaves its arguments as they were; it has no counters. -/
theorem frame_reference : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

/-- The call's result is the reference's. -/
theorem algebraic : Cert.algebraic_Kernel4Ideal_Reference4Ideal := by
  intro m g m' g' _ hag
  refine ⟨Value.G2 m, Value.run m g,
    (θ_run Cert.Reference4Ideal.defs _ _).mono (fun r h c => ⟨(h c).1.trans ?_, (h c).2⟩) (Cert.Reference4Ideal.Value.run (F := Ideal) m' g')⟩
  rw [(hag c).1, (hag c).2]
  funext i
  refine Eq.trans ?_ ((reference_apply _ _ (i 0) (i 1)).trans (G2_eq m c i).symm)
  exact congrArg _ (eq_ix2 i)

end Cert.Kernel4Ideal.Mm
-- ==== Proof.Mm.K5.lean ====
module

public import proofs.«01_k».proof.Defs
public import proofs.«01_k».proof.Proof.Gen.Kernel5
public import proofs.«01_k».proof.Proof.Gen.Kernel5Ideal.Value
public import proofs.«01_k».proof.Proof.Gen.Reference5Ideal.Run
public import proofs.«01_k».proof.Proof.Mm.Sum
public import Idealize.ShloMosaic.Lib.Pipeline.ValueKit.Geometry
public import Idealize.ShloMosaic.Lib.ValueIdx
public import Idealize.ShloMosaic.Lib.Pointwise
public import Idealize.ShloMosaic.Adequacy
public import Idealize.ShloMosaic.Init

@[expose] public section

/-! An input projection: what the call leaves, over the extended reals, and the claims about it. -/

noncomputable section

namespace Cert.Kernel5Ideal.Mm
open Cert.Kernel5Ideal Cert.Kernel5Ideal.Gen Cert.Mm
open Idealize.ShloMosaic Idealize.ShloMosaic.TcCoe Idealize.SL.Sem

theorem hz : (![0, 0] : Fin 2 → ℕ) = fun _ => 0 := by funext a; fin_cases a <;> rfl

/-- A point stores its product in the output block. -/
theorem out {F : FTy → Type} [FloatOps F] (m : (ℓ : Loc nD τ sig) → Buf (Elt F) ℓ) (c : Dev nD) (t : Fin cfg0.N) :
    outsAt0 m c t = k0_pay2 k0_pay1 (iblk m c 0 t) (iblk m c 1 t) := by
  unfold outsAt0 out0_A_2
  rw [View.read_writes_eq_canon (h := fun y => cover0_A_2 (F := F) ..)]
  unfold kernelRun0_A
  dsimp only
  sl_unfold_words
  rw [View.canon_unit_zero hz, View.readCov_cons_toLoadRect, View.readCov_unit_zero (S := S1024x1408) _ hz]
  simp only [View.readAt_eq_ld, (hs0_0 t).read_unread, (hs0_1 t).read_unread, View.ld_unit_zero (S := S1024x1024) hz, View.ld_unit_zero (S := S1024x1408) hz]

variable (m : (ℓ : Loc nD τ sig) → Buf (Elt Ideal) ℓ) (c : Dev nD)

/-- A point's product, at an index. -/
theorem pay_apply (a : Vec Ideal S1024x1024 .f32) (b : Vec Ideal S1024x1408 .bf16) (r : Fin 1024) (l : Fin 1408) :
    k0_pay2 (F := Ideal) (k0_pay1 (F := Ideal)) a b (ix2 r l) = ∑ k : Fin 1024, a (ix2 r k) * b (ix2 k l) := by
  pointwise [k0_pay2, k0_pay1]

theorem index0 : ∀ t : Fin cfg0.N, win0_0.index t = ![t.val / 3, 0] := (by decide +kernel : ∀ t : Fin grid0.N, _)
theorem index1 : ∀ t : Fin cfg0.N, win0_1.index t = ![0, t.val % 3] := (by decide +kernel : ∀ t : Fin grid0.N, _)
theorem index2 : ∀ t : Fin cfg0.N, win0_2.index t = ![t.val / 3, t.val % 3] := (by decide +kernel : ∀ t : Fin grid0.N, _)

/-- The two arguments. -/
abbrev X : FVec Ideal S8192x1024 .f32 := m ((c : Thread nD τ).loc main_arg0)
abbrev W : FVec Ideal S1024x4224 .bf16 := m ((c : Thread nD τ).loc main_arg1)

theorem iblk0 (t : Fin cfg0.N) (r k : Fin 1024) : (iblk m c 0 t (ix2 r k : S1024x1024.Idx) : EReal) = at2 (X m c) (t.val / 3 * 1024 + r.val) k.val := by
  refine Eq.trans ?_ (at2_eq (X m c) ((win0_0.rect t).emb (ix2 r k : S1024x1024.Idx)) _ _ ?_ ?_)
  · rfl
  all_goals
    refine (Pipeline.Window.rect_emb_val win0_0 t (ix2 r k : S1024x1024.Idx) _).trans ?_
    rw [index0]
  · rfl
  · show 0 * 1024 + k.val = _; omega

theorem iblk1 (t : Fin cfg0.N) (k : Fin 1024) (l : Fin 1408) : (iblk m c 1 t (ix2 k l : S1024x1408.Idx) : EReal) = at2 (W m c) k.val (t.val % 3 * 1408 + l.val) := by
  refine Eq.trans ?_ (at2_eq (W m c) ((win0_1.rect t).emb (ix2 k l : S1024x1408.Idx)) _ _ ?_ ?_)
  · rfl
  all_goals
    refine (Pipeline.Window.rect_emb_val win0_1 t (ix2 k l : S1024x1408.Idx) _).trans ?_
    rw [index1]
  · show 0 * 1024 + k.val = _; omega
  · rfl

/-- What the call leaves: the product, at every index. -/
theorem arr_eq (i : S8192x4224.Idx) : @Eq EReal ((dats m 0 c).arrAt 2 cfg0.N i) (∑ k : Fin 1024, X m c (ix2 (i 0) k) * W m c (ix2 k (i 1))) := by
  have h0 : (i 0).val < 8192 := (i 0).isLt
  have h1 : (i 1).val < 4224 := (i 1).isLt
  let t : Fin cfg0.N := ⟨3 * ((i 0).val / 1024) + (i 1).val / 1408, lt_of_lt_of_eq (by omega) N_0.symm⟩
  let r : Fin 1024 := ⟨(i 0).val % 1024, Nat.mod_lt _ (by decide)⟩
  let l : Fin 1408 := ⟨(i 1).val % 1408, Nat.mod_lt _ (by decide)⟩
  have ht : t.val / 3 = (i 0).val / 1024 ∧ t.val % 3 = (i 1).val / 1408 := by
    show (3 * ((i 0).val / 1024) + (i 1).val / 1408) / 3 = _ ∧ (3 * ((i 0).val / 1024) + (i 1).val / 1408) % 3 = _; omega
  have he : i = (win0_2.rect t).emb (ix2 r l : S1024x1408.Idx) := by
    funext b
    refine Fin.ext (Eq.symm ?_)
    refine (Pipeline.Window.rect_emb_val win0_2 t (ix2 r l : S1024x1408.Idx) b).trans ?_
    rw [index2, ht.1, ht.2]
    fin_cases b
    · show (i 0).val / 1024 * 1024 + (i 0).val % 1024 = (i 0).val; omega
    · show (i 1).val / 1408 * 1408 + (i 1).val % 1408 = (i 1).val; omega
  have hb := congrFun ((Value.blocks2 m c t (flush0_2 t)).trans (Value.flushed2 m c t)) (ix2 r l : S1024x1408.Idx)
  refine (congrArg ((dats m 0 c).arrAt 2 cfg0.N) he).trans (hb.trans ?_)
  show outsAt0 m c t (ix2 r l) = _
  rw [out, pay_apply]
  refine Finset.sum_congr rfl fun k _ => ?_
  rw [iblk0, iblk1, ht.1, ht.2, at2_ix2 (X m c) (i 0) k, at2_ix2 (W m c) k (i 1)]
  congr 2
  · show (i 0).val / 1024 * 1024 + (i 0).val % 1024 = _; omega
  · show (i 1).val / 1408 * 1408 + (i 1).val % 1408 = _; omega

/-! ## The claims -/

/-- The reference's product, at an index. -/
theorem reference_apply (a : FVec Ideal Cert.Reference5Ideal.S8192x1024 .f32) (b : FVec Ideal Cert.Reference5Ideal.S1024x4224 .bf16) (r : Fin 8192) (l : Fin 4224) :
    @Eq EReal ((Host.dotGeneral Cert.Reference5Ideal.dot_S8192x1024_S1024x4224_S8192x4224_1_0_0_1_n_n none a (extf .f32 b Cert.Reference5Ideal.Gen.bitsLt_bf16_f32) : FVec Ideal Cert.Reference5Ideal.S8192x4224 .f32) (ix2 r l)) (∑ k : Fin 1024, a (ix2 r k) * b (ix2 k l)) := by
  pointwise

/-- The printed program's table of bodies is this one's. -/
theorem defs_eq : Cert.Kernel5.defs (F := Bits) = defs (F := Bits) :=
  congrArg (Pipeline.defs pcfgs) (congrArg Defs.onTc (funext fun l => funext fun a => by
    match l, a with
    | ⟨0, _⟩, (t, s) => rfl))

/-- The call as printed runs and leaves its arguments and counters as they were. -/
theorem frame_kernel : Cert.quiescent_Kernel5 := fun m g _ => by
  rw [defs_eq]
  exact Gen.frame m g

/-- So does it over the extended reals. -/
theorem frame_kernelIdeal : Cert.quiescent_Kernel5Ideal := fun m g _ => Gen.frame m g

/-- The reference runs and leaves its arguments as they were; it has no counters. -/
theorem frame_reference : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

/-- The call's result is the reference's. -/
theorem algebraic : Cert.algebraic_Kernel5Ideal_Reference5Ideal := by
  intro m g m' g' _ hag
  refine ⟨fun c => (dats m 0 c).arrAt 2 cfg0.N, Value.run_blocks m g,
    (θ_run Cert.Reference5Ideal.defs _ _).mono (fun r h c => ⟨(h c).1.trans ?_, (h c).2⟩) (Cert.Reference5Ideal.Value.run (F := Ideal) m' g')⟩
  rw [(hag c).1, (hag c).2]
  funext i
  refine Eq.trans ?_ ((reference_apply _ _ (i 0) (i 1)).trans (arr_eq m c i).symm)
  exact congrArg _ (eq_ix2 i)

end Cert.Kernel5Ideal.Mm
-- ==== Proof.Mm.K6.lean ====
module

public import proofs.«01_k».proof.Defs
public import proofs.«01_k».proof.Proof.Gen.Kernel6
public import proofs.«01_k».proof.Proof.Gen.Kernel6Ideal.Value
public import proofs.«01_k».proof.Proof.Gen.Reference6Ideal.Run
public import proofs.«01_k».proof.Proof.Mm.Sum
public import Idealize.ShloMosaic.Lib.Pipeline.ValueKit.Geometry
public import Idealize.ShloMosaic.Lib.ValueIdx
public import Idealize.ShloMosaic.Lib.Pointwise
public import Idealize.ShloMosaic.Adequacy
public import Idealize.ShloMosaic.Init

@[expose] public section

/-! The gradient of an output projection's input: what the call leaves, over the extended reals, and the claims about it. -/

noncomputable section

namespace Cert.Kernel6Ideal.Mm
open Cert.Kernel6Ideal Cert.Kernel6Ideal.Gen Cert.Mm
open Idealize.ShloMosaic Idealize.ShloMosaic.TcCoe Idealize.SL.Sem

theorem hz : (![0, 0] : Fin 2 → ℕ) = fun _ => 0 := by funext a; fin_cases a <;> rfl

/-- A point stores its product in the output block. -/
theorem out {F : FTy → Type} [FloatOps F] (m : (ℓ : Loc nD τ sig) → Buf (Elt F) ℓ) (c : Dev nD) (t : Fin cfg0.N) :
    outsAt0 m c t = k0_pay2 k0_pay1 (iblk m c 0 t) (iblk m c 1 t) := by
  unfold outsAt0 out0_A_2
  rw [View.read_writes_eq_canon (h := fun y => cover0_A_2 (F := F) ..)]
  unfold kernelRun0_A
  dsimp only
  sl_unfold_words
  rw [View.canon_unit_zero hz, View.readCov_cons_toLoadRect, View.readCov_unit_zero (S := S1024x1024) _ hz]
  simp only [View.readAt_eq_ld, (hs0_0 t).read_unread, (hs0_1 t).read_unread, View.ld_unit_zero (S := S1024x1024) hz]

variable (m : (ℓ : Loc nD τ sig) → Buf (Elt Ideal) ℓ) (c : Dev nD)

/-- A point's product, at an index. -/
theorem pay_apply (a : Vec Ideal S1024x1024 .f32) (b : Vec Ideal S1024x1024 .bf16) (r l : Fin 1024) :
    k0_pay2 (F := Ideal) (k0_pay1 (F := Ideal)) a b (ix2 r l) = ∑ k : Fin 1024, a (ix2 r k) * b (ix2 l k) := by
  pointwise [k0_pay2, k0_pay1]

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

/-- The two arguments. -/
abbrev D : FVec Ideal S8192x1024 .f32 := m ((c : Thread nD τ).loc main_arg0)
abbrev W : FVec Ideal S1024x1024 .bf16 := m ((c : Thread nD τ).loc main_arg1)

theorem iblk0 (t : Fin cfg0.N) (r k : Fin 1024) : (iblk m c 0 t (ix2 r k : S1024x1024.Idx) : EReal) = at2 (D m c) (t.val * 1024 + r.val) k.val := by
  refine Eq.trans ?_ (at2_eq (D m c) ((win0_0.rect t).emb (ix2 r k : S1024x1024.Idx)) _ _ ?_ ?_)
  · rfl
  all_goals
    refine (Pipeline.Window.rect_emb_val win0_0 t (ix2 r k : S1024x1024.Idx) _).trans ?_
    rw [index0]
  · rfl
  · show 0 * 1024 + k.val = _; omega

theorem iblk1 (t : Fin cfg0.N) (l k : Fin 1024) : (iblk m c 1 t (ix2 l k : S1024x1024.Idx) : EReal) = at2 (W m c) l.val k.val := by
  refine Eq.trans ?_ (at2_eq (W m c) ((win0_1.rect t).emb (ix2 l k : S1024x1024.Idx)) _ _ ?_ ?_)
  · rfl
  all_goals
    refine (Pipeline.Window.rect_emb_val win0_1 t (ix2 l k : S1024x1024.Idx) _).trans ?_
    rw [index1]
  · show 0 * 1024 + l.val = _; omega
  · show 0 * 1024 + k.val = _; omega

/-- What the call leaves: the product, at every index. -/
theorem arr_eq (i : S8192x1024.Idx) : @Eq EReal ((dats m 0 c).arrAt 2 cfg0.N i) (∑ k : Fin 1024, D m c (ix2 (i 0) k) * W m c (ix2 (i 1) k)) := by
  have h0 : (i 0).val < 8192 := (i 0).isLt
  have h1 : (i 1).val < 1024 := (i 1).isLt
  let t : Fin cfg0.N := ⟨(i 0).val / 1024, lt_of_lt_of_eq (by omega) N_0.symm⟩
  let r : Fin 1024 := ⟨(i 0).val % 1024, Nat.mod_lt _ (by decide)⟩
  let l : Fin 1024 := ⟨(i 1).val, h1⟩
  have he : i = (win0_2.rect t).emb (ix2 r l : S1024x1024.Idx) := by
    funext b
    refine Fin.ext (Eq.symm ?_)
    refine (Pipeline.Window.rect_emb_val win0_2 t (ix2 r l : S1024x1024.Idx) b).trans ?_
    rw [index2]
    fin_cases b
    · show (i 0).val / 1024 * 1024 + (i 0).val % 1024 = (i 0).val; omega
    · show 0 * 1024 + (i 1).val = (i 1).val; omega
  have hb := congrFun ((Value.blocks2 m c t (flush0_2 t)).trans (Value.flushed2 m c t)) (ix2 r l : S1024x1024.Idx)
  refine (congrArg ((dats m 0 c).arrAt 2 cfg0.N) he).trans (hb.trans ?_)
  show outsAt0 m c t (ix2 r l) = _
  rw [out, pay_apply]
  refine Finset.sum_congr rfl fun k _ => ?_
  rw [iblk0, iblk1, at2_ix2 (D m c) (i 0) k, at2_ix2 (W m c) (i 1) k]
  congr 2
  show (i 0).val / 1024 * 1024 + (i 0).val % 1024 = _; omega

/-! ## The claims -/

/-- The reference's product, at an index. -/
theorem reference_apply (a : FVec Ideal Cert.Reference6Ideal.S8192x1024 .f32) (b : FVec Ideal Cert.Reference6Ideal.S1024x1024 .bf16) (r : Fin 8192) (l : Fin 1024) :
    @Eq EReal ((Host.dotGeneral Cert.Reference6Ideal.dot_S8192x1024_S1024x1024_S8192x1024_1_1_0_0_n_n none a (extf .f32 b Cert.Reference6Ideal.Gen.bitsLt_bf16_f32) : FVec Ideal Cert.Reference6Ideal.S8192x1024 .f32) (ix2 r l)) (∑ k : Fin 1024, a (ix2 r k) * b (ix2 l k)) := by
  pointwise

/-- The printed program's table of bodies is this one's. -/
theorem defs_eq : Cert.Kernel6.defs (F := Bits) = defs (F := Bits) :=
  congrArg (Pipeline.defs pcfgs) (congrArg Defs.onTc (funext fun l => funext fun a => by
    match l, a with
    | ⟨0, _⟩, (t, s) => rfl))

/-- The call as printed runs and leaves its arguments and counters as they were. -/
theorem frame_kernel : Cert.quiescent_Kernel6 := fun m g _ => by
  rw [defs_eq]
  exact Gen.frame m g

/-- So does it over the extended reals. -/
theorem frame_kernelIdeal : Cert.quiescent_Kernel6Ideal := fun m g _ => Gen.frame m g

/-- The reference runs and leaves its arguments as they were; it has no counters. -/
theorem frame_reference : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

/-- The call's result is the reference's. -/
theorem algebraic : Cert.algebraic_Kernel6Ideal_Reference6Ideal := by
  intro m g m' g' _ hag
  refine ⟨fun c => (dats m 0 c).arrAt 2 cfg0.N, Value.run_blocks m g,
    (θ_run Cert.Reference6Ideal.defs _ _).mono (fun r h c => ⟨(h c).1.trans ?_, (h c).2⟩) (Cert.Reference6Ideal.Value.run (F := Ideal) m' g')⟩
  rw [(hag c).1, (hag c).2]
  funext i
  refine Eq.trans ?_ ((reference_apply _ _ (i 0) (i 1)).trans (arr_eq m c i).symm)
  exact congrArg _ (eq_ix2 i)

end Cert.Kernel6Ideal.Mm
-- ==== Proof.Mm.K7.lean ====
module

public import proofs.«01_k».proof.Defs
public import proofs.«01_k».proof.Proof.Gen.Kernel7
public import proofs.«01_k».proof.Proof.Gen.Kernel7Ideal.Value
public import proofs.«01_k».proof.Proof.Gen.Reference7Ideal.Run
public import proofs.«01_k».proof.Proof.Mm.Sum
public import Idealize.ShloMosaic.Lib.Pipeline.ValueKit.Geometry
public import Idealize.ShloMosaic.Lib.ValueIdx
public import Idealize.ShloMosaic.Lib.Pointwise
public import Idealize.ShloMosaic.Adequacy
public import Idealize.ShloMosaic.Init

@[expose] public section

/-! The gate of the per-layer input: what the call leaves, over the extended reals, and the claims about it. -/

noncomputable section

namespace Cert.Kernel7Ideal.Mm
open Cert.Kernel7Ideal Cert.Kernel7Ideal.Gen Cert.Mm
open Idealize.ShloMosaic Idealize.ShloMosaic.TcCoe Idealize.SL.Sem

theorem hz : (![0, 0] : Fin 2 → ℕ) = fun _ => 0 := by funext a; fin_cases a <;> rfl

/-- A point stores its product in the output block. -/
theorem out {F : FTy → Type} [FloatOps F] (m : (ℓ : Loc nD τ sig) → Buf (Elt F) ℓ) (c : Dev nD) (t : Fin cfg0.N) :
    outsAt0 m c t = k0_pay2 k0_pay1 (iblk m c 0 t) (iblk m c 1 t) := by
  unfold outsAt0 out0_A_2
  rw [View.read_writes_eq_canon (h := fun y => cover0_A_2 (F := F) ..)]
  unfold kernelRun0_A
  dsimp only
  sl_unfold_words
  rw [View.canon_unit_zero hz, View.readCov_cons_toLoadRect, View.readCov_unit_zero (S := S1024x1024) _ hz]
  simp only [View.readAt_eq_ld, (hs0_0 t).read_unread, (hs0_1 t).read_unread, View.ld_unit_zero (S := S1024x1024) hz]

variable (m : (ℓ : Loc nD τ sig) → Buf (Elt Ideal) ℓ) (c : Dev nD)

/-- A point's product, at an index. -/
theorem pay_apply (a : Vec Ideal S1024x1024 .f32) (b : Vec Ideal S1024x1024 .bf16) (r l : Fin 1024) :
    k0_pay2 (F := Ideal) (k0_pay1 (F := Ideal)) a b (ix2 r l) = ∑ k : Fin 1024, a (ix2 r k) * b (ix2 k l) := by
  pointwise [k0_pay2, k0_pay1]

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

/-- The two arguments. -/
abbrev X : FVec Ideal S8192x1024 .f32 := m ((c : Thread nD τ).loc main_arg0)
abbrev W : FVec Ideal S1024x1024 .bf16 := m ((c : Thread nD τ).loc main_arg1)

theorem iblk0 (t : Fin cfg0.N) (r k : Fin 1024) : (iblk m c 0 t (ix2 r k : S1024x1024.Idx) : EReal) = at2 (X m c) (t.val * 1024 + r.val) k.val := by
  refine Eq.trans ?_ (at2_eq (X m c) ((win0_0.rect t).emb (ix2 r k : S1024x1024.Idx)) _ _ ?_ ?_)
  · rfl
  all_goals
    refine (Pipeline.Window.rect_emb_val win0_0 t (ix2 r k : S1024x1024.Idx) _).trans ?_
    rw [index0]
  · rfl
  · show 0 * 1024 + k.val = _; omega

theorem iblk1 (t : Fin cfg0.N) (k l : Fin 1024) : (iblk m c 1 t (ix2 k l : S1024x1024.Idx) : EReal) = at2 (W m c) k.val l.val := by
  refine Eq.trans ?_ (at2_eq (W m c) ((win0_1.rect t).emb (ix2 k l : S1024x1024.Idx)) _ _ ?_ ?_)
  · rfl
  all_goals
    refine (Pipeline.Window.rect_emb_val win0_1 t (ix2 k l : S1024x1024.Idx) _).trans ?_
    rw [index1]
  · show 0 * 1024 + k.val = _; omega
  · show 0 * 1024 + l.val = _; omega

/-- What the call leaves: the product, at every index. -/
theorem arr_eq (i : S8192x1024.Idx) : @Eq EReal ((dats m 0 c).arrAt 2 cfg0.N i) (∑ k : Fin 1024, X m c (ix2 (i 0) k) * W m c (ix2 k (i 1))) := by
  have h0 : (i 0).val < 8192 := (i 0).isLt
  have h1 : (i 1).val < 1024 := (i 1).isLt
  let t : Fin cfg0.N := ⟨(i 0).val / 1024, lt_of_lt_of_eq (by omega) N_0.symm⟩
  let r : Fin 1024 := ⟨(i 0).val % 1024, Nat.mod_lt _ (by decide)⟩
  let l : Fin 1024 := ⟨(i 1).val, h1⟩
  have he : i = (win0_2.rect t).emb (ix2 r l : S1024x1024.Idx) := by
    funext b
    refine Fin.ext (Eq.symm ?_)
    refine (Pipeline.Window.rect_emb_val win0_2 t (ix2 r l : S1024x1024.Idx) b).trans ?_
    rw [index2]
    fin_cases b
    · show (i 0).val / 1024 * 1024 + (i 0).val % 1024 = (i 0).val; omega
    · show 0 * 1024 + (i 1).val = (i 1).val; omega
  have hb := congrFun ((Value.blocks2 m c t (flush0_2 t)).trans (Value.flushed2 m c t)) (ix2 r l : S1024x1024.Idx)
  refine (congrArg ((dats m 0 c).arrAt 2 cfg0.N) he).trans (hb.trans ?_)
  show outsAt0 m c t (ix2 r l) = _
  rw [out, pay_apply]
  refine Finset.sum_congr rfl fun k _ => ?_
  rw [iblk0, iblk1, at2_ix2 (X m c) (i 0) k, at2_ix2 (W m c) k (i 1)]
  congr 2
  show (i 0).val / 1024 * 1024 + (i 0).val % 1024 = _; omega

/-! ## The claims -/

/-- The reference's product, at an index. -/
theorem reference_apply (a : FVec Ideal Cert.Reference7Ideal.S8192x1024 .f32) (b : FVec Ideal Cert.Reference7Ideal.S1024x1024 .bf16) (r : Fin 8192) (l : Fin 1024) :
    @Eq EReal ((Host.dotGeneral Cert.Reference7Ideal.dot_S8192x1024_S1024x1024_S8192x1024_1_0_0_1_n_n none a (extf .f32 b Cert.Reference7Ideal.Gen.bitsLt_bf16_f32) : FVec Ideal Cert.Reference7Ideal.S8192x1024 .f32) (ix2 r l)) (∑ k : Fin 1024, a (ix2 r k) * b (ix2 k l)) := by
  pointwise

/-- The printed program's table of bodies is this one's. -/
theorem defs_eq : Cert.Kernel7.defs (F := Bits) = defs (F := Bits) :=
  congrArg (Pipeline.defs pcfgs) (congrArg Defs.onTc (funext fun l => funext fun a => by
    match l, a with
    | ⟨0, _⟩, (t, s) => rfl))

/-- The call as printed runs and leaves its arguments and counters as they were. -/
theorem frame_kernel : Cert.quiescent_Kernel7 := fun m g _ => by
  rw [defs_eq]
  exact Gen.frame m g

/-- So does it over the extended reals. -/
theorem frame_kernelIdeal : Cert.quiescent_Kernel7Ideal := fun m g _ => Gen.frame m g

/-- The reference runs and leaves its arguments as they were; it has no counters. -/
theorem frame_reference : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

/-- The call's result is the reference's. -/
theorem algebraic : Cert.algebraic_Kernel7Ideal_Reference7Ideal := by
  intro m g m' g' _ hag
  refine ⟨fun c => (dats m 0 c).arrAt 2 cfg0.N, Value.run_blocks m g,
    (θ_run Cert.Reference7Ideal.defs _ _).mono (fun r h c => ⟨(h c).1.trans ?_, (h c).2⟩) (Cert.Reference7Ideal.Value.run (F := Ideal) m' g')⟩
  rw [(hag c).1, (hag c).2]
  funext i
  refine Eq.trans ?_ ((reference_apply _ _ (i 0) (i 1)).trans (arr_eq m c i).symm)
  exact congrArg _ (eq_ix2 i)

end Cert.Kernel7Ideal.Mm
-- ==== Proof.Mm.K8.lean ====
module

public import proofs.«01_k».proof.Defs
public import proofs.«01_k».proof.Proof.Gen.Kernel8
public import proofs.«01_k».proof.Proof.Gen.Kernel8Ideal.Value
public import proofs.«01_k».proof.Proof.Gen.Reference8Ideal.Run
public import proofs.«01_k».proof.Proof.Mm.Sum
public import Idealize.ShloMosaic.Lib.Pipeline.ValueKit.Geometry
public import Idealize.ShloMosaic.Lib.ValueIdx
public import Idealize.ShloMosaic.Lib.Pointwise
public import Idealize.ShloMosaic.Adequacy
public import Idealize.ShloMosaic.Init

@[expose] public section

/-! An output projection: what the call leaves, over the extended reals, and the claims about it. -/

noncomputable section

namespace Cert.Kernel8Ideal.Mm
open Cert.Kernel8Ideal Cert.Kernel8Ideal.Gen Cert.Mm
open Idealize.ShloMosaic Idealize.ShloMosaic.TcCoe Idealize.SL.Sem

theorem hz : (![0, 0] : Fin 2 → ℕ) = fun _ => 0 := by funext a; fin_cases a <;> rfl

/-- A point stores its product in the output block. -/
theorem out {F : FTy → Type} [FloatOps F] (m : (ℓ : Loc nD τ sig) → Buf (Elt F) ℓ) (c : Dev nD) (t : Fin cfg0.N) :
    outsAt0 m c t = k0_pay2 k0_pay1 (iblk m c 0 t) (iblk m c 1 t) := by
  unfold outsAt0 out0_A_2
  rw [View.read_writes_eq_canon (h := fun y => cover0_A_2 (F := F) ..)]
  unfold kernelRun0_A
  dsimp only
  sl_unfold_words
  rw [View.canon_unit_zero hz, View.readCov_cons_toLoadRect, View.readCov_unit_zero (S := S1024x1024) _ hz]
  simp only [View.readAt_eq_ld, (hs0_0 t).read_unread, (hs0_1 t).read_unread, View.ld_unit_zero (S := S1024x1024) hz]

variable (m : (ℓ : Loc nD τ sig) → Buf (Elt Ideal) ℓ) (c : Dev nD)

/-- A point's product, at an index. -/
theorem pay_apply (a : Vec Ideal S1024x1024 .bf16) (b : Vec Ideal S1024x1024 .bf16) (r l : Fin 1024) :
    k0_pay2 (F := Ideal) (k0_pay1 (F := Ideal)) a b (ix2 r l) = ∑ k : Fin 1024, a (ix2 r k) * b (ix2 k l) := by
  pointwise [k0_pay2, k0_pay1]

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

/-- The two arguments. -/
abbrev X : FVec Ideal S8192x1024 .bf16 := m ((c : Thread nD τ).loc main_arg0)
abbrev W : FVec Ideal S1024x1024 .bf16 := m ((c : Thread nD τ).loc main_arg1)

theorem iblk0 (t : Fin cfg0.N) (r k : Fin 1024) : (iblk m c 0 t (ix2 r k : S1024x1024.Idx) : EReal) = at2 (X m c) (t.val * 1024 + r.val) k.val := by
  refine Eq.trans ?_ (at2_eq (X m c) ((win0_0.rect t).emb (ix2 r k : S1024x1024.Idx)) _ _ ?_ ?_)
  · rfl
  all_goals
    refine (Pipeline.Window.rect_emb_val win0_0 t (ix2 r k : S1024x1024.Idx) _).trans ?_
    rw [index0]
  · rfl
  · show 0 * 1024 + k.val = _; omega

theorem iblk1 (t : Fin cfg0.N) (k l : Fin 1024) : (iblk m c 1 t (ix2 k l : S1024x1024.Idx) : EReal) = at2 (W m c) k.val l.val := by
  refine Eq.trans ?_ (at2_eq (W m c) ((win0_1.rect t).emb (ix2 k l : S1024x1024.Idx)) _ _ ?_ ?_)
  · rfl
  all_goals
    refine (Pipeline.Window.rect_emb_val win0_1 t (ix2 k l : S1024x1024.Idx) _).trans ?_
    rw [index1]
  · show 0 * 1024 + k.val = _; omega
  · show 0 * 1024 + l.val = _; omega

/-- What the call leaves: the product, at every index. -/
theorem arr_eq (i : S8192x1024.Idx) : @Eq EReal ((dats m 0 c).arrAt 2 cfg0.N i) (∑ k : Fin 1024, X m c (ix2 (i 0) k) * W m c (ix2 k (i 1))) := by
  have h0 : (i 0).val < 8192 := (i 0).isLt
  have h1 : (i 1).val < 1024 := (i 1).isLt
  let t : Fin cfg0.N := ⟨(i 0).val / 1024, lt_of_lt_of_eq (by omega) N_0.symm⟩
  let r : Fin 1024 := ⟨(i 0).val % 1024, Nat.mod_lt _ (by decide)⟩
  let l : Fin 1024 := ⟨(i 1).val, h1⟩
  have he : i = (win0_2.rect t).emb (ix2 r l : S1024x1024.Idx) := by
    funext b
    refine Fin.ext (Eq.symm ?_)
    refine (Pipeline.Window.rect_emb_val win0_2 t (ix2 r l : S1024x1024.Idx) b).trans ?_
    rw [index2]
    fin_cases b
    · show (i 0).val / 1024 * 1024 + (i 0).val % 1024 = (i 0).val; omega
    · show 0 * 1024 + (i 1).val = (i 1).val; omega
  have hb := congrFun ((Value.blocks2 m c t (flush0_2 t)).trans (Value.flushed2 m c t)) (ix2 r l : S1024x1024.Idx)
  refine (congrArg ((dats m 0 c).arrAt 2 cfg0.N) he).trans (hb.trans ?_)
  show outsAt0 m c t (ix2 r l) = _
  rw [out, pay_apply]
  refine Finset.sum_congr rfl fun k _ => ?_
  rw [iblk0, iblk1, at2_ix2 (X m c) (i 0) k, at2_ix2 (W m c) k (i 1)]
  congr 2
  show (i 0).val / 1024 * 1024 + (i 0).val % 1024 = _; omega

/-! ## The claims -/

/-- The reference's product, at an index. -/
theorem reference_apply (a : FVec Ideal Cert.Reference8Ideal.S8192x1024 .bf16) (b : FVec Ideal Cert.Reference8Ideal.S1024x1024 .bf16) (r : Fin 8192) (l : Fin 1024) :
    @Eq EReal ((Host.dotGeneral Cert.Reference8Ideal.dot_S8192x1024_S1024x1024_S8192x1024_1_0_0_1_n_n none (extf .f32 a Cert.Reference8Ideal.Gen.bitsLt_bf16_f32) (extf .f32 b Cert.Reference8Ideal.Gen.bitsLt_bf16_f32) : FVec Ideal Cert.Reference8Ideal.S8192x1024 .f32) (ix2 r l)) (∑ k : Fin 1024, a (ix2 r k) * b (ix2 k l)) := by
  pointwise

/-- The printed program's table of bodies is this one's. -/
theorem defs_eq : Cert.Kernel8.defs (F := Bits) = defs (F := Bits) :=
  congrArg (Pipeline.defs pcfgs) (congrArg Defs.onTc (funext fun l => funext fun a => by
    match l, a with
    | ⟨0, _⟩, (t, s) => rfl))

/-- The call as printed runs and leaves its arguments and counters as they were. -/
theorem frame_kernel : Cert.quiescent_Kernel8 := fun m g _ => by
  rw [defs_eq]
  exact Gen.frame m g

/-- So does it over the extended reals. -/
theorem frame_kernelIdeal : Cert.quiescent_Kernel8Ideal := fun m g _ => Gen.frame m g

/-- The reference runs and leaves its arguments as they were; it has no counters. -/
theorem frame_reference : Cert.quiescent_Reference8Ideal := fun m g _ =>
  (θ_run Cert.Reference8Ideal.defs _ _).mono (fun r h => ⟨fun c => (h c).2, sem_eq_zero_of_no_sems (by decide) r.2⟩)
    (Cert.Reference8Ideal.Value.run (F := Ideal) m g)

/-- The call's result is the reference's. -/
theorem algebraic : Cert.algebraic_Kernel8Ideal_Reference8Ideal := by
  intro m g m' g' _ hag
  refine ⟨fun c => (dats m 0 c).arrAt 2 cfg0.N, Value.run_blocks m g,
    (θ_run Cert.Reference8Ideal.defs _ _).mono (fun r h c => ⟨(h c).1.trans ?_, (h c).2⟩) (Cert.Reference8Ideal.Value.run (F := Ideal) m' g')⟩
  rw [(hag c).1, (hag c).2]
  funext i
  refine Eq.trans ?_ ((reference_apply _ _ (i 0) (i 1)).trans (arr_eq m c i).symm)
  exact congrArg _ (eq_ix2 i)

end Cert.Kernel8Ideal.Mm
-- ==== Proof.Mm.K9.lean ====
module

public import proofs.«01_k».proof.Defs
public import proofs.«01_k».proof.Proof.Gen.Kernel9
public import proofs.«01_k».proof.Proof.Gen.Kernel9Ideal.Value
public import proofs.«01_k».proof.Proof.Gen.Reference9Ideal.Run
public import proofs.«01_k».proof.Proof.Mm.Sum
public import Idealize.ShloMosaic.Lib.Pipeline.ValueKit.Geometry
public import Idealize.ShloMosaic.Lib.ValueIdx
public import Idealize.ShloMosaic.Lib.Pointwise
public import Idealize.ShloMosaic.Adequacy
public import Idealize.ShloMosaic.Init

@[expose] public section

/-! The gradient of a gate's weights: what the call leaves, over the extended reals, and the claims about it. -/

noncomputable section

namespace Cert.Kernel9Ideal.Mm
open Cert.Kernel9Ideal Cert.Kernel9Ideal.Gen Cert.Mm
open Idealize.ShloMosaic Idealize.ShloMosaic.TcCoe Idealize.SL.Sem

theorem hz : (![0, 0] : Fin 2 → ℕ) = fun _ => 0 := by funext a; fin_cases a <;> rfl

section Step
variable {F : FTy → Type} [FloatOps F] (m : (ℓ : Loc nD τ sig) → Buf (Elt F) ℓ) (c : Dev nD) (t : Fin cfg0.N)

/-- The first point of a run leaves in the accumulator its product over zero. -/
theorem first (h0 : t.val % 8 = 0) : (outsAt0 m c t.val t.isLt).2 = k0_pay2 k0_pay1 (iblk m c 0 t) (iblk m c 1 t) := by
  rw [outsAt0_A m c t h0 (by omega)]
  dsimp only
  unfold sout0_A_0
  rw [View.read_writes_eq_canon (h := fun y => scover0_A_0 (F := F) ..)]
  unfold kernelRun0_A
  dsimp only
  sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S1024x1024) hz]

/-- A point in the middle of a run adds its product. -/
theorem middle (h0 : ¬t.val % 8 = 0) (h1 : ¬t.val % 8 = 7) : (outsAt0 m c t.val t.isLt).2
    = k0_pay2 (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon (h := fun y => scover0_B_0 (F := F) ..)]
  unfold kernelRun0_B
  dsimp only
  sl_unfold_words
  rw [View.canon_unit_zero hz]
  simp only [View.readAt_eq_ld, (hs0_0 t).read_unread, (hs0_1 t).read_unread, (Memref.isWhole_whole _).read_unread, View.ld_unit_zero (S := S1024x1024) hz]

/-- The last point of a run adds its product and stores the sum in the output block. -/
theorem last (h1 : t.val % 8 = 7) : (outsAt0 m c t.val t.isLt).1
    = k0_pay2 (outsAt0 m c (t.val - 1) (Nat.lt_of_le_of_lt (Nat.sub_le _ _) t.isLt)).2 (iblk m c 0 t) (iblk m c 1 t) := by
  rw [outsAt0_C m c t (by omega) h1]
  dsimp only
  unfold out0_C_2
  rw [View.read_writes_eq_canon (h := fun y => cover0_C_2 (F := F) ..)]
  unfold kernelRun0_C
  dsimp only
  sl_unfold_words
  rw [View.canon_unit_zero hz, View.readCov_unit_zero (S := S1024x1024) _ hz]
  simp only [View.readAt_eq_ld, (hs0_0 t).read_unread, (hs0_1 t).read_unread, (Memref.isWhole_whole _).read_unread, View.ld_unit_zero (S := S1024x1024) hz]

end Step

variable (m : (ℓ : Loc nD τ sig) → Buf (Elt Ideal) ℓ) (c : Dev nD)

/-- A point's product, at an index, added to what it is given. -/
theorem pay_apply (p : Vec Ideal S1024x1024 .f32) (a : Vec Ideal S1024x1024 .f32) (b : Vec Ideal S1024x1024 .f32) (r l : Fin 1024) :
    k0_pay2 (F := Ideal) p a b (ix2 r l) = p (ix2 r l) + ∑ k : Fin 1024, a (ix2 k r) * b (ix2 k l) := by
  pointwise [k0_pay2]

theorem zero_apply (r l : Fin 1024) : k0_pay1 (F := Ideal) (ix2 r l) = (0 : EReal) := by
  pointwise [k0_pay1]

/-! ## Where a point's blocks lie -/

theorem index0 : ∀ t : Fin cfg0.N, win0_0.index t = ![t.val % 8, 0] := (by decide +kernel : ∀ t : Fin grid0.N, _)
theorem index1 : ∀ t : Fin cfg0.N, win0_1.index t = ![t.val % 8, 0] := (by decide +kernel : ∀ t : Fin grid0.N, _)

/-- The two arguments. -/
abbrev X : FVec Ideal S8192x1024 .f32 := m ((c : Thread nD τ).loc main_arg0)
abbrev D : FVec Ideal S8192x1024 .f32 := m ((c : Thread nD τ).loc main_arg1)

theorem iblk0 (t : Fin cfg0.N) (k r : Fin 1024) : (iblk m c 0 t (ix2 k r : S1024x1024.Idx) : EReal) = at2 (X m c) (t.val % 8 * 1024 + k.val) r.val := by
  refine Eq.trans ?_ (at2_eq (X m c) ((win0_0.rect t).emb (ix2 k r : S1024x1024.Idx)) _ _ ?_ ?_)
  · rfl
  all_goals
    refine (Pipeline.Window.rect_emb_val win0_0 t (ix2 k r : S1024x1024.Idx) _).trans ?_
    rw [index0]
  · rfl
  · show 0 * 1024 + r.val = _; omega

theorem iblk1 (t : Fin cfg0.N) (k : Fin 1024) (l : Fin 1024) : (iblk m c 1 t (ix2 k l : S1024x1024.Idx) : EReal) = at2 (D m c) (t.val % 8 * 1024 + k.val) l.val := by
  refine Eq.trans ?_ (at2_eq (D m c) ((win0_1.rect t).emb (ix2 k l : S1024x1024.Idx)) _ _ ?_ ?_)
  · rfl
  all_goals
    refine (Pipeline.Window.rect_emb_val win0_1 t (ix2 k l : S1024x1024.Idx) _).trans ?_
    rw [index1]
  · rfl
  · show 0 * 1024 + l.val = _; omega

/-! ## The sum -/

/-- A point's product at a place of its block. -/
def term (r l : Fin 1024) (n : ℕ) : EReal :=
  ∑ k : Fin 1024, at2 (X m c) (n % 8 * 1024 + k.val) r.val * at2 (D m c) (n % 8 * 1024 + k.val) l.val

theorem pay_blk (p : Vec Ideal S1024x1024 .f32) (t : Fin cfg0.N) (r l : Fin 1024) :
    k0_pay2 (F := Ideal) p (iblk m c 0 t) (iblk m c 1 t) (ix2 r l) = p (ix2 r l) + term m c r l t.val := by
  rw [pay_apply]
  refine congrArg _ (Finset.sum_congr rfl fun k _ => ?_)
  rw [iblk0, iblk1]

/-- A run's last point stores the whole product. -/
theorem out (r l : Fin 1024) (q : ℕ) (h : 8 * q + 7 < cfg0.N) :
    (outsAt0 m c (8 * q + 7) h).1 (ix2 r l) = ∑ k : Fin 8192, at2 (X m c) k.val r.val * at2 (D m c) k.val l.val :=
  run_total (R := 8) (b := 1024) (by decide) (fun n h => (outsAt0 m c n h).2 (ix2 r l)) (fun n h => (outsAt0 m c n h).1 (ix2 r l)) (term m c r l)
    (fun k => at2 (X m c) k r.val * at2 (D m c) k l.val)
    (fun n h h0 => (congrFun (first m c ⟨n, h⟩ h0) _).trans ((pay_blk ..).trans (by rw [zero_apply, zero_add])))
    (fun n h h0 h1 => (congrFun (middle m c ⟨n, h⟩ h0 h1) _).trans (pay_blk ..))
    (fun n h h1 => (congrFun (last m c ⟨n, h⟩ h1) _).trans (pay_blk ..)) q
    (fun u hu => by unfold term; rw [(by omega : (8 * q + u) % 8 = u)]) h

/-- What the call leaves: the product, at every index. -/
theorem G2_eq (i : S1024x1024.Idx) : @Eq EReal (Value.G2 m c i) (∑ k : Fin 8192, X m c (ix2 k (i 0)) * D m c (ix2 k (i 1))) := by
  have h0 : (i 0).val < 1024 := (i 0).isLt
  have h1 : (i 1).val < 1024 := (i 1).isLt
  have hN : cfg0.N = 8 := N_0
  have hp : Value.pt2Of i = 8 * 0 + 7 := by
    show 8 * (1 * ((i 0).val / 1024 - 0) + 1 * ((i 1).val / 1024 - 0)) + 7 = _; omega
  have hl : Value.loc2Of i = ix2 (⟨(i 0).val, h0⟩ : Fin 1024) (⟨(i 1).val, h1⟩ : Fin 1024) := by
    refine (eq_ix2 _).trans (congrArg₂ ix2 (Fin.ext ?_) (Fin.ext ?_))
    · show (i 0).val % 1024 = (i 0).val; omega
    · show (i 1).val % 1024 = (i 1).val; omega
  unfold Value.G2
  rw [dif_pos (by omega : Value.pt2Of i < cfg0.N), Value.fold0_congr m c _ (by omega) (8 * 0 + 7) (by omega) hp,
    ← Value.outsAt0_sweep m c _ (by omega), hl, out]
  refine Finset.sum_congr rfl fun k _ => ?_
  rw [at2_ix2 (X m c) k (i 0), at2_ix2 (D m c) k (i 1)]

/-! ## The claims -/

/-- The reference's product, at an index. -/
theorem reference_apply (a : FVec Ideal Cert.Reference9Ideal.S8192x1024 .f32) (b : FVec Ideal Cert.Reference9Ideal.S8192x1024 .f32) (r : Fin 1024) (l : Fin 1024) :
    @Eq EReal ((transpose Cert.Reference9Ideal.S1024x1024 [1, 0] (Host.dotGeneral Cert.Reference9Ideal.dot_S8192x1024_S8192x1024_S1024x1024_0_0_1_1_n_n none b a) Cert.Reference9Ideal.Gen.transposes_S1024x1024_S1024x1024_1_0 : FVec Ideal Cert.Reference9Ideal.S1024x1024 .f32) (ix2 r l)) (∑ k : Fin 8192, a (ix2 k r) * b (ix2 k l)) := by
  refine Eq.trans ?_ (Finset.sum_congr rfl fun k _ => mul_comm (b (ix2 k l)) (a (ix2 k r)))
  pointwise

/-- The printed program's table of bodies is this one's. -/
theorem defs_eq : Cert.Kernel9.defs (F := Bits) = defs (F := Bits) :=
  congrArg (Pipeline.defs pcfgs) (congrArg Defs.onTc (funext fun l => funext fun a => by
    match l, a with
    | ⟨0, _⟩, (t, s) => rfl))

/-- The call as printed runs and leaves its arguments and counters as they were. -/
theorem frame_kernel : Cert.quiescent_Kernel9 := fun m g _ => by
  rw [defs_eq]
  exact Gen.frame m g

/-- So does it over the extended reals. -/
theorem frame_kernelIdeal : Cert.quiescent_Kernel9Ideal := fun m g _ => Gen.frame m g

/-- The reference runs and leaves its arguments as they were; it has no counters. -/
theorem frame_reference : Cert.quiescent_Reference9Ideal := fun m g _ =>
  (θ_run Cert.Reference9Ideal.defs _ _).mono (fun r h => ⟨fun c => (h c).2, sem_eq_zero_of_no_sems (by decide) r.2⟩)
    (Cert.Reference9Ideal.Value.run (F := Ideal) m g)

/-- The call's result is the reference's. -/
theorem algebraic : Cert.algebraic_Kernel9Ideal_Reference9Ideal := by
  intro m g m' g' _ hag
  refine ⟨Value.G2 m, Value.run m g,
    (θ_run Cert.Reference9Ideal.defs _ _).mono (fun r h c => ⟨(h c).1.trans ?_, (h c).2⟩) (Cert.Reference9Ideal.Value.run (F := Ideal) m' g')⟩
  rw [(hag c).1, (hag c).2]
  funext i
  refine Eq.trans ?_ ((reference_apply _ _ (i 0) (i 1)).trans (G2_eq m c i).symm)
  exact congrArg _ (eq_ix2 i)

end Cert.Kernel9Ideal.Mm
-- ==== Proof.Mm.K10.lean ====
module

public import proofs.«01_k».proof.Defs
public import proofs.«01_k».proof.Proof.Gen.Kernel10
public import proofs.«01_k».proof.Proof.Gen.Kernel10Ideal.Value
public import proofs.«01_k».proof.Proof.Gen.Reference10Ideal.Run
public import proofs.«01_k».proof.Proof.Mm.Sum
public import Idealize.ShloMosaic.Lib.Pipeline.ValueKit.Geometry
public import Idealize.ShloMosaic.Lib.ValueIdx
public import Idealize.ShloMosaic.Lib.Pointwise
public import Idealize.ShloMosaic.Adequacy
public import Idealize.ShloMosaic.Init

@[expose] public section

/-! The gradient of an output projection's weights: what the call leaves, over the extended reals, and the claims about it. -/

noncomputable section

namespace Cert.Kernel10Ideal.Mm
open Cert.Kernel10Ideal Cert.Kernel10Ideal.Gen Cert.Mm
open Idealize.ShloMosaic Idealize.ShloMosaic.TcCoe Idealize.SL.Sem

theorem hz : (![0, 0] : Fin 2 → ℕ) = fun _ => 0 := by funext a; fin_cases a <;> rfl

section Step
variable {F : FTy → Type} [FloatOps F] (m : (ℓ : Loc nD τ sig) → Buf (Elt F) ℓ) (c : Dev nD) (t : Fin cfg0.N)

/-- The first point of a run leaves in the accumulator its product over zero. -/
theorem first (h0 : t.val % 8 = 0) : (outsAt0 m c t.val t.isLt).2 = k0_pay2 k0_pay1 (iblk m c 0 t) (iblk m c 1 t) := by
  rw [outsAt0_A m c t h0 (by omega)]
  dsimp only
  unfold sout0_A_0
  rw [View.read_writes_eq_canon (h := fun y => scover0_A_0 (F := F) ..)]
  unfold kernelRun0_A
  dsimp only
  sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S1024x1024) hz]

/-- A point in the middle of a run adds its product. -/
theorem middle (h0 : ¬t.val % 8 = 0) (h1 : ¬t.val % 8 = 7) : (outsAt0 m c t.val t.isLt).2
    = k0_pay2 (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon (h := fun y => scover0_B_0 (F := F) ..)]
  unfold kernelRun0_B
  dsimp only
  sl_unfold_words
  rw [View.canon_unit_zero hz]
  simp only [View.readAt_eq_ld, (hs0_0 t).read_unread, (hs0_1 t).read_unread, (Memref.isWhole_whole _).read_unread, View.ld_unit_zero (S := S1024x1024) hz]

/-- The last point of a run adds its product and stores the sum in the output block. -/
theorem last (h1 : t.val % 8 = 7) : (outsAt0 m c t.val t.isLt).1
    = k0_pay2 (outsAt0 m c (t.val - 1) (Nat.lt_of_le_of_lt (Nat.sub_le _ _) t.isLt)).2 (iblk m c 0 t) (iblk m c 1 t) := by
  rw [outsAt0_C m c t (by omega) h1]
  dsimp only
  unfold out0_C_2
  rw [View.read_writes_eq_canon (h := fun y => cover0_C_2 (F := F) ..)]
  unfold kernelRun0_C
  dsimp only
  sl_unfold_words
  rw [View.canon_unit_zero hz, View.readCov_unit_zero (S := S1024x1024) _ hz]
  simp only [View.readAt_eq_ld, (hs0_0 t).read_unread, (hs0_1 t).read_unread, (Memref.isWhole_whole _).read_unread, View.ld_unit_zero (S := S1024x1024) hz]

end Step

variable (m : (ℓ : Loc nD τ sig) → Buf (Elt Ideal) ℓ) (c : Dev nD)

/-- A point's product, at an index, added to what it is given. -/
theorem pay_apply (p : Vec Ideal S1024x1024 .f32) (a : Vec Ideal S1024x1024 .bf16) (b : Vec Ideal S1024x1024 .f32) (r l : Fin 1024) :
    k0_pay2 (F := Ideal) p a b (ix2 r l) = p (ix2 r l) + ∑ k : Fin 1024, a (ix2 k r) * b (ix2 k l) := by
  pointwise [k0_pay2]

theorem zero_apply (r l : Fin 1024) : k0_pay1 (F := Ideal) (ix2 r l) = (0 : EReal) := by
  pointwise [k0_pay1]

/-! ## Where a point's blocks lie -/

theorem index0 : ∀ t : Fin cfg0.N, win0_0.index t = ![t.val % 8, 0] := (by decide +kernel : ∀ t : Fin grid0.N, _)
theorem index1 : ∀ t : Fin cfg0.N, win0_1.index t = ![t.val % 8, 0] := (by decide +kernel : ∀ t : Fin grid0.N, _)

/-- The two arguments. -/
abbrev X : FVec Ideal S8192x1024 .bf16 := m ((c : Thread nD τ).loc main_arg0)
abbrev D : FVec Ideal S8192x1024 .f32 := m ((c : Thread nD τ).loc main_arg1)

theorem iblk0 (t : Fin cfg0.N) (k r : Fin 1024) : (iblk m c 0 t (ix2 k r : S1024x1024.Idx) : EReal) = at2 (X m c) (t.val % 8 * 1024 + k.val) r.val := by
  refine Eq.trans ?_ (at2_eq (X m c) ((win0_0.rect t).emb (ix2 k r : S1024x1024.Idx)) _ _ ?_ ?_)
  · rfl
  all_goals
    refine (Pipeline.Window.rect_emb_val win0_0 t (ix2 k r : S1024x1024.Idx) _).trans ?_
    rw [index0]
  · rfl
  · show 0 * 1024 + r.val = _; omega

theorem iblk1 (t : Fin cfg0.N) (k : Fin 1024) (l : Fin 1024) : (iblk m c 1 t (ix2 k l : S1024x1024.Idx) : EReal) = at2 (D m c) (t.val % 8 * 1024 + k.val) l.val := by
  refine Eq.trans ?_ (at2_eq (D m c) ((win0_1.rect t).emb (ix2 k l : S1024x1024.Idx)) _ _ ?_ ?_)
  · rfl
  all_goals
    refine (Pipeline.Window.rect_emb_val win0_1 t (ix2 k l : S1024x1024.Idx) _).trans ?_
    rw [index1]
  · rfl
  · show 0 * 1024 + l.val = _; omega

/-! ## The sum -/

/-- A point's product at a place of its block. -/
def term (r l : Fin 1024) (n : ℕ) : EReal :=
  ∑ k : Fin 1024, at2 (X m c) (n % 8 * 1024 + k.val) r.val * at2 (D m c) (n % 8 * 1024 + k.val) l.val

theorem pay_blk (p : Vec Ideal S1024x1024 .f32) (t : Fin cfg0.N) (r l : Fin 1024) :
    k0_pay2 (F := Ideal) p (iblk m c 0 t) (iblk m c 1 t) (ix2 r l) = p (ix2 r l) + term m c r l t.val := by
  rw [pay_apply]
  refine congrArg _ (Finset.sum_congr rfl fun k _ => ?_)
  rw [iblk0, iblk1]

/-- A run's last point stores the whole product. -/
theorem out (r l : Fin 1024) (q : ℕ) (h : 8 * q + 7 < cfg0.N) :
    (outsAt0 m c (8 * q + 7) h).1 (ix2 r l) = ∑ k : Fin 8192, at2 (X m c) k.val r.val * at2 (D m c) k.val l.val :=
  run_total (R := 8) (b := 1024) (by decide) (fun n h => (outsAt0 m c n h).2 (ix2 r l)) (fun n h => (outsAt0 m c n h).1 (ix2 r l)) (term m c r l)
    (fun k => at2 (X m c) k r.val * at2 (D m c) k l.val)
    (fun n h h0 => (congrFun (first m c ⟨n, h⟩ h0) _).trans ((pay_blk ..).trans (by rw [zero_apply, zero_add])))
    (fun n h h0 h1 => (congrFun (middle m c ⟨n, h⟩ h0 h1) _).trans (pay_blk ..))
    (fun n h h1 => (congrFun (last m c ⟨n, h⟩ h1) _).trans (pay_blk ..)) q
    (fun u hu => by unfold term; rw [(by omega : (8 * q + u) % 8 = u)]) h

/-- What the call leaves: the product, at every index. -/
theorem G2_eq (i : S1024x1024.Idx) : @Eq EReal (Value.G2 m c i) (∑ k : Fin 8192, X m c (ix2 k (i 0)) * D m c (ix2 k (i 1))) := by
  have h0 : (i 0).val < 1024 := (i 0).isLt
  have h1 : (i 1).val < 1024 := (i 1).isLt
  have hN : cfg0.N = 8 := N_0
  have hp : Value.pt2Of i = 8 * 0 + 7 := by
    show 8 * (1 * ((i 0).val / 1024 - 0) + 1 * ((i 1).val / 1024 - 0)) + 7 = _; omega
  have hl : Value.loc2Of i = ix2 (⟨(i 0).val, h0⟩ : Fin 1024) (⟨(i 1).val, h1⟩ : Fin 1024) := by
    refine (eq_ix2 _).trans (congrArg₂ ix2 (Fin.ext ?_) (Fin.ext ?_))
    · show (i 0).val % 1024 = (i 0).val; omega
    · show (i 1).val % 1024 = (i 1).val; omega
  unfold Value.G2
  rw [dif_pos (by omega : Value.pt2Of i < cfg0.N), Value.fold0_congr m c _ (by omega) (8 * 0 + 7) (by omega) hp,
    ← Value.outsAt0_sweep m c _ (by omega), hl, out]
  refine Finset.sum_congr rfl fun k _ => ?_
  rw [at2_ix2 (X m c) k (i 0), at2_ix2 (D m c) k (i 1)]

/-! ## The claims -/

/-- The reference's product, at an index. -/
theorem reference_apply (a : FVec Ideal Cert.Reference10Ideal.S8192x1024 .bf16) (b : FVec Ideal Cert.Reference10Ideal.S8192x1024 .f32) (r : Fin 1024) (l : Fin 1024) :
    @Eq EReal ((transpose Cert.Reference10Ideal.S1024x1024 [1, 0] (Host.dotGeneral Cert.Reference10Ideal.dot_S8192x1024_S8192x1024_S1024x1024_0_0_1_1_n_n none b (extf .f32 a Cert.Reference10Ideal.Gen.bitsLt_bf16_f32)) Cert.Reference10Ideal.Gen.transposes_S1024x1024_S1024x1024_1_0 : FVec Ideal Cert.Reference10Ideal.S1024x1024 .f32) (ix2 r l)) (∑ k : Fin 8192, a (ix2 k r) * b (ix2 k l)) := by
  refine Eq.trans ?_ (Finset.sum_congr rfl fun k _ => mul_comm (b (ix2 k l)) (a (ix2 k r)))
  pointwise

/-- The printed program's table of bodies is this one's. -/
theorem defs_eq : Cert.Kernel10.defs (F := Bits) = defs (F := Bits) :=
  congrArg (Pipeline.defs pcfgs) (congrArg Defs.onTc (funext fun l => funext fun a => by
    match l, a with
    | ⟨0, _⟩, (t, s) => rfl))

/-- The call as printed runs and leaves its arguments and counters as they were. -/
theorem frame_kernel : Cert.quiescent_Kernel10 := fun m g _ => by
  rw [defs_eq]
  exact Gen.frame m g

/-- So does it over the extended reals. -/
theorem frame_kernelIdeal : Cert.quiescent_Kernel10Ideal := fun m g _ => Gen.frame m g

/-- The reference runs and leaves its arguments as they were; it has no counters. -/
theorem frame_reference : Cert.quiescent_Reference10Ideal := fun m g _ =>
  (θ_run Cert.Reference10Ideal.defs _ _).mono (fun r h => ⟨fun c => (h c).2, sem_eq_zero_of_no_sems (by decide) r.2⟩)
    (Cert.Reference10Ideal.Value.run (F := Ideal) m g)

/-- The call's result is the reference's. -/
theorem algebraic : Cert.algebraic_Kernel10Ideal_Reference10Ideal := by
  intro m g m' g' _ hag
  refine ⟨Value.G2 m, Value.run m g,
    (θ_run Cert.Reference10Ideal.defs _ _).mono (fun r h c => ⟨(h c).1.trans ?_, (h c).2⟩) (Cert.Reference10Ideal.Value.run (F := Ideal) m' g')⟩
  rw [(hag c).1, (hag c).2]
  funext i
  refine Eq.trans ?_ ((reference_apply _ _ (i 0) (i 1)).trans (G2_eq m c i).symm)
  exact congrArg _ (eq_ix2 i)

end Cert.Kernel10Ideal.Mm
-- ==== Proof.Mm.K11.lean ====
module

public import proofs.«01_k».proof.Defs
public import proofs.«01_k».proof.Proof.Gen.Kernel11
public import proofs.«01_k».proof.Proof.Gen.Kernel11Ideal.Value
public import proofs.«01_k».proof.Proof.Gen.Reference11Ideal.Run
public import proofs.«01_k».proof.Proof.Mm.Sum
public import Idealize.ShloMosaic.Lib.Pipeline.ValueKit.Geometry
public import Idealize.ShloMosaic.Lib.ValueIdx
public import Idealize.ShloMosaic.Lib.Pointwise
public import Idealize.ShloMosaic.Adequacy
public import Idealize.ShloMosaic.Init

@[expose] public section

/-! The projection of the per-layer input: what the call leaves, over the extended reals, and the claims about it. -/

noncomputable section

namespace Cert.Kernel11Ideal.Mm
open Cert.Kernel11Ideal Cert.Kernel11Ideal.Gen Cert.Mm
open Idealize.ShloMosaic Idealize.ShloMosaic.TcCoe Idealize.SL.Sem

theorem hz : (![0, 0] : Fin 2 → ℕ) = fun _ => 0 := by funext a; fin_cases a <;> rfl

/-- A point stores its product in the output block. -/
theorem out {F : FTy → Type} [FloatOps F] (m : (ℓ : Loc nD τ sig) → Buf (Elt F) ℓ) (c : Dev nD) (t : Fin cfg0.N) :
    outsAt0 m c t = k0_pay2 k0_pay1 (iblk m c 0 t) (iblk m c 1 t) := by
  unfold outsAt0 out0_A_2
  rw [View.read_writes_eq_canon (h := fun y => cover0_A_2 (F := F) ..)]
  unfold kernelRun0_A
  dsimp only
  sl_unfold_words
  rw [View.canon_unit_zero hz, View.readCov_cons_toLoadRect, View.readCov_unit_zero (S := S1024x1024) _ hz]
  simp only [View.readAt_eq_ld, (hs0_0 t).read_unread, (hs0_1 t).read_unread, View.ld_unit_zero (S := S1024x256) hz, View.ld_unit_zero (S := S256x1024) hz]

variable (m : (ℓ : Loc nD τ sig) → Buf (Elt Ideal) ℓ) (c : Dev nD)

/-- A point's product, at an index. -/
theorem pay_apply (a : Vec Ideal S1024x256 .f32) (b : Vec Ideal S256x1024 .bf16) (r l : Fin 1024) :
    k0_pay2 (F := Ideal) (k0_pay1 (F := Ideal)) a b (ix2 r l) = ∑ k : Fin 256, a (ix2 r k) * b (ix2 k l) := by
  pointwise [k0_pay2, k0_pay1]

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

/-- The two arguments. -/
abbrev X : FVec Ideal S8192x256 .f32 := m ((c : Thread nD τ).loc main_arg0)
abbrev W : FVec Ideal S256x1024 .bf16 := m ((c : Thread nD τ).loc main_arg1)

theorem iblk0 (t : Fin cfg0.N) (r : Fin 1024) (k : Fin 256) : (iblk m c 0 t (ix2 r k : S1024x256.Idx) : EReal) = at2 (X m c) (t.val * 1024 + r.val) k.val := by
  refine Eq.trans ?_ (at2_eq (X m c) ((win0_0.rect t).emb (ix2 r k : S1024x256.Idx)) _ _ ?_ ?_)
  · rfl
  all_goals
    refine (Pipeline.Window.rect_emb_val win0_0 t (ix2 r k : S1024x256.Idx) _).trans ?_
    rw [index0]
  · rfl
  · show 0 * 256 + k.val = _; omega

theorem iblk1 (t : Fin cfg0.N) (k : Fin 256) (l : Fin 1024) : (iblk m c 1 t (ix2 k l : S256x1024.Idx) : EReal) = at2 (W m c) k.val l.val := by
  refine Eq.trans ?_ (at2_eq (W m c) ((win0_1.rect t).emb (ix2 k l : S256x1024.Idx)) _ _ ?_ ?_)
  · rfl
  all_goals
    refine (Pipeline.Window.rect_emb_val win0_1 t (ix2 k l : S256x1024.Idx) _).trans ?_
    rw [index1]
  · show 0 * 256 + k.val = _; omega
  · show 0 * 1024 + l.val = _; omega

/-- What the call leaves: the product, at every index. -/
theorem arr_eq (i : S8192x1024.Idx) : @Eq EReal ((dats m 0 c).arrAt 2 cfg0.N i) (∑ k : Fin 256, X m c (ix2 (i 0) k) * W m c (ix2 k (i 1))) := by
  have h0 : (i 0).val < 8192 := (i 0).isLt
  have h1 : (i 1).val < 1024 := (i 1).isLt
  let t : Fin cfg0.N := ⟨(i 0).val / 1024, lt_of_lt_of_eq (by omega) N_0.symm⟩
  let r : Fin 1024 := ⟨(i 0).val % 1024, Nat.mod_lt _ (by decide)⟩
  let l : Fin 1024 := ⟨(i 1).val, h1⟩
  have he : i = (win0_2.rect t).emb (ix2 r l : S1024x1024.Idx) := by
    funext b
    refine Fin.ext (Eq.symm ?_)
    refine (Pipeline.Window.rect_emb_val win0_2 t (ix2 r l : S1024x1024.Idx) b).trans ?_
    rw [index2]
    fin_cases b
    · show (i 0).val / 1024 * 1024 + (i 0).val % 1024 = (i 0).val; omega
    · show 0 * 1024 + (i 1).val = (i 1).val; omega
  have hb := congrFun ((Value.blocks2 m c t (flush0_2 t)).trans (Value.flushed2 m c t)) (ix2 r l : S1024x1024.Idx)
  refine (congrArg ((dats m 0 c).arrAt 2 cfg0.N) he).trans (hb.trans ?_)
  show outsAt0 m c t (ix2 r l) = _
  rw [out, pay_apply]
  refine Finset.sum_congr rfl fun k _ => ?_
  rw [iblk0, iblk1, at2_ix2 (X m c) (i 0) k, at2_ix2 (W m c) k (i 1)]
  congr 2
  show (i 0).val / 1024 * 1024 + (i 0).val % 1024 = _; omega

/-! ## The claims -/

/-- The reference's product, at an index. -/
theorem reference_apply (a : FVec Ideal Cert.Reference11Ideal.S8192x256 .f32) (b : FVec Ideal Cert.Reference11Ideal.S256x1024 .bf16) (r : Fin 8192) (l : Fin 1024) :
    @Eq EReal ((Host.dotGeneral Cert.Reference11Ideal.dot_S8192x256_S256x1024_S8192x1024_1_0_0_1_n_n none a (extf .f32 b Cert.Reference11Ideal.Gen.bitsLt_bf16_f32) : FVec Ideal Cert.Reference11Ideal.S8192x1024 .f32) (ix2 r l)) (∑ k : Fin 256, a (ix2 r k) * b (ix2 k l)) := by
  pointwise

/-- The printed program's table of bodies is this one's. -/
theorem defs_eq : Cert.Kernel11.defs (F := Bits) = defs (F := Bits) :=
  congrArg (Pipeline.defs pcfgs) (congrArg Defs.onTc (funext fun l => funext fun a => by
    match l, a with
    | ⟨0, _⟩, (t, s) => rfl))

/-- The call as printed runs and leaves its arguments and counters as they were. -/
theorem frame_kernel : Cert.quiescent_Kernel11 := fun m g _ => by
  rw [defs_eq]
  exact Gen.frame m g

/-- So does it over the extended reals. -/
theorem frame_kernelIdeal : Cert.quiescent_Kernel11Ideal := fun m g _ => Gen.frame m g

/-- The reference runs and leaves its arguments as they were; it has no counters. -/
theorem frame_reference : Cert.quiescent_Reference11Ideal := fun m g _ =>
  (θ_run Cert.Reference11Ideal.defs _ _).mono (fun r h => ⟨fun c => (h c).2, sem_eq_zero_of_no_sems (by decide) r.2⟩)
    (Cert.Reference11Ideal.Value.run (F := Ideal) m g)

/-- The call's result is the reference's. -/
theorem algebraic : Cert.algebraic_Kernel11Ideal_Reference11Ideal := by
  intro m g m' g' _ hag
  refine ⟨fun c => (dats m 0 c).arrAt 2 cfg0.N, Value.run_blocks m g,
    (θ_run Cert.Reference11Ideal.defs _ _).mono (fun r h c => ⟨(h c).1.trans ?_, (h c).2⟩) (Cert.Reference11Ideal.Value.run (F := Ideal) m' g')⟩
  rw [(hag c).1, (hag c).2]
  funext i
  refine Eq.trans ?_ ((reference_apply _ _ (i 0) (i 1)).trans (arr_eq m c i).symm)
  exact congrArg _ (eq_ix2 i)

end Cert.Kernel11Ideal.Mm
-- ==== Proof.Mm.K12.lean ====
module

public import proofs.«01_k».proof.Defs
public import proofs.«01_k».proof.Proof.Gen.Kernel12
public import proofs.«01_k».proof.Proof.Gen.Kernel12Ideal.Value
public import proofs.«01_k».proof.Proof.Gen.Reference12Ideal.Run
public import proofs.«01_k».proof.Proof.Mm.Sum
public import Idealize.ShloMosaic.Lib.Pipeline.ValueKit.Geometry
public import Idealize.ShloMosaic.Lib.ValueIdx
public import Idealize.ShloMosaic.Lib.Pointwise
public import Idealize.ShloMosaic.Adequacy
public import Idealize.ShloMosaic.Init

@[expose] public section

/-! The gradient of the per-layer input projection's weights: what the call leaves, over the extended reals, and the claims about it. -/

noncomputable section

namespace Cert.Kernel12Ideal.Mm
open Cert.Kernel12Ideal Cert.Kernel12Ideal.Gen Cert.Mm
open Idealize.ShloMosaic Idealize.ShloMosaic.TcCoe Idealize.SL.Sem

theorem hz : (![0, 0] : Fin 2 → ℕ) = fun _ => 0 := by funext a; fin_cases a <;> rfl

section Step
variable {F : FTy → Type} [FloatOps F] (m : (ℓ : Loc nD τ sig) → Buf (Elt F) ℓ) (c : Dev nD) (t : Fin cfg0.N)

/-- The first point of a run leaves in the accumulator its product over zero. -/
theorem first (h0 : t.val % 8 = 0) : (outsAt0 m c t.val t.isLt).2 = k0_pay2 k0_pay1 (iblk m c 0 t) (iblk m c 1 t) := by
  rw [outsAt0_A m c t h0 (by omega)]
  dsimp only
  unfold sout0_A_0
  rw [View.read_writes_eq_canon (h := fun y => scover0_A_0 (F := F) ..)]
  unfold kernelRun0_A
  dsimp only
  sl_unfold_words
  rw [View.canon_cons_unit_zero (S := S256x1024) hz, View.readCov_unit_zero (S := S256x1024) _ hz]
  simp only [View.readAt_eq_ld, (hs0_0 t).read_unread, (hs0_1 t).read_unread, View.ld_unit_zero (S := S1024x256) hz, View.ld_unit_zero (S := S1024x1024) hz]

/-- A point in the middle of a run adds its product. -/
theorem middle (h0 : ¬t.val % 8 = 0) (h1 : ¬t.val % 8 = 7) : (outsAt0 m c t.val t.isLt).2
    = k0_pay2 (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon (h := fun y => scover0_B_0 (F := F) ..)]
  unfold kernelRun0_B
  dsimp only
  sl_unfold_words
  rw [View.canon_unit_zero hz]
  simp only [View.readAt_eq_ld, (hs0_0 t).read_unread, (hs0_1 t).read_unread, (Memref.isWhole_whole _).read_unread, View.ld_unit_zero (S := S256x1024) hz, View.ld_unit_zero (S := S1024x256) hz, View.ld_unit_zero (S := S1024x1024) hz]

/-- The last point of a run adds its product and stores the sum in the output block. -/
theorem last (h1 : t.val % 8 = 7) : (outsAt0 m c t.val t.isLt).1
    = k0_pay2 (outsAt0 m c (t.val - 1) (Nat.lt_of_le_of_lt (Nat.sub_le _ _) t.isLt)).2 (iblk m c 0 t) (iblk m c 1 t) := by
  rw [outsAt0_C m c t (by omega) h1]
  dsimp only
  unfold out0_C_2
  rw [View.read_writes_eq_canon (h := fun y => cover0_C_2 (F := F) ..)]
  unfold kernelRun0_C
  dsimp only
  sl_unfold_words
  rw [View.canon_unit_zero hz, View.readCov_unit_zero (S := S256x1024) _ hz]
  simp only [View.readAt_eq_ld, (hs0_0 t).read_unread, (hs0_1 t).read_unread, (Memref.isWhole_whole _).read_unread, View.ld_unit_zero (S := S256x1024) hz, View.ld_unit_zero (S := S1024x256) hz, View.ld_unit_zero (S := S1024x1024) hz]

end Step

variable (m : (ℓ : Loc nD τ sig) → Buf (Elt Ideal) ℓ) (c : Dev nD)

/-- A point's product, at an index, added to what it is given. -/
theorem pay_apply (p : Vec Ideal S256x1024 .f32) (a : Vec Ideal S1024x256 .f32) (b : Vec Ideal S1024x1024 .f32) (r : Fin 256) (l : Fin 1024) :
    k0_pay2 (F := Ideal) p a b (ix2 r l) = p (ix2 r l) + ∑ k : Fin 1024, a (ix2 k r) * b (ix2 k l) := by
  pointwise [k0_pay2]

theorem zero_apply (r : Fin 256) (l : Fin 1024) : k0_pay1 (F := Ideal) (ix2 r l) = (0 : EReal) := by
  pointwise [k0_pay1]

/-! ## Where a point's blocks lie -/

theorem index0 : ∀ t : Fin cfg0.N, win0_0.index t = ![t.val % 8, 0] := (by decide +kernel : ∀ t : Fin grid0.N, _)
theorem index1 : ∀ t : Fin cfg0.N, win0_1.index t = ![t.val % 8, 0] := (by decide +kernel : ∀ t : Fin grid0.N, _)

/-- The two arguments. -/
abbrev X : FVec Ideal S8192x256 .f32 := m ((c : Thread nD τ).loc main_arg0)
abbrev D : FVec Ideal S8192x1024 .f32 := m ((c : Thread nD τ).loc main_arg1)

theorem iblk0 (t : Fin cfg0.N) (k : Fin 1024) (r : Fin 256) : (iblk m c 0 t (ix2 k r : S1024x256.Idx) : EReal) = at2 (X m c) (t.val % 8 * 1024 + k.val) r.val := by
  refine Eq.trans ?_ (at2_eq (X m c) ((win0_0.rect t).emb (ix2 k r : S1024x256.Idx)) _ _ ?_ ?_)
  · rfl
  all_goals
    refine (Pipeline.Window.rect_emb_val win0_0 t (ix2 k r : S1024x256.Idx) _).trans ?_
    rw [index0]
  · rfl
  · show 0 * 256 + r.val = _; omega

theorem iblk1 (t : Fin cfg0.N) (k : Fin 1024) (l : Fin 1024) : (iblk m c 1 t (ix2 k l : S1024x1024.Idx) : EReal) = at2 (D m c) (t.val % 8 * 1024 + k.val) l.val := by
  refine Eq.trans ?_ (at2_eq (D m c) ((win0_1.rect t).emb (ix2 k l : S1024x1024.Idx)) _ _ ?_ ?_)
  · rfl
  all_goals
    refine (Pipeline.Window.rect_emb_val win0_1 t (ix2 k l : S1024x1024.Idx) _).trans ?_
    rw [index1]
  · rfl
  · show 0 * 1024 + l.val = _; omega

/-! ## The sum -/

/-- A point's product at a place of its block. -/
def term (r : Fin 256) (l : Fin 1024) (n : ℕ) : EReal :=
  ∑ k : Fin 1024, at2 (X m c) (n % 8 * 1024 + k.val) r.val * at2 (D m c) (n % 8 * 1024 + k.val) l.val

theorem pay_blk (p : Vec Ideal S256x1024 .f32) (t : Fin cfg0.N) (r : Fin 256) (l : Fin 1024) :
    k0_pay2 (F := Ideal) p (iblk m c 0 t) (iblk m c 1 t) (ix2 r l) = p (ix2 r l) + term m c r l t.val := by
  rw [pay_apply]
  refine congrArg _ (Finset.sum_congr rfl fun k _ => ?_)
  rw [iblk0, iblk1]

/-- A run's last point stores the whole product. -/
theorem out (r : Fin 256) (l : Fin 1024) (q : ℕ) (h : 8 * q + 7 < cfg0.N) :
    (outsAt0 m c (8 * q + 7) h).1 (ix2 r l) = ∑ k : Fin 8192, at2 (X m c) k.val r.val * at2 (D m c) k.val l.val :=
  run_total (R := 8) (b := 1024) (by decide) (fun n h => (outsAt0 m c n h).2 (ix2 r l)) (fun n h => (outsAt0 m c n h).1 (ix2 r l)) (term m c r l)
    (fun k => at2 (X m c) k r.val * at2 (D m c) k l.val)
    (fun n h h0 => (congrFun (first m c ⟨n, h⟩ h0) _).trans ((pay_blk ..).trans (by rw [zero_apply, zero_add])))
    (fun n h h0 h1 => (congrFun (middle m c ⟨n, h⟩ h0 h1) _).trans (pay_blk ..))
    (fun n h h1 => (congrFun (last m c ⟨n, h⟩ h1) _).trans (pay_blk ..)) q
    (fun u hu => by unfold term; rw [(by omega : (8 * q + u) % 8 = u)]) h

/-- What the call leaves: the product, at every index. -/
theorem G2_eq (i : S256x1024.Idx) : @Eq EReal (Value.G2 m c i) (∑ k : Fin 8192, X m c (ix2 k (i 0)) * D m c (ix2 k (i 1))) := by
  have h0 : (i 0).val < 256 := (i 0).isLt
  have h1 : (i 1).val < 1024 := (i 1).isLt
  have hN : cfg0.N = 8 := N_0
  have hp : Value.pt2Of i = 8 * 0 + 7 := by
    show 8 * (1 * ((i 0).val / 256 - 0) + 1 * ((i 1).val / 1024 - 0)) + 7 = _; omega
  have hl : Value.loc2Of i = ix2 (⟨(i 0).val, h0⟩ : Fin 256) (⟨(i 1).val, h1⟩ : Fin 1024) := by
    refine (eq_ix2 _).trans (congrArg₂ ix2 (Fin.ext ?_) (Fin.ext ?_))
    · show (i 0).val % 256 = (i 0).val; omega
    · show (i 1).val % 1024 = (i 1).val; omega
  unfold Value.G2
  rw [dif_pos (by omega : Value.pt2Of i < cfg0.N), Value.fold0_congr m c _ (by omega) (8 * 0 + 7) (by omega) hp,
    ← Value.outsAt0_sweep m c _ (by omega), hl, out]
  refine Finset.sum_congr rfl fun k _ => ?_
  rw [at2_ix2 (X m c) k (i 0), at2_ix2 (D m c) k (i 1)]

/-! ## The claims -/

/-- The reference's product, at an index. -/
theorem reference_apply (a : FVec Ideal Cert.Reference12Ideal.S8192x256 .f32) (b : FVec Ideal Cert.Reference12Ideal.S8192x1024 .f32) (r : Fin 256) (l : Fin 1024) :
    @Eq EReal ((transpose Cert.Reference12Ideal.S256x1024 [1, 0] (Host.dotGeneral Cert.Reference12Ideal.dot_S8192x1024_S8192x256_S1024x256_0_0_1_1_n_n none b a) Cert.Reference12Ideal.Gen.transposes_S1024x256_S256x1024_1_0 : FVec Ideal Cert.Reference12Ideal.S256x1024 .f32) (ix2 r l)) (∑ k : Fin 8192, a (ix2 k r) * b (ix2 k l)) := by
  refine Eq.trans ?_ (Finset.sum_congr rfl fun k _ => mul_comm (b (ix2 k l)) (a (ix2 k r)))
  pointwise

/-- The printed program's table of bodies is this one's. -/
theorem defs_eq : Cert.Kernel12.defs (F := Bits) = defs (F := Bits) :=
  congrArg (Pipeline.defs pcfgs) (congrArg Defs.onTc (funext fun l => funext fun a => by
    match l, a with
    | ⟨0, _⟩, (t, s) => rfl))

/-- The call as printed runs and leaves its arguments and counters as they were. -/
theorem frame_kernel : Cert.quiescent_Kernel12 := fun m g _ => by
  rw [defs_eq]
  exact Gen.frame m g

/-- So does it over the extended reals. -/
theorem frame_kernelIdeal : Cert.quiescent_Kernel12Ideal := fun m g _ => Gen.frame m g

/-- The reference runs and leaves its arguments as they were; it has no counters. -/
theorem frame_reference : Cert.quiescent_Reference12Ideal := fun m g _ =>
  (θ_run Cert.Reference12Ideal.defs _ _).mono (fun r h => ⟨fun c => (h c).2, sem_eq_zero_of_no_sems (by decide) r.2⟩)
    (Cert.Reference12Ideal.Value.run (F := Ideal) m g)

/-- The call's result is the reference's. -/
theorem algebraic : Cert.algebraic_Kernel12Ideal_Reference12Ideal := by
  intro m g m' g' _ hag
  refine ⟨Value.G2 m, Value.run m g,
    (θ_run Cert.Reference12Ideal.defs _ _).mono (fun r h c => ⟨(h c).1.trans ?_, (h c).2⟩) (Cert.Reference12Ideal.Value.run (F := Ideal) m' g')⟩
  rw [(hag c).1, (hag c).2]
  funext i
  refine Eq.trans ?_ ((reference_apply _ _ (i 0) (i 1)).trans (G2_eq m c i).symm)
  exact congrArg _ (eq_ix2 i)

end Cert.Kernel12Ideal.Mm
-- ==== Proof.Ew.Sigmoid.lean ====
module

public import Idealize.ShloMosaic.Lib.KernelVsHost
public import Idealize.ShloMosaic.Lib.Pointwise
public import Idealize.ShloMosaic.Init

@[expose] public section

/-! The logistic function over the extended reals, as a kernel writes it and as a reference writes it. -/

noncomputable section

namespace Cert.Ew
open Idealize.ShloMosaic

/-- A kernel's `1 / (1 + exp (0 - x))`. -/
def logistic (x : Ideal .f32) : Ideal .f32 :=
  FloatOps.divf (FloatOps.ofBits .f32 0x3F800000#32) (FloatOps.addf (FloatOps.ofBits .f32 0x3F800000#32)
    (FloatOps.exp (FloatOps.subf (FloatOps.ofBits .f32 0x00000000#32) x)))

/-- It is the reference's `1 / (1 + exp (-x))`. -/
theorem logistic_eq (x : Ideal .f32) :
    FloatOps.hostDivf (FloatOps.ofBits .f32 0x3F800000#32) (FloatOps.addf (FloatOps.ofBits .f32 0x3F800000#32)
      (FloatOps.hostUnary .exp (FloatOps.hostNegf x))) = logistic x := by
  unfold logistic
  rw [Ideal.subf_zero_eq_hostNegf]
  rfl

/-- A gate's derivative: the factors of a product over the extended reals may be regrouped. -/
theorem mulf_assoc (a b c : Ideal .f32) :
    FloatOps.mulf (FloatOps.mulf a b) c = FloatOps.mulf a (FloatOps.mulf b c) := mul_assoc (G := EReal) a b c

/-- They may also be exchanged. -/
theorem mulf_comm (a b : Ideal .f32) : FloatOps.mulf a b = FloatOps.mulf b a := mul_comm (G := EReal) a b

end Cert.Ew
-- ==== Proof.Ew.PleBwd.lean ====
module

public import proofs.«01_k».proof.Defs
public import proofs.«01_k».proof.Proof.Gen.Kernel13
public import proofs.«01_k».proof.Proof.Gen.Kernel13Ideal.Value
public import proofs.«01_k».proof.Proof.Gen.Reference13Ideal.Run
public import proofs.«01_k».proof.Proof.Gen.Reference13Ideal.Read
public import proofs.«01_k».proof.Proof.Ew.Sigmoid
public import Idealize.ShloMosaic.Adequacy
public import Idealize.ShloMosaic.Init

@[expose] public section

/-! The gradient of the per-layer embedding's gate: what the call leaves, over the extended reals, and the claims about it. -/

noncomputable section

namespace Cert.Kernel13Ideal.Ew
open Cert.Kernel13Ideal Cert.Kernel13Ideal.Gen Cert.Ew
open Idealize.ShloMosaic Idealize.ShloMosaic.TcCoe Idealize.SL.Sem

/-- The reference's logistic function, at an index. -/
theorem ref_logistic (x : FVec Ideal S8192x1024 .f32) (i : S8192x1024.Idx) :
    Cert.Reference13Ideal.Read.val_main_v5 (F := Ideal) x i = logistic (x i) := by
  rw [Cert.Reference13Ideal.Read.val_main_v5_apply, Cert.Reference13Ideal.Read.val_main_v4_apply, Cert.Reference13Ideal.Read.val_main_v3_apply,
    Cert.Reference13Ideal.Read.val_main_v2_apply]
  exact logistic_eq (x i)

/-- The gradient of the gate's argument: `(dx * p) * s * (1 - s)` grouped as the kernel or as the reference groups it. -/
theorem gate_eq (d g p : FVec Ideal S8192x1024 .f32) :
    Cert.Reference13Ideal.Read.val_main_v12 (F := Ideal) d g p = Value.G3 (F := Ideal) d g p := by
  funext i
  rw [Cert.Reference13Ideal.Read.val_main_v12_apply, Cert.Reference13Ideal.Read.val_main_v8_apply, Cert.Reference13Ideal.Read.val_main_v7_apply,
    Cert.Reference13Ideal.Read.val_main_v6_apply, ref_logistic]
  exact (mulf_assoc _ _ _).symm

/-- The gradient of the embedding: `dx * s`. -/
theorem embed_eq (d g : FVec Ideal S8192x1024 .f32) :
    Cert.Reference13Ideal.Read.val_main_v10 (F := Ideal) d g = Value.G4 (F := Ideal) d g := by
  funext i
  rw [Cert.Reference13Ideal.Read.val_main_v10_apply, ref_logistic]
  exact mulf_comm _ _

/-- The printed program's table of bodies is this one's. -/
theorem defs_eq : Cert.Kernel13.defs (F := Bits) = defs (F := Bits) :=
  congrArg (Pipeline.defs pcfgs) (congrArg Defs.onTc (funext fun l => funext fun a => by
    match l, a with
    | ⟨0, _⟩, (t, s) => rfl))

/-- The call as printed runs and leaves its arguments and counters as they were. -/
theorem frame_kernel : Cert.quiescent_Kernel13 := fun m g _ => by
  rw [defs_eq]
  exact Gen.frame m g

/-- So does it over the extended reals. -/
theorem frame_kernelIdeal : Cert.quiescent_Kernel13Ideal := fun m g _ => Gen.frame m g

/-- The reference runs and leaves its arguments as they were; it has no counters. -/
theorem frame_reference : Cert.quiescent_Reference13Ideal := fun m g _ =>
  (θ_run Cert.Reference13Ideal.defs _ _).mono (fun r h => ⟨fun c => (h c).2.2, sem_eq_zero_of_no_sems (by decide) r.2⟩)
    (Cert.Reference13Ideal.Value.run (F := Ideal) m g)

/-- The call's two results are the reference's. -/
theorem algebraic : Cert.algebraic_Kernel13Ideal_Reference13Ideal := by
  intro m g m' g' _ hag
  refine ⟨_, _, Value.run m g,
    (θ_run Cert.Reference13Ideal.defs _ _).mono (fun r h c => ⟨(h c).1.trans ?_, (h c).2.1.trans ?_, (h c).2.2⟩)
      (Cert.Reference13Ideal.Value.run (F := Ideal) m' g')⟩
  · rw [(hag c).1, (hag c).2.1, (hag c).2.2]
    exact gate_eq _ _ _
  · rw [(hag c).1, (hag c).2.1]
    exact embed_eq _ _

end Cert.Kernel13Ideal.Ew
-- ==== Proof.Ew.Row.lean ====
module

public import Idealize.ShloMosaic.Lib.KernelVsHost
public import Idealize.ShloMosaic.Lib.Pointwise
public import Idealize.ShloMosaic.Init

@[expose] public section

/-! The norm of one row of 1024 entries, over the extended reals: its value and its gradient, each as a function of the row. -/

noncomputable section

namespace Cert.Ew.Row
open Idealize.ShloMosaic

variable (x y g b d : Fin 1024 → EReal)

/-- The scaled residual sum the norm is taken of. -/
def res (k : Fin 1024) : EReal := Ideal.ofBits .f32 0x3FD744FD#32 * x k + y k
/-- Its mean. -/
def mean : EReal := Ideal.div (∑ k, res x y k) (Ideal.ofBits .f32 0x44800000#32)
/-- An entry's deviation from the mean. -/
def dev (k : Fin 1024) : EReal := res x y k - mean x y
/-- The mean square deviation, kept away from zero. -/
def var : EReal := Ideal.div (∑ k, dev x y k * dev x y k) (Ideal.ofBits .f32 0x44800000#32) + Ideal.ofBits .f32 0x3727C5AC#32
/-- One over the deviation. -/
def inv : EReal := Ideal.rsqrt (var x y)
/-- The normed entry. -/
def normed (k : Fin 1024) : EReal := dev x y k * inv x y
/-- The norm's value: scaled and shifted. -/
def out (k : Fin 1024) : EReal := normed x y k * g k + b k

/-- The gradient reaching the normed entry. -/
def dz (k : Fin 1024) : EReal := d k * g k
/-- Its share that passes the deviation by. -/
def direct (k : Fin 1024) : EReal := dz g d k * inv x y
/-- The gradient of the mean square deviation. -/
def dvar : EReal :=
  Ideal.div ((∑ k, dev x y k * dz g d k) * (Ideal.ofBits .f32 0xBF000000#32 * Ideal.div (inv x y) (var x y))) (Ideal.ofBits .f32 0x44800000#32)
/-- The share that passes through the mean square deviation. -/
def through (k : Fin 1024) : EReal := dvar x y g d * (Ideal.ofBits .f32 0x40000000#32 * dev x y k)
/-- The share that passes through the mean. -/
def dmean : EReal :=
  Ideal.div ((∑ k, -direct x y g d k) + ∑ k, -through x y g d k) (Ideal.ofBits .f32 0x44800000#32)
/-- The gradient of the row. -/
def grad (k : Fin 1024) : EReal := direct x y g d k + through x y g d k + dmean x y g d

/-- A difference from zero is a negation. -/
theorem zero_sub (a : EReal) : 0 - a = -a := by rw [sub_eq_add_neg, zero_add]

/-- A sum of one term is the term. -/
theorem sum_one (a : EReal) : ∑ _k : Fin 1, a = a := Fin.sum_univ_one fun _ => a

/-- A value that adds a point's term to what it was at the point before is the sum of the terms so far. -/
theorem total {N : ℕ} (a : (n : ℕ) → n < N → EReal) (f : ℕ → EReal) (h0 : ∀ h, a 0 h = f 0)
    (hs : ∀ n (h : n + 1 < N), a (n + 1) h = a n (by omega) + f (n + 1)) : ∀ n h, a n h = ∑ u ∈ Finset.range (n + 1), f u
  | 0, h => by rw [h0]; simp
  | n + 1, h => by rw [hs, total a f h0 hs n, Finset.sum_range_succ _ (n + 1)]

end Cert.Ew.Row
-- ==== Proof.Ew.GateBwd.lean ====
module

public import proofs.«01_k».proof.Defs
public import proofs.«01_k».proof.Proof.Gen.Kernel14
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Pre_finite14
public import proofs.«01_k».proof.Proof.Ew.Row
public import proofs.«01_k».proof.Proof.Dq.Finite
public import proofs.«01_k».proof.Proof.Mm.Sum
public import Idealize.ShloMosaic.Lib.Pipeline.ValueKit.Geometry
public import Idealize.ShloMosaic.Lib.ValueIdx
public import Idealize.ShloMosaic.Lib.Pointwise
public import Idealize.ShloMosaic.Adequacy
public import Idealize.ShloMosaic.Init

@[expose] public section

/-! The gradients of the gated output of the attention: what the call leaves, over the extended reals, and the claims about it. -/

noncomputable section

namespace Cert.Kernel14Ideal.Ew
open Cert.Kernel14Ideal Cert.Kernel14Ideal.Gen Cert.Ew Cert.Mm
open Idealize.ShloMosaic Idealize.ShloMosaic.TcCoe Idealize.SL.Sem

theorem hz : (![0, 0] : Fin 2 → ℕ) = fun _ => 0 := by funext a; fin_cases a <;> rfl

/-! ## The formulas -/

/-- The logistic function. -/
def sg (z : EReal) : EReal := Ideal.div 1 (1 + Ideal.exp (-z))

/-- The gradients of one entry of the gated output, in the output and in the gate's argument. -/
def gradO (z d : EReal) : EReal := d * z * sg z
def gradZ (o z d : EReal) : EReal := d * o * sg z * (1 + z * (1 - sg z))

/-- The logistic function of a real is real. -/
theorem sg_coe (x : ℝ) : ∃ s : ℝ, sg (x : EReal) = (s : EReal) := by
  refine ⟨1 * (1 / (1 + Real.exp (-x))), ?_⟩
  have h : (1 + Real.exp (-x)) ≠ 0 := by positivity
  have e : (1 : EReal) + Ideal.exp (-(x : EReal)) = ((1 + Real.exp (-x) : ℝ) : EReal) := by
    rw [← EReal.coe_neg, EReal.coe_add]
    rfl
  unfold sg
  rw [e, Ideal.div_coe h, EReal.coe_mul]
  rfl

/-- Among reals the gradient in the gate's argument is the derivative of the product `z * sg z`, term by term. -/
theorem gradZ_eq (o z d : ℝ) :
    (o : EReal) * d * sg z + z * (o * d) * (sg z * (1 - sg z)) = gradZ o z d := by
  obtain ⟨s, hs⟩ := sg_coe z
  unfold gradZ
  rw [hs]
  norm_cast
  ring

/-! ## What a point stores -/

theorem pay_do (z d : Vec Ideal S512x1024 .f32) (r : Fin 512) (l : Fin 1024) :
    @Eq EReal (k0_pay8 (F := Ideal) z d (ix2 r l)) (gradO (z (ix2 r l)) (d (ix2 r l))) := by
  unfold gradO sg
  pointwise [k0_pay8, k0_pay7, Row.zero_sub]

theorem pay_dz (o z d : Vec Ideal S512x1024 .f32) (r : Fin 512) (l : Fin 1024) :
    @Eq EReal (k0_pay9 (F := Ideal) o z d (ix2 r l)) (gradZ (o (ix2 r l)) (z (ix2 r l)) (d (ix2 r l))) := by
  unfold gradZ sg
  pointwise [k0_pay9, k0_pay7, Row.zero_sub]

theorem pay_prod (o z d : Vec Ideal S512x1024 .f32) (r : Fin 512) (l : Fin 1024) :
    @Eq EReal (k0_pay10 (F := Ideal) o z d (ix2 r l)) (gradO (z (ix2 r l)) (d (ix2 r l)) * o (ix2 r l)) := by
  unfold gradO sg
  pointwise [k0_pay10, k0_pay8, k0_pay7, Row.zero_sub]

/-- The rows' sums over the first half of 128 lanes, and over the second. -/
def first {F : FTy → Type} [FloatOps F] (o : ℕ) (h : S512x1024.Slices ![0, o] S512x128) (v : FVec F S512x1024 .f32) : FVec F S1x512x1 .f32 :=
  shapeCast S1x512x1 (shapeCast S512x1 (multiReduction .add [1] S512 (select (cmpi .slt (iota .tc S512x128 32 [1] iota_S512x128_d1_w32) (broadcast S512x128 64#32))
    (extractStridedSlice S512x128 ![0, o] v h) (broadcast S512x128 (Scalar.ofBits .f32 0x00000000#32))) 0x00000000#32 reduces_S512x128_S512 (.inl rfl) rfl) shapeCasts_S512_S512x1) shapeCasts_S512x1_S1x512x1

def second {F : FTy → Type} [FloatOps F] (o : ℕ) (h : S512x1024.Slices ![0, o] S512x128) (v : FVec F S512x1024 .f32) : FVec F S1x512x1 .f32 :=
  shapeCast S1x512x1 (shapeCast S512x1 (multiReduction .add [1] S512 (select (cmpi .slt (iota .tc S512x128 32 [1] iota_S512x128_d1_w32) (broadcast S512x128 64#32))
    (broadcast S512x128 (Scalar.ofBits .f32 0x00000000#32)) (extractStridedSlice S512x128 ![0, o] v h)) 0x00000000#32 reduces_S512x128_S512 (.inl rfl) rfl) shapeCasts_S512_S512x1) shapeCasts_S512x1_S1x512x1

/-- Which lanes are of the first half. -/
theorem lane_first : ∀ x : Fin 64, IntOp.cmpi .slt (BitVec.ofNat 32 x.val) 64#32 = 1#1 := by decide
theorem lane_second : ∀ x : Fin 64, IntOp.cmpi .slt (BitVec.ofNat 32 (64 + x.val)) 64#32 = 0#1 := by decide
theorem one_eq : 1#1 = 1 := rfl
theorem zero_ne : ¬(0#1 = 1) := by decide

/-- A sum over 128 lanes is the sum over each half. -/
theorem halves (f : Fin 128 → EReal) : ∑ x, f x = (∑ d : Fin 64, f ⟨d.val, by omega⟩) + ∑ d : Fin 64, f ⟨64 + d.val, by omega⟩ :=
  Fin.sum_univ_add (a := 64) (b := 64) f

theorem first_apply (o : ℕ) (h : S512x1024.Slices ![0, o] S512x128) (v : FVec Ideal S512x1024 .f32) (r : Fin 512) :
    @Eq EReal (first o h v (ix3 0 r 0)) (∑ d : Fin 64, at2 v r.val (o + d.val)) := by
  pointwise [first]
  rw [halves]
  simp only [lane_first, lane_second, Scalar.select, if_pos one_eq, if_neg zero_ne, Finset.sum_const_zero, add_zero]
  exact Finset.sum_congr rfl fun (d : Fin 64) _ => at2_ix2 v r ⟨o + d.val, _⟩

theorem second_apply (o : ℕ) (h : S512x1024.Slices ![0, o] S512x128) (v : FVec Ideal S512x1024 .f32) (r : Fin 512) :
    @Eq EReal (second o h v (ix3 0 r 0)) (∑ d : Fin 64, at2 v r.val (o + 64 + d.val)) := by
  pointwise [second]
  rw [halves]
  simp only [lane_first, lane_second, Scalar.select, if_pos one_eq, if_neg zero_ne, Finset.sum_const_zero, zero_add]
  exact Finset.sum_congr rfl fun (d : Fin 64) _ => at2_eq v _ _ _ rfl (Nat.add_assoc o 64 d.val).symm

/-- The heads' sums of a block of rows. -/
def heads (v : FVec Ideal S512x1024 .f32) (y : S16x512x1.Idx) : EReal := ∑ d : Fin 64, at2 v (y 1).val (64 * (y 0).val + d.val)

/-- A store of a head's sums puts them where they belong. -/
theorem piece (v : FVec Ideal S512x1024 .f32) (n : ℕ) (inb : ∀ a, (![n, 0, 0] : Fin 3 → ℕ) a + S1x512x1.size a ≤ S16x512x1.size a) (w : Vec Ideal S1x512x1 .f32)
    (hw : ∀ r, @Eq EReal (w (ix3 0 r 0)) (∑ d : Fin 64, at2 v r.val (64 * n + d.val)))
    (x : (Rect.unit (s := S16x512x1) ![n, 0, 0] S1x512x1.size inb).shape.Idx) :
    @Eq EReal (w x) (heads v ((Rect.unit (s := S16x512x1) ![n, 0, 0] S1x512x1.size inb).emb x)) := by
  have h0 : (x (0 : Fin 3)).val < 1 := (x 0).isLt
  have h2 : (x (2 : Fin 3)).val < 1 := (x 2).isLt
  have e : x = (ix3 0 (x 1) 0 : S1x512x1.Idx) := by
    funext b
    fin_cases b
    · exact Fin.ext (show (x (0 : Fin 3)).val = 0 by omega)
    · rfl
    · exact Fin.ext (show (x (2 : Fin 3)).val = 0 by omega)
  refine (congrArg w e).trans ((hw _).trans ?_)
  refine Finset.sum_congr rfl fun d _ => ?_
  refine congrArg₂ (at2 v) ?_ ?_
  · show (x (1 : Fin 3)).val = 0 + 1 * (x (1 : Fin 3)).val; omega
  · show 64 * n + d.val = 64 * (n + 1 * (x (0 : Fin 3)).val) + d.val; omega

theorem piece_first (v : FVec Ideal S512x1024 .f32) (n o : ℕ) (inb : ∀ a, (![n, 0, 0] : Fin 3 → ℕ) a + S1x512x1.size a ≤ S16x512x1.size a)
    (h : S512x1024.Slices ![0, o] S512x128) (ho : o = 64 * n) (x) :
    @Eq EReal (first o h v x) (heads v ((Rect.unit (s := S16x512x1) ![n, 0, 0] S1x512x1.size inb).emb x)) := piece v n inb (first o h v) (x := x) fun r => by rw [first_apply, ho]

theorem piece_second (v : FVec Ideal S512x1024 .f32) (n o : ℕ) (inb : ∀ a, (![n, 0, 0] : Fin 3 → ℕ) a + S1x512x1.size a ≤ S16x512x1.size a)
    (h : S512x1024.Slices ![0, o] S512x128) (ho : o + 64 = 64 * n) (x) :
    @Eq EReal (second o h v x) (heads v ((Rect.unit (s := S16x512x1) ![n, 0, 0] S1x512x1.size inb).emb x)) := piece v n inb (second o h v) (x := x) fun r => by rw [second_apply, ho]

section Stores
variable {F : FTy → Type} [FloatOps F] (m : (ℓ : Loc nD τ sig) → Buf (Elt F) ℓ) (c : Dev nD) (t : Fin cfg0.N)

/-- A point stores its block of the gradient of the output. -/
theorem out_do : (outsAt0 m c t).1 = k0_pay8 (X0_1 m c t) (iblk m c 2 t) := by
  unfold outsAt0 out0_A_3
  dsimp only
  rw [View.read_writes_eq_canon (h := fun y => cover0_A_3 (F := F) ..)]
  unfold kernelRun0_A
  dsimp only
  sl_unfold_words
  rw [View.canon_unit_zero hz]
  simp only [View.readAt_eq_ld, (hs0_0 t).read_unread, (hs0_1 t).read_unread, (hs0_2 t).read_unread, View.ld_unit_zero (S := S512x1024) hz]

/-- It stores its block of the gradient of the gate's argument. -/
theorem out_dz : (outsAt0 m c t).2.1 = k0_pay9 (iblk m c 0 t) (X0_1 m c t) (iblk m c 2 t) := by
  unfold outsAt0 out0_A_4
  dsimp only
  rw [View.read_writes_eq_canon (h := fun y => cover0_A_4 (F := F) ..)]
  unfold kernelRun0_A
  dsimp only
  sl_unfold_words
  rw [View.canon_unit_zero hz]
  simp only [View.readAt_eq_ld, (hs0_0 t).read_unread, (hs0_1 t).read_unread, (hs0_2 t).read_unread, View.ld_unit_zero (S := S512x1024) hz]

end Stores

variable (m : (ℓ : Loc nD τ sig) → Buf (Elt Ideal) ℓ) (c : Dev nD)

/-- It stores the heads' sums of its rows' products, two heads to 128 lanes. -/
theorem out_delta (t : Fin cfg0.N) (y : S16x512x1.Idx) : @Eq EReal ((outsAt0 m c t).2.2 y) (heads (k0_pay10 (F := Ideal) (iblk m c 0 t) (X0_1 m c t) (iblk m c 2 t)) y) := by
  unfold outsAt0 out0_A_5
  dsimp only
  rw [View.read_writes_eq_canon (h := fun y => cover0_A_5 (F := Ideal) ..)]
  refine View.canon_apply_of_pieces _ _ ?_ y (cover0_A_5 (F := Ideal) ..)
  unfold kernelRun0_A
  dsimp only
  sl_unfold_words
  simp only [View.readAt_eq_ld, (hs0_0 t).read_unread, (hs0_1 t).read_unread, (hs0_2 t).read_unread, View.ld_unit_zero (S := S512x1024) hz, List.forall_mem_cons]
  exact ⟨piece_second _ 15 896 _ slices_S512x1024_o0_896_S512x128 rfl,
    piece_first _ 14 896 _ slices_S512x1024_o0_896_S512x128 rfl,
    piece_second _ 13 768 _ slices_S512x1024_o0_768_S512x128 rfl,
    piece_first _ 12 768 _ slices_S512x1024_o0_768_S512x128 rfl,
    piece_second _ 11 640 _ slices_S512x1024_o0_640_S512x128 rfl,
    piece_first _ 10 640 _ slices_S512x1024_o0_640_S512x128 rfl,
    piece_second _ 9 512 _ slices_S512x1024_o0_512_S512x128 rfl,
    piece_first _ 8 512 _ slices_S512x1024_o0_512_S512x128 rfl,
    piece_second _ 7 384 _ slices_S512x1024_o0_384_S512x128 rfl,
    piece_first _ 6 384 _ slices_S512x1024_o0_384_S512x128 rfl,
    piece_second _ 5 256 _ slices_S512x1024_o0_256_S512x128 rfl,
    piece_first _ 4 256 _ slices_S512x1024_o0_256_S512x128 rfl,
    piece_second _ 3 128 _ slices_S512x1024_o0_128_S512x128 rfl,
    piece_first _ 2 128 _ slices_S512x1024_o0_128_S512x128 rfl,
    piece_second _ 1 0 _ slices_S512x1024_o0_0_S512x128 rfl,
    piece_first _ 0 0 _ slices_S512x1024_o0_0_S512x128 rfl, fun _ h => absurd h List.not_mem_nil⟩

/-! ## Where a point's blocks lie -/

theorem index0 : ∀ t : Fin cfg0.N, win0_0.index t = ![t.val, 0] := (by decide +kernel : ∀ t : Fin grid0.N, _)
theorem index1 : ∀ t : Fin cfg0.N, win0_1.index t = ![t.val, 3] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, t.val, 0] := (by decide +kernel : ∀ t : Fin grid0.N, _)

/-- The attention's output, the projected rows, whose last quarter of the first 4096 columns is the gate's argument, and the gradient of the gated output. -/
abbrev O : FVec Ideal S8192x1024 .f32 := m ((c : Thread nD τ).loc main_arg0)
abbrev H : FVec Ideal S8192x4224 .f32 := m ((c : Thread nD τ).loc main_arg1)
abbrev D : FVec Ideal S8192x1024 .f32 := m ((c : Thread nD τ).loc main_arg2)

theorem iblk0 (t : Fin cfg0.N) (r : Fin 512) (k : Fin 1024) :
    @Eq EReal (iblk m c 0 t (ix2 r k : S512x1024.Idx)) (at2 (O m c) (t.val * 512 + r.val) k.val) := by
  refine Eq.trans ?_ (at2_eq (O m c) ((win0_0.rect t).emb (ix2 r k : S512x1024.Idx)) _ _ ?_ ?_)
  · rfl
  all_goals
    refine (Pipeline.Window.rect_emb_val win0_0 t (ix2 r k : S512x1024.Idx) _).trans ?_
    rw [index0]
  · rfl
  · show 0 * 1024 + k.val = _; omega

theorem iblk1 (t : Fin cfg0.N) (r : Fin 512) (k : Fin 1024) :
    @Eq EReal (X0_1 m c t (ix2 r k : S512x1024.Idx)) (at2 (H m c) (t.val * 512 + r.val) (3072 + k.val)) := by
  have key : ∀ y : ((cfg0.win 1).xblock (cfg0.grid.coords t)).Idx, (y (0 : Fin 2)).val = r.val → (y (1 : Fin 2)).val = k.val →
      @Eq EReal (iblk m c 1 t y) (at2 (H m c) (t.val * 512 + r.val) (3072 + k.val)) := by
    intro y e0 e1
    refine Eq.trans ?_ (at2_eq (H m c) ((win0_1.rect t).emb y) _ _ ?_ ?_)
    · rfl
    all_goals
      refine (Pipeline.Window.rect_emb_val win0_1 t y _).trans ?_
      rw [index1]
    · exact congrArg (t.val * 512 + ·) e0
    · exact congrArg (3072 + ·) e1
  unfold X0_1 Pipeline.Window.fill
  rw [dif_pos (moved0_1 t _)]
  exact key _ rfl rfl

theorem iblk2 (t : Fin cfg0.N) (r : Fin 512) (k : Fin 1024) :
    @Eq EReal (iblk m c 2 t (ix2 r k : S512x1024.Idx)) (at2 (D m c) (t.val * 512 + r.val) k.val) := by
  refine Eq.trans ?_ (at2_eq (D m c) ((win0_2.rect t).emb (ix2 r k : S512x1024.Idx)) _ _ ?_ ?_)
  · rfl
  all_goals
    refine (Pipeline.Window.rect_emb_val win0_2 t (ix2 r k : S512x1024.Idx) _).trans ?_
    rw [index2]
  · rfl
  · show 0 * 1024 + k.val = _; omega

/-- The first result, at every index. -/
theorem arr_do (i : S8192x1024.Idx) : @Eq EReal ((dats m 0 c).arrAt 3 cfg0.N i) (gradO (at2 (H m c) (i 0).val (3072 + (i 1).val)) (D m c i)) := by
  have h0 : (i 0).val < 8192 := (i 0).isLt
  have h1 : (i 1).val < 1024 := (i 1).isLt
  let t : Fin cfg0.N := ⟨(i 0).val / 512, lt_of_lt_of_eq (by omega) N_0.symm⟩
  let r : Fin 512 := ⟨(i 0).val % 512, Nat.mod_lt _ (by decide)⟩
  let l : Fin 1024 := ⟨(i 1).val, h1⟩
  have he : i = (win0_3.rect t).emb (ix2 r l : S512x1024.Idx) := by
    funext b
    refine Fin.ext (Eq.symm ?_)
    refine (Pipeline.Window.rect_emb_val win0_3 t (ix2 r l : S512x1024.Idx) b).trans ?_
    rw [index3]
    fin_cases b
    · show (i 0).val / 512 * 512 + (i 0).val % 512 = (i 0).val; omega
    · show 0 * 1024 + (i 1).val = (i 1).val; omega
  have hr : t.val * 512 + r.val = (i 0).val := by show (i 0).val / 512 * 512 + (i 0).val % 512 = _; omega
  have hb := congrFun ((Value.blocks3 m c t (flush0_3 t)).trans (Value.flushed3 m c t)) (ix2 r l : S512x1024.Idx)
  refine (congrArg ((dats m 0 c).arrAt 3 cfg0.N) he).trans (hb.trans ?_)
  show (outsAt0 m c t).1 (ix2 r l) = _
  rw [out_do]
  refine (pay_do _ _ _ _).trans ?_
  rw [iblk1, iblk2, hr, ← at2_eq (D m c) i (i 0).val l.val rfl rfl]

/-- The second result, at every index. -/
theorem arr_dz (i : S8192x1024.Idx) : @Eq EReal ((dats m 0 c).arrAt 4 cfg0.N i) (gradZ (O m c i) (at2 (H m c) (i 0).val (3072 + (i 1).val)) (D m c i)) := by
  have h0 : (i 0).val < 8192 := (i 0).isLt
  have h1 : (i 1).val < 1024 := (i 1).isLt
  let t : Fin cfg0.N := ⟨(i 0).val / 512, lt_of_lt_of_eq (by omega) N_0.symm⟩
  let r : Fin 512 := ⟨(i 0).val % 512, Nat.mod_lt _ (by decide)⟩
  let l : Fin 1024 := ⟨(i 1).val, h1⟩
  have he : i = (win0_4.rect t).emb (ix2 r l : S512x1024.Idx) := by
    funext b
    refine Fin.ext (Eq.symm ?_)
    refine (Pipeline.Window.rect_emb_val win0_4 t (ix2 r l : S512x1024.Idx) b).trans ?_
    rw [index4]
    fin_cases b
    · show (i 0).val / 512 * 512 + (i 0).val % 512 = (i 0).val; omega
    · show 0 * 1024 + (i 1).val = (i 1).val; omega
  have hr : t.val * 512 + r.val = (i 0).val := by show (i 0).val / 512 * 512 + (i 0).val % 512 = _; omega
  have hb := congrFun ((Value.blocks4 m c t (flush0_4 t)).trans (Value.flushed4 m c t)) (ix2 r l : S512x1024.Idx)
  refine (congrArg ((dats m 0 c).arrAt 4 cfg0.N) he).trans (hb.trans ?_)
  show (outsAt0 m c t).2.1 (ix2 r l) = _
  rw [out_dz]
  refine (pay_dz _ _ _ _ _).trans ?_
  rw [iblk0, iblk1, iblk2, hr, ← at2_eq (D m c) i (i 0).val l.val rfl rfl, ← at2_eq (O m c) i (i 0).val l.val rfl rfl]

/-- The third result: each head's sum of the output times its gradient. -/
theorem arr_delta (h : Fin 16) (u : Fin 8192) : @Eq EReal ((dats m 0 c).arrAt 5 cfg0.N (ix3 h u 0 : S16x8192x1.Idx))
    (∑ d : Fin 64, gradO (at2 (H m c) u.val (3072 + (64 * h.val + d.val))) (at2 (D m c) u.val (64 * h.val + d.val)) * at2 (O m c) u.val (64 * h.val + d.val)) := by
  let t : Fin cfg0.N := ⟨u.val / 512, lt_of_lt_of_eq (by omega) N_0.symm⟩
  let r : Fin 512 := ⟨u.val % 512, Nat.mod_lt _ (by decide)⟩
  have he : (ix3 h u 0 : S16x8192x1.Idx) = (win0_5.rect t).emb (ix3 h r 0 : S16x512x1.Idx) := by
    funext b
    refine Fin.ext (Eq.symm ?_)
    refine (Pipeline.Window.rect_emb_val win0_5 t (ix3 h r 0 : S16x512x1.Idx) b).trans ?_
    rw [index5]
    fin_cases b
    · show 0 * 16 + h.val = h.val; omega
    · show u.val / 512 * 512 + u.val % 512 = u.val; omega
    · rfl
  have hr : t.val * 512 + r.val = u.val := by show u.val / 512 * 512 + u.val % 512 = _; omega
  have hb := congrFun ((Value.blocks5 m c t (flush0_5 t)).trans (Value.flushed5 m c t)) (ix3 h r 0 : S16x512x1.Idx)
  refine (congrArg ((dats m 0 c).arrAt 5 cfg0.N) he).trans (hb.trans ?_)
  show (outsAt0 m c t).2.2 (ix3 h r 0) = _
  refine (out_delta m c t _).trans (Finset.sum_congr rfl fun d _ => ?_)
  have hl : 64 * h.val + d.val < 1024 := by omega
  refine (at2_ix2 _ r ⟨64 * h.val + d.val, hl⟩).symm.trans ?_
  refine (pay_prod _ _ _ _ _).trans ?_
  rw [iblk0, iblk1, iblk2, hr]

/-! ## The reference -/

section Reference
open Cert.Reference14Ideal.Read
variable (o d : FVec Ideal S8192x1024 .f32) (h : FVec Ideal S8192x4224 .f32)

theorem ref_do (r : Fin 8192) (l : Fin 1024) :
    @Eq EReal (val_main_v4 (F := Ideal) h d (ix2 r l)) (gradO (at2 h r.val (3072 + l.val)) (d (ix2 r l))) := by
  rw [← at2_eq h (ix2 r ⟨3072 + l.val, by omega⟩) r.val (3072 + l.val) rfl rfl]
  unfold gradO sg
  pointwise [val_main_v4, val_main_v1_0, val_main_v1_1, val_main_v1_2, val_main_v0, val_main_call0_v0, val_main_call0_v1, val_main_call0_v2, val_main_call0_v3, val_main_call0_v4, val_main_call0_v6, val_main_call0_v7, val_main_call0_cst, val_main_call0_cst_0, val_main_call0_cst_1]
  exact (mul_assoc (G := EReal) _ _ _).symm

theorem ref_dz (r : Fin 8192) (l : Fin 1024) (ho : ∃ x : ℝ, o (ix2 r l) = (x : EReal)) (hh : ∃ x : ℝ, at2 h r.val (3072 + l.val) = (x : EReal))
    (hd : ∃ x : ℝ, d (ix2 r l) = (x : EReal)) :
    @Eq EReal (val_main_v5 (F := Ideal) o h d (ix2 r l)) (gradZ (o (ix2 r l)) (at2 h r.val (3072 + l.val)) (d (ix2 r l))) := by
  have e : @Eq EReal (val_main_v5 (F := Ideal) o h d (ix2 r l)) (o (ix2 r l) * d (ix2 r l) * sg (at2 h r.val (3072 + l.val))
      + at2 h r.val (3072 + l.val) * (o (ix2 r l) * d (ix2 r l)) * (sg (at2 h r.val (3072 + l.val)) * (1 - sg (at2 h r.val (3072 + l.val))))) := by
    rw [← at2_eq h (ix2 r ⟨3072 + l.val, by omega⟩) r.val (3072 + l.val) rfl rfl]
    unfold sg
    pointwise [val_main_v5, val_main_v3, val_main_call1_v0, val_main_call1_v1, val_main_call1_v2, val_main_v1_0, val_main_v1_1, val_main_v1_2, val_main_v0, val_main_call0_v0, val_main_call0_v1, val_main_call0_v2, val_main_call0_v3, val_main_call0_v4, val_main_call0_v6, val_main_call0_v7, val_main_call0_cst, val_main_call0_cst_0, val_main_call0_cst_1]
  obtain ⟨x, hx⟩ := ho
  obtain ⟨z, hz⟩ := hh
  obtain ⟨y, hy⟩ := hd
  refine e.trans ?_
  rw [hx, hz, hy]
  exact gradZ_eq x z y

theorem ref_delta (a : Fin 16) (u : Fin 8192) :
    @Eq EReal (val_main_v10 (F := Ideal) o h d (ix3 a u 0))
      (∑ k : Fin 64, gradO (at2 h u.val (3072 + (64 * a.val + k.val))) (at2 d u.val (64 * a.val + k.val)) * at2 o u.val (64 * a.val + k.val)) := by
  pointwise [val_main_v10, val_main_v9, val_main_v8, val_main_v7, val_main_v6, val_main_cst]
  refine Finset.sum_congr rfl fun (k : Fin 64) _ => ?_
  have hl : 64 * a.val + k.val < 1024 := by omega
  have hc : a.val * 64 + k.val = 64 * a.val + k.val := by omega
  simp only [hc]
  rw [ref_do, ← at2_ix2 d u ⟨64 * a.val + k.val, hl⟩, ← at2_ix2 o u ⟨64 * a.val + k.val, hl⟩]

end Reference

/-! ## The claims -/

/-- Finite arguments hold reals, the projected rows in the columns of the gate. -/
theorem reals (o d : FVec Ideal S8192x1024 .f32) (h : FVec Ideal S8192x4224 .f32) (hf : Cert.Pre_finite14.fn (F := Ideal) o h d = fun _ => 1#1) (r : Fin 8192) (l : Fin 1024) :
    (∃ x : ℝ, @Eq EReal (o (ix2 r l)) x) ∧ (∃ x : ℝ, @Eq EReal (at2 h r.val (3072 + l.val)) x) ∧ ∃ x : ℝ, @Eq EReal (d (ix2 r l)) x := by
  have h0 := congrFun hf (fun a => a.elim0)
  unfold Cert.Pre_finite14.fn at h0
  obtain ⟨h0, e2⟩ := IntOp.andi_eq_one.1 h0
  obtain ⟨e0, e1⟩ := IntOp.andi_eq_one.1 h0
  have : Subsingleton Cert.Pre_finite14.S_.Idx := ⟨fun a b => funext fun x => x.elim0⟩
  refine ⟨⟨_, Cert.ReferenceIdeal.Dq.coe_of_lt _ (Host.reduce_andi_all _ _ _ _ _ e0 (ix2 r l))⟩, ⟨EReal.toReal (at2 h r.val (3072 + l.val)), ?_⟩,
    ⟨_, Cert.ReferenceIdeal.Dq.coe_of_lt _ (Host.reduce_andi_all _ _ _ _ _ e2 (ix2 r l))⟩⟩
  · have e := Cert.ReferenceIdeal.Dq.coe_of_lt _ (Host.reduce_andi_all _ _ _ _ _ e1 (ix2 r l))
    have hi : @Eq EReal ((extractStridedSlice S8192x1024 ![0, 3072] h Cert.Pre_finite14.Facts.slices_S8192x4224_S8192x1024_0_3072 : FVec Ideal S8192x1024 .f32) (ix2 r l)) (at2 h r.val (3072 + l.val)) := by
      pointwise
      exact at2_eq h _ _ _ rfl rfl
    exact hi.symm.trans (e.trans (congrArg (fun x : EReal => ((EReal.toReal x : ℝ) : EReal)) hi))

/-- The printed program's table of bodies is this one's. -/
theorem defs_eq : Cert.Kernel14.defs (F := Bits) = defs (F := Bits) :=
  congrArg (Pipeline.defs pcfgs) (congrArg Defs.onTc (funext fun l => funext fun a => by
    match l, a with
    | ⟨0, _⟩, (t, s) => rfl))

/-- Every run of the call ends and leaves the arguments as they were and every counter at zero. -/
theorem frame_kernel : Cert.quiescent_Kernel14 := fun m g _ => by
  rw [defs_eq]
  exact Gen.frame m g

/-- So does it over the extended reals. -/
theorem frame_kernelIdeal : Cert.quiescent_Kernel14Ideal := fun m g _ => Gen.frame m g

/-- So does it under the precondition. -/
theorem frame_kernelIdeal_finite : Cert.quiescent_Kernel14Ideal_pre_finite14 := fun m g _ => Gen.frame m g

/-- The reference runs and leaves its arguments as they were; it has no counters. -/
theorem frame_reference : Cert.quiescent_Reference14Ideal := fun m g _ =>
  (θ_run Cert.Reference14Ideal.defs _ _).mono (fun r h => ⟨fun c => (h c).2.2.2, sem_eq_zero_of_no_sems (by decide) r.2⟩)
    (Cert.Reference14Ideal.Value.run (F := Ideal) m g)

/-- So does it under the precondition. -/
theorem frame_reference_finite : Cert.quiescent_Reference14Ideal_pre_finite14 := fun m g _ => frame_reference m g trivial

/-- The call's three results are the reference's. -/
theorem algebraic : Cert.algebraic_Kernel14Ideal_Reference14Ideal_pre_finite14 := by
  intro m g m' g' hpre hag
  refine ⟨fun c => (dats m 0 c).arrAt 3 cfg0.N, fun c => (dats m 0 c).arrAt 4 cfg0.N, fun c => (dats m 0 c).arrAt 5 cfg0.N, Value.run_blocks m g,
    (θ_run Cert.Reference14Ideal.defs _ _).mono (fun r h c => ⟨(h c).1.trans ?_, (h c).2.1.trans ?_, (h c).2.2.1.trans ?_, (h c).2.2.2⟩)
      (Cert.Reference14Ideal.Value.run (F := Ideal) m' g')⟩
  · rw [Cert.Reference14Ideal.Read.val_main_v4_eq, (hag c).2.1, (hag c).2.2]
    funext i
    rw [eq_ix2 i]
    exact (ref_do _ _ (i 0) (i 1)).trans (arr_do m c _).symm
  · rw [Cert.Reference14Ideal.Read.val_main_v5_eq, (hag c).1, (hag c).2.1, (hag c).2.2]
    funext i
    rw [eq_ix2 i]
    obtain ⟨ho, hh, hd⟩ := reals _ _ _ (hpre c) (i 0) (i 1)
    exact (ref_dz _ _ _ (i 0) (i 1) ho hh hd).trans (arr_dz m c _).symm
  · rw [Cert.Reference14Ideal.Read.val_main_v10_eq, (hag c).1, (hag c).2.1, (hag c).2.2]
    funext i
    have e : i = (ix3 (i 0) (i 1) 0 : S16x8192x1.Idx) :=
      (eq_ix3 i).trans (congrArg (fun a => ix3 (i 0) (i 1) a) (Subsingleton.elim (α := Fin 1) _ _))
    rw [e]
    exact (ref_delta _ _ _ (i 0) (i 1)).trans (arr_delta m c (i 0) (i 1)).symm

end Cert.Kernel14Ideal.Ew
-- ==== Proof.Ew.LnBwd.lean ====
module

public import proofs.«01_k».proof.Defs
public import proofs.«01_k».proof.Proof.Gen.Kernel15
public import proofs.«01_k».proof.Proof.Gen.Kernel15Ideal.Value
public import proofs.«01_k».proof.Proof.Gen.Reference15Ideal.Run
public import proofs.«01_k».proof.Proof.Gen.Reference15Ideal.Read
public import proofs.«01_k».proof.Proof.Ew.Row
public import proofs.«01_k».proof.Proof.Mm.Sum
public import Idealize.ShloMosaic.Lib.Pipeline.ValueKit.Geometry
public import Idealize.ShloMosaic.Lib.ValueIdx
public import Idealize.ShloMosaic.Lib.Pointwise
public import Idealize.ShloMosaic.Adequacy
public import Idealize.ShloMosaic.Init

@[expose] public section

/-! The gradient of a norm of a sum of two streams: what the call leaves, over the extended reals, and the claims about it. -/

noncomputable section

namespace Cert.Kernel15Ideal.Ew
open Cert.Kernel15Ideal Cert.Kernel15Ideal.Gen Cert.Ew Cert.Mm
open Idealize.ShloMosaic Idealize.ShloMosaic.TcCoe Idealize.SL.Sem

theorem hz : (![0, 0] : Fin 2 → ℕ) = fun _ => 0 := by funext a; fin_cases a <;> rfl

section Step
variable {F : FTy → Type} [FloatOps F] (m : (ℓ : Loc nD τ sig) → Buf (Elt F) ℓ) (c : Dev nD) (t : Fin cfg0.N)

/-- The first point stores its rows' gradients. -/
theorem grad_first (h0 : t.val % 16 = 0) : (outsAt0 m c t.val t.isLt).1 = k0_pay14 (iblk m c 3 t) (k0_pay6 (iblk m c 0 t) (iblk m c 1 t)) (k0_pay7 (iblk m c 0 t) (iblk m c 1 t)) (k0_pay9 (iblk m c 0 t) (iblk m c 1 t))
      (k0_pay10 (iblk m c 0 t) (iblk m c 1 t)) (k0_pay11 (iblk m c 2 t)) := by
  rw [outsAt0_A m c t h0]
  dsimp only
  unfold out0_A_5
  rw [View.read_writes_eq_canon (h := fun y => cover0_A_5 (F := F) ..)]
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_6 t).read_unread, (hs0_7 t).read_unread, View.ld_unit_zero (S := S512x1024) hz, View.ld_unit_zero (S := S1x1024) hz]

/-- So does a later point. -/
theorem grad_later (h0 : ¬t.val % 16 = 0) : (outsAt0 m c t.val t.isLt).1 = k0_pay14 (iblk m c 3 t) (k0_pay6 (iblk m c 0 t) (iblk m c 1 t)) (k0_pay7 (iblk m c 0 t) (iblk m c 1 t)) (k0_pay9 (iblk m c 0 t) (iblk m c 1 t))
      (k0_pay10 (iblk m c 0 t) (iblk m c 1 t)) (k0_pay11 (iblk m c 2 t)) := by
  rw [outsAt0_B m c t h0]
  dsimp only
  unfold out0_B_5
  rw [View.read_writes_eq_canon (h := fun y => cover0_B_5 (F := F) ..)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_6 t).read_unread, (hs0_7 t).read_unread, View.ld_unit_zero (S := S512x1024) hz, View.ld_unit_zero (S := S1x1024) hz]

/-- A point stores its rows' gradients. -/
theorem grad : (outsAt0 m c t.val t.isLt).1 = k0_pay14 (iblk m c 3 t) (k0_pay6 (iblk m c 0 t) (iblk m c 1 t)) (k0_pay7 (iblk m c 0 t) (iblk m c 1 t)) (k0_pay9 (iblk m c 0 t) (iblk m c 1 t))
      (k0_pay10 (iblk m c 0 t) (iblk m c 1 t)) (k0_pay11 (iblk m c 2 t)) := by
  by_cases h0 : t.val % 16 = 0
  · exact grad_first m c t h0
  · exact grad_later m c t h0

/-- The first point leaves the scale's gradient over its rows. -/
theorem scale_first (h0 : t.val % 16 = 0) : (outsAt0 m c t.val t.isLt).2.1 = k0_pay15 (k0_pay13 (iblk m c 0 t) (iblk m c 1 t) (iblk m c 2 t)) k0_pay1 := by
  rw [outsAt0_A m c t h0]
  dsimp only
  unfold out0_A_6
  rw [View.read_writes_eq_canon (h := fun y => cover0_A_6 (F := F) ..)]
  unfold kernelRun0_A
  dsimp only
  sl_unfold_words
  rw [View.canon_cons_unit_zero (S := S1x1024) hz, View.readCov_unit_zero (S := S1x1024) _ hz]
  simp only [View.readAt_eq_ld, (hs0_0 t).read_unread, (hs0_1 t).read_unread, (hs0_2 t).read_unread, (hs0_3 t).read_unread, (hs0_4 t).read_unread, (hs0_6 t).read_unread, (hs0_7 t).read_unread, View.ld_unit_zero (S := S512x1024) hz, View.ld_unit_zero (S := S1x1024) hz]

/-- A later point adds its rows'. -/
theorem scale_later (h0 : ¬t.val % 16 = 0) : (outsAt0 m c t.val t.isLt).2.1 = k0_pay15 (k0_pay13 (iblk m c 0 t) (iblk m c 1 t) (iblk m c 2 t)) (outsAt0 m c (t.val - 1) (Nat.lt_of_le_of_lt (Nat.sub_le _ _) t.isLt)).2.1 := by
  rw [outsAt0_B m c t h0]
  dsimp only
  unfold out0_B_6
  rw [View.read_writes_eq_canon (h := fun y => cover0_B_6 (F := F) ..)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_6 t).read_unread, (hs0_7 t).read_unread, View.ld_unit_zero (S := S512x1024) hz, View.ld_unit_zero (S := S1x1024) hz]

/-- The first point leaves the shift's gradient over its rows. -/
theorem shift_first (h0 : t.val % 16 = 0) : (outsAt0 m c t.val t.isLt).2.2 = k0_pay16 (k0_pay12 (iblk m c 2 t)) k0_pay2 := by
  rw [outsAt0_A m c t h0]
  dsimp only
  unfold out0_A_7
  rw [View.read_writes_eq_canon (h := fun y => cover0_A_7 (F := F) ..)]
  unfold kernelRun0_A
  dsimp only
  sl_unfold_words
  rw [View.canon_cons_unit_zero (S := S1x1024) hz, View.readCov_unit_zero (S := S1x1024) _ hz]
  simp only [View.readAt_eq_ld, (hs0_0 t).read_unread, (hs0_1 t).read_unread, (hs0_2 t).read_unread, (hs0_3 t).read_unread, (hs0_4 t).read_unread, (hs0_6 t).read_unread, (hs0_7 t).read_unread, View.ld_unit_zero (S := S512x1024) hz, View.ld_unit_zero (S := S1x1024) hz]

/-- A later point adds its rows'. -/
theorem shift_later (h0 : ¬t.val % 16 = 0) : (outsAt0 m c t.val t.isLt).2.2 = k0_pay16 (k0_pay12 (iblk m c 2 t)) (outsAt0 m c (t.val - 1) (Nat.lt_of_le_of_lt (Nat.sub_le _ _) t.isLt)).2.2 := by
  rw [outsAt0_B m c t h0]
  dsimp only
  unfold out0_B_7
  rw [View.read_writes_eq_canon (h := fun y => cover0_B_7 (F := F) ..)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_6 t).read_unread, (hs0_7 t).read_unread, View.ld_unit_zero (S := S512x1024) hz, View.ld_unit_zero (S := S1x1024) hz]

end Step

/-! ## A point's values, at an index -/

theorem pay_grad (x y d : Vec Ideal S512x1024 .f32) (g : Vec Ideal S1x1024 .f32) (r : Fin 512) (l : Fin 1024) :
    @Eq EReal (k0_pay14 (F := Ideal) g (k0_pay6 (F := Ideal) x y) (k0_pay7 (F := Ideal) x y) (k0_pay9 (F := Ideal) x y) (k0_pay10 (F := Ideal) x y) (k0_pay11 (F := Ideal) d) (ix2 r l))
      (Row.grad (fun k => x (ix2 r k)) (fun k => y (ix2 r k)) (fun k => g (ix2 0 k)) (fun k => d (ix2 r k)) l) := by
  unfold Row.grad Row.dmean Row.through Row.dvar Row.direct Row.dz Row.inv Row.var Row.dev Row.mean Row.res
  pointwise [k0_pay14, k0_pay11, k0_pay10, k0_pay9, k0_pay8, k0_pay7, k0_pay6, k0_pay5, k0_pay4, k0_pay3, Row.zero_sub, Row.sum_one]

theorem pay_scale (x y d : Vec Ideal S512x1024 .f32) (acc : Vec Ideal S1x1024 .f32) (l : Fin 1024) :
    @Eq EReal (k0_pay15 (F := Ideal) (k0_pay13 (F := Ideal) x y d) acc (ix2 0 l))
      (acc (ix2 0 l) + ∑ r : Fin 512, Row.normed (fun k => x (ix2 r k)) (fun k => y (ix2 r k)) l * d (ix2 r l)) := by
  unfold Row.normed Row.inv Row.var Row.dev Row.mean Row.res
  pointwise [k0_pay15, k0_pay13, k0_pay11, k0_pay9, k0_pay8, k0_pay7, k0_pay5, k0_pay4, k0_pay3]

theorem pay_shift (d : Vec Ideal S512x1024 .f32) (acc : Vec Ideal S1x1024 .f32) (l : Fin 1024) :
    @Eq EReal (k0_pay16 (F := Ideal) (k0_pay12 (F := Ideal) d) acc (ix2 0 l)) (acc (ix2 0 l) + ∑ r : Fin 512, d (ix2 r l)) := by
  pointwise [k0_pay16, k0_pay12]

theorem zero_scale (l : Fin 1024) : k0_pay1 (F := Ideal) (ix2 0 l) = (0 : EReal) := by
  pointwise [k0_pay1]

theorem zero_shift (l : Fin 1024) : k0_pay2 (F := Ideal) (ix2 0 l) = (0 : EReal) := by
  pointwise [k0_pay2]

/-! ## Where a point's blocks lie -/

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)

variable (m : (ℓ : Loc nD τ sig) → Buf (Elt Ideal) ℓ) (c : Dev nD)

/-- The arguments: the two streams, the scale and the gradient of the norm. -/
abbrev X : FVec Ideal S8192x1024 .f32 := m ((c : Thread nD τ).loc main_arg0)
abbrev Y : FVec Ideal S8192x1024 .f32 := m ((c : Thread nD τ).loc main_arg1)
abbrev G : FVec Ideal S1x1024 .f32 := m ((c : Thread nD τ).loc main_arg2)
abbrev D : FVec Ideal S8192x1024 .f32 := m ((c : Thread nD τ).loc main_arg4)

theorem iblk0 (t : Fin cfg0.N) (r : Fin 512) (k : Fin 1024) :
    @Eq EReal (iblk m c 0 t (ix2 r k : S512x1024.Idx)) (at2 (X m c) (t.val * 512 + r.val) k.val) := by
  refine Eq.trans ?_ (at2_eq (X m c) ((win0_0.rect t).emb (ix2 r k : S512x1024.Idx)) _ _ ?_ ?_)
  · rfl
  all_goals
    refine (Pipeline.Window.rect_emb_val win0_0 t (ix2 r k : S512x1024.Idx) _).trans ?_
    rw [index0]
  · rfl
  · show 0 * 1024 + k.val = _; omega

theorem iblk1 (t : Fin cfg0.N) (r : Fin 512) (k : Fin 1024) :
    @Eq EReal (iblk m c 1 t (ix2 r k : S512x1024.Idx)) (at2 (Y m c) (t.val * 512 + r.val) k.val) := by
  refine Eq.trans ?_ (at2_eq (Y m c) ((win0_1.rect t).emb (ix2 r k : S512x1024.Idx)) _ _ ?_ ?_)
  · rfl
  all_goals
    refine (Pipeline.Window.rect_emb_val win0_1 t (ix2 r k : S512x1024.Idx) _).trans ?_
    rw [index1]
  · rfl
  · show 0 * 1024 + k.val = _; omega

theorem iblk2 (t : Fin cfg0.N) (r : Fin 512) (k : Fin 1024) :
    @Eq EReal (iblk m c 2 t (ix2 r k : S512x1024.Idx)) (at2 (D m c) (t.val * 512 + r.val) k.val) := by
  refine Eq.trans ?_ (at2_eq (D m c) ((win0_2.rect t).emb (ix2 r k : S512x1024.Idx)) _ _ ?_ ?_)
  · rfl
  all_goals
    refine (Pipeline.Window.rect_emb_val win0_2 t (ix2 r k : S512x1024.Idx) _).trans ?_
    rw [index2]
  · rfl
  · show 0 * 1024 + k.val = _; omega

theorem iblk3 (t : Fin cfg0.N) (k : Fin 1024) :
    @Eq EReal (iblk m c 3 t (ix2 0 k : S1x1024.Idx)) (G m c (ix2 0 k)) := by
  rw [at2_ix2 (G m c)]
  refine Eq.trans ?_ (at2_eq (G m c) ((win0_3.rect t).emb (ix2 0 k : S1x1024.Idx)) _ _ ?_ ?_)
  · rfl
  all_goals
    refine (Pipeline.Window.rect_emb_val win0_3 t (ix2 0 k : S1x1024.Idx) _).trans ?_
    rw [index3]
  · rfl
  · show 0 * 1024 + k.val = _; omega

/-- The first result: each row's gradient, at every index. -/
theorem arr_grad (i : S8192x1024.Idx) : @Eq EReal ((dats m 0 c).arrAt 5 cfg0.N i)
    (Row.grad (fun k => X m c (ix2 (i 0) k)) (fun k => Y m c (ix2 (i 0) k)) (fun k => G m c (ix2 0 k)) (fun k => D m c (ix2 (i 0) k)) (i 1)) := by
  have h0 : (i 0).val < 8192 := (i 0).isLt
  have h1 : (i 1).val < 1024 := (i 1).isLt
  let t : Fin cfg0.N := ⟨(i 0).val / 512, lt_of_lt_of_eq (by omega) N_0.symm⟩
  let r : Fin 512 := ⟨(i 0).val % 512, Nat.mod_lt _ (by decide)⟩
  let l : Fin 1024 := ⟨(i 1).val, h1⟩
  have he : i = (win0_5.rect t).emb (ix2 r l : S512x1024.Idx) := by
    funext b
    refine Fin.ext (Eq.symm ?_)
    refine (Pipeline.Window.rect_emb_val win0_5 t (ix2 r l : S512x1024.Idx) b).trans ?_
    rw [index5]
    fin_cases b
    · show (i 0).val / 512 * 512 + (i 0).val % 512 = (i 0).val; omega
    · show 0 * 1024 + (i 1).val = (i 1).val; omega
  have hr : t.val * 512 + r.val = (i 0).val := by show (i 0).val / 512 * 512 + (i 0).val % 512 = _; omega
  have hb := congrFun ((Value.blocks5 m c t (flush0_5 t)).trans (Value.flushed5 m c t)) (ix2 r l : S512x1024.Idx)
  refine (congrArg ((dats m 0 c).arrAt 5 cfg0.N) he).trans (hb.trans ?_)
  show (outsAt0 m c t.val t.isLt).1 (ix2 r l) = _
  rw [grad]
  refine (pay_grad _ _ _ _ _ _).trans ?_
  simp only [iblk0, iblk1, iblk2, iblk3, hr, at2_ix2 (X m c) (i 0), at2_ix2 (Y m c) (i 0), at2_ix2 (D m c) (i 0)]
  rfl

/-! ## The sums over the rows -/

/-- A row's term of the scale's gradient, and of the shift's. -/
def scaleTerm (l : Fin 1024) (n : ℕ) : EReal :=
  Row.normed (fun k => at2 (X m c) n k.val) (fun k => at2 (Y m c) n k.val) l * at2 (D m c) n l.val
def shiftTerm (l : Fin 1024) (n : ℕ) : EReal := at2 (D m c) n l.val

/-- The terms of a point's rows. -/
def rowsOf (f : ℕ → EReal) (n : ℕ) : EReal := ∑ r : Fin 512, f (n * 512 + r.val)

theorem scale_point (t : Fin cfg0.N) (acc : Vec Ideal S1x1024 .f32) (l : Fin 1024) :
    @Eq EReal (k0_pay15 (F := Ideal) (k0_pay13 (F := Ideal) (iblk m c 0 t) (iblk m c 1 t) (iblk m c 2 t)) acc (ix2 0 l))
      (acc (ix2 0 l) + rowsOf (scaleTerm m c l) t.val) := by
  refine (pay_scale _ _ _ _ _).trans ?_
  simp only [iblk0, iblk1, iblk2]
  rfl

theorem shift_point (t : Fin cfg0.N) (acc : Vec Ideal S1x1024 .f32) (l : Fin 1024) :
    @Eq EReal (k0_pay16 (F := Ideal) (k0_pay12 (F := Ideal) (iblk m c 2 t)) acc (ix2 0 l))
      (acc (ix2 0 l) + rowsOf (shiftTerm m c l) t.val) := by
  refine (pay_shift _ _ _).trans ?_
  simp only [iblk2]
  rfl

/-- The scale's gradient so far. -/
theorem scale_acc (l : Fin 1024) (n : ℕ) (h : n < cfg0.N) :
    @Eq EReal ((outsAt0 m c n h).2.1 (ix2 0 l)) (∑ u ∈ Finset.range (n + 1), rowsOf (scaleTerm m c l) u) := by
  refine Row.total (fun n h => ((outsAt0 m c n h).2.1 (ix2 0 l) : EReal)) _ ?_ ?_ n h
  · intro h
    have e := congrFun (scale_first m c ⟨0, h⟩ rfl) (ix2 0 l)
    refine e.trans ((scale_point m c ⟨0, h⟩ _ l).trans ?_)
    rw [zero_scale, zero_add]
  · intro n h
    have hN : cfg0.N = 16 := N_0
    have e := congrFun (scale_later m c ⟨n + 1, h⟩ (by show ¬(n + 1) % 16 = 0; omega)) (ix2 0 l)
    exact e.trans (scale_point m c ⟨n + 1, h⟩ _ l)

/-- The shift's gradient so far. -/
theorem shift_acc (l : Fin 1024) (n : ℕ) (h : n < cfg0.N) :
    @Eq EReal ((outsAt0 m c n h).2.2 (ix2 0 l)) (∑ u ∈ Finset.range (n + 1), rowsOf (shiftTerm m c l) u) := by
  refine Row.total (fun n h => ((outsAt0 m c n h).2.2 (ix2 0 l) : EReal)) _ ?_ ?_ n h
  · intro h
    have e := congrFun (shift_first m c ⟨0, h⟩ rfl) (ix2 0 l)
    refine e.trans ((shift_point m c ⟨0, h⟩ _ l).trans ?_)
    rw [zero_shift, zero_add]
  · intro n h
    have hN : cfg0.N = 16 := N_0
    have e := congrFun (shift_later m c ⟨n + 1, h⟩ (by show ¬(n + 1) % 16 = 0; omega)) (ix2 0 l)
    exact e.trans (shift_point m c ⟨n + 1, h⟩ _ l)

/-- The last point, where the two sums are written back. -/
def last : Fin cfg0.N := ⟨15, lt_of_lt_of_eq (by decide) N_0.symm⟩

theorem only_last (t : Fin cfg0.N) (h : t.val % 16 = 15) : t = last := by
  have hN : t.val < 16 := lt_of_lt_of_eq t.isLt N_0
  exact Fin.ext (show t.val = 15 by omega)

/-- The sums over the points are the sums over all rows. -/
theorem rows_total (f : ℕ → EReal) : ∑ u ∈ Finset.range 16, rowsOf f u = ∑ k : Fin 8192, f k.val := sum_blocks 512 f 16

/-- The second result: the scale's gradient. -/
theorem arr_scale (l : Fin 1024) : @Eq EReal ((dats m 0 c).arrAt 6 cfg0.N (ix2 0 l : S1x1024.Idx)) (∑ k : Fin 8192, scaleTerm m c l k.val) := by
  have he : (ix2 0 l : S1x1024.Idx) = (win0_6.rect last).emb (ix2 0 l : S1x1024.Idx) := by
    funext b
    refine Fin.ext (Eq.symm ?_)
    refine (Pipeline.Window.rect_emb_val win0_6 last (ix2 0 l : S1x1024.Idx) b).trans ?_
    rw [index6]
    fin_cases b
    · rfl
    · show 0 * 1024 + l.val = l.val; omega
  have hb := congrFun (((dats m 0 c).read_blk_arrAt_eq_flushed 6
    (fun t t' h h' hne => absurd ((only_last t ((flush0_6 t).1 h)).trans (only_last t' ((flush0_6 t').1 h')).symm) hne)
    cfg0.N last last.isLt ((flush0_6 last).2 rfl)).trans (Value.flushed6 m c last)) (ix2 0 l : S1x1024.Idx)
  refine (congrArg ((dats m 0 c).arrAt 6 cfg0.N) he).trans (hb.trans ?_)
  exact (scale_acc m c l 15 last.isLt).trans (rows_total _)

/-- The third result: the shift's gradient. -/
theorem arr_shift (l : Fin 1024) : @Eq EReal ((dats m 0 c).arrAt 7 cfg0.N (ix2 0 l : S1x1024.Idx)) (∑ k : Fin 8192, shiftTerm m c l k.val) := by
  have he : (ix2 0 l : S1x1024.Idx) = (win0_7.rect last).emb (ix2 0 l : S1x1024.Idx) := by
    funext b
    refine Fin.ext (Eq.symm ?_)
    refine (Pipeline.Window.rect_emb_val win0_7 last (ix2 0 l : S1x1024.Idx) b).trans ?_
    rw [index7]
    fin_cases b
    · rfl
    · show 0 * 1024 + l.val = l.val; omega
  have hb := congrFun (((dats m 0 c).read_blk_arrAt_eq_flushed 7
    (fun t t' h h' hne => absurd ((only_last t ((flush0_7 t).1 h)).trans (only_last t' ((flush0_7 t').1 h')).symm) hne)
    cfg0.N last last.isLt ((flush0_7 last).2 rfl)).trans (Value.flushed7 m c last)) (ix2 0 l : S1x1024.Idx)
  refine (congrArg ((dats m 0 c).arrAt 7 cfg0.N) he).trans (hb.trans ?_)
  exact (shift_acc m c l 15 last.isLt).trans (rows_total _)

/-! ## The claims -/

open Cert.Reference15Ideal.Read in
/-- The reference's gradient of the stream, at an index. -/
theorem ref_grad (x y d : FVec Ideal S8192x1024 .f32) (g : FVec Ideal S1x1024 .f32) (r : Fin 8192) (l : Fin 1024) :
    @Eq EReal (val_main_v61 (F := Ideal) x y g d (ix2 r l))
      (Row.grad (fun k => x (ix2 r k)) (fun k => y (ix2 r k)) (fun k => g (ix2 0 k)) (fun k => d (ix2 r k)) l) := by
  unfold Row.grad Row.dmean Row.through Row.dvar Row.direct Row.dz Row.inv Row.var Row.dev Row.mean Row.res
  pointwise [Row.sum_one, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v30, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_9, val_main_cst_10, val_main_cst_11, val_main_cst_12, val_main_cst_13, val_main_cst_14, val_main_cst_15]

open Cert.Reference15Ideal.Read in
/-- The reference's gradient of the scale, at an index. -/
theorem ref_scale (x y d : FVec Ideal S8192x1024 .f32) (l : Fin 1024) :
    @Eq EReal (val_main_v35 (F := Ideal) x y d (ix2 0 l))
      (∑ r : Fin 8192, Row.normed (fun k => x (ix2 r k)) (fun k => y (ix2 r k)) l * d (ix2 r l)) := by
  unfold Row.normed Row.inv Row.var Row.dev Row.mean Row.res
  pointwise [val_main_v35, val_main_v34, val_main_v33, val_main_v30, val_main_v25, val_main_v24, val_main_v20, val_main_v19, val_main_v18, val_main_v17, val_main_v16, val_main_v15, val_main_v14, val_main_v13, val_main_v12, val_main_v9, val_main_v8, val_main_v7, val_main_v6, val_main_v5, val_main_v4, val_main_v3, val_main_v2, val_main_v1, val_main_v0, val_main_cst, val_main_cst_0, val_main_cst_1, val_main_cst_3, val_main_cst_4, val_main_cst_5, val_main_cst_8]

open Cert.Reference15Ideal.Read in
/-- The reference's gradient of the shift, at an index. -/
theorem ref_shift (d : FVec Ideal S8192x1024 .f32) (l : Fin 1024) :
    @Eq EReal (val_main_v32 (F := Ideal) d (ix2 0 l)) (∑ r : Fin 8192, d (ix2 r l)) := by
  pointwise [val_main_v32, val_main_v31, val_main_cst_7]

/-- The printed program's table of bodies is this one's. -/
theorem defs_eq : Cert.Kernel15.defs (F := Bits) = defs (F := Bits) :=
  congrArg (Pipeline.defs pcfgs) (congrArg Defs.onTc (funext fun l => funext fun a => by
    match l, a with
    | ⟨0, _⟩, (t, s) => rfl))

/-- The call as printed runs and leaves its arguments and counters as they were. -/
theorem frame_kernel : Cert.quiescent_Kernel15 := fun m g _ => by
  rw [defs_eq]
  exact Gen.frame m g

/-- So does it over the extended reals. -/
theorem frame_kernelIdeal : Cert.quiescent_Kernel15Ideal := fun m g _ => Gen.frame m g

/-- The reference runs and leaves its arguments as they were; it has no counters. -/
theorem frame_reference : Cert.quiescent_Reference15Ideal := fun m g _ =>
  (θ_run Cert.Reference15Ideal.defs _ _).mono (fun r h => ⟨fun c => (h c).2.2.2, sem_eq_zero_of_no_sems (by decide) r.2⟩)
    (Cert.Reference15Ideal.Value.run (F := Ideal) m g)

/-- An index of the one row. -/
theorem one_row (i : S1x1024.Idx) : i = ix2 0 (i 1) :=
  (eq_ix2 i).trans (congrArg (fun a => ix2 a (i 1)) (Subsingleton.elim (α := Fin 1) _ _))

/-- The call's three results are the reference's. -/
theorem algebraic : Cert.algebraic_Kernel15Ideal_Reference15Ideal := by
  intro m g m' g' _ hag
  refine ⟨fun c => (dats m 0 c).arrAt 5 cfg0.N, fun c => (dats m 0 c).arrAt 6 cfg0.N, fun c => (dats m 0 c).arrAt 7 cfg0.N, Value.run_blocks m g,
    (θ_run Cert.Reference15Ideal.defs _ _).mono (fun r h c => ⟨(h c).1.trans ?_, (h c).2.1.trans ?_, (h c).2.2.1.trans ?_, (h c).2.2.2⟩)
      (Cert.Reference15Ideal.Value.run (F := Ideal) m' g')⟩
  · rw [Cert.Reference15Ideal.Read.val_main_v61_eq, (hag c).1, (hag c).2.1, (hag c).2.2.1, (hag c).2.2.2.2]
    funext i
    refine Eq.trans ?_ ((ref_grad _ _ _ _ (i 0) (i 1)).trans (arr_grad m c i).symm)
    exact congrArg _ (eq_ix2 i)
  · rw [Cert.Reference15Ideal.Read.val_main_v35_eq, (hag c).1, (hag c).2.1, (hag c).2.2.2.2]
    funext i
    rw [one_row i]
    refine (ref_scale _ _ _ (i 1)).trans (Eq.trans ?_ (arr_scale m c (i 1)).symm)
    refine Finset.sum_congr rfl fun k _ => ?_
    unfold scaleTerm
    simp only [at2_ix2 (X m c) k, at2_ix2 (Y m c) k]
    exact congrArg _ (at2_ix2 (D m c) k (i 1))
  · rw [Cert.Reference15Ideal.Read.val_main_v32_eq, (hag c).2.2.2.2]
    funext i
    rw [one_row i]
    refine (ref_shift _ (i 1)).trans (Eq.trans ?_ (arr_shift m c (i 1)).symm)
    exact Finset.sum_congr rfl fun k _ => at2_ix2 (D m c) k (i 1)

end Cert.Kernel15Ideal.Ew
-- ==== Proof.Ew.PleFwd.lean ====
module

public import proofs.«01_k».proof.Defs
public import proofs.«01_k».proof.Proof.Gen.Kernel16
public import proofs.«01_k».proof.Proof.Gen.Kernel16Ideal.Value
public import proofs.«01_k».proof.Proof.Gen.Reference16Ideal.Run
public import proofs.«01_k».proof.Proof.Gen.Reference16Ideal.Read
public import proofs.«01_k».proof.Proof.Ew.Sigmoid
public import Idealize.ShloMosaic.Adequacy
public import Idealize.ShloMosaic.Init

@[expose] public section

/-! The per-layer embedding's gate: what the call leaves, over the extended reals, and the claims about it. -/

noncomputable section

namespace Cert.Kernel16Ideal.Ew
open Cert.Kernel16Ideal Cert.Kernel16Ideal.Gen Cert.Ew
open Idealize.ShloMosaic Idealize.ShloMosaic.TcCoe Idealize.SL.Sem

/-- The reference's logistic function, at an index. -/
theorem ref_logistic (x : FVec Ideal S8192x1024 .f32) (i : S8192x1024.Idx) :
    Cert.Reference16Ideal.Read.val_main_v5 (F := Ideal) x i = logistic (x i) := by
  rw [Cert.Reference16Ideal.Read.val_main_v5_apply, Cert.Reference16Ideal.Read.val_main_v4_apply, Cert.Reference16Ideal.Read.val_main_v3_apply,
    Cert.Reference16Ideal.Read.val_main_v2_apply]
  exact logistic_eq (x i)

/-- The gated embedding added to the stream: the kernel's operations are the reference's. -/
theorem out_eq (x g p : FVec Ideal S8192x1024 .f32) :
    Cert.Reference16Ideal.Read.val_main_v7 (F := Ideal) x g p = Value.G3 (F := Ideal) x g p := by
  funext i
  rw [Cert.Reference16Ideal.Read.val_main_v7_apply, Cert.Reference16Ideal.Read.val_main_v6_apply, ref_logistic]
  rfl

/-- The printed program's table of bodies is this one's. -/
theorem defs_eq : Cert.Kernel16.defs (F := Bits) = defs (F := Bits) :=
  congrArg (Pipeline.defs pcfgs) (congrArg Defs.onTc (funext fun l => funext fun a => by
    match l, a with
    | ⟨0, _⟩, (t, s) => rfl))

/-- The call as printed runs and leaves its arguments and counters as they were. -/
theorem frame_kernel : Cert.quiescent_Kernel16 := fun m g _ => by
  rw [defs_eq]
  exact Gen.frame m g

/-- So does it over the extended reals. -/
theorem frame_kernelIdeal : Cert.quiescent_Kernel16Ideal := fun m g _ => Gen.frame m g

/-- The reference runs and leaves its arguments as they were; it has no counters. -/
theorem frame_reference : Cert.quiescent_Reference16Ideal := fun m g _ =>
  (θ_run Cert.Reference16Ideal.defs _ _).mono (fun r h => ⟨fun c => (h c).2, sem_eq_zero_of_no_sems (by decide) r.2⟩)
    (Cert.Reference16Ideal.Value.run (F := Ideal) m g)

/-- The call's result is the reference's. -/
theorem algebraic : Cert.algebraic_Kernel16Ideal_Reference16Ideal := by
  intro m g m' g' _ hag
  refine ⟨_, Value.run m g,
    (θ_run Cert.Reference16Ideal.defs _ _).mono (fun r h c => ⟨(h c).1.trans ?_, (h c).2⟩)
      (Cert.Reference16Ideal.Value.run (F := Ideal) m' g')⟩
  rw [(hag c).1, (hag c).2.1, (hag c).2.2]
  exact out_eq _ _ _

end Cert.Kernel16Ideal.Ew
-- ==== Proof.Ew.GateFwd.lean ====
module

public import proofs.«01_k».proof.Defs
public import proofs.«01_k».proof.Proof.Gen.Kernel17
public import proofs.«01_k».proof.Proof.Gen.Kernel17Ideal.Value
public import proofs.«01_k».proof.Proof.Gen.Reference17Ideal.Run
public import proofs.«01_k».proof.Proof.Gen.Reference17Ideal.Read
public import proofs.«01_k».proof.Proof.Ew.Sigmoid
public import proofs.«01_k».proof.Proof.Mm.Sum
public import Idealize.ShloMosaic.Lib.Pipeline.ValueKit.Geometry
public import Idealize.ShloMosaic.Lib.ValueIdx
public import Idealize.ShloMosaic.Adequacy
public import Idealize.ShloMosaic.Init

@[expose] public section

/-! The attention's output gate: what the call leaves, over the extended reals, and the claims about it. -/

noncomputable section

namespace Cert.Kernel17Ideal.Ew
open Cert.Kernel17Ideal Cert.Kernel17Ideal.Gen Cert.Ew Cert.Mm
open Idealize.ShloMosaic Idealize.ShloMosaic.TcCoe Idealize.SL.Sem

theorem hz : (![0, 0] : Fin 2 → ℕ) = fun _ => 0 := by funext a; fin_cases a <;> rfl

/-- A point stores its gated block. -/
theorem out {F : FTy → Type} [FloatOps F] (m : (ℓ : Loc nD τ sig) → Buf (Elt F) ℓ) (c : Dev nD) (t : Fin cfg0.N) :
    outsAt0 m c t = k0_pay1 (iblk m c 0 t) (X0_1 m c t) := by
  unfold outsAt0 out0_A_2
  rw [View.read_writes_eq_canon (h := fun y => cover0_A_2 (F := F) ..)]
  unfold kernelRun0_A
  dsimp only
  sl_unfold_words
  rw [View.canon_unit_zero hz]
  simp only [View.readAt_eq_ld, (hs0_0 t).read_unread, (hs0_1 t).read_unread, View.ld_unit_zero (S := S512x1024) hz]

/-- The gate of one entry. -/
def gate (o z : Ideal .f32) : Ideal .f32 := FloatOps.mulf o (FloatOps.mulf z (logistic z))

/-- A point's gated block, at an index. -/
theorem pay_apply (o z : Vec Ideal S512x1024 .f32) (j : S512x1024.Idx) :
    @Eq EReal (k0_pay1 (F := Ideal) o z j) (gate (o j) (z j)) := rfl

theorem index0 : ∀ t : Fin cfg0.N, win0_0.index t = ![t.val, 0] := (by decide +kernel : ∀ t : Fin grid0.N, _)
theorem index1 : ∀ t : Fin cfg0.N, win0_1.index t = ![t.val, 3] := (by decide +kernel : ∀ t : Fin grid0.N, _)
theorem index2 : ∀ t : Fin cfg0.N, win0_2.index t = ![t.val, 0] := (by decide +kernel : ∀ t : Fin grid0.N, _)

variable (m : (ℓ : Loc nD τ sig) → Buf (Elt Ideal) ℓ) (c : Dev nD)

/-- The attention's output and the projected rows, whose last quarter of the first 4096 columns is the gate's argument. -/
abbrev O : FVec Ideal S8192x1024 .f32 := m ((c : Thread nD τ).loc main_arg0)
abbrev H : FVec Ideal S8192x4224 .f32 := m ((c : Thread nD τ).loc main_arg1)

theorem iblk0 (t : Fin cfg0.N) (r : Fin 512) (k : Fin 1024) :
    @Eq EReal (iblk m c 0 t (ix2 r k : S512x1024.Idx)) (at2 (O m c) (t.val * 512 + r.val) k.val) := by
  refine Eq.trans ?_ (at2_eq (O m c) ((win0_0.rect t).emb (ix2 r k : S512x1024.Idx)) _ _ ?_ ?_)
  · rfl
  all_goals
    refine (Pipeline.Window.rect_emb_val win0_0 t (ix2 r k : S512x1024.Idx) _).trans ?_
    rw [index0]
  · rfl
  · show 0 * 1024 + k.val = _; omega

theorem iblk1 (t : Fin cfg0.N) (r : Fin 512) (k : Fin 1024) :
    @Eq EReal (X0_1 m c t (ix2 r k : S512x1024.Idx)) (at2 (H m c) (t.val * 512 + r.val) (3072 + k.val)) := by
  have key : ∀ y : ((cfg0.win 1).xblock (cfg0.grid.coords t)).Idx, (y (0 : Fin 2)).val = r.val → (y (1 : Fin 2)).val = k.val →
      @Eq EReal (iblk m c 1 t y) (at2 (H m c) (t.val * 512 + r.val) (3072 + k.val)) := by
    intro y e0 e1
    refine Eq.trans ?_ (at2_eq (H m c) ((win0_1.rect t).emb y) _ _ ?_ ?_)
    · rfl
    all_goals
      refine (Pipeline.Window.rect_emb_val win0_1 t y _).trans ?_
      rw [index1]
    · exact congrArg (t.val * 512 + ·) e0
    · exact congrArg (3072 + ·) e1
  unfold X0_1 Pipeline.Window.fill
  rw [dif_pos (moved0_1 t _)]
  exact key _ rfl rfl

/-- What the call leaves, at every index. -/
theorem arr_eq (i : S8192x1024.Idx) :
    @Eq EReal ((dats m 0 c).arrAt 2 cfg0.N i) (gate (O m c i) (at2 (H m c) (i 0).val (3072 + (i 1).val))) := by
  have h0 : (i 0).val < 8192 := (i 0).isLt
  have h1 : (i 1).val < 1024 := (i 1).isLt
  let t : Fin cfg0.N := ⟨(i 0).val / 512, lt_of_lt_of_eq (by omega) N_0.symm⟩
  let r : Fin 512 := ⟨(i 0).val % 512, Nat.mod_lt _ (by decide)⟩
  let l : Fin 1024 := ⟨(i 1).val, h1⟩
  have he : i = (win0_2.rect t).emb (ix2 r l : S512x1024.Idx) := by
    funext b
    refine Fin.ext (Eq.symm ?_)
    refine (Pipeline.Window.rect_emb_val win0_2 t (ix2 r l : S512x1024.Idx) b).trans ?_
    rw [index2]
    fin_cases b
    · show (i 0).val / 512 * 512 + (i 0).val % 512 = (i 0).val; omega
    · show 0 * 1024 + (i 1).val = (i 1).val; omega
  have hr : t.val * 512 + r.val = (i 0).val := by show (i 0).val / 512 * 512 + (i 0).val % 512 = _; omega
  have hb := congrFun ((Value.blocks2 m c t (flush0_2 t)).trans (Value.flushed2 m c t)) (ix2 r l : S512x1024.Idx)
  refine (congrArg ((dats m 0 c).arrAt 2 cfg0.N) he).trans (hb.trans ?_)
  show outsAt0 m c t (ix2 r l) = _
  rw [out]
  refine (pay_apply _ _ _).trans ?_
  rw [iblk0, iblk1, hr, ← at2_eq (O m c) i (i 0).val l.val rfl rfl]

/-! ## The claims -/

/-- The reference's logistic function, at an index. -/
theorem ref_logistic (x : FVec Ideal S8192x4224 .f32) (i : S8192x1024.Idx) :
    Cert.Reference17Ideal.Read.val_main_call0_v5 (F := Ideal) x i = logistic (Cert.Reference17Ideal.Read.val_main_v0 (F := Ideal) x i) := by
  rw [Cert.Reference17Ideal.Read.val_main_call0_v5_apply, Cert.Reference17Ideal.Read.val_main_call0_v4_apply, Cert.Reference17Ideal.Read.val_main_call0_v3_apply,
    Cert.Reference17Ideal.Read.val_main_call0_v2_apply]
  exact logistic_eq _

/-- The reference's result, at an index. -/
theorem reference_apply (o : FVec Ideal S8192x1024 .f32) (h : FVec Ideal S8192x4224 .f32) (i : S8192x1024.Idx) :
    @Eq EReal (Cert.Reference17Ideal.Read.val_main_v3 (F := Ideal) o h i) (gate (o i) (at2 h (i 0).val (3072 + (i 1).val))) := by
  rw [Cert.Reference17Ideal.Read.val_main_v3_apply, Cert.Reference17Ideal.Read.val_main_v2_apply, Cert.Reference17Ideal.Read.val_main_v1_apply, ref_logistic,
    Cert.Reference17Ideal.Read.val_main_v0_apply, ← at2_eq h (Cert.Reference17Ideal.Read.idx_main_v0 i) (i 0).val (3072 + (i 1).val) (by rfl) (by rfl)]
  rfl

/-- The printed program's table of bodies is this one's. -/
theorem defs_eq : Cert.Kernel17.defs (F := Bits) = defs (F := Bits) :=
  congrArg (Pipeline.defs pcfgs) (congrArg Defs.onTc (funext fun l => funext fun a => by
    match l, a with
    | ⟨0, _⟩, (t, s) => rfl))

/-- The call as printed runs and leaves its arguments and counters as they were. -/
theorem frame_kernel : Cert.quiescent_Kernel17 := fun m g _ => by
  rw [defs_eq]
  exact Gen.frame m g

/-- So does it over the extended reals. -/
theorem frame_kernelIdeal : Cert.quiescent_Kernel17Ideal := fun m g _ => Gen.frame m g

/-- The reference runs and leaves its arguments as they were; it has no counters. -/
theorem frame_reference : Cert.quiescent_Reference17Ideal := fun m g _ =>
  (θ_run Cert.Reference17Ideal.defs _ _).mono (fun r h => ⟨fun c => (h c).2, sem_eq_zero_of_no_sems (by decide) r.2⟩)
    (Cert.Reference17Ideal.Value.run (F := Ideal) m g)

/-- The call's result is the reference's. -/
theorem algebraic : Cert.algebraic_Kernel17Ideal_Reference17Ideal := by
  intro m g m' g' _ hag
  refine ⟨fun c => (dats m 0 c).arrAt 2 cfg0.N, Value.run_blocks m g,
    (θ_run Cert.Reference17Ideal.defs _ _).mono (fun r h c => ⟨(h c).1.trans ?_, (h c).2⟩) (Cert.Reference17Ideal.Value.run (F := Ideal) m' g')⟩
  rw [(hag c).1, (hag c).2, Cert.Reference17Ideal.Read.val_main_v3_eq]
  funext i
  exact (reference_apply _ _ i).trans (arr_eq m c i).symm

end Cert.Kernel17Ideal.Ew
-- ==== Proof.Ew.LnFwd.lean ====
module

public import proofs.«01_k».proof.Defs
public import proofs.«01_k».proof.Proof.Gen.Kernel18
public import proofs.«01_k».proof.Proof.Gen.Kernel18Ideal.Value
public import proofs.«01_k».proof.Proof.Gen.Reference18Ideal.Run
public import proofs.«01_k».proof.Proof.Gen.Reference18Ideal.Read
public import proofs.«01_k».proof.Proof.Ew.Row
public import proofs.«01_k».proof.Proof.Mm.Sum
public import Idealize.ShloMosaic.Lib.Pipeline.ValueKit.Geometry
public import Idealize.ShloMosaic.Lib.ValueIdx
public import Idealize.ShloMosaic.Lib.Pointwise
public import Idealize.ShloMosaic.Adequacy
public import Idealize.ShloMosaic.Init

@[expose] public section

/-! The norm of a sum of two streams: what the call leaves, over the extended reals, and the claims about it. -/

noncomputable section

namespace Cert.Kernel18Ideal.Ew
open Cert.Kernel18Ideal Cert.Kernel18Ideal.Gen Cert.Ew Cert.Mm
open Idealize.ShloMosaic Idealize.ShloMosaic.TcCoe Idealize.SL.Sem

theorem hz : (![0, 0] : Fin 2 → ℕ) = fun _ => 0 := by funext a; fin_cases a <;> rfl

/-- A point stores its rows' norms. -/
theorem out {F : FTy → Type} [FloatOps F] (x y : Vec F S512x1024 .f32) (g b : Vec F S1x1024 .f32) : out0_4 x y g b = k0_pay1 x y g b := by
  unfold out0_4
  sl_unfold_words
  rw [View.canon_unit_zero hz]
  simp only [View.ld_unit_zero (S := S512x1024) hz, View.ld_unit_zero (S := S1x1024) hz]

/-- A row's norm, at an index of a point's block. -/
theorem pay_apply (x y : Vec Ideal S512x1024 .f32) (g b : Vec Ideal S1x1024 .f32) (r : Fin 512) (l : Fin 1024) :
    @Eq EReal (k0_pay1 (F := Ideal) x y g b (ix2 r l))
      (Row.out (fun k => x (ix2 r k)) (fun k => y (ix2 r k)) (fun k => g (ix2 0 k)) (fun k => b (ix2 0 k)) l) := by
  unfold Row.out Row.normed Row.inv Row.var Row.dev Row.mean Row.res
  pointwise [k0_pay1]

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)

variable (m : (ℓ : Loc nD τ sig) → Buf (Elt Ideal) ℓ) (c : Dev nD)

/-- The arguments: the two streams, the scale and the shift. -/
abbrev X : FVec Ideal S8192x1024 .f32 := m ((c : Thread nD τ).loc main_arg0)
abbrev Y : FVec Ideal S8192x1024 .f32 := m ((c : Thread nD τ).loc main_arg1)
abbrev G : FVec Ideal S1x1024 .f32 := m ((c : Thread nD τ).loc main_arg2)
abbrev B : FVec Ideal S1x1024 .f32 := m ((c : Thread nD τ).loc main_arg3)

theorem iblk0 (t : Fin cfg0.N) (r : Fin 512) (k : Fin 1024) :
    @Eq EReal (iblk m c 0 t (ix2 r k : S512x1024.Idx)) (at2 (X m c) (t.val * 512 + r.val) k.val) := by
  refine Eq.trans ?_ (at2_eq (X m c) ((win0_0.rect t).emb (ix2 r k : S512x1024.Idx)) _ _ ?_ ?_)
  · rfl
  all_goals
    refine (Pipeline.Window.rect_emb_val win0_0 t (ix2 r k : S512x1024.Idx) _).trans ?_
    rw [index0]
  · rfl
  · show 0 * 1024 + k.val = _; omega

theorem iblk1 (t : Fin cfg0.N) (r : Fin 512) (k : Fin 1024) :
    @Eq EReal (iblk m c 1 t (ix2 r k : S512x1024.Idx)) (at2 (Y m c) (t.val * 512 + r.val) k.val) := by
  refine Eq.trans ?_ (at2_eq (Y m c) ((win0_1.rect t).emb (ix2 r k : S512x1024.Idx)) _ _ ?_ ?_)
  · rfl
  all_goals
    refine (Pipeline.Window.rect_emb_val win0_1 t (ix2 r k : S512x1024.Idx) _).trans ?_
    rw [index1]
  · rfl
  · show 0 * 1024 + k.val = _; omega

theorem iblk2 (t : Fin cfg0.N) (k : Fin 1024) :
    @Eq EReal (iblk m c 2 t (ix2 0 k : S1x1024.Idx)) (G m c (ix2 0 k)) := by
  rw [at2_ix2 (G m c)]
  refine Eq.trans ?_ (at2_eq (G m c) ((win0_2.rect t).emb (ix2 0 k : S1x1024.Idx)) _ _ ?_ ?_)
  · rfl
  all_goals
    refine (Pipeline.Window.rect_emb_val win0_2 t (ix2 0 k : S1x1024.Idx) _).trans ?_
    rw [index2]
  · rfl
  · show 0 * 1024 + k.val = _; omega

theorem iblk3 (t : Fin cfg0.N) (k : Fin 1024) :
    @Eq EReal (iblk m c 3 t (ix2 0 k : S1x1024.Idx)) (B m c (ix2 0 k)) := by
  rw [at2_ix2 (B m c)]
  refine Eq.trans ?_ (at2_eq (B m c) ((win0_3.rect t).emb (ix2 0 k : S1x1024.Idx)) _ _ ?_ ?_)
  · rfl
  all_goals
    refine (Pipeline.Window.rect_emb_val win0_3 t (ix2 0 k : S1x1024.Idx) _).trans ?_
    rw [index3]
  · rfl
  · show 0 * 1024 + k.val = _; omega

/-- What the call leaves: each row's norm, at every index. -/
theorem arr_eq (i : S8192x1024.Idx) : @Eq EReal ((dats m 0 c).arrAt 4 cfg0.N i)
    (Row.out (fun k => X m c (ix2 (i 0) k)) (fun k => Y m c (ix2 (i 0) k)) (fun k => G m c (ix2 0 k)) (fun k => B m c (ix2 0 k)) (i 1)) := by
  have h0 : (i 0).val < 8192 := (i 0).isLt
  have h1 : (i 1).val < 1024 := (i 1).isLt
  let t : Fin cfg0.N := ⟨(i 0).val / 512, lt_of_lt_of_eq (by omega) N_0.symm⟩
  let r : Fin 512 := ⟨(i 0).val % 512, Nat.mod_lt _ (by decide)⟩
  let l : Fin 1024 := ⟨(i 1).val, h1⟩
  have he : i = (win0_4.rect t).emb (ix2 r l : S512x1024.Idx) := by
    funext b
    refine Fin.ext (Eq.symm ?_)
    refine (Pipeline.Window.rect_emb_val win0_4 t (ix2 r l : S512x1024.Idx) b).trans ?_
    rw [index4]
    fin_cases b
    · show (i 0).val / 512 * 512 + (i 0).val % 512 = (i 0).val; omega
    · show 0 * 1024 + (i 1).val = (i 1).val; omega
  have hr : t.val * 512 + r.val = (i 0).val := by show (i 0).val / 512 * 512 + (i 0).val % 512 = _; omega
  have hb := congrFun ((Value.blocks4 m c t (flush0_4 t)).trans (Value.flushed4 m c t)) (ix2 r l : S512x1024.Idx)
  refine (congrArg ((dats m 0 c).arrAt 4 cfg0.N) he).trans (hb.trans ?_)
  show out0_4 (iblk m c 0 t) (iblk m c 1 t) (iblk m c 2 t) (iblk m c 3 t) (ix2 r l) = _
  rw [out]
  refine (pay_apply _ _ _ _ _ _).trans ?_
  simp only [iblk0, iblk1, iblk2, iblk3, hr, at2_ix2 (X m c) (i 0), at2_ix2 (Y m c) (i 0)]
  rfl

/-! ## The claims -/

open Cert.Reference18Ideal.Read in
/-- The reference's result, at an index. -/
theorem reference_apply (x y : FVec Ideal S8192x1024 .f32) (g b : FVec Ideal S1x1024 .f32) (r : Fin 8192) (l : Fin 1024) :
    @Eq EReal (val_main_v24 (F := Ideal) x y g b (ix2 r l))
      (Row.out (fun k => x (ix2 r k)) (fun k => y (ix2 r k)) (fun k => g (ix2 0 k)) (fun k => b (ix2 0 k)) l) := by
  unfold Row.out Row.normed Row.inv Row.var Row.dev Row.mean Row.res
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4]

/-- The printed program's table of bodies is this one's. -/
theorem defs_eq : Cert.Kernel18.defs (F := Bits) = defs (F := Bits) :=
  congrArg (Pipeline.defs pcfgs) (congrArg Defs.onTc (funext fun l => funext fun a => by
    match l, a with
    | ⟨0, _⟩, (t, s) => rfl))

/-- The call as printed runs and leaves its arguments and counters as they were. -/
theorem frame_kernel : Cert.quiescent_Kernel18 := fun m g _ => by
  rw [defs_eq]
  exact Gen.frame m g

/-- So does it over the extended reals. -/
theorem frame_kernelIdeal : Cert.quiescent_Kernel18Ideal := fun m g _ => Gen.frame m g

/-- The reference runs and leaves its arguments as they were; it has no counters. -/
theorem frame_reference : Cert.quiescent_Reference18Ideal := fun m g _ =>
  (θ_run Cert.Reference18Ideal.defs _ _).mono (fun r h => ⟨fun c => (h c).2, sem_eq_zero_of_no_sems (by decide) r.2⟩)
    (Cert.Reference18Ideal.Value.run (F := Ideal) m g)

/-- The call's result is the reference's. -/
theorem algebraic : Cert.algebraic_Kernel18Ideal_Reference18Ideal := by
  intro m g m' g' _ hag
  refine ⟨fun c => (dats m 0 c).arrAt 4 cfg0.N, Value.run_blocks m g,
    (θ_run Cert.Reference18Ideal.defs _ _).mono (fun r h c => ⟨(h c).1.trans ?_, (h c).2⟩) (Cert.Reference18Ideal.Value.run (F := Ideal) m' g')⟩
  rw [Cert.Reference18Ideal.Read.val_main_v24_eq, (hag c).1, (hag c).2.1, (hag c).2.2.1, (hag c).2.2.2]
  funext i
  refine Eq.trans ?_ ((reference_apply _ _ _ _ (i 0) (i 1)).trans (arr_eq m c i).symm)
  exact congrArg _ (eq_ix2 i)

end Cert.Kernel18Ideal.Ew
-- ==== Proof.Cv.Shift.lean ====
module

public import proofs.«01_k».proof.Proof.Mm.Sum
public import Idealize.ShloMosaic.Lib.KernelVsHost
public import Idealize.ShloMosaic.Lib.Pointwise
public import Idealize.ShloMosaic.Init

@[expose] public section

/-! Rows read at a distance: what the causal convolution and its gradient share. -/

noncomputable section

namespace Cert.Cv
open Idealize.ShloMosaic Cert.Mm

/-- Row `n - 8` of an array with rows of zeros before its first. -/
def past {p q : ℕ} (X : (⟨2, ![p, q]⟩ : Shape).Idx → EReal) (n j : ℕ) : EReal := if n < 8 then 0 else at2 X (n - 8) j

/-- The convolution: four rows, the last one the row itself, each times its tap. -/
def conv {p q u : ℕ} (X : (⟨2, ![p, q]⟩ : Shape).Idx → EReal) (w : (⟨2, ![4, u]⟩ : Shape).Idx → EReal) (r j : ℕ) : EReal :=
  0 + at2 w 0 j * past X (r + 5) j + at2 w 1 j * past X (r + 6) j + at2 w 2 j * past X (r + 7) j + at2 w 3 j * past X (r + 8) j

/-- Its gradient for the rows: the row itself and the three after it, each times its tap. -/
def convT {p q u : ℕ} (D : (⟨2, ![p, q]⟩ : Shape).Idx → EReal) (w : (⟨2, ![4, u]⟩ : Shape).Idx → EReal) (r j : ℕ) : EReal :=
  0 + at2 w 0 j * at2 D (r + 3) j + at2 w 1 j * at2 D (r + 2) j + at2 w 2 j * at2 D (r + 1) j + at2 w 3 j * at2 D r j

/-- `h` whole rows from the row `n` on lie in `p`. -/
abbrev Fits (h p n : ℕ) : Prop := ∀ a : Fin 2, (![n, 0] : Fin 2 → ℕ) a + (![h, 512] : Fin 2 → ℕ) a ≤ (![p, 512] : Fin 2 → ℕ) a

/-- An array's entry below its last row is zero. -/
theorem at2_below {p q : ℕ} (X : (⟨2, ![p, q]⟩ : Shape).Idx → EReal) (n j : ℕ) (h : p ≤ n) : at2 X n j = 0 := by
  unfold at2
  exact dif_neg fun e => by omega

/-- A sum of products of terms a distance apart, by the one term or by the other; the first is zero from `N` on. -/
theorem sum_shift (f g : ℕ → EReal) (N s : ℕ) (hs : s ≤ N) (hf : ∀ n, N ≤ n → f n = 0) :
    ∑ k : Fin N, f (k.val + s) * g k.val = ∑ k : Fin N, f k.val * (if k.val < s then 0 else g (k.val - s)) := by
  rw [Fin.sum_univ_eq_sum_range (fun k => f (k + s) * g k) N, Fin.sum_univ_eq_sum_range (fun k => f k * (if k < s then 0 else g (k - s))) N]
  obtain ⟨M, rfl⟩ : ∃ M, N = s + M := ⟨N - s, by omega⟩
  rw [Finset.sum_range_add (fun k => f k * (if k < s then 0 else g (k - s))) s M, Nat.add_comm s M, Finset.sum_range_add (fun k => f (k + s) * g k) M s,
    Finset.sum_eq_zero (s := Finset.range s) (fun k _ => by rw [hf (M + k + s) (by omega), zero_mul]),
    Finset.sum_eq_zero (s := Finset.range s) (fun k h => by rw [if_pos (Finset.mem_range.1 h), mul_zero]), add_zero, zero_add]
  refine Finset.sum_congr rfl fun k _ => ?_
  rw [if_neg (by omega), Nat.add_comm k s, Nat.add_sub_cancel_left]

/-- So the gradient of a tap: by the row that is read, or by the row of the result. -/
theorem sum_tap {p q u : ℕ} (D : (⟨2, ![p, q]⟩ : Shape).Idx → EReal) (X : (⟨2, ![p, u]⟩ : Shape).Idx → EReal) (s j : ℕ) (hs : s ≤ p) (h8 : s ≤ 8) :
    ∑ k : Fin p, at2 D (k.val + s) j * at2 X k.val j = ∑ k : Fin p, at2 D k.val j * past X (k.val + (8 - s)) j := by
  rw [sum_shift (fun n => at2 D n j) (fun n => at2 X n j) p s hs (fun n h => at2_below D n j h)]
  refine Finset.sum_congr rfl fun k _ => congrArg (_ * ·) ?_
  unfold past
  by_cases h : k.val < s
  · rw [if_pos h, if_pos (by omega)]
  · rw [if_neg h, if_neg (by omega)]
    exact congrArg (at2 X · j) (by omega)

/-- Rows of zeros put before and after an array's rows. -/
theorem pad_rows {p q p' lo hi : ℕ} (X : (⟨2, ![p, q]⟩ : Shape).Idx → EReal) {u : Shape} (v : u.Idx → EReal) (hv : ∀ i, v i = 0)
    (h : (⟨2, ![p, q]⟩ : Shape).Pads ![lo, 0] ![hi, 0] ![0, 0] ⟨2, ![p', q]⟩) (hu : 0 < u.numel) (y : (⟨2, ![p', q]⟩ : Shape).Idx) :
    pad ⟨2, ![p', q]⟩ ![lo, 0] ![hi, 0] ![0, 0] X v h hu y = if (y 0).val < lo then 0 else at2 X ((y 0).val - lo) (y 1).val := by
  have h1 : (y 1).val < q := (y 1).isLt
  by_cases hl : (y 0).val < lo
  · rw [if_pos hl, pad_apply_of_not_inside ![lo, 0] ![hi, 0] ![0, 0] X v h hu y 0 (fun e => absurd (show lo ≤ (y 0).val from e.1) (by omega)), hv]
  · rw [if_neg hl]
    by_cases hp : (y 0).val - lo < p
    · refine (pad_apply_of_inside ![lo, 0] ![hi, 0] ![0, 0] X v h hu y (ix2 ⟨(y 0).val - lo, hp⟩ ⟨(y 1).val, h1⟩) (fun a => ?_)).trans (at2_ix2 X _ _)
      fin_cases a
      · show (y 0).val = lo + ((y 0).val - lo) * (0 + 1); omega
      · show (y 1).val = 0 + (y 1).val * (0 + 1); omega
    · rw [at2_below X _ _ (by omega), pad_apply_of_not_inside ![lo, 0] ![hi, 0] ![0, 0] X v h hu y 0 (fun e => absurd (show ((y 0).val - lo) / (0 + 1) < p from e.2.2) (by simpa using hp)), hv]

/-- Three rows of zeros put before an array's. -/
theorem past_rows {q u : ℕ} (X : (⟨2, ![8192, u]⟩ : Shape).Idx → EReal) (Z : (⟨2, ![3, q]⟩ : Shape).Idx → EReal) (Y : (⟨2, ![8192, q]⟩ : Shape).Idx → EReal)
    (hZ : ∀ i, Z i = 0) (hY : ∀ i, Y i = at2 X (i 0).val (i 1).val) (h) (y : (⟨2, ![8195, q]⟩ : Shape).Idx) :
    concatenate (⟨2, ![8195, q]⟩ : Shape) 0 [⟨⟨2, ![3, q]⟩, Z⟩, ⟨⟨2, ![8192, q]⟩, Y⟩] h y = past X ((y 0).val + 5) (y 1).val := by
  have h0 : (y 0).val < 8195 := (y 0).isLt
  have h1 : (y 1).val < q := (y 1).isLt
  unfold past
  by_cases hl : (y 0).val < 3
  · rw [if_pos (by omega)]
    refine (concatenate_pair_apply_left (s₁ := ⟨2, ![3, q]⟩) (s₂ := ⟨2, ![8192, q]⟩) 0 _ _ _ y rfl
      (ix2 (⟨(y 0).val, hl⟩ : Fin 3) (⟨(y 1).val, h1⟩ : Fin q)) (fun b => by fin_cases b <;> rfl)).trans (hZ _)
  · rw [if_neg (by omega)]
    refine (concatenate_pair_apply_right (s₁ := ⟨2, ![3, q]⟩) (s₂ := ⟨2, ![8192, q]⟩) 0 _ _ _ y rfl rfl
      (ix2 (⟨(y 0).val - 3, by omega⟩ : Fin 8192) (⟨(y 1).val, h1⟩ : Fin q)) (fun b hb => by fin_cases b; exact absurd rfl hb; rfl)
      (by show (y 0).val - 3 + 3 = (y 0).val; omega)).trans ((hY _).trans ?_)
    show at2 X ((y 0).val - 3) (y 1).val = at2 X ((y 0).val + 5 - 8) (y 1).val
    exact congrArg (at2 X · (y 1).val) (by omega)

/-- One row stored over others adds its terms to them. -/
theorem store_row {n q : ℕ} (base : Fin n → Fin q → EReal) (term : ℕ → Fin q → EReal) {old new : (⟨2, ![n, q]⟩ : Shape).Idx → EReal} {v : (⟨2, ![1, q]⟩ : Shape).Idx → EReal} (b : Fin n)
    (hold : ∀ a k, old (ix2 a k) = base a k + if a.val < b.val then term a.val k else 0)
    (hv : ∀ k, v (ix2 0 k) = old (ix2 b k) + term b.val k)
    (hm : ∀ k, new (ix2 b k) = v (ix2 0 k)) (hn : ∀ a k, a ≠ b → new (ix2 a k) = old (ix2 a k)) :
    ∀ a k, new (ix2 a k) = base a k + if a.val < b.val + 1 then term a.val k else 0 := by
  intro a k
  by_cases h : a = b
  · subst h
    rw [hm, hv, hold, if_neg (by omega), if_pos (by omega), add_zero]
  · have hne : a.val ≠ b.val := fun e => h (Fin.ext e)
    rw [hn a k h, hold]
    by_cases hl : a.val < b.val
    · rw [if_pos hl, if_pos (by omega)]
    · rw [if_neg hl, if_neg (by omega)]

end Cert.Cv
-- ==== Proof.Cv.ConvBwd.lean ====
module

public import proofs.«01_k».proof.Defs
public import proofs.«01_k».proof.Proof.Gen.Kernel19
public import proofs.«01_k».proof.Proof.Gen.Kernel19Ideal.Value
public import proofs.«01_k».proof.Proof.Gen.Reference19Ideal.Run
public import proofs.«01_k».proof.Proof.Gen.Reference19Ideal.Read
public import proofs.«01_k».proof.Proof.Cv.Shift
public import proofs.«01_k».proof.Proof.Mm.Sum
public import Idealize.ShloMosaic.Lib.Pipeline.ValueKit.Geometry
public import Idealize.ShloMosaic.Lib.ValueIdx
public import Idealize.ShloMosaic.Lib.WritesUnit
public import Idealize.ShloMosaic.Lib.Pointwise
public import Idealize.ShloMosaic.Adequacy
public import Idealize.ShloMosaic.Init

@[expose] public section

/-! The gradient of the causal convolution: what the call leaves, over the extended reals, and the claims about it. -/

noncomputable section

/-! ## The reference -/

namespace Cert.Reference19Ideal.Cv
open Cert.Reference19Ideal Cert.Reference19Ideal.Read Cert.Cv Cert.Mm
open Idealize.ShloMosaic

variable (x0 : FVec Ideal S8192x1024 .f32) (x1 : FVec Ideal S8192x4224 .f32) (x2 : FVec Ideal S4x1024 .f32)

/-- The reference's rows: zeros before the array's. -/
theorem ref_rows (y : S8195x1024.Idx) : @Eq EReal (val_main_v2 (F := Ideal) x1 y) (past x1 ((y 0).val + 5) (y 1).val) := by
  refine past_rows x1 _ _ (fun i => ?_) (fun i => ?_) _ y
  · rw [val_main_v1_apply, val_main_cst_apply]
    pointwise []
  · rw [val_main_v0_apply]
    exact at2_eq x1 _ _ _ rfl rfl

theorem same25 (i : S8192x1024.Idx) : idx_main_v25 i = i := by
  have h0 : (i 0).val < 8192 := (i 0).isLt
  have h1 : (i 1).val < 1024 := (i 1).isLt
  funext a
  refine Fin.ext ?_
  fin_cases a
  · show ((i 0).val * 1024 + (i 1).val) / 1024 = (i 0).val; omega
  · show ((i 0).val * 1024 + (i 1).val) % 1024 = (i 1).val; omega

/-- A product by a tap, read as entries. -/
theorem at2_tap (V : (⟨2, ![8192, 1024]⟩ : Shape).Idx → EReal) (a : ℕ) (hV : ∀ i, V i = at2 x2 a (i 1).val * x0 i) (n j : ℕ) (hj : j < 1024) :
    at2 V n j = at2 x2 a j * at2 x0 n j := by
  by_cases hn : n < 8192
  · rw [← at2_eq V (ix2 ⟨n, hn⟩ ⟨j, hj⟩) n j rfl rfl, hV, at2_ix2 x0]
    rfl
  · rw [at2_below _ _ _ (by omega), at2_below x0 _ _ (by omega), mul_zero]

theorem tap3 (i : S8192x1024.Idx) : @Eq EReal (val_main_v28 (F := Ideal) x0 x2 i) (at2 x2 3 (i 1).val * x0 i) := by
  rw [val_main_v28_apply, val_main_v27_apply, val_main_v20_apply, val_main_v26_apply, show idx_main_v26 i = i from same25 i,
    ← at2_eq x2 (idx_main_v20 (idx_main_v27 i)) 3 (i 1).val rfl rfl]
  rfl
theorem tap2 (i : S8192x1024.Idx) : @Eq EReal (val_main_v35 (F := Ideal) x0 x2 i) (at2 x2 2 (i 1).val * x0 i) := by
  rw [val_main_v35_apply, val_main_v34_apply, val_main_v15_apply, val_main_v25_apply, same25,
    ← at2_eq x2 (idx_main_v15 (idx_main_v34 i)) 2 (i 1).val rfl rfl]
  rfl
theorem tap1 (i : S8192x1024.Idx) : @Eq EReal (val_main_v44 (F := Ideal) x0 x2 i) (at2 x2 1 (i 1).val * x0 i) := by
  rw [val_main_v44_apply, val_main_v43_apply, val_main_v10_apply, val_main_v25_apply, same25,
    ← at2_eq x2 (idx_main_v10 (idx_main_v43 i)) 1 (i 1).val rfl rfl]
  rfl
theorem tap0 (i : S8192x1024.Idx) : @Eq EReal (val_main_v53 (F := Ideal) x0 x2 i) (at2 x2 0 (i 1).val * x0 i) := by
  rw [val_main_v53_apply, val_main_v52_apply, val_main_v4_apply, val_main_v25_apply, same25,
    ← at2_eq x2 (idx_main_v4 (idx_main_v52 i)) 0 (i 1).val rfl rfl]
  rfl

theorem zero3 (i : S_.Idx) : val_main_cst_3 (F := Ideal) i = (0 : EReal) := by pointwise [val_main_cst_3]
theorem zero6 (i : S_.Idx) : val_main_cst_6 (F := Ideal) i = (0 : EReal) := by pointwise [val_main_cst_6]
theorem zero9 (i : S_.Idx) : val_main_cst_9 (F := Ideal) i = (0 : EReal) := by pointwise [val_main_cst_9]
theorem zero12 (i : S_.Idx) : val_main_cst_12 (F := Ideal) i = (0 : EReal) := by pointwise [val_main_cst_12]
theorem zero4 (i : S_.Idx) : val_main_cst_4 (F := Ideal) i = (0 : EReal) := zero3 i
theorem zero7 (i : S_.Idx) : val_main_cst_7 (F := Ideal) i = (0 : EReal) := zero3 i
theorem zero10 (i : S_.Idx) : val_main_cst_10 (F := Ideal) i = (0 : EReal) := zero3 i
theorem zero13 (i : S_.Idx) : val_main_cst_13 (F := Ideal) i = (0 : EReal) := zero3 i

/-- The number the host pads with. -/
theorem zeroPad (i : S_.Idx) : val_main_call0_v0 (F := Ideal) i = (0 : EReal) := by
  rw [val_main_call0_v0_apply, val_main_c_apply]
  show (((0#32).toInt : ℝ) : EReal) = 0
  simp

/-- The reference's gradient of the rows, at an index. -/
theorem ref_dx (i : S8192x1024.Idx) :
    @Eq EReal (val_main_v62 (F := Ideal) x0 x2 i) (convT x0 x2 (i 0).val (i 1).val) := by
  have h1 : (i 1).val < 1024 := (i 1).isLt
  rw [val_main_v62_apply, val_main_v58_apply, val_main_v49_apply, val_main_v40_apply]
  unfold val_main_v32 val_main_v39 val_main_v48 val_main_v57 convT
  rw [pad_rows _ _ zero3, pad_rows _ _ zero6, pad_rows _ _ zero9, pad_rows _ _ zero12]
  show ((if 3 + (i 0).val < 3 then 0 else at2 (val_main_v28 (F := Ideal) x0 x2) (3 + (i 0).val - 3) (i 1).val)
      + (if 3 + (i 0).val < 2 then 0 else at2 (val_main_v35 (F := Ideal) x0 x2) (3 + (i 0).val - 2) (i 1).val)
      + (if 3 + (i 0).val < 1 then 0 else at2 (val_main_v44 (F := Ideal) x0 x2) (3 + (i 0).val - 1) (i 1).val)
      + (if 3 + (i 0).val < 0 then 0 else at2 (val_main_v53 (F := Ideal) x0 x2) (3 + (i 0).val - 0) (i 1).val) : EReal) = _
  rw [if_neg (by omega), if_neg (by omega), if_neg (by omega), if_neg (by omega),
    at2_tap x0 x2 _ 3 (tap3 x0 x2) _ _ h1, at2_tap x0 x2 _ 2 (tap2 x0 x2) _ _ h1, at2_tap x0 x2 _ 1 (tap1 x0 x2) _ _ h1, at2_tap x0 x2 _ 0 (tap0 x0 x2) _ _ h1,
    show 3 + (i 0).val - 3 = (i 0).val by omega, show 3 + (i 0).val - 2 = (i 0).val + 1 by omega, show 3 + (i 0).val - 1 = (i 0).val + 2 by omega,
    show 3 + (i 0).val - 0 = (i 0).val + 3 by omega, zero_add]
  generalize at2 x2 3 (i 1).val * at2 x0 (i 0).val (i 1).val = e3
  generalize at2 x2 2 (i 1).val * at2 x0 ((i 0).val + 1) (i 1).val = e2
  generalize at2 x2 1 (i 1).val * at2 x0 ((i 0).val + 2) (i 1).val = e1
  generalize at2 x2 0 (i 1).val * at2 x0 ((i 0).val + 3) (i 1).val = e0
  rw [add_comm (e3 + e2 + e1) e0, add_comm (e3 + e2) e1, add_comm e3 e2, add_assoc (e0 + e1) e2 e3, add_assoc e0 e1 (e2 + e3)]

/-- The reference's gradient of tap 3, at a column. -/
theorem row3 (y : S1x1024.Idx) :
    @Eq EReal (val_main_v31 (F := Ideal) x0 x1 y) (∑ k : Fin 8192, at2 x0 k.val (y 1).val * past x1 (k.val + 8) (y 1).val) := by
  have h0 : (y 0).val < 1 := (y 0).isLt
  rw [val_main_v31_apply, val_main_v30_apply, show val_main_cst_2 (F := Ideal) (Shape.Idx.first _) = (0 : EReal) from zero3 _, zero_add]
  refine Finset.sum_congr rfl fun k _ => ?_
  rw [val_main_v29_apply, val_main_v26_apply, show idx_main_v26 _ = _ from same25 _, val_main_v21_apply, ref_rows]
  refine congrArg₂ (· * ·) (at2_eq x0 _ _ _ rfl ?_) (congrArg₂ (past x1) ?_ ?_)
  · show (y 0).val * 1024 + (y 1).val = (y 1).val; omega
  · show 3 + k.val + 5 = k.val + 8; omega
  · show (y 0).val * 1024 + (y 1).val = (y 1).val; omega

/-- The reference's gradient of tap 2, at a column. -/
theorem row2 (y : S1x1024.Idx) :
    @Eq EReal (val_main_v38 (F := Ideal) x0 x1 y) (∑ k : Fin 8192, at2 x0 k.val (y 1).val * past x1 (k.val + 7) (y 1).val) := by
  have h0 : (y 0).val < 1 := (y 0).isLt
  rw [val_main_v38_apply, val_main_v37_apply, show val_main_cst_5 (F := Ideal) (Shape.Idx.first _) = (0 : EReal) from zero3 _, zero_add]
  refine Finset.sum_congr rfl fun k _ => ?_
  rw [val_main_v36_apply, val_main_v25_apply, show idx_main_v25 _ = _ from same25 _, val_main_v16_apply, ref_rows]
  refine congrArg₂ (· * ·) (at2_eq x0 _ _ _ rfl ?_) (congrArg₂ (past x1) ?_ ?_)
  · show (y 0).val * 1024 + (y 1).val = (y 1).val; omega
  · show 2 + k.val + 5 = k.val + 7; omega
  · show (y 0).val * 1024 + (y 1).val = (y 1).val; omega

/-- The reference's gradient of tap 1, at a column. -/
theorem row1 (y : S1x1024.Idx) :
    @Eq EReal (val_main_v47 (F := Ideal) x0 x1 y) (∑ k : Fin 8192, at2 x0 k.val (y 1).val * past x1 (k.val + 6) (y 1).val) := by
  have h0 : (y 0).val < 1 := (y 0).isLt
  rw [val_main_v47_apply, val_main_v46_apply, show val_main_cst_8 (F := Ideal) (Shape.Idx.first _) = (0 : EReal) from zero3 _, zero_add]
  refine Finset.sum_congr rfl fun k _ => ?_
  rw [val_main_v45_apply, val_main_v25_apply, show idx_main_v25 _ = _ from same25 _, val_main_v11_apply, ref_rows]
  refine congrArg₂ (· * ·) (at2_eq x0 _ _ _ rfl ?_) (congrArg₂ (past x1) ?_ ?_)
  · show (y 0).val * 1024 + (y 1).val = (y 1).val; omega
  · show 1 + k.val + 5 = k.val + 6; omega
  · show (y 0).val * 1024 + (y 1).val = (y 1).val; omega

/-- The reference's gradient of tap 0, at a column. -/
theorem row0 (y : S1x1024.Idx) :
    @Eq EReal (val_main_v56 (F := Ideal) x0 x1 y) (∑ k : Fin 8192, at2 x0 k.val (y 1).val * past x1 (k.val + 5) (y 1).val) := by
  have h0 : (y 0).val < 1 := (y 0).isLt
  rw [val_main_v56_apply, val_main_v55_apply, show val_main_cst_11 (F := Ideal) (Shape.Idx.first _) = (0 : EReal) from zero3 _, zero_add]
  refine Finset.sum_congr rfl fun k _ => ?_
  rw [val_main_v54_apply, val_main_v25_apply, show idx_main_v25 _ = _ from same25 _, val_main_v5_apply, ref_rows]
  refine congrArg₂ (· * ·) (at2_eq x0 _ _ _ rfl ?_) (congrArg₂ (past x1) ?_ ?_)
  · show (y 0).val * 1024 + (y 1).val = (y 1).val; omega
  · show k.val + 5 = k.val + 5; omega
  · show (y 0).val * 1024 + (y 1).val = (y 1).val; omega

/-- The sum for tap `a`. -/
def tapSum (a j : ℕ) : EReal := ∑ k : Fin 8192, at2 x0 k.val j * past x1 (k.val + (5 + a)) j

/-- One row of sums put among rows of zeros. -/
theorem at2_row (V : (⟨2, ![1, 1024]⟩ : Shape).Idx → EReal) (a : ℕ) (hV : ∀ y, V y = tapSum x0 x1 a (y 1).val) (n j : ℕ) (hj : j < 1024) :
    (if n < a then 0 else at2 V (n - a) j) = if n = a then tapSum x0 x1 a j else 0 := by
  by_cases h : n < a
  · rw [if_pos h, if_neg (by omega)]
  · rw [if_neg h]
    by_cases e : n = a
    · rw [if_pos e, ← at2_eq V (ix2 0 ⟨j, hj⟩) (n - a) j (by show 0 = n - a; omega) rfl, hV]
      rfl
    · rw [if_neg e, at2_below _ _ _ (by omega)]

/-- Of the four, the one that is not zero. -/
theorem pick (f : ℕ → EReal) (n : ℕ) (h : n < 4) :
    (((if n = 3 then f 3 else 0) + (if n = 2 then f 2 else 0)) + (if n = 1 then f 1 else 0)) + (if n = 0 then f 0 else 0) = f n := by
  interval_cases n <;> simp

/-- The reference's gradient of the taps, at an index. -/
theorem ref_dw (i : S8x1024.Idx) :
    @Eq EReal (val_main_v63 (F := Ideal) x0 x1 i) (if (i 0).val < 4 then tapSum x0 x1 (i 0).val (i 1).val else 0) := by
  have h1 : (i 1).val < 1024 := (i 1).isLt
  unfold val_main_v63
  rw [pad_rows _ _ zeroPad, if_neg (Nat.not_lt_zero _), Nat.sub_zero]
  by_cases h : (i 0).val < 4
  · rw [if_pos h, ← at2_eq (val_main_v60 (F := Ideal) x0 x1) (ix2 ⟨(i 0).val, h⟩ ⟨(i 1).val, h1⟩) (i 0).val (i 1).val rfl rfl,
      val_main_v60_apply, val_main_v51_apply, val_main_v42_apply]
    unfold val_main_v33 val_main_v41 val_main_v50 val_main_v59
    rw [pad_rows _ _ zero4, pad_rows _ _ zero7, pad_rows _ _ zero10, pad_rows _ _ zero13]
    show ((if (i 0).val < 3 then 0 else at2 (val_main_v31 (F := Ideal) x0 x1) ((i 0).val - 3) (i 1).val)
        + (if (i 0).val < 2 then 0 else at2 (val_main_v38 (F := Ideal) x0 x1) ((i 0).val - 2) (i 1).val)
        + (if (i 0).val < 1 then 0 else at2 (val_main_v47 (F := Ideal) x0 x1) ((i 0).val - 1) (i 1).val)
        + (if (i 0).val < 0 then 0 else at2 (val_main_v56 (F := Ideal) x0 x1) ((i 0).val - 0) (i 1).val) : EReal) = _
    rw [at2_row x0 x1 _ 3 (row3 x0 x1) _ _ h1, at2_row x0 x1 _ 2 (row2 x0 x1) _ _ h1, at2_row x0 x1 _ 1 (row1 x0 x1) _ _ h1, at2_row x0 x1 _ 0 (row0 x0 x1) _ _ h1]
    exact pick (fun a => tapSum x0 x1 a (i 1).val) (i 0).val h
  · rw [if_neg h, at2_below _ _ _ (by omega)]

/-- It is the sum the call leaves. -/
theorem dw_eq (a j : ℕ) :
    (∑ p : Fin 8192, if a < 4 then at2 x0 (p.val + (3 - a)) j * at2 x1 p.val j else 0) = if a < 4 then tapSum x0 x1 a j else 0 := by
  by_cases h : a < 4
  · simp only [if_pos h]
    unfold tapSum
    rw [sum_tap x0 x1 (3 - a) j (by omega) (by omega), show 8 - (3 - a) = 5 + a by omega]
  · simp only [if_neg h, Finset.sum_const_zero]

end Cert.Reference19Ideal.Cv

namespace Cert.Kernel19Ideal.Cv
open Cert.Kernel19Ideal Cert.Kernel19Ideal.Gen Cert.Reference19Ideal.Cv Cert.Cv Cert.Mm
open Idealize.ShloMosaic Idealize.ShloMosaic.TcCoe Idealize.SL.Sem

theorem hz : (![0, 0] : Fin 2 → ℕ) = fun _ => 0 := by funext a; fin_cases a <;> rfl

/-! ## What a point stores -/

section Stores
variable {F : FTy → Type} [FloatOps F] (m : (ℓ : Loc nD τ sig) → Buf (Elt F) ℓ) (c : Dev nD) (t : Fin cfg0.N)

/-- The rows a point keeps in scratch: its block above the eight rows after it. -/
def rows : List (View.Piece (Elt F) S520x512 .f32) :=
  [⟨Rect.unit ![512, 0] ![8, 512] inb_S520x512_S8x512_512_0, k0_pay3 (grid0.coords t) (iblk m c 1 t)⟩,
    ⟨Rect.unit ![0, 0] ![512, 512] inb_S520x512_S512x512_0_0, k0_pay2 (iblk m c 0 t)⟩]

/-- A load of 512 of these rows, from the row `n` on. -/
def load (n : ℕ) (inb : Fits 512 520 n := by decide) : Vec F S512x512 .f32 :=
  (View.whole cc0_scratch0).readCov (rows m c t) (Rect.unit (s := S520x512) ![n, 0] S512x512.size inb).toLoadRect

/-- A load of one row of taps. -/
def tap (n : ℕ) (inb : Fits 1 4 n := by decide) : Vec F S1x512 .f32 :=
  View.ld (iblk m c 3 t) (Rect.unit (s := S4x512) ![n, 0] S1x512.size inb)

/-- The gradient of the rows. -/
def dxOf : Vec F S512x512 .f32 :=
  k0_pay8 (k0_pay4 (load m c t 3) (tap m c t 0))
    (load m c t 2) (tap m c t 1)
    (load m c t 1) (tap m c t 2)
    (load m c t 0) (tap m c t 3)

theorem dx_first (h0 : t.val % 16 = 0) : (outsAt0 m c t.val t.isLt).1 = dxOf m c t := by
  rw [outsAt0_A m c t h0]
  dsimp only
  unfold out0_A_4
  rw [View.read_writes_eq_canon (h := fun y => cover0_A_4 (F := F) ..)]
  unfold kernelRun0_A
  dsimp only
  sl_unfold_words
  rw [View.canon_unit_zero hz]
  simp only [View.readAt_eq_ld, (hs0_0 t).read_unread, (hs0_1 t).read_unread, (hs0_2 t).read_unread, (hs0_3 t).read_unread, View.ld_unit_zero (S := S512x512) hz, View.ld_unit_zero (S := S8x512) hz]
  rfl

theorem dx_later (h0 : ¬t.val % 16 = 0) : (outsAt0 m c t.val t.isLt).1 = dxOf m c t := by
  rw [outsAt0_B m c t h0]
  dsimp only
  unfold out0_B_4
  rw [View.read_writes_eq_canon (h := fun y => cover0_B_4 (F := F) ..)]
  unfold kernelRun0_B
  dsimp only
  sl_unfold_words
  rw [View.canon_unit_zero hz]
  simp only [View.readAt_eq_ld, (hs0_0 t).read_unread, (hs0_1 t).read_unread, (hs0_2 t).read_unread, (hs0_3 t).read_unread, View.ld_unit_zero (S := S512x512) hz, View.ld_unit_zero (S := S8x512) hz]
  rfl

theorem dx : (outsAt0 m c t.val t.isLt).1 = dxOf m c t := by
  by_cases h0 : t.val % 16 = 0
  · exact dx_first m c t h0
  · exact dx_later m c t h0

/-- Stores to the buffer of the taps' gradient, the last first, and one of a row. -/
abbrev Stores (F : FTy → Type) [FloatOps F] := List (View.Piece (Elt F) S8x512 .f32)
abbrev stored (n : ℕ) (v : Vec F S1x512 .f32) (inb : Fits 1 8 n := by decide) : View.Piece (Elt F) S8x512 .f32 := ⟨Rect.unit ![n, 0] ![1, 512] inb, v⟩

/-- A load of one row of what stores left in the buffer of the taps' gradient. -/
def reread (L : Stores F) (n : ℕ) (inb : Fits 1 8 n := by decide) : Vec F S1x512 .f32 :=
  (ms0_5 t).view.readCov L (Rect.unit (s := S8x512) ![n, 0] S1x512.size inb).toLoadRect

/-- The stores of the taps' gradient at the first point of a run: zeros, and then each row over the stores before it. -/
def first0 : Stores F := [⟨Rect.unit ![0, 0] ![8, 512] inb_S8x512_S8x512_0_0, k0_pay1⟩]
def first1 : Stores F := stored 0 (k0_pay5 (X0_2 m c t) (load m c t 3) (reread t first0 0)) :: first0
def first2 : Stores F := stored 1 (k0_pay6 (X0_2 m c t) (load m c t 2) (reread t (first1 m c t) 1)) :: first1 m c t
def first3 : Stores F := stored 2 (k0_pay7 (X0_2 m c t) (load m c t 1) (reread t (first2 m c t) 2)) :: first2 m c t
def first4 : Stores F := stored 3 (k0_pay9 (X0_2 m c t) (load m c t 0) (reread t (first3 m c t) 3)) :: first3 m c t

theorem dw_first (h0 : t.val % 16 = 0) : (outsAt0 m c t.val t.isLt).2 = View.canon (first4 m c t) := by
  rw [outsAt0_A m c t h0]
  dsimp only
  unfold out0_A_5
  rw [View.read_writes_eq_canon (h := fun y => cover0_A_5 (F := F) ..)]
  unfold kernelRun0_A
  dsimp only
  sl_unfold_words
  simp only [View.readAt_eq_ld, (hs0_0 t).read_unread, (hs0_1 t).read_unread, (hs0_2 t).read_unread, (hs0_3 t).read_unread, View.ld_unit_zero (S := S512x512) hz, View.ld_unit_zero (S := S8x512) hz]
  rfl

/-- A row of the sums so far. -/
def sofar (acc : Vec F S8x512 .f32) (n : ℕ) (inb : Fits 1 8 n := by decide) : Vec F S1x512 .f32 :=
  View.ld acc (Rect.unit (s := S8x512) ![n, 0] S1x512.size inb)

/-- The stores of the taps' gradient at a later point: each row over the sums so far. -/
def later1 (acc : Vec F S8x512 .f32) : Stores F := [stored 0 (k0_pay5 (X0_2 m c t) (load m c t 3) (sofar acc 0))]
def later2 (acc : Vec F S8x512 .f32) : Stores F := stored 1 (k0_pay6 (X0_2 m c t) (load m c t 2) (sofar acc 1)) :: later1 m c t acc
def later3 (acc : Vec F S8x512 .f32) : Stores F := stored 2 (k0_pay7 (X0_2 m c t) (load m c t 1) (sofar acc 2)) :: later2 m c t acc
def later4 (acc : Vec F S8x512 .f32) : Stores F := stored 3 (k0_pay9 (X0_2 m c t) (load m c t 0) (sofar acc 3)) :: later3 m c t acc

/-- What the buffer of the taps' gradient held, with stores over it. -/
def over (acc : Vec F S8x512 .f32) (L : Stores F) : Vec F S8x512 .f32 :=
  (ms0_5 t).view.read (Elt F) ((ms0_5 t).view.writes (Elt F) ((hs0_5 t).unread acc) L)

theorem dw_later (h0 : ¬t.val % 16 = 0) : (outsAt0 m c t.val t.isLt).2 =
    over t (outsAt0 m c (t.val - 1) (Nat.lt_of_le_of_lt (Nat.sub_le _ _) t.isLt)).2 (later4 m c t (outsAt0 m c (t.val - 1) (Nat.lt_of_le_of_lt (Nat.sub_le _ _) t.isLt)).2) := by
  rw [outsAt0_B m c t h0]
  dsimp only
  unfold out0_B_5
  unfold kernelRun0_B
  dsimp only
  sl_unfold_words
  simp only [View.readAt_eq_ld, (hs0_0 t).read_unread, (hs0_1 t).read_unread, (hs0_2 t).read_unread, (hs0_3 t).read_unread, (hs0_5 t).read_unread, View.ld_unit_zero (S := S512x512) hz, View.ld_unit_zero (S := S8x512) hz]
  rfl

end Stores

variable (m : (ℓ : Loc nD τ sig) → Buf (Elt Ideal) ℓ) (c : Dev nD)

/-- The gradient of the convolution, the projected rows and the taps. -/
abbrev D : FVec Ideal S8192x1024 .f32 := m ((c : Thread nD τ).loc main_arg0)
abbrev H : FVec Ideal S8192x4224 .f32 := m ((c : Thread nD τ).loc main_arg1)
abbrev T : FVec Ideal S4x1024 .f32 := m ((c : Thread nD τ).loc main_arg2)

/-! ## Where a point's blocks lie -/

theorem index0 : ∀ t : Fin cfg0.N, win0_0.index t = ![t.val % 16, t.val / 16] := (by decide +kernel : ∀ t : Fin grid0.N, _)
theorem index1 : ∀ t : Fin cfg0.N, win0_1.index t = ![min (64 * (t.val % 16) + 64) 1023, t.val / 16] := (by decide +kernel : ∀ t : Fin grid0.N, _)
theorem index2 : ∀ t : Fin cfg0.N, win0_2.index t = ![t.val % 16, t.val / 16] := (by decide +kernel : ∀ t : Fin grid0.N, _)
theorem index3 : ∀ t : Fin cfg0.N, win0_3.index t = ![0, t.val / 16] := (by decide +kernel : ∀ t : Fin grid0.N, _)
theorem index4 : ∀ t : Fin cfg0.N, win0_4.index t = ![t.val % 16, t.val / 16] := (by decide +kernel : ∀ t : Fin grid0.N, _)
theorem index5 : ∀ t : Fin cfg0.N, win0_5.index t = ![0, t.val / 16] := (by decide +kernel : ∀ t : Fin grid0.N, _)

/-- The last block of rows has nothing after it. -/
theorem ends : ∀ t : Fin cfg0.N, Scalar.cmpi .slt (BitVec.ofNat 32 (grid0.coords t 1).val) 15#32 = if t.val % 16 = 15 then 0#1 else 1#1 :=
  (by decide +kernel : ∀ t : Fin grid0.N, _)

theorem iblk0 (t : Fin cfg0.N) (r k : Fin 512) :
    @Eq EReal (iblk m c 0 t (ix2 r k : S512x512.Idx)) (at2 (D m c) (t.val % 16 * 512 + r.val) (t.val / 16 * 512 + k.val)) := by
  refine Eq.trans ?_ (at2_eq (D m c) ((win0_0.rect t).emb (ix2 r k : S512x512.Idx)) _ _ ?_ ?_)
  · rfl
  all_goals
    refine (Pipeline.Window.rect_emb_val win0_0 t (ix2 r k : S512x512.Idx) _).trans ?_
    rw [index0]
  · rfl
  · rfl

theorem iblk1 (t : Fin cfg0.N) (r : Fin 8) (k : Fin 512) :
    @Eq EReal (iblk m c 1 t (ix2 r k : S8x512.Idx)) (at2 (D m c) (min (64 * (t.val % 16) + 64) 1023 * 8 + r.val) (t.val / 16 * 512 + k.val)) := by
  refine Eq.trans ?_ (at2_eq (D m c) ((win0_1.rect t).emb (ix2 r k : S8x512.Idx)) _ _ ?_ ?_)
  · rfl
  all_goals
    refine (Pipeline.Window.rect_emb_val win0_1 t (ix2 r k : S8x512.Idx) _).trans ?_
    rw [index1]
  · rfl
  · rfl

theorem iblk2 (t : Fin cfg0.N) (r k : Fin 512) :
    @Eq EReal (X0_2 m c t (ix2 r k : S512x512.Idx)) (at2 (H m c) (t.val % 16 * 512 + r.val) (t.val / 16 * 512 + k.val)) := by
  have key : ∀ y : ((cfg0.win 2).xblock (cfg0.grid.coords t)).Idx, (y (0 : Fin 2)).val = r.val → (y (1 : Fin 2)).val = k.val →
      @Eq EReal (iblk m c 2 t y) (at2 (H m c) (t.val % 16 * 512 + r.val) (t.val / 16 * 512 + k.val)) := by
    intro y e0 e1
    refine Eq.trans ?_ (at2_eq (H m c) ((win0_2.rect t).emb y) _ _ ?_ ?_)
    · rfl
    all_goals
      refine (Pipeline.Window.rect_emb_val win0_2 t y _).trans ?_
      rw [index2]
    · exact congrArg (t.val % 16 * 512 + ·) e0
    · exact congrArg (t.val / 16 * 512 + ·) e1
  unfold X0_2 Pipeline.Window.fill
  rw [dif_pos (moved0_2 t _)]
  exact key _ rfl rfl

theorem iblk3 (t : Fin cfg0.N) (r : Fin 4) (k : Fin 512) :
    @Eq EReal (iblk m c 3 t (ix2 r k : S4x512.Idx)) (at2 (T m c) r.val (t.val / 16 * 512 + k.val)) := by
  refine Eq.trans ?_ (at2_eq (T m c) ((win0_3.rect t).emb (ix2 r k : S4x512.Idx)) _ _ ?_ ?_)
  · rfl
  all_goals
    refine (Pipeline.Window.rect_emb_val win0_3 t (ix2 r k : S4x512.Idx) _).trans ?_
    rw [index3]
  · show 0 * 4 + r.val = _; omega
  · rfl

theorem tap_apply (t : Fin cfg0.N) (n : ℕ) (inb : Fits 1 4 n) (z : Fin 1) (k : Fin 512) :
    @Eq EReal (tap m c t n inb (ix2 z k)) (at2 (T m c) n (t.val / 16 * 512 + k.val)) := by
  have hn : n + 1 ≤ 4 := inb 0
  refine Eq.trans ?_ ((iblk3 m c t ⟨n, by omega⟩ k))
  refine congrArg (iblk m c 3 t) (funext fun a => Fin.ext ?_)
  fin_cases a
  · show n + 1 * z.val = n; omega
  · show 0 + 1 * k.val = k.val; omega

/-! ## The rows in scratch -/

theorem one_eq : 1#1 = 1 := rfl
theorem zero_ne : ¬(0#1 = 1) := by decide

theorem upper (t : Fin cfg0.N) (r k : Fin 512) : @Eq EReal (k0_pay2 (F := Ideal) (iblk m c 0 t) (ix2 r k)) (iblk m c 0 t (ix2 r k)) := by
  pointwise [k0_pay2]

theorem lower (t : Fin cfg0.N) (r : Fin 8) (k : Fin 512) :
    @Eq EReal (k0_pay3 (F := Ideal) (grid0.coords t) (iblk m c 1 t) (ix2 r k)) (if t.val % 16 = 15 then 0 else iblk m c 1 t (ix2 r k)) := by
  unfold k0_pay3
  dsimp only
  rw [ends t]
  by_cases h : t.val % 16 = 15
  · rw [if_pos h, if_pos h]
    unfold Scalar.select
    rw [if_neg zero_ne]
    pointwise []
  · rw [if_neg h, if_neg h]
    unfold Scalar.select
    rw [if_pos one_eq]
    pointwise []

/-- A row in scratch is a row of the array, or zeros after the last. -/
theorem canon_rows (t : Fin cfg0.N) (y : S520x512.Idx) (hy : ∃ p ∈ rows (F := Ideal) m c t, y ∈ p.1.set) :
    @Eq EReal (View.canon (rows (F := Ideal) m c t) y) (at2 (D m c) (t.val % 16 * 512 + (y 0).val) (t.val / 16 * 512 + (y 1).val)) := by
  refine View.canon_apply_of_pieces (fun y : S520x512.Idx => at2 (D m c) (t.val % 16 * 512 + (y 0).val) (t.val / 16 * 512 + (y 1).val)) _ ?_ y hy
  unfold rows
  simp only [List.forall_mem_cons]
  refine ⟨fun x => ?_, fun x => ?_, fun _ h => absurd h List.not_mem_nil⟩
  · have h8 : (x (0 : Fin 2)).val < 8 := (x 0).isLt
    have e := (congrArg (k0_pay3 (F := Ideal) (grid0.coords t) (iblk m c 1 t)) (eq_ix2 (n0 := 8) (n1 := 512) x)).trans (lower m c t (x 0) (x 1))
    refine e.trans (Eq.symm ?_)
    show at2 (D m c) (t.val % 16 * 512 + (512 + 1 * (x (0 : Fin 2)).val)) (t.val / 16 * 512 + (0 + 1 * (x (1 : Fin 2)).val)) = _
    by_cases h : t.val % 16 = 15
    · rw [if_pos h, at2_below _ _ _ (by omega)]
    · rw [if_neg h]
      refine Eq.trans ?_ (iblk1 m c t (x 0) (x 1)).symm
      exact congrArg₂ (at2 (D m c)) (by omega) (by omega)
  · have e := (congrArg (k0_pay2 (F := Ideal) (iblk m c 0 t)) (eq_ix2 (n0 := 512) (n1 := 512) x)).trans ((upper m c t (x 0) (x 1)).trans (iblk0 m c t (x 0) (x 1)))
    refine e.trans (Eq.symm ?_)
    show at2 (D m c) (t.val % 16 * 512 + (0 + 1 * (x (0 : Fin 2)).val)) (t.val / 16 * 512 + (0 + 1 * (x (1 : Fin 2)).val)) = _
    exact congrArg₂ (at2 (D m c)) (by omega) (by omega)

theorem load_apply (t : Fin cfg0.N) (n : ℕ) (inb : Fits 512 520 n) (r k : Fin 512) :
    @Eq EReal (load m c t n inb (ix2 r k)) (at2 (D m c) (t.val % 16 * 512 + r.val + n) (t.val / 16 * 512 + k.val)) := by
  unfold load
  rw [View.readCov_eq_canon']
  have hn : n + 512 ≤ 520 := inb 0
  refine (canon_rows m c t _ ?_).trans ?_
  · unfold rows
    by_cases h : n + r.val < 512
    · refine ⟨_, List.mem_cons_of_mem _ (List.mem_singleton_self _), ?_⟩
      rw [Rect.mem_set_unit]
      intro a
      fin_cases a
      · exact ⟨Nat.zero_le _, by show n + 1 * r.val < 0 + 512; omega⟩
      · exact ⟨Nat.zero_le _, by show 0 + 1 * k.val < 0 + 512; omega⟩
    · refine ⟨_, List.mem_cons_self, ?_⟩
      rw [Rect.mem_set_unit]
      intro a
      fin_cases a
      · exact ⟨by show 512 ≤ n + 1 * r.val; omega, by show n + 1 * r.val < 512 + 8; omega⟩
      · exact ⟨Nat.zero_le _, by show 0 + 1 * k.val < 0 + 512; omega⟩
  · show at2 (D m c) (t.val % 16 * 512 + (n + 1 * r.val)) (t.val / 16 * 512 + (0 + 1 * k.val)) = _
    exact congrArg₂ (at2 (D m c)) (by omega) (by omega)

/-! ## The gradient of the rows -/

theorem dx_apply (t : Fin cfg0.N) (r k : Fin 512) :
    @Eq EReal (dxOf m c t (ix2 r k)) (convT (D m c) (T m c) (t.val % 16 * 512 + r.val) (t.val / 16 * 512 + k.val)) := by
  unfold dxOf convT
  rw [← load_apply m c t 3 (by decide), ← load_apply m c t 2 (by decide), ← load_apply m c t 1 (by decide),
    ← show _ = at2 (D m c) (t.val % 16 * 512 + r.val) (t.val / 16 * 512 + k.val) from load_apply m c t 0 (by decide) r k,
    ← tap_apply m c t 0 (by decide) 0 k, ← tap_apply m c t 1 (by decide) 0 k,
    ← tap_apply m c t 2 (by decide) 0 k, ← tap_apply m c t 3 (by decide) 0 k]
  generalize tap m c t 0 = w0
  generalize tap m c t 1 = w1
  generalize tap m c t 2 = w2
  generalize tap m c t 3 = w3
  pointwise [k0_pay8, k0_pay4]

/-- The first result, at every index. -/
theorem arr_dx (i : S8192x1024.Idx) : @Eq EReal ((dats m 0 c).arrAt 4 cfg0.N i) (convT (D m c) (T m c) (i 0).val (i 1).val) := by
  have h0 : (i 0).val < 8192 := (i 0).isLt
  have h1 : (i 1).val < 1024 := (i 1).isLt
  let t : Fin cfg0.N := ⟨(i 1).val / 512 * 16 + (i 0).val / 512, lt_of_lt_of_eq (by omega) N_0.symm⟩
  have hm : t.val % 16 = (i 0).val / 512 := by show ((i 1).val / 512 * 16 + (i 0).val / 512) % 16 = _; omega
  have hd : t.val / 16 = (i 1).val / 512 := by show ((i 1).val / 512 * 16 + (i 0).val / 512) / 16 = _; omega
  let r : Fin 512 := ⟨(i 0).val % 512, Nat.mod_lt _ (by decide)⟩
  let k : Fin 512 := ⟨(i 1).val % 512, Nat.mod_lt _ (by decide)⟩
  have hr : t.val % 16 * 512 + r.val = (i 0).val := by rw [hm]; show (i 0).val / 512 * 512 + (i 0).val % 512 = _; omega
  have hk : t.val / 16 * 512 + k.val = (i 1).val := by rw [hd]; show (i 1).val / 512 * 512 + (i 1).val % 512 = _; omega
  have he : i = (win0_4.rect t).emb (ix2 r k : S512x512.Idx) := by
    funext b
    refine Fin.ext (Eq.symm ?_)
    refine (Pipeline.Window.rect_emb_val win0_4 t (ix2 r k : S512x512.Idx) b).trans ?_
    rw [index4]
    fin_cases b
    · exact hr
    · exact hk
  have hb := congrFun ((Value.blocks4 m c t (flush0_4 t)).trans (Value.flushed4 m c t)) (ix2 r k : S512x512.Idx)
  refine (congrArg ((dats m 0 c).arrAt 4 cfg0.N) he).trans (hb.trans ?_)
  show (outsAt0 m c t.val t.isLt).1 (ix2 r k) = _
  rw [dx]
  refine (dx_apply m c t r k).trans ?_
  rw [hr, hk]

/-! ## The gradient of the taps -/

/-- What a point adds to the gradient of a tap. -/
def term (t : Fin cfg0.N) (a : ℕ) (k : Fin 512) : EReal :=
  ∑ r : Fin 512, at2 (D m c) (t.val % 16 * 512 + r.val + (3 - a)) (t.val / 16 * 512 + k.val) * at2 (H m c) (t.val % 16 * 512 + r.val) (t.val / 16 * 512 + k.val)

theorem sum5 (x d : Vec Ideal S512x512 .f32) (acc : Vec Ideal S1x512 .f32) (k : Fin 512) :
    @Eq EReal (k0_pay5 (F := Ideal) x d acc (ix2 0 k)) (acc (ix2 0 k) + ∑ r : Fin 512, d (ix2 r k) * x (ix2 r k)) := by
  pointwise [k0_pay5]

theorem sum6 (x d : Vec Ideal S512x512 .f32) (acc : Vec Ideal S1x512 .f32) (k : Fin 512) :
    @Eq EReal (k0_pay6 (F := Ideal) x d acc (ix2 0 k)) (acc (ix2 0 k) + ∑ r : Fin 512, d (ix2 r k) * x (ix2 r k)) := by
  pointwise [k0_pay6]

theorem sum7 (x d : Vec Ideal S512x512 .f32) (acc : Vec Ideal S1x512 .f32) (k : Fin 512) :
    @Eq EReal (k0_pay7 (F := Ideal) x d acc (ix2 0 k)) (acc (ix2 0 k) + ∑ r : Fin 512, d (ix2 r k) * x (ix2 r k)) := by
  pointwise [k0_pay7]

theorem sum9 (x d : Vec Ideal S512x512 .f32) (acc : Vec Ideal S1x512 .f32) (k : Fin 512) :
    @Eq EReal (k0_pay9 (F := Ideal) x d acc (ix2 0 k)) (acc (ix2 0 k) + ∑ r : Fin 512, d (ix2 r k) * x (ix2 r k)) := by
  pointwise [k0_pay9]

/-- The sum over a point's rows, of a load `n` rows on. -/
theorem term_eq (t : Fin cfg0.N) (a n : ℕ) (ha : n = 3 - a) (inb : Fits 512 520 n) (k : Fin 512) :
    @Eq EReal (∑ r : Fin 512, load m c t n inb (ix2 r k) * X0_2 m c t (ix2 r k)) (term m c t a k) := by
  subst ha
  unfold term
  exact Finset.sum_congr rfl fun r _ => congrArg₂ (· * ·) (load_apply m c t (3 - a) inb r k) (iblk2 m c t r k)

/-- A row stored last, and the other rows under it. -/
theorem canon_row (L : Stores Ideal) (n : ℕ) (inb : Fits 1 8 n) (v : Vec Ideal S1x512 .f32)
    (b : Fin 8) (hb : b.val = n) (k : Fin 512) :
    View.canon (stored n v inb :: L) (ix2 b k) = v (ix2 0 k) := by
  refine Eq.trans (congrArg _ (funext fun a => Fin.ext ?_)) (View.canon_cons_emb (Rect.unit (s := S8x512) ![n, 0] ![1, 512] inb) v L (ix2 0 k : S1x512.Idx))
  fin_cases a
  · show b.val = n + 1 * 0; omega
  · show k.val = 0 + 1 * k.val; omega

theorem canon_other (L : Stores Ideal) (n : ℕ) (inb : Fits 1 8 n) (v : Vec Ideal S1x512 .f32)
    (a : Fin 8) (ha : a.val ≠ n) (k : Fin 512) :
    View.canon (stored n v inb :: L) (ix2 a k) = View.canon L (ix2 a k) := by
  refine View.canon_cons_of_not_mem _ _ ?_
  rw [Rect.mem_set_unit]
  intro h
  have h0 : n ≤ a.val ∧ a.val < n + 1 := h 0
  omega

/-- A row loaded of what stores left. -/
theorem reread_apply (t : Fin cfg0.N) (L : Stores Ideal) (n : ℕ) (inb : Fits 1 8 n)
    (b : Fin 8) (hb : b.val = n) (k : Fin 512) : reread t L n inb (ix2 0 k) = View.canon L (ix2 b k) := by
  unfold reread
  rw [View.readCov_eq_canon']
  refine congrArg (View.canon L) (funext fun a => Fin.ext ?_)
  fin_cases a
  · show n + 1 * 0 = b.val; omega
  · show 0 + 1 * k.val = k.val; omega

theorem sofar_apply (acc : Vec Ideal S8x512 .f32) (n : ℕ) (inb : Fits 1 8 n)
    (b : Fin 8) (hb : b.val = n) (k : Fin 512) : sofar acc n inb (ix2 0 k) = acc (ix2 b k) := by
  unfold sofar
  refine congrArg acc (funext fun a => Fin.ext ?_)
  fin_cases a
  · show n + 1 * 0 = b.val; omega
  · show 0 + 1 * k.val = k.val; omega

/-- A row stored last is read; the other rows are those under it. -/
theorem row_stored {κ : Kind} {sp : Space} (u : View sig κ sp S8x512 .f32) (f : u.ty.Contents (Elt Ideal)) (L : Stores Ideal) (n : ℕ)
    (inb : Fits 1 8 n) (v : Vec Ideal S1x512 .f32) (b : Fin 8) (hb : b.val = n) (k : Fin 512) :
    u.read (Elt Ideal) (u.writes (Elt Ideal) f (stored n v inb :: L)) (ix2 b k) = v (ix2 0 k) :=
  View.read_writes_cons_rows_of_mem u f inb v L (ix2 b k) (ix2 0 k : S1x512.Idx) rfl (by show b.val = n + 0; omega) rfl

theorem row_kept {κ : Kind} {sp : Space} (u : View sig κ sp S8x512 .f32) (f : u.ty.Contents (Elt Ideal)) (L : Stores Ideal) (n : ℕ)
    (inb : Fits 1 8 n) (v : Vec Ideal S1x512 .f32) (a : Fin 8) (ha : a.val ≠ n) (k : Fin 512) :
    u.read (Elt Ideal) (u.writes (Elt Ideal) f (stored n v inb :: L)) (ix2 a k) = u.read (Elt Ideal) (u.writes (Elt Ideal) f L) (ix2 a k) :=
  View.read_writes_cons_rows_of_not_mem u f inb v L (ix2 a k) rfl rfl (by show a.val < n ∨ n + 1 ≤ a.val; omega)

/-- Over what the buffer held, a row stored last, and the other rows under it. -/
theorem over_row (t : Fin cfg0.N) (acc : Vec Ideal S8x512 .f32) (L : Stores Ideal) (n : ℕ) (inb : Fits 1 8 n) (v : Vec Ideal S1x512 .f32)
    (b : Fin 8) (hb : b.val = n) (k : Fin 512) :
    over t acc (stored n v inb :: L) (ix2 b k) = v (ix2 0 k) := by
  unfold over
  exact row_stored _ _ L n inb v b hb k

theorem over_other (t : Fin cfg0.N) (acc : Vec Ideal S8x512 .f32) (L : Stores Ideal) (n : ℕ) (inb : Fits 1 8 n) (v : Vec Ideal S1x512 .f32)
    (a : Fin 8) (ha : a.val ≠ n) (k : Fin 512) :
    over t acc (stored n v inb :: L) (ix2 a k) = over t acc L (ix2 a k) := by
  unfold over
  exact row_kept _ _ L n inb v a ha k

theorem over_nil (t : Fin cfg0.N) (acc : Vec Ideal S8x512 .f32) : over t acc [] = acc := by
  unfold over
  rw [View.writes_nil, (hs0_5 t).read_unread]

/-- The zeros a run starts from. -/
theorem zeros_apply (a : Fin 8) (k : Fin 512) : @Eq EReal (View.canon (first0 (F := Ideal)) (ix2 a k)) 0 := by
  unfold first0
  rw [View.canon_unit_zero (S := S8x512) hz]
  pointwise [k0_pay1]

/-- Rows below `n` have the point's terms added to what they were. -/
def Holds (t : Fin cfg0.N) (base : Fin 8 → Fin 512 → EReal) (read : S8x512.Idx → EReal) (n : ℕ) : Prop :=
  ∀ (a : Fin 8) (k : Fin 512), read (ix2 a k) = base a k + if a.val < n then term m c t a.val k else 0

theorem first_step (t : Fin cfg0.N) (L : Stores Ideal) (b : Fin 8) (inb : Fits 1 8 b.val) (v : Vec Ideal S1x512 .f32) (hL : Holds m c t (fun _ _ => 0) (View.canon L) b.val)
    (hv : ∀ k, @Eq EReal (v (ix2 0 k)) (reread t L b.val inb (ix2 0 k) + term m c t b.val k)) :
    Holds m c t (fun _ _ => 0) (View.canon (stored b.val v inb :: L)) (b.val + 1) :=
  store_row _ (term m c t) b hL (fun k => (hv k).trans (by rw [reread_apply t L b.val inb b rfl])) (fun k => canon_row _ _ _ _ _ rfl k)
    (fun a k h => canon_other _ _ _ _ _ (fun e => h (Fin.ext e)) k)

/-- At the first point of a run each of the four rows is the point's term. -/
theorem dw_first_apply (t : Fin cfg0.N) (h0 : t.val % 16 = 0) (a : Fin 8) (k : Fin 512) :
    @Eq EReal ((outsAt0 m c t.val t.isLt).2 (ix2 a k)) (0 + if a.val < 4 then term m c t a.val k else 0) := by
  rw [dw_first m c t h0]
  have e0 : Holds m c t (fun _ _ => 0) (View.canon (first0 (F := Ideal))) 0 := fun a k => by rw [zeros_apply, if_neg (by omega), add_zero]
  have e1 : Holds m c t (fun _ _ => 0) (View.canon (first1 m c t)) 1 := first_step m c t _ 0 (by decide) _ e0 fun k => by rw [sum5, term_eq m c t 0 3 rfl]; rfl
  have e2 : Holds m c t (fun _ _ => 0) (View.canon (first2 m c t)) 2 := first_step m c t _ 1 (by decide) _ e1 fun k => by rw [sum6, term_eq m c t 1 2 rfl]; rfl
  have e3 : Holds m c t (fun _ _ => 0) (View.canon (first3 m c t)) 3 := first_step m c t _ 2 (by decide) _ e2 fun k => by rw [sum7, term_eq m c t 2 1 rfl]; rfl
  have e4 : Holds m c t (fun _ _ => 0) (View.canon (first4 m c t)) 4 := first_step m c t _ 3 (by decide) _ e3 fun k => by rw [sum9, term_eq m c t 3 0 rfl]; rfl
  exact e4 a k

theorem later_step (t : Fin cfg0.N) (acc : Vec Ideal S8x512 .f32) (L : Stores Ideal) (b : Fin 8) (inb : Fits 1 8 b.val) (v : Vec Ideal S1x512 .f32)
    (hL : Holds m c t (fun a k => acc (ix2 a k)) (over t acc L) b.val) (hv : ∀ k, @Eq EReal (v (ix2 0 k)) (sofar acc b.val inb (ix2 0 k) + term m c t b.val k)) :
    Holds m c t (fun a k => acc (ix2 a k)) (over t acc (stored b.val v inb :: L)) (b.val + 1) :=
  store_row _ (term m c t) b hL (fun k => (hv k).trans (by rw [sofar_apply acc b.val inb b rfl, hL, if_neg (by omega), add_zero])) (fun k => over_row t acc _ _ _ _ _ rfl k)
    (fun a k h => over_other t acc _ _ _ _ _ (fun e => h (Fin.ext e)) k)

/-- At a later point the point's term is added to each. -/
theorem dw_later_apply (t : Fin cfg0.N) (h0 : ¬t.val % 16 = 0) (a : Fin 8) (k : Fin 512) :
    @Eq EReal ((outsAt0 m c t.val t.isLt).2 (ix2 a k))
      ((outsAt0 m c (t.val - 1) (Nat.lt_of_le_of_lt (Nat.sub_le _ _) t.isLt)).2 (ix2 a k) + if a.val < 4 then term m c t a.val k else 0) := by
  rw [dw_later m c t h0]
  generalize (outsAt0 m c (t.val - 1) (Nat.lt_of_le_of_lt (Nat.sub_le _ _) t.isLt)).2 = acc
  let B : Fin 8 → Fin 512 → EReal := fun a k => acc (ix2 a k)
  have e0 : Holds m c t B (over t acc []) 0 := fun a k => by rw [over_nil, if_neg (by omega), add_zero]
  have e1 : Holds m c t B (over t acc (later1 m c t acc)) 1 := later_step m c t acc _ 0 (by decide) _ e0 fun k => by rw [sum5, term_eq m c t 0 3 rfl]; rfl
  have e2 : Holds m c t B (over t acc (later2 m c t acc)) 2 := later_step m c t acc _ 1 (by decide) _ e1 fun k => by rw [sum6, term_eq m c t 1 2 rfl]; rfl
  have e3 : Holds m c t B (over t acc (later3 m c t acc)) 3 := later_step m c t acc _ 2 (by decide) _ e2 fun k => by rw [sum7, term_eq m c t 2 1 rfl]; rfl
  have e4 : Holds m c t B (over t acc (later4 m c t acc)) 4 := later_step m c t acc _ 3 (by decide) _ e3 fun k => by rw [sum9, term_eq m c t 3 0 rfl]; rfl
  exact e4 a k

/-- What a point adds, by its number. -/
def added (a : ℕ) (k : Fin 512) (n : ℕ) : EReal :=
  if a < 4 then ∑ r : Fin 512, at2 (D m c) (n % 16 * 512 + r.val + (3 - a)) (n / 16 * 512 + k.val) * at2 (H m c) (n % 16 * 512 + r.val) (n / 16 * 512 + k.val) else 0

/-- A row's term of the gradient of tap `a`, in column `j`; the rows below the four taps are zeros. -/
def rowTerm (a j n : ℕ) : EReal := if a < 4 then at2 (D m c) (n + (3 - a)) j * at2 (H m c) n j else 0

/-- The last point of a run has the sum over all rows. -/
theorem dw_total (a : Fin 8) (k : Fin 512) (q : ℕ) (h : 16 * q + 15 < cfg0.N) :
    @Eq EReal ((outsAt0 m c (16 * q + 15) h).2 (ix2 a k)) (∑ p : Fin 8192, rowTerm m c a.val (q * 512 + k.val) p.val) := by
  have later : ∀ n (h : n < cfg0.N), ¬n % 16 = 0 → @Eq EReal ((outsAt0 m c n h).2 (ix2 a k))
      ((outsAt0 m c (n - 1) (Nat.lt_of_le_of_lt (Nat.sub_le _ _) h)).2 (ix2 a k) + added m c a.val k n) :=
    fun n h h0 => dw_later_apply m c ⟨n, h⟩ h0 a k
  refine run_total (R := 16) (b := 512) (by decide) (fun n h => ((outsAt0 m c n h).2 (ix2 a k) : EReal)) (fun n h => ((outsAt0 m c n h).2 (ix2 a k) : EReal))
    (added m c a.val k) (rowTerm m c a.val (q * 512 + k.val)) (fun n h h0 => ?_) (fun n h h0 _ => later n h h0) (fun n h h15 => later n h (by omega)) q (fun u hu => ?_) h
  · exact (dw_first_apply m c ⟨n, h⟩ h0 a k).trans (zero_add _)
  · unfold added rowTerm
    rw [show (16 * q + u) % 16 = u by omega, show (16 * q + u) / 16 = q by omega]
    by_cases ha : a.val < 4
    · simp only [if_pos ha]
    · simp only [if_neg ha, Finset.sum_const_zero]

/-- The last points' blocks do not meet. -/
theorem disjoint5 : ∀ t t' : Fin cfg0.N, (cfg0.win 5).flush t = true → (cfg0.win 5).flush t' = true → t ≠ t' →
    Disjoint ((cfg0.win 5).blk t).view.set ((cfg0.win 5).blk t').view.set :=
  fun t t' hf hf' hne => (cfg0.win 5).disjoint_blk fun h => hne (Fin.ext (by
    have e := congrFun ((index5 t).symm.trans (h.trans (index5 t'))) 1
    have e1 : t.val / 16 = t'.val / 16 := e
    have h15 := (flush0_5 t).1 hf
    have h15' := (flush0_5 t').1 hf'
    omega))

/-- The second result, at every index. -/
theorem arr_dw (i : S8x1024.Idx) : @Eq EReal ((dats m 0 c).arrAt 5 cfg0.N i) (∑ p : Fin 8192, rowTerm m c (i 0).val (i 1).val p.val) := by
  have h1 : (i 1).val < 1024 := (i 1).isLt
  let q : ℕ := (i 1).val / 512
  have hq : 16 * q + 15 < cfg0.N := lt_of_lt_of_eq (by show 16 * ((i 1).val / 512) + 15 < 32; omega) N_0.symm
  let t : Fin cfg0.N := ⟨16 * q + 15, hq⟩
  let k : Fin 512 := ⟨(i 1).val % 512, Nat.mod_lt _ (by decide)⟩
  have hd : t.val / 16 = q := by show (16 * q + 15) / 16 = q; omega
  have hk : q * 512 + k.val = (i 1).val := by show (i 1).val / 512 * 512 + (i 1).val % 512 = _; omega
  let a : Fin 8 := ⟨(i 0).val, (i 0).isLt⟩
  have he : i = (win0_5.rect t).emb (ix2 a k : S8x512.Idx) := by
    funext b
    refine Fin.ext (Eq.symm ?_)
    refine (Pipeline.Window.rect_emb_val win0_5 t (ix2 a k : S8x512.Idx) b).trans ?_
    rw [index5, hd]
    fin_cases b
    · show 0 * 8 + (i 0).val = (i 0).val; omega
    · exact hk
  have hb := congrFun (((dats m 0 c).read_blk_arrAt_eq_flushed 5 disjoint5 cfg0.N t t.isLt ((flush0_5 t).2 (by show (16 * q + 15) % 16 = 15; omega))).trans
    (Value.flushed5 m c t)) (ix2 a k : S8x512.Idx)
  refine (congrArg ((dats m 0 c).arrAt 5 cfg0.N) he).trans (hb.trans ?_)
  refine (dw_total m c a k q hq).trans ?_
  rw [hk]

/-! ## The claims -/

/-- The printed program's table of bodies is this one's. -/
theorem defs_eq : Cert.Kernel19.defs (F := Bits) = defs (F := Bits) :=
  congrArg (Pipeline.defs pcfgs) (congrArg Defs.onTc (funext fun l => funext fun a => by
    match l, a with
    | ⟨0, _⟩, (t, s) => rfl))

/-- The call as printed runs and leaves its arguments and counters as they were. -/
theorem frame_kernel : Cert.quiescent_Kernel19 := fun m g _ => by
  rw [defs_eq]
  exact Gen.frame m g

/-- So does it over the extended reals. -/
theorem frame_kernelIdeal : Cert.quiescent_Kernel19Ideal := fun m g _ => Gen.frame m g

/-- The reference runs and leaves its arguments as they were; it has no counters. -/
theorem frame_reference : Cert.quiescent_Reference19Ideal := fun m g _ =>
  (θ_run Cert.Reference19Ideal.defs _ _).mono (fun r h => ⟨fun c => (h c).2.2, sem_eq_zero_of_no_sems (by decide) r.2⟩)
    (Cert.Reference19Ideal.Value.run (F := Ideal) m g)

/-- The call's two results are the reference's. -/
theorem algebraic : Cert.algebraic_Kernel19Ideal_Reference19Ideal := by
  intro m g m' g' _ hag
  refine ⟨fun c => (dats m 0 c).arrAt 4 cfg0.N, fun c => (dats m 0 c).arrAt 5 cfg0.N, Value.run_blocks m g,
    (θ_run Cert.Reference19Ideal.defs _ _).mono (fun r h c => ⟨(h c).1.trans ?_, (h c).2.1.trans ?_, (h c).2.2⟩)
      (Cert.Reference19Ideal.Value.run (F := Ideal) m' g')⟩
  · rw [Cert.Reference19Ideal.Read.val_main_v62_eq, (hag c).1, (hag c).2.2]
    funext i
    exact (ref_dx _ _ i).trans (arr_dx m c i).symm
  · rw [Cert.Reference19Ideal.Read.val_main_v63_eq, (hag c).1, (hag c).2.1]
    funext i
    exact (ref_dw _ _ i).trans ((dw_eq _ _ _ _).symm.trans (arr_dw m c i).symm)

end Cert.Kernel19Ideal.Cv
-- ==== Proof.Cv.ConvFwd.lean ====
module

public import proofs.«01_k».proof.Defs
public import proofs.«01_k».proof.Proof.Gen.Kernel20
public import proofs.«01_k».proof.Proof.Gen.Kernel20Ideal.Value
public import proofs.«01_k».proof.Proof.Gen.Reference20Ideal.Run
public import proofs.«01_k».proof.Proof.Gen.Reference20Ideal.Read
public import proofs.«01_k».proof.Proof.Cv.Shift
public import Idealize.ShloMosaic.Lib.Pipeline.ValueKit.Geometry
public import Idealize.ShloMosaic.Lib.ValueIdx
public import Idealize.ShloMosaic.Lib.Pointwise
public import Idealize.ShloMosaic.Adequacy
public import Idealize.ShloMosaic.Init

@[expose] public section

/-! The causal convolution of the delta rule: what the call leaves, over the extended reals, and the claims about it. -/

noncomputable section

namespace Cert.Kernel20Ideal.Cv
open Cert.Kernel20Ideal Cert.Kernel20Ideal.Gen Cert.Cv Cert.Mm
open Idealize.ShloMosaic Idealize.ShloMosaic.TcCoe Idealize.SL.Sem

theorem hz : (![0, 0] : Fin 2 → ℕ) = fun _ => 0 := by funext a; fin_cases a <;> rfl

/-! ## Where a point's blocks lie -/

theorem index0 : ∀ t : Fin cfg0.N, win0_0.index t = ![t.val % 16, t.val / 16] := (by decide +kernel : ∀ t : Fin grid0.N, _)
theorem index1 : ∀ t : Fin cfg0.N, win0_1.index t = ![64 * (t.val % 16) - 1, t.val / 16] := (by decide +kernel : ∀ t : Fin grid0.N, _)
theorem index2 : ∀ t : Fin cfg0.N, win0_2.index t = ![0, t.val / 16] := (by decide +kernel : ∀ t : Fin grid0.N, _)
theorem index3 : ∀ t : Fin cfg0.N, win0_3.index t = ![t.val % 16, t.val / 16] := (by decide +kernel : ∀ t : Fin grid0.N, _)

/-- The first block of rows has nothing before it. -/
theorem starts : ∀ t : Fin cfg0.N, Scalar.cmpi .sgt (BitVec.ofNat 32 (grid0.coords t 1).val) 0#32 = if t.val % 16 = 0 then 0#1 else 1#1 :=
  (by decide +kernel : ∀ t : Fin grid0.N, _)

section Stores
variable {F : FTy → Type} [FloatOps F] (m : (ℓ : Loc nD τ sig) → Buf (Elt F) ℓ) (c : Dev nD) (t : Fin cfg0.N)

/-- The rows a point keeps in scratch: its block below the eight rows before it. -/
def rows : List (View.Piece (Elt F) S520x512 .f32) :=
  [⟨Rect.unit ![8, 0] ![512, 512] inb_S520x512_S512x512_8_0, k0_pay3 (X0_0 m c t)⟩,
    ⟨Rect.unit ![0, 0] ![8, 512] inb_S520x512_S8x512_0_0, k0_pay2 (grid0.coords t) (X0_1 m c t)⟩]

/-- A load of 512 of these rows, from the row `n` on. -/
def load (n : ℕ) (inb : Fits 512 520 n := by decide) : Vec F S512x512 .f32 :=
  (View.whole cc0_scratch0).readCov (rows m c t) (Rect.unit (s := S520x512) ![n, 0] S512x512.size inb).toLoadRect

/-- A load of one row of taps. -/
def tap (n : ℕ) (inb : Fits 1 4 n := by decide) : Vec F S1x512 .f32 :=
  View.ld (iblk m c 2 t) (Rect.unit (s := S4x512) ![n, 0] S1x512.size inb)

/-- What a point stores. -/
theorem out : outsAt0 m c t = k0_pay1 (k0_pay4 (tap m c t 0) (load m c t 5)
    (tap m c t 1) (load m c t 6)
    (tap m c t 2) (load m c t 7))
    (tap m c t 3) (load m c t 8) := by
  unfold outsAt0 out0_A_3
  rw [View.read_writes_eq_canon (h := fun y => cover0_A_3 (F := F) ..)]
  unfold kernelRun0_A
  dsimp only
  sl_unfold_words
  rw [View.canon_unit_zero hz]
  simp only [View.readAt_eq_ld, (hs0_0 t).read_unread, (hs0_1 t).read_unread, (hs0_2 t).read_unread, View.ld_unit_zero (S := S512x512) hz, View.ld_unit_zero (S := S8x512) hz]
  rfl

end Stores

variable (m : (ℓ : Loc nD τ sig) → Buf (Elt Ideal) ℓ) (c : Dev nD)

/-- The projected rows, whose first columns are those of q, k and v, and the taps. -/
abbrev H : FVec Ideal S8192x4224 .f32 := m ((c : Thread nD τ).loc main_arg0)
abbrev T : FVec Ideal S4x3072 .f32 := m ((c : Thread nD τ).loc main_arg1)

theorem iblk0 (t : Fin cfg0.N) (r k : Fin 512) :
    @Eq EReal (X0_0 m c t (ix2 r k : S512x512.Idx)) (at2 (H m c) (t.val % 16 * 512 + r.val) (t.val / 16 * 512 + k.val)) := by
  have key : ∀ y : ((cfg0.win 0).xblock (cfg0.grid.coords t)).Idx, (y (0 : Fin 2)).val = r.val → (y (1 : Fin 2)).val = k.val →
      @Eq EReal (iblk m c 0 t y) (at2 (H m c) (t.val % 16 * 512 + r.val) (t.val / 16 * 512 + k.val)) := by
    intro y e0 e1
    refine Eq.trans ?_ (at2_eq (H m c) ((win0_0.rect t).emb y) _ _ ?_ ?_)
    · rfl
    all_goals
      refine (Pipeline.Window.rect_emb_val win0_0 t y _).trans ?_
      rw [index0]
    · exact congrArg (t.val % 16 * 512 + ·) e0
    · exact congrArg (t.val / 16 * 512 + ·) e1
  unfold X0_0 Pipeline.Window.fill
  rw [dif_pos (moved0_0 t _)]
  exact key _ rfl rfl

theorem iblk1 (t : Fin cfg0.N) (r : Fin 8) (k : Fin 512) :
    @Eq EReal (X0_1 m c t (ix2 r k : S8x512.Idx)) (at2 (H m c) ((64 * (t.val % 16) - 1) * 8 + r.val) (t.val / 16 * 512 + k.val)) := by
  have key : ∀ y : ((cfg0.win 1).xblock (cfg0.grid.coords t)).Idx, (y (0 : Fin 2)).val = r.val → (y (1 : Fin 2)).val = k.val →
      @Eq EReal (iblk m c 1 t y) (at2 (H m c) ((64 * (t.val % 16) - 1) * 8 + r.val) (t.val / 16 * 512 + k.val)) := by
    intro y e0 e1
    refine Eq.trans ?_ (at2_eq (H m c) ((win0_1.rect t).emb y) _ _ ?_ ?_)
    · rfl
    all_goals
      refine (Pipeline.Window.rect_emb_val win0_1 t y _).trans ?_
      rw [index1]
    · exact congrArg ((64 * (t.val % 16) - 1) * 8 + ·) e0
    · exact congrArg (t.val / 16 * 512 + ·) e1
  unfold X0_1 Pipeline.Window.fill
  rw [dif_pos (moved0_1 t _)]
  exact key _ rfl rfl

theorem iblk2 (t : Fin cfg0.N) (r : Fin 4) (k : Fin 512) :
    @Eq EReal (iblk m c 2 t (ix2 r k : S4x512.Idx)) (at2 (T m c) r.val (t.val / 16 * 512 + k.val)) := by
  refine Eq.trans ?_ (at2_eq (T m c) ((win0_2.rect t).emb (ix2 r k : S4x512.Idx)) _ _ ?_ ?_)
  · rfl
  all_goals
    refine (Pipeline.Window.rect_emb_val win0_2 t (ix2 r k : S4x512.Idx) _).trans ?_
    rw [index2]
  · show 0 * 4 + r.val = _; omega
  · rfl

theorem tap_apply (t : Fin cfg0.N) (n : ℕ) (inb : Fits 1 4 n) (z : Fin 1) (k : Fin 512) :
    @Eq EReal (tap m c t n inb (ix2 z k)) (at2 (T m c) n (t.val / 16 * 512 + k.val)) := by
  have hn : n + 1 ≤ 4 := inb 0
  refine Eq.trans ?_ ((iblk2 m c t ⟨n, by omega⟩ k))
  refine congrArg (iblk m c 2 t) (funext fun a => Fin.ext ?_)
  fin_cases a
  · show n + 1 * z.val = n; omega
  · show 0 + 1 * k.val = k.val; omega

/-! ## The rows in scratch -/

theorem one_eq : 1#1 = 1 := rfl
theorem zero_ne : ¬(0#1 = 1) := by decide

theorem below (t : Fin cfg0.N) (r k : Fin 512) : @Eq EReal (k0_pay3 (F := Ideal) (X0_0 m c t) (ix2 r k)) (X0_0 m c t (ix2 r k)) := by
  pointwise [k0_pay3]

theorem above (t : Fin cfg0.N) (r : Fin 8) (k : Fin 512) :
    @Eq EReal (k0_pay2 (F := Ideal) (grid0.coords t) (X0_1 m c t) (ix2 r k)) (if t.val % 16 = 0 then 0 else X0_1 m c t (ix2 r k)) := by
  unfold k0_pay2
  dsimp only
  rw [starts t]
  by_cases h : t.val % 16 = 0
  · rw [if_pos h, if_pos h]
    unfold Scalar.select
    rw [if_neg zero_ne]
    pointwise []
  · rw [if_neg h, if_neg h]
    unfold Scalar.select
    rw [if_pos one_eq]
    pointwise []

/-- A row in scratch is a row of the array, or zeros before the first. -/
theorem canon_rows (t : Fin cfg0.N) (y : S520x512.Idx) (hy : ∃ p ∈ rows (F := Ideal) m c t, y ∈ p.1.set) :
    @Eq EReal (View.canon (rows (F := Ideal) m c t) y) (past (H m c) (t.val % 16 * 512 + (y 0).val) (t.val / 16 * 512 + (y 1).val)) := by
  refine View.canon_apply_of_pieces (fun y : S520x512.Idx => past (H m c) (t.val % 16 * 512 + (y 0).val) (t.val / 16 * 512 + (y 1).val)) _ ?_ y hy
  unfold rows
  simp only [List.forall_mem_cons]
  refine ⟨fun x => ?_, fun x => ?_, fun _ h => absurd h List.not_mem_nil⟩
  · have e := (congrArg (k0_pay3 (F := Ideal) (X0_0 m c t)) (eq_ix2 (n0 := 512) (n1 := 512) x)).trans ((below m c t (x 0) (x 1)).trans (iblk0 m c t (x 0) (x 1)))
    refine e.trans (Eq.symm ?_)
    show past (H m c) (t.val % 16 * 512 + (8 + 1 * (x (0 : Fin 2)).val)) (t.val / 16 * 512 + (0 + 1 * (x (1 : Fin 2)).val)) = _
    unfold past
    rw [if_neg (by omega)]
    exact congrArg₂ (at2 (H m c)) (by omega) (by omega)
  · have h8 : (x (0 : Fin 2)).val < 8 := (x 0).isLt
    have e := (congrArg (k0_pay2 (F := Ideal) (grid0.coords t) (X0_1 m c t)) (eq_ix2 (n0 := 8) (n1 := 512) x)).trans (above m c t (x 0) (x 1))
    refine e.trans (Eq.symm ?_)
    show past (H m c) (t.val % 16 * 512 + (0 + 1 * (x (0 : Fin 2)).val)) (t.val / 16 * 512 + (0 + 1 * (x (1 : Fin 2)).val)) = _
    unfold past
    by_cases h : t.val % 16 = 0
    · rw [if_pos h, if_pos (by omega)]
    · rw [if_neg h, if_neg (by omega)]
      refine Eq.trans ?_ (iblk1 m c t (x 0) (x 1)).symm
      exact congrArg₂ (at2 (H m c)) (by omega) (by omega)

theorem load_apply (t : Fin cfg0.N) (n : ℕ) (inb : Fits 512 520 n) (r k : Fin 512) :
    @Eq EReal (load m c t n inb (ix2 r k)) (past (H m c) (t.val % 16 * 512 + r.val + n) (t.val / 16 * 512 + k.val)) := by
  unfold load
  rw [View.readCov_eq_canon']
  have hn : n + 512 ≤ 520 := inb 0
  refine (canon_rows m c t _ ?_).trans ?_
  · unfold rows
    by_cases h : n + r.val < 8
    · refine ⟨_, List.mem_cons_of_mem _ (List.mem_singleton_self _), ?_⟩
      rw [Rect.mem_set_unit]
      intro a
      fin_cases a
      · exact ⟨Nat.zero_le _, by show n + 1 * r.val < 0 + 8; omega⟩
      · exact ⟨Nat.zero_le _, by show 0 + 1 * k.val < 0 + 512; omega⟩
    · refine ⟨_, List.mem_cons_self, ?_⟩
      rw [Rect.mem_set_unit]
      intro a
      fin_cases a
      · exact ⟨by show 8 ≤ n + 1 * r.val; omega, by show n + 1 * r.val < 8 + 512; omega⟩
      · exact ⟨Nat.zero_le _, by show 0 + 1 * k.val < 0 + 512; omega⟩
  · show past (H m c) (t.val % 16 * 512 + (n + 1 * r.val)) (t.val / 16 * 512 + (0 + 1 * k.val)) = _
    exact congrArg₂ (past (H m c)) (by omega) (by omega)

/-- What a point stores, at an index of its block. -/
theorem out_apply (t : Fin cfg0.N) (r k : Fin 512) :
    @Eq EReal (outsAt0 m c t (ix2 r k)) (conv (H m c) (T m c) (t.val % 16 * 512 + r.val) (t.val / 16 * 512 + k.val)) := by
  rw [out]
  unfold conv
  rw [← load_apply m c t 5 (by decide), ← load_apply m c t 6 (by decide), ← load_apply m c t 7 (by decide),
    ← load_apply m c t 8 (by decide), ← tap_apply m c t 0 (by decide) 0 k, ← tap_apply m c t 1 (by decide) 0 k,
    ← tap_apply m c t 2 (by decide) 0 k, ← tap_apply m c t 3 (by decide) 0 k]
  generalize tap m c t 0 = w0
  generalize tap m c t 1 = w1
  generalize tap m c t 2 = w2
  generalize tap m c t 3 = w3
  pointwise [k0_pay1, k0_pay4]

/-- What the call leaves, at every index. -/
theorem arr_eq (i : S8192x3072.Idx) : @Eq EReal ((dats m 0 c).arrAt 3 cfg0.N i) (conv (H m c) (T m c) (i 0).val (i 1).val) := by
  have h0 : (i 0).val < 8192 := (i 0).isLt
  have h1 : (i 1).val < 3072 := (i 1).isLt
  let t : Fin cfg0.N := ⟨(i 1).val / 512 * 16 + (i 0).val / 512, lt_of_lt_of_eq (by omega) N_0.symm⟩
  have hm : t.val % 16 = (i 0).val / 512 := by show ((i 1).val / 512 * 16 + (i 0).val / 512) % 16 = _; omega
  have hd : t.val / 16 = (i 1).val / 512 := by show ((i 1).val / 512 * 16 + (i 0).val / 512) / 16 = _; omega
  let r : Fin 512 := ⟨(i 0).val % 512, Nat.mod_lt _ (by decide)⟩
  let k : Fin 512 := ⟨(i 1).val % 512, Nat.mod_lt _ (by decide)⟩
  have hr : t.val % 16 * 512 + r.val = (i 0).val := by rw [hm]; show (i 0).val / 512 * 512 + (i 0).val % 512 = _; omega
  have hk : t.val / 16 * 512 + k.val = (i 1).val := by rw [hd]; show (i 1).val / 512 * 512 + (i 1).val % 512 = _; omega
  have he : i = (win0_3.rect t).emb (ix2 r k : S512x512.Idx) := by
    funext b
    refine Fin.ext (Eq.symm ?_)
    refine (Pipeline.Window.rect_emb_val win0_3 t (ix2 r k : S512x512.Idx) b).trans ?_
    rw [index3]
    fin_cases b
    · exact hr
    · exact hk
  have hb := congrFun ((Value.blocks3 m c t (flush0_3 t)).trans (Value.flushed3 m c t)) (ix2 r k : S512x512.Idx)
  refine (congrArg ((dats m 0 c).arrAt 3 cfg0.N) he).trans (hb.trans ?_)
  refine (out_apply m c t r k).trans ?_
  rw [hr, hk]

/-! ## The claims -/

section Reference
open Cert.Reference20Ideal.Read

/-- The reference's rows with zeros before them. -/
theorem ref_rows (x : FVec Ideal S8192x4224 .f32) (y : Cert.Reference20Ideal.S8195x3072.Idx) :
    @Eq EReal (val_main_v2 (F := Ideal) x y) (past x ((y 0).val + 5) (y 1).val) := by
  refine past_rows x _ _ (fun i => ?_) (fun i => ?_) _ y
  · rw [val_main_v1_apply, val_main_cst_apply]
    pointwise []
  · rw [val_main_v0_apply]
    exact at2_eq x _ _ _ rfl rfl

/-- The reference's result, at an index. -/
theorem reference_apply (x : FVec Ideal S8192x4224 .f32) (w : FVec Ideal S4x3072 .f32) (i : S8192x3072.Idx) :
    @Eq EReal (val_main_v23 (F := Ideal) x w i) (conv x w (i 0).val (i 1).val) := by
  rw [val_main_v23_apply, val_main_v22_apply, val_main_v21_apply,
    val_main_v20_apply, val_main_v19_apply, val_main_v18_apply,
    val_main_v17_apply, val_main_v16_apply, val_main_v15_apply,
    val_main_v14_apply, val_main_v13_apply, val_main_v12_apply,
    val_main_v11_apply, val_main_v10_apply, val_main_v9_apply,
    val_main_v8_apply, val_main_v7_apply, val_main_cst_0_apply,
    val_main_v6_apply, val_main_v5_apply, val_main_v4_apply,
    val_main_v3_apply, ref_rows, ref_rows, ref_rows, ref_rows]
  unfold conv
  rw [← at2_eq w (idx_main_v3 (idx_main_v5 i)) 0 (i 1).val rfl rfl,
    ← at2_eq w (idx_main_v9 (idx_main_v11 i)) 1 (i 1).val rfl rfl,
    ← at2_eq w (idx_main_v14 (idx_main_v16 i)) 2 (i 1).val rfl rfl,
    ← at2_eq w (idx_main_v19 (idx_main_v21 i)) 3 (i 1).val rfl rfl]
  pointwise []
  rw [show 1 + (i 0).val + 5 = (i 0).val + 6 by omega, show 2 + (i 0).val + 5 = (i 0).val + 7 by omega, show 3 + (i 0).val + 5 = (i 0).val + 8 by omega]

end Reference

/-- The printed program's table of bodies is this one's. -/
theorem defs_eq : Cert.Kernel20.defs (F := Bits) = defs (F := Bits) :=
  congrArg (Pipeline.defs pcfgs) (congrArg Defs.onTc (funext fun l => funext fun a => by
    match l, a with
    | ⟨0, _⟩, (t, s) => rfl))

/-- The call as printed runs and leaves its arguments and counters as they were. -/
theorem frame_kernel : Cert.quiescent_Kernel20 := fun m g _ => by
  rw [defs_eq]
  exact Gen.frame m g

/-- So does it over the extended reals. -/
theorem frame_kernelIdeal : Cert.quiescent_Kernel20Ideal := fun m g _ => Gen.frame m g

/-- The reference runs and leaves its arguments as they were; it has no counters. -/
theorem frame_reference : Cert.quiescent_Reference20Ideal := fun m g _ =>
  (θ_run Cert.Reference20Ideal.defs _ _).mono (fun r h => ⟨fun c => (h c).2, sem_eq_zero_of_no_sems (by decide) r.2⟩)
    (Cert.Reference20Ideal.Value.run (F := Ideal) m g)

/-- The call's result is the reference's. -/
theorem algebraic : Cert.algebraic_Kernel20Ideal_Reference20Ideal := by
  intro m g m' g' _ hag
  refine ⟨fun c => (dats m 0 c).arrAt 3 cfg0.N, Value.run_blocks m g,
    (θ_run Cert.Reference20Ideal.defs _ _).mono (fun r h c => ⟨(h c).1.trans ?_, (h c).2⟩) (Cert.Reference20Ideal.Value.run (F := Ideal) m' g')⟩
  rw [(hag c).1, (hag c).2, Cert.Reference20Ideal.Read.val_main_v23_eq]
  funext i
  exact (reference_apply _ _ i).trans (arr_eq m c i).symm

end Cert.Kernel20Ideal.Cv
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Flash
public import proofs.«01_k».proof.Proof.Gen.Kernel13
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Pre_finite14
public import proofs.«01_k».proof.Proof.Gen.Kernel15
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite
public import proofs.«01_k».proof.Proof.Dq.Value
public import proofs.«01_k».proof.Proof.Dq.Finite
public import proofs.«01_k».proof.Proof.Dq.Words
public import proofs.«01_k».proof.Proof.Dkv.Value
public import proofs.«01_k».proof.Proof.Dkv.Ref
public import proofs.«01_k».proof.Proof.Dkv.Words
public import proofs.«01_k».proof.Proof.Gen.Kernel3
public import proofs.«01_k».proof.Proof.Gen.Kernel3Ideal.Value
public import proofs.«01_k».proof.Proof.Gen.Reference3Ideal.Run
public import proofs.«01_k».proof.Proof.Mm.K3
public import proofs.«01_k».proof.Proof.Gen.Kernel4
public import proofs.«01_k».proof.Proof.Gen.Kernel4Ideal.Value
public import proofs.«01_k».proof.Proof.Gen.Reference4Ideal.Run
public import proofs.«01_k».proof.Proof.Mm.K4
public import proofs.«01_k».proof.Proof.Gen.Kernel5
public import proofs.«01_k».proof.Proof.Gen.Kernel5Ideal.Value
public import proofs.«01_k».proof.Proof.Gen.Reference5Ideal.Run
public import proofs.«01_k».proof.Proof.Mm.K5
public import proofs.«01_k».proof.Proof.Gen.Kernel6
public import proofs.«01_k».proof.Proof.Gen.Kernel6Ideal.Value
public import proofs.«01_k».proof.Proof.Gen.Reference6Ideal.Run
public import proofs.«01_k».proof.Proof.Mm.K6
public import proofs.«01_k».proof.Proof.Gen.Kernel7
public import proofs.«01_k».proof.Proof.Gen.Kernel7Ideal.Value
public import proofs.«01_k».proof.Proof.Gen.Reference7Ideal.Run
public import proofs.«01_k».proof.Proof.Mm.K7
public import proofs.«01_k».proof.Proof.Gen.Kernel8
public import proofs.«01_k».proof.Proof.Gen.Kernel8Ideal.Value
public import proofs.«01_k».proof.Proof.Gen.Reference8Ideal.Run
public import proofs.«01_k».proof.Proof.Mm.K8
public import proofs.«01_k».proof.Proof.Gen.Kernel9
public import proofs.«01_k».proof.Proof.Gen.Kernel9Ideal.Value
public import proofs.«01_k».proof.Proof.Gen.Reference9Ideal.Run
public import proofs.«01_k».proof.Proof.Mm.K9
public import proofs.«01_k».proof.Proof.Gen.Kernel10
public import proofs.«01_k».proof.Proof.Gen.Kernel10Ideal.Value
public import proofs.«01_k».proof.Proof.Gen.Reference10Ideal.Run
public import proofs.«01_k».proof.Proof.Mm.K10
public import proofs.«01_k».proof.Proof.Gen.Kernel11
public import proofs.«01_k».proof.Proof.Gen.Kernel11Ideal.Value
public import proofs.«01_k».proof.Proof.Gen.Reference11Ideal.Run
public import proofs.«01_k».proof.Proof.Mm.K11
public import proofs.«01_k».proof.Proof.Gen.Kernel12
public import proofs.«01_k».proof.Proof.Gen.Kernel12Ideal.Value
public import proofs.«01_k».proof.Proof.Gen.Reference12Ideal.Run
public import proofs.«01_k».proof.Proof.Mm.K12
public import proofs.«01_k».proof.Proof.Ew.PleBwd
public import proofs.«01_k».proof.Proof.Ew.GateBwd
public import proofs.«01_k».proof.Proof.Ew.LnBwd
public import proofs.«01_k».proof.Proof.Ew.PleFwd
public import proofs.«01_k».proof.Proof.Ew.GateFwd
public import proofs.«01_k».proof.Proof.Ew.LnFwd
public import proofs.«01_k».proof.Proof.Cv.ConvBwd
public import proofs.«01_k».proof.Proof.Cv.ConvFwd
public import Idealize.ShloMosaic.Adequacy
public import Idealize.ShloMosaic.Init

@[expose] public section

noncomputable section

namespace Cert.Proof

open Idealize.ShloMosaic Idealize.ShloMosaic.TcCoe Idealize.SL.Sem
open Cert.ReferenceIdeal.Dq (Holds col inpOf holds_inpOf v91_eq)

/-- The kernel as printed runs and leaves its arguments and counters as they were. -/
theorem frame_kernel : Cert.quiescent_Kernel := Cert.KernelIdeal.Dq.frame_kernel

/-- So does the kernel with its constant named, over the extended reals. -/
theorem frame_kernelIdeal : Cert.quiescent_KernelIdeal := fun m g _ =>
  (θ_run Cert.KernelIdeal.defs _ _).mono (fun r h => ⟨fun c => (h.1 c).2, h.2⟩) (Cert.KernelIdeal.Dq.run_main (F := Ideal) m g)

theorem frame_kernelIdeal_finite : Cert.quiescent_KernelIdeal_pre_finite := fun m g _ => frame_kernelIdeal m g trivial

/-- The reference runs and leaves its arguments as they were; it has no counters. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_reference_finite : Cert.quiescent_ReferenceIdeal_pre_finite := fun m g _ => frame_reference m g trivial

/-- The constant the kernel masks with, named, is `⊥`. -/
theorem named : Cert.preserves_Kernel_KernelIdeal := IdealRules.named_const.statement Cert.KernelIdeal.κ "mask" .f32 0xF149F2CA#32 ⊥ rfl

/-- An index of a row of all heads is a head's coordinate. -/
theorem exists_col (i : Cert.KernelIdeal.S8192x1024.Idx) : ∃ h t d, i = ix2 t (col h d) := by
  have h1 : (i 1).val < 1024 := (i 1).isLt
  refine ⟨⟨(i 1).val / 64, by omega⟩, i 0, ⟨(i 1).val % 64, by omega⟩, funext fun a => ?_⟩
  fin_cases a
  · rfl
  · exact Fin.ext (by show (i 1).val = (i 1).val / 64 * 64 + (i 1).val % 64; omega)

/-- The two programs' results are the same array, for finite arguments. -/
theorem value (m : (ℓ : Loc Cert.KernelIdeal.nD Cert.KernelIdeal.τ Cert.KernelIdeal.sig) → Buf (Elt Ideal) ℓ) (c : Dev Cert.KernelIdeal.nD)
    (x0 x1 x4 : FVec Ideal Cert.KernelIdeal.S8192x1024 .f32) (x2 : FVec Ideal Cert.KernelIdeal.S8192x4224 .f32) (x3 : FVec Ideal Cert.KernelIdeal.S8192x16 .f32)
    (e0 : m ((c.tc : Thread Cert.KernelIdeal.nD Cert.KernelIdeal.τ).loc Cert.KernelIdeal.main_arg0) = x0)
    (e1 : m ((c.tc : Thread Cert.KernelIdeal.nD Cert.KernelIdeal.τ).loc Cert.KernelIdeal.main_arg1) = x1)
    (e2 : m ((c.tc : Thread Cert.KernelIdeal.nD Cert.KernelIdeal.τ).loc Cert.KernelIdeal.main_arg2) = x2)
    (e3 : m ((c.tc : Thread Cert.KernelIdeal.nD Cert.KernelIdeal.τ).loc Cert.KernelIdeal.main_arg3) = x3)
    (e4 : m ((c.tc : Thread Cert.KernelIdeal.nD Cert.KernelIdeal.τ).loc Cert.KernelIdeal.main_arg4) = x4)
    (hf : Cert.Pre_finite.fn (F := Ideal) x0 x1 x2 x3 x4 = fun _ => 1#1) :
    mulf (Cert.KernelIdeal.Dq.dqArr m c) (broadcastInDim Cert.KernelIdeal.S8192x1024 ![] Cert.KernelIdeal.Gen.bcast_S_S8192x1024 (constant (F := Ideal) Cert.KernelIdeal.S_ .f32 0x3E000000#32))
      = Cert.ReferenceIdeal.Read.val_main_v91 (F := Ideal) x0 x1 x2 x3 x4 := by
  have H := holds_inpOf x0 x1 x2 x3 x4 hf
  funext i
  obtain ⟨h, t, d, rfl⟩ := exists_col i
  rw [v91_eq H h t d]
  subst e0 e1 e2 e3 e4
  exact Cert.KernelIdeal.Dq.result_eq m c H h t d

/-- The kernel's query gradient is the attention's. -/
theorem algebraic : Cert.algebraic_KernelIdeal_ReferenceIdeal_pre_finite := by
  intro m g m' g' hpre hag
  refine ⟨fun c => mulf (Cert.KernelIdeal.Dq.dqArr m c) (broadcastInDim Cert.KernelIdeal.S8192x1024 ![] Cert.KernelIdeal.Gen.bcast_S_S8192x1024 (constant (F := Ideal) Cert.KernelIdeal.S_ .f32 0x3E000000#32)),
    (θ_run Cert.KernelIdeal.defs _ _).mono (fun r h => h.1) (Cert.KernelIdeal.Dq.run_main (F := Ideal) m g),
    (θ_run Cert.ReferenceIdeal.defs _ _).mono (fun r h c => ⟨(h c).1.trans ?_, (h c).2⟩) (Cert.ReferenceIdeal.Value.run (F := Ideal) m' g')⟩
  obtain ⟨a0, a1, a2, a3, a4⟩ := hag c
  have hf := hpre c
  rw [← a0, ← a1, ← a2, ← a3, ← a4] at hf
  refine (Cert.ReferenceIdeal.Read.val_main_v91_eq m' c).trans ?_
  exact (value m c _ _ _ _ _ a0.symm a1.symm a2.symm a3.symm a4.symm hf).symm

/-! ## The key-side kernel -/

/-- The kernel as printed runs and leaves its arguments and counters as they were. -/
theorem frame_kernel2 : Cert.quiescent_Kernel2 := Cert.Kernel2Ideal.Dkv.frame_kernel

/-- So does the kernel with its constant named, over the extended reals. -/
theorem frame_kernel2Ideal : Cert.quiescent_Kernel2Ideal := fun m g _ =>
  (θ_run Cert.Kernel2Ideal.defs _ _).mono (fun r h => ⟨fun c => (h.1 c).2.2.2, h.2⟩) (Cert.Kernel2Ideal.Dkv.run_main (F := Ideal) m g)

theorem frame_kernel2Ideal_finite : Cert.quiescent_Kernel2Ideal_pre_finite := fun m g _ => frame_kernel2Ideal m g trivial

/-- The reference runs and leaves its arguments as they were; it has no counters. -/
theorem frame_reference2 : Cert.quiescent_Reference2Ideal := fun m g _ =>
  (θ_run Cert.Reference2Ideal.defs _ _).mono (fun r h => ⟨fun c => (h c).2.2.2, sem_eq_zero_of_no_sems (by decide) r.2⟩)
    (Cert.Reference2Ideal.Value.run (F := Ideal) m g)

theorem frame_reference2_finite : Cert.quiescent_Reference2Ideal_pre_finite := fun m g _ => frame_reference2 m g trivial

/-- The constant the kernel masks with, named, is `⊥`. -/
theorem named2 : Cert.preserves_Kernel2_Kernel2Ideal := IdealRules.named_const.statement Cert.Kernel2Ideal.κ "mask" .f32 0xF149F2CA#32 ⊥ rfl

/-- The two programs' key gradients are the same array, for finite arguments. -/
theorem value_dk (m : (ℓ : Loc Cert.Kernel2Ideal.nD Cert.Kernel2Ideal.τ Cert.Kernel2Ideal.sig) → Buf (Elt Ideal) ℓ) (c : Dev Cert.Kernel2Ideal.nD)
    (x0 x1 x4 : FVec Ideal Cert.Kernel2Ideal.S8192x1024 .f32) (x2 : FVec Ideal Cert.Kernel2Ideal.S8192x4224 .f32) (x3 : FVec Ideal Cert.Kernel2Ideal.S8192x16 .f32)
    (e0 : m ((c.tc : Thread Cert.Kernel2Ideal.nD Cert.Kernel2Ideal.τ).loc Cert.Kernel2Ideal.main_arg0) = x0)
    (e1 : m ((c.tc : Thread Cert.Kernel2Ideal.nD Cert.Kernel2Ideal.τ).loc Cert.Kernel2Ideal.main_arg1) = x1)
    (e2 : m ((c.tc : Thread Cert.Kernel2Ideal.nD Cert.Kernel2Ideal.τ).loc Cert.Kernel2Ideal.main_arg2) = x2)
    (e3 : m ((c.tc : Thread Cert.Kernel2Ideal.nD Cert.Kernel2Ideal.τ).loc Cert.Kernel2Ideal.main_arg3) = x3)
    (e4 : m ((c.tc : Thread Cert.Kernel2Ideal.nD Cert.Kernel2Ideal.τ).loc Cert.Kernel2Ideal.main_arg4) = x4)
    (hf : Cert.Pre_finite.fn (F := Ideal) x0 x1 x2 x3 x4 = fun _ => 1#1) :
    Cert.Kernel2Ideal.Dkv.dkArr m c = Cert.Reference2Ideal.Read.val_main_v88 (F := Ideal) x0 x1 x2 x3 x4 := by
  have H := holds_inpOf x0 x1 x2 x3 x4 hf
  funext i
  obtain ⟨h, t, d, rfl⟩ := exists_col i
  refine Eq.trans ?_ (Cert.Reference2Ideal.Dkv.v88_eq H h t d).symm
  subst e0 e1 e2 e3 e4
  rw [Cert.Kernel2Ideal.Dkv.dkArr_eq m c H]
  exact Cert.Kernel2Ideal.Dkv.dkFun_col _ h t d

/-- The two programs' value gradients are the same array, for finite arguments. -/
theorem value_dv (m : (ℓ : Loc Cert.Kernel2Ideal.nD Cert.Kernel2Ideal.τ Cert.Kernel2Ideal.sig) → Buf (Elt Ideal) ℓ) (c : Dev Cert.Kernel2Ideal.nD)
    (x0 x1 x4 : FVec Ideal Cert.Kernel2Ideal.S8192x1024 .f32) (x2 : FVec Ideal Cert.Kernel2Ideal.S8192x4224 .f32) (x3 : FVec Ideal Cert.Kernel2Ideal.S8192x16 .f32)
    (e0 : m ((c.tc : Thread Cert.Kernel2Ideal.nD Cert.Kernel2Ideal.τ).loc Cert.Kernel2Ideal.main_arg0) = x0)
    (e1 : m ((c.tc : Thread Cert.Kernel2Ideal.nD Cert.Kernel2Ideal.τ).loc Cert.Kernel2Ideal.main_arg1) = x1)
    (e2 : m ((c.tc : Thread Cert.Kernel2Ideal.nD Cert.Kernel2Ideal.τ).loc Cert.Kernel2Ideal.main_arg2) = x2)
    (e3 : m ((c.tc : Thread Cert.Kernel2Ideal.nD Cert.Kernel2Ideal.τ).loc Cert.Kernel2Ideal.main_arg3) = x3)
    (e4 : m ((c.tc : Thread Cert.Kernel2Ideal.nD Cert.Kernel2Ideal.τ).loc Cert.Kernel2Ideal.main_arg4) = x4)
    (hf : Cert.Pre_finite.fn (F := Ideal) x0 x1 x2 x3 x4 = fun _ => 1#1) :
    Cert.Kernel2Ideal.Dkv.dvArr m c = Cert.Reference2Ideal.Read.val_main_v87 (F := Ideal) x0 x1 x3 x4 := by
  have H := holds_inpOf x0 x1 x2 x3 x4 hf
  funext i
  obtain ⟨h, t, d, rfl⟩ := exists_col i
  refine Eq.trans ?_ (Cert.Reference2Ideal.Dkv.v87_eq H h t d).symm
  subst e0 e1 e2 e3 e4
  rw [Cert.Kernel2Ideal.Dkv.dvArr_eq m c H]
  exact Cert.Kernel2Ideal.Dkv.dvFun_col _ h t d

/-- The two programs' decay gradients are the same array, for finite arguments. -/
theorem value_dc (m : (ℓ : Loc Cert.Kernel2Ideal.nD Cert.Kernel2Ideal.τ Cert.Kernel2Ideal.sig) → Buf (Elt Ideal) ℓ) (c : Dev Cert.Kernel2Ideal.nD)
    (x0 x1 x4 : FVec Ideal Cert.Kernel2Ideal.S8192x1024 .f32) (x2 : FVec Ideal Cert.Kernel2Ideal.S8192x4224 .f32) (x3 : FVec Ideal Cert.Kernel2Ideal.S8192x16 .f32)
    (e0 : m ((c.tc : Thread Cert.Kernel2Ideal.nD Cert.Kernel2Ideal.τ).loc Cert.Kernel2Ideal.main_arg0) = x0)
    (e1 : m ((c.tc : Thread Cert.Kernel2Ideal.nD Cert.Kernel2Ideal.τ).loc Cert.Kernel2Ideal.main_arg1) = x1)
    (e2 : m ((c.tc : Thread Cert.Kernel2Ideal.nD Cert.Kernel2Ideal.τ).loc Cert.Kernel2Ideal.main_arg2) = x2)
    (e3 : m ((c.tc : Thread Cert.Kernel2Ideal.nD Cert.Kernel2Ideal.τ).loc Cert.Kernel2Ideal.main_arg3) = x3)
    (e4 : m ((c.tc : Thread Cert.Kernel2Ideal.nD Cert.Kernel2Ideal.τ).loc Cert.Kernel2Ideal.main_arg4) = x4)
    (hf : Cert.Pre_finite.fn (F := Ideal) x0 x1 x2 x3 x4 = fun _ => 1#1) :
    Cert.Kernel2Ideal.Dkv.dcArr m c = Cert.Reference2Ideal.Read.val_main_v93 (F := Ideal) x0 x1 x2 x3 x4 := by
  have H := holds_inpOf x0 x1 x2 x3 x4 hf
  funext i
  obtain ⟨h, u, rfl⟩ : ∃ h u, i = ix3 h 0 u := ⟨i 0, i 2, funext fun b => by
    fin_cases b
    · rfl
    · exact Fin.ext (by have : (i 1).val < 1 := (i 1).isLt; show (i 1).val = 0; omega)
    · rfl⟩
  refine Eq.trans ?_ (Cert.Reference2Ideal.Dkv.v93_eq H h u).symm
  subst e0 e1 e2 e3 e4
  rw [Cert.Kernel2Ideal.Dkv.dcArr_eq m c H]
  rfl

/-- The kernel's key, value and decay gradients are the attention's. -/
theorem algebraic2 : Cert.algebraic_Kernel2Ideal_Reference2Ideal_pre_finite := by
  intro m g m' g' hpre hag
  refine ⟨Cert.Kernel2Ideal.Dkv.dkArr m, Cert.Kernel2Ideal.Dkv.dvArr m, Cert.Kernel2Ideal.Dkv.dcArr m,
    (θ_run Cert.Kernel2Ideal.defs _ _).mono (fun r h => h.1) (Cert.Kernel2Ideal.Dkv.run_main (F := Ideal) m g),
    (θ_run Cert.Reference2Ideal.defs _ _).mono (fun r h c => ⟨(h c).1.trans ?_, (h c).2.1.trans ?_, (h c).2.2.1.trans ?_, (h c).2.2.2⟩) (Cert.Reference2Ideal.Value.run (F := Ideal) m' g')⟩
  all_goals
    obtain ⟨a0, a1, a2, a3, a4⟩ := hag c
    have hf := hpre c
    rw [← a0, ← a1, ← a2, ← a3, ← a4] at hf
  · refine (Cert.Reference2Ideal.Read.val_main_v88_eq m' c).trans ?_
    exact (value_dk m c _ _ _ _ _ a0.symm a1.symm a2.symm a3.symm a4.symm hf).symm
  · refine (Cert.Reference2Ideal.Read.val_main_v87_eq m' c).trans ?_
    exact (value_dv m c _ _ _ _ _ a0.symm a1.symm a2.symm a3.symm a4.symm hf).symm
  · refine (Cert.Reference2Ideal.Read.val_main_v93_eq m' c).trans ?_
    exact (value_dc m c _ _ _ _ _ a0.symm a1.symm a2.symm a3.symm a4.symm hf).symm

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Pre_finite.Gen.facts, Cert.Pre_finite14.Gen.facts,
  frame_kernel, frame_kernelIdeal, frame_kernelIdeal_finite, frame_reference, frame_reference_finite, frame_kernel2, frame_kernel2Ideal, frame_kernel2Ideal_finite, frame_reference2, frame_reference2_finite,
  Cert.Kernel3Ideal.Mm.frame_kernel, Cert.Kernel3Ideal.Mm.frame_kernelIdeal, Cert.Kernel3Ideal.Mm.frame_reference,
  Cert.Kernel4Ideal.Mm.frame_kernel, Cert.Kernel4Ideal.Mm.frame_kernelIdeal, Cert.Kernel4Ideal.Mm.frame_reference,
  Cert.Kernel5Ideal.Mm.frame_kernel, Cert.Kernel5Ideal.Mm.frame_kernelIdeal, Cert.Kernel5Ideal.Mm.frame_reference,
  Cert.Kernel6Ideal.Mm.frame_kernel, Cert.Kernel6Ideal.Mm.frame_kernelIdeal, Cert.Kernel6Ideal.Mm.frame_reference,
  Cert.Kernel7Ideal.Mm.frame_kernel, Cert.Kernel7Ideal.Mm.frame_kernelIdeal, Cert.Kernel7Ideal.Mm.frame_reference,
  Cert.Kernel8Ideal.Mm.frame_kernel, Cert.Kernel8Ideal.Mm.frame_kernelIdeal, Cert.Kernel8Ideal.Mm.frame_reference,
  Cert.Kernel9Ideal.Mm.frame_kernel, Cert.Kernel9Ideal.Mm.frame_kernelIdeal, Cert.Kernel9Ideal.Mm.frame_reference,
  Cert.Kernel10Ideal.Mm.frame_kernel, Cert.Kernel10Ideal.Mm.frame_kernelIdeal, Cert.Kernel10Ideal.Mm.frame_reference,
  Cert.Kernel11Ideal.Mm.frame_kernel, Cert.Kernel11Ideal.Mm.frame_kernelIdeal, Cert.Kernel11Ideal.Mm.frame_reference,
  Cert.Kernel12Ideal.Mm.frame_kernel, Cert.Kernel12Ideal.Mm.frame_kernelIdeal, Cert.Kernel12Ideal.Mm.frame_reference,
  Cert.Kernel13Ideal.Ew.frame_kernel, Cert.Kernel13Ideal.Ew.frame_kernelIdeal, Cert.Kernel13Ideal.Ew.frame_reference,
  Cert.Kernel14Ideal.Ew.frame_kernel, Cert.Kernel14Ideal.Ew.frame_kernelIdeal, Cert.Kernel14Ideal.Ew.frame_kernelIdeal_finite, Cert.Kernel14Ideal.Ew.frame_reference, Cert.Kernel14Ideal.Ew.frame_reference_finite,
  Cert.Kernel15Ideal.Ew.frame_kernel, Cert.Kernel15Ideal.Ew.frame_kernelIdeal, Cert.Kernel15Ideal.Ew.frame_reference,
  Cert.Kernel16Ideal.Ew.frame_kernel, Cert.Kernel16Ideal.Ew.frame_kernelIdeal, Cert.Kernel16Ideal.Ew.frame_reference,
  Cert.Kernel17Ideal.Ew.frame_kernel, Cert.Kernel17Ideal.Ew.frame_kernelIdeal, Cert.Kernel17Ideal.Ew.frame_reference,
  Cert.Kernel18Ideal.Ew.frame_kernel, Cert.Kernel18Ideal.Ew.frame_kernelIdeal, Cert.Kernel18Ideal.Ew.frame_reference,
  Cert.Kernel19Ideal.Cv.frame_kernel, Cert.Kernel19Ideal.Cv.frame_kernelIdeal, Cert.Kernel19Ideal.Cv.frame_reference,
  Cert.Kernel20Ideal.Cv.frame_kernel, Cert.Kernel20Ideal.Cv.frame_kernelIdeal, Cert.Kernel20Ideal.Cv.frame_reference,
  named, algebraic, named2, algebraic2,
  trivial, Cert.Kernel3Ideal.Mm.algebraic, trivial, Cert.Kernel4Ideal.Mm.algebraic, trivial, Cert.Kernel5Ideal.Mm.algebraic, trivial, Cert.Kernel6Ideal.Mm.algebraic, trivial, Cert.Kernel7Ideal.Mm.algebraic, trivial, Cert.Kernel8Ideal.Mm.algebraic, trivial, Cert.Kernel9Ideal.Mm.algebraic, trivial, Cert.Kernel10Ideal.Mm.algebraic, trivial, Cert.Kernel11Ideal.Mm.algebraic, trivial, Cert.Kernel12Ideal.Mm.algebraic,
  trivial, Cert.Kernel13Ideal.Ew.algebraic, trivial, Cert.Kernel14Ideal.Ew.algebraic, trivial, Cert.Kernel15Ideal.Ew.algebraic, trivial, Cert.Kernel16Ideal.Ew.algebraic, trivial, Cert.Kernel17Ideal.Ew.algebraic, trivial, Cert.Kernel18Ideal.Ew.algebraic,
  trivial, Cert.Kernel19Ideal.Cv.algebraic, trivial, Cert.Kernel20Ideal.Cv.algebraic⟩

end Cert.Proof

end
